-- ==== Defs.lean ====
def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsRefIdeal (m : (ℓ : Loc Cert.WeightsRefIdeal.nD Cert.WeightsRefIdeal.τ Cert.WeightsRefIdeal.sig) → Buf (Elt Ideal) ℓ) : Prop :=
  True

def Pre_WeightsRef (m : (ℓ : Loc Cert.WeightsRef.nD Cert.WeightsRef.τ Cert.WeightsRef.sig) → Buf (Elt Bits) ℓ) : Prop :=
  True

def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingRefIdeal (m : (ℓ : Loc Cert.SiblingRefIdeal.nD Cert.SiblingRefIdeal.τ Cert.SiblingRefIdeal.sig) → Buf (Elt Ideal) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRefIdeal (m : (ℓ : Loc Cert.ShareRefIdeal.nD Cert.ShareRefIdeal.τ Cert.ShareRefIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_UpdateMlp (m : (ℓ : Loc Cert.UpdateMlp.nD Cert.UpdateMlp.τ Cert.UpdateMlp.sig) → Buf (Elt Bits) ℓ) : Prop :=
  True

def Pre_UpdateMlpIdeal (m : (ℓ : Loc Cert.UpdateMlpIdeal.nD Cert.UpdateMlpIdeal.τ Cert.UpdateMlpIdeal.sig) → Buf (Elt Ideal) ℓ) : Prop :=
  True

def Pre_UpdateMlpRefIdeal (m : (ℓ : Loc Cert.UpdateMlpRefIdeal.nD Cert.UpdateMlpRefIdeal.τ Cert.UpdateMlpRefIdeal.sig) → Buf (Elt Ideal) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInRefIdeal (m : (ℓ : Loc Cert.UpdateInRefIdeal.nD Cert.UpdateInRefIdeal.τ Cert.UpdateInRefIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutRefIdeal (m : (ℓ : Loc Cert.UpdateOutRefIdeal.nD Cert.UpdateOutRefIdeal.τ Cert.UpdateOutRefIdeal.sig) → Buf (Elt Ideal) ℓ) : Prop :=
  True

def Pre_UpdateKv (m : (ℓ : Loc Cert.UpdateKv.nD Cert.UpdateKv.τ Cert.UpdateKv.sig) → Buf (Elt Bits) ℓ) : Prop :=
  True

def Pre_UpdateKvIdeal (m : (ℓ : Loc Cert.UpdateKvIdeal.nD Cert.UpdateKvIdeal.τ Cert.UpdateKvIdeal.sig) → Buf (Elt Ideal) ℓ) : Prop :=
  True

def Pre_UpdateKvRefIdeal (m : (ℓ : Loc Cert.UpdateKvRefIdeal.nD Cert.UpdateKvRefIdeal.τ Cert.UpdateKvRefIdeal.sig) → Buf (Elt Ideal) ℓ) : Prop :=
  True

def Pre_UpdateGains (m : (ℓ : Loc Cert.UpdateGains.nD Cert.UpdateGains.τ Cert.UpdateGains.sig) → Buf (Elt Bits) ℓ) : Prop :=
  True

def Pre_UpdateGainsIdeal (m : (ℓ : Loc Cert.UpdateGainsIdeal.nD Cert.UpdateGainsIdeal.τ Cert.UpdateGainsIdeal.sig) → Buf (Elt Ideal) ℓ) : Prop :=
  True

def Pre_UpdateGainsRefIdeal (m : (ℓ : Loc Cert.UpdateGainsRefIdeal.nD Cert.UpdateGainsRefIdeal.τ Cert.UpdateGainsRefIdeal.sig) → Buf (Elt Ideal) ℓ) : Prop :=
  True

def Pre_UpdateKvGain (m : (ℓ : Loc Cert.UpdateKvGain.nD Cert.UpdateKvGain.τ Cert.UpdateKvGain.sig) → Buf (Elt Bits) ℓ) : Prop :=
  True

def Pre_UpdateKvGainIdeal (m : (ℓ : Loc Cert.UpdateKvGainIdeal.nD Cert.UpdateKvGainIdeal.τ Cert.UpdateKvGainIdeal.sig) → Buf (Elt Ideal) ℓ) : Prop :=
  True

def Pre_UpdateKvGainRefIdeal (m : (ℓ : Loc Cert.UpdateKvGainRefIdeal.nD Cert.UpdateKvGainRefIdeal.τ Cert.UpdateKvGainRefIdeal.sig) → Buf (Elt Ideal) ℓ) : Prop :=
  True

def Pre_UpdateOutGain (m : (ℓ : Loc Cert.UpdateOutGain.nD Cert.UpdateOutGain.τ Cert.UpdateOutGain.sig) → Buf (Elt Bits) ℓ) : Prop :=
  True

def Pre_UpdateOutGainIdeal (m : (ℓ : Loc Cert.UpdateOutGainIdeal.nD Cert.UpdateOutGainIdeal.τ Cert.UpdateOutGainIdeal.sig) → Buf (Elt Ideal) ℓ) : Prop :=
  True

def Pre_UpdateOutGainRefIdeal (m : (ℓ : Loc Cert.UpdateOutGainRefIdeal.nD Cert.UpdateOutGainRefIdeal.τ Cert.UpdateOutGainRefIdeal.sig) → Buf (Elt Ideal) ℓ) : Prop :=
  True

def Pre_UpdateDecay (m : (ℓ : Loc Cert.UpdateDecay.nD Cert.UpdateDecay.τ Cert.UpdateDecay.sig) → Buf (Elt Bits) ℓ) : Prop :=
  True

def Pre_UpdateDecayIdeal (m : (ℓ : Loc Cert.UpdateDecayIdeal.nD Cert.UpdateDecayIdeal.τ Cert.UpdateDecayIdeal.sig) → Buf (Elt Ideal) ℓ) : Prop :=
  True

def Pre_UpdateDecayRefIdeal (m : (ℓ : Loc Cert.UpdateDecayRefIdeal.nD Cert.UpdateDecayRefIdeal.τ Cert.UpdateDecayRefIdeal.sig) → Buf (Elt Ideal) ℓ) : Prop :=
  True

def Pre_UpdateConv (m : (ℓ : Loc Cert.UpdateConv.nD Cert.UpdateConv.τ Cert.UpdateConv.sig) → Buf (Elt Bits) ℓ) : Prop :=
  True

def Pre_UpdateConvIdeal (m : (ℓ : Loc Cert.UpdateConvIdeal.nD Cert.UpdateConvIdeal.τ Cert.UpdateConvIdeal.sig) → Buf (Elt Ideal) ℓ) : Prop :=
  True

def Pre_UpdateConvRefIdeal (m : (ℓ : Loc Cert.UpdateConvRefIdeal.nD Cert.UpdateConvRefIdeal.τ Cert.UpdateConvRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_SbOutDw (m : (ℓ : Loc Cert.SbOutDw.nD Cert.SbOutDw.τ Cert.SbOutDw.sig) → Buf (Elt Bits) ℓ) : Prop :=
  True

def Pre_SbOutDwIdeal (m : (ℓ : Loc Cert.SbOutDwIdeal.nD Cert.SbOutDwIdeal.τ Cert.SbOutDwIdeal.sig) → Buf (Elt Ideal) ℓ) : Prop :=
  True

def Pre_SbOutDwRefIdeal (m : (ℓ : Loc Cert.SbOutDwRefIdeal.nD Cert.SbOutDwRefIdeal.τ Cert.SbOutDwRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Relu (m : (ℓ : Loc Cert.Relu.nD Cert.Relu.τ Cert.Relu.sig) → Buf (Elt Bits) ℓ) : Prop :=
  True

def Pre_ReluIdeal (m : (ℓ : Loc Cert.ReluIdeal.nD Cert.ReluIdeal.τ Cert.ReluIdeal.sig) → Buf (Elt Ideal) ℓ) : Prop :=
  True

def Pre_ReluRefIdeal (m : (ℓ : Loc Cert.ReluRefIdeal.nD Cert.ReluRefIdeal.τ Cert.ReluRefIdeal.sig) → Buf (Elt Ideal) ℓ) : Prop :=
  True

def Pre_ReluBack (m : (ℓ : Loc Cert.ReluBack.nD Cert.ReluBack.τ Cert.ReluBack.sig) → Buf (Elt Bits) ℓ) : Prop :=
  True

def Pre_ReluBackIdeal (m : (ℓ : Loc Cert.ReluBackIdeal.nD Cert.ReluBackIdeal.τ Cert.ReluBackIdeal.sig) → Buf (Elt Ideal) ℓ) : Prop :=
  True

def Pre_ReluBackRefIdeal (m : (ℓ : Loc Cert.ReluBackRefIdeal.nD Cert.ReluBackRefIdeal.τ Cert.ReluBackRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_NormInBack (m : (ℓ : Loc Cert.NormInBack.nD Cert.NormInBack.τ Cert.NormInBack.sig) → Buf (Elt Bits) ℓ) : Prop :=
  True

def Pre_NormInBackIdeal (m : (ℓ : Loc Cert.NormInBackIdeal.nD Cert.NormInBackIdeal.τ Cert.NormInBackIdeal.sig) → Buf (Elt Ideal) ℓ) : Prop :=
  True

def Pre_NormInBackRefIdeal (m : (ℓ : Loc Cert.NormInBackRefIdeal.nD Cert.NormInBackRefIdeal.τ Cert.NormInBackRefIdeal.sig) → Buf (Elt Ideal) ℓ) : Prop :=
  True

def Pre_ResNormBack (m : (ℓ : Loc Cert.ResNormBack.nD Cert.ResNormBack.τ Cert.ResNormBack.sig) → Buf (Elt Bits) ℓ) : Prop :=
  True

def Pre_ResNormBackIdeal (m : (ℓ : Loc Cert.ResNormBackIdeal.nD Cert.ResNormBackIdeal.τ Cert.ResNormBackIdeal.sig) → Buf (Elt Ideal) ℓ) : Prop :=
  True

def Pre_ResNormBackRefIdeal (m : (ℓ : Loc Cert.ResNormBackRefIdeal.nD Cert.ResNormBackRefIdeal.τ Cert.ResNormBackRefIdeal.sig) → Buf (Elt Ideal) ℓ) : Prop :=
  True

def Pre_ResNorm (m : (ℓ : Loc Cert.ResNorm.nD Cert.ResNorm.τ Cert.ResNorm.sig) → Buf (Elt Bits) ℓ) : Prop :=
  True

def Pre_ResNormIdeal (m : (ℓ : Loc Cert.ResNormIdeal.nD Cert.ResNormIdeal.τ Cert.ResNormIdeal.sig) → Buf (Elt Ideal) ℓ) : Prop :=
  True

def Pre_ResNormRefIdeal (m : (ℓ : Loc Cert.ResNormRefIdeal.nD Cert.ResNormRefIdeal.τ Cert.ResNormRefIdeal.sig) → Buf (Elt Ideal) ℓ) : Prop :=
  True

def Pre_ResNorms (m : (ℓ : Loc Cert.ResNorms.nD Cert.ResNorms.τ Cert.ResNorms.sig) → Buf (Elt Bits) ℓ) : Prop :=
  True

def Pre_ResNormsIdeal (m : (ℓ : Loc Cert.ResNormsIdeal.nD Cert.ResNormsIdeal.τ Cert.ResNormsIdeal.sig) → Buf (Elt Ideal) ℓ) : Prop :=
  True

def Pre_ResNormsRefIdeal (m : (ℓ : Loc Cert.ResNormsRefIdeal.nD Cert.ResNormsRefIdeal.τ Cert.ResNormsRefIdeal.sig) → Buf (Elt Ideal) ℓ) : Prop :=
  True

def Pre_ResNormsBack (m : (ℓ : Loc Cert.ResNormsBack.nD Cert.ResNormsBack.τ Cert.ResNormsBack.sig) → Buf (Elt Bits) ℓ) : Prop :=
  True

def Pre_ResNormsBackIdeal (m : (ℓ : Loc Cert.ResNormsBackIdeal.nD Cert.ResNormsBackIdeal.τ Cert.ResNormsBackIdeal.sig) → Buf (Elt Ideal) ℓ) : Prop :=
  True

def Pre_ResNormsBackRefIdeal (m : (ℓ : Loc Cert.ResNormsBackRefIdeal.nD Cert.ResNormsBackRefIdeal.τ Cert.ResNormsBackRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_SbOut (m : (ℓ : Loc Cert.SbOut.nD Cert.SbOut.τ Cert.SbOut.sig) → Buf (Elt Bits) ℓ) : Prop :=
  True

def Pre_SbOutIdeal (m : (ℓ : Loc Cert.SbOutIdeal.nD Cert.SbOutIdeal.τ Cert.SbOutIdeal.sig) → Buf (Elt Ideal) ℓ) : Prop :=
  True

def Pre_SbOutRefIdeal (m : (ℓ : Loc Cert.SbOutRefIdeal.nD Cert.SbOutRefIdeal.τ Cert.SbOutRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_PostQ (m : (ℓ : Loc Cert.PostQ.nD Cert.PostQ.τ Cert.PostQ.sig) → Buf (Elt Bits) ℓ) : Prop :=
  True

def Pre_PostQIdeal (m : (ℓ : Loc Cert.PostQIdeal.nD Cert.PostQIdeal.τ Cert.PostQIdeal.sig) → Buf (Elt Ideal) ℓ) : Prop :=
  True

def Pre_PostQRefIdeal (m : (ℓ : Loc Cert.PostQRefIdeal.nD Cert.PostQRefIdeal.τ Cert.PostQRefIdeal.sig) → Buf (Elt Ideal) ℓ) : Prop :=
  True

def Pre_PostK (m : (ℓ : Loc Cert.PostK.nD Cert.PostK.τ Cert.PostK.sig) → Buf (Elt Bits) ℓ) : Prop :=
  True

def Pre_PostKIdeal (m : (ℓ : Loc Cert.PostKIdeal.nD Cert.PostKIdeal.τ Cert.PostKIdeal.sig) → Buf (Elt Ideal) ℓ) : Prop :=
  True

def Pre_PostKRefIdeal (m : (ℓ : Loc Cert.PostKRefIdeal.nD Cert.PostKRefIdeal.τ Cert.PostKRefIdeal.sig) → Buf (Elt Ideal) ℓ) : Prop :=
  True

def Pre_PostV (m : (ℓ : Loc Cert.PostV.nD Cert.PostV.τ Cert.PostV.sig) → Buf (Elt Bits) ℓ) : Prop :=
  True

def Pre_PostVIdeal (m : (ℓ : Loc Cert.PostVIdeal.nD Cert.PostVIdeal.τ Cert.PostVIdeal.sig) → Buf (Elt Ideal) ℓ) : Prop :=
  True

def Pre_PostVRefIdeal (m : (ℓ : Loc Cert.PostVRefIdeal.nD Cert.PostVRefIdeal.τ Cert.PostVRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormRefIdeal (m : (ℓ : Loc Cert.OutNormRefIdeal.nD Cert.OutNormRefIdeal.τ Cert.OutNormRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_PostVBack (m : (ℓ : Loc Cert.PostVBack.nD Cert.PostVBack.τ Cert.PostVBack.sig) → Buf (Elt Bits) ℓ) : Prop :=
  True

def Pre_PostVBackIdeal (m : (ℓ : Loc Cert.PostVBackIdeal.nD Cert.PostVBackIdeal.τ Cert.PostVBackIdeal.sig) → Buf (Elt Ideal) ℓ) : Prop :=
  True

def Pre_PostVBackRefIdeal (m : (ℓ : Loc Cert.PostVBackRefIdeal.nD Cert.PostVBackRefIdeal.τ Cert.PostVBackRefIdeal.sig) → Buf (Elt Ideal) ℓ) : Prop :=
  True

def Pre_ConvBack (m : (ℓ : Loc Cert.ConvBack.nD Cert.ConvBack.τ Cert.ConvBack.sig) → Buf (Elt Bits) ℓ) : Prop :=
  True

def Pre_ConvBackIdeal (m : (ℓ : Loc Cert.ConvBackIdeal.nD Cert.ConvBackIdeal.τ Cert.ConvBackIdeal.sig) → Buf (Elt Ideal) ℓ) : Prop :=
  True

def Pre_ConvBackRefIdeal (m : (ℓ : Loc Cert.ConvBackRefIdeal.nD Cert.ConvBackRefIdeal.τ Cert.ConvBackRefIdeal.sig) → Buf (Elt Ideal) ℓ) : Prop :=
  True

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0))
      ∧ r.2.sem = fun _ => 0)

def quiescent_WeightsRef [hWeightsRef : Cert.WeightsRef.Facts] : Prop :=
  ∀ (m : (ℓ : Loc Cert.WeightsRef.nD Cert.WeightsRef.τ Cert.WeightsRef.sig) → Buf (Elt Bits) ℓ) (g : Dev Cert.WeightsRef.nD → PrngReg), Pre_WeightsRef m →
    θ_run (Cert.WeightsRef.defs (F := Bits)) (onTc (τ := Cert.WeightsRef.τ) (Cert.WeightsRef.main (F := Bits))) ⟨m, fun _ => 0, g⟩ (fun r => (∀ c : Dev Cert.WeightsRef.nD,
      r.2.mem ((c.tc : Thread Cert.WeightsRef.nD Cert.WeightsRef.τ).loc Cert.WeightsRef.main_arg0) = m ((c.tc : Thread Cert.WeightsRef.nD Cert.WeightsRef.τ).loc Cert.WeightsRef.main_arg0))
      ∧ r.2.sem = fun _ => 0)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ r.2.sem = fun _ => 0)

def quiescent_SiblingRefIdeal [hSiblingRefIdeal : Cert.SiblingRefIdeal.Facts] : Prop :=
  ∀ (m : (ℓ : Loc Cert.SiblingRefIdeal.nD Cert.SiblingRefIdeal.τ Cert.SiblingRefIdeal.sig) → Buf (Elt Ideal) ℓ) (g : Dev Cert.SiblingRefIdeal.nD → PrngReg), Pre_SiblingRefIdeal m →
    θ_run (Cert.SiblingRefIdeal.defs (F := Ideal)) (onTc (τ := Cert.SiblingRefIdeal.τ) (Cert.SiblingRefIdeal.main (F := Ideal))) ⟨m, fun _ => 0, g⟩ (fun r => (∀ c : Dev Cert.SiblingRefIdeal.nD,
      r.2.mem ((c.tc : Thread Cert.SiblingRefIdeal.nD Cert.SiblingRefIdeal.τ).loc Cert.SiblingRefIdeal.main_arg0) = m ((c.tc : Thread Cert.SiblingRefIdeal.nD Cert.SiblingRefIdeal.τ).loc Cert.SiblingRefIdeal.main_arg0))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0))
      ∧ r.2.sem = fun _ => 0)

def quiescent_UpdateMlp [hUpdateMlp : Cert.UpdateMlp.Facts] : Prop :=
  ∀ (m : (ℓ : Loc Cert.UpdateMlp.nD Cert.UpdateMlp.τ Cert.UpdateMlp.sig) → Buf (Elt Bits) ℓ) (g : Dev Cert.UpdateMlp.nD → PrngReg), Pre_UpdateMlp m →
    θ_run (Cert.UpdateMlp.defs (F := Bits)) (onTc (τ := Cert.UpdateMlp.τ) (Cert.UpdateMlp.main (F := Bits))) ⟨m, fun _ => 0, g⟩ (fun r => (∀ c : Dev Cert.UpdateMlp.nD,
      r.2.mem ((c.tc : Thread Cert.UpdateMlp.nD Cert.UpdateMlp.τ).loc Cert.UpdateMlp.main_arg0) = m ((c.tc : Thread Cert.UpdateMlp.nD Cert.UpdateMlp.τ).loc Cert.UpdateMlp.main_arg0)
      ∧ r.2.mem ((c.tc : Thread Cert.UpdateMlp.nD Cert.UpdateMlp.τ).loc Cert.UpdateMlp.main_arg1) = m ((c.tc : Thread Cert.UpdateMlp.nD Cert.UpdateMlp.τ).loc Cert.UpdateMlp.main_arg1)
      ∧ r.2.mem ((c.tc : Thread Cert.UpdateMlp.nD Cert.UpdateMlp.τ).loc Cert.UpdateMlp.main_arg2) = m ((c.tc : Thread Cert.UpdateMlp.nD Cert.UpdateMlp.τ).loc Cert.UpdateMlp.main_arg2)
      ∧ r.2.mem ((c.tc : Thread Cert.UpdateMlp.nD Cert.UpdateMlp.τ).loc Cert.UpdateMlp.main_arg3) = m ((c.tc : Thread Cert.UpdateMlp.nD Cert.UpdateMlp.τ).loc Cert.UpdateMlp.main_arg3))
      ∧ r.2.sem = fun _ => 0)

def quiescent_UpdateMlpIdeal [hUpdateMlpIdeal : Cert.UpdateMlpIdeal.Facts] : Prop :=
  ∀ (m : (ℓ : Loc Cert.UpdateMlpIdeal.nD Cert.UpdateMlpIdeal.τ Cert.UpdateMlpIdeal.sig) → Buf (Elt Ideal) ℓ) (g : Dev Cert.UpdateMlpIdeal.nD → PrngReg), Pre_UpdateMlpIdeal m →
    θ_run (Cert.UpdateMlpIdeal.defs (F := Ideal)) (onTc (τ := Cert.UpdateMlpIdeal.τ) (Cert.UpdateMlpIdeal.main (F := Ideal))) ⟨m, fun _ => 0, g⟩ (fun r => (∀ c : Dev Cert.UpdateMlpIdeal.nD,
      r.2.mem ((c.tc : Thread Cert.UpdateMlpIdeal.nD Cert.UpdateMlpIdeal.τ).loc Cert.UpdateMlpIdeal.main_arg0) = m ((c.tc : Thread Cert.UpdateMlpIdeal.nD Cert.UpdateMlpIdeal.τ).loc Cert.UpdateMlpIdeal.main_arg0)
      ∧ r.2.mem ((c.tc : Thread Cert.UpdateMlpIdeal.nD Cert.UpdateMlpIdeal.τ).loc Cert.UpdateMlpIdeal.main_arg1) = m ((c.tc : Thread Cert.UpdateMlpIdeal.nD Cert.UpdateMlpIdeal.τ).loc Cert.UpdateMlpIdeal.main_arg1)
      ∧ r.2.mem ((c.tc : Thread Cert.UpdateMlpIdeal.nD Cert.UpdateMlpIdeal.τ).loc Cert.UpdateMlpIdeal.main_arg2) = m ((c.tc : Thread Cert.UpdateMlpIdeal.nD Cert.UpdateMlpIdeal.τ).loc Cert.UpdateMlpIdeal.main_arg2)
      ∧ r.2.mem ((c.tc : Thread Cert.UpdateMlpIdeal.nD Cert.UpdateMlpIdeal.τ).loc Cert.UpdateMlpIdeal.main_arg3) = m ((c.tc : Thread Cert.UpdateMlpIdeal.nD Cert.UpdateMlpIdeal.τ).loc Cert.UpdateMlpIdeal.main_arg3))
      ∧ r.2.sem = fun _ => 0)

def quiescent_UpdateMlpRefIdeal [hUpdateMlpRefIdeal : Cert.UpdateMlpRefIdeal.Facts] : Prop :=
  ∀ (m : (ℓ : Loc Cert.UpdateMlpRefIdeal.nD Cert.UpdateMlpRefIdeal.τ Cert.UpdateMlpRefIdeal.sig) → Buf (Elt Ideal) ℓ) (g : Dev Cert.UpdateMlpRefIdeal.nD → PrngReg), Pre_UpdateMlpRefIdeal m →
    θ_run (Cert.UpdateMlpRefIdeal.defs (F := Ideal)) (onTc (τ := Cert.UpdateMlpRefIdeal.τ) (Cert.UpdateMlpRefIdeal.main (F := Ideal))) ⟨m, fun _ => 0, g⟩ (fun r => (∀ c : Dev Cert.UpdateMlpRefIdeal.nD,
      r.2.mem ((c.tc : Thread Cert.UpdateMlpRefIdeal.nD Cert.UpdateMlpRefIdeal.τ).loc Cert.UpdateMlpRefIdeal.main_arg0) = m ((c.tc : Thread Cert.UpdateMlpRefIdeal.nD Cert.UpdateMlpRefIdeal.τ).loc Cert.UpdateMlpRefIdeal.main_arg0)
      ∧ r.2.mem ((c.tc : Thread Cert.UpdateMlpRefIdeal.nD Cert.UpdateMlpRefIdeal.τ).loc Cert.UpdateMlpRefIdeal.main_arg1) = m ((c.tc : Thread Cert.UpdateMlpRefIdeal.nD Cert.UpdateMlpRefIdeal.τ).loc Cert.UpdateMlpRefIdeal.main_arg1)
      ∧ r.2.mem ((c.tc : Thread Cert.UpdateMlpRefIdeal.nD Cert.UpdateMlpRefIdeal.τ).loc Cert.UpdateMlpRefIdeal.main_arg2) = m ((c.tc : Thread Cert.UpdateMlpRefIdeal.nD Cert.UpdateMlpRefIdeal.τ).loc Cert.UpdateMlpRefIdeal.main_arg2)
      ∧ r.2.mem ((c.tc : Thread Cert.UpdateMlpRefIdeal.nD Cert.UpdateMlpRefIdeal.τ).loc Cert.UpdateMlpRefIdeal.main_arg3) = m ((c.tc : Thread Cert.UpdateMlpRefIdeal.nD Cert.UpdateMlpRefIdeal.τ).loc Cert.UpdateMlpRefIdeal.main_arg3))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ r.2.sem = fun _ => 0)

def quiescent_UpdateInRefIdeal [hUpdateInRefIdeal : Cert.UpdateInRefIdeal.Facts] : Prop :=
  ∀ (m : (ℓ : Loc Cert.UpdateInRefIdeal.nD Cert.UpdateInRefIdeal.τ Cert.UpdateInRefIdeal.sig) → Buf (Elt Ideal) ℓ) (g : Dev Cert.UpdateInRefIdeal.nD → PrngReg), Pre_UpdateInRefIdeal m →
    θ_run (Cert.UpdateInRefIdeal.defs (F := Ideal)) (onTc (τ := Cert.UpdateInRefIdeal.τ) (Cert.UpdateInRefIdeal.main (F := Ideal))) ⟨m, fun _ => 0, g⟩ (fun r => (∀ c : Dev Cert.UpdateInRefIdeal.nD,
      r.2.mem ((c.tc : Thread Cert.UpdateInRefIdeal.nD Cert.UpdateInRefIdeal.τ).loc Cert.UpdateInRefIdeal.main_arg0) = m ((c.tc : Thread Cert.UpdateInRefIdeal.nD Cert.UpdateInRefIdeal.τ).loc Cert.UpdateInRefIdeal.main_arg0)
      ∧ r.2.mem ((c.tc : Thread Cert.UpdateInRefIdeal.nD Cert.UpdateInRefIdeal.τ).loc Cert.UpdateInRefIdeal.main_arg1) = m ((c.tc : Thread Cert.UpdateInRefIdeal.nD Cert.UpdateInRefIdeal.τ).loc Cert.UpdateInRefIdeal.main_arg1)
      ∧ r.2.mem ((c.tc : Thread Cert.UpdateInRefIdeal.nD Cert.UpdateInRefIdeal.τ).loc Cert.UpdateInRefIdeal.main_arg2) = m ((c.tc : Thread Cert.UpdateInRefIdeal.nD Cert.UpdateInRefIdeal.τ).loc Cert.UpdateInRefIdeal.main_arg2)
      ∧ r.2.mem ((c.tc : Thread Cert.UpdateInRefIdeal.nD Cert.UpdateInRefIdeal.τ).loc Cert.UpdateInRefIdeal.main_arg3) = m ((c.tc : Thread Cert.UpdateInRefIdeal.nD Cert.UpdateInRefIdeal.τ).loc Cert.UpdateInRefIdeal.main_arg3))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def quiescent_UpdateOutRefIdeal [hUpdateOutRefIdeal : Cert.UpdateOutRefIdeal.Facts] : Prop :=
  ∀ (m : (ℓ : Loc Cert.UpdateOutRefIdeal.nD Cert.UpdateOutRefIdeal.τ Cert.UpdateOutRefIdeal.sig) → Buf (Elt Ideal) ℓ) (g : Dev Cert.UpdateOutRefIdeal.nD → PrngReg), Pre_UpdateOutRefIdeal m →
    θ_run (Cert.UpdateOutRefIdeal.defs (F := Ideal)) (onTc (τ := Cert.UpdateOutRefIdeal.τ) (Cert.UpdateOutRefIdeal.main (F := Ideal))) ⟨m, fun _ => 0, g⟩ (fun r => (∀ c : Dev Cert.UpdateOutRefIdeal.nD,
      r.2.mem ((c.tc : Thread Cert.UpdateOutRefIdeal.nD Cert.UpdateOutRefIdeal.τ).loc Cert.UpdateOutRefIdeal.main_arg0) = m ((c.tc : Thread Cert.UpdateOutRefIdeal.nD Cert.UpdateOutRefIdeal.τ).loc Cert.UpdateOutRefIdeal.main_arg0)
      ∧ r.2.mem ((c.tc : Thread Cert.UpdateOutRefIdeal.nD Cert.UpdateOutRefIdeal.τ).loc Cert.UpdateOutRefIdeal.main_arg1) = m ((c.tc : Thread Cert.UpdateOutRefIdeal.nD Cert.UpdateOutRefIdeal.τ).loc Cert.UpdateOutRefIdeal.main_arg1)
      ∧ r.2.mem ((c.tc : Thread Cert.UpdateOutRefIdeal.nD Cert.UpdateOutRefIdeal.τ).loc Cert.UpdateOutRefIdeal.main_arg2) = m ((c.tc : Thread Cert.UpdateOutRefIdeal.nD Cert.UpdateOutRefIdeal.τ).loc Cert.UpdateOutRefIdeal.main_arg2)
      ∧ r.2.mem ((c.tc : Thread Cert.UpdateOutRefIdeal.nD Cert.UpdateOutRefIdeal.τ).loc Cert.UpdateOutRefIdeal.main_arg3) = m ((c.tc : Thread Cert.UpdateOutRefIdeal.nD Cert.UpdateOutRefIdeal.τ).loc Cert.UpdateOutRefIdeal.main_arg3))
      ∧ r.2.sem = fun _ => 0)

def quiescent_UpdateKv [hUpdateKv : Cert.UpdateKv.Facts] : Prop :=
  ∀ (m : (ℓ : Loc Cert.UpdateKv.nD Cert.UpdateKv.τ Cert.UpdateKv.sig) → Buf (Elt Bits) ℓ) (g : Dev Cert.UpdateKv.nD → PrngReg), Pre_UpdateKv m →
    θ_run (Cert.UpdateKv.defs (F := Bits)) (onTc (τ := Cert.UpdateKv.τ) (Cert.UpdateKv.main (F := Bits))) ⟨m, fun _ => 0, g⟩ (fun r => (∀ c : Dev Cert.UpdateKv.nD,
      r.2.mem ((c.tc : Thread Cert.UpdateKv.nD Cert.UpdateKv.τ).loc Cert.UpdateKv.main_arg0) = m ((c.tc : Thread Cert.UpdateKv.nD Cert.UpdateKv.τ).loc Cert.UpdateKv.main_arg0)
      ∧ r.2.mem ((c.tc : Thread Cert.UpdateKv.nD Cert.UpdateKv.τ).loc Cert.UpdateKv.main_arg1) = m ((c.tc : Thread Cert.UpdateKv.nD Cert.UpdateKv.τ).loc Cert.UpdateKv.main_arg1)
      ∧ r.2.mem ((c.tc : Thread Cert.UpdateKv.nD Cert.UpdateKv.τ).loc Cert.UpdateKv.main_arg2) = m ((c.tc : Thread Cert.UpdateKv.nD Cert.UpdateKv.τ).loc Cert.UpdateKv.main_arg2)
      ∧ r.2.mem ((c.tc : Thread Cert.UpdateKv.nD Cert.UpdateKv.τ).loc Cert.UpdateKv.main_arg3) = m ((c.tc : Thread Cert.UpdateKv.nD Cert.UpdateKv.τ).loc Cert.UpdateKv.main_arg3))
      ∧ r.2.sem = fun _ => 0)

def quiescent_UpdateKvIdeal [hUpdateKvIdeal : Cert.UpdateKvIdeal.Facts] : Prop :=
  ∀ (m : (ℓ : Loc Cert.UpdateKvIdeal.nD Cert.UpdateKvIdeal.τ Cert.UpdateKvIdeal.sig) → Buf (Elt Ideal) ℓ) (g : Dev Cert.UpdateKvIdeal.nD → PrngReg), Pre_UpdateKvIdeal m →
    θ_run (Cert.UpdateKvIdeal.defs (F := Ideal)) (onTc (τ := Cert.UpdateKvIdeal.τ) (Cert.UpdateKvIdeal.main (F := Ideal))) ⟨m, fun _ => 0, g⟩ (fun r => (∀ c : Dev Cert.UpdateKvIdeal.nD,
      r.2.mem ((c.tc : Thread Cert.UpdateKvIdeal.nD Cert.UpdateKvIdeal.τ).loc Cert.UpdateKvIdeal.main_arg0) = m ((c.tc : Thread Cert.UpdateKvIdeal.nD Cert.UpdateKvIdeal.τ).loc Cert.UpdateKvIdeal.main_arg0)
      ∧ r.2.mem ((c.tc : Thread Cert.UpdateKvIdeal.nD Cert.UpdateKvIdeal.τ).loc Cert.UpdateKvIdeal.main_arg1) = m ((c.tc : Thread Cert.UpdateKvIdeal.nD Cert.UpdateKvIdeal.τ).loc Cert.UpdateKvIdeal.main_arg1)
      ∧ r.2.mem ((c.tc : Thread Cert.UpdateKvIdeal.nD Cert.UpdateKvIdeal.τ).loc Cert.UpdateKvIdeal.main_arg2) = m ((c.tc : Thread Cert.UpdateKvIdeal.nD Cert.UpdateKvIdeal.τ).loc Cert.UpdateKvIdeal.main_arg2)
      ∧ r.2.mem ((c.tc : Thread Cert.UpdateKvIdeal.nD Cert.UpdateKvIdeal.τ).loc Cert.UpdateKvIdeal.main_arg3) = m ((c.tc : Thread Cert.UpdateKvIdeal.nD Cert.UpdateKvIdeal.τ).loc Cert.UpdateKvIdeal.main_arg3))
      ∧ r.2.sem = fun _ => 0)

def quiescent_UpdateKvRefIdeal [hUpdateKvRefIdeal : Cert.UpdateKvRefIdeal.Facts] : Prop :=
  ∀ (m : (ℓ : Loc Cert.UpdateKvRefIdeal.nD Cert.UpdateKvRefIdeal.τ Cert.UpdateKvRefIdeal.sig) → Buf (Elt Ideal) ℓ) (g : Dev Cert.UpdateKvRefIdeal.nD → PrngReg), Pre_UpdateKvRefIdeal m →
    θ_run (Cert.UpdateKvRefIdeal.defs (F := Ideal)) (onTc (τ := Cert.UpdateKvRefIdeal.τ) (Cert.UpdateKvRefIdeal.main (F := Ideal))) ⟨m, fun _ => 0, g⟩ (fun r => (∀ c : Dev Cert.UpdateKvRefIdeal.nD,
      r.2.mem ((c.tc : Thread Cert.UpdateKvRefIdeal.nD Cert.UpdateKvRefIdeal.τ).loc Cert.UpdateKvRefIdeal.main_arg0) = m ((c.tc : Thread Cert.UpdateKvRefIdeal.nD Cert.UpdateKvRefIdeal.τ).loc Cert.UpdateKvRefIdeal.main_arg0)
      ∧ r.2.mem ((c.tc : Thread Cert.UpdateKvRefIdeal.nD Cert.UpdateKvRefIdeal.τ).loc Cert.UpdateKvRefIdeal.main_arg1) = m ((c.tc : Thread Cert.UpdateKvRefIdeal.nD Cert.UpdateKvRefIdeal.τ).loc Cert.UpdateKvRefIdeal.main_arg1)
      ∧ r.2.mem ((c.tc : Thread Cert.UpdateKvRefIdeal.nD Cert.UpdateKvRefIdeal.τ).loc Cert.UpdateKvRefIdeal.main_arg2) = m ((c.tc : Thread Cert.UpdateKvRefIdeal.nD Cert.UpdateKvRefIdeal.τ).loc Cert.UpdateKvRefIdeal.main_arg2)
      ∧ r.2.mem ((c.tc : Thread Cert.UpdateKvRefIdeal.nD Cert.UpdateKvRefIdeal.τ).loc Cert.UpdateKvRefIdeal.main_arg3) = m ((c.tc : Thread Cert.UpdateKvRefIdeal.nD Cert.UpdateKvRefIdeal.τ).loc Cert.UpdateKvRefIdeal.main_arg3))
      ∧ r.2.sem = fun _ => 0)

def quiescent_UpdateGains [hUpdateGains : Cert.UpdateGains.Facts] : Prop :=
  ∀ (m : (ℓ : Loc Cert.UpdateGains.nD Cert.UpdateGains.τ Cert.UpdateGains.sig) → Buf (Elt Bits) ℓ) (g : Dev Cert.UpdateGains.nD → PrngReg), Pre_UpdateGains m →
    θ_run (Cert.UpdateGains.defs (F := Bits)) (onTc (τ := Cert.UpdateGains.τ) (Cert.UpdateGains.main (F := Bits))) ⟨m, fun _ => 0, g⟩ (fun r => (∀ c : Dev Cert.UpdateGains.nD,
      r.2.mem ((c.tc : Thread Cert.UpdateGains.nD Cert.UpdateGains.τ).loc Cert.UpdateGains.main_arg0) = m ((c.tc : Thread Cert.UpdateGains.nD Cert.UpdateGains.τ).loc Cert.UpdateGains.main_arg0)
      ∧ r.2.mem ((c.tc : Thread Cert.UpdateGains.nD Cert.UpdateGains.τ).loc Cert.UpdateGains.main_arg1) = m ((c.tc : Thread Cert.UpdateGains.nD Cert.UpdateGains.τ).loc Cert.UpdateGains.main_arg1)
      ∧ r.2.mem ((c.tc : Thread Cert.UpdateGains.nD Cert.UpdateGains.τ).loc Cert.UpdateGains.main_arg2) = m ((c.tc : Thread Cert.UpdateGains.nD Cert.UpdateGains.τ).loc Cert.UpdateGains.main_arg2)
      ∧ r.2.mem ((c.tc : Thread Cert.UpdateGains.nD Cert.UpdateGains.τ).loc Cert.UpdateGains.main_arg3) = m ((c.tc : Thread Cert.UpdateGains.nD Cert.UpdateGains.τ).loc Cert.UpdateGains.main_arg3))
      ∧ r.2.sem = fun _ => 0)

def quiescent_UpdateGainsIdeal [hUpdateGainsIdeal : Cert.UpdateGainsIdeal.Facts] : Prop :=
  ∀ (m : (ℓ : Loc Cert.UpdateGainsIdeal.nD Cert.UpdateGainsIdeal.τ Cert.UpdateGainsIdeal.sig) → Buf (Elt Ideal) ℓ) (g : Dev Cert.UpdateGainsIdeal.nD → PrngReg), Pre_UpdateGainsIdeal m →
    θ_run (Cert.UpdateGainsIdeal.defs (F := Ideal)) (onTc (τ := Cert.UpdateGainsIdeal.τ) (Cert.UpdateGainsIdeal.main (F := Ideal))) ⟨m, fun _ => 0, g⟩ (fun r => (∀ c : Dev Cert.UpdateGainsIdeal.nD,
      r.2.mem ((c.tc : Thread Cert.UpdateGainsIdeal.nD Cert.UpdateGainsIdeal.τ).loc Cert.UpdateGainsIdeal.main_arg0) = m ((c.tc : Thread Cert.UpdateGainsIdeal.nD Cert.UpdateGainsIdeal.τ).loc Cert.UpdateGainsIdeal.main_arg0)
      ∧ r.2.mem ((c.tc : Thread Cert.UpdateGainsIdeal.nD Cert.UpdateGainsIdeal.τ).loc Cert.UpdateGainsIdeal.main_arg1) = m ((c.tc : Thread Cert.UpdateGainsIdeal.nD Cert.UpdateGainsIdeal.τ).loc Cert.UpdateGainsIdeal.main_arg1)
      ∧ r.2.mem ((c.tc : Thread Cert.UpdateGainsIdeal.nD Cert.UpdateGainsIdeal.τ).loc Cert.UpdateGainsIdeal.main_arg2) = m ((c.tc : Thread Cert.UpdateGainsIdeal.nD Cert.UpdateGainsIdeal.τ).loc Cert.UpdateGainsIdeal.main_arg2)
      ∧ r.2.mem ((c.tc : Thread Cert.UpdateGainsIdeal.nD Cert.UpdateGainsIdeal.τ).loc Cert.UpdateGainsIdeal.main_arg3) = m ((c.tc : Thread Cert.UpdateGainsIdeal.nD Cert.UpdateGainsIdeal.τ).loc Cert.UpdateGainsIdeal.main_arg3))
      ∧ r.2.sem = fun _ => 0)

def quiescent_UpdateGainsRefIdeal [hUpdateGainsRefIdeal : Cert.UpdateGainsRefIdeal.Facts] : Prop :=
  ∀ (m : (ℓ : Loc Cert.UpdateGainsRefIdeal.nD Cert.UpdateGainsRefIdeal.τ Cert.UpdateGainsRefIdeal.sig) → Buf (Elt Ideal) ℓ) (g : Dev Cert.UpdateGainsRefIdeal.nD → PrngReg), Pre_UpdateGainsRefIdeal m →
    θ_run (Cert.UpdateGainsRefIdeal.defs (F := Ideal)) (onTc (τ := Cert.UpdateGainsRefIdeal.τ) (Cert.UpdateGainsRefIdeal.main (F := Ideal))) ⟨m, fun _ => 0, g⟩ (fun r => (∀ c : Dev Cert.UpdateGainsRefIdeal.nD,
      r.2.mem ((c.tc : Thread Cert.UpdateGainsRefIdeal.nD Cert.UpdateGainsRefIdeal.τ).loc Cert.UpdateGainsRefIdeal.main_arg0) = m ((c.tc : Thread Cert.UpdateGainsRefIdeal.nD Cert.UpdateGainsRefIdeal.τ).loc Cert.UpdateGainsRefIdeal.main_arg0)
      ∧ r.2.mem ((c.tc : Thread Cert.UpdateGainsRefIdeal.nD Cert.UpdateGainsRefIdeal.τ).loc Cert.UpdateGainsRefIdeal.main_arg1) = m ((c.tc : Thread Cert.UpdateGainsRefIdeal.nD Cert.UpdateGainsRefIdeal.τ).loc Cert.UpdateGainsRefIdeal.main_arg1)
      ∧ r.2.mem ((c.tc : Thread Cert.UpdateGainsRefIdeal.nD Cert.UpdateGainsRefIdeal.τ).loc Cert.UpdateGainsRefIdeal.main_arg2) = m ((c.tc : Thread Cert.UpdateGainsRefIdeal.nD Cert.UpdateGainsRefIdeal.τ).loc Cert.UpdateGainsRefIdeal.main_arg2)
      ∧ r.2.mem ((c.tc : Thread Cert.UpdateGainsRefIdeal.nD Cert.UpdateGainsRefIdeal.τ).loc Cert.UpdateGainsRefIdeal.main_arg3) = m ((c.tc : Thread Cert.UpdateGainsRefIdeal.nD Cert.UpdateGainsRefIdeal.τ).loc Cert.UpdateGainsRefIdeal.main_arg3))
      ∧ r.2.sem = fun _ => 0)

def quiescent_UpdateKvGain [hUpdateKvGain : Cert.UpdateKvGain.Facts] : Prop :=
  ∀ (m : (ℓ : Loc Cert.UpdateKvGain.nD Cert.UpdateKvGain.τ Cert.UpdateKvGain.sig) → Buf (Elt Bits) ℓ) (g : Dev Cert.UpdateKvGain.nD → PrngReg), Pre_UpdateKvGain m →
    θ_run (Cert.UpdateKvGain.defs (F := Bits)) (onTc (τ := Cert.UpdateKvGain.τ) (Cert.UpdateKvGain.main (F := Bits))) ⟨m, fun _ => 0, g⟩ (fun r => (∀ c : Dev Cert.UpdateKvGain.nD,
      r.2.mem ((c.tc : Thread Cert.UpdateKvGain.nD Cert.UpdateKvGain.τ).loc Cert.UpdateKvGain.main_arg0) = m ((c.tc : Thread Cert.UpdateKvGain.nD Cert.UpdateKvGain.τ).loc Cert.UpdateKvGain.main_arg0)
      ∧ r.2.mem ((c.tc : Thread Cert.UpdateKvGain.nD Cert.UpdateKvGain.τ).loc Cert.UpdateKvGain.main_arg1) = m ((c.tc : Thread Cert.UpdateKvGain.nD Cert.UpdateKvGain.τ).loc Cert.UpdateKvGain.main_arg1)
      ∧ r.2.mem ((c.tc : Thread Cert.UpdateKvGain.nD Cert.UpdateKvGain.τ).loc Cert.UpdateKvGain.main_arg2) = m ((c.tc : Thread Cert.UpdateKvGain.nD Cert.UpdateKvGain.τ).loc Cert.UpdateKvGain.main_arg2)
      ∧ r.2.mem ((c.tc : Thread Cert.UpdateKvGain.nD Cert.UpdateKvGain.τ).loc Cert.UpdateKvGain.main_arg3) = m ((c.tc : Thread Cert.UpdateKvGain.nD Cert.UpdateKvGain.τ).loc Cert.UpdateKvGain.main_arg3))
      ∧ r.2.sem = fun _ => 0)

def quiescent_UpdateKvGainIdeal [hUpdateKvGainIdeal : Cert.UpdateKvGainIdeal.Facts] : Prop :=
  ∀ (m : (ℓ : Loc Cert.UpdateKvGainIdeal.nD Cert.UpdateKvGainIdeal.τ Cert.UpdateKvGainIdeal.sig) → Buf (Elt Ideal) ℓ) (g : Dev Cert.UpdateKvGainIdeal.nD → PrngReg), Pre_UpdateKvGainIdeal m →
    θ_run (Cert.UpdateKvGainIdeal.defs (F := Ideal)) (onTc (τ := Cert.UpdateKvGainIdeal.τ) (Cert.UpdateKvGainIdeal.main (F := Ideal))) ⟨m, fun _ => 0, g⟩ (fun r => (∀ c : Dev Cert.UpdateKvGainIdeal.nD,
      r.2.mem ((c.tc : Thread Cert.UpdateKvGainIdeal.nD Cert.UpdateKvGainIdeal.τ).loc Cert.UpdateKvGainIdeal.main_arg0) = m ((c.tc : Thread Cert.UpdateKvGainIdeal.nD Cert.UpdateKvGainIdeal.τ).loc Cert.UpdateKvGainIdeal.main_arg0)
      ∧ r.2.mem ((c.tc : Thread Cert.UpdateKvGainIdeal.nD Cert.UpdateKvGainIdeal.τ).loc Cert.UpdateKvGainIdeal.main_arg1) = m ((c.tc : Thread Cert.UpdateKvGainIdeal.nD Cert.UpdateKvGainIdeal.τ).loc Cert.UpdateKvGainIdeal.main_arg1)
      ∧ r.2.mem ((c.tc : Thread Cert.UpdateKvGainIdeal.nD Cert.UpdateKvGainIdeal.τ).loc Cert.UpdateKvGainIdeal.main_arg2) = m ((c.tc : Thread Cert.UpdateKvGainIdeal.nD Cert.UpdateKvGainIdeal.τ).loc Cert.UpdateKvGainIdeal.main_arg2)
      ∧ r.2.mem ((c.tc : Thread Cert.UpdateKvGainIdeal.nD Cert.UpdateKvGainIdeal.τ).loc Cert.UpdateKvGainIdeal.main_arg3) = m ((c.tc : Thread Cert.UpdateKvGainIdeal.nD Cert.UpdateKvGainIdeal.τ).loc Cert.UpdateKvGainIdeal.main_arg3))
      ∧ r.2.sem = fun _ => 0)

def quiescent_UpdateKvGainRefIdeal [hUpdateKvGainRefIdeal : Cert.UpdateKvGainRefIdeal.Facts] : Prop :=
  ∀ (m : (ℓ : Loc Cert.UpdateKvGainRefIdeal.nD Cert.UpdateKvGainRefIdeal.τ Cert.UpdateKvGainRefIdeal.sig) → Buf (Elt Ideal) ℓ) (g : Dev Cert.UpdateKvGainRefIdeal.nD → PrngReg), Pre_UpdateKvGainRefIdeal m →
    θ_run (Cert.UpdateKvGainRefIdeal.defs (F := Ideal)) (onTc (τ := Cert.UpdateKvGainRefIdeal.τ) (Cert.UpdateKvGainRefIdeal.main (F := Ideal))) ⟨m, fun _ => 0, g⟩ (fun r => (∀ c : Dev Cert.UpdateKvGainRefIdeal.nD,
      r.2.mem ((c.tc : Thread Cert.UpdateKvGainRefIdeal.nD Cert.UpdateKvGainRefIdeal.τ).loc Cert.UpdateKvGainRefIdeal.main_arg0) = m ((c.tc : Thread Cert.UpdateKvGainRefIdeal.nD Cert.UpdateKvGainRefIdeal.τ).loc Cert.UpdateKvGainRefIdeal.main_arg0)
      ∧ r.2.mem ((c.tc : Thread Cert.UpdateKvGainRefIdeal.nD Cert.UpdateKvGainRefIdeal.τ).loc Cert.UpdateKvGainRefIdeal.main_arg1) = m ((c.tc : Thread Cert.UpdateKvGainRefIdeal.nD Cert.UpdateKvGainRefIdeal.τ).loc Cert.UpdateKvGainRefIdeal.main_arg1)
      ∧ r.2.mem ((c.tc : Thread Cert.UpdateKvGainRefIdeal.nD Cert.UpdateKvGainRefIdeal.τ).loc Cert.UpdateKvGainRefIdeal.main_arg2) = m ((c.tc : Thread Cert.UpdateKvGainRefIdeal.nD Cert.UpdateKvGainRefIdeal.τ).loc Cert.UpdateKvGainRefIdeal.main_arg2)
      ∧ r.2.mem ((c.tc : Thread Cert.UpdateKvGainRefIdeal.nD Cert.UpdateKvGainRefIdeal.τ).loc Cert.UpdateKvGainRefIdeal.main_arg3) = m ((c.tc : Thread Cert.UpdateKvGainRefIdeal.nD Cert.UpdateKvGainRefIdeal.τ).loc Cert.UpdateKvGainRefIdeal.main_arg3))
      ∧ r.2.sem = fun _ => 0)

def quiescent_UpdateOutGain [hUpdateOutGain : Cert.UpdateOutGain.Facts] : Prop :=
  ∀ (m : (ℓ : Loc Cert.UpdateOutGain.nD Cert.UpdateOutGain.τ Cert.UpdateOutGain.sig) → Buf (Elt Bits) ℓ) (g : Dev Cert.UpdateOutGain.nD → PrngReg), Pre_UpdateOutGain m →
    θ_run (Cert.UpdateOutGain.defs (F := Bits)) (onTc (τ := Cert.UpdateOutGain.τ) (Cert.UpdateOutGain.main (F := Bits))) ⟨m, fun _ => 0, g⟩ (fun r => (∀ c : Dev Cert.UpdateOutGain.nD,
      r.2.mem ((c.tc : Thread Cert.UpdateOutGain.nD Cert.UpdateOutGain.τ).loc Cert.UpdateOutGain.main_arg0) = m ((c.tc : Thread Cert.UpdateOutGain.nD Cert.UpdateOutGain.τ).loc Cert.UpdateOutGain.main_arg0)
      ∧ r.2.mem ((c.tc : Thread Cert.UpdateOutGain.nD Cert.UpdateOutGain.τ).loc Cert.UpdateOutGain.main_arg1) = m ((c.tc : Thread Cert.UpdateOutGain.nD Cert.UpdateOutGain.τ).loc Cert.UpdateOutGain.main_arg1)
      ∧ r.2.mem ((c.tc : Thread Cert.UpdateOutGain.nD Cert.UpdateOutGain.τ).loc Cert.UpdateOutGain.main_arg2) = m ((c.tc : Thread Cert.UpdateOutGain.nD Cert.UpdateOutGain.τ).loc Cert.UpdateOutGain.main_arg2)
      ∧ r.2.mem ((c.tc : Thread Cert.UpdateOutGain.nD Cert.UpdateOutGain.τ).loc Cert.UpdateOutGain.main_arg3) = m ((c.tc : Thread Cert.UpdateOutGain.nD Cert.UpdateOutGain.τ).loc Cert.UpdateOutGain.main_arg3))
      ∧ r.2.sem = fun _ => 0)

def quiescent_UpdateOutGainIdeal [hUpdateOutGainIdeal : Cert.UpdateOutGainIdeal.Facts] : Prop :=
  ∀ (m : (ℓ : Loc Cert.UpdateOutGainIdeal.nD Cert.UpdateOutGainIdeal.τ Cert.UpdateOutGainIdeal.sig) → Buf (Elt Ideal) ℓ) (g : Dev Cert.UpdateOutGainIdeal.nD → PrngReg), Pre_UpdateOutGainIdeal m →
    θ_run (Cert.UpdateOutGainIdeal.defs (F := Ideal)) (onTc (τ := Cert.UpdateOutGainIdeal.τ) (Cert.UpdateOutGainIdeal.main (F := Ideal))) ⟨m, fun _ => 0, g⟩ (fun r => (∀ c : Dev Cert.UpdateOutGainIdeal.nD,
      r.2.mem ((c.tc : Thread Cert.UpdateOutGainIdeal.nD Cert.UpdateOutGainIdeal.τ).loc Cert.UpdateOutGainIdeal.main_arg0) = m ((c.tc : Thread Cert.UpdateOutGainIdeal.nD Cert.UpdateOutGainIdeal.τ).loc Cert.UpdateOutGainIdeal.main_arg0)
      ∧ r.2.mem ((c.tc : Thread Cert.UpdateOutGainIdeal.nD Cert.UpdateOutGainIdeal.τ).loc Cert.UpdateOutGainIdeal.main_arg1) = m ((c.tc : Thread Cert.UpdateOutGainIdeal.nD Cert.UpdateOutGainIdeal.τ).loc Cert.UpdateOutGainIdeal.main_arg1)
      ∧ r.2.mem ((c.tc : Thread Cert.UpdateOutGainIdeal.nD Cert.UpdateOutGainIdeal.τ).loc Cert.UpdateOutGainIdeal.main_arg2) = m ((c.tc : Thread Cert.UpdateOutGainIdeal.nD Cert.UpdateOutGainIdeal.τ).loc Cert.UpdateOutGainIdeal.main_arg2)
      ∧ r.2.mem ((c.tc : Thread Cert.UpdateOutGainIdeal.nD Cert.UpdateOutGainIdeal.τ).loc Cert.UpdateOutGainIdeal.main_arg3) = m ((c.tc : Thread Cert.UpdateOutGainIdeal.nD Cert.UpdateOutGainIdeal.τ).loc Cert.UpdateOutGainIdeal.main_arg3))
      ∧ r.2.sem = fun _ => 0)

def quiescent_UpdateOutGainRefIdeal [hUpdateOutGainRefIdeal : Cert.UpdateOutGainRefIdeal.Facts] : Prop :=
  ∀ (m : (ℓ : Loc Cert.UpdateOutGainRefIdeal.nD Cert.UpdateOutGainRefIdeal.τ Cert.UpdateOutGainRefIdeal.sig) → Buf (Elt Ideal) ℓ) (g : Dev Cert.UpdateOutGainRefIdeal.nD → PrngReg), Pre_UpdateOutGainRefIdeal m →
    θ_run (Cert.UpdateOutGainRefIdeal.defs (F := Ideal)) (onTc (τ := Cert.UpdateOutGainRefIdeal.τ) (Cert.UpdateOutGainRefIdeal.main (F := Ideal))) ⟨m, fun _ => 0, g⟩ (fun r => (∀ c : Dev Cert.UpdateOutGainRefIdeal.nD,
      r.2.mem ((c.tc : Thread Cert.UpdateOutGainRefIdeal.nD Cert.UpdateOutGainRefIdeal.τ).loc Cert.UpdateOutGainRefIdeal.main_arg0) = m ((c.tc : Thread Cert.UpdateOutGainRefIdeal.nD Cert.UpdateOutGainRefIdeal.τ).loc Cert.UpdateOutGainRefIdeal.main_arg0)
      ∧ r.2.mem ((c.tc : Thread Cert.UpdateOutGainRefIdeal.nD Cert.UpdateOutGainRefIdeal.τ).loc Cert.UpdateOutGainRefIdeal.main_arg1) = m ((c.tc : Thread Cert.UpdateOutGainRefIdeal.nD Cert.UpdateOutGainRefIdeal.τ).loc Cert.UpdateOutGainRefIdeal.main_arg1)
      ∧ r.2.mem ((c.tc : Thread Cert.UpdateOutGainRefIdeal.nD Cert.UpdateOutGainRefIdeal.τ).loc Cert.UpdateOutGainRefIdeal.main_arg2) = m ((c.tc : Thread Cert.UpdateOutGainRefIdeal.nD Cert.UpdateOutGainRefIdeal.τ).loc Cert.UpdateOutGainRefIdeal.main_arg2)
      ∧ r.2.mem ((c.tc : Thread Cert.UpdateOutGainRefIdeal.nD Cert.UpdateOutGainRefIdeal.τ).loc Cert.UpdateOutGainRefIdeal.main_arg3) = m ((c.tc : Thread Cert.UpdateOutGainRefIdeal.nD Cert.UpdateOutGainRefIdeal.τ).loc Cert.UpdateOutGainRefIdeal.main_arg3))
      ∧ r.2.sem = fun _ => 0)

def quiescent_UpdateDecay [hUpdateDecay : Cert.UpdateDecay.Facts] : Prop :=
  ∀ (m : (ℓ : Loc Cert.UpdateDecay.nD Cert.UpdateDecay.τ Cert.UpdateDecay.sig) → Buf (Elt Bits) ℓ) (g : Dev Cert.UpdateDecay.nD → PrngReg), Pre_UpdateDecay m →
    θ_run (Cert.UpdateDecay.defs (F := Bits)) (onTc (τ := Cert.UpdateDecay.τ) (Cert.UpdateDecay.main (F := Bits))) ⟨m, fun _ => 0, g⟩ (fun r => (∀ c : Dev Cert.UpdateDecay.nD,
      r.2.mem ((c.tc : Thread Cert.UpdateDecay.nD Cert.UpdateDecay.τ).loc Cert.UpdateDecay.main_arg0) = m ((c.tc : Thread Cert.UpdateDecay.nD Cert.UpdateDecay.τ).loc Cert.UpdateDecay.main_arg0)
      ∧ r.2.mem ((c.tc : Thread Cert.UpdateDecay.nD Cert.UpdateDecay.τ).loc Cert.UpdateDecay.main_arg1) = m ((c.tc : Thread Cert.UpdateDecay.nD Cert.UpdateDecay.τ).loc Cert.UpdateDecay.main_arg1)
      ∧ r.2.mem ((c.tc : Thread Cert.UpdateDecay.nD Cert.UpdateDecay.τ).loc Cert.UpdateDecay.main_arg2) = m ((c.tc : Thread Cert.UpdateDecay.nD Cert.UpdateDecay.τ).loc Cert.UpdateDecay.main_arg2)
      ∧ r.2.mem ((c.tc : Thread Cert.UpdateDecay.nD Cert.UpdateDecay.τ).loc Cert.UpdateDecay.main_arg3) = m ((c.tc : Thread Cert.UpdateDecay.nD Cert.UpdateDecay.τ).loc Cert.UpdateDecay.main_arg3))
      ∧ r.2.sem = fun _ => 0)

def quiescent_UpdateDecayIdeal [hUpdateDecayIdeal : Cert.UpdateDecayIdeal.Facts] : Prop :=
  ∀ (m : (ℓ : Loc Cert.UpdateDecayIdeal.nD Cert.UpdateDecayIdeal.τ Cert.UpdateDecayIdeal.sig) → Buf (Elt Ideal) ℓ) (g : Dev Cert.UpdateDecayIdeal.nD → PrngReg), Pre_UpdateDecayIdeal m →
    θ_run (Cert.UpdateDecayIdeal.defs (F := Ideal)) (onTc (τ := Cert.UpdateDecayIdeal.τ) (Cert.UpdateDecayIdeal.main (F := Ideal))) ⟨m, fun _ => 0, g⟩ (fun r => (∀ c : Dev Cert.UpdateDecayIdeal.nD,
      r.2.mem ((c.tc : Thread Cert.UpdateDecayIdeal.nD Cert.UpdateDecayIdeal.τ).loc Cert.UpdateDecayIdeal.main_arg0) = m ((c.tc : Thread Cert.UpdateDecayIdeal.nD Cert.UpdateDecayIdeal.τ).loc Cert.UpdateDecayIdeal.main_arg0)
      ∧ r.2.mem ((c.tc : Thread Cert.UpdateDecayIdeal.nD Cert.UpdateDecayIdeal.τ).loc Cert.UpdateDecayIdeal.main_arg1) = m ((c.tc : Thread Cert.UpdateDecayIdeal.nD Cert.UpdateDecayIdeal.τ).loc Cert.UpdateDecayIdeal.main_arg1)
      ∧ r.2.mem ((c.tc : Thread Cert.UpdateDecayIdeal.nD Cert.UpdateDecayIdeal.τ).loc Cert.UpdateDecayIdeal.main_arg2) = m ((c.tc : Thread Cert.UpdateDecayIdeal.nD Cert.UpdateDecayIdeal.τ).loc Cert.UpdateDecayIdeal.main_arg2)
      ∧ r.2.mem ((c.tc : Thread Cert.UpdateDecayIdeal.nD Cert.UpdateDecayIdeal.τ).loc Cert.UpdateDecayIdeal.main_arg3) = m ((c.tc : Thread Cert.UpdateDecayIdeal.nD Cert.UpdateDecayIdeal.τ).loc Cert.UpdateDecayIdeal.main_arg3))
      ∧ r.2.sem = fun _ => 0)

def quiescent_UpdateDecayRefIdeal [hUpdateDecayRefIdeal : Cert.UpdateDecayRefIdeal.Facts] : Prop :=
  ∀ (m : (ℓ : Loc Cert.UpdateDecayRefIdeal.nD Cert.UpdateDecayRefIdeal.τ Cert.UpdateDecayRefIdeal.sig) → Buf (Elt Ideal) ℓ) (g : Dev Cert.UpdateDecayRefIdeal.nD → PrngReg), Pre_UpdateDecayRefIdeal m →
    θ_run (Cert.UpdateDecayRefIdeal.defs (F := Ideal)) (onTc (τ := Cert.UpdateDecayRefIdeal.τ) (Cert.UpdateDecayRefIdeal.main (F := Ideal))) ⟨m, fun _ => 0, g⟩ (fun r => (∀ c : Dev Cert.UpdateDecayRefIdeal.nD,
      r.2.mem ((c.tc : Thread Cert.UpdateDecayRefIdeal.nD Cert.UpdateDecayRefIdeal.τ).loc Cert.UpdateDecayRefIdeal.main_arg0) = m ((c.tc : Thread Cert.UpdateDecayRefIdeal.nD Cert.UpdateDecayRefIdeal.τ).loc Cert.UpdateDecayRefIdeal.main_arg0)
      ∧ r.2.mem ((c.tc : Thread Cert.UpdateDecayRefIdeal.nD Cert.UpdateDecayRefIdeal.τ).loc Cert.UpdateDecayRefIdeal.main_arg1) = m ((c.tc : Thread Cert.UpdateDecayRefIdeal.nD Cert.UpdateDecayRefIdeal.τ).loc Cert.UpdateDecayRefIdeal.main_arg1)
      ∧ r.2.mem ((c.tc : Thread Cert.UpdateDecayRefIdeal.nD Cert.UpdateDecayRefIdeal.τ).loc Cert.UpdateDecayRefIdeal.main_arg2) = m ((c.tc : Thread Cert.UpdateDecayRefIdeal.nD Cert.UpdateDecayRefIdeal.τ).loc Cert.UpdateDecayRefIdeal.main_arg2)
      ∧ r.2.mem ((c.tc : Thread Cert.UpdateDecayRefIdeal.nD Cert.UpdateDecayRefIdeal.τ).loc Cert.UpdateDecayRefIdeal.main_arg3) = m ((c.tc : Thread Cert.UpdateDecayRefIdeal.nD Cert.UpdateDecayRefIdeal.τ).loc Cert.UpdateDecayRefIdeal.main_arg3))
      ∧ r.2.sem = fun _ => 0)

def quiescent_UpdateConv [hUpdateConv : Cert.UpdateConv.Facts] : Prop :=
  ∀ (m : (ℓ : Loc Cert.UpdateConv.nD Cert.UpdateConv.τ Cert.UpdateConv.sig) → Buf (Elt Bits) ℓ) (g : Dev Cert.UpdateConv.nD → PrngReg), Pre_UpdateConv m →
    θ_run (Cert.UpdateConv.defs (F := Bits)) (onTc (τ := Cert.UpdateConv.τ) (Cert.UpdateConv.main (F := Bits))) ⟨m, fun _ => 0, g⟩ (fun r => (∀ c : Dev Cert.UpdateConv.nD,
      r.2.mem ((c.tc : Thread Cert.UpdateConv.nD Cert.UpdateConv.τ).loc Cert.UpdateConv.main_arg0) = m ((c.tc : Thread Cert.UpdateConv.nD Cert.UpdateConv.τ).loc Cert.UpdateConv.main_arg0)
      ∧ r.2.mem ((c.tc : Thread Cert.UpdateConv.nD Cert.UpdateConv.τ).loc Cert.UpdateConv.main_arg1) = m ((c.tc : Thread Cert.UpdateConv.nD Cert.UpdateConv.τ).loc Cert.UpdateConv.main_arg1)
      ∧ r.2.mem ((c.tc : Thread Cert.UpdateConv.nD Cert.UpdateConv.τ).loc Cert.UpdateConv.main_arg2) = m ((c.tc : Thread Cert.UpdateConv.nD Cert.UpdateConv.τ).loc Cert.UpdateConv.main_arg2)
      ∧ r.2.mem ((c.tc : Thread Cert.UpdateConv.nD Cert.UpdateConv.τ).loc Cert.UpdateConv.main_arg3) = m ((c.tc : Thread Cert.UpdateConv.nD Cert.UpdateConv.τ).loc Cert.UpdateConv.main_arg3))
      ∧ r.2.sem = fun _ => 0)

def quiescent_UpdateConvIdeal [hUpdateConvIdeal : Cert.UpdateConvIdeal.Facts] : Prop :=
  ∀ (m : (ℓ : Loc Cert.UpdateConvIdeal.nD Cert.UpdateConvIdeal.τ Cert.UpdateConvIdeal.sig) → Buf (Elt Ideal) ℓ) (g : Dev Cert.UpdateConvIdeal.nD → PrngReg), Pre_UpdateConvIdeal m →
    θ_run (Cert.UpdateConvIdeal.defs (F := Ideal)) (onTc (τ := Cert.UpdateConvIdeal.τ) (Cert.UpdateConvIdeal.main (F := Ideal))) ⟨m, fun _ => 0, g⟩ (fun r => (∀ c : Dev Cert.UpdateConvIdeal.nD,
      r.2.mem ((c.tc : Thread Cert.UpdateConvIdeal.nD Cert.UpdateConvIdeal.τ).loc Cert.UpdateConvIdeal.main_arg0) = m ((c.tc : Thread Cert.UpdateConvIdeal.nD Cert.UpdateConvIdeal.τ).loc Cert.UpdateConvIdeal.main_arg0)
      ∧ r.2.mem ((c.tc : Thread Cert.UpdateConvIdeal.nD Cert.UpdateConvIdeal.τ).loc Cert.UpdateConvIdeal.main_arg1) = m ((c.tc : Thread Cert.UpdateConvIdeal.nD Cert.UpdateConvIdeal.τ).loc Cert.UpdateConvIdeal.main_arg1)
      ∧ r.2.mem ((c.tc : Thread Cert.UpdateConvIdeal.nD Cert.UpdateConvIdeal.τ).loc Cert.UpdateConvIdeal.main_arg2) = m ((c.tc : Thread Cert.UpdateConvIdeal.nD Cert.UpdateConvIdeal.τ).loc Cert.UpdateConvIdeal.main_arg2)
      ∧ r.2.mem ((c.tc : Thread Cert.UpdateConvIdeal.nD Cert.UpdateConvIdeal.τ).loc Cert.UpdateConvIdeal.main_arg3) = m ((c.tc : Thread Cert.UpdateConvIdeal.nD Cert.UpdateConvIdeal.τ).loc Cert.UpdateConvIdeal.main_arg3))
      ∧ r.2.sem = fun _ => 0)

def quiescent_UpdateConvRefIdeal [hUpdateConvRefIdeal : Cert.UpdateConvRefIdeal.Facts] : Prop :=
  ∀ (m : (ℓ : Loc Cert.UpdateConvRefIdeal.nD Cert.UpdateConvRefIdeal.τ Cert.UpdateConvRefIdeal.sig) → Buf (Elt Ideal) ℓ) (g : Dev Cert.UpdateConvRefIdeal.nD → PrngReg), Pre_UpdateConvRefIdeal m →
    θ_run (Cert.UpdateConvRefIdeal.defs (F := Ideal)) (onTc (τ := Cert.UpdateConvRefIdeal.τ) (Cert.UpdateConvRefIdeal.main (F := Ideal))) ⟨m, fun _ => 0, g⟩ (fun r => (∀ c : Dev Cert.UpdateConvRefIdeal.nD,
      r.2.mem ((c.tc : Thread Cert.UpdateConvRefIdeal.nD Cert.UpdateConvRefIdeal.τ).loc Cert.UpdateConvRefIdeal.main_arg0) = m ((c.tc : Thread Cert.UpdateConvRefIdeal.nD Cert.UpdateConvRefIdeal.τ).loc Cert.UpdateConvRefIdeal.main_arg0)
      ∧ r.2.mem ((c.tc : Thread Cert.UpdateConvRefIdeal.nD Cert.UpdateConvRefIdeal.τ).loc Cert.UpdateConvRefIdeal.main_arg1) = m ((c.tc : Thread Cert.UpdateConvRefIdeal.nD Cert.UpdateConvRefIdeal.τ).loc Cert.UpdateConvRefIdeal.main_arg1)
      ∧ r.2.mem ((c.tc : Thread Cert.UpdateConvRefIdeal.nD Cert.UpdateConvRefIdeal.τ).loc Cert.UpdateConvRefIdeal.main_arg2) = m ((c.tc : Thread Cert.UpdateConvRefIdeal.nD Cert.UpdateConvRefIdeal.τ).loc Cert.UpdateConvRefIdeal.main_arg2)
      ∧ r.2.mem ((c.tc : Thread Cert.UpdateConvRefIdeal.nD Cert.UpdateConvRefIdeal.τ).loc Cert.UpdateConvRefIdeal.main_arg3) = m ((c.tc : Thread Cert.UpdateConvRefIdeal.nD Cert.UpdateConvRefIdeal.τ).loc Cert.UpdateConvRefIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_SbOutDw [hSbOutDw : Cert.SbOutDw.Facts] : Prop :=
  ∀ (m : (ℓ : Loc Cert.SbOutDw.nD Cert.SbOutDw.τ Cert.SbOutDw.sig) → Buf (Elt Bits) ℓ) (g : Dev Cert.SbOutDw.nD → PrngReg), Pre_SbOutDw m →
    θ_run (Cert.SbOutDw.defs (F := Bits)) (onTc (τ := Cert.SbOutDw.τ) (Cert.SbOutDw.main (F := Bits))) ⟨m, fun _ => 0, g⟩ (fun r => (∀ c : Dev Cert.SbOutDw.nD,
      r.2.mem ((c.tc : Thread Cert.SbOutDw.nD Cert.SbOutDw.τ).loc Cert.SbOutDw.main_arg0) = m ((c.tc : Thread Cert.SbOutDw.nD Cert.SbOutDw.τ).loc Cert.SbOutDw.main_arg0)
      ∧ r.2.mem ((c.tc : Thread Cert.SbOutDw.nD Cert.SbOutDw.τ).loc Cert.SbOutDw.main_arg1) = m ((c.tc : Thread Cert.SbOutDw.nD Cert.SbOutDw.τ).loc Cert.SbOutDw.main_arg1))
      ∧ r.2.sem = fun _ => 0)

def quiescent_SbOutDwIdeal [hSbOutDwIdeal : Cert.SbOutDwIdeal.Facts] : Prop :=
  ∀ (m : (ℓ : Loc Cert.SbOutDwIdeal.nD Cert.SbOutDwIdeal.τ Cert.SbOutDwIdeal.sig) → Buf (Elt Ideal) ℓ) (g : Dev Cert.SbOutDwIdeal.nD → PrngReg), Pre_SbOutDwIdeal m →
    θ_run (Cert.SbOutDwIdeal.defs (F := Ideal)) (onTc (τ := Cert.SbOutDwIdeal.τ) (Cert.SbOutDwIdeal.main (F := Ideal))) ⟨m, fun _ => 0, g⟩ (fun r => (∀ c : Dev Cert.SbOutDwIdeal.nD,
      r.2.mem ((c.tc : Thread Cert.SbOutDwIdeal.nD Cert.SbOutDwIdeal.τ).loc Cert.SbOutDwIdeal.main_arg0) = m ((c.tc : Thread Cert.SbOutDwIdeal.nD Cert.SbOutDwIdeal.τ).loc Cert.SbOutDwIdeal.main_arg0)
      ∧ r.2.mem ((c.tc : Thread Cert.SbOutDwIdeal.nD Cert.SbOutDwIdeal.τ).loc Cert.SbOutDwIdeal.main_arg1) = m ((c.tc : Thread Cert.SbOutDwIdeal.nD Cert.SbOutDwIdeal.τ).loc Cert.SbOutDwIdeal.main_arg1))
      ∧ r.2.sem = fun _ => 0)

def quiescent_SbOutDwRefIdeal [hSbOutDwRefIdeal : Cert.SbOutDwRefIdeal.Facts] : Prop :=
  ∀ (m : (ℓ : Loc Cert.SbOutDwRefIdeal.nD Cert.SbOutDwRefIdeal.τ Cert.SbOutDwRefIdeal.sig) → Buf (Elt Ideal) ℓ) (g : Dev Cert.SbOutDwRefIdeal.nD → PrngReg), Pre_SbOutDwRefIdeal m →
    θ_run (Cert.SbOutDwRefIdeal.defs (F := Ideal)) (onTc (τ := Cert.SbOutDwRefIdeal.τ) (Cert.SbOutDwRefIdeal.main (F := Ideal))) ⟨m, fun _ => 0, g⟩ (fun r => (∀ c : Dev Cert.SbOutDwRefIdeal.nD,
      r.2.mem ((c.tc : Thread Cert.SbOutDwRefIdeal.nD Cert.SbOutDwRefIdeal.τ).loc Cert.SbOutDwRefIdeal.main_arg0) = m ((c.tc : Thread Cert.SbOutDwRefIdeal.nD Cert.SbOutDwRefIdeal.τ).loc Cert.SbOutDwRefIdeal.main_arg0)
      ∧ r.2.mem ((c.tc : Thread Cert.SbOutDwRefIdeal.nD Cert.SbOutDwRefIdeal.τ).loc Cert.SbOutDwRefIdeal.main_arg1) = m ((c.tc : Thread Cert.SbOutDwRefIdeal.nD Cert.SbOutDwRefIdeal.τ).loc Cert.SbOutDwRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Relu [hRelu : Cert.Relu.Facts] : Prop :=
  ∀ (m : (ℓ : Loc Cert.Relu.nD Cert.Relu.τ Cert.Relu.sig) → Buf (Elt Bits) ℓ) (g : Dev Cert.Relu.nD → PrngReg), Pre_Relu m →
    θ_run (Cert.Relu.defs (F := Bits)) (onTc (τ := Cert.Relu.τ) (Cert.Relu.main (F := Bits))) ⟨m, fun _ => 0, g⟩ (fun r => (∀ c : Dev Cert.Relu.nD,
      r.2.mem ((c.tc : Thread Cert.Relu.nD Cert.Relu.τ).loc Cert.Relu.main_arg0) = m ((c.tc : Thread Cert.Relu.nD Cert.Relu.τ).loc Cert.Relu.main_arg0))
      ∧ r.2.sem = fun _ => 0)

def quiescent_ReluIdeal [hReluIdeal : Cert.ReluIdeal.Facts] : Prop :=
  ∀ (m : (ℓ : Loc Cert.ReluIdeal.nD Cert.ReluIdeal.τ Cert.ReluIdeal.sig) → Buf (Elt Ideal) ℓ) (g : Dev Cert.ReluIdeal.nD → PrngReg), Pre_ReluIdeal m →
    θ_run (Cert.ReluIdeal.defs (F := Ideal)) (onTc (τ := Cert.ReluIdeal.τ) (Cert.ReluIdeal.main (F := Ideal))) ⟨m, fun _ => 0, g⟩ (fun r => (∀ c : Dev Cert.ReluIdeal.nD,
      r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0))
      ∧ r.2.sem = fun _ => 0)

def quiescent_ReluRefIdeal [hReluRefIdeal : Cert.ReluRefIdeal.Facts] : Prop :=
  ∀ (m : (ℓ : Loc Cert.ReluRefIdeal.nD Cert.ReluRefIdeal.τ Cert.ReluRefIdeal.sig) → Buf (Elt Ideal) ℓ) (g : Dev Cert.ReluRefIdeal.nD → PrngReg), Pre_ReluRefIdeal m →
    θ_run (Cert.ReluRefIdeal.defs (F := Ideal)) (onTc (τ := Cert.ReluRefIdeal.τ) (Cert.ReluRefIdeal.main (F := Ideal))) ⟨m, fun _ => 0, g⟩ (fun r => (∀ c : Dev Cert.ReluRefIdeal.nD,
      r.2.mem ((c.tc : Thread Cert.ReluRefIdeal.nD Cert.ReluRefIdeal.τ).loc Cert.ReluRefIdeal.main_arg0) = m ((c.tc : Thread Cert.ReluRefIdeal.nD Cert.ReluRefIdeal.τ).loc Cert.ReluRefIdeal.main_arg0))
      ∧ r.2.sem = fun _ => 0)

def quiescent_ReluBack [hReluBack : Cert.ReluBack.Facts] : Prop :=
  ∀ (m : (ℓ : Loc Cert.ReluBack.nD Cert.ReluBack.τ Cert.ReluBack.sig) → Buf (Elt Bits) ℓ) (g : Dev Cert.ReluBack.nD → PrngReg), Pre_ReluBack m →
    θ_run (Cert.ReluBack.defs (F := Bits)) (onTc (τ := Cert.ReluBack.τ) (Cert.ReluBack.main (F := Bits))) ⟨m, fun _ => 0, g⟩ (fun r => (∀ c : Dev Cert.ReluBack.nD,
      r.2.mem ((c.tc : Thread Cert.ReluBack.nD Cert.ReluBack.τ).loc Cert.ReluBack.main_arg0) = m ((c.tc : Thread Cert.ReluBack.nD Cert.ReluBack.τ).loc Cert.ReluBack.main_arg0)
      ∧ r.2.mem ((c.tc : Thread Cert.ReluBack.nD Cert.ReluBack.τ).loc Cert.ReluBack.main_arg1) = m ((c.tc : Thread Cert.ReluBack.nD Cert.ReluBack.τ).loc Cert.ReluBack.main_arg1))
      ∧ r.2.sem = fun _ => 0)

def quiescent_ReluBackIdeal [hReluBackIdeal : Cert.ReluBackIdeal.Facts] : Prop :=
  ∀ (m : (ℓ : Loc Cert.ReluBackIdeal.nD Cert.ReluBackIdeal.τ Cert.ReluBackIdeal.sig) → Buf (Elt Ideal) ℓ) (g : Dev Cert.ReluBackIdeal.nD → PrngReg), Pre_ReluBackIdeal m →
    θ_run (Cert.ReluBackIdeal.defs (F := Ideal)) (onTc (τ := Cert.ReluBackIdeal.τ) (Cert.ReluBackIdeal.main (F := Ideal))) ⟨m, fun _ => 0, g⟩ (fun r => (∀ c : Dev Cert.ReluBackIdeal.nD,
      r.2.mem ((c.tc : Thread Cert.ReluBackIdeal.nD Cert.ReluBackIdeal.τ).loc Cert.ReluBackIdeal.main_arg0) = m ((c.tc : Thread Cert.ReluBackIdeal.nD Cert.ReluBackIdeal.τ).loc Cert.ReluBackIdeal.main_arg0)
      ∧ r.2.mem ((c.tc : Thread Cert.ReluBackIdeal.nD Cert.ReluBackIdeal.τ).loc Cert.ReluBackIdeal.main_arg1) = m ((c.tc : Thread Cert.ReluBackIdeal.nD Cert.ReluBackIdeal.τ).loc Cert.ReluBackIdeal.main_arg1))
      ∧ r.2.sem = fun _ => 0)

def quiescent_ReluBackRefIdeal [hReluBackRefIdeal : Cert.ReluBackRefIdeal.Facts] : Prop :=
  ∀ (m : (ℓ : Loc Cert.ReluBackRefIdeal.nD Cert.ReluBackRefIdeal.τ Cert.ReluBackRefIdeal.sig) → Buf (Elt Ideal) ℓ) (g : Dev Cert.ReluBackRefIdeal.nD → PrngReg), Pre_ReluBackRefIdeal m →
    θ_run (Cert.ReluBackRefIdeal.defs (F := Ideal)) (onTc (τ := Cert.ReluBackRefIdeal.τ) (Cert.ReluBackRefIdeal.main (F := Ideal))) ⟨m, fun _ => 0, g⟩ (fun r => (∀ c : Dev Cert.ReluBackRefIdeal.nD,
      r.2.mem ((c.tc : Thread Cert.ReluBackRefIdeal.nD Cert.ReluBackRefIdeal.τ).loc Cert.ReluBackRefIdeal.main_arg0) = m ((c.tc : Thread Cert.ReluBackRefIdeal.nD Cert.ReluBackRefIdeal.τ).loc Cert.ReluBackRefIdeal.main_arg0)
      ∧ r.2.mem ((c.tc : Thread Cert.ReluBackRefIdeal.nD Cert.ReluBackRefIdeal.τ).loc Cert.ReluBackRefIdeal.main_arg1) = m ((c.tc : Thread Cert.ReluBackRefIdeal.nD Cert.ReluBackRefIdeal.τ).loc Cert.ReluBackRefIdeal.main_arg1))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1))
      ∧ r.2.sem = fun _ => 0)

def quiescent_NormInBack [hNormInBack : Cert.NormInBack.Facts] : Prop :=
  ∀ (m : (ℓ : Loc Cert.NormInBack.nD Cert.NormInBack.τ Cert.NormInBack.sig) → Buf (Elt Bits) ℓ) (g : Dev Cert.NormInBack.nD → PrngReg), Pre_NormInBack m →
    θ_run (Cert.NormInBack.defs (F := Bits)) (onTc (τ := Cert.NormInBack.τ) (Cert.NormInBack.main (F := Bits))) ⟨m, fun _ => 0, g⟩ (fun r => (∀ c : Dev Cert.NormInBack.nD,
      r.2.mem ((c.tc : Thread Cert.NormInBack.nD Cert.NormInBack.τ).loc Cert.NormInBack.main_arg0) = m ((c.tc : Thread Cert.NormInBack.nD Cert.NormInBack.τ).loc Cert.NormInBack.main_arg0)
      ∧ r.2.mem ((c.tc : Thread Cert.NormInBack.nD Cert.NormInBack.τ).loc Cert.NormInBack.main_arg1) = m ((c.tc : Thread Cert.NormInBack.nD Cert.NormInBack.τ).loc Cert.NormInBack.main_arg1)
      ∧ r.2.mem ((c.tc : Thread Cert.NormInBack.nD Cert.NormInBack.τ).loc Cert.NormInBack.main_arg2) = m ((c.tc : Thread Cert.NormInBack.nD Cert.NormInBack.τ).loc Cert.NormInBack.main_arg2))
      ∧ r.2.sem = fun _ => 0)

def quiescent_NormInBackIdeal [hNormInBackIdeal : Cert.NormInBackIdeal.Facts] : Prop :=
  ∀ (m : (ℓ : Loc Cert.NormInBackIdeal.nD Cert.NormInBackIdeal.τ Cert.NormInBackIdeal.sig) → Buf (Elt Ideal) ℓ) (g : Dev Cert.NormInBackIdeal.nD → PrngReg), Pre_NormInBackIdeal m →
    θ_run (Cert.NormInBackIdeal.defs (F := Ideal)) (onTc (τ := Cert.NormInBackIdeal.τ) (Cert.NormInBackIdeal.main (F := Ideal))) ⟨m, fun _ => 0, g⟩ (fun r => (∀ c : Dev Cert.NormInBackIdeal.nD,
      r.2.mem ((c.tc : Thread Cert.NormInBackIdeal.nD Cert.NormInBackIdeal.τ).loc Cert.NormInBackIdeal.main_arg0) = m ((c.tc : Thread Cert.NormInBackIdeal.nD Cert.NormInBackIdeal.τ).loc Cert.NormInBackIdeal.main_arg0)
      ∧ r.2.mem ((c.tc : Thread Cert.NormInBackIdeal.nD Cert.NormInBackIdeal.τ).loc Cert.NormInBackIdeal.main_arg1) = m ((c.tc : Thread Cert.NormInBackIdeal.nD Cert.NormInBackIdeal.τ).loc Cert.NormInBackIdeal.main_arg1)
      ∧ r.2.mem ((c.tc : Thread Cert.NormInBackIdeal.nD Cert.NormInBackIdeal.τ).loc Cert.NormInBackIdeal.main_arg2) = m ((c.tc : Thread Cert.NormInBackIdeal.nD Cert.NormInBackIdeal.τ).loc Cert.NormInBackIdeal.main_arg2))
      ∧ r.2.sem = fun _ => 0)

def quiescent_NormInBackRefIdeal [hNormInBackRefIdeal : Cert.NormInBackRefIdeal.Facts] : Prop :=
  ∀ (m : (ℓ : Loc Cert.NormInBackRefIdeal.nD Cert.NormInBackRefIdeal.τ Cert.NormInBackRefIdeal.sig) → Buf (Elt Ideal) ℓ) (g : Dev Cert.NormInBackRefIdeal.nD → PrngReg), Pre_NormInBackRefIdeal m →
    θ_run (Cert.NormInBackRefIdeal.defs (F := Ideal)) (onTc (τ := Cert.NormInBackRefIdeal.τ) (Cert.NormInBackRefIdeal.main (F := Ideal))) ⟨m, fun _ => 0, g⟩ (fun r => (∀ c : Dev Cert.NormInBackRefIdeal.nD,
      r.2.mem ((c.tc : Thread Cert.NormInBackRefIdeal.nD Cert.NormInBackRefIdeal.τ).loc Cert.NormInBackRefIdeal.main_arg0) = m ((c.tc : Thread Cert.NormInBackRefIdeal.nD Cert.NormInBackRefIdeal.τ).loc Cert.NormInBackRefIdeal.main_arg0)
      ∧ r.2.mem ((c.tc : Thread Cert.NormInBackRefIdeal.nD Cert.NormInBackRefIdeal.τ).loc Cert.NormInBackRefIdeal.main_arg1) = m ((c.tc : Thread Cert.NormInBackRefIdeal.nD Cert.NormInBackRefIdeal.τ).loc Cert.NormInBackRefIdeal.main_arg1)
      ∧ r.2.mem ((c.tc : Thread Cert.NormInBackRefIdeal.nD Cert.NormInBackRefIdeal.τ).loc Cert.NormInBackRefIdeal.main_arg2) = m ((c.tc : Thread Cert.NormInBackRefIdeal.nD Cert.NormInBackRefIdeal.τ).loc Cert.NormInBackRefIdeal.main_arg2))
      ∧ r.2.sem = fun _ => 0)

def quiescent_ResNormBack [hResNormBack : Cert.ResNormBack.Facts] : Prop :=
  ∀ (m : (ℓ : Loc Cert.ResNormBack.nD Cert.ResNormBack.τ Cert.ResNormBack.sig) → Buf (Elt Bits) ℓ) (g : Dev Cert.ResNormBack.nD → PrngReg), Pre_ResNormBack m →
    θ_run (Cert.ResNormBack.defs (F := Bits)) (onTc (τ := Cert.ResNormBack.τ) (Cert.ResNormBack.main (F := Bits))) ⟨m, fun _ => 0, g⟩ (fun r => (∀ c : Dev Cert.ResNormBack.nD,
      r.2.mem ((c.tc : Thread Cert.ResNormBack.nD Cert.ResNormBack.τ).loc Cert.ResNormBack.main_arg0) = m ((c.tc : Thread Cert.ResNormBack.nD Cert.ResNormBack.τ).loc Cert.ResNormBack.main_arg0)
      ∧ r.2.mem ((c.tc : Thread Cert.ResNormBack.nD Cert.ResNormBack.τ).loc Cert.ResNormBack.main_arg1) = m ((c.tc : Thread Cert.ResNormBack.nD Cert.ResNormBack.τ).loc Cert.ResNormBack.main_arg1)
      ∧ r.2.mem ((c.tc : Thread Cert.ResNormBack.nD Cert.ResNormBack.τ).loc Cert.ResNormBack.main_arg2) = m ((c.tc : Thread Cert.ResNormBack.nD Cert.ResNormBack.τ).loc Cert.ResNormBack.main_arg2)
      ∧ r.2.mem ((c.tc : Thread Cert.ResNormBack.nD Cert.ResNormBack.τ).loc Cert.ResNormBack.main_arg3) = m ((c.tc : Thread Cert.ResNormBack.nD Cert.ResNormBack.τ).loc Cert.ResNormBack.main_arg3)
      ∧ r.2.mem ((c.tc : Thread Cert.ResNormBack.nD Cert.ResNormBack.τ).loc Cert.ResNormBack.main_arg4) = m ((c.tc : Thread Cert.ResNormBack.nD Cert.ResNormBack.τ).loc Cert.ResNormBack.main_arg4)
      ∧ r.2.mem ((c.tc : Thread Cert.ResNormBack.nD Cert.ResNormBack.τ).loc Cert.ResNormBack.main_arg5) = m ((c.tc : Thread Cert.ResNormBack.nD Cert.ResNormBack.τ).loc Cert.ResNormBack.main_arg5))
      ∧ r.2.sem = fun _ => 0)

def quiescent_ResNormBackIdeal [hResNormBackIdeal : Cert.ResNormBackIdeal.Facts] : Prop :=
  ∀ (m : (ℓ : Loc Cert.ResNormBackIdeal.nD Cert.ResNormBackIdeal.τ Cert.ResNormBackIdeal.sig) → Buf (Elt Ideal) ℓ) (g : Dev Cert.ResNormBackIdeal.nD → PrngReg), Pre_ResNormBackIdeal m →
    θ_run (Cert.ResNormBackIdeal.defs (F := Ideal)) (onTc (τ := Cert.ResNormBackIdeal.τ) (Cert.ResNormBackIdeal.main (F := Ideal))) ⟨m, fun _ => 0, g⟩ (fun r => (∀ c : Dev Cert.ResNormBackIdeal.nD,
      r.2.mem ((c.tc : Thread Cert.ResNormBackIdeal.nD Cert.ResNormBackIdeal.τ).loc Cert.ResNormBackIdeal.main_arg0) = m ((c.tc : Thread Cert.ResNormBackIdeal.nD Cert.ResNormBackIdeal.τ).loc Cert.ResNormBackIdeal.main_arg0)
      ∧ r.2.mem ((c.tc : Thread Cert.ResNormBackIdeal.nD Cert.ResNormBackIdeal.τ).loc Cert.ResNormBackIdeal.main_arg1) = m ((c.tc : Thread Cert.ResNormBackIdeal.nD Cert.ResNormBackIdeal.τ).loc Cert.ResNormBackIdeal.main_arg1)
      ∧ r.2.mem ((c.tc : Thread Cert.ResNormBackIdeal.nD Cert.ResNormBackIdeal.τ).loc Cert.ResNormBackIdeal.main_arg2) = m ((c.tc : Thread Cert.ResNormBackIdeal.nD Cert.ResNormBackIdeal.τ).loc Cert.ResNormBackIdeal.main_arg2)
      ∧ r.2.mem ((c.tc : Thread Cert.ResNormBackIdeal.nD Cert.ResNormBackIdeal.τ).loc Cert.ResNormBackIdeal.main_arg3) = m ((c.tc : Thread Cert.ResNormBackIdeal.nD Cert.ResNormBackIdeal.τ).loc Cert.ResNormBackIdeal.main_arg3)
      ∧ r.2.mem ((c.tc : Thread Cert.ResNormBackIdeal.nD Cert.ResNormBackIdeal.τ).loc Cert.ResNormBackIdeal.main_arg4) = m ((c.tc : Thread Cert.ResNormBackIdeal.nD Cert.ResNormBackIdeal.τ).loc Cert.ResNormBackIdeal.main_arg4)
      ∧ r.2.mem ((c.tc : Thread Cert.ResNormBackIdeal.nD Cert.ResNormBackIdeal.τ).loc Cert.ResNormBackIdeal.main_arg5) = m ((c.tc : Thread Cert.ResNormBackIdeal.nD Cert.ResNormBackIdeal.τ).loc Cert.ResNormBackIdeal.main_arg5))
      ∧ r.2.sem = fun _ => 0)

def quiescent_ResNormBackRefIdeal [hResNormBackRefIdeal : Cert.ResNormBackRefIdeal.Facts] : Prop :=
  ∀ (m : (ℓ : Loc Cert.ResNormBackRefIdeal.nD Cert.ResNormBackRefIdeal.τ Cert.ResNormBackRefIdeal.sig) → Buf (Elt Ideal) ℓ) (g : Dev Cert.ResNormBackRefIdeal.nD → PrngReg), Pre_ResNormBackRefIdeal m →
    θ_run (Cert.ResNormBackRefIdeal.defs (F := Ideal)) (onTc (τ := Cert.ResNormBackRefIdeal.τ) (Cert.ResNormBackRefIdeal.main (F := Ideal))) ⟨m, fun _ => 0, g⟩ (fun r => (∀ c : Dev Cert.ResNormBackRefIdeal.nD,
      r.2.mem ((c.tc : Thread Cert.ResNormBackRefIdeal.nD Cert.ResNormBackRefIdeal.τ).loc Cert.ResNormBackRefIdeal.main_arg0) = m ((c.tc : Thread Cert.ResNormBackRefIdeal.nD Cert.ResNormBackRefIdeal.τ).loc Cert.ResNormBackRefIdeal.main_arg0)
      ∧ r.2.mem ((c.tc : Thread Cert.ResNormBackRefIdeal.nD Cert.ResNormBackRefIdeal.τ).loc Cert.ResNormBackRefIdeal.main_arg1) = m ((c.tc : Thread Cert.ResNormBackRefIdeal.nD Cert.ResNormBackRefIdeal.τ).loc Cert.ResNormBackRefIdeal.main_arg1)
      ∧ r.2.mem ((c.tc : Thread Cert.ResNormBackRefIdeal.nD Cert.ResNormBackRefIdeal.τ).loc Cert.ResNormBackRefIdeal.main_arg2) = m ((c.tc : Thread Cert.ResNormBackRefIdeal.nD Cert.ResNormBackRefIdeal.τ).loc Cert.ResNormBackRefIdeal.main_arg2)
      ∧ r.2.mem ((c.tc : Thread Cert.ResNormBackRefIdeal.nD Cert.ResNormBackRefIdeal.τ).loc Cert.ResNormBackRefIdeal.main_arg3) = m ((c.tc : Thread Cert.ResNormBackRefIdeal.nD Cert.ResNormBackRefIdeal.τ).loc Cert.ResNormBackRefIdeal.main_arg3)
      ∧ r.2.mem ((c.tc : Thread Cert.ResNormBackRefIdeal.nD Cert.ResNormBackRefIdeal.τ).loc Cert.ResNormBackRefIdeal.main_arg4) = m ((c.tc : Thread Cert.ResNormBackRefIdeal.nD Cert.ResNormBackRefIdeal.τ).loc Cert.ResNormBackRefIdeal.main_arg4)
      ∧ r.2.mem ((c.tc : Thread Cert.ResNormBackRefIdeal.nD Cert.ResNormBackRefIdeal.τ).loc Cert.ResNormBackRefIdeal.main_arg5) = m ((c.tc : Thread Cert.ResNormBackRefIdeal.nD Cert.ResNormBackRefIdeal.τ).loc Cert.ResNormBackRefIdeal.main_arg5))
      ∧ r.2.sem = fun _ => 0)

def quiescent_ResNorm [hResNorm : Cert.ResNorm.Facts] : Prop :=
  ∀ (m : (ℓ : Loc Cert.ResNorm.nD Cert.ResNorm.τ Cert.ResNorm.sig) → Buf (Elt Bits) ℓ) (g : Dev Cert.ResNorm.nD → PrngReg), Pre_ResNorm m →
    θ_run (Cert.ResNorm.defs (F := Bits)) (onTc (τ := Cert.ResNorm.τ) (Cert.ResNorm.main (F := Bits))) ⟨m, fun _ => 0, g⟩ (fun r => (∀ c : Dev Cert.ResNorm.nD,
      r.2.mem ((c.tc : Thread Cert.ResNorm.nD Cert.ResNorm.τ).loc Cert.ResNorm.main_arg0) = m ((c.tc : Thread Cert.ResNorm.nD Cert.ResNorm.τ).loc Cert.ResNorm.main_arg0)
      ∧ r.2.mem ((c.tc : Thread Cert.ResNorm.nD Cert.ResNorm.τ).loc Cert.ResNorm.main_arg1) = m ((c.tc : Thread Cert.ResNorm.nD Cert.ResNorm.τ).loc Cert.ResNorm.main_arg1)
      ∧ r.2.mem ((c.tc : Thread Cert.ResNorm.nD Cert.ResNorm.τ).loc Cert.ResNorm.main_arg2) = m ((c.tc : Thread Cert.ResNorm.nD Cert.ResNorm.τ).loc Cert.ResNorm.main_arg2)
      ∧ r.2.mem ((c.tc : Thread Cert.ResNorm.nD Cert.ResNorm.τ).loc Cert.ResNorm.main_arg3) = m ((c.tc : Thread Cert.ResNorm.nD Cert.ResNorm.τ).loc Cert.ResNorm.main_arg3))
      ∧ r.2.sem = fun _ => 0)

def quiescent_ResNormIdeal [hResNormIdeal : Cert.ResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg), Pre_ResNormIdeal m →
    θ_run (Cert.ResNormIdeal.defs (F := Ideal)) (onTc (τ := Cert.ResNormIdeal.τ) (Cert.ResNormIdeal.main (F := Ideal))) ⟨m, fun _ => 0, g⟩ (fun r => (∀ c : Dev Cert.ResNormIdeal.nD,
      r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
      ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
      ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
      ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ r.2.sem = fun _ => 0)

def quiescent_ResNormRefIdeal [hResNormRefIdeal : Cert.ResNormRefIdeal.Facts] : Prop :=
  ∀ (m : (ℓ : Loc Cert.ResNormRefIdeal.nD Cert.ResNormRefIdeal.τ Cert.ResNormRefIdeal.sig) → Buf (Elt Ideal) ℓ) (g : Dev Cert.ResNormRefIdeal.nD → PrngReg), Pre_ResNormRefIdeal m →
    θ_run (Cert.ResNormRefIdeal.defs (F := Ideal)) (onTc (τ := Cert.ResNormRefIdeal.τ) (Cert.ResNormRefIdeal.main (F := Ideal))) ⟨m, fun _ => 0, g⟩ (fun r => (∀ c : Dev Cert.ResNormRefIdeal.nD,
      r.2.mem ((c.tc : Thread Cert.ResNormRefIdeal.nD Cert.ResNormRefIdeal.τ).loc Cert.ResNormRefIdeal.main_arg0) = m ((c.tc : Thread Cert.ResNormRefIdeal.nD Cert.ResNormRefIdeal.τ).loc Cert.ResNormRefIdeal.main_arg0)
      ∧ r.2.mem ((c.tc : Thread Cert.ResNormRefIdeal.nD Cert.ResNormRefIdeal.τ).loc Cert.ResNormRefIdeal.main_arg1) = m ((c.tc : Thread Cert.ResNormRefIdeal.nD Cert.ResNormRefIdeal.τ).loc Cert.ResNormRefIdeal.main_arg1)
      ∧ r.2.mem ((c.tc : Thread Cert.ResNormRefIdeal.nD Cert.ResNormRefIdeal.τ).loc Cert.ResNormRefIdeal.main_arg2) = m ((c.tc : Thread Cert.ResNormRefIdeal.nD Cert.ResNormRefIdeal.τ).loc Cert.ResNormRefIdeal.main_arg2)
      ∧ r.2.mem ((c.tc : Thread Cert.ResNormRefIdeal.nD Cert.ResNormRefIdeal.τ).loc Cert.ResNormRefIdeal.main_arg3) = m ((c.tc : Thread Cert.ResNormRefIdeal.nD Cert.ResNormRefIdeal.τ).loc Cert.ResNormRefIdeal.main_arg3))
      ∧ r.2.sem = fun _ => 0)

def quiescent_ResNorms [hResNorms : Cert.ResNorms.Facts] : Prop :=
  ∀ (m : (ℓ : Loc Cert.ResNorms.nD Cert.ResNorms.τ Cert.ResNorms.sig) → Buf (Elt Bits) ℓ) (g : Dev Cert.ResNorms.nD → PrngReg), Pre_ResNorms m →
    θ_run (Cert.ResNorms.defs (F := Bits)) (onTc (τ := Cert.ResNorms.τ) (Cert.ResNorms.main (F := Bits))) ⟨m, fun _ => 0, g⟩ (fun r => (∀ c : Dev Cert.ResNorms.nD,
      r.2.mem ((c.tc : Thread Cert.ResNorms.nD Cert.ResNorms.τ).loc Cert.ResNorms.main_arg0) = m ((c.tc : Thread Cert.ResNorms.nD Cert.ResNorms.τ).loc Cert.ResNorms.main_arg0)
      ∧ r.2.mem ((c.tc : Thread Cert.ResNorms.nD Cert.ResNorms.τ).loc Cert.ResNorms.main_arg1) = m ((c.tc : Thread Cert.ResNorms.nD Cert.ResNorms.τ).loc Cert.ResNorms.main_arg1)
      ∧ r.2.mem ((c.tc : Thread Cert.ResNorms.nD Cert.ResNorms.τ).loc Cert.ResNorms.main_arg2) = m ((c.tc : Thread Cert.ResNorms.nD Cert.ResNorms.τ).loc Cert.ResNorms.main_arg2)
      ∧ r.2.mem ((c.tc : Thread Cert.ResNorms.nD Cert.ResNorms.τ).loc Cert.ResNorms.main_arg3) = m ((c.tc : Thread Cert.ResNorms.nD Cert.ResNorms.τ).loc Cert.ResNorms.main_arg3)
      ∧ r.2.mem ((c.tc : Thread Cert.ResNorms.nD Cert.ResNorms.τ).loc Cert.ResNorms.main_arg4) = m ((c.tc : Thread Cert.ResNorms.nD Cert.ResNorms.τ).loc Cert.ResNorms.main_arg4))
      ∧ r.2.sem = fun _ => 0)

def quiescent_ResNormsIdeal [hResNormsIdeal : Cert.ResNormsIdeal.Facts] : Prop :=
  ∀ (m : (ℓ : Loc Cert.ResNormsIdeal.nD Cert.ResNormsIdeal.τ Cert.ResNormsIdeal.sig) → Buf (Elt Ideal) ℓ) (g : Dev Cert.ResNormsIdeal.nD → PrngReg), Pre_ResNormsIdeal m →
    θ_run (Cert.ResNormsIdeal.defs (F := Ideal)) (onTc (τ := Cert.ResNormsIdeal.τ) (Cert.ResNormsIdeal.main (F := Ideal))) ⟨m, fun _ => 0, g⟩ (fun r => (∀ c : Dev Cert.ResNormsIdeal.nD,
      r.2.mem ((c.tc : Thread Cert.ResNormsIdeal.nD Cert.ResNormsIdeal.τ).loc Cert.ResNormsIdeal.main_arg0) = m ((c.tc : Thread Cert.ResNormsIdeal.nD Cert.ResNormsIdeal.τ).loc Cert.ResNormsIdeal.main_arg0)
      ∧ r.2.mem ((c.tc : Thread Cert.ResNormsIdeal.nD Cert.ResNormsIdeal.τ).loc Cert.ResNormsIdeal.main_arg1) = m ((c.tc : Thread Cert.ResNormsIdeal.nD Cert.ResNormsIdeal.τ).loc Cert.ResNormsIdeal.main_arg1)
      ∧ r.2.mem ((c.tc : Thread Cert.ResNormsIdeal.nD Cert.ResNormsIdeal.τ).loc Cert.ResNormsIdeal.main_arg2) = m ((c.tc : Thread Cert.ResNormsIdeal.nD Cert.ResNormsIdeal.τ).loc Cert.ResNormsIdeal.main_arg2)
      ∧ r.2.mem ((c.tc : Thread Cert.ResNormsIdeal.nD Cert.ResNormsIdeal.τ).loc Cert.ResNormsIdeal.main_arg3) = m ((c.tc : Thread Cert.ResNormsIdeal.nD Cert.ResNormsIdeal.τ).loc Cert.ResNormsIdeal.main_arg3)
      ∧ r.2.mem ((c.tc : Thread Cert.ResNormsIdeal.nD Cert.ResNormsIdeal.τ).loc Cert.ResNormsIdeal.main_arg4) = m ((c.tc : Thread Cert.ResNormsIdeal.nD Cert.ResNormsIdeal.τ).loc Cert.ResNormsIdeal.main_arg4))
      ∧ r.2.sem = fun _ => 0)

def quiescent_ResNormsRefIdeal [hResNormsRefIdeal : Cert.ResNormsRefIdeal.Facts] : Prop :=
  ∀ (m : (ℓ : Loc Cert.ResNormsRefIdeal.nD Cert.ResNormsRefIdeal.τ Cert.ResNormsRefIdeal.sig) → Buf (Elt Ideal) ℓ) (g : Dev Cert.ResNormsRefIdeal.nD → PrngReg), Pre_ResNormsRefIdeal m →
    θ_run (Cert.ResNormsRefIdeal.defs (F := Ideal)) (onTc (τ := Cert.ResNormsRefIdeal.τ) (Cert.ResNormsRefIdeal.main (F := Ideal))) ⟨m, fun _ => 0, g⟩ (fun r => (∀ c : Dev Cert.ResNormsRefIdeal.nD,
      r.2.mem ((c.tc : Thread Cert.ResNormsRefIdeal.nD Cert.ResNormsRefIdeal.τ).loc Cert.ResNormsRefIdeal.main_arg0) = m ((c.tc : Thread Cert.ResNormsRefIdeal.nD Cert.ResNormsRefIdeal.τ).loc Cert.ResNormsRefIdeal.main_arg0)
      ∧ r.2.mem ((c.tc : Thread Cert.ResNormsRefIdeal.nD Cert.ResNormsRefIdeal.τ).loc Cert.ResNormsRefIdeal.main_arg1) = m ((c.tc : Thread Cert.ResNormsRefIdeal.nD Cert.ResNormsRefIdeal.τ).loc Cert.ResNormsRefIdeal.main_arg1)
      ∧ r.2.mem ((c.tc : Thread Cert.ResNormsRefIdeal.nD Cert.ResNormsRefIdeal.τ).loc Cert.ResNormsRefIdeal.main_arg2) = m ((c.tc : Thread Cert.ResNormsRefIdeal.nD Cert.ResNormsRefIdeal.τ).loc Cert.ResNormsRefIdeal.main_arg2)
      ∧ r.2.mem ((c.tc : Thread Cert.ResNormsRefIdeal.nD Cert.ResNormsRefIdeal.τ).loc Cert.ResNormsRefIdeal.main_arg3) = m ((c.tc : Thread Cert.ResNormsRefIdeal.nD Cert.ResNormsRefIdeal.τ).loc Cert.ResNormsRefIdeal.main_arg3)
      ∧ r.2.mem ((c.tc : Thread Cert.ResNormsRefIdeal.nD Cert.ResNormsRefIdeal.τ).loc Cert.ResNormsRefIdeal.main_arg4) = m ((c.tc : Thread Cert.ResNormsRefIdeal.nD Cert.ResNormsRefIdeal.τ).loc Cert.ResNormsRefIdeal.main_arg4))
      ∧ r.2.sem = fun _ => 0)

def quiescent_ResNormsBack [hResNormsBack : Cert.ResNormsBack.Facts] : Prop :=
  ∀ (m : (ℓ : Loc Cert.ResNormsBack.nD Cert.ResNormsBack.τ Cert.ResNormsBack.sig) → Buf (Elt Bits) ℓ) (g : Dev Cert.ResNormsBack.nD → PrngReg), Pre_ResNormsBack m →
    θ_run (Cert.ResNormsBack.defs (F := Bits)) (onTc (τ := Cert.ResNormsBack.τ) (Cert.ResNormsBack.main (F := Bits))) ⟨m, fun _ => 0, g⟩ (fun r => (∀ c : Dev Cert.ResNormsBack.nD,
      r.2.mem ((c.tc : Thread Cert.ResNormsBack.nD Cert.ResNormsBack.τ).loc Cert.ResNormsBack.main_arg0) = m ((c.tc : Thread Cert.ResNormsBack.nD Cert.ResNormsBack.τ).loc Cert.ResNormsBack.main_arg0)
      ∧ r.2.mem ((c.tc : Thread Cert.ResNormsBack.nD Cert.ResNormsBack.τ).loc Cert.ResNormsBack.main_arg1) = m ((c.tc : Thread Cert.ResNormsBack.nD Cert.ResNormsBack.τ).loc Cert.ResNormsBack.main_arg1)
      ∧ r.2.mem ((c.tc : Thread Cert.ResNormsBack.nD Cert.ResNormsBack.τ).loc Cert.ResNormsBack.main_arg2) = m ((c.tc : Thread Cert.ResNormsBack.nD Cert.ResNormsBack.τ).loc Cert.ResNormsBack.main_arg2)
      ∧ r.2.mem ((c.tc : Thread Cert.ResNormsBack.nD Cert.ResNormsBack.τ).loc Cert.ResNormsBack.main_arg3) = m ((c.tc : Thread Cert.ResNormsBack.nD Cert.ResNormsBack.τ).loc Cert.ResNormsBack.main_arg3)
      ∧ r.2.mem ((c.tc : Thread Cert.ResNormsBack.nD Cert.ResNormsBack.τ).loc Cert.ResNormsBack.main_arg4) = m ((c.tc : Thread Cert.ResNormsBack.nD Cert.ResNormsBack.τ).loc Cert.ResNormsBack.main_arg4)
      ∧ r.2.mem ((c.tc : Thread Cert.ResNormsBack.nD Cert.ResNormsBack.τ).loc Cert.ResNormsBack.main_arg5) = m ((c.tc : Thread Cert.ResNormsBack.nD Cert.ResNormsBack.τ).loc Cert.ResNormsBack.main_arg5)
      ∧ r.2.mem ((c.tc : Thread Cert.ResNormsBack.nD Cert.ResNormsBack.τ).loc Cert.ResNormsBack.main_arg6) = m ((c.tc : Thread Cert.ResNormsBack.nD Cert.ResNormsBack.τ).loc Cert.ResNormsBack.main_arg6)
      ∧ r.2.mem ((c.tc : Thread Cert.ResNormsBack.nD Cert.ResNormsBack.τ).loc Cert.ResNormsBack.main_arg7) = m ((c.tc : Thread Cert.ResNormsBack.nD Cert.ResNormsBack.τ).loc Cert.ResNormsBack.main_arg7))
      ∧ r.2.sem = fun _ => 0)

def quiescent_ResNormsBackIdeal [hResNormsBackIdeal : Cert.ResNormsBackIdeal.Facts] : Prop :=
  ∀ (m : (ℓ : Loc Cert.ResNormsBackIdeal.nD Cert.ResNormsBackIdeal.τ Cert.ResNormsBackIdeal.sig) → Buf (Elt Ideal) ℓ) (g : Dev Cert.ResNormsBackIdeal.nD → PrngReg), Pre_ResNormsBackIdeal m →
    θ_run (Cert.ResNormsBackIdeal.defs (F := Ideal)) (onTc (τ := Cert.ResNormsBackIdeal.τ) (Cert.ResNormsBackIdeal.main (F := Ideal))) ⟨m, fun _ => 0, g⟩ (fun r => (∀ c : Dev Cert.ResNormsBackIdeal.nD,
      r.2.mem ((c.tc : Thread Cert.ResNormsBackIdeal.nD Cert.ResNormsBackIdeal.τ).loc Cert.ResNormsBackIdeal.main_arg0) = m ((c.tc : Thread Cert.ResNormsBackIdeal.nD Cert.ResNormsBackIdeal.τ).loc Cert.ResNormsBackIdeal.main_arg0)
      ∧ r.2.mem ((c.tc : Thread Cert.ResNormsBackIdeal.nD Cert.ResNormsBackIdeal.τ).loc Cert.ResNormsBackIdeal.main_arg1) = m ((c.tc : Thread Cert.ResNormsBackIdeal.nD Cert.ResNormsBackIdeal.τ).loc Cert.ResNormsBackIdeal.main_arg1)
      ∧ r.2.mem ((c.tc : Thread Cert.ResNormsBackIdeal.nD Cert.ResNormsBackIdeal.τ).loc Cert.ResNormsBackIdeal.main_arg2) = m ((c.tc : Thread Cert.ResNormsBackIdeal.nD Cert.ResNormsBackIdeal.τ).loc Cert.ResNormsBackIdeal.main_arg2)
      ∧ r.2.mem ((c.tc : Thread Cert.ResNormsBackIdeal.nD Cert.ResNormsBackIdeal.τ).loc Cert.ResNormsBackIdeal.main_arg3) = m ((c.tc : Thread Cert.ResNormsBackIdeal.nD Cert.ResNormsBackIdeal.τ).loc Cert.ResNormsBackIdeal.main_arg3)
      ∧ r.2.mem ((c.tc : Thread Cert.ResNormsBackIdeal.nD Cert.ResNormsBackIdeal.τ).loc Cert.ResNormsBackIdeal.main_arg4) = m ((c.tc : Thread Cert.ResNormsBackIdeal.nD Cert.ResNormsBackIdeal.τ).loc Cert.ResNormsBackIdeal.main_arg4)
      ∧ r.2.mem ((c.tc : Thread Cert.ResNormsBackIdeal.nD Cert.ResNormsBackIdeal.τ).loc Cert.ResNormsBackIdeal.main_arg5) = m ((c.tc : Thread Cert.ResNormsBackIdeal.nD Cert.ResNormsBackIdeal.τ).loc Cert.ResNormsBackIdeal.main_arg5)
      ∧ r.2.mem ((c.tc : Thread Cert.ResNormsBackIdeal.nD Cert.ResNormsBackIdeal.τ).loc Cert.ResNormsBackIdeal.main_arg6) = m ((c.tc : Thread Cert.ResNormsBackIdeal.nD Cert.ResNormsBackIdeal.τ).loc Cert.ResNormsBackIdeal.main_arg6)
      ∧ r.2.mem ((c.tc : Thread Cert.ResNormsBackIdeal.nD Cert.ResNormsBackIdeal.τ).loc Cert.ResNormsBackIdeal.main_arg7) = m ((c.tc : Thread Cert.ResNormsBackIdeal.nD Cert.ResNormsBackIdeal.τ).loc Cert.ResNormsBackIdeal.main_arg7))
      ∧ r.2.sem = fun _ => 0)

def quiescent_ResNormsBackRefIdeal [hResNormsBackRefIdeal : Cert.ResNormsBackRefIdeal.Facts] : Prop :=
  ∀ (m : (ℓ : Loc Cert.ResNormsBackRefIdeal.nD Cert.ResNormsBackRefIdeal.τ Cert.ResNormsBackRefIdeal.sig) → Buf (Elt Ideal) ℓ) (g : Dev Cert.ResNormsBackRefIdeal.nD → PrngReg), Pre_ResNormsBackRefIdeal m →
    θ_run (Cert.ResNormsBackRefIdeal.defs (F := Ideal)) (onTc (τ := Cert.ResNormsBackRefIdeal.τ) (Cert.ResNormsBackRefIdeal.main (F := Ideal))) ⟨m, fun _ => 0, g⟩ (fun r => (∀ c : Dev Cert.ResNormsBackRefIdeal.nD,
      r.2.mem ((c.tc : Thread Cert.ResNormsBackRefIdeal.nD Cert.ResNormsBackRefIdeal.τ).loc Cert.ResNormsBackRefIdeal.main_arg0) = m ((c.tc : Thread Cert.ResNormsBackRefIdeal.nD Cert.ResNormsBackRefIdeal.τ).loc Cert.ResNormsBackRefIdeal.main_arg0)
      ∧ r.2.mem ((c.tc : Thread Cert.ResNormsBackRefIdeal.nD Cert.ResNormsBackRefIdeal.τ).loc Cert.ResNormsBackRefIdeal.main_arg1) = m ((c.tc : Thread Cert.ResNormsBackRefIdeal.nD Cert.ResNormsBackRefIdeal.τ).loc Cert.ResNormsBackRefIdeal.main_arg1)
      ∧ r.2.mem ((c.tc : Thread Cert.ResNormsBackRefIdeal.nD Cert.ResNormsBackRefIdeal.τ).loc Cert.ResNormsBackRefIdeal.main_arg2) = m ((c.tc : Thread Cert.ResNormsBackRefIdeal.nD Cert.ResNormsBackRefIdeal.τ).loc Cert.ResNormsBackRefIdeal.main_arg2)
      ∧ r.2.mem ((c.tc : Thread Cert.ResNormsBackRefIdeal.nD Cert.ResNormsBackRefIdeal.τ).loc Cert.ResNormsBackRefIdeal.main_arg3) = m ((c.tc : Thread Cert.ResNormsBackRefIdeal.nD Cert.ResNormsBackRefIdeal.τ).loc Cert.ResNormsBackRefIdeal.main_arg3)
      ∧ r.2.mem ((c.tc : Thread Cert.ResNormsBackRefIdeal.nD Cert.ResNormsBackRefIdeal.τ).loc Cert.ResNormsBackRefIdeal.main_arg4) = m ((c.tc : Thread Cert.ResNormsBackRefIdeal.nD Cert.ResNormsBackRefIdeal.τ).loc Cert.ResNormsBackRefIdeal.main_arg4)
      ∧ r.2.mem ((c.tc : Thread Cert.ResNormsBackRefIdeal.nD Cert.ResNormsBackRefIdeal.τ).loc Cert.ResNormsBackRefIdeal.main_arg5) = m ((c.tc : Thread Cert.ResNormsBackRefIdeal.nD Cert.ResNormsBackRefIdeal.τ).loc Cert.ResNormsBackRefIdeal.main_arg5)
      ∧ r.2.mem ((c.tc : Thread Cert.ResNormsBackRefIdeal.nD Cert.ResNormsBackRefIdeal.τ).loc Cert.ResNormsBackRefIdeal.main_arg6) = m ((c.tc : Thread Cert.ResNormsBackRefIdeal.nD Cert.ResNormsBackRefIdeal.τ).loc Cert.ResNormsBackRefIdeal.main_arg6)
      ∧ r.2.mem ((c.tc : Thread Cert.ResNormsBackRefIdeal.nD Cert.ResNormsBackRefIdeal.τ).loc Cert.ResNormsBackRefIdeal.main_arg7) = m ((c.tc : Thread Cert.ResNormsBackRefIdeal.nD Cert.ResNormsBackRefIdeal.τ).loc Cert.ResNormsBackRefIdeal.main_arg7))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_SbOut [hSbOut : Cert.SbOut.Facts] : Prop :=
  ∀ (m : (ℓ : Loc Cert.SbOut.nD Cert.SbOut.τ Cert.SbOut.sig) → Buf (Elt Bits) ℓ) (g : Dev Cert.SbOut.nD → PrngReg), Pre_SbOut m →
    θ_run (Cert.SbOut.defs (F := Bits)) (onTc (τ := Cert.SbOut.τ) (Cert.SbOut.main (F := Bits))) ⟨m, fun _ => 0, g⟩ (fun r => (∀ c : Dev Cert.SbOut.nD,
      r.2.mem ((c.tc : Thread Cert.SbOut.nD Cert.SbOut.τ).loc Cert.SbOut.main_arg0) = m ((c.tc : Thread Cert.SbOut.nD Cert.SbOut.τ).loc Cert.SbOut.main_arg0)
      ∧ r.2.mem ((c.tc : Thread Cert.SbOut.nD Cert.SbOut.τ).loc Cert.SbOut.main_arg1) = m ((c.tc : Thread Cert.SbOut.nD Cert.SbOut.τ).loc Cert.SbOut.main_arg1))
      ∧ r.2.sem = fun _ => 0)

def quiescent_SbOutIdeal [hSbOutIdeal : Cert.SbOutIdeal.Facts] : Prop :=
  ∀ (m : (ℓ : Loc Cert.SbOutIdeal.nD Cert.SbOutIdeal.τ Cert.SbOutIdeal.sig) → Buf (Elt Ideal) ℓ) (g : Dev Cert.SbOutIdeal.nD → PrngReg), Pre_SbOutIdeal m →
    θ_run (Cert.SbOutIdeal.defs (F := Ideal)) (onTc (τ := Cert.SbOutIdeal.τ) (Cert.SbOutIdeal.main (F := Ideal))) ⟨m, fun _ => 0, g⟩ (fun r => (∀ c : Dev Cert.SbOutIdeal.nD,
      r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
      ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1))
      ∧ r.2.sem = fun _ => 0)

def quiescent_SbOutRefIdeal [hSbOutRefIdeal : Cert.SbOutRefIdeal.Facts] : Prop :=
  ∀ (m : (ℓ : Loc Cert.SbOutRefIdeal.nD Cert.SbOutRefIdeal.τ Cert.SbOutRefIdeal.sig) → Buf (Elt Ideal) ℓ) (g : Dev Cert.SbOutRefIdeal.nD → PrngReg), Pre_SbOutRefIdeal m →
    θ_run (Cert.SbOutRefIdeal.defs (F := Ideal)) (onTc (τ := Cert.SbOutRefIdeal.τ) (Cert.SbOutRefIdeal.main (F := Ideal))) ⟨m, fun _ => 0, g⟩ (fun r => (∀ c : Dev Cert.SbOutRefIdeal.nD,
      r.2.mem ((c.tc : Thread Cert.SbOutRefIdeal.nD Cert.SbOutRefIdeal.τ).loc Cert.SbOutRefIdeal.main_arg0) = m ((c.tc : Thread Cert.SbOutRefIdeal.nD Cert.SbOutRefIdeal.τ).loc Cert.SbOutRefIdeal.main_arg0)
      ∧ r.2.mem ((c.tc : Thread Cert.SbOutRefIdeal.nD Cert.SbOutRefIdeal.τ).loc Cert.SbOutRefIdeal.main_arg1) = m ((c.tc : Thread Cert.SbOutRefIdeal.nD Cert.SbOutRefIdeal.τ).loc Cert.SbOutRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1))
      ∧ r.2.sem = fun _ => 0)

def quiescent_PostQ [hPostQ : Cert.PostQ.Facts] : Prop :=
  ∀ (m : (ℓ : Loc Cert.PostQ.nD Cert.PostQ.τ Cert.PostQ.sig) → Buf (Elt Bits) ℓ) (g : Dev Cert.PostQ.nD → PrngReg), Pre_PostQ m →
    θ_run (Cert.PostQ.defs (F := Bits)) (onTc (τ := Cert.PostQ.τ) (Cert.PostQ.main (F := Bits))) ⟨m, fun _ => 0, g⟩ (fun r => (∀ c : Dev Cert.PostQ.nD,
      r.2.mem ((c.tc : Thread Cert.PostQ.nD Cert.PostQ.τ).loc Cert.PostQ.main_arg0) = m ((c.tc : Thread Cert.PostQ.nD Cert.PostQ.τ).loc Cert.PostQ.main_arg0))
      ∧ r.2.sem = fun _ => 0)

def quiescent_PostQIdeal [hPostQIdeal : Cert.PostQIdeal.Facts] : Prop :=
  ∀ (m : (ℓ : Loc Cert.PostQIdeal.nD Cert.PostQIdeal.τ Cert.PostQIdeal.sig) → Buf (Elt Ideal) ℓ) (g : Dev Cert.PostQIdeal.nD → PrngReg), Pre_PostQIdeal m →
    θ_run (Cert.PostQIdeal.defs (F := Ideal)) (onTc (τ := Cert.PostQIdeal.τ) (Cert.PostQIdeal.main (F := Ideal))) ⟨m, fun _ => 0, g⟩ (fun r => (∀ c : Dev Cert.PostQIdeal.nD,
      r.2.mem ((c.tc : Thread Cert.PostQIdeal.nD Cert.PostQIdeal.τ).loc Cert.PostQIdeal.main_arg0) = m ((c.tc : Thread Cert.PostQIdeal.nD Cert.PostQIdeal.τ).loc Cert.PostQIdeal.main_arg0))
      ∧ r.2.sem = fun _ => 0)

def quiescent_PostQRefIdeal [hPostQRefIdeal : Cert.PostQRefIdeal.Facts] : Prop :=
  ∀ (m : (ℓ : Loc Cert.PostQRefIdeal.nD Cert.PostQRefIdeal.τ Cert.PostQRefIdeal.sig) → Buf (Elt Ideal) ℓ) (g : Dev Cert.PostQRefIdeal.nD → PrngReg), Pre_PostQRefIdeal m →
    θ_run (Cert.PostQRefIdeal.defs (F := Ideal)) (onTc (τ := Cert.PostQRefIdeal.τ) (Cert.PostQRefIdeal.main (F := Ideal))) ⟨m, fun _ => 0, g⟩ (fun r => (∀ c : Dev Cert.PostQRefIdeal.nD,
      r.2.mem ((c.tc : Thread Cert.PostQRefIdeal.nD Cert.PostQRefIdeal.τ).loc Cert.PostQRefIdeal.main_arg0) = m ((c.tc : Thread Cert.PostQRefIdeal.nD Cert.PostQRefIdeal.τ).loc Cert.PostQRefIdeal.main_arg0))
      ∧ r.2.sem = fun _ => 0)

def quiescent_PostK [hPostK : Cert.PostK.Facts] : Prop :=
  ∀ (m : (ℓ : Loc Cert.PostK.nD Cert.PostK.τ Cert.PostK.sig) → Buf (Elt Bits) ℓ) (g : Dev Cert.PostK.nD → PrngReg), Pre_PostK m →
    θ_run (Cert.PostK.defs (F := Bits)) (onTc (τ := Cert.PostK.τ) (Cert.PostK.main (F := Bits))) ⟨m, fun _ => 0, g⟩ (fun r => (∀ c : Dev Cert.PostK.nD,
      r.2.mem ((c.tc : Thread Cert.PostK.nD Cert.PostK.τ).loc Cert.PostK.main_arg0) = m ((c.tc : Thread Cert.PostK.nD Cert.PostK.τ).loc Cert.PostK.main_arg0))
      ∧ r.2.sem = fun _ => 0)

def quiescent_PostKIdeal [hPostKIdeal : Cert.PostKIdeal.Facts] : Prop :=
  ∀ (m : (ℓ : Loc Cert.PostKIdeal.nD Cert.PostKIdeal.τ Cert.PostKIdeal.sig) → Buf (Elt Ideal) ℓ) (g : Dev Cert.PostKIdeal.nD → PrngReg), Pre_PostKIdeal m →
    θ_run (Cert.PostKIdeal.defs (F := Ideal)) (onTc (τ := Cert.PostKIdeal.τ) (Cert.PostKIdeal.main (F := Ideal))) ⟨m, fun _ => 0, g⟩ (fun r => (∀ c : Dev Cert.PostKIdeal.nD,
      r.2.mem ((c.tc : Thread Cert.PostKIdeal.nD Cert.PostKIdeal.τ).loc Cert.PostKIdeal.main_arg0) = m ((c.tc : Thread Cert.PostKIdeal.nD Cert.PostKIdeal.τ).loc Cert.PostKIdeal.main_arg0))
      ∧ r.2.sem = fun _ => 0)

def quiescent_PostKRefIdeal [hPostKRefIdeal : Cert.PostKRefIdeal.Facts] : Prop :=
  ∀ (m : (ℓ : Loc Cert.PostKRefIdeal.nD Cert.PostKRefIdeal.τ Cert.PostKRefIdeal.sig) → Buf (Elt Ideal) ℓ) (g : Dev Cert.PostKRefIdeal.nD → PrngReg), Pre_PostKRefIdeal m →
    θ_run (Cert.PostKRefIdeal.defs (F := Ideal)) (onTc (τ := Cert.PostKRefIdeal.τ) (Cert.PostKRefIdeal.main (F := Ideal))) ⟨m, fun _ => 0, g⟩ (fun r => (∀ c : Dev Cert.PostKRefIdeal.nD,
      r.2.mem ((c.tc : Thread Cert.PostKRefIdeal.nD Cert.PostKRefIdeal.τ).loc Cert.PostKRefIdeal.main_arg0) = m ((c.tc : Thread Cert.PostKRefIdeal.nD Cert.PostKRefIdeal.τ).loc Cert.PostKRefIdeal.main_arg0))
      ∧ r.2.sem = fun _ => 0)

def quiescent_PostV [hPostV : Cert.PostV.Facts] : Prop :=
  ∀ (m : (ℓ : Loc Cert.PostV.nD Cert.PostV.τ Cert.PostV.sig) → Buf (Elt Bits) ℓ) (g : Dev Cert.PostV.nD → PrngReg), Pre_PostV m →
    θ_run (Cert.PostV.defs (F := Bits)) (onTc (τ := Cert.PostV.τ) (Cert.PostV.main (F := Bits))) ⟨m, fun _ => 0, g⟩ (fun r => (∀ c : Dev Cert.PostV.nD,
      r.2.mem ((c.tc : Thread Cert.PostV.nD Cert.PostV.τ).loc Cert.PostV.main_arg0) = m ((c.tc : Thread Cert.PostV.nD Cert.PostV.τ).loc Cert.PostV.main_arg0))
      ∧ r.2.sem = fun _ => 0)

def quiescent_PostVIdeal [hPostVIdeal : Cert.PostVIdeal.Facts] : Prop :=
  ∀ (m : (ℓ : Loc Cert.PostVIdeal.nD Cert.PostVIdeal.τ Cert.PostVIdeal.sig) → Buf (Elt Ideal) ℓ) (g : Dev Cert.PostVIdeal.nD → PrngReg), Pre_PostVIdeal m →
    θ_run (Cert.PostVIdeal.defs (F := Ideal)) (onTc (τ := Cert.PostVIdeal.τ) (Cert.PostVIdeal.main (F := Ideal))) ⟨m, fun _ => 0, g⟩ (fun r => (∀ c : Dev Cert.PostVIdeal.nD,
      r.2.mem ((c.tc : Thread Cert.PostVIdeal.nD Cert.PostVIdeal.τ).loc Cert.PostVIdeal.main_arg0) = m ((c.tc : Thread Cert.PostVIdeal.nD Cert.PostVIdeal.τ).loc Cert.PostVIdeal.main_arg0))
      ∧ r.2.sem = fun _ => 0)

def quiescent_PostVRefIdeal [hPostVRefIdeal : Cert.PostVRefIdeal.Facts] : Prop :=
  ∀ (m : (ℓ : Loc Cert.PostVRefIdeal.nD Cert.PostVRefIdeal.τ Cert.PostVRefIdeal.sig) → Buf (Elt Ideal) ℓ) (g : Dev Cert.PostVRefIdeal.nD → PrngReg), Pre_PostVRefIdeal m →
    θ_run (Cert.PostVRefIdeal.defs (F := Ideal)) (onTc (τ := Cert.PostVRefIdeal.τ) (Cert.PostVRefIdeal.main (F := Ideal))) ⟨m, fun _ => 0, g⟩ (fun r => (∀ c : Dev Cert.PostVRefIdeal.nD,
      r.2.mem ((c.tc : Thread Cert.PostVRefIdeal.nD Cert.PostVRefIdeal.τ).loc Cert.PostVRefIdeal.main_arg0) = m ((c.tc : Thread Cert.PostVRefIdeal.nD Cert.PostVRefIdeal.τ).loc Cert.PostVRefIdeal.main_arg0))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_PostVBack [hPostVBack : Cert.PostVBack.Facts] : Prop :=
  ∀ (m : (ℓ : Loc Cert.PostVBack.nD Cert.PostVBack.τ Cert.PostVBack.sig) → Buf (Elt Bits) ℓ) (g : Dev Cert.PostVBack.nD → PrngReg), Pre_PostVBack m →
    θ_run (Cert.PostVBack.defs (F := Bits)) (onTc (τ := Cert.PostVBack.τ) (Cert.PostVBack.main (F := Bits))) ⟨m, fun _ => 0, g⟩ (fun r => (∀ c : Dev Cert.PostVBack.nD,
      r.2.mem ((c.tc : Thread Cert.PostVBack.nD Cert.PostVBack.τ).loc Cert.PostVBack.main_arg0) = m ((c.tc : Thread Cert.PostVBack.nD Cert.PostVBack.τ).loc Cert.PostVBack.main_arg0)
      ∧ r.2.mem ((c.tc : Thread Cert.PostVBack.nD Cert.PostVBack.τ).loc Cert.PostVBack.main_arg1) = m ((c.tc : Thread Cert.PostVBack.nD Cert.PostVBack.τ).loc Cert.PostVBack.main_arg1))
      ∧ r.2.sem = fun _ => 0)

def quiescent_PostVBackIdeal [hPostVBackIdeal : Cert.PostVBackIdeal.Facts] : Prop :=
  ∀ (m : (ℓ : Loc Cert.PostVBackIdeal.nD Cert.PostVBackIdeal.τ Cert.PostVBackIdeal.sig) → Buf (Elt Ideal) ℓ) (g : Dev Cert.PostVBackIdeal.nD → PrngReg), Pre_PostVBackIdeal m →
    θ_run (Cert.PostVBackIdeal.defs (F := Ideal)) (onTc (τ := Cert.PostVBackIdeal.τ) (Cert.PostVBackIdeal.main (F := Ideal))) ⟨m, fun _ => 0, g⟩ (fun r => (∀ c : Dev Cert.PostVBackIdeal.nD,
      r.2.mem ((c.tc : Thread Cert.PostVBackIdeal.nD Cert.PostVBackIdeal.τ).loc Cert.PostVBackIdeal.main_arg0) = m ((c.tc : Thread Cert.PostVBackIdeal.nD Cert.PostVBackIdeal.τ).loc Cert.PostVBackIdeal.main_arg0)
      ∧ r.2.mem ((c.tc : Thread Cert.PostVBackIdeal.nD Cert.PostVBackIdeal.τ).loc Cert.PostVBackIdeal.main_arg1) = m ((c.tc : Thread Cert.PostVBackIdeal.nD Cert.PostVBackIdeal.τ).loc Cert.PostVBackIdeal.main_arg1))
      ∧ r.2.sem = fun _ => 0)

def quiescent_PostVBackRefIdeal [hPostVBackRefIdeal : Cert.PostVBackRefIdeal.Facts] : Prop :=
  ∀ (m : (ℓ : Loc Cert.PostVBackRefIdeal.nD Cert.PostVBackRefIdeal.τ Cert.PostVBackRefIdeal.sig) → Buf (Elt Ideal) ℓ) (g : Dev Cert.PostVBackRefIdeal.nD → PrngReg), Pre_PostVBackRefIdeal m →
    θ_run (Cert.PostVBackRefIdeal.defs (F := Ideal)) (onTc (τ := Cert.PostVBackRefIdeal.τ) (Cert.PostVBackRefIdeal.main (F := Ideal))) ⟨m, fun _ => 0, g⟩ (fun r => (∀ c : Dev Cert.PostVBackRefIdeal.nD,
      r.2.mem ((c.tc : Thread Cert.PostVBackRefIdeal.nD Cert.PostVBackRefIdeal.τ).loc Cert.PostVBackRefIdeal.main_arg0) = m ((c.tc : Thread Cert.PostVBackRefIdeal.nD Cert.PostVBackRefIdeal.τ).loc Cert.PostVBackRefIdeal.main_arg0)
      ∧ r.2.mem ((c.tc : Thread Cert.PostVBackRefIdeal.nD Cert.PostVBackRefIdeal.τ).loc Cert.PostVBackRefIdeal.main_arg1) = m ((c.tc : Thread Cert.PostVBackRefIdeal.nD Cert.PostVBackRefIdeal.τ).loc Cert.PostVBackRefIdeal.main_arg1))
      ∧ r.2.sem = fun _ => 0)

def quiescent_ConvBack [hConvBack : Cert.ConvBack.Facts] : Prop :=
  ∀ (m : (ℓ : Loc Cert.ConvBack.nD Cert.ConvBack.τ Cert.ConvBack.sig) → Buf (Elt Bits) ℓ) (g : Dev Cert.ConvBack.nD → PrngReg), Pre_ConvBack m →
    θ_run (Cert.ConvBack.defs (F := Bits)) (onTc (τ := Cert.ConvBack.τ) (Cert.ConvBack.main (F := Bits))) ⟨m, fun _ => 0, g⟩ (fun r => (∀ c : Dev Cert.ConvBack.nD,
      r.2.mem ((c.tc : Thread Cert.ConvBack.nD Cert.ConvBack.τ).loc Cert.ConvBack.main_arg0) = m ((c.tc : Thread Cert.ConvBack.nD Cert.ConvBack.τ).loc Cert.ConvBack.main_arg0)
      ∧ r.2.mem ((c.tc : Thread Cert.ConvBack.nD Cert.ConvBack.τ).loc Cert.ConvBack.main_arg1) = m ((c.tc : Thread Cert.ConvBack.nD Cert.ConvBack.τ).loc Cert.ConvBack.main_arg1)
      ∧ r.2.mem ((c.tc : Thread Cert.ConvBack.nD Cert.ConvBack.τ).loc Cert.ConvBack.main_arg2) = m ((c.tc : Thread Cert.ConvBack.nD Cert.ConvBack.τ).loc Cert.ConvBack.main_arg2))
      ∧ r.2.sem = fun _ => 0)

def quiescent_ConvBackIdeal [hConvBackIdeal : Cert.ConvBackIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg), Pre_ConvBackIdeal m →
    θ_run (Cert.ConvBackIdeal.defs (F := Ideal)) (onTc (τ := Cert.ConvBackIdeal.τ) (Cert.ConvBackIdeal.main (F := Ideal))) ⟨m, fun _ => 0, g⟩ (fun r => (∀ c : Dev Cert.ConvBackIdeal.nD,
      r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
      ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
      ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2))
      ∧ r.2.sem = fun _ => 0)

def quiescent_ConvBackRefIdeal [hConvBackRefIdeal : Cert.ConvBackRefIdeal.Facts] : Prop :=
  ∀ (m : (ℓ : Loc Cert.ConvBackRefIdeal.nD Cert.ConvBackRefIdeal.τ Cert.ConvBackRefIdeal.sig) → Buf (Elt Ideal) ℓ) (g : Dev Cert.ConvBackRefIdeal.nD → PrngReg), Pre_ConvBackRefIdeal m →
    θ_run (Cert.ConvBackRefIdeal.defs (F := Ideal)) (onTc (τ := Cert.ConvBackRefIdeal.τ) (Cert.ConvBackRefIdeal.main (F := Ideal))) ⟨m, fun _ => 0, g⟩ (fun r => (∀ c : Dev Cert.ConvBackRefIdeal.nD,
      r.2.mem ((c.tc : Thread Cert.ConvBackRefIdeal.nD Cert.ConvBackRefIdeal.τ).loc Cert.ConvBackRefIdeal.main_arg0) = m ((c.tc : Thread Cert.ConvBackRefIdeal.nD Cert.ConvBackRefIdeal.τ).loc Cert.ConvBackRefIdeal.main_arg0)
      ∧ r.2.mem ((c.tc : Thread Cert.ConvBackRefIdeal.nD Cert.ConvBackRefIdeal.τ).loc Cert.ConvBackRefIdeal.main_arg1) = m ((c.tc : Thread Cert.ConvBackRefIdeal.nD Cert.ConvBackRefIdeal.τ).loc Cert.ConvBackRefIdeal.main_arg1)
      ∧ r.2.mem ((c.tc : Thread Cert.ConvBackRefIdeal.nD Cert.ConvBackRefIdeal.τ).loc Cert.ConvBackRefIdeal.main_arg2) = m ((c.tc : Thread Cert.ConvBackRefIdeal.nD Cert.ConvBackRefIdeal.τ).loc Cert.ConvBackRefIdeal.main_arg2))
      ∧ r.2.sem = fun _ => 0)

def preserves_Weights_WeightsIdeal : Prop :=
  True

def algebraic_WeightsIdeal_WeightsRefIdeal [hWeightsIdeal : Cert.WeightsIdeal.Facts] [hWeightsRefIdeal : Cert.WeightsRefIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsIdeal m →
    (∀ c : Dev Cert.WeightsIdeal.nD,
      m ((c.tc : Thread Cert.WeightsIdeal.nD Cert.WeightsIdeal.τ).loc Cert.WeightsIdeal.main_arg0) = Layout.blockN ⟨3, ![2, 3328, 1024]⟩ ⟨3, ![2, 13312, 1024]⟩ (Layout.meshBlock [2, 2, 2] ![[], [0, 1], []] c) (m' (((0 : Dev Cert.WeightsRefIdeal.nD).tc : Thread Cert.WeightsRefIdeal.nD Cert.WeightsRefIdeal.τ).loc Cert.WeightsRefIdeal.main_arg0))) →
    ∃ (v0 : Buf (Elt Ideal) (((0 : Dev Cert.WeightsRefIdeal.nD).tc : Thread Cert.WeightsRefIdeal.nD Cert.WeightsRefIdeal.τ).loc Cert.WeightsRefIdeal.main_v1)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1) = v0
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ θ_run (Cert.WeightsRefIdeal.defs (F := Ideal)) (onTc (τ := Cert.WeightsRefIdeal.τ) (Cert.WeightsRefIdeal.main (F := Ideal))) ⟨m', fun _ => 0, g'⟩ (fun r =>
          r.2.mem (((0 : Dev Cert.WeightsRefIdeal.nD).tc : Thread Cert.WeightsRefIdeal.nD Cert.WeightsRefIdeal.τ).loc Cert.WeightsRefIdeal.main_v1) = v0
          ∧ r.2.mem (((0 : Dev Cert.WeightsRefIdeal.nD).tc : Thread Cert.WeightsRefIdeal.nD Cert.WeightsRefIdeal.τ).loc Cert.WeightsRefIdeal.main_arg0) = m' (((0 : Dev Cert.WeightsRefIdeal.nD).tc : Thread Cert.WeightsRefIdeal.nD Cert.WeightsRefIdeal.τ).loc Cert.WeightsRefIdeal.main_arg0))

def bitexact_Weights_WeightsRef [hWeights : Cert.Weights.Facts] [hWeightsRef : Cert.WeightsRef.Facts] : Prop :=
  ∀ (m : (ℓ : Loc Cert.Weights.nD Cert.Weights.τ Cert.Weights.sig) → Buf (Elt Bits) ℓ) (g : Dev Cert.Weights.nD → PrngReg)
    (m' : (ℓ : Loc Cert.WeightsRef.nD Cert.WeightsRef.τ Cert.WeightsRef.sig) → Buf (Elt Bits) ℓ) (g' : Dev Cert.WeightsRef.nD → PrngReg), Pre_Weights m →
    (∀ c : Dev Cert.Weights.nD,
      m ((c.tc : Thread Cert.Weights.nD Cert.Weights.τ).loc Cert.Weights.main_arg0) = Layout.blockN ⟨3, ![2, 3328, 1024]⟩ ⟨3, ![2, 13312, 1024]⟩ (Layout.meshBlock [2, 2, 2] ![[], [0, 1], []] c) (m' (((0 : Dev Cert.WeightsRef.nD).tc : Thread Cert.WeightsRef.nD Cert.WeightsRef.τ).loc Cert.WeightsRef.main_arg0))) →
    ∃ (v0 : Buf (Elt Bits) (((0 : Dev Cert.WeightsRef.nD).tc : Thread Cert.WeightsRef.nD Cert.WeightsRef.τ).loc Cert.WeightsRef.main_v1)),
      θ_run (Cert.Weights.defs (F := Bits)) (onTc (τ := Cert.Weights.τ) (Cert.Weights.main (F := Bits))) ⟨m, fun _ => 0, g⟩ (fun r => ∀ c : Dev Cert.Weights.nD,
          r.2.mem ((c.tc : Thread Cert.Weights.nD Cert.Weights.τ).loc Cert.Weights.main_v1) = v0
          ∧ r.2.mem ((c.tc : Thread Cert.Weights.nD Cert.Weights.τ).loc Cert.Weights.main_arg0) = m ((c.tc : Thread Cert.Weights.nD Cert.Weights.τ).loc Cert.Weights.main_arg0))
      ∧ θ_run (Cert.WeightsRef.defs (F := Bits)) (onTc (τ := Cert.WeightsRef.τ) (Cert.WeightsRef.main (F := Bits))) ⟨m', fun _ => 0, g'⟩ (fun r =>
          r.2.mem (((0 : Dev Cert.WeightsRef.nD).tc : Thread Cert.WeightsRef.nD Cert.WeightsRef.τ).loc Cert.WeightsRef.main_v1) = v0
          ∧ r.2.mem (((0 : Dev Cert.WeightsRef.nD).tc : Thread Cert.WeightsRef.nD Cert.WeightsRef.τ).loc Cert.WeightsRef.main_arg0) = m' (((0 : Dev Cert.WeightsRef.nD).tc : Thread Cert.WeightsRef.nD Cert.WeightsRef.τ).loc Cert.WeightsRef.main_arg0))

def preserves_Sibling_SiblingIdeal : Prop :=
  True

def algebraic_SiblingIdeal_SiblingRefIdeal [hSiblingIdeal : Cert.SiblingIdeal.Facts] [hSiblingRefIdeal : Cert.SiblingRefIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingRefIdeal.nD Cert.SiblingRefIdeal.τ Cert.SiblingRefIdeal.sig) → Buf (Elt Ideal) ℓ) (g' : Dev Cert.SiblingRefIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨3, ![2, 13312, 1024]⟩ ⟨3, ![16, 13312, 1024]⟩ 0 8 c (m' (((0 : Dev Cert.SiblingRefIdeal.nD).tc : Thread Cert.SiblingRefIdeal.nD Cert.SiblingRefIdeal.τ).loc Cert.SiblingRefIdeal.main_arg0))) →
    ∃ (v0 : Buf (Elt Ideal) (((0 : Dev Cert.SiblingRefIdeal.nD).tc : Thread Cert.SiblingRefIdeal.nD Cert.SiblingRefIdeal.τ).loc Cert.SiblingRefIdeal.main_v2)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v15) = Layout.block ⟨2, ![13312, 1024]⟩ ⟨2, ![106496, 1024]⟩ 0 8 c v0
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ θ_run (Cert.SiblingRefIdeal.defs (F := Ideal)) (onTc (τ := Cert.SiblingRefIdeal.τ) (Cert.SiblingRefIdeal.main (F := Ideal))) ⟨m', fun _ => 0, g'⟩ (fun r =>
          r.2.mem (((0 : Dev Cert.SiblingRefIdeal.nD).tc : Thread Cert.SiblingRefIdeal.nD Cert.SiblingRefIdeal.τ).loc Cert.SiblingRefIdeal.main_v2) = v0
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0))

def preserves_Chips_ChipsIdeal : Prop :=
  True

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 3328, 1024]⟩ ⟨3, ![32, 3328, 1024]⟩ 0 8 c (m' (((0 : Dev Cert.ChipsRefIdeal.nD).tc : Thread Cert.ChipsRefIdeal.nD Cert.ChipsRefIdeal.τ).loc Cert.ChipsRefIdeal.main_arg0))) →
    ∃ (v0 : Buf (Elt Ideal) (((0 : Dev Cert.ChipsRefIdeal.nD).tc : Thread Cert.ChipsRefIdeal.nD Cert.ChipsRefIdeal.τ).loc Cert.ChipsRefIdeal.main_v2)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v23) = Layout.blockN ⟨2, ![3328, 1024]⟩ ⟨2, ![26624, 1024]⟩ (Layout.meshBlock [2, 2, 2] ![[2, 0, 1], []] c) v0
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v2) = v0
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0))

def preserves_Share_ShareIdeal : Prop :=
  True

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.blockN ⟨2, ![3328, 1024]⟩ ⟨2, ![26624, 1024]⟩ (Layout.meshBlock [2, 2, 2] ![[2, 0, 1], []] c) (m' (((0 : Dev Cert.ShareRefIdeal.nD).tc : Thread Cert.ShareRefIdeal.nD Cert.ShareRefIdeal.τ).loc Cert.ShareRefIdeal.main_arg0))) →
    ∃ (v0 : Buf (Elt Ideal) (((0 : Dev Cert.ShareRefIdeal.nD).tc : Thread Cert.ShareRefIdeal.nD Cert.ShareRefIdeal.τ).loc Cert.ShareRefIdeal.main_v0)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1) = Layout.blockN ⟨3, ![2, 3328, 1024]⟩ ⟨3, ![2, 13312, 1024]⟩ (Layout.meshBlock [2, 2, 2] ![[], [0, 1], []] c) v0
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_v0) = v0
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0))

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.blockN ⟨2, ![3328, 1024]⟩ ⟨2, ![26624, 1024]⟩ (Layout.meshBlock [2, 2, 2] ![[2, 0, 1], []] c) (m' (((0 : Dev Cert.ShareRef.nD).tc : Thread Cert.ShareRef.nD Cert.ShareRef.τ).loc Cert.ShareRef.main_arg0))) →
    ∃ (v0 : Buf (Elt Bits) (((0 : Dev Cert.ShareRef.nD).tc : Thread Cert.ShareRef.nD Cert.ShareRef.τ).loc Cert.ShareRef.main_v0)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1) = Layout.blockN ⟨3, ![2, 3328, 1024]⟩ ⟨3, ![2, 13312, 1024]⟩ (Layout.meshBlock [2, 2, 2] ![[], [0, 1], []] c) v0
          ∧ r.2.mem ((c.tc : Thread Cert.Share.nD Cert.Share.τ).loc Cert.Share.main_arg0) = m ((c.tc : Thread Cert.Share.nD Cert.Share.τ).loc Cert.Share.main_arg0))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_v0) = v0
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0))

def preserves_UpdateMlp_UpdateMlpIdeal : Prop :=
  True

def algebraic_UpdateMlpIdeal_UpdateMlpRefIdeal [hUpdateMlpIdeal : Cert.UpdateMlpIdeal.Facts] [hUpdateMlpRefIdeal : Cert.UpdateMlpRefIdeal.Facts] : Prop :=
  ∀ (m : (ℓ : Loc Cert.UpdateMlpIdeal.nD Cert.UpdateMlpIdeal.τ Cert.UpdateMlpIdeal.sig) → Buf (Elt Ideal) ℓ) (g : Dev Cert.UpdateMlpIdeal.nD → PrngReg)
    (m' : (ℓ : Loc Cert.UpdateMlpRefIdeal.nD Cert.UpdateMlpRefIdeal.τ Cert.UpdateMlpRefIdeal.sig) → Buf (Elt Ideal) ℓ) (g' : Dev Cert.UpdateMlpRefIdeal.nD → PrngReg), Pre_UpdateMlpIdeal m →
    (∀ c : Dev Cert.UpdateMlpIdeal.nD,
      m' ((c.tc : Thread Cert.UpdateMlpRefIdeal.nD Cert.UpdateMlpRefIdeal.τ).loc Cert.UpdateMlpRefIdeal.main_arg0) = m ((c.tc : Thread Cert.UpdateMlpIdeal.nD Cert.UpdateMlpIdeal.τ).loc Cert.UpdateMlpIdeal.main_arg0)
      ∧ m' ((c.tc : Thread Cert.UpdateMlpRefIdeal.nD Cert.UpdateMlpRefIdeal.τ).loc Cert.UpdateMlpRefIdeal.main_arg1) = m ((c.tc : Thread Cert.UpdateMlpIdeal.nD Cert.UpdateMlpIdeal.τ).loc Cert.UpdateMlpIdeal.main_arg1)
      ∧ m' ((c.tc : Thread Cert.UpdateMlpRefIdeal.nD Cert.UpdateMlpRefIdeal.τ).loc Cert.UpdateMlpRefIdeal.main_arg2) = m ((c.tc : Thread Cert.UpdateMlpIdeal.nD Cert.UpdateMlpIdeal.τ).loc Cert.UpdateMlpIdeal.main_arg2)
      ∧ m' ((c.tc : Thread Cert.UpdateMlpRefIdeal.nD Cert.UpdateMlpRefIdeal.τ).loc Cert.UpdateMlpRefIdeal.main_arg3) = m ((c.tc : Thread Cert.UpdateMlpIdeal.nD Cert.UpdateMlpIdeal.τ).loc Cert.UpdateMlpIdeal.main_arg3)) →
    ∃ (v0 : (c : Dev Cert.UpdateMlpIdeal.nD) → Buf (Elt Ideal) ((c.tc : Thread Cert.UpdateMlpIdeal.nD Cert.UpdateMlpIdeal.τ).loc Cert.UpdateMlpIdeal.main_v0_0)) (v1 : (c : Dev Cert.UpdateMlpIdeal.nD) → Buf (Elt Ideal) ((c.tc : Thread Cert.UpdateMlpIdeal.nD Cert.UpdateMlpIdeal.τ).loc Cert.UpdateMlpIdeal.main_v0_1)) (v2 : (c : Dev Cert.UpdateMlpIdeal.nD) → Buf (Elt Ideal) ((c.tc : Thread Cert.UpdateMlpIdeal.nD Cert.UpdateMlpIdeal.τ).loc Cert.UpdateMlpIdeal.main_v0_2)),
      θ_run (Cert.UpdateMlpIdeal.defs (F := Ideal)) (onTc (τ := Cert.UpdateMlpIdeal.τ) (Cert.UpdateMlpIdeal.main (F := Ideal))) ⟨m, fun _ => 0, g⟩ (fun r => ∀ c : Dev Cert.UpdateMlpIdeal.nD,
          r.2.mem ((c.tc : Thread Cert.UpdateMlpIdeal.nD Cert.UpdateMlpIdeal.τ).loc Cert.UpdateMlpIdeal.main_v0_0) = v0 c
          ∧ r.2.mem ((c.tc : Thread Cert.UpdateMlpIdeal.nD Cert.UpdateMlpIdeal.τ).loc Cert.UpdateMlpIdeal.main_v0_1) = v1 c
          ∧ r.2.mem ((c.tc : Thread Cert.UpdateMlpIdeal.nD Cert.UpdateMlpIdeal.τ).loc Cert.UpdateMlpIdeal.main_v0_2) = v2 c
          ∧ r.2.mem ((c.tc : Thread Cert.UpdateMlpIdeal.nD Cert.UpdateMlpIdeal.τ).loc Cert.UpdateMlpIdeal.main_arg0) = m ((c.tc : Thread Cert.UpdateMlpIdeal.nD Cert.UpdateMlpIdeal.τ).loc Cert.UpdateMlpIdeal.main_arg0)
          ∧ r.2.mem ((c.tc : Thread Cert.UpdateMlpIdeal.nD Cert.UpdateMlpIdeal.τ).loc Cert.UpdateMlpIdeal.main_arg1) = m ((c.tc : Thread Cert.UpdateMlpIdeal.nD Cert.UpdateMlpIdeal.τ).loc Cert.UpdateMlpIdeal.main_arg1)
          ∧ r.2.mem ((c.tc : Thread Cert.UpdateMlpIdeal.nD Cert.UpdateMlpIdeal.τ).loc Cert.UpdateMlpIdeal.main_arg2) = m ((c.tc : Thread Cert.UpdateMlpIdeal.nD Cert.UpdateMlpIdeal.τ).loc Cert.UpdateMlpIdeal.main_arg2)
          ∧ r.2.mem ((c.tc : Thread Cert.UpdateMlpIdeal.nD Cert.UpdateMlpIdeal.τ).loc Cert.UpdateMlpIdeal.main_arg3) = m ((c.tc : Thread Cert.UpdateMlpIdeal.nD Cert.UpdateMlpIdeal.τ).loc Cert.UpdateMlpIdeal.main_arg3))
      ∧ θ_run (Cert.UpdateMlpRefIdeal.defs (F := Ideal)) (onTc (τ := Cert.UpdateMlpRefIdeal.τ) (Cert.UpdateMlpRefIdeal.main (F := Ideal))) ⟨m', fun _ => 0, g'⟩ (fun r => ∀ c : Dev Cert.UpdateMlpRefIdeal.nD,
          r.2.mem ((c.tc : Thread Cert.UpdateMlpRefIdeal.nD Cert.UpdateMlpRefIdeal.τ).loc Cert.UpdateMlpRefIdeal.main_v23) = v0 c
          ∧ r.2.mem ((c.tc : Thread Cert.UpdateMlpRefIdeal.nD Cert.UpdateMlpRefIdeal.τ).loc Cert.UpdateMlpRefIdeal.main_v4) = v1 c
          ∧ r.2.mem ((c.tc : Thread Cert.UpdateMlpRefIdeal.nD Cert.UpdateMlpRefIdeal.τ).loc Cert.UpdateMlpRefIdeal.main_v10) = v2 c
          ∧ r.2.mem ((c.tc : Thread Cert.UpdateMlpRefIdeal.nD Cert.UpdateMlpRefIdeal.τ).loc Cert.UpdateMlpRefIdeal.main_arg0) = m' ((c.tc : Thread Cert.UpdateMlpRefIdeal.nD Cert.UpdateMlpRefIdeal.τ).loc Cert.UpdateMlpRefIdeal.main_arg0)
          ∧ r.2.mem ((c.tc : Thread Cert.UpdateMlpRefIdeal.nD Cert.UpdateMlpRefIdeal.τ).loc Cert.UpdateMlpRefIdeal.main_arg1) = m' ((c.tc : Thread Cert.UpdateMlpRefIdeal.nD Cert.UpdateMlpRefIdeal.τ).loc Cert.UpdateMlpRefIdeal.main_arg1)
          ∧ r.2.mem ((c.tc : Thread Cert.UpdateMlpRefIdeal.nD Cert.UpdateMlpRefIdeal.τ).loc Cert.UpdateMlpRefIdeal.main_arg2) = m' ((c.tc : Thread Cert.UpdateMlpRefIdeal.nD Cert.UpdateMlpRefIdeal.τ).loc Cert.UpdateMlpRefIdeal.main_arg2)
          ∧ r.2.mem ((c.tc : Thread Cert.UpdateMlpRefIdeal.nD Cert.UpdateMlpRefIdeal.τ).loc Cert.UpdateMlpRefIdeal.main_arg3) = m' ((c.tc : Thread Cert.UpdateMlpRefIdeal.nD Cert.UpdateMlpRefIdeal.τ).loc Cert.UpdateMlpRefIdeal.main_arg3))

def preserves_UpdateIn_UpdateInIdeal : Prop :=
  True

def algebraic_UpdateInIdeal_UpdateInRefIdeal [hUpdateInIdeal : Cert.UpdateInIdeal.Facts] [hUpdateInRefIdeal : Cert.UpdateInRefIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInRefIdeal.nD Cert.UpdateInRefIdeal.τ Cert.UpdateInRefIdeal.sig) → Buf (Elt Ideal) ℓ) (g' : Dev Cert.UpdateInRefIdeal.nD → PrngReg), Pre_UpdateInIdeal m →
    (∀ c : Dev Cert.UpdateInIdeal.nD,
      m' ((c.tc : Thread Cert.UpdateInRefIdeal.nD Cert.UpdateInRefIdeal.τ).loc Cert.UpdateInRefIdeal.main_arg0) = m ((c.tc : Thread Cert.UpdateInIdeal.nD Cert.UpdateInIdeal.τ).loc Cert.UpdateInIdeal.main_arg0)
      ∧ m' ((c.tc : Thread Cert.UpdateInRefIdeal.nD Cert.UpdateInRefIdeal.τ).loc Cert.UpdateInRefIdeal.main_arg1) = m ((c.tc : Thread Cert.UpdateInIdeal.nD Cert.UpdateInIdeal.τ).loc Cert.UpdateInIdeal.main_arg1)
      ∧ m' ((c.tc : Thread Cert.UpdateInRefIdeal.nD Cert.UpdateInRefIdeal.τ).loc Cert.UpdateInRefIdeal.main_arg2) = m ((c.tc : Thread Cert.UpdateInIdeal.nD Cert.UpdateInIdeal.τ).loc Cert.UpdateInIdeal.main_arg2)
      ∧ m' ((c.tc : Thread Cert.UpdateInRefIdeal.nD Cert.UpdateInRefIdeal.τ).loc Cert.UpdateInRefIdeal.main_arg3) = m ((c.tc : Thread Cert.UpdateInIdeal.nD Cert.UpdateInIdeal.τ).loc Cert.UpdateInIdeal.main_arg3)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ θ_run (Cert.UpdateInRefIdeal.defs (F := Ideal)) (onTc (τ := Cert.UpdateInRefIdeal.τ) (Cert.UpdateInRefIdeal.main (F := Ideal))) ⟨m', fun _ => 0, g'⟩ (fun r => ∀ c : Dev Cert.UpdateInRefIdeal.nD,
          r.2.mem ((c.tc : Thread Cert.UpdateInRefIdeal.nD Cert.UpdateInRefIdeal.τ).loc Cert.UpdateInRefIdeal.main_v23) = v0 c
          ∧ r.2.mem ((c.tc : Thread Cert.UpdateInRefIdeal.nD Cert.UpdateInRefIdeal.τ).loc Cert.UpdateInRefIdeal.main_v4) = v1 c
          ∧ r.2.mem ((c.tc : Thread Cert.UpdateInRefIdeal.nD Cert.UpdateInRefIdeal.τ).loc Cert.UpdateInRefIdeal.main_v10) = v2 c
          ∧ r.2.mem ((c.tc : Thread Cert.UpdateInRefIdeal.nD Cert.UpdateInRefIdeal.τ).loc Cert.UpdateInRefIdeal.main_arg0) = m' ((c.tc : Thread Cert.UpdateInRefIdeal.nD Cert.UpdateInRefIdeal.τ).loc Cert.UpdateInRefIdeal.main_arg0)
          ∧ r.2.mem ((c.tc : Thread Cert.UpdateInRefIdeal.nD Cert.UpdateInRefIdeal.τ).loc Cert.UpdateInRefIdeal.main_arg1) = m' ((c.tc : Thread Cert.UpdateInRefIdeal.nD Cert.UpdateInRefIdeal.τ).loc Cert.UpdateInRefIdeal.main_arg1)
          ∧ r.2.mem ((c.tc : Thread Cert.UpdateInRefIdeal.nD Cert.UpdateInRefIdeal.τ).loc Cert.UpdateInRefIdeal.main_arg2) = m' ((c.tc : Thread Cert.UpdateInRefIdeal.nD Cert.UpdateInRefIdeal.τ).loc Cert.UpdateInRefIdeal.main_arg2)
          ∧ r.2.mem ((c.tc : Thread Cert.UpdateInRefIdeal.nD Cert.UpdateInRefIdeal.τ).loc Cert.UpdateInRefIdeal.main_arg3) = m' ((c.tc : Thread Cert.UpdateInRefIdeal.nD Cert.UpdateInRefIdeal.τ).loc Cert.UpdateInRefIdeal.main_arg3))

def preserves_UpdateOut_UpdateOutIdeal : Prop :=
  True

def algebraic_UpdateOutIdeal_UpdateOutRefIdeal [hUpdateOutIdeal : Cert.UpdateOutIdeal.Facts] [hUpdateOutRefIdeal : Cert.UpdateOutRefIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutRefIdeal.nD Cert.UpdateOutRefIdeal.τ Cert.UpdateOutRefIdeal.sig) → Buf (Elt Ideal) ℓ) (g' : Dev Cert.UpdateOutRefIdeal.nD → PrngReg), Pre_UpdateOutIdeal m →
    (∀ c : Dev Cert.UpdateOutIdeal.nD,
      m' ((c.tc : Thread Cert.UpdateOutRefIdeal.nD Cert.UpdateOutRefIdeal.τ).loc Cert.UpdateOutRefIdeal.main_arg0) = m ((c.tc : Thread Cert.UpdateOutIdeal.nD Cert.UpdateOutIdeal.τ).loc Cert.UpdateOutIdeal.main_arg0)
      ∧ m' ((c.tc : Thread Cert.UpdateOutRefIdeal.nD Cert.UpdateOutRefIdeal.τ).loc Cert.UpdateOutRefIdeal.main_arg1) = m ((c.tc : Thread Cert.UpdateOutIdeal.nD Cert.UpdateOutIdeal.τ).loc Cert.UpdateOutIdeal.main_arg1)
      ∧ m' ((c.tc : Thread Cert.UpdateOutRefIdeal.nD Cert.UpdateOutRefIdeal.τ).loc Cert.UpdateOutRefIdeal.main_arg2) = m ((c.tc : Thread Cert.UpdateOutIdeal.nD Cert.UpdateOutIdeal.τ).loc Cert.UpdateOutIdeal.main_arg2)
      ∧ m' ((c.tc : Thread Cert.UpdateOutRefIdeal.nD Cert.UpdateOutRefIdeal.τ).loc Cert.UpdateOutRefIdeal.main_arg3) = m ((c.tc : Thread Cert.UpdateOutIdeal.nD Cert.UpdateOutIdeal.τ).loc Cert.UpdateOutIdeal.main_arg3)) →
    ∃ (v0 : (c : Dev Cert.UpdateOutIdeal.nD) → Buf (Elt Ideal) ((c.tc : Thread Cert.UpdateOutIdeal.nD Cert.UpdateOutIdeal.τ).loc Cert.UpdateOutIdeal.main_v0_0)) (v1 : (c : Dev Cert.UpdateOutIdeal.nD) → Buf (Elt Ideal) ((c.tc : Thread Cert.UpdateOutIdeal.nD Cert.UpdateOutIdeal.τ).loc Cert.UpdateOutIdeal.main_v0_1)) (v2 : (c : Dev Cert.UpdateOutIdeal.nD) → Buf (Elt Ideal) ((c.tc : Thread Cert.UpdateOutIdeal.nD Cert.UpdateOutIdeal.τ).loc Cert.UpdateOutIdeal.main_v0_2)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v0_0) = v0 c
          ∧ r.2.mem ((c.tc : Thread Cert.UpdateOutIdeal.nD Cert.UpdateOutIdeal.τ).loc Cert.UpdateOutIdeal.main_v0_1) = v1 c
          ∧ r.2.mem ((c.tc : Thread Cert.UpdateOutIdeal.nD Cert.UpdateOutIdeal.τ).loc Cert.UpdateOutIdeal.main_v0_2) = v2 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ θ_run (Cert.UpdateOutRefIdeal.defs (F := Ideal)) (onTc (τ := Cert.UpdateOutRefIdeal.τ) (Cert.UpdateOutRefIdeal.main (F := Ideal))) ⟨m', fun _ => 0, g'⟩ (fun r => ∀ c : Dev Cert.UpdateOutRefIdeal.nD,
          r.2.mem ((c.tc : Thread Cert.UpdateOutRefIdeal.nD Cert.UpdateOutRefIdeal.τ).loc Cert.UpdateOutRefIdeal.main_v23) = v0 c
          ∧ r.2.mem ((c.tc : Thread Cert.UpdateOutRefIdeal.nD Cert.UpdateOutRefIdeal.τ).loc Cert.UpdateOutRefIdeal.main_v4) = v1 c
          ∧ r.2.mem ((c.tc : Thread Cert.UpdateOutRefIdeal.nD Cert.UpdateOutRefIdeal.τ).loc Cert.UpdateOutRefIdeal.main_v10) = v2 c
          ∧ r.2.mem ((c.tc : Thread Cert.UpdateOutRefIdeal.nD Cert.UpdateOutRefIdeal.τ).loc Cert.UpdateOutRefIdeal.main_arg0) = m' ((c.tc : Thread Cert.UpdateOutRefIdeal.nD Cert.UpdateOutRefIdeal.τ).loc Cert.UpdateOutRefIdeal.main_arg0)
          ∧ r.2.mem ((c.tc : Thread Cert.UpdateOutRefIdeal.nD Cert.UpdateOutRefIdeal.τ).loc Cert.UpdateOutRefIdeal.main_arg1) = m' ((c.tc : Thread Cert.UpdateOutRefIdeal.nD Cert.UpdateOutRefIdeal.τ).loc Cert.UpdateOutRefIdeal.main_arg1)
          ∧ r.2.mem ((c.tc : Thread Cert.UpdateOutRefIdeal.nD Cert.UpdateOutRefIdeal.τ).loc Cert.UpdateOutRefIdeal.main_arg2) = m' ((c.tc : Thread Cert.UpdateOutRefIdeal.nD Cert.UpdateOutRefIdeal.τ).loc Cert.UpdateOutRefIdeal.main_arg2)
          ∧ r.2.mem ((c.tc : Thread Cert.UpdateOutRefIdeal.nD Cert.UpdateOutRefIdeal.τ).loc Cert.UpdateOutRefIdeal.main_arg3) = m' ((c.tc : Thread Cert.UpdateOutRefIdeal.nD Cert.UpdateOutRefIdeal.τ).loc Cert.UpdateOutRefIdeal.main_arg3))

def preserves_UpdateKv_UpdateKvIdeal : Prop :=
  True

def algebraic_UpdateKvIdeal_UpdateKvRefIdeal [hUpdateKvIdeal : Cert.UpdateKvIdeal.Facts] [hUpdateKvRefIdeal : Cert.UpdateKvRefIdeal.Facts] : Prop :=
  ∀ (m : (ℓ : Loc Cert.UpdateKvIdeal.nD Cert.UpdateKvIdeal.τ Cert.UpdateKvIdeal.sig) → Buf (Elt Ideal) ℓ) (g : Dev Cert.UpdateKvIdeal.nD → PrngReg)
    (m' : (ℓ : Loc Cert.UpdateKvRefIdeal.nD Cert.UpdateKvRefIdeal.τ Cert.UpdateKvRefIdeal.sig) → Buf (Elt Ideal) ℓ) (g' : Dev Cert.UpdateKvRefIdeal.nD → PrngReg), Pre_UpdateKvIdeal m →
    (∀ c : Dev Cert.UpdateKvIdeal.nD,
      m' ((c.tc : Thread Cert.UpdateKvRefIdeal.nD Cert.UpdateKvRefIdeal.τ).loc Cert.UpdateKvRefIdeal.main_arg0) = m ((c.tc : Thread Cert.UpdateKvIdeal.nD Cert.UpdateKvIdeal.τ).loc Cert.UpdateKvIdeal.main_arg0)
      ∧ m' ((c.tc : Thread Cert.UpdateKvRefIdeal.nD Cert.UpdateKvRefIdeal.τ).loc Cert.UpdateKvRefIdeal.main_arg1) = m ((c.tc : Thread Cert.UpdateKvIdeal.nD Cert.UpdateKvIdeal.τ).loc Cert.UpdateKvIdeal.main_arg1)
      ∧ m' ((c.tc : Thread Cert.UpdateKvRefIdeal.nD Cert.UpdateKvRefIdeal.τ).loc Cert.UpdateKvRefIdeal.main_arg2) = m ((c.tc : Thread Cert.UpdateKvIdeal.nD Cert.UpdateKvIdeal.τ).loc Cert.UpdateKvIdeal.main_arg2)
      ∧ m' ((c.tc : Thread Cert.UpdateKvRefIdeal.nD Cert.UpdateKvRefIdeal.τ).loc Cert.UpdateKvRefIdeal.main_arg3) = m ((c.tc : Thread Cert.UpdateKvIdeal.nD Cert.UpdateKvIdeal.τ).loc Cert.UpdateKvIdeal.main_arg3)) →
    ∃ (v0 : (c : Dev Cert.UpdateKvIdeal.nD) → Buf (Elt Ideal) ((c.tc : Thread Cert.UpdateKvIdeal.nD Cert.UpdateKvIdeal.τ).loc Cert.UpdateKvIdeal.main_v0_0)) (v1 : (c : Dev Cert.UpdateKvIdeal.nD) → Buf (Elt Ideal) ((c.tc : Thread Cert.UpdateKvIdeal.nD Cert.UpdateKvIdeal.τ).loc Cert.UpdateKvIdeal.main_v0_1)) (v2 : (c : Dev Cert.UpdateKvIdeal.nD) → Buf (Elt Ideal) ((c.tc : Thread Cert.UpdateKvIdeal.nD Cert.UpdateKvIdeal.τ).loc Cert.UpdateKvIdeal.main_v0_2)),
      θ_run (Cert.UpdateKvIdeal.defs (F := Ideal)) (onTc (τ := Cert.UpdateKvIdeal.τ) (Cert.UpdateKvIdeal.main (F := Ideal))) ⟨m, fun _ => 0, g⟩ (fun r => ∀ c : Dev Cert.UpdateKvIdeal.nD,
          r.2.mem ((c.tc : Thread Cert.UpdateKvIdeal.nD Cert.UpdateKvIdeal.τ).loc Cert.UpdateKvIdeal.main_v0_0) = v0 c
          ∧ r.2.mem ((c.tc : Thread Cert.UpdateKvIdeal.nD Cert.UpdateKvIdeal.τ).loc Cert.UpdateKvIdeal.main_v0_1) = v1 c
          ∧ r.2.mem ((c.tc : Thread Cert.UpdateKvIdeal.nD Cert.UpdateKvIdeal.τ).loc Cert.UpdateKvIdeal.main_v0_2) = v2 c
          ∧ r.2.mem ((c.tc : Thread Cert.UpdateKvIdeal.nD Cert.UpdateKvIdeal.τ).loc Cert.UpdateKvIdeal.main_arg0) = m ((c.tc : Thread Cert.UpdateKvIdeal.nD Cert.UpdateKvIdeal.τ).loc Cert.UpdateKvIdeal.main_arg0)
          ∧ r.2.mem ((c.tc : Thread Cert.UpdateKvIdeal.nD Cert.UpdateKvIdeal.τ).loc Cert.UpdateKvIdeal.main_arg1) = m ((c.tc : Thread Cert.UpdateKvIdeal.nD Cert.UpdateKvIdeal.τ).loc Cert.UpdateKvIdeal.main_arg1)
          ∧ r.2.mem ((c.tc : Thread Cert.UpdateKvIdeal.nD Cert.UpdateKvIdeal.τ).loc Cert.UpdateKvIdeal.main_arg2) = m ((c.tc : Thread Cert.UpdateKvIdeal.nD Cert.UpdateKvIdeal.τ).loc Cert.UpdateKvIdeal.main_arg2)
          ∧ r.2.mem ((c.tc : Thread Cert.UpdateKvIdeal.nD Cert.UpdateKvIdeal.τ).loc Cert.UpdateKvIdeal.main_arg3) = m ((c.tc : Thread Cert.UpdateKvIdeal.nD Cert.UpdateKvIdeal.τ).loc Cert.UpdateKvIdeal.main_arg3))
      ∧ θ_run (Cert.UpdateKvRefIdeal.defs (F := Ideal)) (onTc (τ := Cert.UpdateKvRefIdeal.τ) (Cert.UpdateKvRefIdeal.main (F := Ideal))) ⟨m', fun _ => 0, g'⟩ (fun r => ∀ c : Dev Cert.UpdateKvRefIdeal.nD,
          r.2.mem ((c.tc : Thread Cert.UpdateKvRefIdeal.nD Cert.UpdateKvRefIdeal.τ).loc Cert.UpdateKvRefIdeal.main_v23) = v0 c
          ∧ r.2.mem ((c.tc : Thread Cert.UpdateKvRefIdeal.nD Cert.UpdateKvRefIdeal.τ).loc Cert.UpdateKvRefIdeal.main_v4) = v1 c
          ∧ r.2.mem ((c.tc : Thread Cert.UpdateKvRefIdeal.nD Cert.UpdateKvRefIdeal.τ).loc Cert.UpdateKvRefIdeal.main_v10) = v2 c
          ∧ r.2.mem ((c.tc : Thread Cert.UpdateKvRefIdeal.nD Cert.UpdateKvRefIdeal.τ).loc Cert.UpdateKvRefIdeal.main_arg0) = m' ((c.tc : Thread Cert.UpdateKvRefIdeal.nD Cert.UpdateKvRefIdeal.τ).loc Cert.UpdateKvRefIdeal.main_arg0)
          ∧ r.2.mem ((c.tc : Thread Cert.UpdateKvRefIdeal.nD Cert.UpdateKvRefIdeal.τ).loc Cert.UpdateKvRefIdeal.main_arg1) = m' ((c.tc : Thread Cert.UpdateKvRefIdeal.nD Cert.UpdateKvRefIdeal.τ).loc Cert.UpdateKvRefIdeal.main_arg1)
          ∧ r.2.mem ((c.tc : Thread Cert.UpdateKvRefIdeal.nD Cert.UpdateKvRefIdeal.τ).loc Cert.UpdateKvRefIdeal.main_arg2) = m' ((c.tc : Thread Cert.UpdateKvRefIdeal.nD Cert.UpdateKvRefIdeal.τ).loc Cert.UpdateKvRefIdeal.main_arg2)
          ∧ r.2.mem ((c.tc : Thread Cert.UpdateKvRefIdeal.nD Cert.UpdateKvRefIdeal.τ).loc Cert.UpdateKvRefIdeal.main_arg3) = m' ((c.tc : Thread Cert.UpdateKvRefIdeal.nD Cert.UpdateKvRefIdeal.τ).loc Cert.UpdateKvRefIdeal.main_arg3))

def preserves_UpdateGains_UpdateGainsIdeal : Prop :=
  True

def algebraic_UpdateGainsIdeal_UpdateGainsRefIdeal [hUpdateGainsIdeal : Cert.UpdateGainsIdeal.Facts] [hUpdateGainsRefIdeal : Cert.UpdateGainsRefIdeal.Facts] : Prop :=
  ∀ (m : (ℓ : Loc Cert.UpdateGainsIdeal.nD Cert.UpdateGainsIdeal.τ Cert.UpdateGainsIdeal.sig) → Buf (Elt Ideal) ℓ) (g : Dev Cert.UpdateGainsIdeal.nD → PrngReg)
    (m' : (ℓ : Loc Cert.UpdateGainsRefIdeal.nD Cert.UpdateGainsRefIdeal.τ Cert.UpdateGainsRefIdeal.sig) → Buf (Elt Ideal) ℓ) (g' : Dev Cert.UpdateGainsRefIdeal.nD → PrngReg), Pre_UpdateGainsIdeal m →
    (∀ c : Dev Cert.UpdateGainsIdeal.nD,
      m' ((c.tc : Thread Cert.UpdateGainsRefIdeal.nD Cert.UpdateGainsRefIdeal.τ).loc Cert.UpdateGainsRefIdeal.main_arg0) = m ((c.tc : Thread Cert.UpdateGainsIdeal.nD Cert.UpdateGainsIdeal.τ).loc Cert.UpdateGainsIdeal.main_arg0)
      ∧ m' ((c.tc : Thread Cert.UpdateGainsRefIdeal.nD Cert.UpdateGainsRefIdeal.τ).loc Cert.UpdateGainsRefIdeal.main_arg1) = m ((c.tc : Thread Cert.UpdateGainsIdeal.nD Cert.UpdateGainsIdeal.τ).loc Cert.UpdateGainsIdeal.main_arg1)
      ∧ m' ((c.tc : Thread Cert.UpdateGainsRefIdeal.nD Cert.UpdateGainsRefIdeal.τ).loc Cert.UpdateGainsRefIdeal.main_arg2) = m ((c.tc : Thread Cert.UpdateGainsIdeal.nD Cert.UpdateGainsIdeal.τ).loc Cert.UpdateGainsIdeal.main_arg2)
      ∧ m' ((c.tc : Thread Cert.UpdateGainsRefIdeal.nD Cert.UpdateGainsRefIdeal.τ).loc Cert.UpdateGainsRefIdeal.main_arg3) = m ((c.tc : Thread Cert.UpdateGainsIdeal.nD Cert.UpdateGainsIdeal.τ).loc Cert.UpdateGainsIdeal.main_arg3)) →
    ∃ (v0 : (c : Dev Cert.UpdateGainsIdeal.nD) → Buf (Elt Ideal) ((c.tc : Thread Cert.UpdateGainsIdeal.nD Cert.UpdateGainsIdeal.τ).loc Cert.UpdateGainsIdeal.main_v0_0)) (v1 : (c : Dev Cert.UpdateGainsIdeal.nD) → Buf (Elt Ideal) ((c.tc : Thread Cert.UpdateGainsIdeal.nD Cert.UpdateGainsIdeal.τ).loc Cert.UpdateGainsIdeal.main_v0_1)) (v2 : (c : Dev Cert.UpdateGainsIdeal.nD) → Buf (Elt Ideal) ((c.tc : Thread Cert.UpdateGainsIdeal.nD Cert.UpdateGainsIdeal.τ).loc Cert.UpdateGainsIdeal.main_v0_2)),
      θ_run (Cert.UpdateGainsIdeal.defs (F := Ideal)) (onTc (τ := Cert.UpdateGainsIdeal.τ) (Cert.UpdateGainsIdeal.main (F := Ideal))) ⟨m, fun _ => 0, g⟩ (fun r => ∀ c : Dev Cert.UpdateGainsIdeal.nD,
          r.2.mem ((c.tc : Thread Cert.UpdateGainsIdeal.nD Cert.UpdateGainsIdeal.τ).loc Cert.UpdateGainsIdeal.main_v0_0) = v0 c
          ∧ r.2.mem ((c.tc : Thread Cert.UpdateGainsIdeal.nD Cert.UpdateGainsIdeal.τ).loc Cert.UpdateGainsIdeal.main_v0_1) = v1 c
          ∧ r.2.mem ((c.tc : Thread Cert.UpdateGainsIdeal.nD Cert.UpdateGainsIdeal.τ).loc Cert.UpdateGainsIdeal.main_v0_2) = v2 c
          ∧ r.2.mem ((c.tc : Thread Cert.UpdateGainsIdeal.nD Cert.UpdateGainsIdeal.τ).loc Cert.UpdateGainsIdeal.main_arg0) = m ((c.tc : Thread Cert.UpdateGainsIdeal.nD Cert.UpdateGainsIdeal.τ).loc Cert.UpdateGainsIdeal.main_arg0)
          ∧ r.2.mem ((c.tc : Thread Cert.UpdateGainsIdeal.nD Cert.UpdateGainsIdeal.τ).loc Cert.UpdateGainsIdeal.main_arg1) = m ((c.tc : Thread Cert.UpdateGainsIdeal.nD Cert.UpdateGainsIdeal.τ).loc Cert.UpdateGainsIdeal.main_arg1)
          ∧ r.2.mem ((c.tc : Thread Cert.UpdateGainsIdeal.nD Cert.UpdateGainsIdeal.τ).loc Cert.UpdateGainsIdeal.main_arg2) = m ((c.tc : Thread Cert.UpdateGainsIdeal.nD Cert.UpdateGainsIdeal.τ).loc Cert.UpdateGainsIdeal.main_arg2)
          ∧ r.2.mem ((c.tc : Thread Cert.UpdateGainsIdeal.nD Cert.UpdateGainsIdeal.τ).loc Cert.UpdateGainsIdeal.main_arg3) = m ((c.tc : Thread Cert.UpdateGainsIdeal.nD Cert.UpdateGainsIdeal.τ).loc Cert.UpdateGainsIdeal.main_arg3))
      ∧ θ_run (Cert.UpdateGainsRefIdeal.defs (F := Ideal)) (onTc (τ := Cert.UpdateGainsRefIdeal.τ) (Cert.UpdateGainsRefIdeal.main (F := Ideal))) ⟨m', fun _ => 0, g'⟩ (fun r => ∀ c : Dev Cert.UpdateGainsRefIdeal.nD,
          r.2.mem ((c.tc : Thread Cert.UpdateGainsRefIdeal.nD Cert.UpdateGainsRefIdeal.τ).loc Cert.UpdateGainsRefIdeal.main_v23) = v0 c
          ∧ r.2.mem ((c.tc : Thread Cert.UpdateGainsRefIdeal.nD Cert.UpdateGainsRefIdeal.τ).loc Cert.UpdateGainsRefIdeal.main_v4) = v1 c
          ∧ r.2.mem ((c.tc : Thread Cert.UpdateGainsRefIdeal.nD Cert.UpdateGainsRefIdeal.τ).loc Cert.UpdateGainsRefIdeal.main_v10) = v2 c
          ∧ r.2.mem ((c.tc : Thread Cert.UpdateGainsRefIdeal.nD Cert.UpdateGainsRefIdeal.τ).loc Cert.UpdateGainsRefIdeal.main_arg0) = m' ((c.tc : Thread Cert.UpdateGainsRefIdeal.nD Cert.UpdateGainsRefIdeal.τ).loc Cert.UpdateGainsRefIdeal.main_arg0)
          ∧ r.2.mem ((c.tc : Thread Cert.UpdateGainsRefIdeal.nD Cert.UpdateGainsRefIdeal.τ).loc Cert.UpdateGainsRefIdeal.main_arg1) = m' ((c.tc : Thread Cert.UpdateGainsRefIdeal.nD Cert.UpdateGainsRefIdeal.τ).loc Cert.UpdateGainsRefIdeal.main_arg1)
          ∧ r.2.mem ((c.tc : Thread Cert.UpdateGainsRefIdeal.nD Cert.UpdateGainsRefIdeal.τ).loc Cert.UpdateGainsRefIdeal.main_arg2) = m' ((c.tc : Thread Cert.UpdateGainsRefIdeal.nD Cert.UpdateGainsRefIdeal.τ).loc Cert.UpdateGainsRefIdeal.main_arg2)
          ∧ r.2.mem ((c.tc : Thread Cert.UpdateGainsRefIdeal.nD Cert.UpdateGainsRefIdeal.τ).loc Cert.UpdateGainsRefIdeal.main_arg3) = m' ((c.tc : Thread Cert.UpdateGainsRefIdeal.nD Cert.UpdateGainsRefIdeal.τ).loc Cert.UpdateGainsRefIdeal.main_arg3))

def preserves_UpdateKvGain_UpdateKvGainIdeal : Prop :=
  True

def algebraic_UpdateKvGainIdeal_UpdateKvGainRefIdeal [hUpdateKvGainIdeal : Cert.UpdateKvGainIdeal.Facts] [hUpdateKvGainRefIdeal : Cert.UpdateKvGainRefIdeal.Facts] : Prop :=
  ∀ (m : (ℓ : Loc Cert.UpdateKvGainIdeal.nD Cert.UpdateKvGainIdeal.τ Cert.UpdateKvGainIdeal.sig) → Buf (Elt Ideal) ℓ) (g : Dev Cert.UpdateKvGainIdeal.nD → PrngReg)
    (m' : (ℓ : Loc Cert.UpdateKvGainRefIdeal.nD Cert.UpdateKvGainRefIdeal.τ Cert.UpdateKvGainRefIdeal.sig) → Buf (Elt Ideal) ℓ) (g' : Dev Cert.UpdateKvGainRefIdeal.nD → PrngReg), Pre_UpdateKvGainIdeal m →
    (∀ c : Dev Cert.UpdateKvGainIdeal.nD,
      m' ((c.tc : Thread Cert.UpdateKvGainRefIdeal.nD Cert.UpdateKvGainRefIdeal.τ).loc Cert.UpdateKvGainRefIdeal.main_arg0) = m ((c.tc : Thread Cert.UpdateKvGainIdeal.nD Cert.UpdateKvGainIdeal.τ).loc Cert.UpdateKvGainIdeal.main_arg0)
      ∧ m' ((c.tc : Thread Cert.UpdateKvGainRefIdeal.nD Cert.UpdateKvGainRefIdeal.τ).loc Cert.UpdateKvGainRefIdeal.main_arg1) = m ((c.tc : Thread Cert.UpdateKvGainIdeal.nD Cert.UpdateKvGainIdeal.τ).loc Cert.UpdateKvGainIdeal.main_arg1)
      ∧ m' ((c.tc : Thread Cert.UpdateKvGainRefIdeal.nD Cert.UpdateKvGainRefIdeal.τ).loc Cert.UpdateKvGainRefIdeal.main_arg2) = m ((c.tc : Thread Cert.UpdateKvGainIdeal.nD Cert.UpdateKvGainIdeal.τ).loc Cert.UpdateKvGainIdeal.main_arg2)
      ∧ m' ((c.tc : Thread Cert.UpdateKvGainRefIdeal.nD Cert.UpdateKvGainRefIdeal.τ).loc Cert.UpdateKvGainRefIdeal.main_arg3) = m ((c.tc : Thread Cert.UpdateKvGainIdeal.nD Cert.UpdateKvGainIdeal.τ).loc Cert.UpdateKvGainIdeal.main_arg3)) →
    ∃ (v0 : (c : Dev Cert.UpdateKvGainIdeal.nD) → Buf (Elt Ideal) ((c.tc : Thread Cert.UpdateKvGainIdeal.nD Cert.UpdateKvGainIdeal.τ).loc Cert.UpdateKvGainIdeal.main_v0_0)) (v1 : (c : Dev Cert.UpdateKvGainIdeal.nD) → Buf (Elt Ideal) ((c.tc : Thread Cert.UpdateKvGainIdeal.nD Cert.UpdateKvGainIdeal.τ).loc Cert.UpdateKvGainIdeal.main_v0_1)) (v2 : (c : Dev Cert.UpdateKvGainIdeal.nD) → Buf (Elt Ideal) ((c.tc : Thread Cert.UpdateKvGainIdeal.nD Cert.UpdateKvGainIdeal.τ).loc Cert.UpdateKvGainIdeal.main_v0_2)),
      θ_run (Cert.UpdateKvGainIdeal.defs (F := Ideal)) (onTc (τ := Cert.UpdateKvGainIdeal.τ) (Cert.UpdateKvGainIdeal.main (F := Ideal))) ⟨m, fun _ => 0, g⟩ (fun r => ∀ c : Dev Cert.UpdateKvGainIdeal.nD,
          r.2.mem ((c.tc : Thread Cert.UpdateKvGainIdeal.nD Cert.UpdateKvGainIdeal.τ).loc Cert.UpdateKvGainIdeal.main_v0_0) = v0 c
          ∧ r.2.mem ((c.tc : Thread Cert.UpdateKvGainIdeal.nD Cert.UpdateKvGainIdeal.τ).loc Cert.UpdateKvGainIdeal.main_v0_1) = v1 c
          ∧ r.2.mem ((c.tc : Thread Cert.UpdateKvGainIdeal.nD Cert.UpdateKvGainIdeal.τ).loc Cert.UpdateKvGainIdeal.main_v0_2) = v2 c
          ∧ r.2.mem ((c.tc : Thread Cert.UpdateKvGainIdeal.nD Cert.UpdateKvGainIdeal.τ).loc Cert.UpdateKvGainIdeal.main_arg0) = m ((c.tc : Thread Cert.UpdateKvGainIdeal.nD Cert.UpdateKvGainIdeal.τ).loc Cert.UpdateKvGainIdeal.main_arg0)
          ∧ r.2.mem ((c.tc : Thread Cert.UpdateKvGainIdeal.nD Cert.UpdateKvGainIdeal.τ).loc Cert.UpdateKvGainIdeal.main_arg1) = m ((c.tc : Thread Cert.UpdateKvGainIdeal.nD Cert.UpdateKvGainIdeal.τ).loc Cert.UpdateKvGainIdeal.main_arg1)
          ∧ r.2.mem ((c.tc : Thread Cert.UpdateKvGainIdeal.nD Cert.UpdateKvGainIdeal.τ).loc Cert.UpdateKvGainIdeal.main_arg2) = m ((c.tc : Thread Cert.UpdateKvGainIdeal.nD Cert.UpdateKvGainIdeal.τ).loc Cert.UpdateKvGainIdeal.main_arg2)
          ∧ r.2.mem ((c.tc : Thread Cert.UpdateKvGainIdeal.nD Cert.UpdateKvGainIdeal.τ).loc Cert.UpdateKvGainIdeal.main_arg3) = m ((c.tc : Thread Cert.UpdateKvGainIdeal.nD Cert.UpdateKvGainIdeal.τ).loc Cert.UpdateKvGainIdeal.main_arg3))
      ∧ θ_run (Cert.UpdateKvGainRefIdeal.defs (F := Ideal)) (onTc (τ := Cert.UpdateKvGainRefIdeal.τ) (Cert.UpdateKvGainRefIdeal.main (F := Ideal))) ⟨m', fun _ => 0, g'⟩ (fun r => ∀ c : Dev Cert.UpdateKvGainRefIdeal.nD,
          r.2.mem ((c.tc : Thread Cert.UpdateKvGainRefIdeal.nD Cert.UpdateKvGainRefIdeal.τ).loc Cert.UpdateKvGainRefIdeal.main_v23) = v0 c
          ∧ r.2.mem ((c.tc : Thread Cert.UpdateKvGainRefIdeal.nD Cert.UpdateKvGainRefIdeal.τ).loc Cert.UpdateKvGainRefIdeal.main_v4) = v1 c
          ∧ r.2.mem ((c.tc : Thread Cert.UpdateKvGainRefIdeal.nD Cert.UpdateKvGainRefIdeal.τ).loc Cert.UpdateKvGainRefIdeal.main_v10) = v2 c
          ∧ r.2.mem ((c.tc : Thread Cert.UpdateKvGainRefIdeal.nD Cert.UpdateKvGainRefIdeal.τ).loc Cert.UpdateKvGainRefIdeal.main_arg0) = m' ((c.tc : Thread Cert.UpdateKvGainRefIdeal.nD Cert.UpdateKvGainRefIdeal.τ).loc Cert.UpdateKvGainRefIdeal.main_arg0)
          ∧ r.2.mem ((c.tc : Thread Cert.UpdateKvGainRefIdeal.nD Cert.UpdateKvGainRefIdeal.τ).loc Cert.UpdateKvGainRefIdeal.main_arg1) = m' ((c.tc : Thread Cert.UpdateKvGainRefIdeal.nD Cert.UpdateKvGainRefIdeal.τ).loc Cert.UpdateKvGainRefIdeal.main_arg1)
          ∧ r.2.mem ((c.tc : Thread Cert.UpdateKvGainRefIdeal.nD Cert.UpdateKvGainRefIdeal.τ).loc Cert.UpdateKvGainRefIdeal.main_arg2) = m' ((c.tc : Thread Cert.UpdateKvGainRefIdeal.nD Cert.UpdateKvGainRefIdeal.τ).loc Cert.UpdateKvGainRefIdeal.main_arg2)
          ∧ r.2.mem ((c.tc : Thread Cert.UpdateKvGainRefIdeal.nD Cert.UpdateKvGainRefIdeal.τ).loc Cert.UpdateKvGainRefIdeal.main_arg3) = m' ((c.tc : Thread Cert.UpdateKvGainRefIdeal.nD Cert.UpdateKvGainRefIdeal.τ).loc Cert.UpdateKvGainRefIdeal.main_arg3))

def preserves_UpdateOutGain_UpdateOutGainIdeal : Prop :=
  True

def algebraic_UpdateOutGainIdeal_UpdateOutGainRefIdeal [hUpdateOutGainIdeal : Cert.UpdateOutGainIdeal.Facts] [hUpdateOutGainRefIdeal : Cert.UpdateOutGainRefIdeal.Facts] : Prop :=
  ∀ (m : (ℓ : Loc Cert.UpdateOutGainIdeal.nD Cert.UpdateOutGainIdeal.τ Cert.UpdateOutGainIdeal.sig) → Buf (Elt Ideal) ℓ) (g : Dev Cert.UpdateOutGainIdeal.nD → PrngReg)
    (m' : (ℓ : Loc Cert.UpdateOutGainRefIdeal.nD Cert.UpdateOutGainRefIdeal.τ Cert.UpdateOutGainRefIdeal.sig) → Buf (Elt Ideal) ℓ) (g' : Dev Cert.UpdateOutGainRefIdeal.nD → PrngReg), Pre_UpdateOutGainIdeal m →
    (∀ c : Dev Cert.UpdateOutGainIdeal.nD,
      m' ((c.tc : Thread Cert.UpdateOutGainRefIdeal.nD Cert.UpdateOutGainRefIdeal.τ).loc Cert.UpdateOutGainRefIdeal.main_arg0) = m ((c.tc : Thread Cert.UpdateOutGainIdeal.nD Cert.UpdateOutGainIdeal.τ).loc Cert.UpdateOutGainIdeal.main_arg0)
      ∧ m' ((c.tc : Thread Cert.UpdateOutGainRefIdeal.nD Cert.UpdateOutGainRefIdeal.τ).loc Cert.UpdateOutGainRefIdeal.main_arg1) = m ((c.tc : Thread Cert.UpdateOutGainIdeal.nD Cert.UpdateOutGainIdeal.τ).loc Cert.UpdateOutGainIdeal.main_arg1)
      ∧ m' ((c.tc : Thread Cert.UpdateOutGainRefIdeal.nD Cert.UpdateOutGainRefIdeal.τ).loc Cert.UpdateOutGainRefIdeal.main_arg2) = m ((c.tc : Thread Cert.UpdateOutGainIdeal.nD Cert.UpdateOutGainIdeal.τ).loc Cert.UpdateOutGainIdeal.main_arg2)
      ∧ m' ((c.tc : Thread Cert.UpdateOutGainRefIdeal.nD Cert.UpdateOutGainRefIdeal.τ).loc Cert.UpdateOutGainRefIdeal.main_arg3) = m ((c.tc : Thread Cert.UpdateOutGainIdeal.nD Cert.UpdateOutGainIdeal.τ).loc Cert.UpdateOutGainIdeal.main_arg3)) →
    ∃ (v0 : (c : Dev Cert.UpdateOutGainIdeal.nD) → Buf (Elt Ideal) ((c.tc : Thread Cert.UpdateOutGainIdeal.nD Cert.UpdateOutGainIdeal.τ).loc Cert.UpdateOutGainIdeal.main_v0_0)) (v1 : (c : Dev Cert.UpdateOutGainIdeal.nD) → Buf (Elt Ideal) ((c.tc : Thread Cert.UpdateOutGainIdeal.nD Cert.UpdateOutGainIdeal.τ).loc Cert.UpdateOutGainIdeal.main_v0_1)) (v2 : (c : Dev Cert.UpdateOutGainIdeal.nD) → Buf (Elt Ideal) ((c.tc : Thread Cert.UpdateOutGainIdeal.nD Cert.UpdateOutGainIdeal.τ).loc Cert.UpdateOutGainIdeal.main_v0_2)),
      θ_run (Cert.UpdateOutGainIdeal.defs (F := Ideal)) (onTc (τ := Cert.UpdateOutGainIdeal.τ) (Cert.UpdateOutGainIdeal.main (F := Ideal))) ⟨m, fun _ => 0, g⟩ (fun r => ∀ c : Dev Cert.UpdateOutGainIdeal.nD,
          r.2.mem ((c.tc : Thread Cert.UpdateOutGainIdeal.nD Cert.UpdateOutGainIdeal.τ).loc Cert.UpdateOutGainIdeal.main_v0_0) = v0 c
          ∧ r.2.mem ((c.tc : Thread Cert.UpdateOutGainIdeal.nD Cert.UpdateOutGainIdeal.τ).loc Cert.UpdateOutGainIdeal.main_v0_1) = v1 c
          ∧ r.2.mem ((c.tc : Thread Cert.UpdateOutGainIdeal.nD Cert.UpdateOutGainIdeal.τ).loc Cert.UpdateOutGainIdeal.main_v0_2) = v2 c
          ∧ r.2.mem ((c.tc : Thread Cert.UpdateOutGainIdeal.nD Cert.UpdateOutGainIdeal.τ).loc Cert.UpdateOutGainIdeal.main_arg0) = m ((c.tc : Thread Cert.UpdateOutGainIdeal.nD Cert.UpdateOutGainIdeal.τ).loc Cert.UpdateOutGainIdeal.main_arg0)
          ∧ r.2.mem ((c.tc : Thread Cert.UpdateOutGainIdeal.nD Cert.UpdateOutGainIdeal.τ).loc Cert.UpdateOutGainIdeal.main_arg1) = m ((c.tc : Thread Cert.UpdateOutGainIdeal.nD Cert.UpdateOutGainIdeal.τ).loc Cert.UpdateOutGainIdeal.main_arg1)
          ∧ r.2.mem ((c.tc : Thread Cert.UpdateOutGainIdeal.nD Cert.UpdateOutGainIdeal.τ).loc Cert.UpdateOutGainIdeal.main_arg2) = m ((c.tc : Thread Cert.UpdateOutGainIdeal.nD Cert.UpdateOutGainIdeal.τ).loc Cert.UpdateOutGainIdeal.main_arg2)
          ∧ r.2.mem ((c.tc : Thread Cert.UpdateOutGainIdeal.nD Cert.UpdateOutGainIdeal.τ).loc Cert.UpdateOutGainIdeal.main_arg3) = m ((c.tc : Thread Cert.UpdateOutGainIdeal.nD Cert.UpdateOutGainIdeal.τ).loc Cert.UpdateOutGainIdeal.main_arg3))
      ∧ θ_run (Cert.UpdateOutGainRefIdeal.defs (F := Ideal)) (onTc (τ := Cert.UpdateOutGainRefIdeal.τ) (Cert.UpdateOutGainRefIdeal.main (F := Ideal))) ⟨m', fun _ => 0, g'⟩ (fun r => ∀ c : Dev Cert.UpdateOutGainRefIdeal.nD,
          r.2.mem ((c.tc : Thread Cert.UpdateOutGainRefIdeal.nD Cert.UpdateOutGainRefIdeal.τ).loc Cert.UpdateOutGainRefIdeal.main_v23) = v0 c
          ∧ r.2.mem ((c.tc : Thread Cert.UpdateOutGainRefIdeal.nD Cert.UpdateOutGainRefIdeal.τ).loc Cert.UpdateOutGainRefIdeal.main_v4) = v1 c
          ∧ r.2.mem ((c.tc : Thread Cert.UpdateOutGainRefIdeal.nD Cert.UpdateOutGainRefIdeal.τ).loc Cert.UpdateOutGainRefIdeal.main_v10) = v2 c
          ∧ r.2.mem ((c.tc : Thread Cert.UpdateOutGainRefIdeal.nD Cert.UpdateOutGainRefIdeal.τ).loc Cert.UpdateOutGainRefIdeal.main_arg0) = m' ((c.tc : Thread Cert.UpdateOutGainRefIdeal.nD Cert.UpdateOutGainRefIdeal.τ).loc Cert.UpdateOutGainRefIdeal.main_arg0)
          ∧ r.2.mem ((c.tc : Thread Cert.UpdateOutGainRefIdeal.nD Cert.UpdateOutGainRefIdeal.τ).loc Cert.UpdateOutGainRefIdeal.main_arg1) = m' ((c.tc : Thread Cert.UpdateOutGainRefIdeal.nD Cert.UpdateOutGainRefIdeal.τ).loc Cert.UpdateOutGainRefIdeal.main_arg1)
          ∧ r.2.mem ((c.tc : Thread Cert.UpdateOutGainRefIdeal.nD Cert.UpdateOutGainRefIdeal.τ).loc Cert.UpdateOutGainRefIdeal.main_arg2) = m' ((c.tc : Thread Cert.UpdateOutGainRefIdeal.nD Cert.UpdateOutGainRefIdeal.τ).loc Cert.UpdateOutGainRefIdeal.main_arg2)
          ∧ r.2.mem ((c.tc : Thread Cert.UpdateOutGainRefIdeal.nD Cert.UpdateOutGainRefIdeal.τ).loc Cert.UpdateOutGainRefIdeal.main_arg3) = m' ((c.tc : Thread Cert.UpdateOutGainRefIdeal.nD Cert.UpdateOutGainRefIdeal.τ).loc Cert.UpdateOutGainRefIdeal.main_arg3))

def preserves_UpdateDecay_UpdateDecayIdeal : Prop :=
  True

def algebraic_UpdateDecayIdeal_UpdateDecayRefIdeal [hUpdateDecayIdeal : Cert.UpdateDecayIdeal.Facts] [hUpdateDecayRefIdeal : Cert.UpdateDecayRefIdeal.Facts] : Prop :=
  ∀ (m : (ℓ : Loc Cert.UpdateDecayIdeal.nD Cert.UpdateDecayIdeal.τ Cert.UpdateDecayIdeal.sig) → Buf (Elt Ideal) ℓ) (g : Dev Cert.UpdateDecayIdeal.nD → PrngReg)
    (m' : (ℓ : Loc Cert.UpdateDecayRefIdeal.nD Cert.UpdateDecayRefIdeal.τ Cert.UpdateDecayRefIdeal.sig) → Buf (Elt Ideal) ℓ) (g' : Dev Cert.UpdateDecayRefIdeal.nD → PrngReg), Pre_UpdateDecayIdeal m →
    (∀ c : Dev Cert.UpdateDecayIdeal.nD,
      m' ((c.tc : Thread Cert.UpdateDecayRefIdeal.nD Cert.UpdateDecayRefIdeal.τ).loc Cert.UpdateDecayRefIdeal.main_arg0) = m ((c.tc : Thread Cert.UpdateDecayIdeal.nD Cert.UpdateDecayIdeal.τ).loc Cert.UpdateDecayIdeal.main_arg0)
      ∧ m' ((c.tc : Thread Cert.UpdateDecayRefIdeal.nD Cert.UpdateDecayRefIdeal.τ).loc Cert.UpdateDecayRefIdeal.main_arg1) = m ((c.tc : Thread Cert.UpdateDecayIdeal.nD Cert.UpdateDecayIdeal.τ).loc Cert.UpdateDecayIdeal.main_arg1)
      ∧ m' ((c.tc : Thread Cert.UpdateDecayRefIdeal.nD Cert.UpdateDecayRefIdeal.τ).loc Cert.UpdateDecayRefIdeal.main_arg2) = m ((c.tc : Thread Cert.UpdateDecayIdeal.nD Cert.UpdateDecayIdeal.τ).loc Cert.UpdateDecayIdeal.main_arg2)
      ∧ m' ((c.tc : Thread Cert.UpdateDecayRefIdeal.nD Cert.UpdateDecayRefIdeal.τ).loc Cert.UpdateDecayRefIdeal.main_arg3) = m ((c.tc : Thread Cert.UpdateDecayIdeal.nD Cert.UpdateDecayIdeal.τ).loc Cert.UpdateDecayIdeal.main_arg3)) →
    ∃ (v0 : (c : Dev Cert.UpdateDecayIdeal.nD) → Buf (Elt Ideal) ((c.tc : Thread Cert.UpdateDecayIdeal.nD Cert.UpdateDecayIdeal.τ).loc Cert.UpdateDecayIdeal.main_v0_0)) (v1 : (c : Dev Cert.UpdateDecayIdeal.nD) → Buf (Elt Ideal) ((c.tc : Thread Cert.UpdateDecayIdeal.nD Cert.UpdateDecayIdeal.τ).loc Cert.UpdateDecayIdeal.main_v0_1)) (v2 : (c : Dev Cert.UpdateDecayIdeal.nD) → Buf (Elt Ideal) ((c.tc : Thread Cert.UpdateDecayIdeal.nD Cert.UpdateDecayIdeal.τ).loc Cert.UpdateDecayIdeal.main_v0_2)),
      θ_run (Cert.UpdateDecayIdeal.defs (F := Ideal)) (onTc (τ := Cert.UpdateDecayIdeal.τ) (Cert.UpdateDecayIdeal.main (F := Ideal))) ⟨m, fun _ => 0, g⟩ (fun r => ∀ c : Dev Cert.UpdateDecayIdeal.nD,
          r.2.mem ((c.tc : Thread Cert.UpdateDecayIdeal.nD Cert.UpdateDecayIdeal.τ).loc Cert.UpdateDecayIdeal.main_v0_0) = v0 c
          ∧ r.2.mem ((c.tc : Thread Cert.UpdateDecayIdeal.nD Cert.UpdateDecayIdeal.τ).loc Cert.UpdateDecayIdeal.main_v0_1) = v1 c
          ∧ r.2.mem ((c.tc : Thread Cert.UpdateDecayIdeal.nD Cert.UpdateDecayIdeal.τ).loc Cert.UpdateDecayIdeal.main_v0_2) = v2 c
          ∧ r.2.mem ((c.tc : Thread Cert.UpdateDecayIdeal.nD Cert.UpdateDecayIdeal.τ).loc Cert.UpdateDecayIdeal.main_arg0) = m ((c.tc : Thread Cert.UpdateDecayIdeal.nD Cert.UpdateDecayIdeal.τ).loc Cert.UpdateDecayIdeal.main_arg0)
          ∧ r.2.mem ((c.tc : Thread Cert.UpdateDecayIdeal.nD Cert.UpdateDecayIdeal.τ).loc Cert.UpdateDecayIdeal.main_arg1) = m ((c.tc : Thread Cert.UpdateDecayIdeal.nD Cert.UpdateDecayIdeal.τ).loc Cert.UpdateDecayIdeal.main_arg1)
          ∧ r.2.mem ((c.tc : Thread Cert.UpdateDecayIdeal.nD Cert.UpdateDecayIdeal.τ).loc Cert.UpdateDecayIdeal.main_arg2) = m ((c.tc : Thread Cert.UpdateDecayIdeal.nD Cert.UpdateDecayIdeal.τ).loc Cert.UpdateDecayIdeal.main_arg2)
          ∧ r.2.mem ((c.tc : Thread Cert.UpdateDecayIdeal.nD Cert.UpdateDecayIdeal.τ).loc Cert.UpdateDecayIdeal.main_arg3) = m ((c.tc : Thread Cert.UpdateDecayIdeal.nD Cert.UpdateDecayIdeal.τ).loc Cert.UpdateDecayIdeal.main_arg3))
      ∧ θ_run (Cert.UpdateDecayRefIdeal.defs (F := Ideal)) (onTc (τ := Cert.UpdateDecayRefIdeal.τ) (Cert.UpdateDecayRefIdeal.main (F := Ideal))) ⟨m', fun _ => 0, g'⟩ (fun r => ∀ c : Dev Cert.UpdateDecayRefIdeal.nD,
          r.2.mem ((c.tc : Thread Cert.UpdateDecayRefIdeal.nD Cert.UpdateDecayRefIdeal.τ).loc Cert.UpdateDecayRefIdeal.main_v23) = v0 c
          ∧ r.2.mem ((c.tc : Thread Cert.UpdateDecayRefIdeal.nD Cert.UpdateDecayRefIdeal.τ).loc Cert.UpdateDecayRefIdeal.main_v4) = v1 c
          ∧ r.2.mem ((c.tc : Thread Cert.UpdateDecayRefIdeal.nD Cert.UpdateDecayRefIdeal.τ).loc Cert.UpdateDecayRefIdeal.main_v10) = v2 c
          ∧ r.2.mem ((c.tc : Thread Cert.UpdateDecayRefIdeal.nD Cert.UpdateDecayRefIdeal.τ).loc Cert.UpdateDecayRefIdeal.main_arg0) = m' ((c.tc : Thread Cert.UpdateDecayRefIdeal.nD Cert.UpdateDecayRefIdeal.τ).loc Cert.UpdateDecayRefIdeal.main_arg0)
          ∧ r.2.mem ((c.tc : Thread Cert.UpdateDecayRefIdeal.nD Cert.UpdateDecayRefIdeal.τ).loc Cert.UpdateDecayRefIdeal.main_arg1) = m' ((c.tc : Thread Cert.UpdateDecayRefIdeal.nD Cert.UpdateDecayRefIdeal.τ).loc Cert.UpdateDecayRefIdeal.main_arg1)
          ∧ r.2.mem ((c.tc : Thread Cert.UpdateDecayRefIdeal.nD Cert.UpdateDecayRefIdeal.τ).loc Cert.UpdateDecayRefIdeal.main_arg2) = m' ((c.tc : Thread Cert.UpdateDecayRefIdeal.nD Cert.UpdateDecayRefIdeal.τ).loc Cert.UpdateDecayRefIdeal.main_arg2)
          ∧ r.2.mem ((c.tc : Thread Cert.UpdateDecayRefIdeal.nD Cert.UpdateDecayRefIdeal.τ).loc Cert.UpdateDecayRefIdeal.main_arg3) = m' ((c.tc : Thread Cert.UpdateDecayRefIdeal.nD Cert.UpdateDecayRefIdeal.τ).loc Cert.UpdateDecayRefIdeal.main_arg3))

def preserves_UpdateConv_UpdateConvIdeal : Prop :=
  True

def algebraic_UpdateConvIdeal_UpdateConvRefIdeal [hUpdateConvIdeal : Cert.UpdateConvIdeal.Facts] [hUpdateConvRefIdeal : Cert.UpdateConvRefIdeal.Facts] : Prop :=
  ∀ (m : (ℓ : Loc Cert.UpdateConvIdeal.nD Cert.UpdateConvIdeal.τ Cert.UpdateConvIdeal.sig) → Buf (Elt Ideal) ℓ) (g : Dev Cert.UpdateConvIdeal.nD → PrngReg)
    (m' : (ℓ : Loc Cert.UpdateConvRefIdeal.nD Cert.UpdateConvRefIdeal.τ Cert.UpdateConvRefIdeal.sig) → Buf (Elt Ideal) ℓ) (g' : Dev Cert.UpdateConvRefIdeal.nD → PrngReg), Pre_UpdateConvIdeal m →
    (∀ c : Dev Cert.UpdateConvIdeal.nD,
      m' ((c.tc : Thread Cert.UpdateConvRefIdeal.nD Cert.UpdateConvRefIdeal.τ).loc Cert.UpdateConvRefIdeal.main_arg0) = m ((c.tc : Thread Cert.UpdateConvIdeal.nD Cert.UpdateConvIdeal.τ).loc Cert.UpdateConvIdeal.main_arg0)
      ∧ m' ((c.tc : Thread Cert.UpdateConvRefIdeal.nD Cert.UpdateConvRefIdeal.τ).loc Cert.UpdateConvRefIdeal.main_arg1) = m ((c.tc : Thread Cert.UpdateConvIdeal.nD Cert.UpdateConvIdeal.τ).loc Cert.UpdateConvIdeal.main_arg1)
      ∧ m' ((c.tc : Thread Cert.UpdateConvRefIdeal.nD Cert.UpdateConvRefIdeal.τ).loc Cert.UpdateConvRefIdeal.main_arg2) = m ((c.tc : Thread Cert.UpdateConvIdeal.nD Cert.UpdateConvIdeal.τ).loc Cert.UpdateConvIdeal.main_arg2)
      ∧ m' ((c.tc : Thread Cert.UpdateConvRefIdeal.nD Cert.UpdateConvRefIdeal.τ).loc Cert.UpdateConvRefIdeal.main_arg3) = m ((c.tc : Thread Cert.UpdateConvIdeal.nD Cert.UpdateConvIdeal.τ).loc Cert.UpdateConvIdeal.main_arg3)) →
    ∃ (v0 : (c : Dev Cert.UpdateConvIdeal.nD) → Buf (Elt Ideal) ((c.tc : Thread Cert.UpdateConvIdeal.nD Cert.UpdateConvIdeal.τ).loc Cert.UpdateConvIdeal.main_v0_0)) (v1 : (c : Dev Cert.UpdateConvIdeal.nD) → Buf (Elt Ideal) ((c.tc : Thread Cert.UpdateConvIdeal.nD Cert.UpdateConvIdeal.τ).loc Cert.UpdateConvIdeal.main_v0_1)) (v2 : (c : Dev Cert.UpdateConvIdeal.nD) → Buf (Elt Ideal) ((c.tc : Thread Cert.UpdateConvIdeal.nD Cert.UpdateConvIdeal.τ).loc Cert.UpdateConvIdeal.main_v0_2)),
      θ_run (Cert.UpdateConvIdeal.defs (F := Ideal)) (onTc (τ := Cert.UpdateConvIdeal.τ) (Cert.UpdateConvIdeal.main (F := Ideal))) ⟨m, fun _ => 0, g⟩ (fun r => ∀ c : Dev Cert.UpdateConvIdeal.nD,
          r.2.mem ((c.tc : Thread Cert.UpdateConvIdeal.nD Cert.UpdateConvIdeal.τ).loc Cert.UpdateConvIdeal.main_v0_0) = v0 c
          ∧ r.2.mem ((c.tc : Thread Cert.UpdateConvIdeal.nD Cert.UpdateConvIdeal.τ).loc Cert.UpdateConvIdeal.main_v0_1) = v1 c
          ∧ r.2.mem ((c.tc : Thread Cert.UpdateConvIdeal.nD Cert.UpdateConvIdeal.τ).loc Cert.UpdateConvIdeal.main_v0_2) = v2 c
          ∧ r.2.mem ((c.tc : Thread Cert.UpdateConvIdeal.nD Cert.UpdateConvIdeal.τ).loc Cert.UpdateConvIdeal.main_arg0) = m ((c.tc : Thread Cert.UpdateConvIdeal.nD Cert.UpdateConvIdeal.τ).loc Cert.UpdateConvIdeal.main_arg0)
          ∧ r.2.mem ((c.tc : Thread Cert.UpdateConvIdeal.nD Cert.UpdateConvIdeal.τ).loc Cert.UpdateConvIdeal.main_arg1) = m ((c.tc : Thread Cert.UpdateConvIdeal.nD Cert.UpdateConvIdeal.τ).loc Cert.UpdateConvIdeal.main_arg1)
          ∧ r.2.mem ((c.tc : Thread Cert.UpdateConvIdeal.nD Cert.UpdateConvIdeal.τ).loc Cert.UpdateConvIdeal.main_arg2) = m ((c.tc : Thread Cert.UpdateConvIdeal.nD Cert.UpdateConvIdeal.τ).loc Cert.UpdateConvIdeal.main_arg2)
          ∧ r.2.mem ((c.tc : Thread Cert.UpdateConvIdeal.nD Cert.UpdateConvIdeal.τ).loc Cert.UpdateConvIdeal.main_arg3) = m ((c.tc : Thread Cert.UpdateConvIdeal.nD Cert.UpdateConvIdeal.τ).loc Cert.UpdateConvIdeal.main_arg3))
      ∧ θ_run (Cert.UpdateConvRefIdeal.defs (F := Ideal)) (onTc (τ := Cert.UpdateConvRefIdeal.τ) (Cert.UpdateConvRefIdeal.main (F := Ideal))) ⟨m', fun _ => 0, g'⟩ (fun r => ∀ c : Dev Cert.UpdateConvRefIdeal.nD,
          r.2.mem ((c.tc : Thread Cert.UpdateConvRefIdeal.nD Cert.UpdateConvRefIdeal.τ).loc Cert.UpdateConvRefIdeal.main_v23) = v0 c
          ∧ r.2.mem ((c.tc : Thread Cert.UpdateConvRefIdeal.nD Cert.UpdateConvRefIdeal.τ).loc Cert.UpdateConvRefIdeal.main_v4) = v1 c
          ∧ r.2.mem ((c.tc : Thread Cert.UpdateConvRefIdeal.nD Cert.UpdateConvRefIdeal.τ).loc Cert.UpdateConvRefIdeal.main_v10) = v2 c
          ∧ r.2.mem ((c.tc : Thread Cert.UpdateConvRefIdeal.nD Cert.UpdateConvRefIdeal.τ).loc Cert.UpdateConvRefIdeal.main_arg0) = m' ((c.tc : Thread Cert.UpdateConvRefIdeal.nD Cert.UpdateConvRefIdeal.τ).loc Cert.UpdateConvRefIdeal.main_arg0)
          ∧ r.2.mem ((c.tc : Thread Cert.UpdateConvRefIdeal.nD Cert.UpdateConvRefIdeal.τ).loc Cert.UpdateConvRefIdeal.main_arg1) = m' ((c.tc : Thread Cert.UpdateConvRefIdeal.nD Cert.UpdateConvRefIdeal.τ).loc Cert.UpdateConvRefIdeal.main_arg1)
          ∧ r.2.mem ((c.tc : Thread Cert.UpdateConvRefIdeal.nD Cert.UpdateConvRefIdeal.τ).loc Cert.UpdateConvRefIdeal.main_arg2) = m' ((c.tc : Thread Cert.UpdateConvRefIdeal.nD Cert.UpdateConvRefIdeal.τ).loc Cert.UpdateConvRefIdeal.main_arg2)
          ∧ r.2.mem ((c.tc : Thread Cert.UpdateConvRefIdeal.nD Cert.UpdateConvRefIdeal.τ).loc Cert.UpdateConvRefIdeal.main_arg3) = m' ((c.tc : Thread Cert.UpdateConvRefIdeal.nD Cert.UpdateConvRefIdeal.τ).loc Cert.UpdateConvRefIdeal.main_arg3))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v2) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v3) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v2) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v2) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v2) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_SbOutDw_SbOutDwIdeal : Prop :=
  True

def algebraic_SbOutDwIdeal_SbOutDwRefIdeal [hSbOutDwIdeal : Cert.SbOutDwIdeal.Facts] [hSbOutDwRefIdeal : Cert.SbOutDwRefIdeal.Facts] : Prop :=
  ∀ (m : (ℓ : Loc Cert.SbOutDwIdeal.nD Cert.SbOutDwIdeal.τ Cert.SbOutDwIdeal.sig) → Buf (Elt Ideal) ℓ) (g : Dev Cert.SbOutDwIdeal.nD → PrngReg)
    (m' : (ℓ : Loc Cert.SbOutDwRefIdeal.nD Cert.SbOutDwRefIdeal.τ Cert.SbOutDwRefIdeal.sig) → Buf (Elt Ideal) ℓ) (g' : Dev Cert.SbOutDwRefIdeal.nD → PrngReg), Pre_SbOutDwIdeal m →
    (∀ c : Dev Cert.SbOutDwIdeal.nD,
      m' ((c.tc : Thread Cert.SbOutDwRefIdeal.nD Cert.SbOutDwRefIdeal.τ).loc Cert.SbOutDwRefIdeal.main_arg0) = m ((c.tc : Thread Cert.SbOutDwIdeal.nD Cert.SbOutDwIdeal.τ).loc Cert.SbOutDwIdeal.main_arg0)
      ∧ m' ((c.tc : Thread Cert.SbOutDwRefIdeal.nD Cert.SbOutDwRefIdeal.τ).loc Cert.SbOutDwRefIdeal.main_arg1) = m ((c.tc : Thread Cert.SbOutDwIdeal.nD Cert.SbOutDwIdeal.τ).loc Cert.SbOutDwIdeal.main_arg1)) →
    ∃ (v0 : (c : Dev Cert.SbOutDwIdeal.nD) → Buf (Elt Ideal) ((c.tc : Thread Cert.SbOutDwIdeal.nD Cert.SbOutDwIdeal.τ).loc Cert.SbOutDwIdeal.main_v0)),
      θ_run (Cert.SbOutDwIdeal.defs (F := Ideal)) (onTc (τ := Cert.SbOutDwIdeal.τ) (Cert.SbOutDwIdeal.main (F := Ideal))) ⟨m, fun _ => 0, g⟩ (fun r => ∀ c : Dev Cert.SbOutDwIdeal.nD,
          r.2.mem ((c.tc : Thread Cert.SbOutDwIdeal.nD Cert.SbOutDwIdeal.τ).loc Cert.SbOutDwIdeal.main_v0) = v0 c
          ∧ r.2.mem ((c.tc : Thread Cert.SbOutDwIdeal.nD Cert.SbOutDwIdeal.τ).loc Cert.SbOutDwIdeal.main_arg0) = m ((c.tc : Thread Cert.SbOutDwIdeal.nD Cert.SbOutDwIdeal.τ).loc Cert.SbOutDwIdeal.main_arg0)
          ∧ r.2.mem ((c.tc : Thread Cert.SbOutDwIdeal.nD Cert.SbOutDwIdeal.τ).loc Cert.SbOutDwIdeal.main_arg1) = m ((c.tc : Thread Cert.SbOutDwIdeal.nD Cert.SbOutDwIdeal.τ).loc Cert.SbOutDwIdeal.main_arg1))
      ∧ θ_run (Cert.SbOutDwRefIdeal.defs (F := Ideal)) (onTc (τ := Cert.SbOutDwRefIdeal.τ) (Cert.SbOutDwRefIdeal.main (F := Ideal))) ⟨m', fun _ => 0, g'⟩ (fun r => ∀ c : Dev Cert.SbOutDwRefIdeal.nD,
          r.2.mem ((c.tc : Thread Cert.SbOutDwRefIdeal.nD Cert.SbOutDwRefIdeal.τ).loc Cert.SbOutDwRefIdeal.main_v1) = v0 c
          ∧ r.2.mem ((c.tc : Thread Cert.SbOutDwRefIdeal.nD Cert.SbOutDwRefIdeal.τ).loc Cert.SbOutDwRefIdeal.main_arg0) = m' ((c.tc : Thread Cert.SbOutDwRefIdeal.nD Cert.SbOutDwRefIdeal.τ).loc Cert.SbOutDwRefIdeal.main_arg0)
          ∧ r.2.mem ((c.tc : Thread Cert.SbOutDwRefIdeal.nD Cert.SbOutDwRefIdeal.τ).loc Cert.SbOutDwRefIdeal.main_arg1) = m' ((c.tc : Thread Cert.SbOutDwRefIdeal.nD Cert.SbOutDwRefIdeal.τ).loc Cert.SbOutDwRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v2) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v2) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v3) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Relu_ReluIdeal : Prop :=
  True

def algebraic_ReluIdeal_ReluRefIdeal [hReluIdeal : Cert.ReluIdeal.Facts] [hReluRefIdeal : Cert.ReluRefIdeal.Facts] : Prop :=
  ∀ (m : (ℓ : Loc Cert.ReluIdeal.nD Cert.ReluIdeal.τ Cert.ReluIdeal.sig) → Buf (Elt Ideal) ℓ) (g : Dev Cert.ReluIdeal.nD → PrngReg)
    (m' : (ℓ : Loc Cert.ReluRefIdeal.nD Cert.ReluRefIdeal.τ Cert.ReluRefIdeal.sig) → Buf (Elt Ideal) ℓ) (g' : Dev Cert.ReluRefIdeal.nD → PrngReg), Pre_ReluIdeal m →
    (∀ c : Dev Cert.ReluIdeal.nD,
      m' ((c.tc : Thread Cert.ReluRefIdeal.nD Cert.ReluRefIdeal.τ).loc Cert.ReluRefIdeal.main_arg0) = m ((c.tc : Thread Cert.ReluIdeal.nD Cert.ReluIdeal.τ).loc Cert.ReluIdeal.main_arg0)) →
    ∃ (v0 : (c : Dev Cert.ReluIdeal.nD) → Buf (Elt Ideal) ((c.tc : Thread Cert.ReluIdeal.nD Cert.ReluIdeal.τ).loc Cert.ReluIdeal.main_v0)),
      θ_run (Cert.ReluIdeal.defs (F := Ideal)) (onTc (τ := Cert.ReluIdeal.τ) (Cert.ReluIdeal.main (F := Ideal))) ⟨m, fun _ => 0, g⟩ (fun r => ∀ c : Dev Cert.ReluIdeal.nD,
          r.2.mem ((c.tc : Thread Cert.ReluIdeal.nD Cert.ReluIdeal.τ).loc Cert.ReluIdeal.main_v0) = v0 c
          ∧ r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0))
      ∧ θ_run (Cert.ReluRefIdeal.defs (F := Ideal)) (onTc (τ := Cert.ReluRefIdeal.τ) (Cert.ReluRefIdeal.main (F := Ideal))) ⟨m', fun _ => 0, g'⟩ (fun r => ∀ c : Dev Cert.ReluRefIdeal.nD,
          r.2.mem ((c.tc : Thread Cert.ReluRefIdeal.nD Cert.ReluRefIdeal.τ).loc Cert.ReluRefIdeal.main_v2) = v0 c
          ∧ r.2.mem ((c.tc : Thread Cert.ReluRefIdeal.nD Cert.ReluRefIdeal.τ).loc Cert.ReluRefIdeal.main_arg0) = m' ((c.tc : Thread Cert.ReluRefIdeal.nD Cert.ReluRefIdeal.τ).loc Cert.ReluRefIdeal.main_arg0))

def preserves_ReluBack_ReluBackIdeal : Prop :=
  True

def algebraic_ReluBackIdeal_ReluBackRefIdeal [hReluBackIdeal : Cert.ReluBackIdeal.Facts] [hReluBackRefIdeal : Cert.ReluBackRefIdeal.Facts] : Prop :=
  ∀ (m : (ℓ : Loc Cert.ReluBackIdeal.nD Cert.ReluBackIdeal.τ Cert.ReluBackIdeal.sig) → Buf (Elt Ideal) ℓ) (g : Dev Cert.ReluBackIdeal.nD → PrngReg)
    (m' : (ℓ : Loc Cert.ReluBackRefIdeal.nD Cert.ReluBackRefIdeal.τ Cert.ReluBackRefIdeal.sig) → Buf (Elt Ideal) ℓ) (g' : Dev Cert.ReluBackRefIdeal.nD → PrngReg), Pre_ReluBackIdeal m →
    (∀ c : Dev Cert.ReluBackIdeal.nD,
      m' ((c.tc : Thread Cert.ReluBackRefIdeal.nD Cert.ReluBackRefIdeal.τ).loc Cert.ReluBackRefIdeal.main_arg0) = m ((c.tc : Thread Cert.ReluBackIdeal.nD Cert.ReluBackIdeal.τ).loc Cert.ReluBackIdeal.main_arg0)
      ∧ m' ((c.tc : Thread Cert.ReluBackRefIdeal.nD Cert.ReluBackRefIdeal.τ).loc Cert.ReluBackRefIdeal.main_arg1) = m ((c.tc : Thread Cert.ReluBackIdeal.nD Cert.ReluBackIdeal.τ).loc Cert.ReluBackIdeal.main_arg1)) →
    ∃ (v0 : (c : Dev Cert.ReluBackIdeal.nD) → Buf (Elt Ideal) ((c.tc : Thread Cert.ReluBackIdeal.nD Cert.ReluBackIdeal.τ).loc Cert.ReluBackIdeal.main_v0)),
      θ_run (Cert.ReluBackIdeal.defs (F := Ideal)) (onTc (τ := Cert.ReluBackIdeal.τ) (Cert.ReluBackIdeal.main (F := Ideal))) ⟨m, fun _ => 0, g⟩ (fun r => ∀ c : Dev Cert.ReluBackIdeal.nD,
          r.2.mem ((c.tc : Thread Cert.ReluBackIdeal.nD Cert.ReluBackIdeal.τ).loc Cert.ReluBackIdeal.main_v0) = v0 c
          ∧ r.2.mem ((c.tc : Thread Cert.ReluBackIdeal.nD Cert.ReluBackIdeal.τ).loc Cert.ReluBackIdeal.main_arg0) = m ((c.tc : Thread Cert.ReluBackIdeal.nD Cert.ReluBackIdeal.τ).loc Cert.ReluBackIdeal.main_arg0)
          ∧ r.2.mem ((c.tc : Thread Cert.ReluBackIdeal.nD Cert.ReluBackIdeal.τ).loc Cert.ReluBackIdeal.main_arg1) = m ((c.tc : Thread Cert.ReluBackIdeal.nD Cert.ReluBackIdeal.τ).loc Cert.ReluBackIdeal.main_arg1))
      ∧ θ_run (Cert.ReluBackRefIdeal.defs (F := Ideal)) (onTc (τ := Cert.ReluBackRefIdeal.τ) (Cert.ReluBackRefIdeal.main (F := Ideal))) ⟨m', fun _ => 0, g'⟩ (fun r => ∀ c : Dev Cert.ReluBackRefIdeal.nD,
          r.2.mem ((c.tc : Thread Cert.ReluBackRefIdeal.nD Cert.ReluBackRefIdeal.τ).loc Cert.ReluBackRefIdeal.main_v10) = v0 c
          ∧ r.2.mem ((c.tc : Thread Cert.ReluBackRefIdeal.nD Cert.ReluBackRefIdeal.τ).loc Cert.ReluBackRefIdeal.main_arg0) = m' ((c.tc : Thread Cert.ReluBackRefIdeal.nD Cert.ReluBackRefIdeal.τ).loc Cert.ReluBackRefIdeal.main_arg0)
          ∧ r.2.mem ((c.tc : Thread Cert.ReluBackRefIdeal.nD Cert.ReluBackRefIdeal.τ).loc Cert.ReluBackRefIdeal.main_arg1) = m' ((c.tc : Thread Cert.ReluBackRefIdeal.nD Cert.ReluBackRefIdeal.τ).loc Cert.ReluBackRefIdeal.main_arg1))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)) →
    ∃ (v0 : (c : Dev Cert.GradXIdeal.nD) → Buf (Elt Ideal) ((c.tc : Thread Cert.GradXIdeal.nD Cert.GradXIdeal.τ).loc Cert.GradXIdeal.main_v0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v0) = v0 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v30) = v1 c
          ∧ r.2.mem ((c.tc : Thread Cert.LossRefIdeal.nD Cert.LossRefIdeal.τ).loc Cert.LossRefIdeal.main_v49) = v2 c
          ∧ r.2.mem ((c.tc : Thread Cert.LossRefIdeal.nD Cert.LossRefIdeal.τ).loc Cert.LossRefIdeal.main_v33) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v0)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v12) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1))

def preserves_NormInBack_NormInBackIdeal : Prop :=
  True

def algebraic_NormInBackIdeal_NormInBackRefIdeal [hNormInBackIdeal : Cert.NormInBackIdeal.Facts] [hNormInBackRefIdeal : Cert.NormInBackRefIdeal.Facts] : Prop :=
  ∀ (m : (ℓ : Loc Cert.NormInBackIdeal.nD Cert.NormInBackIdeal.τ Cert.NormInBackIdeal.sig) → Buf (Elt Ideal) ℓ) (g : Dev Cert.NormInBackIdeal.nD → PrngReg)
    (m' : (ℓ : Loc Cert.NormInBackRefIdeal.nD Cert.NormInBackRefIdeal.τ Cert.NormInBackRefIdeal.sig) → Buf (Elt Ideal) ℓ) (g' : Dev Cert.NormInBackRefIdeal.nD → PrngReg), Pre_NormInBackIdeal m →
    (∀ c : Dev Cert.NormInBackIdeal.nD,
      m' ((c.tc : Thread Cert.NormInBackRefIdeal.nD Cert.NormInBackRefIdeal.τ).loc Cert.NormInBackRefIdeal.main_arg0) = m ((c.tc : Thread Cert.NormInBackIdeal.nD Cert.NormInBackIdeal.τ).loc Cert.NormInBackIdeal.main_arg0)
      ∧ m' ((c.tc : Thread Cert.NormInBackRefIdeal.nD Cert.NormInBackRefIdeal.τ).loc Cert.NormInBackRefIdeal.main_arg1) = m ((c.tc : Thread Cert.NormInBackIdeal.nD Cert.NormInBackIdeal.τ).loc Cert.NormInBackIdeal.main_arg1)
      ∧ m' ((c.tc : Thread Cert.NormInBackRefIdeal.nD Cert.NormInBackRefIdeal.τ).loc Cert.NormInBackRefIdeal.main_arg2) = m ((c.tc : Thread Cert.NormInBackIdeal.nD Cert.NormInBackIdeal.τ).loc Cert.NormInBackIdeal.main_arg2)) →
    ∃ (v0 : (c : Dev Cert.NormInBackIdeal.nD) → Buf (Elt Ideal) ((c.tc : Thread Cert.NormInBackIdeal.nD Cert.NormInBackIdeal.τ).loc Cert.NormInBackIdeal.main_v0_0)) (v1 : (c : Dev Cert.NormInBackIdeal.nD) → Buf (Elt Ideal) ((c.tc : Thread Cert.NormInBackIdeal.nD Cert.NormInBackIdeal.τ).loc Cert.NormInBackIdeal.main_v0_1)),
      θ_run (Cert.NormInBackIdeal.defs (F := Ideal)) (onTc (τ := Cert.NormInBackIdeal.τ) (Cert.NormInBackIdeal.main (F := Ideal))) ⟨m, fun _ => 0, g⟩ (fun r => ∀ c : Dev Cert.NormInBackIdeal.nD,
          r.2.mem ((c.tc : Thread Cert.NormInBackIdeal.nD Cert.NormInBackIdeal.τ).loc Cert.NormInBackIdeal.main_v0_0) = v0 c
          ∧ r.2.mem ((c.tc : Thread Cert.NormInBackIdeal.nD Cert.NormInBackIdeal.τ).loc Cert.NormInBackIdeal.main_v0_1) = v1 c
          ∧ r.2.mem ((c.tc : Thread Cert.NormInBackIdeal.nD Cert.NormInBackIdeal.τ).loc Cert.NormInBackIdeal.main_arg0) = m ((c.tc : Thread Cert.NormInBackIdeal.nD Cert.NormInBackIdeal.τ).loc Cert.NormInBackIdeal.main_arg0)
          ∧ r.2.mem ((c.tc : Thread Cert.NormInBackIdeal.nD Cert.NormInBackIdeal.τ).loc Cert.NormInBackIdeal.main_arg1) = m ((c.tc : Thread Cert.NormInBackIdeal.nD Cert.NormInBackIdeal.τ).loc Cert.NormInBackIdeal.main_arg1)
          ∧ r.2.mem ((c.tc : Thread Cert.NormInBackIdeal.nD Cert.NormInBackIdeal.τ).loc Cert.NormInBackIdeal.main_arg2) = m ((c.tc : Thread Cert.NormInBackIdeal.nD Cert.NormInBackIdeal.τ).loc Cert.NormInBackIdeal.main_arg2))
      ∧ θ_run (Cert.NormInBackRefIdeal.defs (F := Ideal)) (onTc (τ := Cert.NormInBackRefIdeal.τ) (Cert.NormInBackRefIdeal.main (F := Ideal))) ⟨m', fun _ => 0, g'⟩ (fun r => ∀ c : Dev Cert.NormInBackRefIdeal.nD,
          r.2.mem ((c.tc : Thread Cert.NormInBackRefIdeal.nD Cert.NormInBackRefIdeal.τ).loc Cert.NormInBackRefIdeal.main_v33) = v0 c
          ∧ r.2.mem ((c.tc : Thread Cert.NormInBackRefIdeal.nD Cert.NormInBackRefIdeal.τ).loc Cert.NormInBackRefIdeal.main_v17) = v1 c
          ∧ r.2.mem ((c.tc : Thread Cert.NormInBackRefIdeal.nD Cert.NormInBackRefIdeal.τ).loc Cert.NormInBackRefIdeal.main_arg0) = m' ((c.tc : Thread Cert.NormInBackRefIdeal.nD Cert.NormInBackRefIdeal.τ).loc Cert.NormInBackRefIdeal.main_arg0)
          ∧ r.2.mem ((c.tc : Thread Cert.NormInBackRefIdeal.nD Cert.NormInBackRefIdeal.τ).loc Cert.NormInBackRefIdeal.main_arg1) = m' ((c.tc : Thread Cert.NormInBackRefIdeal.nD Cert.NormInBackRefIdeal.τ).loc Cert.NormInBackRefIdeal.main_arg1)
          ∧ r.2.mem ((c.tc : Thread Cert.NormInBackRefIdeal.nD Cert.NormInBackRefIdeal.τ).loc Cert.NormInBackRefIdeal.main_arg2) = m' ((c.tc : Thread Cert.NormInBackRefIdeal.nD Cert.NormInBackRefIdeal.τ).loc Cert.NormInBackRefIdeal.main_arg2))

def preserves_ResNormBack_ResNormBackIdeal : Prop :=
  True

def algebraic_ResNormBackIdeal_ResNormBackRefIdeal [hResNormBackIdeal : Cert.ResNormBackIdeal.Facts] [hResNormBackRefIdeal : Cert.ResNormBackRefIdeal.Facts] : Prop :=
  ∀ (m : (ℓ : Loc Cert.ResNormBackIdeal.nD Cert.ResNormBackIdeal.τ Cert.ResNormBackIdeal.sig) → Buf (Elt Ideal) ℓ) (g : Dev Cert.ResNormBackIdeal.nD → PrngReg)
    (m' : (ℓ : Loc Cert.ResNormBackRefIdeal.nD Cert.ResNormBackRefIdeal.τ Cert.ResNormBackRefIdeal.sig) → Buf (Elt Ideal) ℓ) (g' : Dev Cert.ResNormBackRefIdeal.nD → PrngReg), Pre_ResNormBackIdeal m →
    (∀ c : Dev Cert.ResNormBackIdeal.nD,
      m' ((c.tc : Thread Cert.ResNormBackRefIdeal.nD Cert.ResNormBackRefIdeal.τ).loc Cert.ResNormBackRefIdeal.main_arg0) = m ((c.tc : Thread Cert.ResNormBackIdeal.nD Cert.ResNormBackIdeal.τ).loc Cert.ResNormBackIdeal.main_arg0)
      ∧ m' ((c.tc : Thread Cert.ResNormBackRefIdeal.nD Cert.ResNormBackRefIdeal.τ).loc Cert.ResNormBackRefIdeal.main_arg1) = m ((c.tc : Thread Cert.ResNormBackIdeal.nD Cert.ResNormBackIdeal.τ).loc Cert.ResNormBackIdeal.main_arg1)
      ∧ m' ((c.tc : Thread Cert.ResNormBackRefIdeal.nD Cert.ResNormBackRefIdeal.τ).loc Cert.ResNormBackRefIdeal.main_arg2) = m ((c.tc : Thread Cert.ResNormBackIdeal.nD Cert.ResNormBackIdeal.τ).loc Cert.ResNormBackIdeal.main_arg2)
      ∧ m' ((c.tc : Thread Cert.ResNormBackRefIdeal.nD Cert.ResNormBackRefIdeal.τ).loc Cert.ResNormBackRefIdeal.main_arg3) = m ((c.tc : Thread Cert.ResNormBackIdeal.nD Cert.ResNormBackIdeal.τ).loc Cert.ResNormBackIdeal.main_arg3)
      ∧ m' ((c.tc : Thread Cert.ResNormBackRefIdeal.nD Cert.ResNormBackRefIdeal.τ).loc Cert.ResNormBackRefIdeal.main_arg4) = m ((c.tc : Thread Cert.ResNormBackIdeal.nD Cert.ResNormBackIdeal.τ).loc Cert.ResNormBackIdeal.main_arg4)
      ∧ m' ((c.tc : Thread Cert.ResNormBackRefIdeal.nD Cert.ResNormBackRefIdeal.τ).loc Cert.ResNormBackRefIdeal.main_arg5) = m ((c.tc : Thread Cert.ResNormBackIdeal.nD Cert.ResNormBackIdeal.τ).loc Cert.ResNormBackIdeal.main_arg5)) →
    ∃ (v0 : (c : Dev Cert.ResNormBackIdeal.nD) → Buf (Elt Ideal) ((c.tc : Thread Cert.ResNormBackIdeal.nD Cert.ResNormBackIdeal.τ).loc Cert.ResNormBackIdeal.main_v0_0)) (v1 : (c : Dev Cert.ResNormBackIdeal.nD) → Buf (Elt Ideal) ((c.tc : Thread Cert.ResNormBackIdeal.nD Cert.ResNormBackIdeal.τ).loc Cert.ResNormBackIdeal.main_v0_1)) (v2 : (c : Dev Cert.ResNormBackIdeal.nD) → Buf (Elt Ideal) ((c.tc : Thread Cert.ResNormBackIdeal.nD Cert.ResNormBackIdeal.τ).loc Cert.ResNormBackIdeal.main_v0_2)) (v3 : (c : Dev Cert.ResNormBackIdeal.nD) → Buf (Elt Ideal) ((c.tc : Thread Cert.ResNormBackIdeal.nD Cert.ResNormBackIdeal.τ).loc Cert.ResNormBackIdeal.main_v0_3)),
      θ_run (Cert.ResNormBackIdeal.defs (F := Ideal)) (onTc (τ := Cert.ResNormBackIdeal.τ) (Cert.ResNormBackIdeal.main (F := Ideal))) ⟨m, fun _ => 0, g⟩ (fun r => ∀ c : Dev Cert.ResNormBackIdeal.nD,
          r.2.mem ((c.tc : Thread Cert.ResNormBackIdeal.nD Cert.ResNormBackIdeal.τ).loc Cert.ResNormBackIdeal.main_v0_0) = v0 c
          ∧ r.2.mem ((c.tc : Thread Cert.ResNormBackIdeal.nD Cert.ResNormBackIdeal.τ).loc Cert.ResNormBackIdeal.main_v0_1) = v1 c
          ∧ r.2.mem ((c.tc : Thread Cert.ResNormBackIdeal.nD Cert.ResNormBackIdeal.τ).loc Cert.ResNormBackIdeal.main_v0_2) = v2 c
          ∧ r.2.mem ((c.tc : Thread Cert.ResNormBackIdeal.nD Cert.ResNormBackIdeal.τ).loc Cert.ResNormBackIdeal.main_v0_3) = v3 c
          ∧ r.2.mem ((c.tc : Thread Cert.ResNormBackIdeal.nD Cert.ResNormBackIdeal.τ).loc Cert.ResNormBackIdeal.main_arg0) = m ((c.tc : Thread Cert.ResNormBackIdeal.nD Cert.ResNormBackIdeal.τ).loc Cert.ResNormBackIdeal.main_arg0)
          ∧ r.2.mem ((c.tc : Thread Cert.ResNormBackIdeal.nD Cert.ResNormBackIdeal.τ).loc Cert.ResNormBackIdeal.main_arg1) = m ((c.tc : Thread Cert.ResNormBackIdeal.nD Cert.ResNormBackIdeal.τ).loc Cert.ResNormBackIdeal.main_arg1)
          ∧ r.2.mem ((c.tc : Thread Cert.ResNormBackIdeal.nD Cert.ResNormBackIdeal.τ).loc Cert.ResNormBackIdeal.main_arg2) = m ((c.tc : Thread Cert.ResNormBackIdeal.nD Cert.ResNormBackIdeal.τ).loc Cert.ResNormBackIdeal.main_arg2)
          ∧ r.2.mem ((c.tc : Thread Cert.ResNormBackIdeal.nD Cert.ResNormBackIdeal.τ).loc Cert.ResNormBackIdeal.main_arg3) = m ((c.tc : Thread Cert.ResNormBackIdeal.nD Cert.ResNormBackIdeal.τ).loc Cert.ResNormBackIdeal.main_arg3)
          ∧ r.2.mem ((c.tc : Thread Cert.ResNormBackIdeal.nD Cert.ResNormBackIdeal.τ).loc Cert.ResNormBackIdeal.main_arg4) = m ((c.tc : Thread Cert.ResNormBackIdeal.nD Cert.ResNormBackIdeal.τ).loc Cert.ResNormBackIdeal.main_arg4)
          ∧ r.2.mem ((c.tc : Thread Cert.ResNormBackIdeal.nD Cert.ResNormBackIdeal.τ).loc Cert.ResNormBackIdeal.main_arg5) = m ((c.tc : Thread Cert.ResNormBackIdeal.nD Cert.ResNormBackIdeal.τ).loc Cert.ResNormBackIdeal.main_arg5))
      ∧ θ_run (Cert.ResNormBackRefIdeal.defs (F := Ideal)) (onTc (τ := Cert.ResNormBackRefIdeal.τ) (Cert.ResNormBackRefIdeal.main (F := Ideal))) ⟨m', fun _ => 0, g'⟩ (fun r => ∀ c : Dev Cert.ResNormBackRefIdeal.nD,
          r.2.mem ((c.tc : Thread Cert.ResNormBackRefIdeal.nD Cert.ResNormBackRefIdeal.τ).loc Cert.ResNormBackRefIdeal.main_v50) = v0 c
          ∧ r.2.mem ((c.tc : Thread Cert.ResNormBackRefIdeal.nD Cert.ResNormBackRefIdeal.τ).loc Cert.ResNormBackRefIdeal.main_v70) = v1 c
          ∧ r.2.mem ((c.tc : Thread Cert.ResNormBackRefIdeal.nD Cert.ResNormBackRefIdeal.τ).loc Cert.ResNormBackRefIdeal.main_v54) = v2 c
          ∧ r.2.mem ((c.tc : Thread Cert.ResNormBackRefIdeal.nD Cert.ResNormBackRefIdeal.τ).loc Cert.ResNormBackRefIdeal.main_v33) = v3 c
          ∧ r.2.mem ((c.tc : Thread Cert.ResNormBackRefIdeal.nD Cert.ResNormBackRefIdeal.τ).loc Cert.ResNormBackRefIdeal.main_arg0) = m' ((c.tc : Thread Cert.ResNormBackRefIdeal.nD Cert.ResNormBackRefIdeal.τ).loc Cert.ResNormBackRefIdeal.main_arg0)
          ∧ r.2.mem ((c.tc : Thread Cert.ResNormBackRefIdeal.nD Cert.ResNormBackRefIdeal.τ).loc Cert.ResNormBackRefIdeal.main_arg1) = m' ((c.tc : Thread Cert.ResNormBackRefIdeal.nD Cert.ResNormBackRefIdeal.τ).loc Cert.ResNormBackRefIdeal.main_arg1)
          ∧ r.2.mem ((c.tc : Thread Cert.ResNormBackRefIdeal.nD Cert.ResNormBackRefIdeal.τ).loc Cert.ResNormBackRefIdeal.main_arg2) = m' ((c.tc : Thread Cert.ResNormBackRefIdeal.nD Cert.ResNormBackRefIdeal.τ).loc Cert.ResNormBackRefIdeal.main_arg2)
          ∧ r.2.mem ((c.tc : Thread Cert.ResNormBackRefIdeal.nD Cert.ResNormBackRefIdeal.τ).loc Cert.ResNormBackRefIdeal.main_arg3) = m' ((c.tc : Thread Cert.ResNormBackRefIdeal.nD Cert.ResNormBackRefIdeal.τ).loc Cert.ResNormBackRefIdeal.main_arg3)
          ∧ r.2.mem ((c.tc : Thread Cert.ResNormBackRefIdeal.nD Cert.ResNormBackRefIdeal.τ).loc Cert.ResNormBackRefIdeal.main_arg4) = m' ((c.tc : Thread Cert.ResNormBackRefIdeal.nD Cert.ResNormBackRefIdeal.τ).loc Cert.ResNormBackRefIdeal.main_arg4)
          ∧ r.2.mem ((c.tc : Thread Cert.ResNormBackRefIdeal.nD Cert.ResNormBackRefIdeal.τ).loc Cert.ResNormBackRefIdeal.main_arg5) = m' ((c.tc : Thread Cert.ResNormBackRefIdeal.nD Cert.ResNormBackRefIdeal.τ).loc Cert.ResNormBackRefIdeal.main_arg5))

def preserves_ResNorm_ResNormIdeal : Prop :=
  True

def algebraic_ResNormIdeal_ResNormRefIdeal [hResNormIdeal : Cert.ResNormIdeal.Facts] [hResNormRefIdeal : Cert.ResNormRefIdeal.Facts] : Prop :=
  ∀ (m : (ℓ : Loc Cert.ResNormIdeal.nD Cert.ResNormIdeal.τ Cert.ResNormIdeal.sig) → Buf (Elt Ideal) ℓ) (g : Dev Cert.ResNormIdeal.nD → PrngReg)
    (m' : (ℓ : Loc Cert.ResNormRefIdeal.nD Cert.ResNormRefIdeal.τ Cert.ResNormRefIdeal.sig) → Buf (Elt Ideal) ℓ) (g' : Dev Cert.ResNormRefIdeal.nD → PrngReg), Pre_ResNormIdeal m →
    (∀ c : Dev Cert.ResNormIdeal.nD,
      m' ((c.tc : Thread Cert.ResNormRefIdeal.nD Cert.ResNormRefIdeal.τ).loc Cert.ResNormRefIdeal.main_arg0) = m ((c.tc : Thread Cert.ResNormIdeal.nD Cert.ResNormIdeal.τ).loc Cert.ResNormIdeal.main_arg0)
      ∧ m' ((c.tc : Thread Cert.ResNormRefIdeal.nD Cert.ResNormRefIdeal.τ).loc Cert.ResNormRefIdeal.main_arg1) = m ((c.tc : Thread Cert.ResNormIdeal.nD Cert.ResNormIdeal.τ).loc Cert.ResNormIdeal.main_arg1)
      ∧ m' ((c.tc : Thread Cert.ResNormRefIdeal.nD Cert.ResNormRefIdeal.τ).loc Cert.ResNormRefIdeal.main_arg2) = m ((c.tc : Thread Cert.ResNormIdeal.nD Cert.ResNormIdeal.τ).loc Cert.ResNormIdeal.main_arg2)
      ∧ m' ((c.tc : Thread Cert.ResNormRefIdeal.nD Cert.ResNormRefIdeal.τ).loc Cert.ResNormRefIdeal.main_arg3) = m ((c.tc : Thread Cert.ResNormIdeal.nD Cert.ResNormIdeal.τ).loc Cert.ResNormIdeal.main_arg3)) →
    ∃ (v0 : (c : Dev Cert.ResNormIdeal.nD) → Buf (Elt Ideal) ((c.tc : Thread Cert.ResNormIdeal.nD Cert.ResNormIdeal.τ).loc Cert.ResNormIdeal.main_v0_0)) (v1 : (c : Dev Cert.ResNormIdeal.nD) → Buf (Elt Ideal) ((c.tc : Thread Cert.ResNormIdeal.nD Cert.ResNormIdeal.τ).loc Cert.ResNormIdeal.main_v0_1)),
      θ_run (Cert.ResNormIdeal.defs (F := Ideal)) (onTc (τ := Cert.ResNormIdeal.τ) (Cert.ResNormIdeal.main (F := Ideal))) ⟨m, fun _ => 0, g⟩ (fun r => ∀ c : Dev Cert.ResNormIdeal.nD,
          r.2.mem ((c.tc : Thread Cert.ResNormIdeal.nD Cert.ResNormIdeal.τ).loc Cert.ResNormIdeal.main_v0_0) = v0 c
          ∧ r.2.mem ((c.tc : Thread Cert.ResNormIdeal.nD Cert.ResNormIdeal.τ).loc Cert.ResNormIdeal.main_v0_1) = v1 c
          ∧ r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
          ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
          ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
          ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ θ_run (Cert.ResNormRefIdeal.defs (F := Ideal)) (onTc (τ := Cert.ResNormRefIdeal.τ) (Cert.ResNormRefIdeal.main (F := Ideal))) ⟨m', fun _ => 0, g'⟩ (fun r => ∀ c : Dev Cert.ResNormRefIdeal.nD,
          r.2.mem ((c.tc : Thread Cert.ResNormRefIdeal.nD Cert.ResNormRefIdeal.τ).loc Cert.ResNormRefIdeal.main_v12) = v0 c
          ∧ r.2.mem ((c.tc : Thread Cert.ResNormRefIdeal.nD Cert.ResNormRefIdeal.τ).loc Cert.ResNormRefIdeal.main_v25) = v1 c
          ∧ r.2.mem ((c.tc : Thread Cert.ResNormRefIdeal.nD Cert.ResNormRefIdeal.τ).loc Cert.ResNormRefIdeal.main_arg0) = m' ((c.tc : Thread Cert.ResNormRefIdeal.nD Cert.ResNormRefIdeal.τ).loc Cert.ResNormRefIdeal.main_arg0)
          ∧ r.2.mem ((c.tc : Thread Cert.ResNormRefIdeal.nD Cert.ResNormRefIdeal.τ).loc Cert.ResNormRefIdeal.main_arg1) = m' ((c.tc : Thread Cert.ResNormRefIdeal.nD Cert.ResNormRefIdeal.τ).loc Cert.ResNormRefIdeal.main_arg1)
          ∧ r.2.mem ((c.tc : Thread Cert.ResNormRefIdeal.nD Cert.ResNormRefIdeal.τ).loc Cert.ResNormRefIdeal.main_arg2) = m' ((c.tc : Thread Cert.ResNormRefIdeal.nD Cert.ResNormRefIdeal.τ).loc Cert.ResNormRefIdeal.main_arg2)
          ∧ r.2.mem ((c.tc : Thread Cert.ResNormRefIdeal.nD Cert.ResNormRefIdeal.τ).loc Cert.ResNormRefIdeal.main_arg3) = m' ((c.tc : Thread Cert.ResNormRefIdeal.nD Cert.ResNormRefIdeal.τ).loc Cert.ResNormRefIdeal.main_arg3))

def preserves_ResNorms_ResNormsIdeal : Prop :=
  True

def algebraic_ResNormsIdeal_ResNormsRefIdeal [hResNormsIdeal : Cert.ResNormsIdeal.Facts] [hResNormsRefIdeal : Cert.ResNormsRefIdeal.Facts] : Prop :=
  ∀ (m : (ℓ : Loc Cert.ResNormsIdeal.nD Cert.ResNormsIdeal.τ Cert.ResNormsIdeal.sig) → Buf (Elt Ideal) ℓ) (g : Dev Cert.ResNormsIdeal.nD → PrngReg)
    (m' : (ℓ : Loc Cert.ResNormsRefIdeal.nD Cert.ResNormsRefIdeal.τ Cert.ResNormsRefIdeal.sig) → Buf (Elt Ideal) ℓ) (g' : Dev Cert.ResNormsRefIdeal.nD → PrngReg), Pre_ResNormsIdeal m →
    (∀ c : Dev Cert.ResNormsIdeal.nD,
      m' ((c.tc : Thread Cert.ResNormsRefIdeal.nD Cert.ResNormsRefIdeal.τ).loc Cert.ResNormsRefIdeal.main_arg0) = m ((c.tc : Thread Cert.ResNormsIdeal.nD Cert.ResNormsIdeal.τ).loc Cert.ResNormsIdeal.main_arg0)
      ∧ m' ((c.tc : Thread Cert.ResNormsRefIdeal.nD Cert.ResNormsRefIdeal.τ).loc Cert.ResNormsRefIdeal.main_arg1) = m ((c.tc : Thread Cert.ResNormsIdeal.nD Cert.ResNormsIdeal.τ).loc Cert.ResNormsIdeal.main_arg1)
      ∧ m' ((c.tc : Thread Cert.ResNormsRefIdeal.nD Cert.ResNormsRefIdeal.τ).loc Cert.ResNormsRefIdeal.main_arg2) = m ((c.tc : Thread Cert.ResNormsIdeal.nD Cert.ResNormsIdeal.τ).loc Cert.ResNormsIdeal.main_arg2)
      ∧ m' ((c.tc : Thread Cert.ResNormsRefIdeal.nD Cert.ResNormsRefIdeal.τ).loc Cert.ResNormsRefIdeal.main_arg3) = m ((c.tc : Thread Cert.ResNormsIdeal.nD Cert.ResNormsIdeal.τ).loc Cert.ResNormsIdeal.main_arg3)
      ∧ m' ((c.tc : Thread Cert.ResNormsRefIdeal.nD Cert.ResNormsRefIdeal.τ).loc Cert.ResNormsRefIdeal.main_arg4) = m ((c.tc : Thread Cert.ResNormsIdeal.nD Cert.ResNormsIdeal.τ).loc Cert.ResNormsIdeal.main_arg4)) →
    ∃ (v0 : (c : Dev Cert.ResNormsIdeal.nD) → Buf (Elt Ideal) ((c.tc : Thread Cert.ResNormsIdeal.nD Cert.ResNormsIdeal.τ).loc Cert.ResNormsIdeal.main_v0_0)) (v1 : (c : Dev Cert.ResNormsIdeal.nD) → Buf (Elt Ideal) ((c.tc : Thread Cert.ResNormsIdeal.nD Cert.ResNormsIdeal.τ).loc Cert.ResNormsIdeal.main_v0_1)) (v2 : (c : Dev Cert.ResNormsIdeal.nD) → Buf (Elt Ideal) ((c.tc : Thread Cert.ResNormsIdeal.nD Cert.ResNormsIdeal.τ).loc Cert.ResNormsIdeal.main_v0_2)),
      θ_run (Cert.ResNormsIdeal.defs (F := Ideal)) (onTc (τ := Cert.ResNormsIdeal.τ) (Cert.ResNormsIdeal.main (F := Ideal))) ⟨m, fun _ => 0, g⟩ (fun r => ∀ c : Dev Cert.ResNormsIdeal.nD,
          r.2.mem ((c.tc : Thread Cert.ResNormsIdeal.nD Cert.ResNormsIdeal.τ).loc Cert.ResNormsIdeal.main_v0_0) = v0 c
          ∧ r.2.mem ((c.tc : Thread Cert.ResNormsIdeal.nD Cert.ResNormsIdeal.τ).loc Cert.ResNormsIdeal.main_v0_1) = v1 c
          ∧ r.2.mem ((c.tc : Thread Cert.ResNormsIdeal.nD Cert.ResNormsIdeal.τ).loc Cert.ResNormsIdeal.main_v0_2) = v2 c
          ∧ r.2.mem ((c.tc : Thread Cert.ResNormsIdeal.nD Cert.ResNormsIdeal.τ).loc Cert.ResNormsIdeal.main_arg0) = m ((c.tc : Thread Cert.ResNormsIdeal.nD Cert.ResNormsIdeal.τ).loc Cert.ResNormsIdeal.main_arg0)
          ∧ r.2.mem ((c.tc : Thread Cert.ResNormsIdeal.nD Cert.ResNormsIdeal.τ).loc Cert.ResNormsIdeal.main_arg1) = m ((c.tc : Thread Cert.ResNormsIdeal.nD Cert.ResNormsIdeal.τ).loc Cert.ResNormsIdeal.main_arg1)
          ∧ r.2.mem ((c.tc : Thread Cert.ResNormsIdeal.nD Cert.ResNormsIdeal.τ).loc Cert.ResNormsIdeal.main_arg2) = m ((c.tc : Thread Cert.ResNormsIdeal.nD Cert.ResNormsIdeal.τ).loc Cert.ResNormsIdeal.main_arg2)
          ∧ r.2.mem ((c.tc : Thread Cert.ResNormsIdeal.nD Cert.ResNormsIdeal.τ).loc Cert.ResNormsIdeal.main_arg3) = m ((c.tc : Thread Cert.ResNormsIdeal.nD Cert.ResNormsIdeal.τ).loc Cert.ResNormsIdeal.main_arg3)
          ∧ r.2.mem ((c.tc : Thread Cert.ResNormsIdeal.nD Cert.ResNormsIdeal.τ).loc Cert.ResNormsIdeal.main_arg4) = m ((c.tc : Thread Cert.ResNormsIdeal.nD Cert.ResNormsIdeal.τ).loc Cert.ResNormsIdeal.main_arg4))
      ∧ θ_run (Cert.ResNormsRefIdeal.defs (F := Ideal)) (onTc (τ := Cert.ResNormsRefIdeal.τ) (Cert.ResNormsRefIdeal.main (F := Ideal))) ⟨m', fun _ => 0, g'⟩ (fun r => ∀ c : Dev Cert.ResNormsRefIdeal.nD,
          r.2.mem ((c.tc : Thread Cert.ResNormsRefIdeal.nD Cert.ResNormsRefIdeal.τ).loc Cert.ResNormsRefIdeal.main_v12) = v0 c
          ∧ r.2.mem ((c.tc : Thread Cert.ResNormsRefIdeal.nD Cert.ResNormsRefIdeal.τ).loc Cert.ResNormsRefIdeal.main_v25) = v1 c
          ∧ r.2.mem ((c.tc : Thread Cert.ResNormsRefIdeal.nD Cert.ResNormsRefIdeal.τ).loc Cert.ResNormsRefIdeal.main_v38) = v2 c
          ∧ r.2.mem ((c.tc : Thread Cert.ResNormsRefIdeal.nD Cert.ResNormsRefIdeal.τ).loc Cert.ResNormsRefIdeal.main_arg0) = m' ((c.tc : Thread Cert.ResNormsRefIdeal.nD Cert.ResNormsRefIdeal.τ).loc Cert.ResNormsRefIdeal.main_arg0)
          ∧ r.2.mem ((c.tc : Thread Cert.ResNormsRefIdeal.nD Cert.ResNormsRefIdeal.τ).loc Cert.ResNormsRefIdeal.main_arg1) = m' ((c.tc : Thread Cert.ResNormsRefIdeal.nD Cert.ResNormsRefIdeal.τ).loc Cert.ResNormsRefIdeal.main_arg1)
          ∧ r.2.mem ((c.tc : Thread Cert.ResNormsRefIdeal.nD Cert.ResNormsRefIdeal.τ).loc Cert.ResNormsRefIdeal.main_arg2) = m' ((c.tc : Thread Cert.ResNormsRefIdeal.nD Cert.ResNormsRefIdeal.τ).loc Cert.ResNormsRefIdeal.main_arg2)
          ∧ r.2.mem ((c.tc : Thread Cert.ResNormsRefIdeal.nD Cert.ResNormsRefIdeal.τ).loc Cert.ResNormsRefIdeal.main_arg3) = m' ((c.tc : Thread Cert.ResNormsRefIdeal.nD Cert.ResNormsRefIdeal.τ).loc Cert.ResNormsRefIdeal.main_arg3)
          ∧ r.2.mem ((c.tc : Thread Cert.ResNormsRefIdeal.nD Cert.ResNormsRefIdeal.τ).loc Cert.ResNormsRefIdeal.main_arg4) = m' ((c.tc : Thread Cert.ResNormsRefIdeal.nD Cert.ResNormsRefIdeal.τ).loc Cert.ResNormsRefIdeal.main_arg4))

def preserves_ResNormsBack_ResNormsBackIdeal : Prop :=
  True

def algebraic_ResNormsBackIdeal_ResNormsBackRefIdeal [hResNormsBackIdeal : Cert.ResNormsBackIdeal.Facts] [hResNormsBackRefIdeal : Cert.ResNormsBackRefIdeal.Facts] : Prop :=
  ∀ (m : (ℓ : Loc Cert.ResNormsBackIdeal.nD Cert.ResNormsBackIdeal.τ Cert.ResNormsBackIdeal.sig) → Buf (Elt Ideal) ℓ) (g : Dev Cert.ResNormsBackIdeal.nD → PrngReg)
    (m' : (ℓ : Loc Cert.ResNormsBackRefIdeal.nD Cert.ResNormsBackRefIdeal.τ Cert.ResNormsBackRefIdeal.sig) → Buf (Elt Ideal) ℓ) (g' : Dev Cert.ResNormsBackRefIdeal.nD → PrngReg), Pre_ResNormsBackIdeal m →
    (∀ c : Dev Cert.ResNormsBackIdeal.nD,
      m' ((c.tc : Thread Cert.ResNormsBackRefIdeal.nD Cert.ResNormsBackRefIdeal.τ).loc Cert.ResNormsBackRefIdeal.main_arg0) = m ((c.tc : Thread Cert.ResNormsBackIdeal.nD Cert.ResNormsBackIdeal.τ).loc Cert.ResNormsBackIdeal.main_arg0)
      ∧ m' ((c.tc : Thread Cert.ResNormsBackRefIdeal.nD Cert.ResNormsBackRefIdeal.τ).loc Cert.ResNormsBackRefIdeal.main_arg1) = m ((c.tc : Thread Cert.ResNormsBackIdeal.nD Cert.ResNormsBackIdeal.τ).loc Cert.ResNormsBackIdeal.main_arg1)
      ∧ m' ((c.tc : Thread Cert.ResNormsBackRefIdeal.nD Cert.ResNormsBackRefIdeal.τ).loc Cert.ResNormsBackRefIdeal.main_arg2) = m ((c.tc : Thread Cert.ResNormsBackIdeal.nD Cert.ResNormsBackIdeal.τ).loc Cert.ResNormsBackIdeal.main_arg2)
      ∧ m' ((c.tc : Thread Cert.ResNormsBackRefIdeal.nD Cert.ResNormsBackRefIdeal.τ).loc Cert.ResNormsBackRefIdeal.main_arg3) = m ((c.tc : Thread Cert.ResNormsBackIdeal.nD Cert.ResNormsBackIdeal.τ).loc Cert.ResNormsBackIdeal.main_arg3)
      ∧ m' ((c.tc : Thread Cert.ResNormsBackRefIdeal.nD Cert.ResNormsBackRefIdeal.τ).loc Cert.ResNormsBackRefIdeal.main_arg4) = m ((c.tc : Thread Cert.ResNormsBackIdeal.nD Cert.ResNormsBackIdeal.τ).loc Cert.ResNormsBackIdeal.main_arg4)
      ∧ m' ((c.tc : Thread Cert.ResNormsBackRefIdeal.nD Cert.ResNormsBackRefIdeal.τ).loc Cert.ResNormsBackRefIdeal.main_arg5) = m ((c.tc : Thread Cert.ResNormsBackIdeal.nD Cert.ResNormsBackIdeal.τ).loc Cert.ResNormsBackIdeal.main_arg5)
      ∧ m' ((c.tc : Thread Cert.ResNormsBackRefIdeal.nD Cert.ResNormsBackRefIdeal.τ).loc Cert.ResNormsBackRefIdeal.main_arg6) = m ((c.tc : Thread Cert.ResNormsBackIdeal.nD Cert.ResNormsBackIdeal.τ).loc Cert.ResNormsBackIdeal.main_arg6)
      ∧ m' ((c.tc : Thread Cert.ResNormsBackRefIdeal.nD Cert.ResNormsBackRefIdeal.τ).loc Cert.ResNormsBackRefIdeal.main_arg7) = m ((c.tc : Thread Cert.ResNormsBackIdeal.nD Cert.ResNormsBackIdeal.τ).loc Cert.ResNormsBackIdeal.main_arg7)) →
    ∃ (v0 : (c : Dev Cert.ResNormsBackIdeal.nD) → Buf (Elt Ideal) ((c.tc : Thread Cert.ResNormsBackIdeal.nD Cert.ResNormsBackIdeal.τ).loc Cert.ResNormsBackIdeal.main_v0_0)) (v1 : (c : Dev Cert.ResNormsBackIdeal.nD) → Buf (Elt Ideal) ((c.tc : Thread Cert.ResNormsBackIdeal.nD Cert.ResNormsBackIdeal.τ).loc Cert.ResNormsBackIdeal.main_v0_1)) (v2 : (c : Dev Cert.ResNormsBackIdeal.nD) → Buf (Elt Ideal) ((c.tc : Thread Cert.ResNormsBackIdeal.nD Cert.ResNormsBackIdeal.τ).loc Cert.ResNormsBackIdeal.main_v0_2)) (v3 : (c : Dev Cert.ResNormsBackIdeal.nD) → Buf (Elt Ideal) ((c.tc : Thread Cert.ResNormsBackIdeal.nD Cert.ResNormsBackIdeal.τ).loc Cert.ResNormsBackIdeal.main_v0_3)) (v4 : (c : Dev Cert.ResNormsBackIdeal.nD) → Buf (Elt Ideal) ((c.tc : Thread Cert.ResNormsBackIdeal.nD Cert.ResNormsBackIdeal.τ).loc Cert.ResNormsBackIdeal.main_v0_4)),
      θ_run (Cert.ResNormsBackIdeal.defs (F := Ideal)) (onTc (τ := Cert.ResNormsBackIdeal.τ) (Cert.ResNormsBackIdeal.main (F := Ideal))) ⟨m, fun _ => 0, g⟩ (fun r => ∀ c : Dev Cert.ResNormsBackIdeal.nD,
          r.2.mem ((c.tc : Thread Cert.ResNormsBackIdeal.nD Cert.ResNormsBackIdeal.τ).loc Cert.ResNormsBackIdeal.main_v0_0) = v0 c
          ∧ r.2.mem ((c.tc : Thread Cert.ResNormsBackIdeal.nD Cert.ResNormsBackIdeal.τ).loc Cert.ResNormsBackIdeal.main_v0_1) = v1 c
          ∧ r.2.mem ((c.tc : Thread Cert.ResNormsBackIdeal.nD Cert.ResNormsBackIdeal.τ).loc Cert.ResNormsBackIdeal.main_v0_2) = v2 c
          ∧ r.2.mem ((c.tc : Thread Cert.ResNormsBackIdeal.nD Cert.ResNormsBackIdeal.τ).loc Cert.ResNormsBackIdeal.main_v0_3) = v3 c
          ∧ r.2.mem ((c.tc : Thread Cert.ResNormsBackIdeal.nD Cert.ResNormsBackIdeal.τ).loc Cert.ResNormsBackIdeal.main_v0_4) = v4 c
          ∧ r.2.mem ((c.tc : Thread Cert.ResNormsBackIdeal.nD Cert.ResNormsBackIdeal.τ).loc Cert.ResNormsBackIdeal.main_arg0) = m ((c.tc : Thread Cert.ResNormsBackIdeal.nD Cert.ResNormsBackIdeal.τ).loc Cert.ResNormsBackIdeal.main_arg0)
          ∧ r.2.mem ((c.tc : Thread Cert.ResNormsBackIdeal.nD Cert.ResNormsBackIdeal.τ).loc Cert.ResNormsBackIdeal.main_arg1) = m ((c.tc : Thread Cert.ResNormsBackIdeal.nD Cert.ResNormsBackIdeal.τ).loc Cert.ResNormsBackIdeal.main_arg1)
          ∧ r.2.mem ((c.tc : Thread Cert.ResNormsBackIdeal.nD Cert.ResNormsBackIdeal.τ).loc Cert.ResNormsBackIdeal.main_arg2) = m ((c.tc : Thread Cert.ResNormsBackIdeal.nD Cert.ResNormsBackIdeal.τ).loc Cert.ResNormsBackIdeal.main_arg2)
          ∧ r.2.mem ((c.tc : Thread Cert.ResNormsBackIdeal.nD Cert.ResNormsBackIdeal.τ).loc Cert.ResNormsBackIdeal.main_arg3) = m ((c.tc : Thread Cert.ResNormsBackIdeal.nD Cert.ResNormsBackIdeal.τ).loc Cert.ResNormsBackIdeal.main_arg3)
          ∧ r.2.mem ((c.tc : Thread Cert.ResNormsBackIdeal.nD Cert.ResNormsBackIdeal.τ).loc Cert.ResNormsBackIdeal.main_arg4) = m ((c.tc : Thread Cert.ResNormsBackIdeal.nD Cert.ResNormsBackIdeal.τ).loc Cert.ResNormsBackIdeal.main_arg4)
          ∧ r.2.mem ((c.tc : Thread Cert.ResNormsBackIdeal.nD Cert.ResNormsBackIdeal.τ).loc Cert.ResNormsBackIdeal.main_arg5) = m ((c.tc : Thread Cert.ResNormsBackIdeal.nD Cert.ResNormsBackIdeal.τ).loc Cert.ResNormsBackIdeal.main_arg5)
          ∧ r.2.mem ((c.tc : Thread Cert.ResNormsBackIdeal.nD Cert.ResNormsBackIdeal.τ).loc Cert.ResNormsBackIdeal.main_arg6) = m ((c.tc : Thread Cert.ResNormsBackIdeal.nD Cert.ResNormsBackIdeal.τ).loc Cert.ResNormsBackIdeal.main_arg6)
          ∧ r.2.mem ((c.tc : Thread Cert.ResNormsBackIdeal.nD Cert.ResNormsBackIdeal.τ).loc Cert.ResNormsBackIdeal.main_arg7) = m ((c.tc : Thread Cert.ResNormsBackIdeal.nD Cert.ResNormsBackIdeal.τ).loc Cert.ResNormsBackIdeal.main_arg7))
      ∧ θ_run (Cert.ResNormsBackRefIdeal.defs (F := Ideal)) (onTc (τ := Cert.ResNormsBackRefIdeal.τ) (Cert.ResNormsBackRefIdeal.main (F := Ideal))) ⟨m', fun _ => 0, g'⟩ (fun r => ∀ c : Dev Cert.ResNormsBackRefIdeal.nD,
          r.2.mem ((c.tc : Thread Cert.ResNormsBackRefIdeal.nD Cert.ResNormsBackRefIdeal.τ).loc Cert.ResNormsBackRefIdeal.main_v85) = v0 c
          ∧ r.2.mem ((c.tc : Thread Cert.ResNormsBackRefIdeal.nD Cert.ResNormsBackRefIdeal.τ).loc Cert.ResNormsBackRefIdeal.main_v105) = v1 c
          ∧ r.2.mem ((c.tc : Thread Cert.ResNormsBackRefIdeal.nD Cert.ResNormsBackRefIdeal.τ).loc Cert.ResNormsBackRefIdeal.main_v89) = v2 c
          ∧ r.2.mem ((c.tc : Thread Cert.ResNormsBackRefIdeal.nD Cert.ResNormsBackRefIdeal.τ).loc Cert.ResNormsBackRefIdeal.main_v68) = v3 c
          ∧ r.2.mem ((c.tc : Thread Cert.ResNormsBackRefIdeal.nD Cert.ResNormsBackRefIdeal.τ).loc Cert.ResNormsBackRefIdeal.main_v48) = v4 c
          ∧ r.2.mem ((c.tc : Thread Cert.ResNormsBackRefIdeal.nD Cert.ResNormsBackRefIdeal.τ).loc Cert.ResNormsBackRefIdeal.main_arg0) = m' ((c.tc : Thread Cert.ResNormsBackRefIdeal.nD Cert.ResNormsBackRefIdeal.τ).loc Cert.ResNormsBackRefIdeal.main_arg0)
          ∧ r.2.mem ((c.tc : Thread Cert.ResNormsBackRefIdeal.nD Cert.ResNormsBackRefIdeal.τ).loc Cert.ResNormsBackRefIdeal.main_arg1) = m' ((c.tc : Thread Cert.ResNormsBackRefIdeal.nD Cert.ResNormsBackRefIdeal.τ).loc Cert.ResNormsBackRefIdeal.main_arg1)
          ∧ r.2.mem ((c.tc : Thread Cert.ResNormsBackRefIdeal.nD Cert.ResNormsBackRefIdeal.τ).loc Cert.ResNormsBackRefIdeal.main_arg2) = m' ((c.tc : Thread Cert.ResNormsBackRefIdeal.nD Cert.ResNormsBackRefIdeal.τ).loc Cert.ResNormsBackRefIdeal.main_arg2)
          ∧ r.2.mem ((c.tc : Thread Cert.ResNormsBackRefIdeal.nD Cert.ResNormsBackRefIdeal.τ).loc Cert.ResNormsBackRefIdeal.main_arg3) = m' ((c.tc : Thread Cert.ResNormsBackRefIdeal.nD Cert.ResNormsBackRefIdeal.τ).loc Cert.ResNormsBackRefIdeal.main_arg3)
          ∧ r.2.mem ((c.tc : Thread Cert.ResNormsBackRefIdeal.nD Cert.ResNormsBackRefIdeal.τ).loc Cert.ResNormsBackRefIdeal.main_arg4) = m' ((c.tc : Thread Cert.ResNormsBackRefIdeal.nD Cert.ResNormsBackRefIdeal.τ).loc Cert.ResNormsBackRefIdeal.main_arg4)
          ∧ r.2.mem ((c.tc : Thread Cert.ResNormsBackRefIdeal.nD Cert.ResNormsBackRefIdeal.τ).loc Cert.ResNormsBackRefIdeal.main_arg5) = m' ((c.tc : Thread Cert.ResNormsBackRefIdeal.nD Cert.ResNormsBackRefIdeal.τ).loc Cert.ResNormsBackRefIdeal.main_arg5)
          ∧ r.2.mem ((c.tc : Thread Cert.ResNormsBackRefIdeal.nD Cert.ResNormsBackRefIdeal.τ).loc Cert.ResNormsBackRefIdeal.main_arg6) = m' ((c.tc : Thread Cert.ResNormsBackRefIdeal.nD Cert.ResNormsBackRefIdeal.τ).loc Cert.ResNormsBackRefIdeal.main_arg6)
          ∧ r.2.mem ((c.tc : Thread Cert.ResNormsBackRefIdeal.nD Cert.ResNormsBackRefIdeal.τ).loc Cert.ResNormsBackRefIdeal.main_arg7) = m' ((c.tc : Thread Cert.ResNormsBackRefIdeal.nD Cert.ResNormsBackRefIdeal.τ).loc Cert.ResNormsBackRefIdeal.main_arg7))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v0) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_SbOut_SbOutIdeal : Prop :=
  True

def algebraic_SbOutIdeal_SbOutRefIdeal [hSbOutIdeal : Cert.SbOutIdeal.Facts] [hSbOutRefIdeal : Cert.SbOutRefIdeal.Facts] : Prop :=
  ∀ (m : (ℓ : Loc Cert.SbOutIdeal.nD Cert.SbOutIdeal.τ Cert.SbOutIdeal.sig) → Buf (Elt Ideal) ℓ) (g : Dev Cert.SbOutIdeal.nD → PrngReg)
    (m' : (ℓ : Loc Cert.SbOutRefIdeal.nD Cert.SbOutRefIdeal.τ Cert.SbOutRefIdeal.sig) → Buf (Elt Ideal) ℓ) (g' : Dev Cert.SbOutRefIdeal.nD → PrngReg), Pre_SbOutIdeal m →
    (∀ c : Dev Cert.SbOutIdeal.nD,
      m' ((c.tc : Thread Cert.SbOutRefIdeal.nD Cert.SbOutRefIdeal.τ).loc Cert.SbOutRefIdeal.main_arg0) = m ((c.tc : Thread Cert.SbOutIdeal.nD Cert.SbOutIdeal.τ).loc Cert.SbOutIdeal.main_arg0)
      ∧ m' ((c.tc : Thread Cert.SbOutRefIdeal.nD Cert.SbOutRefIdeal.τ).loc Cert.SbOutRefIdeal.main_arg1) = m ((c.tc : Thread Cert.SbOutIdeal.nD Cert.SbOutIdeal.τ).loc Cert.SbOutIdeal.main_arg1)) →
    ∃ (v0 : (c : Dev Cert.SbOutIdeal.nD) → Buf (Elt Ideal) ((c.tc : Thread Cert.SbOutIdeal.nD Cert.SbOutIdeal.τ).loc Cert.SbOutIdeal.main_v0)),
      θ_run (Cert.SbOutIdeal.defs (F := Ideal)) (onTc (τ := Cert.SbOutIdeal.τ) (Cert.SbOutIdeal.main (F := Ideal))) ⟨m, fun _ => 0, g⟩ (fun r => ∀ c : Dev Cert.SbOutIdeal.nD,
          r.2.mem ((c.tc : Thread Cert.SbOutIdeal.nD Cert.SbOutIdeal.τ).loc Cert.SbOutIdeal.main_v0) = v0 c
          ∧ r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
          ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1))
      ∧ θ_run (Cert.SbOutRefIdeal.defs (F := Ideal)) (onTc (τ := Cert.SbOutRefIdeal.τ) (Cert.SbOutRefIdeal.main (F := Ideal))) ⟨m', fun _ => 0, g'⟩ (fun r => ∀ c : Dev Cert.SbOutRefIdeal.nD,
          r.2.mem ((c.tc : Thread Cert.SbOutRefIdeal.nD Cert.SbOutRefIdeal.τ).loc Cert.SbOutRefIdeal.main_v0) = v0 c
          ∧ r.2.mem ((c.tc : Thread Cert.SbOutRefIdeal.nD Cert.SbOutRefIdeal.τ).loc Cert.SbOutRefIdeal.main_arg0) = m' ((c.tc : Thread Cert.SbOutRefIdeal.nD Cert.SbOutRefIdeal.τ).loc Cert.SbOutRefIdeal.main_arg0)
          ∧ r.2.mem ((c.tc : Thread Cert.SbOutRefIdeal.nD Cert.SbOutRefIdeal.τ).loc Cert.SbOutRefIdeal.main_arg1) = m' ((c.tc : Thread Cert.SbOutRefIdeal.nD Cert.SbOutRefIdeal.τ).loc Cert.SbOutRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v1) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v1) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v0)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v2) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v2) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v2) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1))

def preserves_PostQ_PostQIdeal : Prop :=
  True

def algebraic_PostQIdeal_PostQRefIdeal [hPostQIdeal : Cert.PostQIdeal.Facts] [hPostQRefIdeal : Cert.PostQRefIdeal.Facts] : Prop :=
  ∀ (m : (ℓ : Loc Cert.PostQIdeal.nD Cert.PostQIdeal.τ Cert.PostQIdeal.sig) → Buf (Elt Ideal) ℓ) (g : Dev Cert.PostQIdeal.nD → PrngReg)
    (m' : (ℓ : Loc Cert.PostQRefIdeal.nD Cert.PostQRefIdeal.τ Cert.PostQRefIdeal.sig) → Buf (Elt Ideal) ℓ) (g' : Dev Cert.PostQRefIdeal.nD → PrngReg), Pre_PostQIdeal m →
    (∀ c : Dev Cert.PostQIdeal.nD,
      m' ((c.tc : Thread Cert.PostQRefIdeal.nD Cert.PostQRefIdeal.τ).loc Cert.PostQRefIdeal.main_arg0) = m ((c.tc : Thread Cert.PostQIdeal.nD Cert.PostQIdeal.τ).loc Cert.PostQIdeal.main_arg0)) →
    ∃ (v0 : (c : Dev Cert.PostQIdeal.nD) → Buf (Elt Ideal) ((c.tc : Thread Cert.PostQIdeal.nD Cert.PostQIdeal.τ).loc Cert.PostQIdeal.main_v0)),
      θ_run (Cert.PostQIdeal.defs (F := Ideal)) (onTc (τ := Cert.PostQIdeal.τ) (Cert.PostQIdeal.main (F := Ideal))) ⟨m, fun _ => 0, g⟩ (fun r => ∀ c : Dev Cert.PostQIdeal.nD,
          r.2.mem ((c.tc : Thread Cert.PostQIdeal.nD Cert.PostQIdeal.τ).loc Cert.PostQIdeal.main_v0) = v0 c
          ∧ r.2.mem ((c.tc : Thread Cert.PostQIdeal.nD Cert.PostQIdeal.τ).loc Cert.PostQIdeal.main_arg0) = m ((c.tc : Thread Cert.PostQIdeal.nD Cert.PostQIdeal.τ).loc Cert.PostQIdeal.main_arg0))
      ∧ θ_run (Cert.PostQRefIdeal.defs (F := Ideal)) (onTc (τ := Cert.PostQRefIdeal.τ) (Cert.PostQRefIdeal.main (F := Ideal))) ⟨m', fun _ => 0, g'⟩ (fun r => ∀ c : Dev Cert.PostQRefIdeal.nD,
          r.2.mem ((c.tc : Thread Cert.PostQRefIdeal.nD Cert.PostQRefIdeal.τ).loc Cert.PostQRefIdeal.main_v15) = v0 c
          ∧ r.2.mem ((c.tc : Thread Cert.PostQRefIdeal.nD Cert.PostQRefIdeal.τ).loc Cert.PostQRefIdeal.main_arg0) = m' ((c.tc : Thread Cert.PostQRefIdeal.nD Cert.PostQRefIdeal.τ).loc Cert.PostQRefIdeal.main_arg0))

def preserves_PostK_PostKIdeal : Prop :=
  True

def algebraic_PostKIdeal_PostKRefIdeal [hPostKIdeal : Cert.PostKIdeal.Facts] [hPostKRefIdeal : Cert.PostKRefIdeal.Facts] : Prop :=
  ∀ (m : (ℓ : Loc Cert.PostKIdeal.nD Cert.PostKIdeal.τ Cert.PostKIdeal.sig) → Buf (Elt Ideal) ℓ) (g : Dev Cert.PostKIdeal.nD → PrngReg)
    (m' : (ℓ : Loc Cert.PostKRefIdeal.nD Cert.PostKRefIdeal.τ Cert.PostKRefIdeal.sig) → Buf (Elt Ideal) ℓ) (g' : Dev Cert.PostKRefIdeal.nD → PrngReg), Pre_PostKIdeal m →
    (∀ c : Dev Cert.PostKIdeal.nD,
      m' ((c.tc : Thread Cert.PostKRefIdeal.nD Cert.PostKRefIdeal.τ).loc Cert.PostKRefIdeal.main_arg0) = m ((c.tc : Thread Cert.PostKIdeal.nD Cert.PostKIdeal.τ).loc Cert.PostKIdeal.main_arg0)) →
    ∃ (v0 : (c : Dev Cert.PostKIdeal.nD) → Buf (Elt Ideal) ((c.tc : Thread Cert.PostKIdeal.nD Cert.PostKIdeal.τ).loc Cert.PostKIdeal.main_v0)),
      θ_run (Cert.PostKIdeal.defs (F := Ideal)) (onTc (τ := Cert.PostKIdeal.τ) (Cert.PostKIdeal.main (F := Ideal))) ⟨m, fun _ => 0, g⟩ (fun r => ∀ c : Dev Cert.PostKIdeal.nD,
          r.2.mem ((c.tc : Thread Cert.PostKIdeal.nD Cert.PostKIdeal.τ).loc Cert.PostKIdeal.main_v0) = v0 c
          ∧ r.2.mem ((c.tc : Thread Cert.PostKIdeal.nD Cert.PostKIdeal.τ).loc Cert.PostKIdeal.main_arg0) = m ((c.tc : Thread Cert.PostKIdeal.nD Cert.PostKIdeal.τ).loc Cert.PostKIdeal.main_arg0))
      ∧ θ_run (Cert.PostKRefIdeal.defs (F := Ideal)) (onTc (τ := Cert.PostKRefIdeal.τ) (Cert.PostKRefIdeal.main (F := Ideal))) ⟨m', fun _ => 0, g'⟩ (fun r => ∀ c : Dev Cert.PostKRefIdeal.nD,
          r.2.mem ((c.tc : Thread Cert.PostKRefIdeal.nD Cert.PostKRefIdeal.τ).loc Cert.PostKRefIdeal.main_v13) = v0 c
          ∧ r.2.mem ((c.tc : Thread Cert.PostKRefIdeal.nD Cert.PostKRefIdeal.τ).loc Cert.PostKRefIdeal.main_arg0) = m' ((c.tc : Thread Cert.PostKRefIdeal.nD Cert.PostKRefIdeal.τ).loc Cert.PostKRefIdeal.main_arg0))

def preserves_PostV_PostVIdeal : Prop :=
  True

def algebraic_PostVIdeal_PostVRefIdeal [hPostVIdeal : Cert.PostVIdeal.Facts] [hPostVRefIdeal : Cert.PostVRefIdeal.Facts] : Prop :=
  ∀ (m : (ℓ : Loc Cert.PostVIdeal.nD Cert.PostVIdeal.τ Cert.PostVIdeal.sig) → Buf (Elt Ideal) ℓ) (g : Dev Cert.PostVIdeal.nD → PrngReg)
    (m' : (ℓ : Loc Cert.PostVRefIdeal.nD Cert.PostVRefIdeal.τ Cert.PostVRefIdeal.sig) → Buf (Elt Ideal) ℓ) (g' : Dev Cert.PostVRefIdeal.nD → PrngReg), Pre_PostVIdeal m →
    (∀ c : Dev Cert.PostVIdeal.nD,
      m' ((c.tc : Thread Cert.PostVRefIdeal.nD Cert.PostVRefIdeal.τ).loc Cert.PostVRefIdeal.main_arg0) = m ((c.tc : Thread Cert.PostVIdeal.nD Cert.PostVIdeal.τ).loc Cert.PostVIdeal.main_arg0)) →
    ∃ (v0 : (c : Dev Cert.PostVIdeal.nD) → Buf (Elt Ideal) ((c.tc : Thread Cert.PostVIdeal.nD Cert.PostVIdeal.τ).loc Cert.PostVIdeal.main_v0)),
      θ_run (Cert.PostVIdeal.defs (F := Ideal)) (onTc (τ := Cert.PostVIdeal.τ) (Cert.PostVIdeal.main (F := Ideal))) ⟨m, fun _ => 0, g⟩ (fun r => ∀ c : Dev Cert.PostVIdeal.nD,
          r.2.mem ((c.tc : Thread Cert.PostVIdeal.nD Cert.PostVIdeal.τ).loc Cert.PostVIdeal.main_v0) = v0 c
          ∧ r.2.mem ((c.tc : Thread Cert.PostVIdeal.nD Cert.PostVIdeal.τ).loc Cert.PostVIdeal.main_arg0) = m ((c.tc : Thread Cert.PostVIdeal.nD Cert.PostVIdeal.τ).loc Cert.PostVIdeal.main_arg0))
      ∧ θ_run (Cert.PostVRefIdeal.defs (F := Ideal)) (onTc (τ := Cert.PostVRefIdeal.τ) (Cert.PostVRefIdeal.main (F := Ideal))) ⟨m', fun _ => 0, g'⟩ (fun r => ∀ c : Dev Cert.PostVRefIdeal.nD,
          r.2.mem ((c.tc : Thread Cert.PostVRefIdeal.nD Cert.PostVRefIdeal.τ).loc Cert.PostVRefIdeal.main_v3) = v0 c
          ∧ r.2.mem ((c.tc : Thread Cert.PostVRefIdeal.nD Cert.PostVRefIdeal.τ).loc Cert.PostVRefIdeal.main_arg0) = m' ((c.tc : Thread Cert.PostVRefIdeal.nD Cert.PostVRefIdeal.τ).loc Cert.PostVRefIdeal.main_arg0))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v0_0)) (v1 : (c : Dev Cert.GatesIdeal.nD) → Buf (Elt Ideal) ((c.tc : Thread Cert.GatesIdeal.nD Cert.GatesIdeal.τ).loc Cert.GatesIdeal.main_v0_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0_0) = v0 c
          ∧ r.2.mem ((c.tc : Thread Cert.GatesIdeal.nD Cert.GatesIdeal.τ).loc Cert.GatesIdeal.main_v0_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v19) = v0 c
          ∧ r.2.mem ((c.tc : Thread Cert.GatesRefIdeal.nD Cert.GatesRefIdeal.τ).loc Cert.GatesRefIdeal.main_v22) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_OutNorm_OutNormIdeal : Prop :=
  True

def algebraic_OutNormIdeal_OutNormRefIdeal [hOutNormIdeal : Cert.OutNormIdeal.Facts] [hOutNormRefIdeal : Cert.OutNormRefIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)) →
    ∃ (v0 : (c : Dev Cert.OutNormIdeal.nD) → Buf (Elt Ideal) ((c.tc : Thread Cert.OutNormIdeal.nD Cert.OutNormIdeal.τ).loc Cert.OutNormIdeal.main_v0)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v0) = v0 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          r.2.mem ((c.tc : Thread Cert.OutNormRefIdeal.nD Cert.OutNormRefIdeal.τ).loc Cert.OutNormRefIdeal.main_v20) = v0 c
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v30) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_PostVBack_PostVBackIdeal : Prop :=
  True

def algebraic_PostVBackIdeal_PostVBackRefIdeal [hPostVBackIdeal : Cert.PostVBackIdeal.Facts] [hPostVBackRefIdeal : Cert.PostVBackRefIdeal.Facts] : Prop :=
  ∀ (m : (ℓ : Loc Cert.PostVBackIdeal.nD Cert.PostVBackIdeal.τ Cert.PostVBackIdeal.sig) → Buf (Elt Ideal) ℓ) (g : Dev Cert.PostVBackIdeal.nD → PrngReg)
    (m' : (ℓ : Loc Cert.PostVBackRefIdeal.nD Cert.PostVBackRefIdeal.τ Cert.PostVBackRefIdeal.sig) → Buf (Elt Ideal) ℓ) (g' : Dev Cert.PostVBackRefIdeal.nD → PrngReg), Pre_PostVBackIdeal m →
    (∀ c : Dev Cert.PostVBackIdeal.nD,
      m' ((c.tc : Thread Cert.PostVBackRefIdeal.nD Cert.PostVBackRefIdeal.τ).loc Cert.PostVBackRefIdeal.main_arg0) = m ((c.tc : Thread Cert.PostVBackIdeal.nD Cert.PostVBackIdeal.τ).loc Cert.PostVBackIdeal.main_arg0)
      ∧ m' ((c.tc : Thread Cert.PostVBackRefIdeal.nD Cert.PostVBackRefIdeal.τ).loc Cert.PostVBackRefIdeal.main_arg1) = m ((c.tc : Thread Cert.PostVBackIdeal.nD Cert.PostVBackIdeal.τ).loc Cert.PostVBackIdeal.main_arg1)) →
    ∃ (v0 : (c : Dev Cert.PostVBackIdeal.nD) → Buf (Elt Ideal) ((c.tc : Thread Cert.PostVBackIdeal.nD Cert.PostVBackIdeal.τ).loc Cert.PostVBackIdeal.main_v0)),
      θ_run (Cert.PostVBackIdeal.defs (F := Ideal)) (onTc (τ := Cert.PostVBackIdeal.τ) (Cert.PostVBackIdeal.main (F := Ideal))) ⟨m, fun _ => 0, g⟩ (fun r => ∀ c : Dev Cert.PostVBackIdeal.nD,
          r.2.mem ((c.tc : Thread Cert.PostVBackIdeal.nD Cert.PostVBackIdeal.τ).loc Cert.PostVBackIdeal.main_v0) = v0 c
          ∧ r.2.mem ((c.tc : Thread Cert.PostVBackIdeal.nD Cert.PostVBackIdeal.τ).loc Cert.PostVBackIdeal.main_arg0) = m ((c.tc : Thread Cert.PostVBackIdeal.nD Cert.PostVBackIdeal.τ).loc Cert.PostVBackIdeal.main_arg0)
          ∧ r.2.mem ((c.tc : Thread Cert.PostVBackIdeal.nD Cert.PostVBackIdeal.τ).loc Cert.PostVBackIdeal.main_arg1) = m ((c.tc : Thread Cert.PostVBackIdeal.nD Cert.PostVBackIdeal.τ).loc Cert.PostVBackIdeal.main_arg1))
      ∧ θ_run (Cert.PostVBackRefIdeal.defs (F := Ideal)) (onTc (τ := Cert.PostVBackRefIdeal.τ) (Cert.PostVBackRefIdeal.main (F := Ideal))) ⟨m', fun _ => 0, g'⟩ (fun r => ∀ c : Dev Cert.PostVBackRefIdeal.nD,
          r.2.mem ((c.tc : Thread Cert.PostVBackRefIdeal.nD Cert.PostVBackRefIdeal.τ).loc Cert.PostVBackRefIdeal.main_v2) = v0 c
          ∧ r.2.mem ((c.tc : Thread Cert.PostVBackRefIdeal.nD Cert.PostVBackRefIdeal.τ).loc Cert.PostVBackRefIdeal.main_arg0) = m' ((c.tc : Thread Cert.PostVBackRefIdeal.nD Cert.PostVBackRefIdeal.τ).loc Cert.PostVBackRefIdeal.main_arg0)
          ∧ r.2.mem ((c.tc : Thread Cert.PostVBackRefIdeal.nD Cert.PostVBackRefIdeal.τ).loc Cert.PostVBackRefIdeal.main_arg1) = m' ((c.tc : Thread Cert.PostVBackRefIdeal.nD Cert.PostVBackRefIdeal.τ).loc Cert.PostVBackRefIdeal.main_arg1))

def preserves_ConvBack_ConvBackIdeal : Prop :=
  True

def algebraic_ConvBackIdeal_ConvBackRefIdeal [hConvBackIdeal : Cert.ConvBackIdeal.Facts] [hConvBackRefIdeal : Cert.ConvBackRefIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg)
    (m' : (ℓ : Loc Cert.ConvBackRefIdeal.nD Cert.ConvBackRefIdeal.τ Cert.ConvBackRefIdeal.sig) → Buf (Elt Ideal) ℓ) (g' : Dev Cert.ConvBackRefIdeal.nD → PrngReg), Pre_ConvBackIdeal m →
    (∀ c : Dev Cert.ConvBackIdeal.nD,
      m' ((c.tc : Thread Cert.ConvBackRefIdeal.nD Cert.ConvBackRefIdeal.τ).loc Cert.ConvBackRefIdeal.main_arg0) = m ((c.tc : Thread Cert.ConvBackIdeal.nD Cert.ConvBackIdeal.τ).loc Cert.ConvBackIdeal.main_arg0)
      ∧ m' ((c.tc : Thread Cert.ConvBackRefIdeal.nD Cert.ConvBackRefIdeal.τ).loc Cert.ConvBackRefIdeal.main_arg1) = m ((c.tc : Thread Cert.ConvBackIdeal.nD Cert.ConvBackIdeal.τ).loc Cert.ConvBackIdeal.main_arg1)
      ∧ m' ((c.tc : Thread Cert.ConvBackRefIdeal.nD Cert.ConvBackRefIdeal.τ).loc Cert.ConvBackRefIdeal.main_arg2) = m ((c.tc : Thread Cert.ConvBackIdeal.nD Cert.ConvBackIdeal.τ).loc Cert.ConvBackIdeal.main_arg2)) →
    ∃ (v0 : (c : Dev Cert.ConvBackIdeal.nD) → Buf (Elt Ideal) ((c.tc : Thread Cert.ConvBackIdeal.nD Cert.ConvBackIdeal.τ).loc Cert.ConvBackIdeal.main_v0_0)) (v1 : (c : Dev Cert.ConvBackIdeal.nD) → Buf (Elt Ideal) ((c.tc : Thread Cert.ConvBackIdeal.nD Cert.ConvBackIdeal.τ).loc Cert.ConvBackIdeal.main_v0_1)),
      θ_run (Cert.ConvBackIdeal.defs (F := Ideal)) (onTc (τ := Cert.ConvBackIdeal.τ) (Cert.ConvBackIdeal.main (F := Ideal))) ⟨m, fun _ => 0, g⟩ (fun r => ∀ c : Dev Cert.ConvBackIdeal.nD,
          r.2.mem ((c.tc : Thread Cert.ConvBackIdeal.nD Cert.ConvBackIdeal.τ).loc Cert.ConvBackIdeal.main_v0_0) = v0 c
          ∧ r.2.mem ((c.tc : Thread Cert.ConvBackIdeal.nD Cert.ConvBackIdeal.τ).loc Cert.ConvBackIdeal.main_v0_1) = v1 c
          ∧ r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
          ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
          ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2))
      ∧ θ_run (Cert.ConvBackRefIdeal.defs (F := Ideal)) (onTc (τ := Cert.ConvBackRefIdeal.τ) (Cert.ConvBackRefIdeal.main (F := Ideal))) ⟨m', fun _ => 0, g'⟩ (fun r => ∀ c : Dev Cert.ConvBackRefIdeal.nD,
          r.2.mem ((c.tc : Thread Cert.ConvBackRefIdeal.nD Cert.ConvBackRefIdeal.τ).loc Cert.ConvBackRefIdeal.main_v78) = v0 c
          ∧ r.2.mem ((c.tc : Thread Cert.ConvBackRefIdeal.nD Cert.ConvBackRefIdeal.τ).loc Cert.ConvBackRefIdeal.main_v79) = v1 c
          ∧ r.2.mem ((c.tc : Thread Cert.ConvBackRefIdeal.nD Cert.ConvBackRefIdeal.τ).loc Cert.ConvBackRefIdeal.main_arg0) = m' ((c.tc : Thread Cert.ConvBackRefIdeal.nD Cert.ConvBackRefIdeal.τ).loc Cert.ConvBackRefIdeal.main_arg0)
          ∧ r.2.mem ((c.tc : Thread Cert.ConvBackRefIdeal.nD Cert.ConvBackRefIdeal.τ).loc Cert.ConvBackRefIdeal.main_arg1) = m' ((c.tc : Thread Cert.ConvBackRefIdeal.nD Cert.ConvBackRefIdeal.τ).loc Cert.ConvBackRefIdeal.main_arg1)
          ∧ r.2.mem ((c.tc : Thread Cert.ConvBackRefIdeal.nD Cert.ConvBackRefIdeal.τ).loc Cert.ConvBackRefIdeal.main_arg2) = m' ((c.tc : Thread Cert.ConvBackRefIdeal.nD Cert.ConvBackRefIdeal.τ).loc Cert.ConvBackRefIdeal.main_arg2))

def Claim : Prop :=
  ∃ (hWeights : Cert.Weights.Facts) (hWeightsIdeal : Cert.WeightsIdeal.Facts) (hWeightsRefIdeal : Cert.WeightsRefIdeal.Facts) (hWeightsRef : Cert.WeightsRef.Facts) (hSibling : Cert.Sibling.Facts) (hSiblingIdeal : Cert.SiblingIdeal.Facts) (hSiblingRefIdeal : Cert.SiblingRefIdeal.Facts) (hChips : Cert.Chips.Facts) (hChipsIdeal : Cert.ChipsIdeal.Facts) (hChipsRefIdeal : Cert.ChipsRefIdeal.Facts) (hShare : Cert.Share.Facts) (hShareIdeal : Cert.ShareIdeal.Facts) (hShareRefIdeal : Cert.ShareRefIdeal.Facts) (hShareRef : Cert.ShareRef.Facts) (hUpdateMlp : Cert.UpdateMlp.Facts) (hUpdateMlpIdeal : Cert.UpdateMlpIdeal.Facts) (hUpdateMlpRefIdeal : Cert.UpdateMlpRefIdeal.Facts) (hUpdateIn : Cert.UpdateIn.Facts) (hUpdateInIdeal : Cert.UpdateInIdeal.Facts) (hUpdateInRefIdeal : Cert.UpdateInRefIdeal.Facts) (hUpdateOut : Cert.UpdateOut.Facts) (hUpdateOutIdeal : Cert.UpdateOutIdeal.Facts) (hUpdateOutRefIdeal : Cert.UpdateOutRefIdeal.Facts) (hUpdateKv : Cert.UpdateKv.Facts) (hUpdateKvIdeal : Cert.UpdateKvIdeal.Facts) (hUpdateKvRefIdeal : Cert.UpdateKvRefIdeal.Facts) (hUpdateGains : Cert.UpdateGains.Facts) (hUpdateGainsIdeal : Cert.UpdateGainsIdeal.Facts) (hUpdateGainsRefIdeal : Cert.UpdateGainsRefIdeal.Facts) (hUpdateKvGain : Cert.UpdateKvGain.Facts) (hUpdateKvGainIdeal : Cert.UpdateKvGainIdeal.Facts) (hUpdateKvGainRefIdeal : Cert.UpdateKvGainRefIdeal.Facts) (hUpdateOutGain : Cert.UpdateOutGain.Facts) (hUpdateOutGainIdeal : Cert.UpdateOutGainIdeal.Facts) (hUpdateOutGainRefIdeal : Cert.UpdateOutGainRefIdeal.Facts) (hUpdateDecay : Cert.UpdateDecay.Facts) (hUpdateDecayIdeal : Cert.UpdateDecayIdeal.Facts) (hUpdateDecayRefIdeal : Cert.UpdateDecayRefIdeal.Facts) (hUpdateConv : Cert.UpdateConv.Facts) (hUpdateConvIdeal : Cert.UpdateConvIdeal.Facts) (hUpdateConvRefIdeal : Cert.UpdateConvRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hInDw : Cert.InDw.Facts) (hInDwIdeal : Cert.InDwIdeal.Facts) (hInDwRefIdeal : Cert.InDwRefIdeal.Facts) (hGateDw : Cert.GateDw.Facts) (hGateDwIdeal : Cert.GateDwIdeal.Facts) (hGateDwRefIdeal : Cert.GateDwRefIdeal.Facts) (hOutDw : Cert.OutDw.Facts) (hOutDwIdeal : Cert.OutDwIdeal.Facts) (hOutDwRefIdeal : Cert.OutDwRefIdeal.Facts) (hSbOutDw : Cert.SbOutDw.Facts) (hSbOutDwIdeal : Cert.SbOutDwIdeal.Facts) (hSbOutDwRefIdeal : Cert.SbOutDwRefIdeal.Facts) (hKvDw : Cert.KvDw.Facts) (hKvDwIdeal : Cert.KvDwIdeal.Facts) (hKvDwRefIdeal : Cert.KvDwRefIdeal.Facts) (hDownDx : Cert.DownDx.Facts) (hDownDxIdeal : Cert.DownDxIdeal.Facts) (hDownDxRefIdeal : Cert.DownDxRefIdeal.Facts) (hUpDx : Cert.UpDx.Facts) (hUpDxIdeal : Cert.UpDxIdeal.Facts) (hUpDxRefIdeal : Cert.UpDxRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hRelu : Cert.Relu.Facts) (hReluIdeal : Cert.ReluIdeal.Facts) (hReluRefIdeal : Cert.ReluRefIdeal.Facts) (hReluBack : Cert.ReluBack.Facts) (hReluBackIdeal : Cert.ReluBackIdeal.Facts) (hReluBackRefIdeal : Cert.ReluBackRefIdeal.Facts) (hGradX : Cert.GradX.Facts) (hGradXIdeal : Cert.GradXIdeal.Facts) (hGradXRefIdeal : Cert.GradXRefIdeal.Facts) (hLoss : Cert.Loss.Facts) (hLossIdeal : Cert.LossIdeal.Facts) (hLossRefIdeal : Cert.LossRefIdeal.Facts) (hNormIn : Cert.NormIn.Facts) (hNormInIdeal : Cert.NormInIdeal.Facts) (hNormInRefIdeal : Cert.NormInRefIdeal.Facts) (hNormInBack : Cert.NormInBack.Facts) (hNormInBackIdeal : Cert.NormInBackIdeal.Facts) (hNormInBackRefIdeal : Cert.NormInBackRefIdeal.Facts) (hResNormBack : Cert.ResNormBack.Facts) (hResNormBackIdeal : Cert.ResNormBackIdeal.Facts) (hResNormBackRefIdeal : Cert.ResNormBackRefIdeal.Facts) (hResNorm : Cert.ResNorm.Facts) (hResNormIdeal : Cert.ResNormIdeal.Facts) (hResNormRefIdeal : Cert.ResNormRefIdeal.Facts) (hResNorms : Cert.ResNorms.Facts) (hResNormsIdeal : Cert.ResNormsIdeal.Facts) (hResNormsRefIdeal : Cert.ResNormsRefIdeal.Facts) (hResNormsBack : Cert.ResNormsBack.Facts) (hResNormsBackIdeal : Cert.ResNormsBackIdeal.Facts) (hResNormsBackRefIdeal : Cert.ResNormsBackRefIdeal.Facts) (hGate : Cert.Gate.Facts) (hGateIdeal : Cert.GateIdeal.Facts) (hGateRefIdeal : Cert.GateRefIdeal.Facts) (hOut : Cert.Out.Facts) (hOutIdeal : Cert.OutIdeal.Facts) (hOutRefIdeal : Cert.OutRefIdeal.Facts) (hSbOut : Cert.SbOut.Facts) (hSbOutIdeal : Cert.SbOutIdeal.Facts) (hSbOutRefIdeal : Cert.SbOutRefIdeal.Facts) (hQuery : Cert.Query.Facts) (hQueryIdeal : Cert.QueryIdeal.Facts) (hQueryRefIdeal : Cert.QueryRefIdeal.Facts) (hKv : Cert.Kv.Facts) (hKvIdeal : Cert.KvIdeal.Facts) (hKvRefIdeal : Cert.KvRefIdeal.Facts) (hOutDx : Cert.OutDx.Facts) (hOutDxIdeal : Cert.OutDxIdeal.Facts) (hOutDxRefIdeal : Cert.OutDxRefIdeal.Facts) (hKvDx : Cert.KvDx.Facts) (hKvDxIdeal : Cert.KvDxIdeal.Facts) (hKvDxRefIdeal : Cert.KvDxRefIdeal.Facts) (hInDx : Cert.InDx.Facts) (hInDxIdeal : Cert.InDxIdeal.Facts) (hInDxRefIdeal : Cert.InDxRefIdeal.Facts) (hGateDx : Cert.GateDx.Facts) (hGateDxIdeal : Cert.GateDxIdeal.Facts) (hGateDxRefIdeal : Cert.GateDxRefIdeal.Facts) (hPostQ : Cert.PostQ.Facts) (hPostQIdeal : Cert.PostQIdeal.Facts) (hPostQRefIdeal : Cert.PostQRefIdeal.Facts) (hPostK : Cert.PostK.Facts) (hPostKIdeal : Cert.PostKIdeal.Facts) (hPostKRefIdeal : Cert.PostKRefIdeal.Facts) (hPostV : Cert.PostV.Facts) (hPostVIdeal : Cert.PostVIdeal.Facts) (hPostVRefIdeal : Cert.PostVRefIdeal.Facts) (hGates : Cert.Gates.Facts) (hGatesIdeal : Cert.GatesIdeal.Facts) (hGatesRefIdeal : Cert.GatesRefIdeal.Facts) (hOutNorm : Cert.OutNorm.Facts) (hOutNormIdeal : Cert.OutNormIdeal.Facts) (hOutNormRefIdeal : Cert.OutNormRefIdeal.Facts) (hConv : Cert.Conv.Facts) (hConvIdeal : Cert.ConvIdeal.Facts) (hConvRefIdeal : Cert.ConvRefIdeal.Facts) (hPostVBack : Cert.PostVBack.Facts) (hPostVBackIdeal : Cert.PostVBackIdeal.Facts) (hPostVBackRefIdeal : Cert.PostVBackRefIdeal.Facts) (hConvBack : Cert.ConvBack.Facts) (hConvBackIdeal : Cert.ConvBackIdeal.Facts) (hConvBackRefIdeal : Cert.ConvBackRefIdeal.Facts),
    quiescent_Weights (hWeights := hWeights)
    ∧ quiescent_WeightsIdeal (hWeightsIdeal := hWeightsIdeal)
    ∧ quiescent_WeightsRefIdeal (hWeightsRefIdeal := hWeightsRefIdeal)
    ∧ quiescent_WeightsRef (hWeightsRef := hWeightsRef)
    ∧ quiescent_Sibling (hSibling := hSibling)
    ∧ quiescent_SiblingIdeal (hSiblingIdeal := hSiblingIdeal)
    ∧ quiescent_SiblingRefIdeal (hSiblingRefIdeal := hSiblingRefIdeal)
    ∧ quiescent_Chips (hChips := hChips)
    ∧ quiescent_ChipsIdeal (hChipsIdeal := hChipsIdeal)
    ∧ quiescent_ChipsRefIdeal (hChipsRefIdeal := hChipsRefIdeal)
    ∧ quiescent_Share (hShare := hShare)
    ∧ quiescent_ShareIdeal (hShareIdeal := hShareIdeal)
    ∧ quiescent_ShareRefIdeal (hShareRefIdeal := hShareRefIdeal)
    ∧ quiescent_ShareRef (hShareRef := hShareRef)
    ∧ quiescent_UpdateMlp (hUpdateMlp := hUpdateMlp)
    ∧ quiescent_UpdateMlpIdeal (hUpdateMlpIdeal := hUpdateMlpIdeal)
    ∧ quiescent_UpdateMlpRefIdeal (hUpdateMlpRefIdeal := hUpdateMlpRefIdeal)
    ∧ quiescent_UpdateIn (hUpdateIn := hUpdateIn)
    ∧ quiescent_UpdateInIdeal (hUpdateInIdeal := hUpdateInIdeal)
    ∧ quiescent_UpdateInRefIdeal (hUpdateInRefIdeal := hUpdateInRefIdeal)
    ∧ quiescent_UpdateOut (hUpdateOut := hUpdateOut)
    ∧ quiescent_UpdateOutIdeal (hUpdateOutIdeal := hUpdateOutIdeal)
    ∧ quiescent_UpdateOutRefIdeal (hUpdateOutRefIdeal := hUpdateOutRefIdeal)
    ∧ quiescent_UpdateKv (hUpdateKv := hUpdateKv)
    ∧ quiescent_UpdateKvIdeal (hUpdateKvIdeal := hUpdateKvIdeal)
    ∧ quiescent_UpdateKvRefIdeal (hUpdateKvRefIdeal := hUpdateKvRefIdeal)
    ∧ quiescent_UpdateGains (hUpdateGains := hUpdateGains)
    ∧ quiescent_UpdateGainsIdeal (hUpdateGainsIdeal := hUpdateGainsIdeal)
    ∧ quiescent_UpdateGainsRefIdeal (hUpdateGainsRefIdeal := hUpdateGainsRefIdeal)
    ∧ quiescent_UpdateKvGain (hUpdateKvGain := hUpdateKvGain)
    ∧ quiescent_UpdateKvGainIdeal (hUpdateKvGainIdeal := hUpdateKvGainIdeal)
    ∧ quiescent_UpdateKvGainRefIdeal (hUpdateKvGainRefIdeal := hUpdateKvGainRefIdeal)
    ∧ quiescent_UpdateOutGain (hUpdateOutGain := hUpdateOutGain)
    ∧ quiescent_UpdateOutGainIdeal (hUpdateOutGainIdeal := hUpdateOutGainIdeal)
    ∧ quiescent_UpdateOutGainRefIdeal (hUpdateOutGainRefIdeal := hUpdateOutGainRefIdeal)
    ∧ quiescent_UpdateDecay (hUpdateDecay := hUpdateDecay)
    ∧ quiescent_UpdateDecayIdeal (hUpdateDecayIdeal := hUpdateDecayIdeal)
    ∧ quiescent_UpdateDecayRefIdeal (hUpdateDecayRefIdeal := hUpdateDecayRefIdeal)
    ∧ quiescent_UpdateConv (hUpdateConv := hUpdateConv)
    ∧ quiescent_UpdateConvIdeal (hUpdateConvIdeal := hUpdateConvIdeal)
    ∧ quiescent_UpdateConvRefIdeal (hUpdateConvRefIdeal := hUpdateConvRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_SbOutDw (hSbOutDw := hSbOutDw)
    ∧ quiescent_SbOutDwIdeal (hSbOutDwIdeal := hSbOutDwIdeal)
    ∧ quiescent_SbOutDwRefIdeal (hSbOutDwRefIdeal := hSbOutDwRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Relu (hRelu := hRelu)
    ∧ quiescent_ReluIdeal (hReluIdeal := hReluIdeal)
    ∧ quiescent_ReluRefIdeal (hReluRefIdeal := hReluRefIdeal)
    ∧ quiescent_ReluBack (hReluBack := hReluBack)
    ∧ quiescent_ReluBackIdeal (hReluBackIdeal := hReluBackIdeal)
    ∧ quiescent_ReluBackRefIdeal (hReluBackRefIdeal := hReluBackRefIdeal)
    ∧ quiescent_GradX (hGradX := hGradX)
    ∧ quiescent_GradXIdeal (hGradXIdeal := hGradXIdeal)
    ∧ quiescent_GradXRefIdeal (hGradXRefIdeal := hGradXRefIdeal)
    ∧ quiescent_Loss (hLoss := hLoss)
    ∧ quiescent_LossIdeal (hLossIdeal := hLossIdeal)
    ∧ quiescent_LossRefIdeal (hLossRefIdeal := hLossRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_NormInBack (hNormInBack := hNormInBack)
    ∧ quiescent_NormInBackIdeal (hNormInBackIdeal := hNormInBackIdeal)
    ∧ quiescent_NormInBackRefIdeal (hNormInBackRefIdeal := hNormInBackRefIdeal)
    ∧ quiescent_ResNormBack (hResNormBack := hResNormBack)
    ∧ quiescent_ResNormBackIdeal (hResNormBackIdeal := hResNormBackIdeal)
    ∧ quiescent_ResNormBackRefIdeal (hResNormBackRefIdeal := hResNormBackRefIdeal)
    ∧ quiescent_ResNorm (hResNorm := hResNorm)
    ∧ quiescent_ResNormIdeal (hResNormIdeal := hResNormIdeal)
    ∧ quiescent_ResNormRefIdeal (hResNormRefIdeal := hResNormRefIdeal)
    ∧ quiescent_ResNorms (hResNorms := hResNorms)
    ∧ quiescent_ResNormsIdeal (hResNormsIdeal := hResNormsIdeal)
    ∧ quiescent_ResNormsRefIdeal (hResNormsRefIdeal := hResNormsRefIdeal)
    ∧ quiescent_ResNormsBack (hResNormsBack := hResNormsBack)
    ∧ quiescent_ResNormsBackIdeal (hResNormsBackIdeal := hResNormsBackIdeal)
    ∧ quiescent_ResNormsBackRefIdeal (hResNormsBackRefIdeal := hResNormsBackRefIdeal)
    ∧ quiescent_Gate (hGate := hGate)
    ∧ quiescent_GateIdeal (hGateIdeal := hGateIdeal)
    ∧ quiescent_GateRefIdeal (hGateRefIdeal := hGateRefIdeal)
    ∧ quiescent_Out (hOut := hOut)
    ∧ quiescent_OutIdeal (hOutIdeal := hOutIdeal)
    ∧ quiescent_OutRefIdeal (hOutRefIdeal := hOutRefIdeal)
    ∧ quiescent_SbOut (hSbOut := hSbOut)
    ∧ quiescent_SbOutIdeal (hSbOutIdeal := hSbOutIdeal)
    ∧ quiescent_SbOutRefIdeal (hSbOutRefIdeal := hSbOutRefIdeal)
    ∧ quiescent_Query (hQuery := hQuery)
    ∧ quiescent_QueryIdeal (hQueryIdeal := hQueryIdeal)
    ∧ quiescent_QueryRefIdeal (hQueryRefIdeal := hQueryRefIdeal)
    ∧ quiescent_Kv (hKv := hKv)
    ∧ quiescent_KvIdeal (hKvIdeal := hKvIdeal)
    ∧ quiescent_KvRefIdeal (hKvRefIdeal := hKvRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_InDx (hInDx := hInDx)
    ∧ quiescent_InDxIdeal (hInDxIdeal := hInDxIdeal)
    ∧ quiescent_InDxRefIdeal (hInDxRefIdeal := hInDxRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_PostQ (hPostQ := hPostQ)
    ∧ quiescent_PostQIdeal (hPostQIdeal := hPostQIdeal)
    ∧ quiescent_PostQRefIdeal (hPostQRefIdeal := hPostQRefIdeal)
    ∧ quiescent_PostK (hPostK := hPostK)
    ∧ quiescent_PostKIdeal (hPostKIdeal := hPostKIdeal)
    ∧ quiescent_PostKRefIdeal (hPostKRefIdeal := hPostKRefIdeal)
    ∧ quiescent_PostV (hPostV := hPostV)
    ∧ quiescent_PostVIdeal (hPostVIdeal := hPostVIdeal)
    ∧ quiescent_PostVRefIdeal (hPostVRefIdeal := hPostVRefIdeal)
    ∧ quiescent_Gates (hGates := hGates)
    ∧ quiescent_GatesIdeal (hGatesIdeal := hGatesIdeal)
    ∧ quiescent_GatesRefIdeal (hGatesRefIdeal := hGatesRefIdeal)
    ∧ quiescent_OutNorm (hOutNorm := hOutNorm)
    ∧ quiescent_OutNormIdeal (hOutNormIdeal := hOutNormIdeal)
    ∧ quiescent_OutNormRefIdeal (hOutNormRefIdeal := hOutNormRefIdeal)
    ∧ quiescent_Conv (hConv := hConv)
    ∧ quiescent_ConvIdeal (hConvIdeal := hConvIdeal)
    ∧ quiescent_ConvRefIdeal (hConvRefIdeal := hConvRefIdeal)
    ∧ quiescent_PostVBack (hPostVBack := hPostVBack)
    ∧ quiescent_PostVBackIdeal (hPostVBackIdeal := hPostVBackIdeal)
    ∧ quiescent_PostVBackRefIdeal (hPostVBackRefIdeal := hPostVBackRefIdeal)
    ∧ quiescent_ConvBack (hConvBack := hConvBack)
    ∧ quiescent_ConvBackIdeal (hConvBackIdeal := hConvBackIdeal)
    ∧ quiescent_ConvBackRefIdeal (hConvBackRefIdeal := hConvBackRefIdeal)
    ∧ preserves_Weights_WeightsIdeal
    ∧ algebraic_WeightsIdeal_WeightsRefIdeal (hWeightsIdeal := hWeightsIdeal) (hWeightsRefIdeal := hWeightsRefIdeal)
    ∧ bitexact_Weights_WeightsRef (hWeights := hWeights) (hWeightsRef := hWeightsRef)
    ∧ preserves_Sibling_SiblingIdeal
    ∧ algebraic_SiblingIdeal_SiblingRefIdeal (hSiblingIdeal := hSiblingIdeal) (hSiblingRefIdeal := hSiblingRefIdeal)
    ∧ preserves_Chips_ChipsIdeal
    ∧ algebraic_ChipsIdeal_ChipsRefIdeal (hChipsIdeal := hChipsIdeal) (hChipsRefIdeal := hChipsRefIdeal)
    ∧ preserves_Share_ShareIdeal
    ∧ algebraic_ShareIdeal_ShareRefIdeal (hShareIdeal := hShareIdeal) (hShareRefIdeal := hShareRefIdeal)
    ∧ bitexact_Share_ShareRef (hShare := hShare) (hShareRef := hShareRef)
    ∧ preserves_UpdateMlp_UpdateMlpIdeal
    ∧ algebraic_UpdateMlpIdeal_UpdateMlpRefIdeal (hUpdateMlpIdeal := hUpdateMlpIdeal) (hUpdateMlpRefIdeal := hUpdateMlpRefIdeal)
    ∧ preserves_UpdateIn_UpdateInIdeal
    ∧ algebraic_UpdateInIdeal_UpdateInRefIdeal (hUpdateInIdeal := hUpdateInIdeal) (hUpdateInRefIdeal := hUpdateInRefIdeal)
    ∧ preserves_UpdateOut_UpdateOutIdeal
    ∧ algebraic_UpdateOutIdeal_UpdateOutRefIdeal (hUpdateOutIdeal := hUpdateOutIdeal) (hUpdateOutRefIdeal := hUpdateOutRefIdeal)
    ∧ preserves_UpdateKv_UpdateKvIdeal
    ∧ algebraic_UpdateKvIdeal_UpdateKvRefIdeal (hUpdateKvIdeal := hUpdateKvIdeal) (hUpdateKvRefIdeal := hUpdateKvRefIdeal)
    ∧ preserves_UpdateGains_UpdateGainsIdeal
    ∧ algebraic_UpdateGainsIdeal_UpdateGainsRefIdeal (hUpdateGainsIdeal := hUpdateGainsIdeal) (hUpdateGainsRefIdeal := hUpdateGainsRefIdeal)
    ∧ preserves_UpdateKvGain_UpdateKvGainIdeal
    ∧ algebraic_UpdateKvGainIdeal_UpdateKvGainRefIdeal (hUpdateKvGainIdeal := hUpdateKvGainIdeal) (hUpdateKvGainRefIdeal := hUpdateKvGainRefIdeal)
    ∧ preserves_UpdateOutGain_UpdateOutGainIdeal
    ∧ algebraic_UpdateOutGainIdeal_UpdateOutGainRefIdeal (hUpdateOutGainIdeal := hUpdateOutGainIdeal) (hUpdateOutGainRefIdeal := hUpdateOutGainRefIdeal)
    ∧ preserves_UpdateDecay_UpdateDecayIdeal
    ∧ algebraic_UpdateDecayIdeal_UpdateDecayRefIdeal (hUpdateDecayIdeal := hUpdateDecayIdeal) (hUpdateDecayRefIdeal := hUpdateDecayRefIdeal)
    ∧ preserves_UpdateConv_UpdateConvIdeal
    ∧ algebraic_UpdateConvIdeal_UpdateConvRefIdeal (hUpdateConvIdeal := hUpdateConvIdeal) (hUpdateConvRefIdeal := hUpdateConvRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_InDw_InDwIdeal
    ∧ algebraic_InDwIdeal_InDwRefIdeal (hInDwIdeal := hInDwIdeal) (hInDwRefIdeal := hInDwRefIdeal)
    ∧ preserves_GateDw_GateDwIdeal
    ∧ algebraic_GateDwIdeal_GateDwRefIdeal (hGateDwIdeal := hGateDwIdeal) (hGateDwRefIdeal := hGateDwRefIdeal)
    ∧ preserves_OutDw_OutDwIdeal
    ∧ algebraic_OutDwIdeal_OutDwRefIdeal (hOutDwIdeal := hOutDwIdeal) (hOutDwRefIdeal := hOutDwRefIdeal)
    ∧ preserves_SbOutDw_SbOutDwIdeal
    ∧ algebraic_SbOutDwIdeal_SbOutDwRefIdeal (hSbOutDwIdeal := hSbOutDwIdeal) (hSbOutDwRefIdeal := hSbOutDwRefIdeal)
    ∧ preserves_KvDw_KvDwIdeal
    ∧ algebraic_KvDwIdeal_KvDwRefIdeal (hKvDwIdeal := hKvDwIdeal) (hKvDwRefIdeal := hKvDwRefIdeal)
    ∧ preserves_DownDx_DownDxIdeal
    ∧ algebraic_DownDxIdeal_DownDxRefIdeal (hDownDxIdeal := hDownDxIdeal) (hDownDxRefIdeal := hDownDxRefIdeal)
    ∧ preserves_UpDx_UpDxIdeal
    ∧ algebraic_UpDxIdeal_UpDxRefIdeal (hUpDxIdeal := hUpDxIdeal) (hUpDxRefIdeal := hUpDxRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Relu_ReluIdeal
    ∧ algebraic_ReluIdeal_ReluRefIdeal (hReluIdeal := hReluIdeal) (hReluRefIdeal := hReluRefIdeal)
    ∧ preserves_ReluBack_ReluBackIdeal
    ∧ algebraic_ReluBackIdeal_ReluBackRefIdeal (hReluBackIdeal := hReluBackIdeal) (hReluBackRefIdeal := hReluBackRefIdeal)
    ∧ preserves_GradX_GradXIdeal
    ∧ algebraic_GradXIdeal_GradXRefIdeal (hGradXIdeal := hGradXIdeal) (hGradXRefIdeal := hGradXRefIdeal)
    ∧ preserves_Loss_LossIdeal
    ∧ algebraic_LossIdeal_LossRefIdeal (hLossIdeal := hLossIdeal) (hLossRefIdeal := hLossRefIdeal)
    ∧ preserves_NormIn_NormInIdeal
    ∧ algebraic_NormInIdeal_NormInRefIdeal (hNormInIdeal := hNormInIdeal) (hNormInRefIdeal := hNormInRefIdeal)
    ∧ preserves_NormInBack_NormInBackIdeal
    ∧ algebraic_NormInBackIdeal_NormInBackRefIdeal (hNormInBackIdeal := hNormInBackIdeal) (hNormInBackRefIdeal := hNormInBackRefIdeal)
    ∧ preserves_ResNormBack_ResNormBackIdeal
    ∧ algebraic_ResNormBackIdeal_ResNormBackRefIdeal (hResNormBackIdeal := hResNormBackIdeal) (hResNormBackRefIdeal := hResNormBackRefIdeal)
    ∧ preserves_ResNorm_ResNormIdeal
    ∧ algebraic_ResNormIdeal_ResNormRefIdeal (hResNormIdeal := hResNormIdeal) (hResNormRefIdeal := hResNormRefIdeal)
    ∧ preserves_ResNorms_ResNormsIdeal
    ∧ algebraic_ResNormsIdeal_ResNormsRefIdeal (hResNormsIdeal := hResNormsIdeal) (hResNormsRefIdeal := hResNormsRefIdeal)
    ∧ preserves_ResNormsBack_ResNormsBackIdeal
    ∧ algebraic_ResNormsBackIdeal_ResNormsBackRefIdeal (hResNormsBackIdeal := hResNormsBackIdeal) (hResNormsBackRefIdeal := hResNormsBackRefIdeal)
    ∧ preserves_Gate_GateIdeal
    ∧ algebraic_GateIdeal_GateRefIdeal (hGateIdeal := hGateIdeal) (hGateRefIdeal := hGateRefIdeal)
    ∧ preserves_Out_OutIdeal
    ∧ algebraic_OutIdeal_OutRefIdeal (hOutIdeal := hOutIdeal) (hOutRefIdeal := hOutRefIdeal)
    ∧ preserves_SbOut_SbOutIdeal
    ∧ algebraic_SbOutIdeal_SbOutRefIdeal (hSbOutIdeal := hSbOutIdeal) (hSbOutRefIdeal := hSbOutRefIdeal)
    ∧ preserves_Query_QueryIdeal
    ∧ algebraic_QueryIdeal_QueryRefIdeal (hQueryIdeal := hQueryIdeal) (hQueryRefIdeal := hQueryRefIdeal)
    ∧ preserves_Kv_KvIdeal
    ∧ algebraic_KvIdeal_KvRefIdeal (hKvIdeal := hKvIdeal) (hKvRefIdeal := hKvRefIdeal)
    ∧ preserves_OutDx_OutDxIdeal
    ∧ algebraic_OutDxIdeal_OutDxRefIdeal (hOutDxIdeal := hOutDxIdeal) (hOutDxRefIdeal := hOutDxRefIdeal)
    ∧ preserves_KvDx_KvDxIdeal
    ∧ algebraic_KvDxIdeal_KvDxRefIdeal (hKvDxIdeal := hKvDxIdeal) (hKvDxRefIdeal := hKvDxRefIdeal)
    ∧ preserves_InDx_InDxIdeal
    ∧ algebraic_InDxIdeal_InDxRefIdeal (hInDxIdeal := hInDxIdeal) (hInDxRefIdeal := hInDxRefIdeal)
    ∧ preserves_GateDx_GateDxIdeal
    ∧ algebraic_GateDxIdeal_GateDxRefIdeal (hGateDxIdeal := hGateDxIdeal) (hGateDxRefIdeal := hGateDxRefIdeal)
    ∧ preserves_PostQ_PostQIdeal
    ∧ algebraic_PostQIdeal_PostQRefIdeal (hPostQIdeal := hPostQIdeal) (hPostQRefIdeal := hPostQRefIdeal)
    ∧ preserves_PostK_PostKIdeal
    ∧ algebraic_PostKIdeal_PostKRefIdeal (hPostKIdeal := hPostKIdeal) (hPostKRefIdeal := hPostKRefIdeal)
    ∧ preserves_PostV_PostVIdeal
    ∧ algebraic_PostVIdeal_PostVRefIdeal (hPostVIdeal := hPostVIdeal) (hPostVRefIdeal := hPostVRefIdeal)
    ∧ preserves_Gates_GatesIdeal
    ∧ algebraic_GatesIdeal_GatesRefIdeal (hGatesIdeal := hGatesIdeal) (hGatesRefIdeal := hGatesRefIdeal)
    ∧ preserves_OutNorm_OutNormIdeal
    ∧ algebraic_OutNormIdeal_OutNormRefIdeal (hOutNormIdeal := hOutNormIdeal) (hOutNormRefIdeal := hOutNormRefIdeal)
    ∧ preserves_Conv_ConvIdeal
    ∧ algebraic_ConvIdeal_ConvRefIdeal (hConvIdeal := hConvIdeal) (hConvRefIdeal := hConvRefIdeal)
    ∧ preserves_PostVBack_PostVBackIdeal
    ∧ algebraic_PostVBackIdeal_PostVBackRefIdeal (hPostVBackIdeal := hPostVBackIdeal) (hPostVBackRefIdeal := hPostVBackRefIdeal)
    ∧ preserves_ConvBack_ConvBackIdeal
    ∧ algebraic_ConvBackIdeal_ConvBackRefIdeal (hConvBackIdeal := hConvBackIdeal) (hConvBackRefIdeal := hConvBackRefIdeal)
-- ==== Weights.lean ====
abbrev S2x3328x1024 : Shape := ⟨3, ![2, 3328, 1024]⟩
abbrev S4x2x3328x1024 : Shape := ⟨4, ![4, 2, 3328, 1024]⟩
abbrev S3 : Shape := ⟨1, ![3]⟩
abbrev S_ : Shape := ⟨0, ![]⟩
abbrev S1x2x3328x1024 : Shape := ⟨4, ![1, 2, 3328, 1024]⟩
abbrev S1 : Shape := ⟨1, ![1]⟩
abbrev S1x1x3328x1024 : Shape := ⟨4, ![1, 1, 3328, 1024]⟩
abbrev S3328x1024 : Shape := ⟨2, ![3328, 1024]⟩
abbrev S1x3328x1024 : Shape := ⟨3, ![1, 3328, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2x3328x1024, .bf16⟩
  | .hbm, ⟨1, _⟩ => ⟨S4x2x3328x1024, .bf16⟩
  | _, _ => ⟨S2x3328x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  let c0_i32_9 : BitVec 32 := 0#32
  ![v14.toNat, 0, 0, 0]
def k0_off2 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_16 : BitVec 32 := 0#32
  let c0_i32_17 : BitVec 32 := 0#32
  ![v14.toNat, v8.toNat, 0, 0]
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_18 : BitVec 32 := 0#32
  let c0_i32_19 : BitVec 32 := 0#32
  ![v8.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v17 : BitVec 32 := Scalar.muli v9 c4_i32_12
  let v18 : BitVec 32 := Scalar.addi c0_i32_13 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v19 : BitVec 32 := Scalar.muli v5 c2_i32_14
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v21 : BitVec 32 := Scalar.muli v8 c1_i32_15
  let v22 : BitVec 32 := Scalar.addi v20 v21
  v22.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v31 : BitVec 32 := Scalar.muli v2 c4_i32_22
  let v32 : BitVec 32 := Scalar.addi c0_i32_23 v31
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v33 : BitVec 32 := Scalar.muli v10 c2_i32_24
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v35 : BitVec 32 := Scalar.muli v8 c1_i32_25
  let v36 : BitVec 32 := Scalar.addi v34 v35
  v36.toNat
def k0_dev3 (d0 : Dev nD) : Nat :=
  let c0_i32_33 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_32 : BitVec 32 := 4#32
  let v45 : BitVec 32 := Scalar.muli v11 c4_i32_32
  let v46 : BitVec 32 := Scalar.addi c0_i32_33 v45
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_34 : BitVec 32 := 2#32
  let v47 : BitVec 32 := Scalar.muli v12 c2_i32_34
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v49 : BitVec 32 := Scalar.muli v8 c1_i32_35
  let v50 : BitVec 32 := Scalar.addi v48 v49
  v50.toNat
def k0_off4 (d0 : Dev nD) : Fin 4 → Nat :=
  let c2_i32_40 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v59 : BitVec 32 := Scalar.muli c2_i32_40 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v60 : BitVec 32 := Scalar.addi v59 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_47 : BitVec 32 := 0#32
  let c0_i32_48 : BitVec 32 := 0#32
  ![v60.toNat, v8.toNat, 0, 0]
def k0_dev4 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v74 : BitVec 32 := Scalar.muli v2 c4_i32_54
  let v75 : BitVec 32 := Scalar.addi c0_i32_55 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v76 : BitVec 32 := Scalar.muli v5 c2_i32_56
  let v77 : BitVec 32 := Scalar.addi v75 v76
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.subi c1_i32_51 v8
  let c1_i32_57 : BitVec 32 := 1#32
  let v78 : BitVec 32 := Scalar.muli v73 c1_i32_57
  let v79 : BitVec 32 := Scalar.addi v77 v78
  v79.toNat
def k0_off5 (d0 : Dev nD) : Fin 4 → Nat :=
  let c2_i32_62 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v88 : BitVec 32 := Scalar.muli c2_i32_62 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v89 : BitVec 32 := Scalar.addi v88 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_69 : BitVec 32 := 0#32
  let c0_i32_70 : BitVec 32 := 0#32
  ![v89.toNat, v8.toNat, 0, 0]
def k0_dev5 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v103 : BitVec 32 := Scalar.muli v2 c4_i32_76
  let v104 : BitVec 32 := Scalar.addi c0_i32_77 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v105 : BitVec 32 := Scalar.muli v5 c2_i32_78
  let v106 : BitVec 32 := Scalar.addi v104 v105
  let c1_i32_73 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v102 : BitVec 32 := Scalar.subi c1_i32_73 v8
  let c1_i32_79 : BitVec 32 := 1#32
  let v107 : BitVec 32 := Scalar.muli v102 c1_i32_79
  let v108 : BitVec 32 := Scalar.addi v106 v107
  v108.toNat
def k0_off6 (d0 : Dev nD) : Fin 4 → Nat :=
  let c2_i32_84 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v117 : BitVec 32 := Scalar.muli c2_i32_84 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v118 : BitVec 32 := Scalar.addi v117 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_91 : BitVec 32 := 0#32
  let c0_i32_92 : BitVec 32 := 0#32
  ![v118.toNat, v8.toNat, 0, 0]
def k0_dev6 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v132 : BitVec 32 := Scalar.muli v2 c4_i32_98
  let v133 : BitVec 32 := Scalar.addi c0_i32_99 v132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v134 : BitVec 32 := Scalar.muli v5 c2_i32_100
  let v135 : BitVec 32 := Scalar.addi v133 v134
  let c1_i32_95 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v131 : BitVec 32 := Scalar.subi c1_i32_95 v8
  let c1_i32_101 : BitVec 32 := 1#32
  let v136 : BitVec 32 := Scalar.muli v131 c1_i32_101
  let v137 : BitVec 32 := Scalar.addi v135 v136
  v137.toNat
def k0_off7 (d0 : Dev nD) : Fin 4 → Nat :=
  let c2_i32_106 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v146 : BitVec 32 := Scalar.muli c2_i32_106 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v147 : BitVec 32 := Scalar.addi v146 v5
  let c1_i32_107 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v148 : BitVec 32 := Scalar.subi c1_i32_107 v8
  let c0_i32_115 : BitVec 32 := 0#32
  let c0_i32_116 : BitVec 32 := 0#32
  ![v147.toNat, v148.toNat, 0, 0]
def k0_off8 (d0 : Dev nD) : Fin 4 → Nat :=
  let c2_i32_119 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v162 : BitVec 32 := Scalar.muli c2_i32_119 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v163 : BitVec 32 := Scalar.addi v162 v10
  let c1_i32_120 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v164 : BitVec 32 := Scalar.subi c1_i32_120 v8
  let c0_i32_128 : BitVec 32 := 0#32
  let c0_i32_129 : BitVec 32 := 0#32
  ![v163.toNat, v164.toNat, 0, 0]
def k0_off9 (d0 : Dev nD) : Fin 4 → Nat :=
  let c2_i32_132 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v178 : BitVec 32 := Scalar.muli c2_i32_132 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v179 : BitVec 32 := Scalar.addi v178 v12
  let c1_i32_133 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v180 : BitVec 32 := Scalar.subi c1_i32_133 v8
  let c0_i32_141 : BitVec 32 := 0#32
  let c0_i32_142 : BitVec 32 := 0#32
  ![v179.toNat, v180.toNat, 0, 0]
-- ==== WeightsRef.lean ====
abbrev S2x13312x1024 : Shape := ⟨3, ![2, 13312, 1024]⟩
abbrev S2x4x3328x1024 : Shape := ⟨4, ![2, 4, 3328, 1024]⟩
abbrev S4x2x3328x1024 : Shape := ⟨4, ![4, 2, 3328, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x13312x1024, .bf16⟩
  | .hbm, ⟨1, _⟩ => ⟨S2x4x3328x1024, .bf16⟩
  | .hbm, ⟨2, _⟩ => ⟨S4x2x3328x1024, .bf16⟩
  | _, _ => ⟨S2x13312x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Sibling.lean ====
abbrev S2x13312x1024 : Shape := ⟨3, ![2, 13312, 1024]⟩
abbrev S13312x1024 : Shape := ⟨2, ![13312, 1024]⟩
abbrev S_ : Shape := ⟨0, ![]⟩
abbrev S1x13312x1024 : Shape := ⟨3, ![1, 13312, 1024]⟩
abbrev S256x1024 : Shape := ⟨2, ![256, 1024]⟩

abbrev nBuf : Space → Nat
  | .hbm => 30
  | .vmem => 6
  | .smem => 0
  | _ => 0

abbrev bufTy : (tb : Table) → Fin (tcTables nBuf tb) → BufTy
  | .hbm, ⟨0, _⟩ => ⟨S2x13312x1024, .f32⟩
  | .hbm, ⟨1, _⟩ => ⟨S13312x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1x13312x1024, .f32⟩
  | .hbm, ⟨28, _⟩ => ⟨S13312x1024, .f32⟩
  | .hbm, ⟨29, _⟩ => ⟨S13312x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S2x13312x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_1 : Ref sig .tc := ⟨.hbm, 8, rfl⟩
abbrev main_c_2 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_3 : Ref sig .tc := ⟨.hbm, 14, rfl⟩
abbrev main_c_4 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_c : Ref sig .tc := ⟨.hbm, 20, rfl⟩
abbrev main_call0_v0 : Ref sig .tc := ⟨.hbm, 21, rfl⟩
abbrev main_call0_c_0 : Ref sig .tc := ⟨.hbm, 22, rfl⟩
abbrev main_call0_v1 : Ref sig .tc := ⟨.hbm, 23, rfl⟩
abbrev main_call0_v2 : Ref sig .tc := ⟨.hbm, 24, rfl⟩
abbrev main_call0_c_1 : Ref sig .tc := ⟨.hbm, 25, rfl⟩
abbrev main_call0_c_2 : Ref sig .tc := ⟨.hbm, 26, rfl⟩
abbrev main_call0_v3 : Ref sig .tc := ⟨.hbm, 27, rfl⟩
abbrev main_v14 : Ref sig .tc := ⟨.hbm, 28, rfl⟩
abbrev main_v15 : Ref sig .tc := ⟨.hbm, 29, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 8
abbrev τ : Topo := Topo.v7x

variable {F : FTy → Type} [FloatOps F]

abbrev grid0 : Pipeline.Grid := .none

def k0_off1 (d0 : Dev nD) : Fin 3 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_8 : BitVec 32 := 0#32
  let c0_i32_9 : BitVec 32 := 0#32
  ![v9.toNat, 0, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_7 : BitVec 32 := 1#32
  let v15 : BitVec 32 := Scalar.muli v10 c1_i32_7
  let v16 : BitVec 32 := Scalar.addi v14 v15
  v16.toNat
abbrev grid1 : Pipeline.Grid := ⟨1, ![52], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== SiblingRefIdeal.lean ====
abbrev S16x13312x1024 : Shape := ⟨3, ![16, 13312, 1024]⟩
abbrev S4x2x2x13312x1024 : Shape := ⟨5, ![4, 2, 2, 13312, 1024]⟩
abbrev S_ : Shape := ⟨0, ![]⟩
abbrev S4x2x13312x1024 : Shape := ⟨4, ![4, 2, 13312, 1024]⟩
abbrev S106496x1024 : Shape := ⟨2, ![106496, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16x13312x1024, .f32⟩
  | .hbm, ⟨1, _⟩ => ⟨S4x2x2x13312x1024, .f32⟩
  | .hbm, ⟨2, _⟩ => ⟨S_, .f32⟩
  | .hbm, ⟨3, _⟩ => ⟨S4x2x13312x1024, .f32⟩
  | .hbm, ⟨4, _⟩ => ⟨S106496x1024, .f32⟩
  | _, _ => ⟨S16x13312x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Chips.lean ====
abbrev S4x3328x1024 : Shape := ⟨3, ![4, 3328, 1024]⟩
abbrev S3x3328x1024 : Shape := ⟨3, ![3, 3328, 1024]⟩
abbrev S3 : Shape := ⟨1, ![3]⟩
abbrev S1 : Shape := ⟨1, ![1]⟩
abbrev S_ : Shape := ⟨0, ![]⟩
abbrev S1x3328x1024 : Shape := ⟨3, ![1, 3328, 1024]⟩
abbrev S3328x1024 : Shape := ⟨2, ![3328, 1024]⟩
abbrev S256x1024 : Shape := ⟨2, ![256, 1024]⟩

abbrev nBuf : Space → Nat
  | .hbm => 39
  | .vmem => 10
  | .smem => 0
  | _ => 0

abbrev bufTy : (tb : Table) → Fin (tcTables nBuf tb) → BufTy
  | .hbm, ⟨0, _⟩ => ⟨S4x3328x1024, .f32⟩
  | .hbm, ⟨1, _⟩ => ⟨S3x3328x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x3328x1024, .f32⟩
  | .hbm, ⟨31, _⟩ => ⟨S3328x1024, .f32⟩
  | .hbm, ⟨32, _⟩ => ⟨S1x3328x1024, .f32⟩
  | .hbm, ⟨33, _⟩ => ⟨S3328x1024, .f32⟩
  | .hbm, ⟨34, _⟩ => ⟨S1x3328x1024, .f32⟩
  | .hbm, ⟨35, _⟩ => ⟨S3328x1024, .f32⟩
  | .hbm, ⟨36, _⟩ => ⟨S1x3328x1024, .f32⟩
  | .hbm, ⟨37, _⟩ => ⟨S3328x1024, .f32⟩
  | .hbm, ⟨38, _⟩ => ⟨S3328x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4x3328x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_1 : Ref sig .tc := ⟨.hbm, 8, rfl⟩
abbrev main_c_2 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_3 : Ref sig .tc := ⟨.hbm, 14, rfl⟩
abbrev main_c_4 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_5 : Ref sig .tc := ⟨.hbm, 20, rfl⟩
abbrev main_v14 : Ref sig .tc := ⟨.hbm, 21, rfl⟩
abbrev main_v15 : Ref sig .tc := ⟨.hbm, 22, rfl⟩
abbrev main_call0_c : Ref sig .tc := ⟨.hbm, 23, rfl⟩
abbrev main_call0_v0 : Ref sig .tc := ⟨.hbm, 24, rfl⟩
abbrev main_call0_c_0 : Ref sig .tc := ⟨.hbm, 25, rfl⟩
abbrev main_call0_v1 : Ref sig .tc := ⟨.hbm, 26, rfl⟩
abbrev main_call0_v2 : Ref sig .tc := ⟨.hbm, 27, rfl⟩
abbrev main_call0_c_1 : Ref sig .tc := ⟨.hbm, 28, rfl⟩
abbrev main_call0_c_2 : Ref sig .tc := ⟨.hbm, 29, rfl⟩
abbrev main_call0_v3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v19 : BitVec 32 := Scalar.muli v9 c4_i32_12
  let v20 : BitVec 32 := Scalar.addi c0_i32_13 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v21 : BitVec 32 := Scalar.muli v5 c2_i32_14
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v23 : BitVec 32 := Scalar.muli v8 c1_i32_15
  let v24 : BitVec 32 := Scalar.addi v22 v23
  v24.toNat
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_29 : BitVec 32 := 0#32
  let c0_i32_30 : BitVec 32 := 0#32
  ![v16.toNat, 0, 0]
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v35 : BitVec 32 := Scalar.muli v10 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_40 : BitVec 32 := 0#32
  let c0_i32_41 : BitVec 32 := 0#32
  ![v18.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ChipsRefIdeal.lean ====
abbrev S32x3328x1024 : Shape := ⟨3, ![32, 3328, 1024]⟩
abbrev S4x2x4x3328x1024 : Shape := ⟨5, ![4, 2, 4, 3328, 1024]⟩
abbrev S_ : Shape := ⟨0, ![]⟩
abbrev S2x4x3328x1024 : Shape := ⟨4, ![2, 4, 3328, 1024]⟩
abbrev S26624x1024 : Shape := ⟨2, ![26624, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32x3328x1024, .f32⟩
  | .hbm, ⟨1, _⟩ => ⟨S4x2x4x3328x1024, .f32⟩
  | .hbm, ⟨2, _⟩ => ⟨S_, .f32⟩
  | .hbm, ⟨3, _⟩ => ⟨S2x4x3328x1024, .f32⟩
  | .hbm, ⟨4, _⟩ => ⟨S26624x1024, .f32⟩
  | _, _ => ⟨S32x3328x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Share.lean ====
abbrev S3328x1024 : Shape := ⟨2, ![3328, 1024]⟩
abbrev S2x3328x1024 : Shape := ⟨3, ![2, 3328, 1024]⟩
abbrev S_ : Shape := ⟨0, ![]⟩
abbrev S1x3328x1024 : Shape := ⟨3, ![1, 3328, 1024]⟩

abbrev nBuf : Space → Nat
  | .hbm => 2
  | .vmem => 0
  | .smem => 0
  | _ => 0

abbrev bufTy : (tb : Table) → Fin (tcTables nBuf tb) → BufTy
  | .hbm, ⟨0, _⟩ => ⟨S3328x1024, .f32⟩
  | .hbm, ⟨1, _⟩ => ⟨S2x3328x1024, .f32⟩
  | _, _ => ⟨S3328x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== ShareRef.lean ====
abbrev S26624x1024 : Shape := ⟨2, ![26624, 1024]⟩
abbrev S2x13312x1024 : Shape := ⟨3, ![2, 13312, 1024]⟩

abbrev nBuf : Space → Nat
  | .hbm => 2
  | .vmem => 0
  | .smem => 0
  | _ => 0

abbrev bufTy : (tb : Table) → Fin (tcTables nBuf tb) → BufTy
  | .hbm, ⟨0, _⟩ => ⟨S26624x1024, .f32⟩
  | .hbm, ⟨1, _⟩ => ⟨S2x13312x1024, .f32⟩
  | _, _ => ⟨S26624x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== UpdateMlp.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateMlpIdeal.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateMlpRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateIn.lean ====
abbrev S1024x1028 : Shape := ⟨2, ![1024, 1028]⟩
abbrev S256x1028 : Shape := ⟨2, ![256, 1028]⟩

abbrev nBuf : Space → Nat
  | .hbm => 7
  | .vmem => 14
  | .smem => 0
  | _ => 0

abbrev bufTy : (tb : Table) → Fin (tcTables nBuf tb) → BufTy
  | .hbm, ⟨0, _⟩ => ⟨S1024x1028, .f32⟩
  | .hbm, ⟨1, _⟩ => ⟨S1024x1028, .f32⟩
  | .hbm, ⟨2, _⟩ => ⟨S1024x1028, .f32⟩
  | .hbm, ⟨3, _⟩ => ⟨S1024x1028, .f32⟩
  | .hbm, ⟨4, _⟩ => ⟨S1024x1028, .f32⟩
  | .hbm, ⟨5, _⟩ => ⟨S1024x1028, .f32⟩
  | .hbm, ⟨6, _⟩ => ⟨S1024x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | _, _ => ⟨S1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateInIdeal.lean ====
abbrev S1024x1028 : Shape := ⟨2, ![1024, 1028]⟩
abbrev S256x1028 : Shape := ⟨2, ![256, 1028]⟩

abbrev nBuf : Space → Nat
  | .hbm => 7
  | .vmem => 14
  | .smem => 0
  | _ => 0

abbrev bufTy : (tb : Table) → Fin (tcTables nBuf tb) → BufTy
  | .hbm, ⟨0, _⟩ => ⟨S1024x1028, .f32⟩
  | .hbm, ⟨1, _⟩ => ⟨S1024x1028, .f32⟩
  | .hbm, ⟨2, _⟩ => ⟨S1024x1028, .f32⟩
  | .hbm, ⟨3, _⟩ => ⟨S1024x1028, .f32⟩
  | .hbm, ⟨4, _⟩ => ⟨S1024x1028, .f32⟩
  | .hbm, ⟨5, _⟩ => ⟨S1024x1028, .f32⟩
  | .hbm, ⟨6, _⟩ => ⟨S1024x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | _, _ => ⟨S1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateInRefIdeal.lean ====
abbrev S1024x1028 : Shape := ⟨2, ![1024, 1028]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1028, .f32⟩
  | .hbm, ⟨1, _⟩ => ⟨S1024x1028, .f32⟩
  | .hbm, ⟨2, _⟩ => ⟨S1024x1028, .f32⟩
  | .hbm, ⟨3, _⟩ => ⟨S1024x1028, .f32⟩
  | .hbm, ⟨4, _⟩ => ⟨S_, .f32⟩
  | .hbm, ⟨5, _⟩ => ⟨S1024x1028, .f32⟩
  | .hbm, ⟨6, _⟩ => ⟨S1024x1028, .f32⟩
  | .hbm, ⟨7, _⟩ => ⟨S_, .f32⟩
  | .hbm, ⟨8, _⟩ => ⟨S1024x1028, .f32⟩
  | .hbm, ⟨9, _⟩ => ⟨S1024x1028, .f32⟩
  | .hbm, ⟨10, _⟩ => ⟨S1024x1028, .f32⟩
  | .hbm, ⟨11, _⟩ => ⟨S_, .f32⟩
  | .hbm, ⟨12, _⟩ => ⟨S1024x1028, .f32⟩
  | .hbm, ⟨13, _⟩ => ⟨S1024x1028, .f32⟩
  | .hbm, ⟨14, _⟩ => ⟨S1024x1028, .f32⟩
  | .hbm, ⟨15, _⟩ => ⟨S_, .f32⟩
  | .hbm, ⟨16, _⟩ => ⟨S1024x1028, .f32⟩
  | .hbm, ⟨17, _⟩ => ⟨S1024x1028, .f32⟩
  | .hbm, ⟨18, _⟩ => ⟨S1024x1028, .f32⟩
  | .hbm, ⟨19, _⟩ => ⟨S_, .f32⟩
  | .hbm, ⟨20, _⟩ => ⟨S1024x1028, .f32⟩
  | .hbm, ⟨21, _⟩ => ⟨S1024x1028, .f32⟩
  | .hbm, ⟨22, _⟩ => ⟨S_, .f32⟩
  | .hbm, ⟨23, _⟩ => ⟨S1024x1028, .f32⟩
  | .hbm, ⟨24, _⟩ => ⟨S1024x1028, .f32⟩
  | .hbm, ⟨25, _⟩ => ⟨S1024x1028, .f32⟩
  | .hbm, ⟨26, _⟩ => ⟨S_, .f32⟩
  | .hbm, ⟨27, _⟩ => ⟨S1024x1028, .f32⟩
  | .hbm, ⟨28, _⟩ => ⟨S1024x1028, .f32⟩
  | .hbm, ⟨29, _⟩ => ⟨S1024x1028, .f32⟩
  | .hbm, ⟨30, _⟩ => ⟨S_, .f32⟩
  | .hbm, ⟨31, _⟩ => ⟨S1024x1028, .f32⟩
  | .hbm, ⟨32, _⟩ => ⟨S1024x1028, .f32⟩
  | .hbm, ⟨33, _⟩ => ⟨S1024x1028, .f32⟩
  | .hbm, ⟨34, _⟩ => ⟨S_, .f32⟩
  | .hbm, ⟨35, _⟩ => ⟨S1024x1028, .f32⟩
  | .hbm, ⟨36, _⟩ => ⟨S1024x1028, .f32⟩
  | _, _ => ⟨S1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateKv.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateKvIdeal.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateKvRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateGains.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateGainsIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateGainsRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateKvGain.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateKvGainIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateKvGainRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateOutGain.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateOutGainIdeal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateOutGainRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateDecay.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateDecayIdeal.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateDecayRefIdeal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateConv.lean ====
abbrev S4x768 : Shape := ⟨2, ![4, 768]⟩

abbrev nBuf : Space → Nat
  | .hbm => 7
  | .vmem => 7
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateConvIdeal.lean ====
abbrev S4x768 : Shape := ⟨2, ![4, 768]⟩

abbrev nBuf : Space → Nat
  | .hbm => 7
  | .vmem => 7
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateConvRefIdeal.lean ====
abbrev S4x768 : Shape := ⟨2, ![4, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S_, .f32⟩
  | .hbm, ⟨5, _⟩ => ⟨S4x768, .f32⟩
  | .hbm, ⟨6, _⟩ => ⟨S4x768, .f32⟩
  | .hbm, ⟨7, _⟩ => ⟨S_, .f32⟩
  | .hbm, ⟨8, _⟩ => ⟨S4x768, .f32⟩
  | .hbm, ⟨9, _⟩ => ⟨S4x768, .f32⟩
  | .hbm, ⟨10, _⟩ => ⟨S4x768, .f32⟩
  | .hbm, ⟨11, _⟩ => ⟨S_, .f32⟩
  | .hbm, ⟨12, _⟩ => ⟨S4x768, .f32⟩
  | .hbm, ⟨13, _⟩ => ⟨S4x768, .f32⟩
  | .hbm, ⟨14, _⟩ => ⟨S4x768, .f32⟩
  | .hbm, ⟨15, _⟩ => ⟨S_, .f32⟩
  | .hbm, ⟨16, _⟩ => ⟨S4x768, .f32⟩
  | .hbm, ⟨17, _⟩ => ⟨S4x768, .f32⟩
  | .hbm, ⟨18, _⟩ => ⟨S4x768, .f32⟩
  | .hbm, ⟨19, _⟩ => ⟨S_, .f32⟩
  | .hbm, ⟨20, _⟩ => ⟨S4x768, .f32⟩
  | .hbm, ⟨21, _⟩ => ⟨S4x768, .f32⟩
  | .hbm, ⟨22, _⟩ => ⟨S_, .f32⟩
  | .hbm, ⟨23, _⟩ => ⟨S4x768, .f32⟩
  | .hbm, ⟨24, _⟩ => ⟨S4x768, .f32⟩
  | .hbm, ⟨25, _⟩ => ⟨S4x768, .f32⟩
  | .hbm, ⟨26, _⟩ => ⟨S_, .f32⟩
  | .hbm, ⟨27, _⟩ => ⟨S4x768, .f32⟩
  | .hbm, ⟨28, _⟩ => ⟨S4x768, .f32⟩
  | .hbm, ⟨29, _⟩ => ⟨S4x768, .f32⟩
  | .hbm, ⟨30, _⟩ => ⟨S_, .f32⟩
  | .hbm, ⟨31, _⟩ => ⟨S4x768, .f32⟩
  | .hbm, ⟨32, _⟩ => ⟨S4x768, .f32⟩
  | .hbm, ⟨33, _⟩ => ⟨S4x768, .f32⟩
  | .hbm, ⟨34, _⟩ => ⟨S_, .f32⟩
  | .hbm, ⟨35, _⟩ => ⟨S4x768, .f32⟩
  | .hbm, ⟨36, _⟩ => ⟨S4x768, .f32⟩
  | _, _ => ⟨S4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== DownDw.lean ====
abbrev S8192x4096 : Shape := ⟨2, ![8192, 4096]⟩
abbrev S8192x1024 : Shape := ⟨2, ![8192, 1024]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S8192x4096 : Shape := ⟨2, ![8192, 4096]⟩
abbrev S8192x1024 : Shape := ⟨2, ![8192, 1024]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x4096 : Shape := ⟨2, ![8192, 4096]⟩
abbrev S8192x1024 : Shape := ⟨2, ![8192, 1024]⟩
abbrev S4096x8192 : Shape := ⟨2, ![4096, 8192]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x8192, .bf16⟩
  | .hbm, ⟨3, _⟩ => ⟨S4096x8192, .f32⟩
  | .hbm, ⟨4, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDw.lean ====
abbrev S8192x1024 : Shape := ⟨2, ![8192, 1024]⟩
abbrev S8192x4096 : Shape := ⟨2, ![8192, 4096]⟩
abbrev S1024x4096 : Shape := ⟨2, ![1024, 4096]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S8192x1024 : Shape := ⟨2, ![8192, 1024]⟩
abbrev S8192x4096 : Shape := ⟨2, ![8192, 4096]⟩
abbrev S1024x4096 : Shape := ⟨2, ![1024, 4096]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x4096 : Shape := ⟨2, ![8192, 4096]⟩
abbrev S1024x8192 : Shape := ⟨2, ![1024, 8192]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x8192, .bf16⟩
  | .hbm, ⟨3, _⟩ => ⟨S1024x8192, .f32⟩
  | .hbm, ⟨4, _⟩ => ⟨S8192x4096, .f32⟩
  | .hbm, ⟨5, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InDw.lean ====
abbrev S8192x1024 : Shape := ⟨2, ![8192, 1024]⟩
abbrev S8192x4096 : Shape := ⟨2, ![8192, 4096]⟩
abbrev S1024x4096 : Shape := ⟨2, ![1024, 4096]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .f32⟩
  | .hbm, ⟨2, _⟩ => ⟨S1024x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwIdeal.lean ====
abbrev S8192x1024 : Shape := ⟨2, ![8192, 1024]⟩
abbrev S8192x4096 : Shape := ⟨2, ![8192, 4096]⟩
abbrev S1024x4096 : Shape := ⟨2, ![1024, 4096]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .f32⟩
  | .hbm, ⟨2, _⟩ => ⟨S1024x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x1024 : Shape := ⟨2, ![8192, 1024]⟩
abbrev S8192x4096 : Shape := ⟨2, ![8192, 4096]⟩
abbrev S1024x8192 : Shape := ⟨2, ![1024, 8192]⟩
abbrev S1024x4096 : Shape := ⟨2, ![1024, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .f32⟩
  | .hbm, ⟨2, _⟩ => ⟨S1024x8192, .bf16⟩
  | .hbm, ⟨3, _⟩ => ⟨S1024x8192, .f32⟩
  | .hbm, ⟨4, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateDw.lean ====
abbrev S8192x1024 : Shape := ⟨2, ![8192, 1024]⟩
abbrev S8192x128 : Shape := ⟨2, ![8192, 128]⟩
abbrev S1024x128 : Shape := ⟨2, ![1024, 128]⟩
abbrev S512x1024 : Shape := ⟨2, ![512, 1024]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S1024x128, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateDwIdeal.lean ====
abbrev S8192x1024 : Shape := ⟨2, ![8192, 1024]⟩
abbrev S8192x128 : Shape := ⟨2, ![8192, 128]⟩
abbrev S1024x128 : Shape := ⟨2, ![1024, 128]⟩
abbrev S512x1024 : Shape := ⟨2, ![512, 1024]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S1024x128, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateDwRefIdeal.lean ====
abbrev S8192x1024 : Shape := ⟨2, ![8192, 1024]⟩
abbrev S8192x128 : Shape := ⟨2, ![8192, 128]⟩
abbrev S1024x8192 : Shape := ⟨2, ![1024, 8192]⟩
abbrev S1024x128 : Shape := ⟨2, ![1024, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S1024x8192, .bf16⟩
  | .hbm, ⟨3, _⟩ => ⟨S1024x8192, .f32⟩
  | .hbm, ⟨4, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x8192, .bf16⟩
  | .hbm, ⟨3, _⟩ => ⟨S1024x8192, .f32⟩
  | .hbm, ⟨4, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SbOutDw.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SbOutDwIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SbOutDwRefIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KvDw.lean ====
abbrev S8192x1024 : Shape := ⟨2, ![8192, 1024]⟩
abbrev S8192x2048 : Shape := ⟨2, ![8192, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwIdeal.lean ====
abbrev S8192x1024 : Shape := ⟨2, ![8192, 1024]⟩
abbrev S8192x2048 : Shape := ⟨2, ![8192, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwRefIdeal.lean ====
abbrev S8192x1024 : Shape := ⟨2, ![8192, 1024]⟩
abbrev S8192x2048 : Shape := ⟨2, ![8192, 2048]⟩
abbrev S1024x8192 : Shape := ⟨2, ![1024, 8192]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S1024x8192, .bf16⟩
  | .hbm, ⟨3, _⟩ => ⟨S1024x8192, .f32⟩
  | .hbm, ⟨4, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDx.lean ====
abbrev S8192x1024 : Shape := ⟨2, ![8192, 1024]⟩
abbrev S4096x1024 : Shape := ⟨2, ![4096, 1024]⟩
abbrev S8192x4096 : Shape := ⟨2, ![8192, 4096]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxIdeal.lean ====
abbrev S8192x1024 : Shape := ⟨2, ![8192, 1024]⟩
abbrev S4096x1024 : Shape := ⟨2, ![4096, 1024]⟩
abbrev S8192x4096 : Shape := ⟨2, ![8192, 4096]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x1024 : Shape := ⟨2, ![8192, 1024]⟩
abbrev S4096x1024 : Shape := ⟨2, ![4096, 1024]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S1024x4096, .bf16⟩
  | .hbm, ⟨3, _⟩ => ⟨S1024x4096, .f32⟩
  | .hbm, ⟨4, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDx.lean ====
abbrev S8192x4096 : Shape := ⟨2, ![8192, 4096]⟩
abbrev S1024x4096 : Shape := ⟨2, ![1024, 4096]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxIdeal.lean ====
abbrev S8192x4096 : Shape := ⟨2, ![8192, 4096]⟩
abbrev S1024x4096 : Shape := ⟨2, ![1024, 4096]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S8192x4096 : Shape := ⟨2, ![8192, 4096]⟩
abbrev S1024x4096 : Shape := ⟨2, ![1024, 4096]⟩
abbrev S4096x1024 : Shape := ⟨2, ![4096, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x4096, .f32⟩
  | .hbm, ⟨3, _⟩ => ⟨S4096x1024, .bf16⟩
  | .hbm, ⟨4, _⟩ => ⟨S4096x1024, .f32⟩
  | .hbm, ⟨5, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Down.lean ====
abbrev S8192x4096 : Shape := ⟨2, ![8192, 4096]⟩
abbrev S4096x1024 : Shape := ⟨2, ![4096, 1024]⟩
abbrev S8192x1024 : Shape := ⟨2, ![8192, 1024]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S8192x4096 : Shape := ⟨2, ![8192, 4096]⟩
abbrev S4096x1024 : Shape := ⟨2, ![4096, 1024]⟩
abbrev S8192x1024 : Shape := ⟨2, ![8192, 1024]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Relu.lean ====
abbrev S8192x4096 : Shape := ⟨2, ![8192, 4096]⟩
abbrev S256x4096 : Shape := ⟨2, ![256, 4096]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReluRefIdeal.lean ====
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ReluBack.lean ====
abbrev S8192x4096 : Shape := ⟨2, ![8192, 4096]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReluBackRefIdeal.lean ====
abbrev S8192x4096 : Shape := ⟨2, ![8192, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .i1⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== GradX.lean ====
abbrev S8192x1024 : Shape := ⟨2, ![8192, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradXIdeal.lean ====
abbrev S8192x1024 : Shape := ⟨2, ![8192, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradXRefIdeal.lean ====
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8x128, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S8x128, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossIdeal.lean ====
abbrev S8192x1024 : Shape := ⟨2, ![8192, 1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8x128, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S8x128, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== NormIn.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInIdeal.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormInBack.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormInBackRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== ResNormBack.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ResNormBackRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== ResNorm.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResNormIdeal.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResNormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== ResNorms.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResNormsIdeal.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResNormsRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== ResNormsBack.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ResNormsBackRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 138
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S8192x1024, .f32⟩
  | 6 => ⟨S8192x1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S1024, .f32⟩
  | 69 => ⟨S1x1024, .f32⟩
  | 70 => ⟨S8192x1024, .f32⟩
  | 71 => ⟨S8192x1024, .f32⟩
  | 72 => ⟨S8192x1024, .f32⟩
  | 73 => ⟨S_, .f32⟩
  | 74 => ⟨S8192, .f32⟩
  | 75 => ⟨S8192x1, .f32⟩
  | 76 => ⟨S8192x1024, .f32⟩
  | 77 => ⟨S8192x1024, .f32⟩
  | 78 => ⟨S8192x1024, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S_, .f32⟩
  | 92 => ⟨S1024, .f32⟩
  | 93 => ⟨S1x1024, .f32⟩
  | 94 => ⟨S8192x1024, .f32⟩
  | 95 => ⟨S8192x1024, .f32⟩
  | 96 => ⟨S8192x1024, .f32⟩
  | 97 => ⟨S_, .f32⟩
  | 98 => ⟨S8192, .f32⟩
  | 99 => ⟨S8192x1, .f32⟩
  | 100 => ⟨S8192x1024, .f32⟩
  | 101 => ⟨S8192x1024, .f32⟩
  | 102 => ⟨S8192x1024, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S8192x1024, .f32⟩
  | 120 => ⟨S8192x1024, .f32⟩
  | 121 => ⟨S8192x1024, .f32⟩
  | 122 => ⟨S_, .f32⟩
  | 123 => ⟨S8192, .f32⟩
  | 124 => ⟨S8192x1, .f32⟩
  | 125 => ⟨S8192x1024, .f32⟩
  | 126 => ⟨S8192x1024, .f32⟩
  | 127 => ⟨S8192x1, .f32⟩
  | _ => ⟨S8192x1024, .f32⟩

abbrev hbmTy0_1 (i : Nat) : BufTy := match i % 128 with
  | 0 => ⟨S_, .f32⟩
  | 1 => ⟨S8192x1, .f32⟩
  | 2 => ⟨S8192x1, .f32⟩
  | 3 => ⟨S_, .f32⟩
  | 4 => ⟨S8192, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_cst_18 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_19 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_20 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_21 : Ref sig .tc := ⟨.hbm, 128, rfl⟩
abbrev main_v98 : Ref sig .tc := ⟨.hbm, 129, rfl⟩
abbrev main_v99 : Ref sig .tc := ⟨.hbm, 130, rfl⟩
abbrev main_cst_22 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩

abbrev nD : Nat := 1
abbrev τ : Topo := Topo.v7x

variable {F : FTy → Type} [FloatOps F]
-- ==== Gate.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateIdeal.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SbOut.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbOutIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbOutRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Query.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kv.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvIdeal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .hbm, ⟨3, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .bf16⟩
  | .hbm, ⟨3, _⟩ => ⟨S1024x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvDx.lean ====
abbrev S8192x2048 : Shape := ⟨2, ![8192, 2048]⟩
abbrev S1024x2048 : Shape := ⟨2, ![1024, 2048]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1024x2048, .bf16⟩
  | .hbm, ⟨2, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDxIdeal.lean ====
abbrev S8192x2048 : Shape := ⟨2, ![8192, 2048]⟩
abbrev S1024x2048 : Shape := ⟨2, ![1024, 2048]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1024x2048, .bf16⟩
  | .hbm, ⟨2, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDxRefIdeal.lean ====
abbrev S8192x2048 : Shape := ⟨2, ![8192, 2048]⟩
abbrev S1024x2048 : Shape := ⟨2, ![1024, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .bf16⟩
  | .hbm, ⟨2, _⟩ => ⟨S2048x1024, .bf16⟩
  | .hbm, ⟨3, _⟩ => ⟨S2048x1024, .f32⟩
  | .hbm, ⟨4, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InDx.lean ====
abbrev S8192x4096 : Shape := ⟨2, ![8192, 4096]⟩
abbrev S1024x4096 : Shape := ⟨2, ![1024, 4096]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1024x4096, .bf16⟩
  | .hbm, ⟨2, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxIdeal.lean ====
abbrev S8192x4096 : Shape := ⟨2, ![8192, 4096]⟩
abbrev S1024x4096 : Shape := ⟨2, ![1024, 4096]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1024x4096, .bf16⟩
  | .hbm, ⟨2, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S8192x4096 : Shape := ⟨2, ![8192, 4096]⟩
abbrev S1024x4096 : Shape := ⟨2, ![1024, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .bf16⟩
  | .hbm, ⟨2, _⟩ => ⟨S4096x1024, .bf16⟩
  | .hbm, ⟨3, _⟩ => ⟨S4096x1024, .f32⟩
  | .hbm, ⟨4, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateDx.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S1024x128, .bf16⟩
  | .hbm, ⟨2, _⟩ => ⟨S8192x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxIdeal.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S1024x128, .bf16⟩
  | .hbm, ⟨2, _⟩ => ⟨S8192x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxRefIdeal.lean ====
abbrev S8192x128 : Shape := ⟨2, ![8192, 128]⟩
abbrev S1024x128 : Shape := ⟨2, ![1024, 128]⟩
abbrev S128x1024 : Shape := ⟨2, ![128, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1024x128, .bf16⟩
  | .hbm, ⟨2, _⟩ => ⟨S128x1024, .bf16⟩
  | .hbm, ⟨3, _⟩ => ⟨S128x1024, .f32⟩
  | .hbm, ⟨4, _⟩ => ⟨S8192x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PostQ.lean ====
abbrev S8192x3072 : Shape := ⟨2, ![8192, 3072]⟩
abbrev S8192x1024 : Shape := ⟨2, ![8192, 1024]⟩
abbrev S256x1024 : Shape := ⟨2, ![256, 1024]⟩
abbrev S1024x128 : Shape := ⟨2, ![1024, 128]⟩
abbrev S128x1024 : Shape := ⟨2, ![128, 1024]⟩
abbrev S256x128 : Shape := ⟨2, ![256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PostQIdeal.lean ====
abbrev S8192x3072 : Shape := ⟨2, ![8192, 3072]⟩
abbrev S8192x1024 : Shape := ⟨2, ![8192, 1024]⟩
abbrev S256x1024 : Shape := ⟨2, ![256, 1024]⟩
abbrev S1024x128 : Shape := ⟨2, ![1024, 128]⟩
abbrev S128x1024 : Shape := ⟨2, ![128, 1024]⟩
abbrev S256x128 : Shape := ⟨2, ![256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PostQRefIdeal.lean ====
abbrev S8192x3072 : Shape := ⟨2, ![8192, 3072]⟩
abbrev S_ : Shape := ⟨0, ![]⟩
abbrev S8192x1024 : Shape := ⟨2, ![8192, 1024]⟩
abbrev S8192x8x128 : Shape := ⟨3, ![8192, 8, 128]⟩
abbrev S8192x8 : Shape := ⟨2, ![8192, 8]⟩
abbrev S8192x8x1 : Shape := ⟨3, ![8192, 8, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S_, .f32⟩
  | .hbm, ⟨4, _⟩ => ⟨S8192x3072, .f32⟩
  | .hbm, ⟨5, _⟩ => ⟨S8192x3072, .f32⟩
  | .hbm, ⟨6, _⟩ => ⟨S_, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x8x128, .f32⟩
  | .hbm, ⟨14, _⟩ => ⟨S8192x8x128, .f32⟩
  | .hbm, ⟨15, _⟩ => ⟨S_, .f32⟩
  | .hbm, ⟨16, _⟩ => ⟨S8192x8, .f32⟩
  | .hbm, ⟨17, _⟩ => ⟨S8192x8x1, .f32⟩
  | .hbm, ⟨18, _⟩ => ⟨S_, .f32⟩
  | .hbm, ⟨19, _⟩ => ⟨S8192x8x1, .f32⟩
  | .hbm, ⟨20, _⟩ => ⟨S8192x8x1, .f32⟩
  | .hbm, ⟨21, _⟩ => ⟨S8192x8x1, .f32⟩
  | .hbm, ⟨22, _⟩ => ⟨S8192x8x128, .f32⟩
  | .hbm, ⟨23, _⟩ => ⟨S8192x8x128, .f32⟩
  | .hbm, ⟨24, _⟩ => ⟨S_, .f32⟩
  | .hbm, ⟨25, _⟩ => ⟨S8192x8x128, .f32⟩
  | .hbm, ⟨26, _⟩ => ⟨S8192x8x128, .f32⟩
  | .hbm, ⟨27, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== PostK.lean ====
abbrev S8192x3072 : Shape := ⟨2, ![8192, 3072]⟩
abbrev S8192x1024 : Shape := ⟨2, ![8192, 1024]⟩
abbrev S256x1024 : Shape := ⟨2, ![256, 1024]⟩
abbrev S1024x128 : Shape := ⟨2, ![1024, 128]⟩
abbrev S128x1024 : Shape := ⟨2, ![128, 1024]⟩
abbrev S256x128 : Shape := ⟨2, ![256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PostKIdeal.lean ====
abbrev S8192x3072 : Shape := ⟨2, ![8192, 3072]⟩
abbrev S8192x1024 : Shape := ⟨2, ![8192, 1024]⟩
abbrev S256x1024 : Shape := ⟨2, ![256, 1024]⟩
abbrev S1024x128 : Shape := ⟨2, ![1024, 128]⟩
abbrev S128x1024 : Shape := ⟨2, ![128, 1024]⟩
abbrev S256x128 : Shape := ⟨2, ![256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PostKRefIdeal.lean ====
abbrev S8192x3072 : Shape := ⟨2, ![8192, 3072]⟩
abbrev S_ : Shape := ⟨0, ![]⟩
abbrev S8192x1024 : Shape := ⟨2, ![8192, 1024]⟩
abbrev S8192x8x128 : Shape := ⟨3, ![8192, 8, 128]⟩
abbrev S8192x8 : Shape := ⟨2, ![8192, 8]⟩
abbrev S8192x8x1 : Shape := ⟨3, ![8192, 8, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S_, .f32⟩
  | .hbm, ⟨4, _⟩ => ⟨S8192x3072, .f32⟩
  | .hbm, ⟨5, _⟩ => ⟨S8192x3072, .f32⟩
  | .hbm, ⟨6, _⟩ => ⟨S_, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x8x128, .f32⟩
  | .hbm, ⟨14, _⟩ => ⟨S8192x8x128, .f32⟩
  | .hbm, ⟨15, _⟩ => ⟨S_, .f32⟩
  | .hbm, ⟨16, _⟩ => ⟨S8192x8, .f32⟩
  | .hbm, ⟨17, _⟩ => ⟨S8192x8x1, .f32⟩
  | .hbm, ⟨18, _⟩ => ⟨S_, .f32⟩
  | .hbm, ⟨19, _⟩ => ⟨S8192x8x1, .f32⟩
  | .hbm, ⟨20, _⟩ => ⟨S8192x8x1, .f32⟩
  | .hbm, ⟨21, _⟩ => ⟨S8192x8x1, .f32⟩
  | .hbm, ⟨22, _⟩ => ⟨S8192x8x128, .f32⟩
  | .hbm, ⟨23, _⟩ => ⟨S8192x8x128, .f32⟩
  | .hbm, ⟨24, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== PostV.lean ====
abbrev S8192x3072 : Shape := ⟨2, ![8192, 3072]⟩
abbrev S8192x1024 : Shape := ⟨2, ![8192, 1024]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PostVIdeal.lean ====
abbrev S8192x3072 : Shape := ⟨2, ![8192, 3072]⟩
abbrev S8192x1024 : Shape := ⟨2, ![8192, 1024]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PostVRefIdeal.lean ====
abbrev S8192x3072 : Shape := ⟨2, ![8192, 3072]⟩
abbrev S_ : Shape := ⟨0, ![]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S_, .f32⟩
  | .hbm, ⟨4, _⟩ => ⟨S8192x3072, .f32⟩
  | .hbm, ⟨5, _⟩ => ⟨S8192x3072, .f32⟩
  | .hbm, ⟨6, _⟩ => ⟨S_, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]
-- ==== Gates.lean ====
abbrev S8192x128 : Shape := ⟨2, ![8192, 128]⟩
abbrev S1x128 : Shape := ⟨2, ![1, 128]⟩
abbrev S8192x1024 : Shape := ⟨2, ![8192, 1024]⟩
abbrev S256x128 : Shape := ⟨2, ![256, 128]⟩
abbrev S256x1024 : Shape := ⟨2, ![256, 1024]⟩
abbrev S128x1024 : Shape := ⟨2, ![128, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S1x128, .f32⟩
  | .hbm, ⟨3, _⟩ => ⟨S8192x1024, .f32⟩
  | .hbm, ⟨4, _⟩ => ⟨S8192x1024, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S1x128, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesIdeal.lean ====
abbrev S8192x128 : Shape := ⟨2, ![8192, 128]⟩
abbrev S1x128 : Shape := ⟨2, ![1, 128]⟩
abbrev S8192x1024 : Shape := ⟨2, ![8192, 1024]⟩
abbrev S256x128 : Shape := ⟨2, ![256, 128]⟩
abbrev S256x1024 : Shape := ⟨2, ![256, 1024]⟩
abbrev S128x1024 : Shape := ⟨2, ![128, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S1x128, .f32⟩
  | .hbm, ⟨3, _⟩ => ⟨S8192x1024, .f32⟩
  | .hbm, ⟨4, _⟩ => ⟨S8192x1024, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S1x128, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesRefIdeal.lean ====
abbrev S8192x128 : Shape := ⟨2, ![8192, 128]⟩
abbrev S1x128 : Shape := ⟨2, ![1, 128]⟩
abbrev S8192x8 : Shape := ⟨2, ![8192, 8]⟩
abbrev S_ : Shape := ⟨0, ![]⟩
abbrev S1x8 : Shape := ⟨2, ![1, 8]⟩
abbrev S8192x8x1 : Shape := ⟨3, ![8192, 8, 1]⟩
abbrev S8192x8x128 : Shape := ⟨3, ![8192, 8, 128]⟩
abbrev S8192x1024 : Shape := ⟨2, ![8192, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S1x128, .f32⟩
  | .hbm, ⟨3, _⟩ => ⟨S8192x8, .f32⟩
  | .hbm, ⟨4, _⟩ => ⟨S8192x8, .f32⟩
  | .hbm, ⟨5, _⟩ => ⟨S8192x8, .f32⟩
  | .hbm, ⟨6, _⟩ => ⟨S_, .f32⟩
  | .hbm, ⟨7, _⟩ => ⟨S8192x8, .f32⟩
  | .hbm, ⟨8, _⟩ => ⟨S8192x8, .f32⟩
  | .hbm, ⟨9, _⟩ => ⟨S_, .f32⟩
  | .hbm, ⟨10, _⟩ => ⟨S8192x8, .f32⟩
  | .hbm, ⟨11, _⟩ => ⟨S8192x8, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S8192x8, .f32⟩
  | .hbm, ⟨16, _⟩ => ⟨S1x8, .f32⟩
  | .hbm, ⟨17, _⟩ => ⟨S8192x8, .f32⟩
  | .hbm, ⟨18, _⟩ => ⟨S8192x8, .f32⟩
  | .hbm, ⟨19, _⟩ => ⟨S_, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .i1⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S8192x8, .f32⟩
  | .hbm, ⟨32, _⟩ => ⟨S8192x8, .f32⟩
  | .hbm, ⟨33, _⟩ => ⟨S8192x8, .f32⟩
  | .hbm, ⟨34, _⟩ => ⟨S8192x8, .f32⟩
  | .hbm, ⟨35, _⟩ => ⟨S8192x8x1, .f32⟩
  | .hbm, ⟨36, _⟩ => ⟨S8192x8x128, .f32⟩
  | .hbm, ⟨37, _⟩ => ⟨S8192x1024, .f32⟩
  | .hbm, ⟨38, _⟩ => ⟨S8192x8x1, .f32⟩
  | .hbm, ⟨39, _⟩ => ⟨S8192x8x128, .f32⟩
  | .hbm, ⟨40, _⟩ => ⟨S8192x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== OutNorm.lean ====
abbrev S8192x1024 : Shape := ⟨2, ![8192, 1024]⟩
abbrev S8192x4096 : Shape := ⟨2, ![8192, 4096]⟩
abbrev S1x1024 : Shape := ⟨2, ![1, 1024]⟩
abbrev S256x1024 : Shape := ⟨2, ![256, 1024]⟩
abbrev S1024x128 : Shape := ⟨2, ![1024, 128]⟩
abbrev S128x1024 : Shape := ⟨2, ![128, 1024]⟩
abbrev S256x128 : Shape := ⟨2, ![256, 128]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1x1024, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutNormIdeal.lean ====
abbrev S8192x1024 : Shape := ⟨2, ![8192, 1024]⟩
abbrev S8192x4096 : Shape := ⟨2, ![8192, 4096]⟩
abbrev S1x1024 : Shape := ⟨2, ![1, 1024]⟩
abbrev S256x1024 : Shape := ⟨2, ![256, 1024]⟩
abbrev S1024x128 : Shape := ⟨2, ![1024, 128]⟩
abbrev S128x1024 : Shape := ⟨2, ![128, 1024]⟩
abbrev S256x128 : Shape := ⟨2, ![256, 128]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1x1024, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutNormRefIdeal.lean ====
abbrev S8192x1024 : Shape := ⟨2, ![8192, 1024]⟩
abbrev S8192x4096 : Shape := ⟨2, ![8192, 4096]⟩
abbrev S1x1024 : Shape := ⟨2, ![1, 1024]⟩
abbrev S8192x8x128 : Shape := ⟨3, ![8192, 8, 128]⟩
abbrev S8x128 : Shape := ⟨2, ![8, 128]⟩
abbrev S_ : Shape := ⟨0, ![]⟩
abbrev S8192x8 : Shape := ⟨2, ![8192, 8]⟩
abbrev S8192x8x1 : Shape := ⟨3, ![8192, 8, 1]⟩
abbrev S1x8x128 : Shape := ⟨3, ![1, 8, 128]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1x1024, .f32⟩
  | .hbm, ⟨3, _⟩ => ⟨S8192x8x128, .f32⟩
  | .hbm, ⟨4, _⟩ => ⟨S8x128, .f32⟩
  | .hbm, ⟨5, _⟩ => ⟨S8192x8x128, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x128, .f32⟩
  | .hbm, ⟨17, _⟩ => ⟨S8192x8x128, .f32⟩
  | .hbm, ⟨18, _⟩ => ⟨S1x8x128, .f32⟩
  | .hbm, ⟨19, _⟩ => ⟨S8192x8x128, .f32⟩
  | .hbm, ⟨20, _⟩ => ⟨S8192x8x128, .f32⟩
  | .hbm, ⟨21, _⟩ => ⟨S8192x1024, .f32⟩
  | .hbm, ⟨22, _⟩ => ⟨S8192x8x128, .f32⟩
  | .hbm, ⟨23, _⟩ => ⟨S8192x8x128, .f32⟩
  | .hbm, ⟨24, _⟩ => ⟨S8192x8x128, .f32⟩
  | .hbm, ⟨25, _⟩ => ⟨S_, .f32⟩
  | .hbm, ⟨26, _⟩ => ⟨S8192x8x128, .f32⟩
  | .hbm, ⟨27, _⟩ => ⟨S8192x8x128, .f32⟩
  | .hbm, ⟨28, _⟩ => ⟨S_, .f32⟩
  | .hbm, ⟨29, _⟩ => ⟨S8192x8x128, .f32⟩
  | .hbm, ⟨30, _⟩ => ⟨S8192x8x128, .f32⟩
  | .hbm, ⟨31, _⟩ => ⟨S8192x8x128, .f32⟩
  | .hbm, ⟨32, _⟩ => ⟨S8192x8x128, .f32⟩
  | .hbm, ⟨33, _⟩ => ⟨S8192x1024, .f32⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Conv.lean ====
abbrev S8192x4096 : Shape := ⟨2, ![8192, 4096]⟩
abbrev S4x3072 : Shape := ⟨2, ![4, 3072]⟩
abbrev S8192x3072 : Shape := ⟨2, ![8192, 3072]⟩
abbrev S256x3072 : Shape := ⟨2, ![256, 3072]⟩
abbrev S8x3072 : Shape := ⟨2, ![8, 3072]⟩
abbrev S264x3072 : Shape := ⟨2, ![264, 3072]⟩
abbrev S1x3072 : Shape := ⟨2, ![1, 3072]⟩

abbrev nBuf : Space → Nat
  | .hbm => 3
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4x3072, .f32⟩
  | .hbm, ⟨2, _⟩ => ⟨S8192x3072, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S4x3072, .f32⟩
  | .local _ .vmem, ⟨5, _⟩ => ⟨S256x3072, .f32⟩
  | .local _ .vmem, ⟨6, _⟩ => ⟨S256x3072, .f32⟩
  | .local _ .vmem, ⟨7, _⟩ => ⟨S264x3072, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvRefIdeal.lean ====
abbrev S8192x4096 : Shape := ⟨2, ![8192, 4096]⟩
abbrev S4x3072 : Shape := ⟨2, ![4, 3072]⟩
abbrev S8192x3072 : Shape := ⟨2, ![8192, 3072]⟩
abbrev S_ : Shape := ⟨0, ![]⟩
abbrev S8195x3072 : Shape := ⟨2, ![8195, 3072]⟩
abbrev S1x3072 : Shape := ⟨2, ![1, 3072]⟩
abbrev S3072 : Shape := ⟨1, ![3072]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x3072, .f32⟩
  | .hbm, ⟨2, _⟩ => ⟨S8192x3072, .f32⟩
  | .hbm, ⟨3, _⟩ => ⟨S_, .i32⟩
  | .hbm, ⟨4, _⟩ => ⟨S_, .f32⟩
  | .hbm, ⟨5, _⟩ => ⟨S8195x3072, .f32⟩
  | .hbm, ⟨6, _⟩ => ⟨S8192x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S1x3072, .f32⟩
  | .hbm, ⟨31, _⟩ => ⟨S3072, .f32⟩
  | .hbm, ⟨32, _⟩ => ⟨S1x3072, .f32⟩
  | .hbm, ⟨33, _⟩ => ⟨S8192x3072, .f32⟩
  | .hbm, ⟨34, _⟩ => ⟨S8192x3072, .f32⟩
  | .hbm, ⟨35, _⟩ => ⟨S8192x3072, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== PostVBack.lean ====
abbrev S8192x3072 : Shape := ⟨2, ![8192, 3072]⟩
abbrev S8192x1024 : Shape := ⟨2, ![8192, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PostVBackRefIdeal.lean ====
abbrev S8192x3072 : Shape := ⟨2, ![8192, 3072]⟩
abbrev S8192x1024 : Shape := ⟨2, ![8192, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v1_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v1_1 : Ref sig .tc := ⟨.hbm, 14, rfl⟩
abbrev main_v1_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v2 : Ref sig .tc := ⟨.hbm, 19, rfl⟩

abbrev nD : Nat := 1
abbrev τ : Topo := Topo.v7x

variable {F : FTy → Type} [FloatOps F]
-- ==== ConvBack.lean ====
abbrev S8192x3072 : Shape := ⟨2, ![8192, 3072]⟩
abbrev S8192x4096 : Shape := ⟨2, ![8192, 4096]⟩
abbrev S4x3072 : Shape := ⟨2, ![4, 3072]⟩
abbrev S8x3072 : Shape := ⟨2, ![8, 3072]⟩
abbrev S256x3072 : Shape := ⟨2, ![256, 3072]⟩
abbrev S264x3072 : Shape := ⟨2, ![264, 3072]⟩
abbrev S1x3072 : Shape := ⟨2, ![1, 3072]⟩
abbrev S3072 : Shape := ⟨1, ![3072]⟩

abbrev nBuf : Space → Nat
  | .hbm => 5
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S8192x4096, .f32⟩
  | .hbm, ⟨2, _⟩ => ⟨S4x3072, .f32⟩
  | .hbm, ⟨3, _⟩ => ⟨S8192x3072, .f32⟩
  | .hbm, ⟨4, _⟩ => ⟨S8x3072, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S256x3072, .f32⟩
  | .local _ .vmem, ⟨5, _⟩ => ⟨S256x3072, .f32⟩
  | .local _ .vmem, ⟨6, _⟩ => ⟨S8x3072, .f32⟩
  | .local _ .vmem, ⟨7, _⟩ => ⟨S8x3072, .f32⟩
  | .local _ .vmem, ⟨8, _⟩ => ⟨S4x3072, .f32⟩
  | .local _ .vmem, ⟨9, _⟩ => ⟨S256x3072, .f32⟩
  | .local _ .vmem, ⟨10, _⟩ => ⟨S256x3072, .f32⟩
  | .local _ .vmem, ⟨11, _⟩ => ⟨S8x3072, .f32⟩
  | .local _ .vmem, ⟨12, _⟩ => ⟨S264x3072, .f32⟩
  | .local _ .vmem, ⟨13, _⟩ => ⟨S264x3072, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvBackRefIdeal.lean ====
abbrev S8192x3072 : Shape := ⟨2, ![8192, 3072]⟩
abbrev S8192x4096 : Shape := ⟨2, ![8192, 4096]⟩
abbrev S4x3072 : Shape := ⟨2, ![4, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩
abbrev S8x3072 : Shape := ⟨2, ![8, 3072]⟩

abbrev nBuf : Space → Nat
  | .hbm => 104
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x4096, .f32⟩
  | .hbm, ⟨2, _⟩ => ⟨S4x3072, .f32⟩
  | .hbm, ⟨3, _⟩ => ⟨S8192x3072, .f32⟩
  | .hbm, ⟨4, _⟩ => ⟨S_, .f32⟩
  | .hbm, ⟨5, _⟩ => ⟨S3x3072, .f32⟩
  | .hbm, ⟨6, _⟩ => ⟨S8195x3072, .f32⟩
  | .hbm, ⟨7, _⟩ => ⟨S_, .f32⟩
  | .hbm, ⟨8, _⟩ => ⟨S3x3072, .f32⟩
  | .hbm, ⟨9, _⟩ => ⟨S8192x3072, .f32⟩
  | .hbm, ⟨10, _⟩ => ⟨S1x3072, .f32⟩
  | .hbm, ⟨11, _⟩ => ⟨S3072, .f32⟩
  | .hbm, ⟨12, _⟩ => ⟨S1x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S1x3072, .f32⟩
  | .hbm, ⟨20, _⟩ => ⟨S3072, .f32⟩
  | .hbm, ⟨21, _⟩ => ⟨S1x3072, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S1x3072, .f32⟩
  | .hbm, ⟨27, _⟩ => ⟨S3072, .f32⟩
  | .hbm, ⟨28, _⟩ => ⟨S1x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S1x3072, .f32⟩
  | .hbm, ⟨34, _⟩ => ⟨S3072, .f32⟩
  | .hbm, ⟨35, _⟩ => ⟨S1x3072, .f32⟩
  | .hbm, ⟨36, _⟩ => ⟨S8192x3072, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S_, .f32⟩
  | .hbm, ⟨43, _⟩ => ⟨S3072, .f32⟩
  | .hbm, ⟨44, _⟩ => ⟨S1x3072, .f32⟩
  | .hbm, ⟨45, _⟩ => ⟨S8192x3072, .f32⟩
  | .hbm, ⟨46, _⟩ => ⟨S8192x3072, .f32⟩
  | .hbm, ⟨47, _⟩ => ⟨S_, .f32⟩
  | .hbm, ⟨48, _⟩ => ⟨S3072, .f32⟩
  | .hbm, ⟨49, _⟩ => ⟨S1x3072, .f32⟩
  | .hbm, ⟨50, _⟩ => ⟨S_, .f32⟩
  | .hbm, ⟨51, _⟩ => ⟨S4x3072, .f32⟩
  | .hbm, ⟨52, _⟩ => ⟨S_, .f32⟩
  | .hbm, ⟨53, _⟩ => ⟨S8195x3072, .f32⟩
  | .hbm, ⟨54, _⟩ => ⟨S8192x3072, .f32⟩
  | .hbm, ⟨55, _⟩ => ⟨S_, .f32⟩
  | .hbm, ⟨56, _⟩ => ⟨S3072, .f32⟩
  | .hbm, ⟨57, _⟩ => ⟨S1x3072, .f32⟩
  | .hbm, ⟨58, _⟩ => ⟨S8192x3072, .f32⟩
  | .hbm, ⟨59, _⟩ => ⟨S8192x3072, .f32⟩
  | .hbm, ⟨60, _⟩ => ⟨S_, .f32⟩
  | .hbm, ⟨61, _⟩ => ⟨S3072, .f32⟩
  | .hbm, ⟨62, _⟩ => ⟨S1x3072, .f32⟩
  | .hbm, ⟨63, _⟩ => ⟨S_, .f32⟩
  | .hbm, ⟨64, _⟩ => ⟨S4x3072, .f32⟩
  | .hbm, ⟨65, _⟩ => ⟨S4x3072, .f32⟩
  | .hbm, ⟨66, _⟩ => ⟨S_, .f32⟩
  | .hbm, ⟨67, _⟩ => ⟨S8195x3072, .f32⟩
  | .hbm, ⟨68, _⟩ => ⟨S8195x3072, .f32⟩
  | .hbm, ⟨69, _⟩ => ⟨S8192x3072, .f32⟩
  | .hbm, ⟨70, _⟩ => ⟨S_, .f32⟩
  | .hbm, ⟨71, _⟩ => ⟨S3072, .f32⟩
  | .hbm, ⟨72, _⟩ => ⟨S1x3072, .f32⟩
  | .hbm, ⟨73, _⟩ => ⟨S8192x3072, .f32⟩
  | .hbm, ⟨74, _⟩ => ⟨S8192x3072, .f32⟩
  | .hbm, ⟨75, _⟩ => ⟨S_, .f32⟩
  | .hbm, ⟨76, _⟩ => ⟨S3072, .f32⟩
  | .hbm, ⟨77, _⟩ => ⟨S1x3072, .f32⟩
  | .hbm, ⟨78, _⟩ => ⟨S_, .f32⟩
  | .hbm, ⟨79, _⟩ => ⟨S4x3072, .f32⟩
  | .hbm, ⟨80, _⟩ => ⟨S4x3072, .f32⟩
  | .hbm, ⟨81, _⟩ => ⟨S_, .f32⟩
  | .hbm, ⟨82, _⟩ => ⟨S8195x3072, .f32⟩
  | .hbm, ⟨83, _⟩ => ⟨S8195x3072, .f32⟩
  | .hbm, ⟨84, _⟩ => ⟨S8192x3072, .f32⟩
  | .hbm, ⟨85, _⟩ => ⟨S_, .f32⟩
  | .hbm, ⟨86, _⟩ => ⟨S3072, .f32⟩
  | .hbm, ⟨87, _⟩ => ⟨S1x3072, .f32⟩
  | .hbm, ⟨88, _⟩ => ⟨S8192x3072, .f32⟩
  | .hbm, ⟨89, _⟩ => ⟨S8192x3072, .f32⟩
  | .hbm, ⟨90, _⟩ => ⟨S_, .f32⟩
  | .hbm, ⟨91, _⟩ => ⟨S3072, .f32⟩
  | .hbm, ⟨92, _⟩ => ⟨S1x3072, .f32⟩
  | .hbm, ⟨93, _⟩ => ⟨S_, .f32⟩
  | .hbm, ⟨94, _⟩ => ⟨S4x3072, .f32⟩
  | .hbm, ⟨95, _⟩ => ⟨S4x3072, .f32⟩
  | .hbm, ⟨96, _⟩ => ⟨S_, .f32⟩
  | .hbm, ⟨97, _⟩ => ⟨S8195x3072, .f32⟩
  | .hbm, ⟨98, _⟩ => ⟨S8195x3072, .f32⟩
  | .hbm, ⟨99, _⟩ => ⟨S3x3072, .f32⟩
  | .hbm, ⟨100, _⟩ => ⟨S8192x3072, .f32⟩
  | .hbm, ⟨101, _⟩ => ⟨S_, .i32⟩
  | .hbm, ⟨102, _⟩ => ⟨S_, .f32⟩
  | .hbm, ⟨103, _⟩ => ⟨S8x3072, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_15 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_cst_17 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c : Ref sig .tc := ⟨.hbm, 101, rfl⟩
abbrev main_call0_v0 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== Proof.OneShot.lean ====
/-
# Kernels whose semaphores are each credited once

In each of the kernels proved here every DMA semaphore of every device takes exactly one credit: from the device's own
local copy, from the source side of a transfer the device sends, or from the landing of a transfer another device
sends. A `Plan` lists the semaphores, what each is credited, and which device's semaphore a device credits. The
protocol is then the same for all kernels: one round, one duty per cell, whose payload is what the waiting device gets
back. This module gives the schedule of a plan, its levels and launch (`deal`, `creds`), and one rule for each step of
a body: a local copy, a send, a wait (`wp_copy`, `wp_send`, `wp_wait`).
-/
module

public import Idealize.ShloMosaic.Lib.Pipeline.Regions
public import Idealize.ShloMosaic.Lib.Pipeline.Kit
public import Idealize.ShloMosaic.Lib.Rounds

@[expose] public section

set_option Elab.async false

noncomputable section

namespace Cert.OneShot

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The semaphores of a kernel, each credited once. -/
structure Plan (nD : ℕ) (sig : RefSig) (k : ℕ) where
  /-- The semaphores of a device. -/
  sem : Fin k → SemLoc sig
  inj : Function.Injective sem
  /-- What a semaphore is credited, in units. -/
  amt : Fin k → ℕ
  pos : ∀ i, 0 < amt i
  /-- Device `c` credits semaphore `i` of device `peer i c` (of itself, where the credit is of a local copy or of a
      transfer's source side). -/
  peer : Fin k → Equiv.Perm (Dev nD)
  /-- The semaphores credited by transfers from other devices: what a device owes at the launch. -/
  owed : Finset (Fin k)
  /-- A wait for semaphore `i` is allowed while credits of higher levels are still owed. -/
  lvl : Fin k → ℕ

variable {nD : ℕ} {τ : Topo} {sig : RefSig} {Val : EltTy → Type} {k : ℕ}

/-- The ghost state: the launch kit's rounds beside the kernel's. -/
abbrev UU (nD : ℕ) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

namespace Plan

variable (p : Plan nD sig k)

/-- Semaphore `i` of device `c`. -/
abbrev cell (τ : Topo) (c : Dev nD) (i : Fin k) : GSem nD τ sig := ((c : Thread nD τ), p.sem i)

/-- Which of the plan's semaphores a semaphore is, if any. -/
def slot (s : SemLoc sig) : Option (Fin k) := by
  classical exact if h : ∃ i, p.sem i = s then some h.choose else none

theorem slot_sem (i : Fin k) : p.slot (p.sem i) = some i := by
  unfold slot
  have h : ∃ j, p.sem j = p.sem i := ⟨i, rfl⟩
  rw [dif_pos h]
  exact congrArg some (p.inj h.choose_spec)

theorem cell_inj (τ : Topo) : Function.Injective fun ci : Dev nD × Fin k => p.cell τ ci.1 ci.2 := by
  rintro ⟨c, i⟩ ⟨c', i'⟩ h
  have h1 : c = c' := congrArg (fun g : GSem nD τ sig => g.1.1) h
  have h2 : i = i' := p.inj (congrArg Prod.snd h)
  rw [h1, h2]

theorem cell_eq_iff (τ : Topo) {c c' : Dev nD} {i i' : Fin k} : (p.cell τ c i = p.cell τ c' i') ↔ (c = c' ∧ i = i') :=
  ⟨fun h => Prod.mk.inj (p.cell_inj τ (a₁ := (c, i)) (a₂ := (c', i')) h), fun ⟨h, h'⟩ => by rw [h, h']⟩

/-- One round; one duty at each of the plan's cells; the payload `pay c i` to device `c` at its semaphore `i`. -/
def sched (pay : Dev nD → Fin k → sProp 𝕄) : Schedule (GSem nD τ sig) Unit 𝕄 where
  duties g r := if r = 0 ∧ (p.slot g.2).isSome then {()} else ∅
  amount g _ _ := match p.slot g.2 with
    | some i => p.amt i
    | none => 1
  payload g _ _ := match p.slot g.2 with
    | some i => pay g.1.1 i
    | none => iprop(emp)
  amount_pos g r d _ := by
    split
    · exact p.pos _
    · exact Nat.one_pos

variable (pay : Dev nD → Fin k → sProp (MT nD τ sig Unit Val ℕ (UU nD τ sig) ℕ))

/-- Every payload can be kept in an invariant. -/
class Storables (pay : Dev nD → Fin k → sProp 𝕄) : Prop where
  storable : ∀ (c : Dev nD) (i : Fin k), BI.Storable (upEmb : UEmb _ 𝕄) (pay c i)

instance sched_storable [hst : Storables pay] (g : GSem nD τ sig) (r : ℕ) (d : Unit) :
    BI.Storable (upEmb : UEmb _ 𝕄) ((p.sched pay).payload g r d) := by
  unfold sched
  dsimp only
  split
  · exact hst.storable _ _
  · infer_instance

theorem duties_cell (c : Dev nD) (i : Fin k) : (p.sched pay).duties (p.cell τ c i) 0 = {()} := by
  unfold sched
  dsimp only
  rw [slot_sem, if_pos ⟨rfl, rfl⟩]

theorem duties_later (g : GSem nD τ sig) : ∀ r, 0 + 1 ≤ r → (p.sched pay).duties g r = ∅ := by
  intro r hr
  unfold sched
  exact if_neg (fun h => absurd h.1 (by omega))

theorem amount_cell (c : Dev nD) (i : Fin k) : (p.sched pay).amount (p.cell τ c i) 0 () = p.amt i := by
  unfold sched
  dsimp only
  rw [slot_sem]

theorem payload_cell (c : Dev nD) (i : Fin k) : (p.sched pay).payload (p.cell τ c i) 0 () = pay c i := by
  unfold sched
  dsimp only
  rw [slot_sem]

theorem expect_cell (c : Dev nD) (i : Fin k) : (p.sched pay).expect (p.cell τ c i) 0 = p.amt i := by
  unfold Schedule.expect Schedule.amountOf
  rw [duties_cell, Finset.sum_singleton, amount_cell]

/-- What device `c` owes: the credits of the semaphores `J` of the devices it sends to. -/
def owing (τ : Topo) (J : Finset (Fin k)) (c : Dev nD) : CellTallies nD τ sig Unit :=
  ∑ j ∈ J, tallyAt (p.cell τ (p.peer j c) j) () (p.amt j)

/-- The wait pairs and their levels. -/
def L (nD : ℕ) (τ : Topo) (sig : RefSig) : GSem nD τ sig → Finset Unit := fun g => if g.1.2 = .tc then {()} else ∅
def lv (τ : Topo) : GSem nD τ sig → Unit → ℕ := fun g _ => match p.slot g.2 with
  | some i => p.lvl i
  | none => 0

theorem L_other (g : GSem nD τ sig) (h : g.1.2 ≠ .tc) : L nD τ sig g = ∅ := if_neg h
theorem lv_cell (c : Dev nD) (i : Fin k) : p.lv τ (p.cell τ c i) () = p.lvl i := by unfold lv; rw [slot_sem]

theorem owing_pos {J : Finset (Fin k)} {c : Dev nD} {g : GSem nD τ sig} {u : Unit} (h : 0 < p.owing τ J c g u) :
    ∃ j ∈ J, g = p.cell τ (p.peer j c) j := by
  by_contra hn
  push Not at hn
  have h0 : p.owing τ J c g u = 0 := by
    unfold owing
    rw [Finset.sum_apply, Finsupp.finsetSum_apply]
    refine Finset.sum_eq_zero fun j hj => ?_
    rw [tallyAt_ne_cell (hn j hj)]
    rfl
  omega

/-- A wait for semaphore `i` is allowed while the credits `J` of higher levels are owed. -/
theorem mayWait {c : Dev nD} {i : Fin k} {J : Finset (Fin k)} (hlt : ∀ j ∈ J, p.lvl i < p.lvl j) :
    (levAts (L nD τ sig) (p.lv τ) : sProp 𝕄) ⊢ MayWait (c : Thread nD τ) (p.sem i) () (p.owing τ J c) := by
  refine MayOwe.of_cut (L := L nD τ sig) (lev := p.lv τ) (p.lvl i) ?_ ?_ ?_ ?_
  · intro q hq
    rw [Finset.mem_singleton.mp hq]
    exact Finset.mem_singleton_self ()
  · intro g u h
    obtain ⟨j, _, rfl⟩ := p.owing_pos h
    exact Finset.mem_singleton_self ()
  · intro q hq
    rw [Finset.mem_singleton.mp hq]
    exact le_of_eq (p.lv_cell c i)
  · intro g u h
    obtain ⟨j, hj, rfl⟩ := p.owing_pos h
    rw [show u = () from rfl, lv_cell]
    exact hlt j hj

/-! ## What every device knows and holds -/

/-- Every cell's invariant and the start of its round: known to every device. -/
def records (K : Dev nD × Fin k → ℕ) : sProp 𝕄 :=
  iprop((bigSep Finset.univ fun ci : Dev nD × Fin k => cellInv ER (p.sched pay) (K ci) (p.cell τ ci.1 ci.2))
    ∗ bigSep Finset.univ fun ci : Dev nD × Fin k => reached ER (p.cell τ ci.1 ci.2) 0)

instance records_persistent (K : Dev nD × Fin k → ℕ) : BI.Persistent (p.records pay K) := by
  unfold records
  infer_instance

/-- Device `c`'s own share: its position at each of its semaphores, the right to pay each it credits. -/
def hand (c : Dev nD) : sProp 𝕄 :=
  iprop((bigSep Finset.univ fun i : Fin k => atPos ER (p.cell τ c i) 0 ∅ 0)
    ∗ bigSep Finset.univ fun i : Fin k => dutyTok ER (p.cell τ (p.peer i c) i) 0 ())

theorem inv_at (K : Dev nD × Fin k → ℕ) (c : Dev nD) (i : Fin k) :
    p.records pay K ⊢ cellInv ER (p.sched pay) (K (c, i)) (p.cell τ c i) := by
  unfold records
  iintro ⟨H, -⟩
  ihave H' := (show (bigSep Finset.univ fun ci : Dev nD × Fin k => (cellInv ER (p.sched pay) (K ci) (p.cell τ ci.1 ci.2) : sProp 𝕄))
    ⊢ cellInv ER (p.sched pay) (K (c, i)) (p.cell τ c i) from bigSep_elim (Finset.mem_univ (c, i))) $$ H
  iexact H'

theorem reached_at (K : Dev nD × Fin k → ℕ) (c : Dev nD) (i : Fin k) :
    p.records pay K ⊢ reached ER (p.cell τ c i) 0 := by
  unfold records
  iintro ⟨-, H⟩
  ihave H' := (show (bigSep Finset.univ fun ci : Dev nD × Fin k => (reached ER (p.cell τ ci.1 ci.2) 0 : sProp 𝕄))
    ⊢ reached ER (p.cell τ c i) 0 from bigSep_elim (Finset.mem_univ (c, i))) $$ H
  iexact H'

/-! ## The steps of a body -/

section Steps

variable [Storables pay]
variable {Λ : Idealize.SL.Sem.Labels} {defs : Defs nD τ sig Val Λ} (𝒱 : Variants) (c : Dev nD) (bd : Option 𝒱.V)
variable {α : Type} {Q : α → sProp (MT nD τ sig Unit Val ℕ (UU nD τ sig) ℕ)} {sp sp' : Space} {s : Shape} {e : EltTy} (K : Dev nD × Fin k → ℕ)

/-- A local copy crediting the device's own semaphore `i`: source and written destination are its payload. -/
theorem wp_copy {src : Memref sig .tc sp s e} {dst : Memref sig .tc sp' s e} {sem : SemLoc sig}
    {hsrc : src.view.WordExact} {hdst : dst.view.WordExact} {hsem : DmaTarget.Typed (nD := nD) (τ := τ) (p := .tc) sp sem (.here dst)}
    {kont : PUnit → Prog (TpuEff nD τ sig Val Λ .tc) α} {q : PosShare TreeShare}
    {fs : Buf Val (src.view.loc (c : Thread nD τ))} {fd : Buf Val (dst.view.loc (c : Thread nD τ))}
    (i : Fin k) (hi : sem = p.sem i) (hto : p.peer i c = c) (hN : dst.view.amount sem = p.amt i)
    (hpay : iprop((dst.view.loc (c : Thread nD τ) ↦[dst.view.set]{fullShare} (dst.view.write Val fd (src.view.read Val fs) Finset.univ))
      ∗ (src.view.loc (c : Thread nD τ) ↦[src.view.set]{q} fs)) ⊢ pay c i) :
    iprop(p.records pay K ∗ (src.view.loc (c : Thread nD τ) ↦[src.view.set]{q} fs)
        ∗ (dst.view.loc (c : Thread nD τ) ↦[dst.view.set]{fullShare} fd) ∗ dutyTok ER (p.cell τ (p.peer i c) i) 0 ())
      ⊢ iprop((cred (tallyAt (p.cell τ c i) () (p.amt i)) -∗ wp frame (wpE defs 𝒱 (c : Thread nD τ) bd) Set.univ (kont ⟨⟩) Q)
          -∗ wp frame (wpE defs 𝒱 (c : Thread nD τ) bd) Set.univ (.op (.enqueueDma src (.here dst) sem hsrc hdst hsem) kont) Q) := by
  subst hi
  rw [hto]
  iintro ⟨#HR, Hs, Hd, Ht⟩ Hk
  iapply (Rounds.wp_copy_pointsTo 𝒱 ER (p.sched pay) (c : Thread nD τ) bd (κ := K (c, i)) (r := 0) (d := ()) (fs := fs) (fd := fd) (q := q)
    (by rw [duties_cell]; exact Finset.mem_singleton_self ()) () (p.amt i) hN (p.amount_cell pay c i)
    (hpay.trans (Entails.of_eq (p.payload_cell pay c i).symm))) $$ [Hs Hd Ht] [Hk]
  · isplitr; · iapply (p.inv_at pay K c i); iexact HR
    isplitl [Hs]; · iexact Hs
    isplitl [Hd]; · iexact Hd
    isplitl [Ht]; · iexact Ht
    iapply (p.reached_at pay K c i); iexact HR
  · iexact Hk

/-- A transfer to device `n = peer j c`, crediting semaphore `i` here and semaphore `j` there: the source is the first
    payload, the written destination the second; the credit at `j` is owed no longer. -/
theorem wp_send {n : Dev nD} {src : Memref sig .tc sp s e} {dst : Memref sig .tc sp' s e} {sS sem : SemLoc sig}
    {hsc : dst.view.ref.isScScratch = false} {hsrc : src.view.WordExact} {hdst : dst.view.WordExact}
    {hsem : DmaTarget.Typed (nD := nD) (τ := τ) (p := .tc) sp sem (.remote (n : Thread nD τ) dst sS hsc)}
    {kont : PUnit → Prog (TpuEff nD τ sig Val Λ .tc) α} {q : PosShare TreeShare}
    {fs : Buf Val (src.view.loc (c : Thread nD τ))} (i j : Fin k) (hi : sS = p.sem i) (hj : sem = p.sem j) (hn : n = p.peer j c) (hto : p.peer i c = c)
    {fd : Buf Val (dst.view.loc (p.peer j c : Thread nD τ))}
    {J : Finset (Fin k)} (hJ : j ∈ J) (hN : dst.view.amount sem = p.amt j) (hij : p.amt i = p.amt j)
    (hpay₁ : (src.view.loc (c : Thread nD τ) ↦[src.view.set]{q} fs) ⊢ pay c i)
    (hpay₂ : (dst.view.loc (p.peer j c : Thread nD τ) ↦[dst.view.set]{fullShare} (dst.view.write Val fd (src.view.read Val fs) Finset.univ)) ⊢ pay (p.peer j c) j)
    (hr : τ.routes (c : Thread nD τ) (p.peer j c : Thread nD τ) = true := by routes) :
    iprop(p.records pay K ∗ (src.view.loc (c : Thread nD τ) ↦[src.view.set]{q} fs)
        ∗ (dst.view.loc (p.peer j c : Thread nD τ) ↦[dst.view.set]{fullShare} fd) ∗ (∃ W, owes (c : Thread nD τ) (p.owing τ J c) W)
        ∗ dutyTok ER (p.cell τ (p.peer i c) i) 0 () ∗ dutyTok ER (p.cell τ (p.peer j c) j) 0 ())
      ⊢ iprop(((cred (tallyAt (p.cell τ c i) () (p.amt i)) ∗ ∃ W, owes (c : Thread nD τ) (p.owing τ (J.erase j) c) W)
            -∗ wp frame (wpE defs 𝒱 (c : Thread nD τ) bd) Set.univ (kont ⟨⟩) Q)
          -∗ wp frame (wpE defs 𝒱 (c : Thread nD τ) bd) Set.univ (.op (.enqueueDma src (.remote (n : Thread nD τ) dst sS hsc) sem hsrc hdst hsem) kont) Q) := by
  subst hi hj hn
  rw [hto]
  iintro ⟨#HR, Hs, Hd, ⟨%W, HO⟩, Ht, Ht'⟩ Hk
  iapply (Rounds.wp_send_pointsTo 𝒱 ER (p.sched pay) (c : Thread nD τ) bd (κ₁ := K (c, i)) (κ₂ := K (p.peer j c, j)) (r₁ := 0) (r₂ := 0)
    (d₁ := ()) (d₂ := ()) (fs := fs) (fd := fd) (q := q) (c' := ((p.peer j c : Dev nD) : Thread nD τ))
    (by rw [duties_cell]; exact Finset.mem_singleton_self ()) (by rw [duties_cell]; exact Finset.mem_singleton_self ()) () () (p.amt j) hN
    ((p.amount_cell pay c i).trans hij) (p.amount_cell pay _ j) (p.owing τ (J.erase j) c) (O₀ := p.owing τ J c)
    (by unfold owing; exact (Finset.sum_erase_add J _ hJ).symm) (W := W)
    (hpay₁.trans (Entails.of_eq (p.payload_cell pay c i).symm)) (hpay₂.trans (Entails.of_eq (p.payload_cell pay _ j).symm)) hr)
    $$ [Hs Hd HO Ht Ht'] [Hk]
  · isplitr; · iapply (p.inv_at pay K c i); iexact HR
    isplitr; · iapply (p.inv_at pay K (p.peer j c) j); iexact HR
    isplitl [Hs]; · iexact Hs
    isplitl [Hd]; · iexact Hd
    isplitl [HO]; · iexact HO
    isplitl [Ht]; · iexact Ht
    isplitr; · iapply (p.reached_at pay K c i); iexact HR
    isplitl [Ht']; · iexact Ht'
    iapply (p.reached_at pay K (p.peer j c) j); iexact HR
  · rw [← hij]
    iintro ⟨Hc, HO⟩
    iapply Hk
    isplitl [Hc]; · iexact Hc
    iexists W; iexact HO

/-- The wait for semaphore `i`: the payload comes back, and the cell is closed with its counter at zero. -/
theorem wp_wait {sp₁ sp₂ : Space} {s₁ s₂ : Shape} {e₁ e₂ : EltTy} {κ' : Kind} {sem : DmaSem sig} {src : Memref sig .tc sp₁ s₁ e₁}
    {dst : Memref sig κ' sp₂ s₂ e₂} {hsrc : src.view.WordExact} {hdst : dst.view.WordExact}
    {kont : PUnit → Prog (TpuEff nD τ sig Val Λ .tc) α}
    (i : Fin k) (hi : .dma sem = p.sem i) (hN : dst.view.dmaCredit = p.amt i)
    {J : Finset (Fin k)} (hlt : ∀ j ∈ J, p.lvl i < p.lvl j) :
    iprop(p.records pay K ∗ levAts (L nD τ sig) (p.lv τ) ∗ cred (tallyAt (p.cell τ c i) () (p.amt i))
        ∗ (∃ W, owes (c : Thread nD τ) (p.owing τ J c) W) ∗ atPos ER (p.cell τ c i) 0 ∅ 0)
      ⊢ iprop(((pay c i ∗ semVal (p.cell τ c i) 0 ∗ ∃ W, owes (c : Thread nD τ) (p.owing τ J c) W)
            -∗ wp frame (wpE defs 𝒱 (c : Thread nD τ) bd) Set.univ (kont ⟨⟩) Q)
          -∗ wp frame (wpE defs 𝒱 (c : Thread nD τ) bd) Set.univ (.op (.waitDma2 sem src dst hsrc hdst) kont) Q) := by
  have hw : ∀ X : PUnit → sProp 𝕄, wpE defs 𝒱 (c : Thread nD τ) bd Set.univ (.waitDma2 sem src dst hsrc hdst) X
      = waitSpec (c : Thread nD τ) Set.univ (p.sem i) (p.amt i) X := fun X => by
    rw [← hi, ← hN]
    exact wpE_waitDma2_eq 𝒱 (c : Thread nD τ) bd Set.univ X
  iintro ⟨#HR, #HL, Hc, ⟨%W, HO⟩, Hat⟩ Hk
  iapply (Rounds.wp_wait_rest_token 𝒱 ER (p.sched pay) (c : Thread nD τ) bd (κ := K (c, i)) hw (Set.mem_univ _) () (O := p.owing τ J c) (W := W)
    (R := 0) (m := 0) (T := ∅) (by rw [Nat.zero_add, expect_cell])) $$ [Hc HO Hat] [Hk]
  · isplitr; · iapply (p.inv_at pay K c i); iexact HR
    isplitl [Hc]; · iexact Hc
    isplitl [HO]; · iexact HO
    isplitr; · iapply (p.mayWait hlt); iexact HL
    iexact Hat
  · iintro ⟨HO, Hat, -, Hp⟩
    imod (Rounds.cell_close ER (p.sched pay) (Set.mem_univ (K (c, i))) (fun h => h) (R := 0 + 1) (p.duties_later pay (p.cell τ c i))) $$ [Hat] with Hz
    · isplitr; · iapply (p.inv_at pay K c i); iexact HR
      iexact Hat
    ihave Hp' := (Entails.of_eq (show (bigSep ((p.sched pay).duties (p.cell τ c i) 0 \ ∅) fun d => (p.sched pay).payload (p.cell τ c i) 0 d) = pay c i by
      rw [Finset.sdiff_empty, duties_cell, bigSep_singleton, payload_cell])) $$ Hp
    iapply Hk
    isplitl [Hp']; · iexact Hp'
    isplitl [Hz]; · iexact Hz
    iexists _; iexact HO

end Steps

/-! ## The launch -/

section Launch

/-- The plan's cells and duties. -/
def cells (τ : Topo) : Finset (GSem nD τ sig) := Finset.univ.map ⟨fun ci : Dev nD × Fin k => p.cell τ ci.1 ci.2, p.cell_inj τ⟩
def toks (τ : Topo) : Finset (GSem nD τ sig × ℕ × Unit) :=
  Finset.univ.map ⟨fun ci : Dev nD × Fin k => (p.cell τ ci.1 ci.2, 0, ()), fun _ _ h => p.cell_inj τ (congrArg Prod.fst h)⟩

/-- Device `c`'s part of the freshly made ghost state. -/
def G (c : Dev nD) : sProp 𝕄 :=
  iprop((bigSep Finset.univ fun i : Fin k => roundState ER (p.sched pay) (p.cell τ c i) 0)
    ∗ (bigSep Finset.univ fun i : Fin k => atPos ER (p.cell τ c i) 0 ∅ 0)
    ∗ (bigSep Finset.univ fun i : Fin k => reached ER (p.cell τ c i) 0)
    ∗ bigSep Finset.univ fun i : Fin k => dutyTok ER (p.cell τ c i) 0 ())

theorem fund : BI.own (ER (initOf (p.cells τ) (p.toks τ))) ⊢ (|={Set.univ}=> bigSep Finset.univ (p.G pay) : sProp 𝕄) := by
  have hX (Φ : GSem nD τ sig → sProp 𝕄) : bigSep (p.cells τ) Φ = bigSep Finset.univ fun c : Dev nD => bigSep Finset.univ fun i : Fin k => Φ (p.cell τ c i) := by
    unfold cells; rw [bigSep_map, bigSep_univ_prod]; rfl
  have hT : bigSep (p.toks τ) (fun x => (dutyTok ER x.1 x.2.1 x.2.2 : sProp 𝕄))
      = bigSep Finset.univ fun c : Dev nD => bigSep Finset.univ fun i : Fin k => dutyTok ER (p.cell τ c i) 0 () := by
    unfold toks; rw [bigSep_map, bigSep_univ_prod]; rfl
  iintro HX
  imod (Rounds.fund ER (p.sched pay) (p.cells τ) (p.toks τ)) $$ HX with ⟨Hst, Hr, Hat, Htok⟩
  imodintro
  ihave Hst' := (Entails.of_eq (hX fun g => roundState ER (p.sched pay) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

variable [Storables pay]

/-- A device's cells put under their invariants. -/
theorem alloc (c : Dev nD) :
    iprop((bigSep Finset.univ fun i : Fin k => semVal (p.cell τ c i) 0) ∗ p.G pay c)
      ⊢ |={Set.univ}=> iprop((bigSep Finset.univ fun i : Fin k => iprop(∃ κ : ℕ, cellInv ER (p.sched pay) κ (p.cell τ c i)))
          ∗ (bigSep Finset.univ fun i : Fin k => atPos ER (p.cell τ c i) 0 ∅ 0)
          ∗ (bigSep Finset.univ fun i : Fin k => reached ER (p.cell τ c i) 0)
          ∗ bigSep Finset.univ fun i : Fin k => dutyTok ER (p.cell τ c i) 0 ()) := by
  unfold G
  iintro ⟨Hv, Hst, Hrest⟩
  imod (show iprop((bigSep Finset.univ fun i : Fin k => semVal (p.cell τ c i) 0) ∗ bigSep Finset.univ fun i : Fin k => roundState ER (p.sched pay) (p.cell τ c i) 0)
      ⊢ (|={Set.univ}=> bigSep Finset.univ fun i => iprop(∃ κ : ℕ, cellInv ER (p.sched pay) κ (p.cell τ c i)) : sProp 𝕄) from by
        rw [← bigSep_sep']
        exact (bigSep_mono fun i _ => (Rounds.body_intro ER (p.sched pay) (p.cell τ c i)).trans inv_alloc).trans (bigSep_fupd _ _)) $$ [Hv Hst] with Hinv
  · isplitl [Hv] <;> iassumption
  imodintro
  isplitl [Hinv]; · iexact Hinv
  iexact Hrest

theorem toks_around :
    (bigSep Finset.univ fun c : Dev nD => bigSep Finset.univ fun i : Fin k => (dutyTok ER (p.cell τ c i) 0 () : sProp 𝕄))
      ⊢ bigSep Finset.univ fun c : Dev nD => bigSep Finset.univ fun i : Fin k => dutyTok ER (p.cell τ (p.peer i c) i) 0 () := by
  rw [bigSep_univ_comm, bigSep_univ_comm (fun (c : Dev nD) (i : Fin k) => (dutyTok ER (p.cell τ (p.peer i c) i) 0 () : sProp 𝕄))]
  exact bigSep_mono fun i _ => Entails.of_eq (bigSep_univ_equiv (p.peer i) fun c : Dev nD => (dutyTok ER (p.cell τ c i) 0 () : sProp 𝕄))

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records collected from all devices, the hands dealt. -/
theorem regroup :
    (bigSep Finset.univ fun c : Dev nD => iprop((bigSep Finset.univ fun i : Fin k => iprop(∃ κ : ℕ, cellInv ER (p.sched pay) κ (p.cell τ c i)))
          ∗ (bigSep Finset.univ fun i : Fin k => atPos ER (p.cell τ c i) 0 ∅ 0)
          ∗ (bigSep Finset.univ fun i : Fin k => reached ER (p.cell τ c i) 0)
          ∗ bigSep Finset.univ fun i : Fin k => dutyTok ER (p.cell τ c i) 0 ()))
      ⊢ iprop(∃ K, p.records pay K ∗ bigSep Finset.univ fun c : Dev nD => p.hand c) := by
  rw [bigSep_sep', bigSep_sep', bigSep_sep', ← bigSep_univ_prod (fun ci : Dev nD × Fin k => iprop(∃ κ : ℕ, cellInv ER (p.sched pay) κ (p.cell τ ci.1 ci.2))),
    ← bigSep_univ_prod (fun ci : Dev nD × Fin k => (reached ER (p.cell τ ci.1 ci.2) 0 : sProp 𝕄))]
  iintro ⟨HI, Hat, HR, Htok⟩
  ihave HK := (BI.bigSep_exists_pi Finset.univ (fun (ci : Dev nD × Fin k) (κ : ℕ) => (cellInv ER (p.sched pay) κ (p.cell τ ci.1 ci.2) : sProp 𝕄))) $$ HI
  icases HK with ⟨%K, HI⟩
  ihave Htk := (p.toks_around) $$ Htok
  iexists K
  isplitl [HI HR]
  · unfold records
    isplitl [HI]; · iexact HI
    iexact HR
  · unfold hand
    rw [bigSep_sep']
    isplitl [Hat]; · iexact Hat
    iexact Htk

/-- All devices' semaphores at zero and the fresh ghost state: every cell is put under its invariant, and each device
    gets its hand. -/
theorem deal :
    (bigSep Finset.univ fun c : Dev nD => iprop((bigSep Finset.univ fun i : Fin k => semVal (p.cell τ c i) 0) ∗ p.G pay c))
      ⊢ |={Set.univ}=> iprop(∃ K, p.records pay K ∗ bigSep Finset.univ fun c : Dev nD => p.hand c) := by
  iintro H
  imod (show (bigSep Finset.univ fun c : Dev nD => iprop((bigSep Finset.univ fun i : Fin k => semVal (p.cell τ c i) 0) ∗ p.G pay c))
      ⊢ |={Set.univ}=> (bigSep Finset.univ fun c : Dev nD => iprop((bigSep Finset.univ fun i : Fin k => iprop(∃ κ : ℕ, cellInv ER (p.sched pay) κ (p.cell τ c i)))
          ∗ (bigSep Finset.univ fun i : Fin k => atPos ER (p.cell τ c i) 0 ∅ 0)
          ∗ (bigSep Finset.univ fun i : Fin k => reached ER (p.cell τ c i) 0)
          ∗ bigSep Finset.univ fun i : Fin k => dutyTok ER (p.cell τ c i) 0 ())) from
    (bigSep_mono fun c _ => p.alloc pay c).trans (bigSep_fupd Finset.univ _)) $$ H with H
  imodintro
  iapply (show (bigSep Finset.univ fun c : Dev nD => iprop((bigSep Finset.univ fun i : Fin k => iprop(∃ κ : ℕ, cellInv ER (p.sched pay) κ (p.cell τ c i)))
          ∗ (bigSep Finset.univ fun i : Fin k => atPos ER (p.cell τ c i) 0 ∅ 0)
          ∗ (bigSep Finset.univ fun i : Fin k => reached ER (p.cell τ c i) 0)
          ∗ bigSep Finset.univ fun i : Fin k => dutyTok ER (p.cell τ c i) 0 ()))
      ⊢ iprop(∃ K, p.records pay K ∗ bigSep Finset.univ fun c : Dev nD => p.hand c) from p.regroup pay)
  iexact H

/-- What the other devices owe a device at the launch is its credit at the semaphores they send to. -/
theorem creds (c : Dev nD) :
    (Pipeline.launchCred (p.owing τ p.owed) c : sProp 𝕄)
      ⊢ bigSep p.owed fun i => cred (tallyAt (p.cell τ c i) () (p.amt i)) := by
  have hone (i : Fin k) (hi : i ∈ p.owed) : tallyOn (p.cell τ c i) (launchCredit (Pipeline.owing (p.owing τ p.owed)) 0 (p.cell τ c i))
      = (tallyAt (p.cell τ c i) () (p.amt i) : CellTallies nD τ sig Unit) := by
    unfold tallyAt
    refine congrArg _ (Finsupp.ext fun u => ?_)
    cases u
    have hd (d : Dev nD) : p.owing τ p.owed d (p.cell τ c i) () = if d = (p.peer i).symm c then p.amt i else 0 := by
      unfold owing
      rw [Finset.sum_apply, Finsupp.finsetSum_apply, Finset.sum_eq_single i]
      · rw [tallyAt_apply]
        by_cases h : d = (p.peer i).symm c
        · subst h
          rw [Equiv.apply_symm_apply, if_pos ⟨rfl, rfl⟩, if_pos rfl]
        · rw [if_neg fun h' => h (by rw [((p.cell_eq_iff τ).mp h'.1).1, Equiv.symm_apply_apply]), if_neg h]
      · intro j _ hj
        rw [tallyAt_ne_cell fun h' => hj ((p.cell_eq_iff τ).mp h').2.symm]
        rfl
      · exact fun h => absurd hi h
    rw [Pipeline.launchCredit_owing, Finsupp.single_eq_same, Finset.sum_congr rfl fun d _ => hd d,
      Finset.sum_ite_eq' Finset.univ ((p.peer i).symm c) fun _ => p.amt i, if_pos (Finset.mem_univ _)]
  unfold Pipeline.launchCred
  refine (bigSep_subset (Finset.subset_univ (p.owed.map ⟨p.sem, p.inj⟩))).trans ?_
  rw [bigSep_map]
  exact bigSep_mono fun i hi => Entails.of_eq (congrArg cred (hone i hi))

end Launch

end Plan

end Cert.OneShot
-- ==== Proof.TalkLaunch.lean ====
/-
# Launching a program whose FIRST kernel region talks across devices without a barrier

The first kernel of every program proved here starts its copies to other devices at once, without asking whether
the receivers have arrived. A device may thus be credited on a semaphore of the kernel, and have the kernel's result
buffer written, before it has entered the kernel itself. What a sender needs about the receiver it must therefore
hold from the launch on: the invariant of the receiver's semaphore, and the piece of the receiver's result buffer.

`θ_run_talk_first` is the launch theorem for that: ONE step at the launch (`hglob`), taken on all devices together,
sees every device's own kernel semaphores at zero, its unscoped buffers, what it owes and is owed, and its ghost
resources, and makes the states `T₀ c` from which the devices run. The first region is a `Pipeline.RegionSeg` whose
entry needs no semaphore counter (`hent`: they went into invariants at the launch); the segments after it are run as
by the library's kit.
-/
module

public import Idealize.ShloMosaic.Lib.Pipeline.Regions
public import Idealize.ShloMosaic.Lib.Pipeline.Kit

@[expose] public section

set_option Elab.async false

noncomputable section

namespace Cert.TalkLaunch

open Idealize.ShloMosaic Idealize.ShloMosaic.TcCoe Idealize.ShloMosaic.Pipeline
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.Sem Idealize.SL.ProofMode
open Idealize.ShloMosaic.Rounds

variable {nD : Nat} {τ : Topo} {sig : RefSig} {Val : EltTy → Type}
variable {Ix : Type} [DecidableEq Ix] {U : Type} [URA U] {Lvl : Type} [Preorder Lvl]

local notation "𝕄" => MT nD τ sig Ix Val ℕ U Lvl

variable {Λ₀ : Idealize.SL.Sem.Labels} {P : Type} [Fintype P] [DecidableEq P] [∀ e, Nonempty (Val e)]
variable (pcs : P → PCfg sig Λ₀ Val) (a : (p : P) → (pcs p).Adm)
  (pdats : (p : P) → (c : Dev nD) → Dat τ Val Ix ℕ U Lvl (pin pcs a p) c) (ι : Ix)
  (phinj : Function.Injective (cellOf (nD := nD) (τ := τ) (pin pcs a)))
  (EP : Emb (URounds (GSem nD τ sig) Unit) (MT nD τ sig Ix Val ℕ U Lvl)) [EP.LandsIn (upEmb : UEmb _ (MT nD τ sig Ix Val ℕ U Lvl))]
  (defs₀ : Defs nD τ sig Val Λ₀) (𝒱₀ : Variants)
  (L : GSem nD τ sig → Finset Ix) (lv : GSem nD τ sig → Ix → Lvl)

/-- What a device's region boundary holds when the first region's own semaphores have gone into invariants: the scoped
    buffers, the staging semaphores and the idle ones at zero, the idle slot of the device's operations. -/
def openBoundary {p : P} (R : RegionSeg pcs a pdats ι defs₀ 𝒱₀ L lv p) (c : Dev nD) : sProp 𝕄 :=
  iprop(scopedBufs (c.tc : Thread nD τ) ∗ cellsSems0 (pin pcs a) p c ∗ idleSems0 (pin pcs a) phinj p R.ho c
    ∗ opIdle (c.tc : Thread nD τ))

/-- The boundary is the open boundary beside the region's own semaphores at zero. -/
theorem boundary_open {p : P} (R : RegionSeg pcs a pdats ι defs₀ 𝒱₀ L lv p) (c : Dev nD) :
    (boundary (c.tc : Thread nD τ) : sProp 𝕄) ⊢ iprop(openBoundary pcs a pdats ι phinj defs₀ 𝒱₀ L lv R c ∗ ownSems0 R.osem c) := by
  unfold boundary openBoundary
  rw [scopedSems0_split (pin pcs a) phinj p R.win R.ho c]
  iintro ⟨Hb, ⟨⟨Hs, Ho⟩, Hi⟩, Hd⟩
  isplitr [Ho]
  · isplitl [Hb]; · iexact Hb
    isplitl [Hs]; · iexact Hs
    isplitl [Hi] <;> iassumption
  · iexact Ho

/-- The first region, run on device `c` from the open boundary: the region's staging cells get their invariants, its
    entry is sorted out of `R.pre c` alone (`hent`), and the region ends at the whole boundary and `R.post c`. -/
theorem wp_first {p : P} (R : RegionSeg pcs a pdats ι defs₀ 𝒱₀ L lv p)
    (hent : ∀ c, iprop(R.pre c ∗ levAts L lv)
      ⊢ |={Set.univ}=> iprop((pdats p c).arrays ((pdats p c).arrAt · 0) ∗ prefHeld (pcs p).pre c (fun _ => fullShare) (a p).1
        ∗ (pdats p c).owesAt ι 0 ∗ R.X c ∗ R.Z c))
    (c : Dev nD) (k : PUnit → Prog (TpuEff nD τ sig Val (Sig Λ₀ P fun p => (pcs p).Adm) .tc) PUnit) (Q : PUnit → sProp 𝕄) :
    iprop((iprop(boundary (c.tc : Thread nD τ) ∗ R.post c)
            -∗ wp frame (wpE (Pipeline.defs pcs defs₀) (Variants.lift 𝒱₀) (c.tc : Thread nD τ) none) Set.univ (k ⟨⟩) Q)
        ∗ openBoundary pcs a pdats ι phinj defs₀ 𝒱₀ L lv R c ∗ R.pre c ∗ levAts L lv
        ∗ cellsGhost (pin pcs a) EP p c ∗ toksInit (pin pcs a) EP p c)
      ⊢ wp frame (wpE (Pipeline.defs pcs defs₀) (Variants.lift 𝒱₀) (c.tc : Thread nD τ) none) Set.univ (.op (.customCall (entry p) ()) k) Q := by
  have hss := scopedSems0_split (pin pcs a) phinj p R.win R.ho (Ix := Ix) (Val := Val) (Name := ℕ) (U := U) (Lvl := Lvl) c
  have hsb := scopedBufs_split (pin pcs a) p R.win.stage_scoped R.win.stage_inj R.stage_whole c (nD := nD) (τ := τ) (Ix := Ix) (Val := Val) (Name := ℕ) (U := U) (Lvl := Lvl)
  have hleave : iprop((pdats p c).Φ (Fin.last (pin pcs a p).N) ∗ cellsSems0 (pin pcs a) p c ∗ Dat.staging (pin pcs a p) c ∗ idleSems0 (pin pcs a) phinj p R.ho c)
      ⊢ iprop(R.Y c ∗ scopedSems0 (c.tc : Thread nD τ) ∗ scopedBufs (c.tc : Thread nD τ)) := by
    rw [hss, hsb]
    iintro ⟨HΦ, Hs, Hst, Hi⟩
    ihave H := (R.hout c) $$ HΦ
    icases H with ⟨HY, Ho, Hr⟩
    isplitl [HY]; · iexact HY
    isplitl [Hs Ho Hi]
    · isplitl [Hs Ho]
      · isplitl [Hs] <;> iassumption
      · iexact Hi
    · isplitl [Hst] <;> iassumption
  unfold openBoundary
  iintro ⟨Hk, ⟨Hb, Hs, Hi, Hd⟩, Hpre, #Hla, Hg, Ht⟩
  ihave Hw := (R.hwaits c) $$ Hla
  iapply (fupd_wp frame (wpE (Pipeline.defs pcs defs₀) (Variants.lift 𝒱₀) (c.tc : Thread nD τ) none) Set.univ _ _)
  imod (cellsInit_alloc (pin pcs a) pdats EP phinj p c) $$ [Hs Hg] with ⟨%κ, -, Hinit⟩
  · isplitl [Hs] <;> iassumption
  imod (hent c) $$ [Hpre] with ⟨Ha, Hp, HO, HX, HZ⟩
  · isplitl [Hpre]; · iexact Hpre
    iexact Hla
  imodintro
  iapply (wp_customCall_entry_frame pcs a pdats ι EP κ phinj p defs₀ 𝒱₀ (fun _ => fullShare) c Set.univ (fun _ _ => Set.mem_univ _)
      (R.hbody c) R.block_pos none (fun u h => nomatch h) (X := R.X c) (Y := R.Y c) (R := scopedRest (pin pcs a p).spec c)
      (I := idleSems0 (pin pcs a) phinj p R.ho c) (Entails.of_eq hsb) (R.hin c) hleave (k := k) (Q := Q)) $$ [Ha HO Hw Hinit Ht Hp HX Hi Hb]
  · unfold EntryPre PerCore.EntryPre
    isplitl [Ha HO Hw Hinit Ht]
    · isplitl [Ha]; · iexact Ha
      isplitl [HO]; · iexact HO
      isplitl [Hw]; · iexact Hw
      isplitl [Hinit] <;> iassumption
    isplitl [Hp]; · iexact Hp
    isplitl [HX]; · iexact HX
    isplitl [Hi] <;> iassumption
  unfold EntryPost PerCore.EntryPost
  iintro ⟨⟨Ha, HO⟩, HY, Hs, Hb⟩
  iapply (fupd_wp frame (wpE (Pipeline.defs pcs defs₀) (Variants.lift 𝒱₀) (c.tc : Thread nD τ) none) Set.univ _ _)
  imod (R.hexit c) $$ [Ha HO HY HZ] with Hpost
  · isplitl [Ha]; · iexact Ha
    isplitl [HO]; · iexact HO
    isplitl [HY] <;> iassumption
  imodintro
  iapply Hk
  isplitr [Hpost]
  · unfold boundary
    isplitl [Hb]; · iexact Hb
    isplitl [Hs] <;> iassumption
  · iexact Hpost

/-- The level facts of all devices, assigned at the launch. -/
theorem levels_assigned (hL : ∀ g : GSem nD τ sig, g.1.2 ≠ .tc → L g = ∅) :
    (bigSep Finset.univ fun c : Dev nD => levels0 (Ix := Ix) (Val := Val) (Name := ℕ) (U := U) (Lvl := Lvl) (τ := τ) (sig := sig) c)
      ⊢ (|==> levAts L lv : sProp 𝕄) := by
  classical
  have hother (d : Dev nD) : (bigSep (Finset.univ.erase Proc.tc) fun q => (coreLevAts ((d, q) : Thread nD τ) L lv : sProp 𝕄)) = BI.emp := by
    refine (bigSep_congr (Ψ := fun _ : Proc τ => (BI.emp : sProp 𝕄)) fun q hq => ?_).trans (BI.bigSep_emp_const _)
    unfold coreLevAts
    refine (bigSep_congr (Ψ := fun _ : SemLoc sig => (BI.emp : sProp 𝕄)) fun sm _ => ?_).trans (BI.bigSep_emp_const _)
    rw [hL (((d, q) : Thread nD τ), sm) (Finset.ne_of_mem_erase hq), BI.bigSep_empty]
  have hall : (levAts L lv : sProp 𝕄) = bigSep Finset.univ fun d : Dev nD => coreLevAts (d.tc : Thread nD τ) L lv := by
    rw [show (levAts L lv : sProp 𝕄) = bigSep Finset.univ fun c : Thread nD τ => coreLevAts c L lv
        from (bigSep_univ_prod fun g : GSem nD τ sig => bigSep (L g) fun i => levAt g i (lv g i)),
      bigSep_threads (fun c : Thread nD τ => coreLevAts c L lv), bigSep_congr fun d _ => hother d, BI.bigSep_emp_const]
    refine BI.Entails.antisymm ?_ ?_
    · show iprop((bigSep Finset.univ fun d : Dev nD => coreLevAts (d.tc : Thread nD τ) L lv) ∗ emp) ⊢ (bigSep Finset.univ fun d : Dev nD => coreLevAts (d.tc : Thread nD τ) L lv : sProp 𝕄)
      iintro ⟨H, -⟩
      iexact H
    · show (bigSep Finset.univ fun d : Dev nD => coreLevAts (d.tc : Thread nD τ) L lv : sProp 𝕄) ⊢ iprop((bigSep Finset.univ fun d : Dev nD => coreLevAts (d.tc : Thread nD τ) L lv) ∗ emp)
      iintro H
      isplitl [H]; · iexact H
      iempintro
  rw [hall]
  refine (bigSep_mono fun c _ => lev_assign_cells (c.tc : Thread nD τ) L lv).trans <| (BI.bigSep_bupd _ _).trans <| BI.bupd_mono ?_
  refine bigSep_mono fun c _ => ?_
  show iprop((bigSep Finset.univ fun sm : SemLoc sig => levels ((c.tc : Thread nD τ), sm) (L ((c.tc : Thread nD τ), sm))) ∗ coreLevAts (c.tc : Thread nD τ) L lv)
    ⊢ (coreLevAts (c.tc : Thread nD τ) L lv : sProp 𝕄)
  iintro ⟨-, H⟩
  iexact H

/-- THE LAUNCH. The program is a first region `R` followed by the segments `l c`. All devices start with every
    semaphore at zero, on memory `m`. `hglob` makes the states `T₀` on all devices at once; `T₀ c` enters the first
    region (`hpre`), the later segments chain from `R.post` to a state `Tₙ c` beside a device that owes nothing, and
    `hfin` reads `Tₙ c` against a final memory. Every weakly fair execution terminates, and every final state satisfies
    what follows from those readings and from every scoped counter being zero. -/
theorem θ_run_talk_first {p : P} (R : RegionSeg pcs a pdats ι defs₀ 𝒱₀ L lv p)
    (hent : ∀ c, iprop(R.pre c ∗ levAts L lv)
      ⊢ |={Set.univ}=> iprop((pdats p c).arrays ((pdats p c).arrAt · 0) ∗ prefHeld (pcs p).pre c (fun _ => fullShare) (a p).1
        ∗ (pdats p c).owesAt ι 0 ∗ R.X c ∗ R.Z c))
    (m : (ℓ : Loc nD τ sig) → Buf Val ℓ) (g : Dev nD → PrngReg)
    (main : Dev nD → Prog (TpuEff nD τ sig Val (Sig Λ₀ P fun p => (pcs p).Adm) .tc) PUnit)
    (l : Dev nD → List (Seg pcs a pdats ι defs₀ 𝒱₀ L lv))
    (hmain : ∀ c, main c = Seg.run (.region R :: l c))
    (hnd : ∀ c, (p :: Seg.pipes (l c)).Nodup)
    (O₀ : Dev nD → CellTallies nD τ sig Ix) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (Tₙ : Dev nD → sProp 𝕄)
    (hglob : iprop((bigSep Finset.univ fun c : Dev nD => iprop(ownSems0 R.osem c ∗ unscopedBufs c (fun b => m ((c.tc : Thread nD τ).loc b))
          ∗ owes (c.tc : Thread nD τ) (O₀ c) ∅ ∗ launchCred O₀ c ∗ G c)) ∗ levAts L lv)
      ⊢ |={Set.univ}=> bigSep Finset.univ R.pre)
    (hch : ∀ c, Seg.ChainsAt c R.post (l c) fun c => iprop(Tₙ c ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  let pre : Dev nD → sProp 𝕄 := fun c => iprop(openBoundary pcs a pdats ι phinj defs₀ 𝒱₀ L lv R c ∗ R.pre c ∗ levAts L lv
    ∗ ghostOn pcs a EP Finset.univ c)
  let fin : Dev nD → sProp 𝕄 := fun c => iprop(Tₙ c ∗ boundary (c.tc : Thread nD τ))
  refine (θ_run (Pipeline.defs pcs defs₀) _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu (Pipeline.defs pcs defs₀) _ _ _
    (reflect_intro_fupd_tc_sems (X := Unit) (Variants.lift 𝒱₀) (owing O₀) 0 (noBookings fun _ => le_rfl) (owing_of_ne O₀) u₀ (fun _ => pre) (fun _ => fin)
      (fun _ => iprop(emp)) Set.univ ?_ (fun _ c => ?_) fun _ => ?_))
  · -- the launch: each device's holdings sorted, then the one step on all of them
    have hone (c : Dev nD) :
        coreInit (Ix := Ix) (Name := ℕ) (U := U) (Lvl := Lvl) (owing O₀) 0 (⟨m, fun _ => 0, g⟩ : MemSt nD τ sig Val) (c.tc : Thread nD τ)
          ⊢ iprop(openBoundary pcs a pdats ι phinj defs₀ 𝒱₀ L lv R c
              ∗ iprop(ownSems0 R.osem c ∗ unscopedBufs c (fun b => m ((c.tc : Thread nD τ).loc b)) ∗ owes (c.tc : Thread nD τ) (O₀ c) ∅ ∗ launchCred O₀ c)
              ∗ levels0 c) := by
      refine (coreInit_boundary_owing O₀ m g c).trans ?_
      iintro ⟨Hb, Hub, -, HL, Hlv, -, Hcr⟩
      ihave H := (boundary_open pcs a pdats ι phinj defs₀ 𝒱₀ L lv R c) $$ Hb
      icases H with ⟨Hb, Ho⟩
      isplitl [Hb]; · iexact Hb
      isplitr [Hlv]
      · isplitl [Ho]; · iexact Ho
        isplitl [Hub]; · iexact Hub
        isplitl [HL] <;> iassumption
      · iexact Hlv
    have hcores : (bigSep Finset.univ fun d : Dev nD =>
          coreInit (Ix := Ix) (Name := ℕ) (U := U) (Lvl := Lvl) (owing O₀) 0 (⟨m, fun _ => 0, g⟩ : MemSt nD τ sig Val) (d.tc : Thread nD τ))
        ⊢ iprop((bigSep Finset.univ fun c : Dev nD => openBoundary pcs a pdats ι phinj defs₀ 𝒱₀ L lv R c)
            ∗ (bigSep Finset.univ fun c : Dev nD => iprop(ownSems0 R.osem c ∗ unscopedBufs c (fun b => m ((c.tc : Thread nD τ).loc b)) ∗ owes (c.tc : Thread nD τ) (O₀ c) ∅ ∗ launchCred O₀ c))
            ∗ (bigSep Finset.univ fun c : Dev nD => levels0 (Ix := Ix) (Val := Val) (Name := ℕ) (U := U) (Lvl := Lvl) (τ := τ) (sig := sig) c) : sProp 𝕄) := by
      refine (bigSep_mono fun c _ => hone c).trans ?_
      rw [bigSep_sep', bigSep_sep']
      exact BI.Entails.refl _
    have hjoin : iprop((bigSep Finset.univ fun c : Dev nD => iprop(ownSems0 R.osem c ∗ unscopedBufs c (fun b => m ((c.tc : Thread nD τ).loc b)) ∗ owes (c.tc : Thread nD τ) (O₀ c) ∅ ∗ launchCred O₀ c))
          ∗ bigSep Finset.univ G)
        ⊢ (bigSep Finset.univ fun c : Dev nD => iprop(ownSems0 R.osem c ∗ unscopedBufs c (fun b => m ((c.tc : Thread nD τ).loc b))
          ∗ owes (c.tc : Thread nD τ) (O₀ c) ∅ ∗ launchCred O₀ c ∗ G c) : sProp 𝕄) := by
      rw [← bigSep_sep']
      refine bigSep_mono fun c _ => ?_
      show iprop(iprop(ownSems0 R.osem c ∗ unscopedBufs c (fun b => m ((c.tc : Thread nD τ).loc b)) ∗ owes (c.tc : Thread nD τ) (O₀ c) ∅ ∗ launchCred O₀ c) ∗ G c) ⊢ _
      iintro ⟨⟨Ho, Hub, HL, Hcr⟩, HG⟩
      isplitl [Ho]; · iexact Ho
      isplitl [Hub]; · iexact Hub
      isplitl [HL]; · iexact HL
      isplitl [Hcr] <;> iassumption
    have hghost : iprop((bigSep Finset.univ fun c : Dev nD => bigSep Finset.univ fun q => cellsGhost (pin pcs a) EP q c)
          ∗ (bigSep Finset.univ fun c : Dev nD => bigSep Finset.univ fun q => (toksInit (pin pcs a) EP q c : sProp 𝕄)))
        ⊢ bigSep Finset.univ fun c : Dev nD => ghostOn pcs a EP Finset.univ c := by
      rw [← bigSep_sep']
      exact bigSep_mono fun c _ => show iprop((bigSep Finset.univ fun q => cellsGhost (pin pcs a) EP q c)
            ∗ bigSep Finset.univ fun q => (toksInit (pin pcs a) EP q c : sProp 𝕄)) ⊢ ghostOn pcs a EP Finset.univ c
        from Entails.of_eq (by unfold ghostOn PerCore.ghostOn; rw [bigSep_sep'])
    iintro ⟨Hcores, Hu⟩
    ihave Hc := hcores $$ Hcores
    icases Hc with ⟨Hb, Hh, Hlv⟩
    imod (levels_assigned L lv hL) $$ Hlv with #Hla
    imod hu₀ $$ Hu with ⟨HP, HG⟩
    imod (fund_ghost (pin pcs a) EP phinj) $$ HP with ⟨Hg, Ht⟩
    imod hglob $$ [Hh HG] with HT
    · isplitl [Hh HG]
      · iapply hjoin
        isplitl [Hh] <;> iassumption
      · iexact Hla
    imodintro
    iexists ()
    isplitr []
    · simp only [pre]
      rw [bigSep_sep', bigSep_sep', bigSep_sep']
      isplitl [Hb]; · iexact Hb
      isplitl [HT]; · iexact HT
      isplitr
      · iapply (BI.bigSep_intro_persistent (S := Finset.univ) fun (c : Dev nD) _ => (BI.Entails.refl (levAts L lv : sProp 𝕄)))
        iexact Hla
      iapply hghost
      isplitl [Hg] <;> iassumption
    · iempintro
  · -- each device's run: the first region, then the segments after it
    simp only [pre]
    obtain ⟨hpl, hnd'⟩ := List.nodup_cons.mp (hnd c)
    rw [hmain c, Seg.run]
    have hrest := fun Q' : PUnit → sProp 𝕄 => RDat.wp_segs pcs a (Dat.toRs pdats) ι phinj EP defs₀ 𝒱₀ L lv c (Q := Q')
      ((l c).map (Seg.toR pcs a pdats ι defs₀ 𝒱₀ L lv)) (Finset.univ.erase p) R.post
      (fun c => iprop(Tₙ c ∗ ∃ W, owes (c.tc : Thread nD τ) (0 : CellTallies nD τ sig Ix) W))
      (by rw [Seg.pipes_toR pcs a pdats ι defs₀ 𝒱₀ L lv (l c)]; exact hnd')
      (fun p' hp' => Finset.mem_erase.mpr ⟨fun h => hpl (by rw [Seg.pipes_toR pcs a pdats ι defs₀ 𝒱₀ L lv (l c)] at hp'; exact h ▸ hp'), Finset.mem_univ _⟩)
      ((hch c).toR pcs a pdats ι defs₀ 𝒱₀ L lv)
    rw [Seg.run_toR pcs a pdats ι defs₀ 𝒱₀ L lv (l c)] at hrest
    have hg : (ghostOn pcs a EP Finset.univ c : sProp 𝕄)
        = iprop((cellsGhost (pin pcs a) EP p c ∗ toksInit (pin pcs a) EP p c) ∗ ghostOn pcs a EP (Finset.univ.erase p) c) :=
      PerCore.ghostOn_erase pcs (fun _ => a) EP (Finset.mem_univ p) c
    rw [hg]
    iintro ⟨Hb, HT, #Hla, ⟨Hg, Ht⟩, Hgs⟩
    iapply (wp_first pcs a pdats ι phinj EP defs₀ 𝒱₀ L lv R hent c)
    isplitr [Hb HT Hg Ht]
    · iintro ⟨Hb, HT⟩
      iapply (hrest _)
      isplitr [Hb HT Hgs]
      · iintro ⟨Hb, HT, HW⟩
        unfold post
        simp only [liftTc_tc, fin]
        isplitl [HT Hb]
        · isplitl [HT] <;> iassumption
        · iexact HW
      · isplitl [Hb]; · iexact Hb
        isplitl [HT]; · iexact HT
        isplitr; · iexact Hla
        iexact Hgs
    · isplitl [Hb]; · iexact Hb
      isplitl [HT]; · iexact HT
      isplitr; · iexact Hla
      isplitl [Hg] <;> iassumption
  · -- the final states, read
    iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.TalkLaunch

end
-- ==== Proof.TalkSeg.lean ====
/-
# A kernel of one grid point and no window, as the first region of a program

Every communicating kernel proved here leaves its operands in HBM: it has no staged window and one grid point. For such
a kernel this module makes the region segment (`talkSeg`) that `TalkLaunch.θ_run_talk_first` runs first, from one
statement about the body: from a device's hand of the protocol, what it is owed, and its memory `mine`, the body ends
with every semaphore of the kernel at zero and the memory `done`. `launch_pre` makes the states in which the devices
enter it.
-/
module

public import proofs.«01_k».proof.Proof.OneShot
public import proofs.«01_k».proof.Proof.TalkLaunch

@[expose] public section

set_option Elab.async false

noncomputable section

namespace Cert.TalkSeg

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OneShot

variable {nD : ℕ} {τ : Topo} {sig : RefSig} {Val : EltTy → Type} {k : ℕ}

local notation "𝕄" => MT nD τ sig Unit Val ℕ (UU nD τ sig) ℕ

variable (p : Plan nD sig k) (pay : Dev nD → Fin k → sProp (MT nD τ sig Unit Val ℕ (UU nD τ sig) ℕ))

/-- What a device enters its body with, its memory apart. -/
def ready (c : Dev nD) : sProp 𝕄 :=
  iprop((∃ K, p.records pay K ∗ p.hand c) ∗ (bigSep p.owed fun i => cred (tallyAt (p.cell τ c i) () (p.amt i)))
    ∗ levAts (Plan.L nD τ sig) (p.lv τ))

/-- The kernel's semaphores, at zero. -/
def zeros (c : Dev nD) : sProp 𝕄 := bigSep Finset.univ fun i : Fin k => semVal (p.cell τ c i) 0

theorem launch_pre [Plan.Storables pay] (bufs mine : Dev nD → sProp 𝕄)
    (hm : bigSep Finset.univ bufs ⊢ bigSep Finset.univ mine) :
    iprop((bigSep Finset.univ fun c : Dev nD => iprop(ownSems0 p.sem c ∗ bufs c ∗ owes (c.tc : Thread nD τ) (p.owing τ p.owed c) ∅
          ∗ launchCred (p.owing τ p.owed) c ∗ p.G pay c)) ∗ levAts (Plan.L nD τ sig) (p.lv τ))
      ⊢ |={Set.univ}=> bigSep Finset.univ fun c : Dev nD => iprop(ready p pay c ∗ mine c ∗ ∃ W, owes (c.tc : Thread nD τ) (p.owing τ p.owed c) W) := by
  rw [bigSep_sep', bigSep_sep', bigSep_sep', bigSep_sep']
  iintro ⟨⟨Hs, Hb, HO, HC, HG⟩, #HL⟩
  ihave Hm := hm $$ Hb
  imod (p.deal pay) $$ [Hs HG] with ⟨%K, #HR, HH⟩
  · rw [bigSep_sep']
    isplitl [Hs]; · iexact Hs
    iexact HG
  imodintro
  ihave HC' := (show (bigSep Finset.univ fun c : Dev nD => (launchCred (p.owing τ p.owed) c : sProp 𝕄))
      ⊢ bigSep Finset.univ fun c : Dev nD => bigSep p.owed fun i => cred (tallyAt (p.cell τ c i) () (p.amt i)) from
    bigSep_mono fun c _ => p.creds c) $$ HC
  iapply (Plan.with_persistent (S := (Finset.univ : Finset (Dev nD))) (R := iprop(p.records pay K ∗ levAts (Plan.L nD τ sig) (p.lv τ)))
    (Φ := fun c => iprop(p.hand c ∗ (bigSep p.owed fun i => cred (tallyAt (p.cell τ c i) () (p.amt i))) ∗ mine c
      ∗ owes (c.tc : Thread nD τ) (p.owing τ p.owed c) ∅)) (fun c _ => by
    unfold ready
    iintro ⟨⟨#HR, #HL⟩, HH, HC, Hm, HO⟩
    isplitl [HH HC]
    · isplitl [HH]
      · iexists K
        isplitr; · iexact HR
        iexact HH
      isplitl [HC]; · iexact HC
      iexact HL
    isplitl [Hm]; · iexact Hm
    iexists ∅
    iexact HO))
  isplitr
  · isplitr; · iexact HR
    iexact HL
  simp only [bigSep_sep']
  isplitl [HH]; · iexact HH
  isplitl [HC']; · iexact HC'
  isplitl [Hm]; · iexact Hm
  iexact HO

theorem bigSep_none {n : ℕ} (h : n = 0) (Φ : Fin n → sProp 𝕄) : bigSep Finset.univ Φ = (BI.emp : sProp 𝕄) := by
  subst h
  exact bigSep_univ_eq_bigSepL [] (by decide) (by decide) Φ

theorem no_window {n : ℕ} (h : n = 0) (w : Fin n) : False := by
  subst h
  exact absurd w.2 (Nat.not_lt_zero _)

/-- A whole buffer is its places, when these are disjoint and cover it. -/
theorem pts_places {T : Type} [Fintype T] (ℓ : Loc nD τ sig) (P : T → Finset (Idx ℓ)) (hd : ∀ t t', t ≠ t' → Disjoint (P t) (P t'))
    (hu : ∀ x, ∃ t, x ∈ P t) (q : PosShare TreeShare) (f : Buf Val ℓ) :
    (ℓ ↦{q} f : sProp 𝕄) = bigSep Finset.univ fun t => ℓ ↦[P t]{q} f := by
  classical
  rw [← pointsTo_biUnion Finset.univ P fun t _ t' _ h => hd t t' h,
    show Finset.univ.biUnion P = Finset.univ from Finset.eq_univ_iff_forall.mpr fun x => Finset.mem_biUnion.mpr
      ((hu x).imp fun t h => ⟨Finset.mem_univ t, h⟩)]

variable {Λ₀ : Idealize.SL.Sem.Labels}

/-- The proof data of a kernel with no window: `start` before the body and `finish` after it; `O` owed before, nothing after. -/
def oneDat (cfg : Cfg sig Λ₀) (hW : cfg.W = 0) (c : Dev nD) (start finish : sProp 𝕄) (O : CellTallies nD τ sig Unit) :
    Dat τ Val Unit ℕ (UU nD τ sig) ℕ cfg c where
  A w := (no_window hW w).elim
  after w := (no_window hW w).elim
  Φ t := if t.val = 0 then start else finish
  q w := (no_window hW w).elim
  owed t := if t.val = 0 then O else 0

section Dat

variable {cfg : Cfg sig Λ₀} {hW : cfg.W = 0} {c : Dev nD} {start finish : sProp (MT nD τ sig Unit Val ℕ (UU nD τ sig) ℕ)}
  {O : CellTallies nD τ sig Unit}

theorem oneDat_inv (t : Fin (cfg.N + 1)) : (oneDat cfg hW c start finish O).Φ t = if t.val = 0 then start else finish := rfl

theorem oneDat_owed (t : Fin (cfg.N + 1)) : (oneDat cfg hW c start finish O).owed t = if t.val = 0 then O else 0 := rfl

theorem owesAt_intro (dat : Dat τ Val Unit ℕ (UU nD τ sig) ℕ cfg c) (hr : dat.recorded = fun _ => Set.univ) (t : Fin (cfg.N + 1)) :
    iprop(∃ W, owes (c : Thread nD τ) (dat.owed t) W) ⊢ dat.owesAt () t := by
  unfold Dat.owesAt owesWithin Dat.bound
  rw [hr]
  iintro ⟨%W, HO⟩
  iexists W
  isplitr
  · ipureintro
    exact fun _ _ => Or.inl trivial
  · iexact HO

theorem owesAt_elim (dat : Dat τ Val Unit ℕ (UU nD τ sig) ℕ cfg c) (t : Fin (cfg.N + 1)) :
    dat.owesAt () t ⊢ iprop(∃ W, owes (c : Thread nD τ) (dat.owed t) W) := by
  unfold Dat.owesAt owesWithin
  iintro ⟨%W, -, HO⟩
  iexists W
  iexact HO

/-- The body's obligation from its run; `R` goes around it. -/
theorem body_of (hN : cfg.N = 1) (R : sProp 𝕄) (defs₀ : Defs nD τ sig Val Λ₀) (𝒱₀ : Variants) (prog : Prog (TpuEff nD τ sig Val Λ₀ .tc) (Λ₀.Result cfg.body))
    (hp : ∀ t : Fin cfg.N, defs₀ .tc cfg.body (cfg.bodyArgs t (cfg.slots t)) = prog)
    (h : iprop(start ∗ ∃ W, owes (c : Thread nD τ) O W)
      ⊢ wp frame (wpE defs₀ 𝒱₀ c none) Set.univ prog fun _ => iprop(finish ∗ ∃ W, owes (c : Thread nD τ) 0 W)) :
    BodyObligationLoose (oneDat cfg hW c iprop(start ∗ R) iprop(finish ∗ R) O) defs₀ 𝒱₀ () Set.univ := by
  intro t
  have h0 : t.val = 0 := by have := t.2; omega
  have hs : (oneDat cfg hW c iprop(start ∗ R) iprop(finish ∗ R) O).Φ t.castSucc = iprop(start ∗ R) := by rw [oneDat_inv]; exact if_pos h0
  have hf : (oneDat cfg hW c iprop(start ∗ R) iprop(finish ∗ R) O).Φ t.succ = iprop(finish ∗ R) := by rw [oneDat_inv]; exact if_neg (Nat.succ_ne_zero t.val)
  have ho : (oneDat cfg hW c iprop(start ∗ R) iprop(finish ∗ R) O).owed t.castSucc = O := by rw [oneDat_owed]; exact if_pos h0
  have ho' : (oneDat cfg hW c iprop(start ∗ R) iprop(finish ∗ R) O).owed t.succ = 0 := by rw [oneDat_owed]; exact if_neg (Nat.succ_ne_zero t.val)
  rw [hp t, hs, hf, bigSep_none hW, bigSep_none hW]
  have hi := owesAt_elim (oneDat cfg hW c iprop(start ∗ R) iprop(finish ∗ R) O) t.castSucc
  have he := owesAt_intro (oneDat cfg hW c iprop(start ∗ R) iprop(finish ∗ R) O) rfl t.succ
  rw [ho] at hi
  rw [ho'] at he
  refine (show _ ⊢ iprop(R ∗ (start ∗ ∃ W, owes (c : Thread nD τ) O W)) from ?_).trans ((sep_mono .rfl h).trans ((wp_frame_l _ _ _).trans ?_))
  · iintro ⟨⟨H, HR⟩, HO, -⟩
    isplitl [HR]; · iexact HR
    isplitl [H]; · iexact H
    iapply hi
    iexact HO
  · apply wp_mono
    intro _
    iintro ⟨HR, H, HO⟩
    isplitl [H HR]
    · isplitl [H] <;> iassumption
    isplitl [HO]
    · iapply he
      iexact HO
    · iempintro

end Dat

section Seg

variable {P : Type} [Fintype P] [DecidableEq P] [∀ e, Nonempty (Val e)]
variable (pcs : P → PCfg sig Λ₀ Val) (a : (p : P) → (pcs p).Adm)
  (pdats : (q : P) → (c : Dev nD) → Dat τ Val Unit ℕ (UU nD τ sig) ℕ (pin pcs a q) c)
  (defs₀ : Defs nD τ sig Val Λ₀) (𝒱₀ : Variants)

/-- The proof data of such a kernel: the body takes a device's hand and `mine` to semaphores at zero and `finish`; the
    scoped buffers of the program's other kernels go around it. -/
abbrev talkDat (cfg : Cfg sig Λ₀) (hW : cfg.W = 0) (mine finish : Dev nD → sProp 𝕄) (c : Dev nD) : Dat τ Val Unit ℕ (UU nD τ sig) ℕ cfg c :=
  oneDat cfg hW c iprop((ready p pay c ∗ mine c) ∗ scopedRest cfg.spec c) iprop((zeros p c ∗ finish c) ∗ scopedRest cfg.spec c) (p.owing τ p.owed c)

/-- What the region's entry is sorted into; it needs no counter of the kernel's semaphores. -/
theorem entry_of {q : P} (hW : (pin pcs a q).W = 0) (hK : (pcs q).pre.K = 0) (mine finish rest : Dev nD → sProp 𝕄)
    (hd : ∀ c, pdats q c = talkDat p pay (pin pcs a q) hW mine finish c)
    (c : Dev nD) :
    iprop(ready p pay c ∗ (mine c ∗ rest c) ∗ ∃ W, owes (c : Thread nD τ) (p.owing τ p.owed c) W)
      ⊢ |={Set.univ}=> iprop((pdats q c).arrays ((pdats q c).arrAt · 0) ∗ prefHeld (pcs q).pre c (fun _ => fullShare) (a q).1
        ∗ (pdats q c).owesAt () 0 ∗ iprop(ready p pay c ∗ mine c) ∗ rest c) := by
  have e := owesAt_intro (pdats q c) (by rw [hd c]; rfl) 0
  have h0 : (pdats q c).owed 0 = p.owing τ p.owed c := by rw [hd c, oneDat_owed]; exact if_pos rfl
  rw [h0] at e
  rw [show ((pdats q c).arrays ((pdats q c).arrAt · 0) : sProp 𝕄) = BI.emp from bigSep_none hW _,
    show (prefHeld (pcs q).pre c (fun _ => fullShare) (a q).1 : sProp 𝕄) = BI.emp from bigSep_none hK _]
  iintro ⟨Hr, ⟨Hm, Hz⟩, HO⟩
  imodintro
  isplitr; · iempintro
  isplitr; · iempintro
  isplitl [HO]; · iapply e; iexact HO
  isplitr [Hz]
  · isplitl [Hr] <;> iassumption
  · iexact Hz

/-- The region segment of such a kernel; `rest` goes around it. -/
def talkSeg {q : P} (hW : (pin pcs a q).W = 0) (hN : (pin pcs a q).N = 1) (hK : (pcs q).pre.K = 0)
    (win : WinFacts₀ (pcs q).spec) (ho : OwnSemFacts (pcs q).spec p.sem)
    (mine finish rest : Dev nD → sProp 𝕄)
    (hd : ∀ c, pdats q c = talkDat p pay (pin pcs a q) hW mine finish c)
    (hbody : ∀ c : Dev nD, BodyObligationLoose (talkDat p pay (pin pcs a q) hW mine finish c) defs₀ 𝒱₀ () Set.univ) :
    RegionSeg pcs a pdats () defs₀ 𝒱₀ (Plan.L nD τ sig) (p.lv τ) q where
  win := win
  block_pos w := (no_window hW w).elim
  stage_whole w := (no_window hW w).elim
  K := Fin k
  osem := p.sem
  ho := ho
  hbody c := by
    rw [hd c]
    exact hbody c
  hwaits c := cellsWaits_intro _ pdats () q c fun w => (no_window hW w).elim
  pre c := iprop(ready p pay c ∗ (mine c ∗ rest c) ∗ ∃ W, owes (c : Thread nD τ) (p.owing τ p.owed c) W)
  post c := iprop((finish c ∗ rest c) ∗ ∃ W, owes (c : Thread nD τ) 0 W)
  X c := iprop(ready p pay c ∗ mine c)
  Y c := finish c
  Z c := rest c
  hentry c := by
    iintro ⟨H, -, #HL⟩
    iapply (entry_of p pay pcs a pdats hW hK mine finish rest hd c)
    iexact H
  hin c := by
    rw [show (pdats q c).Φ 0 = iprop((ready p pay c ∗ mine c) ∗ scopedRest (pin pcs a q).spec c) by rw [hd c, oneDat_inv]; exact if_pos rfl]
    iintro ⟨H, -, HR⟩
    isplitl [H] <;> iassumption
  hout c := by
    rw [show (pdats q c).Φ (Fin.last (pin pcs a q).N) = iprop((zeros p c ∗ finish c) ∗ scopedRest (pin pcs a q).spec c) by
      rw [hd c, oneDat_inv]; exact if_neg (by rw [Fin.val_last, hN]; decide)]
    iintro ⟨⟨Hz, Hf⟩, HR⟩
    isplitl [Hf]; · iexact Hf
    isplitl [Hz]
    · unfold zeros ownSems0; iexact Hz
    · iexact HR
  hexit c := by
    have e := owesAt_elim (pdats q c) (Fin.last (pin pcs a q).N)
    have h0 : (pdats q c).owed (Fin.last (pin pcs a q).N) = 0 := by rw [hd c, oneDat_owed]; exact if_neg (by rw [Fin.val_last, hN]; decide)
    rw [h0] at e
    iintro ⟨-, HO, Hf, Hz⟩
    imodintro
    isplitl [Hf Hz]
    · isplitl [Hf] <;> iassumption
    · iapply e; iexact HO

/-- THE RUN of a program whose first region is such a kernel: the devices' unscoped buffers are dealt out (`hm`), the
    segments after the region chain from its end to `Tₙ`, and what `hfin` reads off `Tₙ` holds of every final state,
    whose scoped counters are zero. -/
theorem θ_run_talk [Plan.Storables pay] (phinj : Function.Injective (cellOf (nD := nD) (τ := τ) (pin pcs a)))
    {q : P} (hW : (pin pcs a q).W = 0) (hN : (pin pcs a q).N = 1) (hK : (pcs q).pre.K = 0)
    (win : WinFacts₀ (pcs q).spec) (ho : OwnSemFacts (pcs q).spec p.sem)
    (mine finish rest : Dev nD → sProp 𝕄)
    (hd : ∀ c, pdats q c = talkDat p pay (pin pcs a q) hW mine finish c)
    (hbody : ∀ c : Dev nD, BodyObligationLoose (talkDat p pay (pin pcs a q) hW mine finish c) defs₀ 𝒱₀ () Set.univ)
    (m : (ℓ : Loc nD τ sig) → Buf Val ℓ) (g : Dev nD → PrngReg)
    (main : Dev nD → Prog (TpuEff nD τ sig Val (Sig Λ₀ P fun p => (pcs p).Adm) .tc) PUnit)
    (l : Dev nD → List (Seg pcs a pdats () defs₀ 𝒱₀ (Plan.L nD τ sig) (p.lv τ)))
    (hmain : ∀ c, main c = Seg.run (.region (talkSeg p pay pcs a pdats defs₀ 𝒱₀ hW hN hK win ho mine finish rest hd hbody) :: l c))
    (hnd : ∀ c, (q :: Seg.pipes (l c)).Nodup)
    (hm : (bigSep Finset.univ fun c : Dev nD => (unscopedBufs c (fun b => m ((c.tc : Thread nD τ).loc b)) : sProp 𝕄))
      ⊢ bigSep Finset.univ fun c => iprop(mine c ∗ rest c))
    (Tₙ : Dev nD → sProp 𝕄)
    (hch : ∀ c, Seg.ChainsAt c (fun c => iprop((finish c ∗ rest c) ∗ ∃ W, owes (c.tc : Thread nD τ) (0 : CellTallies nD τ sig Unit) W)) (l c)
      fun c => iprop(Tₙ c ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q :=
  TalkLaunch.θ_run_talk_first pcs a pdats () phinj OneShot.EP defs₀ 𝒱₀ (Plan.L nD τ sig) (p.lv τ)
    (talkSeg p pay pcs a pdats defs₀ 𝒱₀ hW hN hK win ho mine finish rest hd hbody)
    (hent := fun c => by
      show iprop(iprop(ready p pay c ∗ (mine c ∗ rest c) ∗ ∃ W, owes (c : Thread nD τ) (p.owing τ p.owed c) W) ∗ levAts (Plan.L nD τ sig) (p.lv τ)) ⊢ _
      iintro ⟨H, -⟩
      iapply (entry_of p pay pcs a pdats hW hK mine finish rest hd c)
      iexact H)
    (m := m) (g := g) (main := main) (l := l) (hmain := hmain) (hnd := hnd) (O₀ := p.owing τ p.owed) (hL := Plan.L_other) (G := p.G pay)
    (u₀ := (initOf (cells (pin pcs a) phinj) (launchToks (pin pcs a) phinj), initOf (p.cells τ) (p.toks τ)))
    (hu₀ := by
      iintro Hu
      ihave H := (ownU_pair _ _) $$ Hu
      icases H with ⟨HP, HX⟩
      imod (p.fund pay) $$ HX with HG
      imodintro
      isplitl [HP] <;> iassumption)
    (Tₙ := Tₙ) (hglob := launch_pre p pay _ (fun c => iprop(mine c ∗ rest c)) hm) (hch := hch) (QY := QY) (hfin := hfin) (hQ := hQ)

end Seg

end Cert.TalkSeg

end
-- ==== Proof.Weights.lean ====
/-
# Every device collects every chip's shard of the weights: the run

`WeightsIdeal` is the call `gather_weights`. A chip holds one shard, the same on both of its cores, in two halves. Device
`c` copies its shard into its chip's row of its own result; sends half `c % 2` of it to the same core of the three other
chips; and passes each half that arrives so on to its sibling, the other core of its chip.

The protocol, per device, `j` one of the three other chips: semaphore `j` is credited by the source side of the send to
chip `j`; semaphore `3 + j` by the landing of the half chip `j` sends; semaphore `6 + j` by the source side of that half
passed on; semaphore `9 + j` by the landing of the other half of chip `j`'s shard, passed on by the sibling; semaphore 12
by the local copy. A landing gives the place of the result it fills, a source side gives what was read back. The waits
for landings at `3 + j` come first, while the landings at `9 + j` of the sibling are still owed: the latter's level is higher.

`body_run`: a device's argument is unchanged, its result holds the device's own shard in its chip's row and, in the row
of any other chip, half `h` as core `h` of that chip has it (`done`).
-/
module

public import proofs.«01_k».proof.Proof.TalkSeg
public import proofs.«01_k».proof.Proof.Gen.WeightsIdeal
public import proofs.«01_k».proof.Proof.Gen.WeightsIdeal.Skeleton
public import proofs.«01_k».proof.Proof.Gen.WeightsIdeal.Launch

@[expose] public section

set_option maxRecDepth 16384
set_option Elab.async false

noncomputable section

namespace Cert.WeightsProof

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem
open Cert.WeightsIdeal Cert.WeightsIdeal.Gen Cert.OneShot Cert.TalkSeg Cert.TalkLaunch

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## Devices -/

/-- A device's chip, its core on the chip, the other core, and the device of the other core. -/
def chip (c : Dev nD) : Fin 4 := ⟨c.val / 2, by revert c; decide⟩
def core (c : Dev nD) : Fin 2 := ⟨c.val % 2, Nat.mod_lt _ (by decide)⟩
def oth (c : Dev nD) : Fin 2 := ⟨1 - c.val % 2, by omega⟩
def sib (c : Dev nD) : Dev nD := ⟨(4 * (c.val / 4) + 2 * ((c.val / 2) % 2) + 1) - (c.val % 2), by revert c; decide⟩

/-- The same core of another chip: of the one across the first axis, the second axis, both. -/
def far (j : Fin 3) (c : Dev nD) : Dev nD := match j with
  | 0 => ⟨(c.val + 4) % 8, by revert c; decide⟩
  | 1 => ⟨4 * (c.val / 4) + (c.val % 4 + 2) % 4, by revert c; decide⟩
  | 2 => ⟨2 * (3 - c.val / 2) + c.val % 2, by revert c; decide⟩

/-- Its chip. -/
abbrev chipOf (j : Fin 3) (c : Dev nD) : Fin 4 := chip (far j c)

theorem sib_sib (c : Dev nD) : sib (sib c) = c := by revert c; decide
theorem far_far (j : Fin 3) (c : Dev nD) : far j (far j c) = c := by revert j c; decide
theorem core_sib (c : Dev nD) : core (sib c) = oth c := by revert c; decide
theorem oth_sib (c : Dev nD) : oth (sib c) = core c := by revert c; decide
theorem core_far (j : Fin 3) (c : Dev nD) : core (far j c) = core c := by revert j c; decide
theorem chip_far_sib (j : Fin 3) (c : Dev nD) : chipOf j (sib c) = chipOf j c := by revert j c; decide
theorem core_far_sib (j : Fin 3) (c : Dev nD) : core (far j (sib c)) = oth c := by revert j c; decide
theorem chips_list (c : Dev nD) : Finset.univ = [chip c, chipOf 0 c, chipOf 1 c, chipOf 2 c].toFinset ∧ [chip c, chipOf 0 c, chipOf 1 c, chipOf 2 c].Nodup := by
  revert c; decide
theorem cores_list (c : Dev nD) : Finset.univ = [core c, oth c].toFinset ∧ [core c, oth c].Nodup := by revert c; decide

def sibs : Equiv.Perm (Dev nD) := ⟨sib, sib, sib_sib, sib_sib⟩
def fars (j : Fin 3) : Equiv.Perm (Dev nD) := ⟨far j, far j, far_far j, far_far j⟩

theorem off1 (c : Dev nD) : k0_off1 c = ![(chip c).val, 0, 0, 0] := by rw [k0_off1_eq]; revert c; decide
theorem off2 (c : Dev nD) : k0_off2 c = ![(chip c).val, (core c).val, 0, 0] := by rw [k0_off2_eq]; revert c; decide
theorem off3 (c : Dev nD) : k0_off3 c = ![(core c).val, 0, 0] := k0_off3_eq c
theorem off4 (c : Dev nD) : k0_off4 c = ![(chipOf 0 c).val, (core c).val, 0, 0] := by rw [k0_off4_eq]; revert c; decide
theorem off5 (c : Dev nD) : k0_off5 c = ![(chipOf 1 c).val, (core c).val, 0, 0] := by rw [k0_off5_eq]; revert c; decide
theorem off6 (c : Dev nD) : k0_off6 c = ![(chipOf 2 c).val, (core c).val, 0, 0] := by rw [k0_off6_eq]; revert c; decide
theorem dev1 (c : Dev nD) : k0_dev1 c = (far 0 c).val := by rw [k0_dev1_eq]; revert c; decide
theorem dev2 (c : Dev nD) : k0_dev2 c = (far 1 c).val := by rw [k0_dev2_eq]; revert c; decide
theorem dev3 (c : Dev nD) : k0_dev3 c = (far 2 c).val := by rw [k0_dev3_eq]; revert c; decide

/-! ## Places -/

/-- Device `c`'s argument buffer and result buffer. -/
abbrev inL (c : Dev nD) : Loc nD τ sig := (c.tc : Thread nD τ).loc main_arg0
abbrev outL (c : Dev nD) : Loc nD τ sig := (c.tc : Thread nD τ).loc main_v1

abbrev aM : Memref sig .tc .hbm S2x3328x1024 .bf16 := Memref.whole main_arg0

/-- The half of the argument, the part of the result and the row of the result at an offset. -/
abbrev half (off : Fin 3 → ℕ) (inb : ∀ a, off a + S1x3328x1024.size a ≤ S2x3328x1024.size a) : Memref sig .tc .hbm S3328x1024 .bf16 :=
  ((Memref.whole main_arg0 : Memref sig .tc .hbm S2x3328x1024 .bf16).slice (Rect.unit (s := S2x3328x1024) off S1x3328x1024.size inb) (fun _ => rfl)).squeeze
    S3328x1024 squeezes_S1x3328x1024_S3328x1024
abbrev part (off : Fin 4 → ℕ) (inb : ∀ a, off a + S1x1x3328x1024.size a ≤ S4x2x3328x1024.size a) : Memref sig .tc .hbm S3328x1024 .bf16 :=
  ((Memref.whole main_v1 : Memref sig .tc .hbm S4x2x3328x1024 .bf16).slice (Rect.unit (s := S4x2x3328x1024) off S1x1x3328x1024.size inb) (fun _ => rfl)).squeeze
    S3328x1024 squeezes_S1x1x3328x1024_S3328x1024
abbrev line (off : Fin 4 → ℕ) (inb : ∀ a, off a + S1x2x3328x1024.size a ≤ S4x2x3328x1024.size a) : Memref sig .tc .hbm S2x3328x1024 .bf16 :=
  ((Memref.whole main_v1 : Memref sig .tc .hbm S4x2x3328x1024 .bf16).slice (Rect.unit (s := S4x2x3328x1024) off S1x2x3328x1024.size inb) (fun _ => rfl)).squeeze
    S2x3328x1024 squeezes_S1x2x3328x1024_S2x3328x1024

theorem half_inb (h : Fin 2) : ∀ a, (![h.val, 0, 0] : Fin 3 → ℕ) a + S1x3328x1024.size a ≤ S2x3328x1024.size a := by revert h; decide
theorem place_inb (t : Fin 4) (h : Fin 2) : ∀ a, (![t.val, h.val, 0, 0] : Fin 4 → ℕ) a + S1x1x3328x1024.size a ≤ S4x2x3328x1024.size a := by revert t h; decide
theorem row_inb (t : Fin 4) : ∀ a, (![t.val, 0, 0, 0] : Fin 4 → ℕ) a + S1x2x3328x1024.size a ≤ S4x2x3328x1024.size a := by revert t; decide

/-- Half `h` of the argument; place `h` of row `t` of the result; row `t` of the result. -/
def srcHalf (h : Fin 2) : View sig .tc .hbm S3328x1024 .bf16 := (half ![h.val, 0, 0] (half_inb h)).view
def place (t : Fin 4) (h : Fin 2) : View sig .tc .hbm S3328x1024 .bf16 := (part ![t.val, h.val, 0, 0] (place_inb t h)).view
def row (t : Fin 4) : View sig .tc .hbm S2x3328x1024 .bf16 := (line ![t.val, 0, 0, 0] (row_inb t)).view

/-- Their elements, on device `c`. -/
def srcElts (c : Dev nD) (h : Fin 2) : Finset (Idx (inL c)) := (srcHalf h).set
def elts (c : Dev nD) (t : Fin 4) (h : Fin 2) : Finset (Idx (outL c)) := (place t h).set
def rowElts (c : Dev nD) (t : Fin 4) : Finset (Idx (outL c)) := (row t).set

/-- Device `c`'s argument; the result with half `h` of the argument of `d` at place `h` of row `t`, or with the argument
    of `d` in row `t`. -/
abbrev arg (c : Dev nD) : Buf (Elt F) (inL c) := m (inL c)
def filled (c : Dev nD) (t : Fin 4) (h : Fin 2) (d : Dev nD) : Buf (Elt F) (outL c) :=
  (place t h).write (Elt F) (m (outL c)) ((srcHalf h).read (Elt F) (arg m d)) Finset.univ
def rowFilled (c : Dev nD) (t : Fin 4) (d : Dev nD) : Buf (Elt F) (outL c) :=
  (row t).write (Elt F) (m (outL c)) (aM.view.read (Elt F) (arg m d)) Finset.univ

/-- A share of the argument, of a half of it; a place of the result, a row of it, at contents `f`. -/
def argPts (c : Dev nD) (q : PosShare TreeShare) : sProp 𝕄 := inL c ↦{q} arg m c
def srcPts (c : Dev nD) (h : Fin 2) (q : PosShare TreeShare) : sProp 𝕄 := inL c ↦[srcElts c h]{q} arg m c
def outPts (c : Dev nD) (t : Fin 4) (h : Fin 2) (f : Buf (Elt F) (outL c)) : sProp 𝕄 := outL c ↦[elts c t h]{fullShare} f
def rowPts (c : Dev nD) (t : Fin 4) (f : Buf (Elt F) (outL c)) : sProp 𝕄 := outL c ↦[rowElts c t]{fullShare} f

theorem arg_pts (c : Dev nD) (q : PosShare TreeShare) :
    (aM.view.loc (c : Thread nD τ) ↦[aM.view.set]{q} arg m c : sProp 𝕄) = argPts m c q := by
  unfold argPts
  rw [show aM.view.set = Finset.univ from View.set_whole _]

theorem half_pts {off : Fin 3 → ℕ} {inb} {h : Fin 2} (e : off = ![h.val, 0, 0]) (c : Dev nD) (q : PosShare TreeShare) :
    ((half off inb).view.loc (c : Thread nD τ) ↦[(half off inb).view.set]{q} arg m c : sProp 𝕄) = srcPts m c h q := by
  subst e
  rfl

theorem part_pts {off : Fin 4 → ℕ} {inb} {t : Fin 4} {h : Fin 2} (e : off = ![t.val, h.val, 0, 0]) (c : Dev nD) (f : Buf (Elt F) (outL c)) :
    ((part off inb).view.loc (c : Thread nD τ) ↦[(part off inb).view.set]{fullShare} f : sProp 𝕄) = outPts c t h f := by
  subst e
  rfl

theorem line_pts {off : Fin 4 → ℕ} {inb} {t : Fin 4} (e : off = ![t.val, 0, 0, 0]) (c : Dev nD) (f : Buf (Elt F) (outL c)) :
    ((line off inb).view.loc (c : Thread nD τ) ↦[(line off inb).view.set]{fullShare} f : sProp 𝕄) = rowPts c t f := by
  subst e
  rfl

theorem line_written {off : Fin 4 → ℕ} {inb} {t : Fin 4} (e : off = ![t.val, 0, 0, 0]) (c d : Dev nD) :
    ((line off inb).view.loc (c : Thread nD τ) ↦[(line off inb).view.set]{fullShare}
      (line off inb).view.write (Elt F) (m (outL c)) (aM.view.read (Elt F) (arg m d)) Finset.univ : sProp 𝕄)
      = rowPts c t (rowFilled m c t d) := by
  subst e
  rfl

/-- A place written from a half of an argument. -/
theorem part_sent {off : Fin 4 → ℕ} {inb} {t : Fin 4} {h : Fin 2} {off' : Fin 3 → ℕ} {inb'} (e : off = ![t.val, h.val, 0, 0])
    (e' : off' = ![h.val, 0, 0]) (c d : Dev nD) :
    ((part off inb).view.loc (c : Thread nD τ) ↦[(part off inb).view.set]{fullShare}
      (part off inb).view.write (Elt F) (m (outL c)) ((half off' inb').view.read (Elt F) (arg m d)) Finset.univ : sProp 𝕄)
      = outPts c t h (filled m c t h d) := by
  subst e e'
  rfl

/-- What a place of the result, filled, reads. -/
theorem read_filled (c : Dev nD) (t : Fin 4) (h : Fin 2) (d : Dev nD) (g : Buf (Elt F) (outL c)) (e : ∀ x ∈ elts c t h, g x = filled m c t h d x) :
    (place t h).read (Elt F) g = (srcHalf h).read (Elt F) (arg m d) :=
  (View.read_congr (v := place t h) e).trans (View.read_write_univ _ _)

theorem read_rowFilled (c : Dev nD) (t : Fin 4) (d : Dev nD) (g : Buf (Elt F) (outL c)) (e : ∀ x ∈ rowElts c t, g x = rowFilled m c t d x) :
    (row t).read (Elt F) g = aM.view.read (Elt F) (arg m d) :=
  (View.read_congr (v := row t) e).trans (View.read_write_univ _ _)

/-- A place written from the same place of another device's result, itself filled. -/
theorem part_passed {off : Fin 4 → ℕ} {inb} {t : Fin 4} {h : Fin 2} (e : off = ![t.val, h.val, 0, 0]) (c c' d : Dev nD) :
    ((part off inb).view.loc (c : Thread nD τ) ↦[(part off inb).view.set]{fullShare}
      (part off inb).view.write (Elt F) (m (outL c)) ((part off inb).view.read (Elt F) (filled m c' t h d)) Finset.univ : sProp 𝕄)
      = outPts c t h (filled m c t h d) := by
  subst e
  rw [show (part ![t.val, h.val, 0, 0] inb).view.read (Elt F) (filled m c' t h d) = (srcHalf h).read (Elt F) (arg m d) from
    read_filled m c' t h d _ fun _ _ => rfl]
  rfl

/-! ## The plan -/

/-- The shares of the argument: the local copy's and the three sends'. -/
abbrev q0 : PosShare TreeShare := fullShare.left
abbrev q1 : PosShare TreeShare := fullShare.right.left
abbrev q2 : PosShare TreeShare := fullShare.right.right.left
abbrev q3 : PosShare TreeShare := fullShare.right.right.right

def plan : Plan nD sig 13 where
  sem i := .dma i
  inj := by decide
  amt i := if i = 12 then aM.view.dmaCredit else (place 0 0).dmaCredit
  pos i := by
    split
    · exact View.dmaCredit_pos _ (by decide)
    · exact View.dmaCredit_pos _ (by decide)
  peer := fun | 3 => fars 0 | 4 => fars 1 | 5 => fars 2 | 9 => sibs | 10 => sibs | 11 => sibs | _ => Equiv.refl _
  owed := {3, 4, 5, 9, 10, 11}
  lvl i := if 9 ≤ i then 1 else 0

def pay (c : Dev nD) : Fin 13 → sProp 𝕄
  | 0 => srcPts m c (core c) q1
  | 1 => srcPts m c (core c) q2
  | 2 => srcPts m c (core c) q3
  | 3 => outPts c (chipOf 0 c) (core c) (filled m c (chipOf 0 c) (core c) (far 0 c))
  | 4 => outPts c (chipOf 1 c) (core c) (filled m c (chipOf 1 c) (core c) (far 1 c))
  | 5 => outPts c (chipOf 2 c) (core c) (filled m c (chipOf 2 c) (core c) (far 2 c))
  | 6 => outPts c (chipOf 0 c) (core c) (filled m c (chipOf 0 c) (core c) (far 0 c))
  | 7 => outPts c (chipOf 1 c) (core c) (filled m c (chipOf 1 c) (core c) (far 1 c))
  | 8 => outPts c (chipOf 2 c) (core c) (filled m c (chipOf 2 c) (core c) (far 2 c))
  | 9 => outPts c (chipOf 0 c) (oth c) (filled m c (chipOf 0 c) (oth c) (far 0 (sib c)))
  | 10 => outPts c (chipOf 1 c) (oth c) (filled m c (chipOf 1 c) (oth c) (far 1 (sib c)))
  | 11 => outPts c (chipOf 2 c) (oth c) (filled m c (chipOf 2 c) (oth c) (far 2 (sib c)))
  | 12 => iprop(rowPts c (chip c) (rowFilled m c (chip c) c) ∗ argPts m c q0)

instance (c : Dev nD) (t : Fin 4) (h : Fin 2) (f : Buf (Elt F) (outL c)) : BI.Storable (upEmb : UEmb _ 𝕄) (outPts c t h f) := by
  unfold outPts
  infer_instance
instance (c : Dev nD) (t : Fin 4) (f : Buf (Elt F) (outL c)) : BI.Storable (upEmb : UEmb _ 𝕄) (rowPts c t f) := by
  unfold rowPts
  infer_instance
instance (c : Dev nD) (h : Fin 2) (q : PosShare TreeShare) : BI.Storable (upEmb : UEmb _ 𝕄) (srcPts m c h q) := by unfold srcPts; infer_instance
instance (c : Dev nD) (q : PosShare TreeShare) : BI.Storable (upEmb : UEmb _ 𝕄) (argPts m c q) := by unfold argPts; infer_instance

instance : Plan.Storables (pay m) where
  storable c i := by
    fin_cases i
    all_goals first
      | exact (inferInstance : BI.Storable (upEmb : UEmb _ 𝕄) (srcPts m c (core c) _))
      | exact (inferInstance : BI.Storable (upEmb : UEmb _ 𝕄) (outPts c _ _ _))
      | exact (inferInstance : BI.Storable (upEmb : UEmb _ 𝕄) iprop(rowPts c (chip c) (rowFilled m c (chip c) c) ∗ argPts m c q0))

/-! ## The body -/

/-- What device `c` works on: its argument (the half it sends in three shares), its own row of its result, and the
    places of the others' results it sends to. -/
def mine (c : Dev nD) : sProp 𝕄 :=
  iprop(argPts m c q0 ∗ srcPts m c (core c) q1 ∗ srcPts m c (core c) q2 ∗ srcPts m c (core c) q3 ∗ rowPts c (chip c) (m (outL c))
    ∗ outPts (far 0 c) (chip c) (core c) (m (outL (far 0 c))) ∗ outPts (far 1 c) (chip c) (core c) (m (outL (far 1 c)))
    ∗ outPts (far 2 c) (chip c) (core c) (m (outL (far 2 c)))
    ∗ outPts (sib c) (chipOf 0 c) (core c) (m (outL (sib c))) ∗ outPts (sib c) (chipOf 1 c) (core c) (m (outL (sib c)))
    ∗ outPts (sib c) (chipOf 2 c) (core c) (m (outL (sib c))))

def done (c : Dev nD) : sProp 𝕄 :=
  iprop(argPts m c q0 ∗ rowPts c (chip c) (rowFilled m c (chip c) c)
    ∗ outPts c (chipOf 0 c) (core c) (filled m c (chipOf 0 c) (core c) (far 0 c))
    ∗ outPts c (chipOf 1 c) (core c) (filled m c (chipOf 1 c) (core c) (far 1 c))
    ∗ outPts c (chipOf 2 c) (core c) (filled m c (chipOf 2 c) (core c) (far 2 c))
    ∗ outPts c (chipOf 0 c) (oth c) (filled m c (chipOf 0 c) (oth c) (far 0 (sib c)))
    ∗ outPts c (chipOf 1 c) (oth c) (filled m c (chipOf 1 c) (oth c) (far 1 (sib c)))
    ∗ outPts c (chipOf 2 c) (oth c) (filled m c (chipOf 2 c) (oth c) (far 2 (sib c))))

abbrev 𝒱₀ : Variants := Variants.none

abbrev body : Prog (TpuEff nD τ sig (Elt F) Λ₀ .tc) PUnit :=
  cc0_gather_weights (Memref.whole main_arg0) (Memref.isWhole_whole _) (Memref.whole main_v1) (Memref.isWhole_whole _)
    cc0_scratch0 cc0_scratch1 cc0_scratch2 cc0_scratch3 cc0_scratch4

theorem hand_eq (c : Dev nD) : plan.hand (τ := τ) (Val := Elt F) c
    = iprop((atPos ER (plan.cell τ c 0) 0 ∅ 0 ∗ atPos ER (plan.cell τ c 1) 0 ∅ 0 ∗ atPos ER (plan.cell τ c 2) 0 ∅ 0 ∗ atPos ER (plan.cell τ c 3) 0 ∅ 0 ∗ atPos ER (plan.cell τ c 4) 0 ∅ 0 ∗ atPos ER (plan.cell τ c 5) 0 ∅ 0 ∗ atPos ER (plan.cell τ c 6) 0 ∅ 0 ∗ atPos ER (plan.cell τ c 7) 0 ∅ 0 ∗ atPos ER (plan.cell τ c 8) 0 ∅ 0 ∗ atPos ER (plan.cell τ c 9) 0 ∅ 0 ∗ atPos ER (plan.cell τ c 10) 0 ∅ 0 ∗ atPos ER (plan.cell τ c 11) 0 ∅ 0 ∗ atPos ER (plan.cell τ c 12) 0 ∅ 0)
      ∗ dutyTok ER (plan.cell τ (plan.peer 0 c) 0) 0 () ∗ dutyTok ER (plan.cell τ (plan.peer 1 c) 1) 0 () ∗ dutyTok ER (plan.cell τ (plan.peer 2 c) 2) 0 () ∗ dutyTok ER (plan.cell τ (plan.peer 3 c) 3) 0 () ∗ dutyTok ER (plan.cell τ (plan.peer 4 c) 4) 0 () ∗ dutyTok ER (plan.cell τ (plan.peer 5 c) 5) 0 () ∗ dutyTok ER (plan.cell τ (plan.peer 6 c) 6) 0 () ∗ dutyTok ER (plan.cell τ (plan.peer 7 c) 7) 0 () ∗ dutyTok ER (plan.cell τ (plan.peer 8 c) 8) 0 () ∗ dutyTok ER (plan.cell τ (plan.peer 9 c) 9) 0 () ∗ dutyTok ER (plan.cell τ (plan.peer 10 c) 10) 0 () ∗ dutyTok ER (plan.cell τ (plan.peer 11 c) 11) 0 () ∗ dutyTok ER (plan.cell τ (plan.peer 12 c) 12) 0 ()) := by
  unfold Plan.hand
  rw [bigSep_univ_eq_bigSepL [0, 1, 2, 3, 4, 5, 6, 7, 8, 9, 10, 11, 12] (by decide) (by decide), bigSep_univ_eq_bigSepL [0, 1, 2, 3, 4, 5, 6, 7, 8, 9, 10, 11, 12] (by decide) (by decide)]
  rfl

theorem zeros_eq (c : Dev nD) : zeros (τ := τ) (Val := Elt F) plan c
    = iprop(semVal (plan.cell τ c 0) 0 ∗ semVal (plan.cell τ c 1) 0 ∗ semVal (plan.cell τ c 2) 0 ∗ semVal (plan.cell τ c 3) 0 ∗ semVal (plan.cell τ c 4) 0 ∗ semVal (plan.cell τ c 5) 0 ∗ semVal (plan.cell τ c 6) 0 ∗ semVal (plan.cell τ c 7) 0 ∗ semVal (plan.cell τ c 8) 0 ∗ semVal (plan.cell τ c 9) 0 ∗ semVal (plan.cell τ c 10) 0 ∗ semVal (plan.cell τ c 11) 0 ∗ semVal (plan.cell τ c 12) 0) := by
  unfold zeros
  rw [bigSep_univ_eq_bigSepL [0, 1, 2, 3, 4, 5, 6, 7, 8, 9, 10, 11, 12] (by decide) (by decide)]
  rfl

theorem creds_eq (c : Dev nD) : (bigSep plan.owed fun i => (cred (tallyAt (plan.cell τ c i) () (plan.amt i)) : sProp 𝕄))
    = iprop(cred (tallyAt (plan.cell τ c 3) () (plan.amt 3)) ∗ cred (tallyAt (plan.cell τ c 4) () (plan.amt 4)) ∗ cred (tallyAt (plan.cell τ c 5) () (plan.amt 5)) ∗ cred (tallyAt (plan.cell τ c 9) () (plan.amt 9)) ∗ cred (tallyAt (plan.cell τ c 10) () (plan.amt 10)) ∗ cred (tallyAt (plan.cell τ c 11) () (plan.amt 11))) := by
  rw [bigSep_eq_bigSepL_of_eq [3, 4, 5, 9, 10, 11] (by decide) (by decide)]
  rfl

/-- What is still owed after the sends to the chips and each half passed on. -/
abbrev owed1 : Finset (Fin 13) := plan.owed.erase 3
abbrev owed2 : Finset (Fin 13) := owed1.erase 4
abbrev owed3 : Finset (Fin 13) := owed2.erase 5
abbrev owed4 : Finset (Fin 13) := owed3.erase 9
abbrev owed5 : Finset (Fin 13) := owed4.erase 10
abbrev owed6 : Finset (Fin 13) := owed5.erase 11

theorem rest3 : ∀ j ∈ owed3, plan.lvl 3 < plan.lvl j := by decide
theorem rest4 : ∀ j ∈ owed4, plan.lvl 4 < plan.lvl j := by decide
theorem rest5 : ∀ j ∈ owed5, plan.lvl 5 < plan.lvl j := by decide
theorem rest6 {i : Fin 13} : ∀ j ∈ owed6, plan.lvl i < plan.lvl j := fun j hj => absurd hj (by revert j; decide)

set_option maxHeartbeats 4000000 in
theorem body_run (c : Dev nD) : iprop((ready plan (pay m) c ∗ mine m c) ∗ ∃ W, owes (c : Thread nD τ) (plan.owing τ plan.owed c) W)
    ⊢ wp frame (wpE (defs₀ (F := F)) 𝒱₀ c none) Set.univ (body (F := F)) fun _ => iprop((zeros plan c ∗ done m c) ∗ ∃ W, owes (c : Thread nD τ) 0 W) := by
  unfold body
  simp only [cc0_gather_weights_eq_skeleton]; unfold cc0_gather_weights_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  unfold ready mine
  rw [hand_eq, creds_eq]
  iintro ⟨⟨⟨⟨%K, #HR, ⟨Hat0, Hat1, Hat2, Hat3, Hat4, Hat5, Hat6, Hat7, Hat8, Hat9, Hat10, Hat11, Hat12⟩, Ht0, Ht1, Ht2, Ht3, Ht4, Ht5, Ht6, Ht7, Ht8, Ht9, Ht10, Ht11, Ht12⟩, ⟨Hc3, Hc4, Hc5, Hc9, Hc10, Hc11⟩, #HL⟩, Ha, Ha0, Ha1, Ha2, Ho, Hs0, Hs1, Hs2, Hb0, Hb1, Hb2⟩, HO⟩
  -- the local copy
  iapply (plan.wp_copy (pay m) 𝒱₀ c none K (q := q0) (fs := arg m c) (fd := m (outL c)) 12 rfl rfl rfl (by
    rw [arg_pts, line_written m (t := chip c) (off1 c)]
    exact Entails.rfl)) $$ [Ha Ho Ht12]
  · isplitr; · iexact HR
    isplitl [Ha]; · rw [arg_pts]; iexact Ha
    isplitl [Ho]; · rw [line_pts (t := chip c) (off1 c)]; iexact Ho
    iexact Ht12
  iintro Hc12
  -- the send to chip 0
  iapply (plan.wp_send (pay m) 𝒱₀ c none K (q := q1) (fs := arg m c) (fd := m (outL (far 0 c))) 0 3 rfl rfl
    (Fin.ext (dev1 c)) rfl (J := plan.owed) (by decide) rfl rfl (by
    rw [half_pts m (h := core c) (off3 c)]
    exact Entails.rfl) (by
    refine (Entails.of_eq (part_sent m (h := core c) (off2 c) (off3 c) (far 0 c) c)).trans ?_
    show _ ⊢ outPts (far 0 c) (chip (far 0 (far 0 c))) (core (far 0 c)) (filled m (far 0 c) (chip (far 0 (far 0 c))) (core (far 0 c)) (far 0 (far 0 c)))
    rw [far_far, core_far])) $$ [Ha0 Hs0 HO Ht0 Ht3]
  · isplitr; · iexact HR
    isplitl [Ha0]; · rw [half_pts m (h := core c) (off3 c)]; iexact Ha0
    isplitl [Hs0]; · rw [part_pts (h := core c) (off2 c)]; iexact Hs0
    isplitl [HO]; · iexact HO
    isplitl [Ht0] <;> iassumption
  iintro ⟨Hc0, HO⟩
  -- the send to chip 1
  iapply (plan.wp_send (pay m) 𝒱₀ c none K (q := q2) (fs := arg m c) (fd := m (outL (far 1 c))) 1 4 rfl rfl
    (Fin.ext (dev2 c)) rfl (J := owed1) (by decide) rfl rfl (by
    rw [half_pts m (h := core c) (off3 c)]
    exact Entails.rfl) (by
    refine (Entails.of_eq (part_sent m (h := core c) (off2 c) (off3 c) (far 1 c) c)).trans ?_
    show _ ⊢ outPts (far 1 c) (chip (far 1 (far 1 c))) (core (far 1 c)) (filled m (far 1 c) (chip (far 1 (far 1 c))) (core (far 1 c)) (far 1 (far 1 c)))
    rw [far_far, core_far])) $$ [Ha1 Hs1 HO Ht1 Ht4]
  · isplitr; · iexact HR
    isplitl [Ha1]; · rw [half_pts m (h := core c) (off3 c)]; iexact Ha1
    isplitl [Hs1]; · rw [part_pts (h := core c) (off2 c)]; iexact Hs1
    isplitl [HO]; · iexact HO
    isplitl [Ht1] <;> iassumption
  iintro ⟨Hc1, HO⟩
  -- the send to chip 2
  iapply (plan.wp_send (pay m) 𝒱₀ c none K (q := q3) (fs := arg m c) (fd := m (outL (far 2 c))) 2 5 rfl rfl
    (Fin.ext (dev3 c)) rfl (J := owed2) (by decide) rfl rfl (by
    rw [half_pts m (h := core c) (off3 c)]
    exact Entails.rfl) (by
    refine (Entails.of_eq (part_sent m (h := core c) (off2 c) (off3 c) (far 2 c) c)).trans ?_
    show _ ⊢ outPts (far 2 c) (chip (far 2 (far 2 c))) (core (far 2 c)) (filled m (far 2 c) (chip (far 2 (far 2 c))) (core (far 2 c)) (far 2 (far 2 c)))
    rw [far_far, core_far])) $$ [Ha2 Hs2 HO Ht2 Ht5]
  · isplitr; · iexact HR
    isplitl [Ha2]; · rw [half_pts m (h := core c) (off3 c)]; iexact Ha2
    isplitl [Hs2]; · rw [part_pts (h := core c) (off2 c)]; iexact Hs2
    isplitl [HO]; · iexact HO
    isplitl [Ht2] <;> iassumption
  iintro ⟨Hc2, HO⟩
  -- the half that chip 0 sends
  iapply (plan.wp_wait (pay m) 𝒱₀ c none K 3 rfl rfl (J := owed3) rest3) $$ [Hc3 HO Hat3]
  · isplitr; · iexact HR
    isplitr; · iexact HL
    isplitl [Hc3]; · iexact Hc3
    isplitl [HO]; · iexact HO
    iexact Hat3
  iintro ⟨Hp3, Hz3, HO⟩
  -- passed on to the sibling
  ihave Hp := (show pay m c 3 ⊢ outPts c (chipOf 0 c) (core c) (filled m c (chipOf 0 c) (core c) (far 0 c)) from Entails.rfl) $$ Hp3
  iapply (plan.wp_send (pay m) 𝒱₀ c none K (q := fullShare) (fs := filled m c (chipOf 0 c) (core c) (far 0 c)) (fd := m (outL (sib c))) 6 9 rfl rfl
    (Fin.ext (k0_dev4_eq c)) rfl (J := owed3) (by decide) rfl rfl (by
    rw [part_pts (h := core c) (off4 c)]
    exact Entails.rfl) (by
    refine (Entails.of_eq (part_passed m (h := core c) (off4 c) (sib c) c (far 0 c))).trans ?_
    show _ ⊢ outPts (sib c) (chipOf 0 (sib c)) (oth (sib c)) (filled m (sib c) (chipOf 0 (sib c)) (oth (sib c)) (far 0 (sib (sib c))))
    rw [sib_sib, oth_sib, chip_far_sib])) $$ [Hp Hb0 HO Ht6 Ht9]
  · isplitr; · iexact HR
    isplitl [Hp]; · rw [part_pts (h := core c) (off4 c)]; iexact Hp
    isplitl [Hb0]; · rw [part_pts (h := core c) (off4 c)]; iexact Hb0
    isplitl [HO]; · iexact HO
    isplitl [Ht6] <;> iassumption
  iintro ⟨Hc6, HO⟩
  -- the half that chip 1 sends
  iapply (plan.wp_wait (pay m) 𝒱₀ c none K 4 rfl rfl (J := owed4) rest4) $$ [Hc4 HO Hat4]
  · isplitr; · iexact HR
    isplitr; · iexact HL
    isplitl [Hc4]; · iexact Hc4
    isplitl [HO]; · iexact HO
    iexact Hat4
  iintro ⟨Hp4, Hz4, HO⟩
  -- passed on to the sibling
  ihave Hp := (show pay m c 4 ⊢ outPts c (chipOf 1 c) (core c) (filled m c (chipOf 1 c) (core c) (far 1 c)) from Entails.rfl) $$ Hp4
  iapply (plan.wp_send (pay m) 𝒱₀ c none K (q := fullShare) (fs := filled m c (chipOf 1 c) (core c) (far 1 c)) (fd := m (outL (sib c))) 7 10 rfl rfl
    (Fin.ext (k0_dev5_eq c)) rfl (J := owed4) (by decide) rfl rfl (by
    rw [part_pts (h := core c) (off5 c)]
    exact Entails.rfl) (by
    refine (Entails.of_eq (part_passed m (h := core c) (off5 c) (sib c) c (far 1 c))).trans ?_
    show _ ⊢ outPts (sib c) (chipOf 1 (sib c)) (oth (sib c)) (filled m (sib c) (chipOf 1 (sib c)) (oth (sib c)) (far 1 (sib (sib c))))
    rw [sib_sib, oth_sib, chip_far_sib])) $$ [Hp Hb1 HO Ht7 Ht10]
  · isplitr; · iexact HR
    isplitl [Hp]; · rw [part_pts (h := core c) (off5 c)]; iexact Hp
    isplitl [Hb1]; · rw [part_pts (h := core c) (off5 c)]; iexact Hb1
    isplitl [HO]; · iexact HO
    isplitl [Ht7] <;> iassumption
  iintro ⟨Hc7, HO⟩
  -- the half that chip 2 sends
  iapply (plan.wp_wait (pay m) 𝒱₀ c none K 5 rfl rfl (J := owed5) rest5) $$ [Hc5 HO Hat5]
  · isplitr; · iexact HR
    isplitr; · iexact HL
    isplitl [Hc5]; · iexact Hc5
    isplitl [HO]; · iexact HO
    iexact Hat5
  iintro ⟨Hp5, Hz5, HO⟩
  -- passed on to the sibling
  ihave Hp := (show pay m c 5 ⊢ outPts c (chipOf 2 c) (core c) (filled m c (chipOf 2 c) (core c) (far 2 c)) from Entails.rfl) $$ Hp5
  iapply (plan.wp_send (pay m) 𝒱₀ c none K (q := fullShare) (fs := filled m c (chipOf 2 c) (core c) (far 2 c)) (fd := m (outL (sib c))) 8 11 rfl rfl
    (Fin.ext (k0_dev6_eq c)) rfl (J := owed5) (by decide) rfl rfl (by
    rw [part_pts (h := core c) (off6 c)]
    exact Entails.rfl) (by
    refine (Entails.of_eq (part_passed m (h := core c) (off6 c) (sib c) c (far 2 c))).trans ?_
    show _ ⊢ outPts (sib c) (chipOf 2 (sib c)) (oth (sib c)) (filled m (sib c) (chipOf 2 (sib c)) (oth (sib c)) (far 2 (sib (sib c))))
    rw [sib_sib, oth_sib, chip_far_sib])) $$ [Hp Hb2 HO Ht8 Ht11]
  · isplitr; · iexact HR
    isplitl [Hp]; · rw [part_pts (h := core c) (off6 c)]; iexact Hp
    isplitl [Hb2]; · rw [part_pts (h := core c) (off6 c)]; iexact Hb2
    isplitl [HO]; · iexact HO
    isplitl [Ht8] <;> iassumption
  iintro ⟨Hc8, HO⟩
  -- the other waits
  iapply (plan.wp_wait (pay m) 𝒱₀ c none K 9 rfl rfl (J := owed6) rest6) $$ [Hc9 HO Hat9]
  · isplitr; · iexact HR
    isplitr; · iexact HL
    isplitl [Hc9]; · iexact Hc9
    isplitl [HO]; · iexact HO
    iexact Hat9
  iintro ⟨Hp9, Hz9, HO⟩
  iapply (plan.wp_wait (pay m) 𝒱₀ c none K 10 rfl rfl (J := owed6) rest6) $$ [Hc10 HO Hat10]
  · isplitr; · iexact HR
    isplitr; · iexact HL
    isplitl [Hc10]; · iexact Hc10
    isplitl [HO]; · iexact HO
    iexact Hat10
  iintro ⟨Hp10, Hz10, HO⟩
  iapply (plan.wp_wait (pay m) 𝒱₀ c none K 11 rfl rfl (J := owed6) rest6) $$ [Hc11 HO Hat11]
  · isplitr; · iexact HR
    isplitr; · iexact HL
    isplitl [Hc11]; · iexact Hc11
    isplitl [HO]; · iexact HO
    iexact Hat11
  iintro ⟨Hp11, Hz11, HO⟩
  iapply (plan.wp_wait (pay m) 𝒱₀ c none K 0 rfl rfl (J := owed6) rest6) $$ [Hc0 HO Hat0]
  · isplitr; · iexact HR
    isplitr; · iexact HL
    isplitl [Hc0]; · iexact Hc0
    isplitl [HO]; · iexact HO
    iexact Hat0
  iintro ⟨Hp0, Hz0, HO⟩
  iapply (plan.wp_wait (pay m) 𝒱₀ c none K 1 rfl rfl (J := owed6) rest6) $$ [Hc1 HO Hat1]
  · isplitr; · iexact HR
    isplitr; · iexact HL
    isplitl [Hc1]; · iexact Hc1
    isplitl [HO]; · iexact HO
    iexact Hat1
  iintro ⟨Hp1, Hz1, HO⟩
  iapply (plan.wp_wait (pay m) 𝒱₀ c none K 2 rfl rfl (J := owed6) rest6) $$ [Hc2 HO Hat2]
  · isplitr; · iexact HR
    isplitr; · iexact HL
    isplitl [Hc2]; · iexact Hc2
    isplitl [HO]; · iexact HO
    iexact Hat2
  iintro ⟨Hp2, Hz2, HO⟩
  iapply (plan.wp_wait (pay m) 𝒱₀ c none K 6 rfl rfl (J := owed6) rest6) $$ [Hc6 HO Hat6]
  · isplitr; · iexact HR
    isplitr; · iexact HL
    isplitl [Hc6]; · iexact Hc6
    isplitl [HO]; · iexact HO
    iexact Hat6
  iintro ⟨Hp6, Hz6, HO⟩
  iapply (plan.wp_wait (pay m) 𝒱₀ c none K 7 rfl rfl (J := owed6) rest6) $$ [Hc7 HO Hat7]
  · isplitr; · iexact HR
    isplitr; · iexact HL
    isplitl [Hc7]; · iexact Hc7
    isplitl [HO]; · iexact HO
    iexact Hat7
  iintro ⟨Hp7, Hz7, HO⟩
  iapply (plan.wp_wait (pay m) 𝒱₀ c none K 8 rfl rfl (J := owed6) rest6) $$ [Hc8 HO Hat8]
  · isplitr; · iexact HR
    isplitr; · iexact HL
    isplitl [Hc8]; · iexact Hc8
    isplitl [HO]; · iexact HO
    iexact Hat8
  iintro ⟨Hp8, Hz8, HO⟩
  iapply (plan.wp_wait (pay m) 𝒱₀ c none K 12 rfl rfl (J := owed6) rest6) $$ [Hc12 HO Hat12]
  · isplitr; · iexact HR
    isplitr; · iexact HL
    isplitl [Hc12]; · iexact Hc12
    isplitl [HO]; · iexact HO
    iexact Hat12
  iintro ⟨Hp12, Hz12, HO⟩
  ihave Hp := (show pay m c 12 ⊢ iprop(rowPts c (chip c) (rowFilled m c (chip c) c) ∗ argPts m c q0) from Entails.rfl) $$ Hp12
  icases Hp with ⟨Ho, Ha⟩
  ihave Hp6 := (show pay m c 6 ⊢ outPts c (chipOf 0 c) (core c) (filled m c (chipOf 0 c) (core c) (far 0 c)) from Entails.rfl) $$ Hp6
  ihave Hp7 := (show pay m c 7 ⊢ outPts c (chipOf 1 c) (core c) (filled m c (chipOf 1 c) (core c) (far 1 c)) from Entails.rfl) $$ Hp7
  ihave Hp8 := (show pay m c 8 ⊢ outPts c (chipOf 2 c) (core c) (filled m c (chipOf 2 c) (core c) (far 2 c)) from Entails.rfl) $$ Hp8
  ihave Hp9 := (show pay m c 9 ⊢ outPts c (chipOf 0 c) (oth c) (filled m c (chipOf 0 c) (oth c) (far 0 (sib c))) from Entails.rfl) $$ Hp9
  ihave Hp10 := (show pay m c 10 ⊢ outPts c (chipOf 1 c) (oth c) (filled m c (chipOf 1 c) (oth c) (far 1 (sib c))) from Entails.rfl) $$ Hp10
  ihave Hp11 := (show pay m c 11 ⊢ outPts c (chipOf 2 c) (oth c) (filled m c (chipOf 2 c) (oth c) (far 2 (sib c))) from Entails.rfl) $$ Hp11
  rw [wp_ret]
  imodintro
  isplitr [HO]
  · rw [zeros_eq]
    isplitl [Hz0 Hz1 Hz2 Hz3 Hz4 Hz5 Hz6 Hz7 Hz8 Hz9 Hz10 Hz11 Hz12]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      iexact Hz12
    · unfold done
      isplitl [Ha]; · iexact Ha
      isplitl [Ho]; · iexact Ho
      isplitl [Hp6]; · iexact Hp6
      isplitl [Hp7]; · iexact Hp7
      isplitl [Hp8]; · iexact Hp8
      isplitl [Hp9]; · iexact Hp9
      isplitl [Hp10]; · iexact Hp10
      iexact Hp11
  · iexact HO

end Cert.WeightsProof

end
-- ==== Proof.WeightsLaunch.lean ====
/-
# Every device collects every chip's shard of the weights: the launch

A device's buffers at the launch, its argument and its result, are split into the shares and places of its protocol
(`bufs_split`), and each place of a result is dealt to the device that sends to it (`bufs_dealt`). `run_main` is the
run of the whole program.
-/
module

public import proofs.«01_k».proof.Proof.Weights

@[expose] public section

set_option maxRecDepth 16384
set_option Elab.async false

noncomputable section

namespace Cert.WeightsProof

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem
open Cert.WeightsIdeal Cert.WeightsIdeal.Gen Cert.OneShot Cert.TalkSeg Cert.TalkLaunch

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The launch -/

abbrev adm : (p : Fin 1) → (pcfgs (F := F) p).Adm := fun p => (cfgs p).toPCfg_adm

def dats : (p : Fin 1) → (c : Dev nD) → Pipeline.Dat τ (Elt F) Unit ℕ (UU nD τ sig) ℕ (Pipeline.pin (pcfgs (F := F)) adm p) c
  | 0, c => talkDat plan (pay m) (Pipeline.pin (pcfgs (F := F)) adm 0) rfl (mine m) (done m) c

theorem sems : Pipeline.OwnSemFacts (cfg0.spec) plan.sem := by decide

/-- An element's half of the argument, its row of the result and its place there. -/
theorem mem_srcElts {c : Dev nD} {h : Fin 2} {x : Idx (inL c)} : x ∈ srcElts c h ↔ (x : S2x3328x1024.Idx) 0 = h := by
  unfold srcElts srcHalf
  rw [show ((half ![h.val, 0, 0] (half_inb h)).view).set = (Rect.unit (s := S2x3328x1024) ![h.val, 0, 0] S1x3328x1024.size (half_inb h)).set from
    (View.set_reshape _ _).trans (View.set_slice_whole _ _)]
  refine Rect.mem_set_unit.trans ⟨fun hx => ?_, fun e a => ?_⟩
  · have h0 := hx 0
    exact Fin.ext (by simp [S1x3328x1024] at h0; omega)
  · subst e
    have := (x : S2x3328x1024.Idx) a |>.isLt
    match a with
    | 0 => exact ⟨le_rfl, Nat.lt_succ_self _⟩
    | 1 => exact ⟨Nat.zero_le _, (Nat.zero_add _).symm ▸ this⟩
    | 2 => exact ⟨Nat.zero_le _, (Nat.zero_add _).symm ▸ this⟩

theorem mem_rowElts {c : Dev nD} {t : Fin 4} {x : Idx (outL c)} : x ∈ rowElts c t ↔ (x : S4x2x3328x1024.Idx) 0 = t := by
  unfold rowElts row
  rw [show ((line ![t.val, 0, 0, 0] (row_inb t)).view).set = (Rect.unit (s := S4x2x3328x1024) ![t.val, 0, 0, 0] S1x2x3328x1024.size (row_inb t)).set from
    (View.set_reshape _ _).trans (View.set_slice_whole _ _)]
  refine Rect.mem_set_unit.trans ⟨fun hx => ?_, fun e a => ?_⟩
  · have h0 := hx 0
    exact Fin.ext (by simp [S1x2x3328x1024] at h0; omega)
  · subst e
    have := (x : S4x2x3328x1024.Idx) a |>.isLt
    match a with
    | 0 => exact ⟨le_rfl, Nat.lt_succ_self _⟩
    | 1 => exact ⟨Nat.zero_le _, (Nat.zero_add _).symm ▸ this⟩
    | 2 => exact ⟨Nat.zero_le _, (Nat.zero_add _).symm ▸ this⟩
    | 3 => exact ⟨Nat.zero_le _, (Nat.zero_add _).symm ▸ this⟩

theorem mem_elts {c : Dev nD} {t : Fin 4} {h : Fin 2} {x : Idx (outL c)} :
    x ∈ elts c t h ↔ (x : S4x2x3328x1024.Idx) 0 = t ∧ (x : S4x2x3328x1024.Idx) 1 = h := by
  unfold elts place
  rw [show ((part ![t.val, h.val, 0, 0] (place_inb t h)).view).set = (Rect.unit (s := S4x2x3328x1024) ![t.val, h.val, 0, 0] S1x1x3328x1024.size (place_inb t h)).set from
    (View.set_reshape _ _).trans (View.set_slice_whole _ _)]
  refine Rect.mem_set_unit.trans ⟨fun hx => ?_, fun e a => ?_⟩
  · have h0 := hx 0
    have h1 := hx 1
    exact ⟨Fin.ext (by simp [S1x1x3328x1024] at h0; omega), Fin.ext (by simp [S1x1x3328x1024] at h1; omega)⟩
  · obtain ⟨e, e'⟩ := e
    subst e e'
    have := (x : S4x2x3328x1024.Idx) a |>.isLt
    match a with
    | 0 => exact ⟨le_rfl, Nat.lt_succ_self _⟩
    | 1 => exact ⟨le_rfl, Nat.lt_succ_self _⟩
    | 2 => exact ⟨Nat.zero_le _, (Nat.zero_add _).symm ▸ this⟩
    | 3 => exact ⟨Nat.zero_le _, (Nat.zero_add _).symm ▸ this⟩

/-- A row of the result is its two places. -/
theorem row_split (c : Dev nD) (t : Fin 4) (f : Buf (Elt F) (outL c)) : (rowPts c t f : sProp 𝕄) = iprop(outPts c t (core c) f ∗ outPts c t (oth c) f) := by
  classical
  unfold rowPts
  rw [show rowElts c t = Finset.univ.biUnion (elts c t) from Finset.ext fun x => by
      rw [mem_rowElts, Finset.mem_biUnion]
      exact ⟨fun h => ⟨_, Finset.mem_univ _, mem_elts.mpr ⟨h, rfl⟩⟩, fun ⟨_, _, h⟩ => (mem_elts.mp h).1⟩,
    pointsTo_biUnion Finset.univ (elts c t) fun a _ b _ hab => Finset.disjoint_left.mpr fun x hx hx' => hab ((mem_elts.mp hx).2.symm.trans (mem_elts.mp hx').2),
    bigSep_univ_eq_bigSepL [core c, oth c] (cores_list c).1 (cores_list c).2]
  rfl

/-- The result is its four rows. -/
theorem out_split (c : Dev nD) (f : Buf (Elt F) (outL c)) : (outL c ↦{fullShare} f : sProp 𝕄)
    = iprop(rowPts c (chip c) f ∗ rowPts c (chipOf 0 c) f ∗ rowPts c (chipOf 1 c) f ∗ rowPts c (chipOf 2 c) f) := by
  rw [pts_places (outL c) (rowElts c) (fun t t' h => Finset.disjoint_left.mpr fun x hx hx' => h ((mem_rowElts.mp hx).symm.trans (mem_rowElts.mp hx')))
    (fun x => ⟨_, mem_rowElts.mpr rfl⟩), bigSep_univ_eq_bigSepL [chip c, chipOf 0 c, chipOf 1 c, chipOf 2 c] (chips_list c).1 (chips_list c).2]
  rfl

/-- Of a share of the argument, the part over one half. -/
theorem src_of_arg (c : Dev nD) (h : Fin 2) (q : PosShare TreeShare) : argPts m c q ⊢ srcPts m c h q := by
  unfold argPts
  rw [pts_places (inL c) (srcElts c) (fun t t' h => Finset.disjoint_left.mpr fun x hx hx' => h ((mem_srcElts.mp hx).symm.trans (mem_srcElts.mp hx')))
    (fun x => ⟨_, mem_srcElts.mpr rfl⟩)]
  exact bigSep_elim (Finset.mem_univ h)

theorem arg_halves (c : Dev nD) (q : PosShare TreeShare) : argPts m c q ⊢ iprop(argPts m c q.left ∗ argPts m c q.right) :=
  (pointsTo_share (PosShare.mem_left_op_right q)).1

/-- A device's buffers at the launch. -/
theorem bufs_split (c : Dev nD) : (unscopedBufs c (fun b => m ((c.tc : Thread nD τ).loc b)) : sProp 𝕄)
    ⊢ iprop(argPts m c q0 ∗ srcPts m c (core c) q1 ∗ srcPts m c (core c) q2 ∗ srcPts m c (core c) q3 ∗ rowPts c (chip c) (m (outL c))
      ∗ (outPts c (chipOf 0 c) (core c) (m (outL c)) ∗ outPts c (chipOf 0 c) (oth c) (m (outL c)))
      ∗ (outPts c (chipOf 1 c) (core c) (m (outL c)) ∗ outPts c (chipOf 1 c) (oth c) (m (outL c)))
      ∗ outPts c (chipOf 2 c) (core c) (m (outL c)) ∗ outPts c (chipOf 2 c) (oth c) (m (outL c))) := by
  unfold unscopedBufs
  rw [bigSep_eq_bigSepL_of_eq [main_arg0, main_v1] (by decide) (by decide), ← row_split, ← row_split, ← row_split, ← out_split]
  show iprop(argPts m c fullShare ∗ (outL c ↦{fullShare} m (outL c))) ⊢ _
  iintro ⟨Ha, Ho⟩
  ihave Ha' := (arg_halves m c fullShare) $$ Ha
  icases Ha' with ⟨Ha, Hr⟩
  ihave Hr' := (arg_halves m c fullShare.right) $$ Hr
  icases Hr' with ⟨H1, Hr⟩
  ihave Hr' := (arg_halves m c fullShare.right.right) $$ Hr
  icases Hr' with ⟨H2, H3⟩
  isplitl [Ha]; · iexact Ha
  isplitl [H1]; · iapply (src_of_arg m c (core c) q1); iexact H1
  isplitl [H2]; · iapply (src_of_arg m c (core c) q2); iexact H2
  isplitl [H3]; · iapply (src_of_arg m c (core c) q3); iexact H3
  iexact Ho

theorem deal_far (j : Fin 3) : (bigSep Finset.univ fun c : Dev nD => (outPts c (chipOf j c) (core c) (m (outL c)) : sProp 𝕄))
    = bigSep Finset.univ fun c : Dev nD => outPts (far j c) (chip c) (core c) (m (outL (far j c))) :=
  (bigSep_univ_equiv (fars j) fun c : Dev nD => (outPts c (chipOf j c) (core c) (m (outL c)) : sProp 𝕄)).trans (bigSep_congr fun c _ => by
    show outPts (far j c) (chip (far j (far j c))) (core (far j c)) (m (outL (far j c))) = _
    rw [far_far, core_far])

theorem deal_sib (j : Fin 3) : (bigSep Finset.univ fun c : Dev nD => (outPts c (chipOf j c) (oth c) (m (outL c)) : sProp 𝕄))
    = bigSep Finset.univ fun c : Dev nD => outPts (sib c) (chipOf j c) (core c) (m (outL (sib c))) :=
  (bigSep_univ_equiv sibs fun c : Dev nD => (outPts c (chipOf j c) (oth c) (m (outL c)) : sProp 𝕄)).trans (bigSep_congr fun c _ => by
    show outPts (sib c) (chipOf j (sib c)) (oth (sib c)) (m (outL (sib c))) = _
    rw [chip_far_sib, oth_sib])

/-- Every device's buffers, each place of a result with the device that sends to it. -/
theorem bufs_dealt : (bigSep Finset.univ fun c : Dev nD => (unscopedBufs c (fun b => m ((c.tc : Thread nD τ).loc b)) : sProp 𝕄))
    ⊢ bigSep Finset.univ fun c => iprop(mine m c ∗ emp) := by
  refine (bigSep_mono fun c _ => bufs_split m c).trans ((?_ : _ ⊢ bigSep Finset.univ (mine m)).trans (bigSep_mono fun c _ => ?_))
  swap
  · show mine m c ⊢ iprop(mine m c ∗ emp)
    iintro H
    isplitl [H]; · iexact H
    iempintro
  unfold mine
  simp only [bigSep_sep']
  rw [deal_far, deal_far, deal_far, deal_sib, deal_sib, deal_sib]
  iintro ⟨Ha, H1, H2, H3, Ho, ⟨Hs0, Hb0⟩, ⟨Hs1, Hb1⟩, Hs2, Hb2⟩
  isplitl [Ha]; · iexact Ha
  isplitl [H1]; · iexact H1
  isplitl [H2]; · iexact H2
  isplitl [H3]; · iexact H3
  isplitl [Ho]; · iexact Ho
  isplitl [Hs0]; · iexact Hs0
  isplitl [Hs1]; · iexact Hs1
  isplitl [Hs2]; · iexact Hs2
  isplitl [Hb0]; · iexact Hb0
  isplitl [Hb1] <;> iassumption

/-- Every semaphore is a kernel's. -/
theorem is_scoped (g : GSem nD τ sig) : g.1.2 ≠ .tc ∨ g.2.isScoped .tc = true :=
  Or.inr ((by decide : ∀ s : SemLoc sig, s.isScoped .tc = true) g.2)

/-- What is read off device `c` at the end. -/
def QY (c : Dev nD) (s : MemSt nD τ sig (Elt F)) : Prop :=
  s.mem (inL c) = arg m c ∧ (row (chip c)).read (Elt F) (s.mem (outL c)) = aM.view.read (Elt F) (arg m c)
    ∧ (∀ j, (place (chipOf j c) (core c)).read (Elt F) (s.mem (outL c)) = (srcHalf (core c)).read (Elt F) (arg m (far j c)))
    ∧ ∀ j, (place (chipOf j c) (oth c)).read (Elt F) (s.mem (outL c)) = (srcHalf (oth c)).read (Elt F) (arg m (far j (sib c)))

theorem read_done (c : Dev nD) (s' : Phys nD τ sig (Elt F)) : iprop((done m c ∗ emp) ∗ SI s') ⊢ |={Set.univ}=> iprop(⌜QY m c s'.mem⌝ ∗ SI s') := by
  unfold done argPts outPts rowPts
  iintro ⟨⟨⟨Ha, Ho, Hs0, Hs1, Hs2, Hb0, Hb1, Hb2⟩, -⟩, HSI⟩
  icombine HSI Ha gives %ha
  icombine HSI Ho gives %ho
  icombine HSI Hs0 gives %hs0
  icombine HSI Hs1 gives %hs1
  icombine HSI Hs2 gives %hs2
  icombine HSI Hb0 gives %hb0
  icombine HSI Hb1 gives %hb1
  icombine HSI Hb2 gives %hb2
  imodintro
  isplitr
  · ipureintro
    refine ⟨Buf.eq_of_forall_mem_univ ha, read_rowFilled m c _ _ _ ho, fun j => ?_, fun j => ?_⟩
    · match j with
      | 0 => exact read_filled m c _ _ _ _ hs0
      | 1 => exact read_filled m c _ _ _ _ hs1
      | 2 => exact read_filled m c _ _ _ _ hs2
    · match j with
      | 0 => exact read_filled m c _ _ _ _ hb0
      | 1 => exact read_filled m c _ _ _ _ hb1
      | 2 => exact read_filled m c _ _ _ _ hb2
  · iexact HSI

/-- THE RUN: from any memory with every semaphore at zero, every execution ends, with the argument unchanged, the result
    as `QY` says, and every semaphore at zero. -/
theorem run_main : θ_run (defs (F := F)) (onTc (τ := τ) (main (F := F))) ⟨m, fun _ => 0, ρ⟩ (fun r => (∀ c, QY m c r.2) ∧ r.2.sem = fun _ => 0) :=
  θ_run_talk plan (pay m) pcfgs adm (dats m) defs₀ 𝒱₀ cellOf_inj (q := (0 : Fin 1)) rfl N_0 rfl winFacts0.to₀ sems
    (mine m) (done m) (fun _ => iprop(emp)) (fun c => rfl)
    (fun c => body_of N_0 _ defs₀ 𝒱₀ body (fun t => rfl) (body_run m c))
    m ρ main (fun _ => []) (fun c => main_segs adm (dats m) () 𝒱₀ (Plan.L nD τ sig) (plan.lv τ) _ c) (fun _ => List.nodup_singleton _)
    (bufs_dealt m) (fun c => iprop(done m c ∗ emp)) (fun c => Entails.rfl) (QY m) (read_done m)
    (fun s h hs => ⟨h, funext fun g => hs g (is_scoped g)⟩)

end Cert.WeightsProof

end
-- ==== Proof.WeightsValue.lean ====
/-
# Every device collects every chip's shard of the weights: the values

A device of chip `t` holds rows `3328 t` to `3328 (t + 1)` of both halves of the whole argument, the same on both cores. By
`run_main` element `(t, h, i, k)` of any device's result is element `(h, i, k)` of the argument of a device of chip `t`
(`out_elt`), so of the whole argument it is element `(h, 3328 t + i, k)`; so is that of the reference's result, which
cuts the rows into the chips' and puts the chips first (`value`).
-/
module

public import proofs.«01_k».proof.Proof.WeightsLaunch
public import proofs.«01_k».proof.Proof.Gen.WeightsRefIdeal.Run
public import proofs.«01_k».proof.Proof.Gen.WeightsRef.Run
public import proofs.«01_k».proof.Proof.Gen.Weights
public import Idealize.ShloMosaic.Lib.Pipeline.Value
public import proofs.«01_k».proof.Defs

@[expose] public section

set_option maxRecDepth 16384
set_option Elab.async false

noncomputable section

namespace Cert.WeightsProof

open Idealize.ShloMosaic Idealize.ShloMosaic.TcCoe
open Idealize.SL.Sem
open Cert.WeightsIdeal Cert.WeightsIdeal.Gen

variable {F : FTy → Type} [FloatOps F]
variable (m : (ℓ : Loc nD τ sig) → Buf (Elt F) ℓ)

/-- The coordinates of an element of the result in its row, and those in its place. -/
def inRow (x : S4x2x3328x1024.Idx) : S2x3328x1024.Idx := fun a => match a with
  | 0 => x 1
  | 1 => x 2
  | 2 => x 3
def inPlace (x : S4x2x3328x1024.Idx) : S3328x1024.Idx := fun a => match a with
  | 0 => x 2
  | 1 => x 3

/-- An element of the result under the row it is in, and under the place it is in. -/
theorem row_emb (x : S4x2x3328x1024.Idx) : (row (x 0)).emb (inRow x) = x := by
  show (Rect.unit (s := S4x2x3328x1024) ![(x 0).val, 0, 0, 0] S1x2x3328x1024.size (row_inb (x 0))).emb (Shape.reshapeEquiv _ (inRow x)) = x
  rw [show Shape.reshapeEquiv (s := S1x2x3328x1024) (s' := S2x3328x1024) _ (inRow x) = Fin.cons ⟨0, Nat.one_pos⟩ (inRow x) from
    Shape.reshapeEquiv_cons_one _ _]
  funext a
  apply Fin.ext
  match a with
  | 0 => show (x 0).val + 1 * 0 = (x 0).val; omega
  | 1 => show 0 + 1 * (x 1).val = (x 1).val; omega
  | 2 => show 0 + 1 * (x 2).val = (x 2).val; omega
  | 3 => show 0 + 1 * (x 3).val = (x 3).val; omega

/-- The two first axes of a place have one element each. -/
theorem place_cast {h} (y : S3328x1024.Idx) :
    Shape.reshapeEquiv (s := S1x1x3328x1024) (s' := S3328x1024) h y = (Fin.cons ⟨0, Nat.one_pos⟩ (Fin.cons ⟨0, Nat.one_pos⟩ y : (a : Fin 3) → Fin (![1, 3328, 1024] a)) : S1x1x3328x1024.Idx) := by
  refine Shape.reshapeEquiv_eq_of_rowMajor _ ?_
  rw [Shape.rowMajor_val_two, Shape.rowMajor_val_four]
  show ((0 * 1 + 0) * 3328 + (y 0).val) * 1024 + (y 1).val = (y 0).val * 1024 + (y 1).val
  omega

theorem place_emb (x : S4x2x3328x1024.Idx) : (place (x 0) (x 1)).emb (inPlace x) = x := by
  show (Rect.unit (s := S4x2x3328x1024) ![(x 0).val, (x 1).val, 0, 0] S1x1x3328x1024.size (place_inb (x 0) (x 1))).emb
    (Shape.reshapeEquiv (s := S1x1x3328x1024) (s' := S3328x1024) _ (inPlace x)) = x
  rw [place_cast]
  funext a
  apply Fin.ext
  match a with
  | 0 => show (x 0).val + 1 * 0 = (x 0).val; omega
  | 1 => show (x 1).val + 1 * 0 = (x 1).val; omega
  | 2 => show 0 + 1 * (x 2).val = (x 2).val; omega
  | 3 => show 0 + 1 * (x 3).val = (x 3).val; omega

/-- The same element of half `x 1` of an argument. -/
theorem half_emb (x : S4x2x3328x1024.Idx) : (srcHalf (x 1)).emb (inPlace x) = inRow x := by
  show (Rect.unit (s := S2x3328x1024) ![(x 1).val, 0, 0] S1x3328x1024.size (half_inb (x 1))).emb (Shape.reshapeEquiv _ (inPlace x)) = inRow x
  rw [show Shape.reshapeEquiv (s := S1x3328x1024) (s' := S3328x1024) _ (inPlace x) = Fin.cons ⟨0, Nat.one_pos⟩ (inPlace x) from
    Shape.reshapeEquiv_cons_one _ _]
  funext a
  apply Fin.ext
  match a with
  | 0 => show (x 1).val + 1 * 0 = (x 1).val; omega
  | 1 => show 0 + 1 * (x 2).val = (x 2).val; omega
  | 2 => show 0 + 1 * (x 3).val = (x 3).val; omega

/-- An element of a place that holds a half of device `d`'s argument. -/
theorem place_elt {c d : Dev nD} {s : MemSt nD τ sig (Elt F)} (x : S4x2x3328x1024.Idx) {t : Fin 4} {h : Fin 2} (ht : x 0 = t) (hh : x 1 = h)
    (e : (place t h).read (Elt F) (s.mem (outL c)) = (srcHalf h).read (Elt F) (arg m d)) :
    (s.mem (outL c) : S4x2x3328x1024.Idx → Elt F .bf16) x = (arg m d : S2x3328x1024.Idx → Elt F .bf16) (inRow x) := by
  subst ht hh
  have e := congrFun e (inPlace x)
  have e₁ : (place (x 0) (x 1)).read (Elt F) (s.mem (outL c)) (inPlace x) = (s.mem (outL c) : S4x2x3328x1024.Idx → Elt F .bf16) ((place (x 0) (x 1)).emb (inPlace x)) := rfl
  have e₂ : (srcHalf (x 1)).read (Elt F) (arg m d) (inPlace x) = (arg m d : S2x3328x1024.Idx → Elt F .bf16) ((srcHalf (x 1)).emb (inPlace x)) := rfl
  rw [e₁, e₂, place_emb, half_emb] at e
  exact e

/-- Which chip and which core: those of the device, or one of the others. -/
theorem chip_cases (c : Dev nD) (t : Fin 4) : t = chip c ∨ ∃ j, t = chipOf j c := by revert c t; decide
theorem core_cases (c : Dev nD) (h : Fin 2) : h = core c ∨ h = oth c := by revert c h; decide

/-- Each element of a result at the end is that of the argument of a device of the chip its row names. -/
theorem out_elt {c : Dev nD} {s : MemSt nD τ sig (Elt F)} (hq : QY m c s) (x : S4x2x3328x1024.Idx) :
    ∃ d, chip d = x 0 ∧ (s.mem (outL c) : S4x2x3328x1024.Idx → Elt F .bf16) x = (arg m d : S2x3328x1024.Idx → Elt F .bf16) (inRow x) := by
  obtain ⟨-, hrow, hcore, hoth⟩ := hq
  rcases chip_cases c (x 0) with ht | ⟨j, ht⟩
  · refine ⟨c, ht.symm, ?_⟩
    rw [← ht] at hrow
    have e := congrFun hrow (inRow x)
    have e₁ : (row (x 0)).read (Elt F) (s.mem (outL c)) (inRow x) = (s.mem (outL c) : S4x2x3328x1024.Idx → Elt F .bf16) ((row (x 0)).emb (inRow x)) := rfl
    rw [e₁, row_emb] at e
    exact e
  · rcases core_cases c (x 1) with hh | hh
    · exact ⟨far j c, ht.symm, place_elt m x ht hh (hcore j)⟩
    · exact ⟨far j (sib c), (chip_far_sib j c).trans ht.symm, place_elt m x ht hh (hoth j)⟩

/-- The block of the whole argument that a device holds. -/
theorem shard (d : Dev nD) : Layout.meshLin [2, 2, 2] d.val [0, 1] = (chip d).val := by
  revert d; decide

/-- Where every device's argument is its block of `w`, every device's result at the end is the reference's: `w` cut into
    the chips' rows, the chips first. -/
theorem value (w : Cert.WeightsRefIdeal.S2x13312x1024.Idx → Elt F .bf16)
    (hw : ∀ c : Dev nD, arg m c = Layout.blockN ⟨3, ![2, 3328, 1024]⟩ ⟨3, ![2, 13312, 1024]⟩ (Layout.meshBlock [2, 2, 2] ![[], [0, 1], []] c) w)
    (s : MemSt nD τ sig (Elt F)) (h : ∀ c, QY m c s) (c : Dev nD) :
    s.mem (outL c) = transpose Cert.WeightsRefIdeal.S4x2x3328x1024 [1, 0, 2, 3]
      (shapeCast Cert.WeightsRefIdeal.S2x4x3328x1024 w Cert.WeightsRefIdeal.Gen.shapeCasts_S2x13312x1024_S2x4x3328x1024)
      Cert.WeightsRefIdeal.Gen.transposes_S2x4x3328x1024_S4x2x3328x1024_1_0_2_3 := by
  refine funext fun (x : S4x2x3328x1024.Idx) => ?_
  obtain ⟨d, hd, e⟩ := out_elt m (h c) x
  let k : Cert.WeightsRefIdeal.S2x4x3328x1024.Idx := fun a => match a with
    | 0 => x 1
    | 1 => x 0
    | 2 => x 2
    | 3 => x 3
  refine e.trans (.trans ?_ (transpose_apply [1, 0, 2, 3] _ _ x k (fun b => ?_)).symm)
  swap
  · match b with
    | 0 => rfl
    | 1 => rfl
    | 2 => rfl
    | 3 => rfl
  rw [hw]
  refine congrArg w (Shape.reshapeEquiv_eq_of_rowMajor _ ?_).symm
  rw [Shape.rowMajor_val_three, Shape.rowMajor_val_four]
  show ((Layout.meshLin [2, 2, 2] d.val [] * 2 + (x 1).val) * 13312 + (Layout.meshLin [2, 2, 2] d.val [0, 1] * 3328 + (x 2).val)) * 1024
      + (Layout.meshLin [2, 2, 2] d.val [] * 1024 + (x 3).val)
    = (((x 1).val * 4 + (x 0).val) * 3328 + (x 2).val) * 1024 + (x 3).val
  rw [shard d, hd]
  simp only [Layout.meshLin]
  omega

/-! ## The claims -/

theorem frame_ideal : Cert.quiescent_WeightsIdeal := fun m g _ =>
  (θ_run Cert.WeightsIdeal.defs _ _).mono (fun r h => ⟨fun c => (h.1 c).1, h.2⟩) (run_main (F := Ideal) m g)

theorem frame : Cert.quiescent_Weights := fun m g _ =>
  (θ_run Cert.WeightsIdeal.defs _ _).mono (fun r h => ⟨fun c => (h.1 c).1, h.2⟩) (run_main (F := Bits) m g)

theorem frame_ref_ideal : Cert.quiescent_WeightsRefIdeal := fun m g _ =>
  (θ_run Cert.WeightsRefIdeal.defs _ _).mono (fun r h => ⟨fun c => (h c).2, Idealize.ShloMosaic.sem_eq_zero_of_no_sems (by decide) r.2⟩)
    (Cert.WeightsRefIdeal.Value.run (F := Ideal) m g)

theorem frame_ref : Cert.quiescent_WeightsRef := fun m g _ =>
  (θ_run Cert.WeightsRef.defs _ _).mono (fun r h => ⟨fun c => (h c).2, Idealize.ShloMosaic.sem_eq_zero_of_no_sems (by decide) r.2⟩)
    (Cert.WeightsRef.Value.run (F := Bits) m g)

theorem algebraic : Cert.algebraic_WeightsIdeal_WeightsRefIdeal := fun m g m' g' _ hw =>
  ⟨_, (θ_run Cert.WeightsIdeal.defs _ _).mono (fun r h c => ⟨value m _ hw r.2 h.1 c, (h.1 c).1⟩) (run_main (F := Ideal) m g),
    (θ_run Cert.WeightsRefIdeal.defs _ _).mono (fun r h => h 0) (Cert.WeightsRefIdeal.Value.run (F := Ideal) m' g')⟩

theorem bitexact : Cert.bitexact_Weights_WeightsRef := fun m g m' g' _ hw =>
  ⟨_, (θ_run Cert.WeightsIdeal.defs _ _).mono (fun r h c => ⟨value (F := Bits) m _ hw r.2 h.1 c, (h.1 c).1⟩) (run_main (F := Bits) m g),
    (θ_run Cert.WeightsRef.defs _ _).mono (fun r h => h 0) (Cert.WeightsRef.Value.run (F := Bits) m' g')⟩

end Cert.WeightsProof

end
-- ==== Proof.Sibling.lean ====
/-
# Each core sends its sibling the half that the sibling sums: the transfer

`SiblingIdeal` is the call `grads_add_sibling`. A device's argument has two places, one per core of its chip. Device `c`
(its core is `c % 2`, its sibling is the device of the other core of the chip) first sends the place of the OTHER core to
its sibling, which receives it in a buffer of its own (region 0); then it adds the place of its own core and what it
received (region 1, `SiblingSum`).

The protocol of the transfer, per device: semaphore 0 is credited by the source side of its transfer and gives the place
sent back; semaphore 1 is credited by the landing of its sibling's transfer and gives the receiving buffer, holding the
sibling's argument at the place of this device's core.
-/
module

public import proofs.«01_k».proof.Proof.TalkSeg
public import proofs.«01_k».proof.Proof.Gen.SiblingIdeal
public import proofs.«01_k».proof.Proof.Gen.SiblingIdeal.Skeleton
public import proofs.«01_k».proof.Proof.Gen.SiblingIdeal.Launch

@[expose] public section

set_option maxRecDepth 16384
set_option Elab.async false

noncomputable section

namespace Cert.SiblingProof

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem
open Cert.SiblingIdeal Cert.SiblingIdeal.Gen Cert.OneShot Cert.TalkSeg Cert.TalkLaunch

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## Devices -/

/-- A device's core on its chip, the other core, and the device of the other core. -/
def core (c : Dev nD) : Fin 2 := ⟨c.val % 2, Nat.mod_lt _ (by decide)⟩
def oth (c : Dev nD) : Fin 2 := ⟨1 - c.val % 2, by omega⟩
def sib (c : Dev nD) : Dev nD := ⟨(4 * (c.val / 4) + 2 * ((c.val / 2) % 2) + 1) - (c.val % 2), by revert c; decide⟩

theorem sib_sib (c : Dev nD) : sib (sib c) = c := by revert c; decide
theorem oth_sib (c : Dev nD) : oth (sib c) = core c := by revert c; decide
theorem core_sib (c : Dev nD) : core (sib c) = oth c := by revert c; decide
theorem cores_list (c : Dev nD) : Finset.univ = [oth c, core c].toFinset ∧ [oth c, core c].Nodup := by revert c; decide

def sibs : Equiv.Perm (Dev nD) := ⟨sib, sib, sib_sib, sib_sib⟩

/-! ## Places of the argument -/

/-- Device `c`'s argument buffer and the buffer it receives in. -/
abbrev inL (c : Dev nD) : Loc nD τ sig := (c.tc : Thread nD τ).loc main_arg0
abbrev gotL (c : Dev nD) : Loc nD τ sig := (c.tc : Thread nD τ).loc main_v1

abbrev gM : Memref sig .tc .hbm S13312x1024 .f32 := Memref.whole main_v1

/-- The part of the argument at an offset. -/
abbrev part (off : Fin 3 → ℕ) (inb : ∀ a, off a + S1x13312x1024.size a ≤ S2x13312x1024.size a) : Memref sig .tc .hbm S13312x1024 .f32 :=
  ((Memref.whole main_arg0 : Memref sig .tc .hbm S2x13312x1024 .f32).slice (Rect.unit (s := S2x13312x1024) off S1x13312x1024.size inb) (fun _ => rfl)).squeeze
    S13312x1024 squeezes_S1x13312x1024_S13312x1024

theorem place_inb (h : Fin 2) : ∀ a, (![h.val, 0, 0] : Fin 3 → ℕ) a + S1x13312x1024.size a ≤ S2x13312x1024.size a := by revert h; decide

/-- Place `h` of the argument. -/
def place (h : Fin 2) : View sig .tc .hbm S13312x1024 .f32 := (part ![h.val, 0, 0] (place_inb h)).view

/-- Its elements, in device `c`'s argument. -/
def elts (c : Dev nD) (h : Fin 2) : Finset (Idx (inL c)) := (place h).set

/-- Device `c`'s argument; what it receives. -/
abbrev arg (c : Dev nD) : Buf (Elt F) (inL c) := m (inL c)
def got (c : Dev nD) : Buf (Elt F) (gotL c) := (place (core c)).read (Elt F) (arg m (sib c))

/-- Place `h` of device `c`'s argument; the buffer it receives in, at contents `f`. -/
def argPts (c : Dev nD) (h : Fin 2) : sProp 𝕄 := inL c ↦[elts c h]{fullShare} arg m c
def gotPts (c : Dev nD) (f : Buf (Elt F) (gotL c)) : sProp 𝕄 := gotL c ↦{fullShare} f

theorem part_pts {off : Fin 3 → ℕ} {inb} {h : Fin 2} (e : off = ![h.val, 0, 0]) (c : Dev nD) :
    ((part off inb).view.loc (c : Thread nD τ) ↦[(part off inb).view.set]{fullShare} arg m c : sProp 𝕄) = argPts m c h := by
  subst e
  rfl

theorem got_pts (c : Dev nD) (f : Buf (Elt F) (gotL c)) :
    (gM.view.loc (c : Thread nD τ) ↦[gM.view.set]{fullShare} f : sProp 𝕄) = gotPts c f := by
  unfold gotPts
  rw [show gM.view.set = Finset.univ from View.set_whole _]

theorem got_written {off : Fin 3 → ℕ} {inb} (c : Dev nD) (e : off = ![(oth c).val, 0, 0]) (f : Buf (Elt F) (gotL (sib c))) :
    (gM.view.loc (sib c : Thread nD τ) ↦[gM.view.set]{fullShare}
      gM.view.write (Elt F) f ((part off inb).view.read (Elt F) (arg m c)) Finset.univ : sProp 𝕄)
      = gotPts (sib c) (got m (sib c)) := by
  subst e
  refine (got_pts (sib c) _).trans (congrArg (gotPts (sib c)) ?_)
  refine (View.write_whole_univ _ _ _).trans ?_
  show (place (oth c)).read (Elt F) (arg m c) = got m (sib c)
  unfold got
  rw [sib_sib, core_sib]

/-! ## The plan -/

def plan : Plan nD sig 2 where
  sem := fun | 0 => .dma cc0_scratch0.sem | 1 => .dma cc0_scratch1.sem
  inj := by decide
  amt _ := gM.view.dmaCredit
  pos _ := View.dmaCredit_pos _ (by decide)
  peer := fun | 0 => Equiv.refl _ | 1 => sibs
  owed := {1}
  lvl _ := 0

def pay (c : Dev nD) : Fin 2 → sProp 𝕄
  | 0 => argPts m c (oth c)
  | 1 => gotPts c (got m c)

instance (c : Dev nD) (h : Fin 2) : BI.Storable (upEmb : UEmb _ 𝕄) (argPts m c h) := by unfold argPts; infer_instance
instance (c : Dev nD) (f : Buf (Elt F) (gotL c)) : BI.Storable (upEmb : UEmb _ 𝕄) (gotPts c f) := by unfold gotPts; infer_instance

instance : Plan.Storables (pay m) where
  storable c i := by
    match i with
    | 0 => exact (inferInstance : BI.Storable (upEmb : UEmb _ 𝕄) (argPts m c (oth c)))
    | 1 => exact (inferInstance : BI.Storable (upEmb : UEmb _ 𝕄) (gotPts c (got m c)))

/-! ## The body -/

/-- What device `c` works on: the place of its argument that it sends, and the buffer its sibling receives in. -/
def mine (c : Dev nD) : sProp 𝕄 := iprop(argPts m c (oth c) ∗ gotPts (sib c) (m (gotL (sib c))))

def done (c : Dev nD) : sProp 𝕄 := iprop(argPts m c (oth c) ∗ gotPts c (got m c))

abbrev 𝒱₀ : Variants := Variants.none

abbrev body : Prog (TpuEff nD τ sig (Elt F) Λ₀ .tc) PUnit :=
  cc0_grads_to_sibling (Memref.whole main_arg0) (Memref.isWhole_whole _) (Memref.whole main_v1) (Memref.isWhole_whole _) cc0_scratch0 cc0_scratch1

theorem owed_rest {i : Fin 2} : ∀ j ∈ plan.owed.erase 1, plan.lvl i < plan.lvl j := fun j hj => absurd hj (by revert j; decide)

theorem hand_eq (c : Dev nD) : plan.hand (τ := τ) (Val := Elt F) c
    = iprop((atPos ER (plan.cell τ c 0) 0 ∅ 0 ∗ atPos ER (plan.cell τ c 1) 0 ∅ 0)
      ∗ dutyTok ER (plan.cell τ (plan.peer 0 c) 0) 0 () ∗ dutyTok ER (plan.cell τ (plan.peer 1 c) 1) 0 ()) := by
  unfold Plan.hand
  rw [bigSep_univ_eq_bigSepL [0, 1] (by decide) (by decide), bigSep_univ_eq_bigSepL [0, 1] (by decide) (by decide)]
  rfl

theorem zeros_eq (c : Dev nD) : zeros (τ := τ) (Val := Elt F) plan c = iprop(semVal (plan.cell τ c 0) 0 ∗ semVal (plan.cell τ c 1) 0) := by
  unfold zeros
  rw [bigSep_univ_eq_bigSepL [0, 1] (by decide) (by decide)]
  rfl

theorem body_run (c : Dev nD) : iprop((ready plan (pay m) c ∗ mine m c) ∗ ∃ W, owes (c : Thread nD τ) (plan.owing τ plan.owed c) W)
    ⊢ wp frame (wpE (defs₀ (F := F)) 𝒱₀ c none) Set.univ (body (F := F)) fun _ => iprop((zeros plan c ∗ done m c) ∗ ∃ W, owes (c : Thread nD τ) 0 W) := by
  unfold body
  simp only [cc0_grads_to_sibling_eq_skeleton]; unfold cc0_grads_to_sibling_skel
  simp only [Prog.lift, Prog.bind_op, Prog.bind_ret, Prog.pure_eq_ret, wp_deviceId]
  unfold ready mine
  rw [hand_eq, show (bigSep plan.owed fun i => (cred (tallyAt (plan.cell τ c i) () (plan.amt i)) : sProp 𝕄)) = cred (tallyAt (plan.cell τ c 1) () (plan.amt 1)) from bigSep_singleton]
  iintro ⟨⟨⟨⟨%K, #HR, ⟨Hat0, Hat1⟩, Ht0, Ht1⟩, Hc1, #HL⟩, Ha, Hg⟩, HO⟩
  -- the transfer to the sibling
  iapply (plan.wp_send (pay m) 𝒱₀ c none K (q := fullShare) (fs := arg m c) (fd := m (gotL (sib c))) 0 1 rfl rfl
    (Fin.ext (k0_dev1_eq c)) rfl (J := plan.owed) (by decide) rfl rfl (by
    rw [part_pts m (h := oth c) (k0_off1_eq c)]
    exact Entails.rfl) (by
    exact Entails.of_eq (got_written m c (k0_off1_eq c) _))) $$ [Ha Hg HO Ht0 Ht1]
  · isplitr; · iexact HR
    isplitl [Ha]; · rw [part_pts m (h := oth c) (k0_off1_eq c)]; iexact Ha
    isplitl [Hg]
    · iapply (Entails.of_eq (got_pts (sib c) (m (gotL (sib c)))).symm)
      iexact Hg
    isplitl [HO]; · iexact HO
    isplitl [Ht0] <;> iassumption
  iintro ⟨Hc0, HO⟩
  -- the two waits
  iapply (plan.wp_wait (pay m) 𝒱₀ c none K 0 rfl rfl (J := plan.owed.erase 1) owed_rest) $$ [Hc0 HO Hat0]
  · isplitr; · iexact HR
    isplitr; · iexact HL
    isplitl [Hc0]; · iexact Hc0
    isplitl [HO]; · iexact HO
    iexact Hat0
  iintro ⟨Hp0, Hz0, HO⟩
  iapply (plan.wp_wait (pay m) 𝒱₀ c none K 1 rfl rfl (J := plan.owed.erase 1) owed_rest) $$ [Hc1 HO Hat1]
  · isplitr; · iexact HR
    isplitr; · iexact HL
    isplitl [Hc1]; · iexact Hc1
    isplitl [HO]; · iexact HO
    iexact Hat1
  iintro ⟨Hp1, Hz1, HO⟩
  ihave Ha := (show pay m c 0 ⊢ argPts m c (oth c) from Entails.rfl) $$ Hp0
  ihave Hg := (show pay m c 1 ⊢ gotPts c (got m c) from Entails.rfl) $$ Hp1
  rw [wp_ret]
  imodintro
  isplitr [HO]
  · rw [zeros_eq]
    isplitl [Hz0 Hz1]
    · isplitl [Hz0] <;> iassumption
    · unfold done
      isplitl [Ha] <;> iassumption
  · iexact HO

/-! ## The buffers before and after -/

/-- An element lies in the place of its first coordinate. -/
theorem mem_elts {c : Dev nD} {h : Fin 2} {x : Idx (inL c)} : x ∈ elts c h ↔ (x : S2x13312x1024.Idx) 0 = h := by
  unfold elts place
  rw [show ((part ![h.val, 0, 0] (place_inb h)).view).set = (Rect.unit (s := S2x13312x1024) ![h.val, 0, 0] S1x13312x1024.size (place_inb h)).set from
    (View.set_reshape _ _).trans (View.set_slice_whole _ _)]
  refine Rect.mem_set_unit.trans ⟨fun hx => ?_, fun e a => ?_⟩
  · have h0 := hx 0
    exact Fin.ext (by simp [S1x13312x1024] at h0; omega)
  · subst e
    have := (x : S2x13312x1024.Idx) a |>.isLt
    match a with
    | 0 => exact ⟨le_rfl, Nat.lt_succ_self _⟩
    | 1 => exact ⟨Nat.zero_le _, (Nat.zero_add _).symm ▸ this⟩
    | 2 => exact ⟨Nat.zero_le _, (Nat.zero_add _).symm ▸ this⟩

/-- The argument is its two places. -/
theorem arg_split (c : Dev nD) : (inL c ↦{fullShare} arg m c : sProp 𝕄) = iprop(argPts m c (oth c) ∗ argPts m c (core c)) := by
  rw [pts_places (inL c) (elts c) (fun t t' h => Finset.disjoint_left.mpr fun x hx hx' => h ((mem_elts.mp hx).symm.trans (mem_elts.mp hx')))
    (fun x => ⟨_, mem_elts.mpr rfl⟩), bigSep_univ_eq_bigSepL [oth c, core c] (cores_list c).1 (cores_list c).2]
  rfl

end Cert.SiblingProof

end
-- ==== Proof.SiblingSum.lean ====
/-
# The sum of a core's half with the half its sibling sent: the second region of the call `grads_add_sibling`

Region 1 of `SiblingIdeal` runs over 52 blocks of 256 rows: it adds block `t` of `main_v14` (the half this core keeps)
and block `t` of `main_v1` (the half the sibling sent) and writes block `t` of `main_v15`. `sum_arr` says what the
region leaves: the elementwise sum of the two arrays as it found them. `sumSeg` is the region as a segment of the run,
entered from all buffers at any contents.
-/
module

public import proofs.«01_k».proof.Proof.Sibling
public import proofs.«01_k».proof.Proof.Gen.SiblingIdeal.Points
public import proofs.«01_k».proof.Proof.Gen.SiblingIdeal.Regions
public import Idealize.ShloMosaic.Lib.Pipeline.RegionArraysS
public import Idealize.ShloMosaic.Lib.Pipeline.Value
public import Idealize.ShloMosaic.Lib.Pipeline.ValueKit.Geometry
public import Idealize.ShloMosaic.Lib.Tactic

@[expose] public section

set_option maxRecDepth 16384
set_option Elab.async false

noncomputable section

namespace Cert.SiblingProof

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Idealize.ShloMosaic.Pipeline (Dat)
open Cert.SiblingIdeal Cert.SiblingIdeal.Gen Cert.OneShot Cert.TalkSeg Cert.TalkLaunch

variable {F : FTy → Type} [FloatOps F]

local notation "𝕄" => MT nD τ sig Unit (Elt F) ℕ (UU nD τ sig) ℕ

/-! ## The body -/

/-- A memref's buffer on device `c`, held whole. -/
abbrev bufPt (c : Dev nD) {sp : Space} {S : Shape} {e : EltTy} (M : Memref sig .tc sp S e) (f : Buf (Elt F) (M.view.loc (c : Thread nD τ))) : sProp 𝕄 :=
  M.view.loc (c : Thread nD τ) ↦{fullShare} f

theorem corner : (![0, 0] : Fin 2 → ℕ) = fun _ => 0 := funext fun a => by revert a; decide

/-- The body leaves its inputs as they were and the sum of what they read in its output. -/
theorem sum_run (c : Dev nD) (i : grid1.Coords) (M0 M1 M2 : Memref sig .tc .vmem S256x1024 .f32) (h0 : M0.IsWhole) (h1 : M1.IsWhole) (h2 : M2.IsWhole)
    (f0 : Buf (Elt F) (M0.view.loc (c : Thread nD τ))) (f1 : Buf (Elt F) (M1.view.loc (c : Thread nD τ))) (f2 : Buf (Elt F) (M2.view.loc (c : Thread nD τ)))
    (Q : PUnit → sProp 𝕄) :
    iprop(bufPt c M0 f0 ∗ bufPt c M1 f1 ∗ bufPt c M2 f2
        ∗ (iprop(bufPt c M0 f0 ∗ bufPt c M1 f1 ∗ ∃ g, ⌜M2.view.read (Elt F) g = addf (M0.view.read (Elt F) f0) (M1.view.read (Elt F) f1)⌝ ∗ bufPt c M2 g) -∗ Q ⟨⟩))
      ⊢ wp frame (wpE (defs₀ (F := F)) 𝒱₀ c none) Set.univ (cc1_grads_add_sibling i M0 h0 M1 h1 M2 h2) Q := by
  iintro ⟨H0, H1, H2, Hk⟩
  sl_exec!
  sl_step
  iapply Hk
  isplitl [H0]; · iexact H0
  isplitl [H1]; · iexact H1
  iexists _
  isplitr
  swap
  · iexact H2
  ipureintro
  unfold sum_run.sl.H2_1
  refine (View.read_writes_junk_eq_canon _ _).trans ((View.canon_unit_zero corner _ _).trans ?_)
  unfold k1_pay1
  rw [shapeCast_self, shapeCast_self]
  exact congrArg₂ addf (View.ld_unit_zero (S := S256x1024) corner _ _) (View.ld_unit_zero (S := S256x1024) corner _ _)

/-! ## The proof data -/

variable (V : Dev nD → Valuation τ sig (Elt F))

/-- The sum of the two arrays the region reads, on device `c`. -/
def total (c : Dev nD) : S13312x1024.Idx → Elt F .f32 :=
  addf (fun x => (V c main_v14 : S13312x1024.Idx → Elt F .f32) x) (fun x => (V c main_v1 : S13312x1024.Idx → Elt F .f32) x)

/-- Entered with the arrays at `V`; the body leaves each input block as fetched and the block of the sum in the output. -/
def sumDat (c : Dev nD) : Dat τ (Elt F) Unit ℕ (UU nD τ sig) ℕ cfg1 c where
  A w := V c (Proc.devRef .tc (Pipeline.arrRef spec1 w))
  after w t := match w with
    | ⟨0, _⟩ => ((cfg1.win 0).blk t).view.read (Elt F) (V c main_v14)
    | ⟨1, _⟩ => ((cfg1.win 1).blk t).view.read (Elt F) (V c main_v1)
    | ⟨2, _⟩ => addf (((cfg1.win 0).blk t).view.read (Elt F) (V c main_v14) : FVec F S256x1024 .f32) (((cfg1.win 1).blk t).view.read (Elt F) (V c main_v1))
  Φ _ := Pipeline.scopedRest spec1 c
  q _ := fullShare
  owed _ := 0

theorem before_kept (c : Dev nD) (t : Fin cfg1.N) (d : (cfg1.win 0).block.Idx → Elt F (cfg1.win 0).elt) :
    (sumDat V c).before 0 t d = ((cfg1.win 0).blk t).view.read (Elt F) (V c main_v14) :=
  ((sumDat V c).before_fetched 0 t (fetch1_0 t) d).trans rfl

theorem before_sent (c : Dev nD) (t : Fin cfg1.N) (d : (cfg1.win 1).block.Idx → Elt F (cfg1.win 1).elt) :
    (sumDat V c).before 1 t d = ((cfg1.win 1).blk t).view.read (Elt F) (V c main_v1) :=
  ((sumDat V c).before_fetched 1 t (fetch1_1 t) d).trans rfl

theorem owned {c : Dev nD} {M : Memref sig .tc .vmem S256x1024 .f32} (h : M.IsWhole) (X : S256x1024.Idx → Elt F .f32) :
    (owns (c : Thread nD τ) M fullShare X : sProp 𝕄) = iprop(∃ f : Buf (Elt F) (M.view.loc (c : Thread nD τ)), ⌜M.view.read (Elt F) f = X⌝ ∗ bufPt c M f) := by
  unfold owns
  rw [h.set_eq_univ]

theorem sum_obligation (c : Dev nD) : Pipeline.BodyObligation (sumDat V c) (defs₀ (F := F)) 𝒱₀ () Set.univ := fun t => by
  rw [bigSep_W1, bigSep_W1]
  rw [show (sumDat V c).Φ t.succ = (sumDat V c).Φ t.castSucc from rfl,
    show (sumDat V c).owesAt () t.succ = (sumDat V c).owesAt () t.castSucc from rfl]
  simp only [before_kept, before_sent]
  iintro ⟨HΦ, HO, ⟨%d0, H0⟩, ⟨%d1, H1⟩, ⟨%d2, H2⟩⟩
  ihave H0' := (Entails.of_eq (owned (hstage1_0 _) _)) $$ H0
  ihave H1' := (Entails.of_eq (owned (hstage1_1 _) _)) $$ H1
  ihave H2' := (Entails.of_eq (owned (hstage1_2 _) _)) $$ H2
  icases H0' with ⟨%f0, %e0, H0⟩
  icases H1' with ⟨%f1, %e1, H1⟩
  icases H2' with ⟨%f2, -, H2⟩
  iapply (sum_run c (grid1.coords t) (win1_0.stage (cfg1.slots t 0)) (win1_1.stage (cfg1.slots t 1)) (win1_2.stage (cfg1.slots t 2))
    (hstage1_0 _) (hstage1_1 _) (hstage1_2 _) f0 f1 f2 _)
  isplitl [H0]; · iexact H0
  isplitl [H1]; · iexact H1
  isplitl [H2]; · iexact H2
  iintro ⟨H0, H1, %g, %eg, H2⟩
  isplitl [HΦ]; · iexact HΦ
  isplitl [HO]; · iexact HO
  isplitl [H0]
  · iapply (Entails.of_eq (owned (hstage1_0 _) _).symm)
    iexists f0
    isplitr
    · ipureintro; exact e0
    · iexact H0
  isplitl [H1]
  · iapply (Entails.of_eq (owned (hstage1_1 _) _).symm)
    iexists f1
    isplitr
    · ipureintro; exact e1
    · iexact H1
  iapply (Entails.of_eq (owned (hstage1_2 _) _).symm)
  iexists g
  isplitr
  · ipureintro
    rw [eg, e0, e1]
    rfl
  · iexact H2

/-! ## What the region leaves -/

/-- The output array ends as the sum of the two arrays. -/
theorem sum_arr (c : Dev nD) : (sumDat V c).arrAt 2 cfg1.N = total V c := by
  refine (sumDat V c).arrAt_eq_of_covers 2 _ (by decide +kernel) fun t hf y => ?_
  blk_simp
  rfl

/-! ## The segment -/

variable (pdats : (q : Fin 2) → (c : Dev nD) → Dat τ (Elt F) Unit ℕ (UU nD τ sig) ℕ (Pipeline.pin (pcfgs (F := F)) adm q) c)
  (hd : ∀ c, pdats 1 c = sumDat V c) (lv : GSem nD τ sig → Unit → ℕ) (b : Dev nD → ℕ)
  (hb : ∀ (c : Dev nD) (w : Fin cfg1.W) (s : Fin (cfg1.win w).nbuf), lv ((c : Thread nD τ), .dma ((cfg1.win w).sem s)) () ≤ b c)

/-- The region, entered with all buffers at `V`. -/
def sumSeg : Pipeline.RegionSeg (pcfgs (F := F)) adm pdats () defs₀ 𝒱₀ (Plan.L nD τ sig) lv 1 :=
  Pipeline.RegionSeg.ofHeldIn pcfgs adm pdats () defs₀ 𝒱₀ (Plan.L nD τ sig) lv 1 (fun _ => 0) (Pipeline.ucRefs τ sig)
    (fun _ => iprop(emp)) (fun _ => iprop(emp)) launch1.toP rfl
    (fun c => by rw [hd c]; exact (sum_obligation V c).loose) (fun c t => by rw [hd c]; rfl) (fun c => by rw [hd c]; rfl)
    (fun c w => by rw [hd c]; exact (sumDat V c).share_full (fun _ => rfl) w)
    (fun c => by
      rw [hd c]
      show iprop(Pipeline.scopedRest spec1 c ∗ emp) ⊢ Pipeline.scopedRest spec1 c
      iintro ⟨H, -⟩
      iexact H)
    (fun c => by
      rw [hd c]
      show Pipeline.scopedRest spec1 c ⊢ iprop(Pipeline.scopedRest spec1 c ∗ emp)
      iintro H
      isplitl [H]; · iexact H
      iempintro)
    b ⟨fun _ _ _ => Finset.mem_singleton_self (), hb, fun c g i h => absurd h (Nat.lt_irrefl 0)⟩ (fun _ => iprop(emp)) V
    (fun c w => by rw [hd c]; rfl)

theorem arrs_sub : Pipeline.arrRefs (pcfgs (F := F) 1).spec ⊆ Pipeline.ucRefs τ sig :=
  Pipeline.arrRefs_sub_ucRefs _ fun w => by fin_cases w <;> rfl

/-- The sum is entered from every buffer held at `V`, nothing owed; and left likewise, its arrays at their end. -/
theorem sum_pre (c : Dev nD) :
    iprop(StableHlo.held (c : Thread nD τ) (Pipeline.ucRefs τ sig) (V c) ∗ ∃ W, owes (c : Thread nD τ) (0 : CellTallies nD τ sig Unit) W)
      ⊢ (sumSeg V pdats hd lv b hb).pre c := by
  unfold sumSeg
  refine BIBase.Entails.trans (show _ ⊢ iprop(StableHlo.held (c : Thread nD τ) (Pipeline.ucRefs τ sig) (V c)
    ∗ ((∃ W, owes (c : Thread nD τ) (0 : CellTallies nD τ sig Unit) W) ∗ emp ∗ emp)) from ?_)
    (Pipeline.RegionSeg.ofHeldIn_pre (pcs := pcfgs) (a := adm) (pdats := pdats) (p := 1) (D := fun _ => 0) arrs_sub
      (X := fun _ => iprop(emp)) (Y := fun _ => iprop(emp)) (R := fun _ => iprop(emp)) (W := V) (b := b) (kit := launch1.toP) (hshare := fun c w => by rw [hd c]; exact (sumDat V c).share_full (fun _ => rfl) w)
      (hW := fun c w => by rw [hd c]; rfl) c)
  iintro ⟨Hh, HO⟩
  isplitl [Hh]; · iexact Hh
  isplitl [HO]; · iexact HO
  isplitl <;> iempintro

theorem sum_post (c : Dev nD) : (sumSeg V pdats hd lv b hb).post c
    ⊢ iprop(StableHlo.held (c : Thread nD τ) (Pipeline.ucRefs τ sig) (Pipeline.afterRegion (pdats 1 c) (V c))
      ∗ ∃ W, owes (c : Thread nD τ) (0 : CellTallies nD τ sig Unit) W) := by
  unfold sumSeg
  refine (Pipeline.RegionSeg.ofHeldIn_post (pcs := pcfgs) (a := adm) (pdats := pdats) (p := 1) (D := fun _ => 0) arrs_sub
      (X := fun _ => iprop(emp)) (Y := fun _ => iprop(emp)) (R := fun _ => iprop(emp)) (W := V) (b := b) (kit := launch1.toP) (hshare := fun c w => by rw [hd c]; exact (sumDat V c).share_full (fun _ => rfl) w)
      (hW := fun c w => by rw [hd c]; rfl) c).trans
    (show iprop(StableHlo.held (c : Thread nD τ) (Pipeline.ucRefs τ sig) (Pipeline.afterRegion (pdats 1 c) (V c))
      ∗ ((∃ W, owes (c : Thread nD τ) (0 : CellTallies nD τ sig Unit) W) ∗ emp ∗ emp)) ⊢ _ from ?_)
  iintro ⟨Hh, HO, -⟩
  isplitl [Hh]; · iexact Hh
  iexact HO

end Cert.SiblingProof

end
-- ==== Proof.SiblingLaunch.lean ====
/-
# Each core sums its half with the half its sibling sent: the run

The whole program `SiblingIdeal`: the transfer (`Sibling`), the host's choice of the half this core keeps, and the sum
(`SiblingSum`). `run_main`: on every device the argument is unchanged, the result is the sum of the two halves, and every
semaphore ends at zero.
-/
module

public import proofs.«01_k».proof.Proof.SiblingSum

@[expose] public section

set_option maxRecDepth 16384
set_option Elab.async false

noncomputable section

namespace Cert.SiblingProof

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem
open Idealize.ShloMosaic.Pipeline (Seg)
open Cert.SiblingIdeal Cert.SiblingIdeal.Gen Cert.OneShot Cert.TalkSeg Cert.TalkLaunch

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The buffers between the parts -/

/-- The two buffers the transfer touches, among all that outlive a region. -/
def ends : Finset (DevRef τ sig) := {Proc.devRef .tc main_arg0, Proc.devRef .tc main_v1}

theorem mem_uc (r : Ref sig .tc) (h : ¬ (Proc.devRef (τ := τ) .tc r).isScoped) : Proc.devRef .tc r ∈ Pipeline.ucRefs τ sig :=
  Finset.mem_filter.mpr ⟨StableHlo.devRef_mem_tcRefs r, h⟩

theorem ends_sub : ends ⊆ Pipeline.ucRefs τ sig := by
  intro b hb
  rcases Finset.mem_insert.mp hb with e | e
  · rw [e]
    exact mem_uc main_arg0 (by decide)
  · rw [Finset.mem_singleton.mp e]
    exact mem_uc main_v1 (by decide)

theorem held_ends (c : Dev nD) (V : Valuation τ sig (Elt F)) :
    (StableHlo.held (c : Thread nD τ) ends V : sProp 𝕄)
      = iprop((inL c ↦{fullShare} V (Proc.devRef .tc main_arg0)) ∗ gotPts c (V (Proc.devRef .tc main_v1))) := by
  unfold StableHlo.held
  exact bigSep_eq_bigSepL_of_eq [Proc.devRef .tc main_arg0, Proc.devRef .tc main_v1] (by decide) (by decide) _

/-- What the transfer leaves: the received half in `main_v1`. -/
def left : Outs (F := F) := fun _ r c => Function.update (fun r : Ref sig .tc => m ((c : Thread nD τ).loc r)) main_v1 (got m c) r

theorem left_got (c : Dev nD) : V1 m (left m) c (Proc.devRef .tc main_v1) = got m c := by
  unfold V1 left
  rw [Function.update_self, Function.update_self]

/-- Around the transfer: the half this core keeps, and every other buffer. -/
def rest (c : Dev nD) : sProp 𝕄 := iprop(argPts m c (core c) ∗ StableHlo.held (c : Thread nD τ) (Pipeline.ucRefs τ sig \ ends) (V0 m c))

/-- A device's buffers at the launch. -/
theorem bufs_split (c : Dev nD) : (unscopedBufs c (fun b => m ((c.tc : Thread nD τ).loc b)) : sProp 𝕄)
    ⊢ iprop((argPts m c (oth c) ∗ gotPts c (m (gotL c))) ∗ rest m c) := by
  rw [show (unscopedBufs c (fun b => m ((c.tc : Thread nD τ).loc b)) : sProp 𝕄) = StableHlo.held (c : Thread nD τ) (Pipeline.ucRefs τ sig) (V0 m c) from
    Pipeline.unscopedBufs_held c (V0 m c), StableHlo.held_sub_split (c : Thread nD τ) ends_sub (V0 m c), held_ends]
  have e := Entails.of_eq (arg_split m c)
  unfold rest
  iintro ⟨⟨Ha, Hg⟩, Hr⟩
  ihave Ha' := e $$ Ha
  icases Ha' with ⟨Ho, Hk⟩
  isplitl [Ho Hg]
  · isplitl [Ho]; · iexact Ho
    iexact Hg
  · isplitl [Hk]; · iexact Hk
    iexact Hr

/-- Every device's buffers, each receiving buffer with the device that sends to it. -/
theorem bufs_dealt : (bigSep Finset.univ fun c : Dev nD => (unscopedBufs c (fun b => m ((c.tc : Thread nD τ).loc b)) : sProp 𝕄))
    ⊢ bigSep Finset.univ fun c => iprop(mine m c ∗ rest m c) := by
  refine (bigSep_mono fun c _ => bufs_split m c).trans ?_
  unfold mine
  have e : (bigSep Finset.univ fun c : Dev nD => (gotPts c (m (gotL c)) : sProp 𝕄))
      = bigSep Finset.univ fun c : Dev nD => gotPts (sib c) (m (gotL (sib c))) :=
    (bigSep_univ_equiv sibs fun c : Dev nD => (gotPts c (m (gotL c)) : sProp 𝕄)).trans (bigSep_congr fun c _ => rfl)
  simp only [bigSep_sep']
  rw [e]
  exact BI.Entails.refl _

/-- After the transfer every buffer is held again, the received half in `main_v1`. -/
theorem rejoin (c : Dev nD) : iprop(done m c ∗ rest m c) ⊢ (StableHlo.held (c : Thread nD τ) (Pipeline.ucRefs τ sig) (V1 m (left m) c) : sProp 𝕄) := by
  rw [StableHlo.held_sub_split (c : Thread nD τ) ends_sub (V1 m (left m) c), held_ends, left_got,
    V1_of m (left m) c main_arg0 (by decide),
    StableHlo.held_congr (c : Thread nD τ) (V := V1 m (left m) c) (V' := V0 m c) fun b hb => by
      have hne : b ≠ Proc.devRef .tc main_v1 := fun e => (Finset.mem_sdiff.mp hb).2 (e ▸ by decide)
      exact Function.update_of_ne hne _ _]
  have e := Entails.of_eq (arg_split m c).symm
  unfold done rest
  iintro ⟨⟨Ho, Hg⟩, Hk, Hr⟩
  isplitr [Hr]
  · isplitr [Hg]
    · iapply e
      isplitl [Ho] <;> iassumption
    · iexact Hg
  · iexact Hr

/-! ## The run -/

def dats : (q : Fin 2) → (c : Dev nD) → Pipeline.Dat τ (Elt F) Unit ℕ (UU nD τ sig) ℕ (Pipeline.pin (pcfgs (F := F)) adm q) c
  | 0, c => talkDat plan (pay m) (Pipeline.pin (pcfgs (F := F)) adm 0) rfl (mine m) (done m) c
  | 1, c => sumDat (V3 m (left m)) c

theorem sems : Pipeline.OwnSemFacts (cfg0.spec) plan.sem := by decide

/-- No wait of the sum's staging is above level 0. -/
theorem levels (c : Dev nD) (w : Fin cfg1.W) (s : Fin (cfg1.win w).nbuf) : plan.lv τ ((c : Thread nD τ), .dma ((cfg1.win w).sem s)) () ≤ 0 := by
  unfold Plan.lv
  split
  · exact le_rfl
  · exact le_rfl

/-- The sum as a segment of the run. -/
def sumAt : Pipeline.RegionSeg (pcfgs (F := F)) adm (dats m) () defs₀ 𝒱₀ (Plan.L nD τ sig) (plan.lv τ) 1 :=
  sumSeg (V3 m (left m)) (dats m) (fun c => rfl) (plan.lv τ) (fun _ => 0) levels

/-- Nothing is owed after the transfer. -/
def quiet : Fin 3 → Dev nD → sProp 𝕄 := fun _ c => iprop(∃ W, owes (c : Thread nD τ) (0 : CellTallies nD τ sig Unit) W)

/-- What follows the transfer. -/
def later (c : Dev nD) : List (Seg (pcfgs (F := F)) adm (dats m) () defs₀ 𝒱₀ (Plan.L nD τ sig) (plan.lv τ)) :=
  [.host (seg1 m (left m) 𝒱₀ (Plan.L nD τ sig) (plan.lv τ) quiet c), .host (seg2 m (left m) 𝒱₀ (Plan.L nD τ sig) (plan.lv τ) quiet), .region (sumAt m)]

/-- The buffers at the end. -/
abbrev last (c : Dev nD) : Valuation τ sig (Elt F) := Pipeline.afterRegion (dats m 1 c) (V3 m (left m) c)

/-- The host's two stretches follow one another. -/
theorem stretches (outs : Outs (F := F)) (c : Dev nD) :
    (seg1 m outs 𝒱₀ (Plan.L nD τ sig) (plan.lv τ) quiet c).post c ⊢ (seg2 m outs 𝒱₀ (Plan.L nD τ sig) (plan.lv τ) quiet).pre c := .rfl

theorem to_sum (c : Dev nD) : (seg2 m (left m) 𝒱₀ (Plan.L nD τ sig) (plan.lv τ) quiet).post c ⊢ (sumAt m).pre c :=
  sum_pre (V3 m (left m)) (dats m) (fun c => rfl) (plan.lv τ) (fun _ => 0) levels c

theorem from_sum (c : Dev nD) : (sumAt m).post c
    ⊢ iprop(StableHlo.held (c : Thread nD τ) (Pipeline.ucRefs τ sig) (last m c) ∗ ∃ W, owes (c.tc : Thread nD τ) (0 : CellTallies nD τ sig Unit) W) :=
  sum_post (V3 m (left m)) (dats m) (fun c => rfl) (plan.lv τ) (fun _ => 0) levels c

theorem to_host (c : Dev nD) : iprop((done m c ∗ rest m c) ∗ ∃ W, owes (c.tc : Thread nD τ) (0 : CellTallies nD τ sig Unit) W)
    ⊢ (seg1 m (left m) 𝒱₀ (Plan.L nD τ sig) (plan.lv τ) quiet c).pre c :=
  sep_mono (rejoin m c) .rfl

theorem chain_later (c : Dev nD) : Seg.ChainsAt c (fun c => iprop((done m c ∗ rest m c) ∗ ∃ W, owes (c.tc : Thread nD τ) (0 : CellTallies nD τ sig Unit) W)) (later m c)
    fun c => iprop(StableHlo.held (c : Thread nD τ) (Pipeline.ucRefs τ sig) (last m c) ∗ ∃ W, owes (c.tc : Thread nD τ) (0 : CellTallies nD τ sig Unit) W) :=
  ⟨to_host m c, stretches m (left m) c, to_sum m c, from_sum m c⟩

/-- What is read off device `c` at the end: the argument unchanged, the result the sum. -/
def QY (c : Dev nD) (s : MemSt nD τ sig (Elt F)) : Prop :=
  s.mem (inL c) = arg m c ∧ s.mem ((c.tc : Thread nD τ).loc main_v15) = total (V3 m (left m)) c

theorem not_arg : ∀ w, Pipeline.arrRef spec1 w ≠ main_arg0 := by decide

theorem last_arg (c : Dev nD) : last m c (Proc.devRef .tc main_arg0) = arg m c :=
  (Pipeline.afterRegion_keeps (dats m 1 c) _ launch1.win.arr_inj (fun w => rfl) main_arg0 fun w h => absurd h (not_arg w)).trans <|
    (V3_of m (left m) c main_arg0 (by decide)).trans <| (V2_of m (left m) c main_arg0 (by decide)).trans (V1_of m (left m) c main_arg0 (by decide))

theorem last_sum (c : Dev nD) : last m c (Proc.devRef .tc main_v15) = total (V3 m (left m)) c :=
  (Pipeline.afterRegion_arr (dats m 1 c) _ launch1.win.arr_inj 2).trans (sum_arr (V3 m (left m)) c)

theorem read_last (c : Dev nD) (s' : Phys nD τ sig (Elt F)) :
    iprop(StableHlo.held (c : Thread nD τ) (Pipeline.ucRefs τ sig) (last m c) ∗ SI s') ⊢ (|={Set.univ}=> iprop(⌜QY m c s'.mem⌝ ∗ SI s') : sProp 𝕄) := by
  unfold StableHlo.held
  iintro ⟨Hh, HSI⟩
  ihave Hr := (pointsTo_read_all (Pipeline.ucRefs τ sig) (fun b => ((c : Thread nD τ).1, b)) (last m c) s') $$ [Hh HSI]
  · isplitl [Hh] <;> iassumption
  icases Hr with ⟨%h, HSI⟩
  imodintro
  isplitr
  · ipureintro
    exact ⟨(h _ (mem_uc main_arg0 (by decide))).trans (last_arg m c), (h _ (mem_uc main_v15 (by decide))).trans (last_sum m c)⟩
  · iexact HSI

/-- THE RUN: from any memory with every semaphore at zero, every execution ends, with the argument unchanged, the result
    the sum of the half this core keeps and the half it received, and every semaphore at zero. -/
theorem run_main : θ_run (defs (F := F)) (onTc (τ := τ) (main (F := F))) ⟨m, fun _ => 0, ρ⟩ (fun r => (∀ c, QY m c r.2) ∧ r.2.sem = fun _ => 0) :=
  θ_run_talk plan (pay m) pcfgs adm (dats m) defs₀ 𝒱₀ cellOf_inj (q := (0 : Fin 2)) rfl N_0 rfl winFacts0.to₀ sems
    (mine m) (done m) (rest m) (fun c => rfl)
    (fun c => body_of N_0 _ defs₀ 𝒱₀ body (fun t => rfl) (body_run m c))
    m ρ main (later m)
    (fun c => by
      rewrite [main_chain c, Seg.run_eq_chain]
      rfl)
    (fun c => by simp only [later, Seg.pipes_host, Seg.pipes_region, Seg.pipes_nil]; decide)
    (bufs_dealt m) (fun c => StableHlo.held (c : Thread nD τ) (Pipeline.ucRefs τ sig) (last m c)) (chain_later m) (QY m) (read_last m)
    (fun s h hs => ⟨h, funext fun g => hs g (.inr (regions_no_unscoped g.2))⟩)

end Cert.SiblingProof

end
-- ==== Proof.SiblingValue.lean ====
/-
# Each core sums its half with the half its sibling sent: the values

Device `c` holds rows `2 c` and `2 c + 1` of the whole argument, the two halves of what its core computed. By `run_main` its
result is the sum of the half the host's slice keeps (`half_kept`) and the half received, so at every element the sum of
the arguments of the two cores of the chip in the half of this core (`total_elt`). The reference sums the whole argument
over the cores; its block for device `c` is the same sum (`ref_elt`), in the other order on a chip's second core (`value`).
-/
module

public import proofs.«01_k».proof.Proof.SiblingLaunch
public import proofs.«01_k».proof.Proof.Gen.SiblingRefIdeal.Run
public import proofs.«01_k».proof.Proof.Gen.Sibling
public import Idealize.ShloMosaic.Lib.StableHlo.RunClose
public import Idealize.ShloMosaic.Lib.WordCmp
public import Idealize.ShloMosaic.Lib.Pointwise
public import Idealize.ShloMosaic.Lib.Pipeline.Value
public import proofs.«01_k».proof.Defs

@[expose] public section

set_option maxRecDepth 16384
set_option Elab.async false

noncomputable section

namespace Cert.SiblingProof

open Idealize.ShloMosaic Idealize.ShloMosaic.TcCoe
open Idealize.SL.Sem
open Cert.SiblingIdeal Cert.SiblingIdeal.Gen

variable {F : FTy → Type} [FloatOps F]
variable (m : (ℓ : Loc nD τ sig) → Buf (Elt F) ℓ)

/-- The host's word for the core. -/
theorem word_core (V : Valuation τ sig (Elt F)) (c : Dev nD) :
    (StableHlo.after (hostOps1 c) V (Proc.devRef .tc main_v13) : S_.Idx → BitVec 32) = fun _ => BitVec.ofNat 32 (core c).val := by
  after_results
  funext i
  show IntOp.remui .host (IntOp.divui .host c.word 1#32) 2#32 = BitVec.ofNat 32 (core c).val
  revert c
  decide

/-- The element of half `h` of an argument at an element of the half. -/
def up (h : Fin 2) (y : S13312x1024.Idx) : S2x13312x1024.Idx := fun a => match a with
  | 0 => h
  | 1 => y 0
  | 2 => y 1

theorem place_emb (h : Fin 2) (y : S13312x1024.Idx) : (place h).emb y = up h y := by
  show (Rect.unit (s := S2x13312x1024) ![h.val, 0, 0] S1x13312x1024.size (place_inb h)).emb (Shape.reshapeEquiv _ y) = up h y
  rw [show Shape.reshapeEquiv (s := S1x13312x1024) (s' := S13312x1024) _ y = Fin.cons ⟨0, Nat.one_pos⟩ y from Shape.reshapeEquiv_cons_one _ _]
  funext a
  apply Fin.ext
  match a with
  | 0 => show h.val + 1 * 0 = h.val; omega
  | 1 => show 0 + 1 * (y 0).val = (y 0).val; omega
  | 2 => show 0 + 1 * (y 1).val = (y 1).val; omega

theorem slices (h : Fin 2) : S2x13312x1024.Slices ![h.val, 0, 0] S1x13312x1024 := by revert h; decide

/-- What the host's slice leaves: half `h` of the argument, where its word says `h`. -/
theorem half_kept (V : Valuation τ sig (Elt F)) (h : Fin 2) (hV : (V (Proc.devRef .tc main_v13) : S_.Idx → BitVec 32) = fun _ => BitVec.ofNat 32 h.val)
    (y : S13312x1024.Idx) :
    (StableHlo.after hostOps1_1 V (Proc.devRef .tc main_v14) : S13312x1024.Idx → Elt F .f32) y
      = (V (Proc.devRef .tc main_arg0) : S2x13312x1024.Idx → Elt F .f32) (up h y) := by
  refine (congrFun (?_ : _ = shapeCast S13312x1024 (extractStridedSlice S1x13312x1024 ![h.val, 0, 0] (V (Proc.devRef .tc main_arg0) : S2x13312x1024.Idx → Elt F .f32) (slices h))
    shapeCasts_S1x13312x1024_S13312x1024) y).trans ?_
  · after_results_simp_entrywise
    refine congrArg (fun x => shapeCast S13312x1024 x shapeCasts_S1x13312x1024_S13312x1024) (WordCmp.dynamicSlice_eq_extract S1x13312x1024
      (V (Proc.devRef .tc main_arg0) : S2x13312x1024.Idx → Elt F .f32) _ sliceFits_S2x13312x1024_S1x13312x1024 ![h.val, 0, 0] (slices h) fun a => ?_)
    match a with
    | 0 =>
      show (select (cmpi .slt (V (Proc.devRef .tc main_v13) : S_.Idx → BitVec 32) (constantI S_ 32 0#32))
        (addi (V (Proc.devRef .tc main_v13) : S_.Idx → BitVec 32) (constantI S_ 32 2#32)) (V (Proc.devRef .tc main_v13) : S_.Idx → BitVec 32) (Shape.Idx.first h_S_)).toInt = (h.val : ℤ)
      rw [hV]
      clear hV
      revert h
      decide
    | 1 => rfl
    | 2 => rfl
  · show (V (Proc.devRef .tc main_arg0) : S2x13312x1024.Idx → Elt F .f32) (fun a => ⟨(![h.val, 0, 0] : Fin 3 → ℕ) a + (Shape.reshapeEquiv (s := S1x13312x1024) (s' := S13312x1024) _ y a).val, _⟩) = _
    refine congrArg (V (Proc.devRef .tc main_arg0) : S2x13312x1024.Idx → Elt F .f32) (funext fun a => Fin.ext ?_)
    show (![h.val, 0, 0] : Fin 3 → ℕ) a + (Shape.reshapeEquiv (s := S1x13312x1024) (s' := S13312x1024) _ y a).val = (up h y a).val
    rw [show Shape.reshapeEquiv (s := S1x13312x1024) (s' := S13312x1024) _ y = Fin.cons ⟨0, Nat.one_pos⟩ y from Shape.reshapeEquiv_cons_one _ _]
    match a with
    | 0 => show h.val + 0 = h.val; omega
    | 1 => show 0 + (y 0).val = (y 0).val; omega
    | 2 => show 0 + (y 1).val = (y 1).val; omega

/-- Each element of the result: the sum of the arguments of the two cores of the chip, in the half of this core. -/
theorem total_elt (c : Dev nD) (y : S13312x1024.Idx) : total (V3 m (left m)) c y
    = FloatOps.addf ((arg m c : S2x13312x1024.Idx → Elt F .f32) (up (core c) y)) ((arg m (sib c) : S2x13312x1024.Idx → Elt F .f32) (up (core c) y)) := by
  show FloatOps.addf ((V3 m (left m) c (Proc.devRef .tc main_v14) : S13312x1024.Idx → Elt F .f32) y) ((V3 m (left m) c (Proc.devRef .tc main_v1) : S13312x1024.Idx → Elt F .f32) y) = _
  congr 1
  · refine (half_kept (V2 m (left m) c) (core c) (word_core _ c) y).trans ?_
    rw [V2_of m (left m) c main_arg0 (by decide), V1_of m (left m) c main_arg0 (by decide)]
  · rw [V3_of m (left m) c main_v1 (by decide), V2_of m (left m) c main_v1 (by decide), left_got]
    show (arg m (sib c) : S2x13312x1024.Idx → Elt F .f32) ((place (core c)).emb y) = _
    rw [place_emb]

/-- The reference's result: element by element the sum over the cores of a chip. -/
def refOut (w : Cert.SiblingRefIdeal.S16x13312x1024.Idx → Elt Ideal .f32) : Cert.SiblingRefIdeal.S106496x1024.Idx → Elt Ideal .f32 :=
  shapeCast _ (Host.reduceAdd (F := Ideal) (shapeCast _ w Cert.SiblingRefIdeal.Gen.shapeCasts_S16x13312x1024_S4x2x2x13312x1024)
    (constant Cert.SiblingRefIdeal.S_ .f32 0x00000000#32) Cert.SiblingRefIdeal.Gen.reducesTo_S4x2x2x13312x1024_S4x2x13312x1024_d1 Cert.SiblingRefIdeal.Gen.h_S_)
    Cert.SiblingRefIdeal.Gen.shapeCasts_S4x2x13312x1024_S106496x1024

/-- The element of the whole argument in row `r`. -/
def inW (r : Fin 16) (y : S13312x1024.Idx) : Cert.SiblingRefIdeal.S16x13312x1024.Idx := fun a => match a with
  | 0 => r
  | 1 => y 0
  | 2 => y 1

/-- The chip of a device. -/
def chip (c : Dev nD) : Fin 4 := ⟨c.val / 2, by have : c.val < 8 := c.isLt; omega⟩

theorem ref_elt (w : Cert.SiblingRefIdeal.S16x13312x1024.Idx → Elt Ideal .f32) (c : Dev nD) (y : S13312x1024.Idx) :
    (Layout.block ⟨2, ![13312, 1024]⟩ ⟨2, ![106496, 1024]⟩ 0 8 c (refOut w) : S13312x1024.Idx → Elt Ideal .f32) y
      = ∑ k : Fin 2, w (inW ⟨4 * (chip c).val + 2 * k.val + (core c).val, by have := (chip c).isLt; have := (core c).isLt; have := k.isLt; omega⟩ y) := by
  let j : Cert.SiblingRefIdeal.S4x2x13312x1024.Idx := fun a => match a with
    | 0 => chip c
    | 1 => core c
    | 2 => y 0
    | 3 => y 1
  refine Eq.trans (b := Host.reduceAdd (F := Ideal) (shapeCast _ w Cert.SiblingRefIdeal.Gen.shapeCasts_S16x13312x1024_S4x2x2x13312x1024)
    (constant Cert.SiblingRefIdeal.S_ .f32 0x00000000#32) Cert.SiblingRefIdeal.Gen.reducesTo_S4x2x2x13312x1024_S4x2x13312x1024_d1 Cert.SiblingRefIdeal.Gen.h_S_ j) ?_ ?_
  · refine congrArg (Host.reduceAdd (F := Ideal) _ _ _ _) (Shape.reshapeEquiv_eq_of_rowMajor _ ?_)
    rw [Shape.rowMajor_val_two, Shape.rowMajor_val_four]
    show ((c.val / 2 * 2 + c.val % 2) * 13312 + (y 0).val) * 1024 + (y 1).val = (c.val * 13312 + (y 0).val) * 1024 + (y 1).val
    omega
  · rw [Host.reduceAdd_apply, Ideal.hostReduceAdd_def, Ideal.hostReduceAdd_r5_a1]
    simp only [pointwise]
    refine (zero_add _).trans (Finset.sum_congr rfl fun k _ => congrArg w (funext fun a => Fin.ext ?_))
    match a with
    | 0 => show (chip c).val * 4 + k.val * 2 + (core c).val = 4 * (chip c).val + 2 * k.val + (core c).val; omega
    | 1 => rfl
    | 2 => rfl

/-- An element of a device's argument, in the whole argument. -/
theorem arg_elt (m : (ℓ : Loc nD τ sig) → Buf (Elt Ideal) ℓ) (w : Cert.SiblingRefIdeal.S16x13312x1024.Idx → Elt Ideal .f32)
    (hw : ∀ c : Dev nD, arg m c = Layout.block ⟨3, ![2, 13312, 1024]⟩ ⟨3, ![16, 13312, 1024]⟩ 0 8 c w) (d : Dev nD) (h : Fin 2) (y : S13312x1024.Idx)
    (r : Fin 16) (hr : r.val = 2 * d.val + h.val) :
    (arg m d : S2x13312x1024.Idx → Elt Ideal .f32) (up h y) = w (inW r y) := by
  rw [hw]
  refine congrArg w (funext fun a => Fin.ext ?_)
  match a with
  | 0 => show d.val * 2 + h.val = r.val; omega
  | 1 => rfl
  | 2 => rfl

theorem of_core (c : Dev nD) : ((core c).val = 0 ∧ c.val = 2 * (chip c).val ∧ (sib c).val = 2 * (chip c).val + 1)
    ∨ ((core c).val = 1 ∧ c.val = 2 * (chip c).val + 1 ∧ (sib c).val = 2 * (chip c).val) := by revert c; decide

/-- Where every device's argument is its block of `w`, every device's result at the end is its block of the reference's. -/
theorem value (m : (ℓ : Loc nD τ sig) → Buf (Elt Ideal) ℓ) (w : Cert.SiblingRefIdeal.S16x13312x1024.Idx → Elt Ideal .f32)
    (hw : ∀ c : Dev nD, arg m c = Layout.block ⟨3, ![2, 13312, 1024]⟩ ⟨3, ![16, 13312, 1024]⟩ 0 8 c w) (c : Dev nD) :
    total (V3 m (left m)) c = Layout.block ⟨2, ![13312, 1024]⟩ ⟨2, ![106496, 1024]⟩ 0 8 c (refOut w) := by
  funext y
  refine (total_elt m c y).trans (.trans ?_ (ref_elt w c y).symm)
  rw [Fin.sum_univ_two]
  rcases of_core c with ⟨h, hc, hs⟩ | ⟨h, hc, hs⟩
  · rw [arg_elt m w hw c (core c) y ⟨4 * (chip c).val + 2 * (0 : Fin 2).val + (core c).val, _⟩ (by show 4 * (chip c).val + 2 * 0 + _ = _; omega),
      arg_elt m w hw (sib c) (core c) y ⟨4 * (chip c).val + 2 * (1 : Fin 2).val + (core c).val, _⟩ (by show 4 * (chip c).val + 2 * 1 + _ = _; omega)]
    rfl
  · rw [arg_elt m w hw c (core c) y ⟨4 * (chip c).val + 2 * (1 : Fin 2).val + (core c).val, _⟩ (by show 4 * (chip c).val + 2 * 1 + _ = _; omega),
      arg_elt m w hw (sib c) (core c) y ⟨4 * (chip c).val + 2 * (0 : Fin 2).val + (core c).val, _⟩ (by show 4 * (chip c).val + 2 * 0 + _ = _; omega)]
    exact add_comm (G := EReal) _ _

/-! ## The claims -/

theorem frame_ideal : Cert.quiescent_SiblingIdeal := fun m g _ =>
  (θ_run Cert.SiblingIdeal.defs _ _).mono (fun r h => ⟨fun c => (h.1 c).1, h.2⟩) (run_main (F := Ideal) m g)

/-- The two programs' kernel bodies are the same, label by label. -/
theorem defs_eq : Cert.Sibling.defs (F := Bits) = Cert.SiblingIdeal.defs (F := Bits) := by
  refine congrArg (Pipeline.defs (Cert.SiblingIdeal.pcfgs (F := Bits))) (show Cert.Sibling.defs₀ (F := Bits) = Cert.SiblingIdeal.defs₀ (F := Bits) from ?_)
  unfold Cert.Sibling.defs₀ Cert.SiblingIdeal.defs₀
  refine congrArg Defs.onTc (funext fun f => ?_)
  match f with
  | 0 => rfl
  | 1 => rfl

theorem frame : Cert.quiescent_Sibling := fun m g _ => by
  rw [defs_eq]
  exact (θ_run Cert.SiblingIdeal.defs _ _).mono (fun r h => ⟨fun c => (h.1 c).1, h.2⟩) (run_main (F := Bits) m g)

theorem frame_ref_ideal : Cert.quiescent_SiblingRefIdeal := fun m g _ =>
  (θ_run Cert.SiblingRefIdeal.defs _ _).mono (fun r h => ⟨fun c => (h c).2, Idealize.ShloMosaic.sem_eq_zero_of_no_sems (by decide) r.2⟩)
    (Cert.SiblingRefIdeal.Value.run (F := Ideal) m g)

theorem algebraic : Cert.algebraic_SiblingIdeal_SiblingRefIdeal := fun m g m' g' _ hw =>
  ⟨_, (θ_run Cert.SiblingIdeal.defs _ _).mono (fun r h c => ⟨(h.1 c).2.trans (value m _ hw c), (h.1 c).1⟩) (run_main (F := Ideal) m g),
    (θ_run Cert.SiblingRefIdeal.defs _ _).mono (fun r h => h 0) (Cert.SiblingRefIdeal.Value.run (F := Ideal) m' g')⟩

end Cert.SiblingProof

end
-- ==== Proof.Chips.lean ====
/-
# Each chip sends every other chip the place of its gradients that the other sums: the transfers

`ChipsIdeal` is the call `grads_add_chips`. A device's argument has four places, one per chip. Device `c` (its chip is
`c / 2`; `far j c` is the same core of another chip, `j` one of the three) first sends the place of each other chip to that
chip, which receives it at place `j` of a buffer of its own (region 0); then it adds the place of its own chip and the three
it received (region 1, `ChipsSum`).

The protocol of the transfers, per device: semaphore `j` is credited by the source side of the transfer to `far j c` and
gives the place sent back; semaphore `3 + j` is credited by the landing of the transfer from `far j c` and gives place `j` of
the receiving buffer, holding that device's argument at the place of this device's chip.
-/
module

public import proofs.«01_k».proof.Proof.TalkSeg
public import proofs.«01_k».proof.Proof.Gen.ChipsIdeal
public import proofs.«01_k».proof.Proof.Gen.ChipsIdeal.Skeleton
public import proofs.«01_k».proof.Proof.Gen.ChipsIdeal.Launch

@[expose] public section

set_option maxRecDepth 16384
set_option Elab.async false

noncomputable section

namespace Cert.ChipsProof

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem
open Cert.ChipsIdeal Cert.ChipsIdeal.Gen Cert.OneShot Cert.TalkSeg Cert.TalkLaunch

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## Devices -/

/-- A device's chip. -/
def chip (c : Dev nD) : Fin 4 := ⟨c.val / 2, by revert c; decide⟩

/-- The same core of another chip: of the one across the first axis, the second axis, both. -/
def far (j : Fin 3) (c : Dev nD) : Dev nD := match j with
  | 0 => ⟨(c.val + 4) % 8, by revert c; decide⟩
  | 1 => ⟨4 * (c.val / 4) + (c.val % 4 + 2) % 4, by revert c; decide⟩
  | 2 => ⟨2 * (3 - c.val / 2) + c.val % 2, by revert c; decide⟩

/-- Its chip. -/
abbrev chipOf (j : Fin 3) (c : Dev nD) : Fin 4 := chip (far j c)

theorem far_far (j : Fin 3) (c : Dev nD) : far j (far j c) = c := by revert j c; decide
theorem chips_list (c : Dev nD) : Finset.univ = [chipOf 0 c, chipOf 1 c, chipOf 2 c, chip c].toFinset ∧ [chipOf 0 c, chipOf 1 c, chipOf 2 c, chip c].Nodup := by
  revert c; decide

def fars (j : Fin 3) : Equiv.Perm (Dev nD) := ⟨far j, far j, far_far j, far_far j⟩

theorem off1 (c : Dev nD) : k0_off1 c = ![(chipOf 0 c).val, 0, 0] := by rw [k0_off1_eq]; revert c; decide
theorem off2 (c : Dev nD) : k0_off2 c = ![(chipOf 1 c).val, 0, 0] := by rw [k0_off2_eq]; revert c; decide
theorem off3 (c : Dev nD) : k0_off3 c = ![(chipOf 2 c).val, 0, 0] := by rw [k0_off3_eq]; revert c; decide
theorem dev1 (c : Dev nD) : k0_dev1 c = (far 0 c).val := by rw [k0_dev1_eq]; revert c; decide
theorem dev2 (c : Dev nD) : k0_dev2 c = (far 1 c).val := by rw [k0_dev2_eq]; revert c; decide
theorem dev3 (c : Dev nD) : k0_dev3 c = (far 2 c).val := by rw [k0_dev3_eq]; revert c; decide

/-! ## Places -/

/-- Device `c`'s argument buffer and the buffer it receives in. -/
abbrev inL (c : Dev nD) : Loc nD τ sig := (c.tc : Thread nD τ).loc main_arg0
abbrev gotL (c : Dev nD) : Loc nD τ sig := (c.tc : Thread nD τ).loc main_v1

/-- The part of the argument, and of the receiving buffer, at an offset. -/
abbrev part (off : Fin 3 → ℕ) (inb : ∀ a, off a + S1x3328x1024.size a ≤ S4x3328x1024.size a) : Memref sig .tc .hbm S3328x1024 .f32 :=
  ((Memref.whole main_arg0 : Memref sig .tc .hbm S4x3328x1024 .f32).slice (Rect.unit (s := S4x3328x1024) off S1x3328x1024.size inb) (fun _ => rfl)).squeeze
    S3328x1024 squeezes_S1x3328x1024_S3328x1024
abbrev slot (off : Fin 3 → ℕ) (inb : ∀ a, off a + S1x3328x1024.size a ≤ S3x3328x1024.size a) : Memref sig .tc .hbm S3328x1024 .f32 :=
  ((Memref.whole main_v1 : Memref sig .tc .hbm S3x3328x1024 .f32).slice (Rect.unit (s := S3x3328x1024) off S1x3328x1024.size inb) (fun _ => rfl)).squeeze
    S3328x1024 squeezes_S1x3328x1024_S3328x1024

theorem place_inb (t : Fin 4) : ∀ a, (![t.val, 0, 0] : Fin 3 → ℕ) a + S1x3328x1024.size a ≤ S4x3328x1024.size a := by revert t; decide
theorem dest_inb (j : Fin 3) : ∀ a, (![j.val, 0, 0] : Fin 3 → ℕ) a + S1x3328x1024.size a ≤ S3x3328x1024.size a := by revert j; decide

/-- Place `t` of the argument, place `j` of the receiving buffer. -/
def place (t : Fin 4) : View sig .tc .hbm S3328x1024 .f32 := (part ![t.val, 0, 0] (place_inb t)).view
def dest (j : Fin 3) : View sig .tc .hbm S3328x1024 .f32 := (slot ![j.val, 0, 0] (dest_inb j)).view

/-- Their elements, on device `c`. -/
def elts (c : Dev nD) (t : Fin 4) : Finset (Idx (inL c)) := (place t).set
def gotElts (c : Dev nD) (j : Fin 3) : Finset (Idx (gotL c)) := (dest j).set

/-- The element of place `t` of an argument, and of place `j` of a receiving buffer, at an element of the place. -/
def up (t : Fin 4) (y : S3328x1024.Idx) : S4x3328x1024.Idx := fun a => match a with
  | 0 => t
  | 1 => y 0
  | 2 => y 1
def upGot (j : Fin 3) (y : S3328x1024.Idx) : S3x3328x1024.Idx := fun a => match a with
  | 0 => j
  | 1 => y 0
  | 2 => y 1

theorem place_emb (t : Fin 4) (y : S3328x1024.Idx) : (place t).emb y = up t y := by
  show (Rect.unit (s := S4x3328x1024) ![t.val, 0, 0] S1x3328x1024.size (place_inb t)).emb (Shape.reshapeEquiv _ y) = up t y
  rw [show Shape.reshapeEquiv (s := S1x3328x1024) (s' := S3328x1024) _ y = Fin.cons ⟨0, Nat.one_pos⟩ y from Shape.reshapeEquiv_cons_one _ _]
  funext a
  apply Fin.ext
  match a with
  | 0 => show t.val + 1 * 0 = t.val; omega
  | 1 => show 0 + 1 * (y 0).val = (y 0).val; omega
  | 2 => show 0 + 1 * (y 1).val = (y 1).val; omega

theorem dest_emb (j : Fin 3) (y : S3328x1024.Idx) : (dest j).emb y = upGot j y := by
  show (Rect.unit (s := S3x3328x1024) ![j.val, 0, 0] S1x3328x1024.size (dest_inb j)).emb (Shape.reshapeEquiv _ y) = upGot j y
  rw [show Shape.reshapeEquiv (s := S1x3328x1024) (s' := S3328x1024) _ y = Fin.cons ⟨0, Nat.one_pos⟩ y from Shape.reshapeEquiv_cons_one _ _]
  funext a
  apply Fin.ext
  match a with
  | 0 => show j.val + 1 * 0 = j.val; omega
  | 1 => show 0 + 1 * (y 0).val = (y 0).val; omega
  | 2 => show 0 + 1 * (y 1).val = (y 1).val; omega

/-- Device `c`'s argument; what it receives: at place `j`, the argument of `far j c` at the place of this chip. -/
abbrev arg (c : Dev nD) : Buf (Elt F) (inL c) := m (inL c)
def got (c : Dev nD) : Buf (Elt F) (gotL c) := fun (x : S3x3328x1024.Idx) =>
  (arg m (far (x 0) c) : S4x3328x1024.Idx → Elt F .f32) (up (chip c) fun a => match a with | 0 => x 1 | 1 => x 2)

/-- Place `t` of device `c`'s argument; place `j` of the buffer it receives in, at contents `f`. -/
def argPts (c : Dev nD) (t : Fin 4) : sProp 𝕄 := inL c ↦[elts c t]{fullShare} arg m c
def gotPts (c : Dev nD) (j : Fin 3) (f : Buf (Elt F) (gotL c)) : sProp 𝕄 := gotL c ↦[gotElts c j]{fullShare} f

theorem part_pts {off : Fin 3 → ℕ} {inb} {t : Fin 4} (e : off = ![t.val, 0, 0]) (c : Dev nD) :
    ((part off inb).view.loc (c : Thread nD τ) ↦[(part off inb).view.set]{fullShare} arg m c : sProp 𝕄) = argPts m c t := by
  subst e
  rfl

theorem slot_pts {off : Fin 3 → ℕ} {inb} {j : Fin 3} (e : off = ![j.val, 0, 0]) (c : Dev nD) (f : Buf (Elt F) (gotL c)) :
    ((slot off inb).view.loc (c : Thread nD τ) ↦[(slot off inb).view.set]{fullShare} f : sProp 𝕄) = gotPts c j f := by
  subst e
  rfl

/-- A place written from device `c`'s argument, in the buffer of the device it is sent to. -/
theorem slot_written {off off' : Fin 3 → ℕ} {inb inb'} {j : Fin 3} (c : Dev nD) (e : off = ![j.val, 0, 0]) (e' : off' = ![(chipOf j c).val, 0, 0])
    (f : Buf (Elt F) (gotL (far j c))) :
    ((slot off inb).view.loc (far j c : Thread nD τ) ↦[(slot off inb).view.set]{fullShare}
      (slot off inb).view.write (Elt F) f ((part off' inb').view.read (Elt F) (arg m c)) Finset.univ : sProp 𝕄)
      = gotPts (far j c) j (got m (far j c)) := by
  subst e e'
  refine pointsTo_congr fun x hx => ?_
  obtain ⟨y, -, rfl⟩ := Finset.mem_map.mp hx
  refine (View.write_emb_of_mem _ _ (Finset.mem_univ y)).trans ?_
  show (arg m c : S4x3328x1024.Idx → Elt F .f32) ((place (chipOf j c)).emb y) = got m (far j c) ((dest j).emb y)
  rw [place_emb, dest_emb]
  show _ = (arg m (far j (far j c)) : S4x3328x1024.Idx → Elt F .f32) (up (chipOf j c) _)
  rw [far_far]
  refine congrArg (fun y => (arg m c : S4x3328x1024.Idx → Elt F .f32) (up (chipOf j c) y)) (funext fun a => ?_)
  match a with
  | 0 => rfl
  | 1 => rfl

/-! ## The plan -/

def plan : Plan nD sig 6 where
  sem := fun | 0 => .dma 0 | 1 => .dma 1 | 2 => .dma 2 | 3 => .dma 3 | 4 => .dma 4 | 5 => .dma 5
  inj := by decide
  amt _ := (place 0).dmaCredit
  pos _ := View.dmaCredit_pos _ (by decide)
  peer := fun | 3 => fars 0 | 4 => fars 1 | 5 => fars 2 | _ => Equiv.refl _
  owed := {3, 4, 5}
  lvl _ := 0

def pay (c : Dev nD) : Fin 6 → sProp 𝕄
  | 0 => argPts m c (chipOf 0 c)
  | 1 => argPts m c (chipOf 1 c)
  | 2 => argPts m c (chipOf 2 c)
  | 3 => gotPts c 0 (got m c)
  | 4 => gotPts c 1 (got m c)
  | 5 => gotPts c 2 (got m c)

instance (c : Dev nD) (t : Fin 4) : BI.Storable (upEmb : UEmb _ 𝕄) (argPts m c t) := by unfold argPts; infer_instance
instance (c : Dev nD) (j : Fin 3) (f : Buf (Elt F) (gotL c)) : BI.Storable (upEmb : UEmb _ 𝕄) (gotPts c j f) := by unfold gotPts; infer_instance

instance : Plan.Storables (pay m) where
  storable c i := by
    fin_cases i
    all_goals first
      | exact (inferInstance : BI.Storable (upEmb : UEmb _ 𝕄) (argPts m c _))
      | exact (inferInstance : BI.Storable (upEmb : UEmb _ 𝕄) (gotPts c _ _))

/-! ## The body -/

/-- What device `c` works on: the places of its argument that it sends, and the places of the others' buffers it sends to. -/
def mine (c : Dev nD) : sProp 𝕄 :=
  iprop((argPts m c (chipOf 0 c) ∗ argPts m c (chipOf 1 c) ∗ argPts m c (chipOf 2 c))
    ∗ gotPts (far 0 c) 0 (m (gotL (far 0 c))) ∗ gotPts (far 1 c) 1 (m (gotL (far 1 c))) ∗ gotPts (far 2 c) 2 (m (gotL (far 2 c))))

def done (c : Dev nD) : sProp 𝕄 :=
  iprop((argPts m c (chipOf 0 c) ∗ argPts m c (chipOf 1 c) ∗ argPts m c (chipOf 2 c))
    ∗ gotPts c 0 (got m c) ∗ gotPts c 1 (got m c) ∗ gotPts c 2 (got m c))

abbrev 𝒱₀ : Variants := Variants.none

abbrev body : Prog (TpuEff nD τ sig (Elt F) Λ₀ .tc) PUnit :=
  cc0_grads_to_chips (Memref.whole main_arg0) (Memref.isWhole_whole _) (Memref.whole main_v1) (Memref.isWhole_whole _) cc0_scratch0 cc0_scratch1

theorem hand_eq (c : Dev nD) : plan.hand (τ := τ) (Val := Elt F) c
    = iprop((atPos ER (plan.cell τ c 0) 0 ∅ 0 ∗ atPos ER (plan.cell τ c 1) 0 ∅ 0 ∗ atPos ER (plan.cell τ c 2) 0 ∅ 0 ∗ atPos ER (plan.cell τ c 3) 0 ∅ 0 ∗ atPos ER (plan.cell τ c 4) 0 ∅ 0 ∗ atPos ER (plan.cell τ c 5) 0 ∅ 0)
      ∗ dutyTok ER (plan.cell τ (plan.peer 0 c) 0) 0 () ∗ dutyTok ER (plan.cell τ (plan.peer 1 c) 1) 0 () ∗ dutyTok ER (plan.cell τ (plan.peer 2 c) 2) 0 () ∗ dutyTok ER (plan.cell τ (plan.peer 3 c) 3) 0 () ∗ dutyTok ER (plan.cell τ (plan.peer 4 c) 4) 0 () ∗ dutyTok ER (plan.cell τ (plan.peer 5 c) 5) 0 ()) := by
  unfold Plan.hand
  rw [bigSep_univ_eq_bigSepL [0, 1, 2, 3, 4, 5] (by decide) (by decide), bigSep_univ_eq_bigSepL [0, 1, 2, 3, 4, 5] (by decide) (by decide)]
  rfl

theorem zeros_eq (c : Dev nD) : zeros (τ := τ) (Val := Elt F) plan c
    = iprop(semVal (plan.cell τ c 0) 0 ∗ semVal (plan.cell τ c 1) 0 ∗ semVal (plan.cell τ c 2) 0 ∗ semVal (plan.cell τ c 3) 0 ∗ semVal (plan.cell τ c 4) 0 ∗ semVal (plan.cell τ c 5) 0) := by
  unfold zeros
  rw [bigSep_univ_eq_bigSepL [0, 1, 2, 3, 4, 5] (by decide) (by decide)]
  rfl

theorem creds_eq (c : Dev nD) : (bigSep plan.owed fun i => (cred (tallyAt (plan.cell τ c i) () (plan.amt i)) : sProp 𝕄))
    = iprop(cred (tallyAt (plan.cell τ c 3) () (plan.amt 3)) ∗ cred (tallyAt (plan.cell τ c 4) () (plan.amt 4)) ∗ cred (tallyAt (plan.cell τ c 5) () (plan.amt 5))) := by
  rw [bigSep_eq_bigSepL_of_eq [3, 4, 5] (by decide) (by decide)]
  rfl

/-- What is still owed after each send. -/
abbrev owed1 : Finset (Fin 6) := plan.owed.erase 3
abbrev owed2 : Finset (Fin 6) := owed1.erase 4
abbrev owed3 : Finset (Fin 6) := owed2.erase 5

theorem owed_rest {i : Fin 6} : ∀ j ∈ owed3, plan.lvl i < plan.lvl j := fun j hj => absurd hj (by revert j; decide)

set_option maxHeartbeats 4000000 in
theorem body_run (c : Dev nD) : iprop((ready plan (pay m) c ∗ mine m c) ∗ ∃ W, owes (c : Thread nD τ) (plan.owing τ plan.owed c) W)
    ⊢ wp frame (wpE (defs₀ (F := F)) 𝒱₀ c none) Set.univ (body (F := F)) fun _ => iprop((zeros plan c ∗ done m c) ∗ ∃ W, owes (c : Thread nD τ) 0 W) := by
  unfold body
  simp only [cc0_grads_to_chips_eq_skeleton]; unfold cc0_grads_to_chips_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  unfold ready mine
  rw [hand_eq, creds_eq]
  iintro ⟨⟨⟨⟨%K, #HR, ⟨Hat0, Hat1, Hat2, Hat3, Hat4, Hat5⟩, Ht0, Ht1, Ht2, Ht3, Ht4, Ht5⟩, ⟨Hc3, Hc4, Hc5⟩, #HL⟩, ⟨Ha0, Ha1, Ha2⟩, Hg0, Hg1, Hg2⟩, HO⟩
  -- the transfer to `far 0 c`
  iapply (plan.wp_send (pay m) 𝒱₀ c none K (q := fullShare) (fs := arg m c) (fd := m (gotL (far 0 c))) 0 3 rfl rfl
    (Fin.ext (dev1 c)) rfl (J := plan.owed) (by decide) rfl rfl (by
    rw [part_pts m (t := chipOf 0 c) (off1 c)]
    exact Entails.rfl) (by
    exact Entails.of_eq (slot_written m (j := 0) c rfl (off1 c) _))) $$ [Ha0 Hg0 HO Ht0 Ht3]
  · isplitr; · iexact HR
    isplitl [Ha0]; · rw [part_pts m (t := chipOf 0 c) (off1 c)]; iexact Ha0
    isplitl [Hg0]
    · iapply (Entails.of_eq (slot_pts (j := 0) rfl (far 0 c) (m (gotL (far 0 c)))).symm)
      iexact Hg0
    isplitl [HO]; · iexact HO
    isplitl [Ht0] <;> iassumption
  iintro ⟨Hc0, HO⟩
  -- the transfer to `far 1 c`
  iapply (plan.wp_send (pay m) 𝒱₀ c none K (q := fullShare) (fs := arg m c) (fd := m (gotL (far 1 c))) 1 4 rfl rfl
    (Fin.ext (dev2 c)) rfl (J := owed1) (by decide) rfl rfl (by
    rw [part_pts m (t := chipOf 1 c) (off2 c)]
    exact Entails.rfl) (by
    exact Entails.of_eq (slot_written m (j := 1) c rfl (off2 c) _))) $$ [Ha1 Hg1 HO Ht1 Ht4]
  · isplitr; · iexact HR
    isplitl [Ha1]; · rw [part_pts m (t := chipOf 1 c) (off2 c)]; iexact Ha1
    isplitl [Hg1]
    · iapply (Entails.of_eq (slot_pts (j := 1) rfl (far 1 c) (m (gotL (far 1 c)))).symm)
      iexact Hg1
    isplitl [HO]; · iexact HO
    isplitl [Ht1] <;> iassumption
  iintro ⟨Hc1, HO⟩
  -- the transfer to `far 2 c`
  iapply (plan.wp_send (pay m) 𝒱₀ c none K (q := fullShare) (fs := arg m c) (fd := m (gotL (far 2 c))) 2 5 rfl rfl
    (Fin.ext (dev3 c)) rfl (J := owed2) (by decide) rfl rfl (by
    rw [part_pts m (t := chipOf 2 c) (off3 c)]
    exact Entails.rfl) (by
    exact Entails.of_eq (slot_written m (j := 2) c rfl (off3 c) _))) $$ [Ha2 Hg2 HO Ht2 Ht5]
  · isplitr; · iexact HR
    isplitl [Ha2]; · rw [part_pts m (t := chipOf 2 c) (off3 c)]; iexact Ha2
    isplitl [Hg2]
    · iapply (Entails.of_eq (slot_pts (j := 2) rfl (far 2 c) (m (gotL (far 2 c)))).symm)
      iexact Hg2
    isplitl [HO]; · iexact HO
    isplitl [Ht2] <;> iassumption
  iintro ⟨Hc2, HO⟩
  -- the waits
  iapply (plan.wp_wait (pay m) 𝒱₀ c none K 0 rfl rfl (J := owed3) owed_rest) $$ [Hc0 HO Hat0]
  · isplitr; · iexact HR
    isplitr; · iexact HL
    isplitl [Hc0]; · iexact Hc0
    isplitl [HO]; · iexact HO
    iexact Hat0
  iintro ⟨Hp0, Hz0, HO⟩
  iapply (plan.wp_wait (pay m) 𝒱₀ c none K 3 rfl rfl (J := owed3) owed_rest) $$ [Hc3 HO Hat3]
  · isplitr; · iexact HR
    isplitr; · iexact HL
    isplitl [Hc3]; · iexact Hc3
    isplitl [HO]; · iexact HO
    iexact Hat3
  iintro ⟨Hp3, Hz3, HO⟩
  iapply (plan.wp_wait (pay m) 𝒱₀ c none K 1 rfl rfl (J := owed3) owed_rest) $$ [Hc1 HO Hat1]
  · isplitr; · iexact HR
    isplitr; · iexact HL
    isplitl [Hc1]; · iexact Hc1
    isplitl [HO]; · iexact HO
    iexact Hat1
  iintro ⟨Hp1, Hz1, HO⟩
  iapply (plan.wp_wait (pay m) 𝒱₀ c none K 4 rfl rfl (J := owed3) owed_rest) $$ [Hc4 HO Hat4]
  · isplitr; · iexact HR
    isplitr; · iexact HL
    isplitl [Hc4]; · iexact Hc4
    isplitl [HO]; · iexact HO
    iexact Hat4
  iintro ⟨Hp4, Hz4, HO⟩
  iapply (plan.wp_wait (pay m) 𝒱₀ c none K 2 rfl rfl (J := owed3) owed_rest) $$ [Hc2 HO Hat2]
  · isplitr; · iexact HR
    isplitr; · iexact HL
    isplitl [Hc2]; · iexact Hc2
    isplitl [HO]; · iexact HO
    iexact Hat2
  iintro ⟨Hp2, Hz2, HO⟩
  iapply (plan.wp_wait (pay m) 𝒱₀ c none K 5 rfl rfl (J := owed3) owed_rest) $$ [Hc5 HO Hat5]
  · isplitr; · iexact HR
    isplitr; · iexact HL
    isplitl [Hc5]; · iexact Hc5
    isplitl [HO]; · iexact HO
    iexact Hat5
  iintro ⟨Hp5, Hz5, HO⟩
  ihave Ha0 := (show pay m c 0 ⊢ argPts m c (chipOf 0 c) from Entails.rfl) $$ Hp0
  ihave Hg0 := (show pay m c 3 ⊢ gotPts c 0 (got m c) from Entails.rfl) $$ Hp3
  ihave Ha1 := (show pay m c 1 ⊢ argPts m c (chipOf 1 c) from Entails.rfl) $$ Hp1
  ihave Hg1 := (show pay m c 4 ⊢ gotPts c 1 (got m c) from Entails.rfl) $$ Hp4
  ihave Ha2 := (show pay m c 2 ⊢ argPts m c (chipOf 2 c) from Entails.rfl) $$ Hp2
  ihave Hg2 := (show pay m c 5 ⊢ gotPts c 2 (got m c) from Entails.rfl) $$ Hp5
  rw [wp_ret]
  imodintro
  isplitr [HO]
  · rw [zeros_eq]
    isplitl [Hz0 Hz1 Hz2 Hz3 Hz4 Hz5]
    · isplitl [Hz0]; · iexact Hz0
      isplitl [Hz1]; · iexact Hz1
      isplitl [Hz2]; · iexact Hz2
      isplitl [Hz3]; · iexact Hz3
      isplitl [Hz4]; · iexact Hz4
      iexact Hz5
    · unfold done
      isplitl [Ha0 Ha1 Ha2]
      · isplitl [Ha0]; · iexact Ha0
        isplitl [Ha1]; · iexact Ha1
        iexact Ha2
      · isplitl [Hg0]; · iexact Hg0
        isplitl [Hg1]; · iexact Hg1
        iexact Hg2
  · iexact HO

/-! ## The buffers before and after -/

/-- An element lies in the place of its first coordinate. -/
theorem mem_elts {c : Dev nD} {t : Fin 4} {x : Idx (inL c)} : x ∈ elts c t ↔ (x : S4x3328x1024.Idx) 0 = t := by
  unfold elts place
  rw [show ((part ![t.val, 0, 0] (place_inb t)).view).set = (Rect.unit (s := S4x3328x1024) ![t.val, 0, 0] S1x3328x1024.size (place_inb t)).set from
    (View.set_reshape _ _).trans (View.set_slice_whole _ _)]
  refine Rect.mem_set_unit.trans ⟨fun hx => ?_, fun e a => ?_⟩
  · have h0 := hx 0
    exact Fin.ext (by simp [S1x3328x1024] at h0; omega)
  · subst e
    have := (x : S4x3328x1024.Idx) a |>.isLt
    match a with
    | 0 => exact ⟨le_rfl, Nat.lt_succ_self _⟩
    | 1 => exact ⟨Nat.zero_le _, (Nat.zero_add _).symm ▸ this⟩
    | 2 => exact ⟨Nat.zero_le _, (Nat.zero_add _).symm ▸ this⟩

theorem mem_gotElts {c : Dev nD} {j : Fin 3} {x : Idx (gotL c)} : x ∈ gotElts c j ↔ (x : S3x3328x1024.Idx) 0 = j := by
  unfold gotElts dest
  rw [show ((slot ![j.val, 0, 0] (dest_inb j)).view).set = (Rect.unit (s := S3x3328x1024) ![j.val, 0, 0] S1x3328x1024.size (dest_inb j)).set from
    (View.set_reshape _ _).trans (View.set_slice_whole _ _)]
  refine Rect.mem_set_unit.trans ⟨fun hx => ?_, fun e a => ?_⟩
  · have h0 := hx 0
    exact Fin.ext (by simp [S1x3328x1024] at h0; omega)
  · subst e
    have := (x : S3x3328x1024.Idx) a |>.isLt
    match a with
    | 0 => exact ⟨le_rfl, Nat.lt_succ_self _⟩
    | 1 => exact ⟨Nat.zero_le _, (Nat.zero_add _).symm ▸ this⟩
    | 2 => exact ⟨Nat.zero_le _, (Nat.zero_add _).symm ▸ this⟩

/-- The argument is its four places, the receiving buffer its three. -/
theorem arg_split (c : Dev nD) : (inL c ↦{fullShare} arg m c : sProp 𝕄)
    = iprop(argPts m c (chipOf 0 c) ∗ argPts m c (chipOf 1 c) ∗ argPts m c (chipOf 2 c) ∗ argPts m c (chip c)) := by
  rw [pts_places (inL c) (elts c) (fun t t' h => Finset.disjoint_left.mpr fun x hx hx' => h ((mem_elts.mp hx).symm.trans (mem_elts.mp hx')))
    (fun x => ⟨_, mem_elts.mpr rfl⟩), bigSep_univ_eq_bigSepL [chipOf 0 c, chipOf 1 c, chipOf 2 c, chip c] (chips_list c).1 (chips_list c).2]
  rfl

theorem got_split (c : Dev nD) (f : Buf (Elt F) (gotL c)) : (gotL c ↦{fullShare} f : sProp 𝕄)
    = iprop(gotPts c 0 f ∗ gotPts c 1 f ∗ gotPts c 2 f) := by
  rw [pts_places (gotL c) (gotElts c) (fun t t' h => Finset.disjoint_left.mpr fun x hx hx' => h ((mem_gotElts.mp hx).symm.trans (mem_gotElts.mp hx')))
    (fun x => ⟨_, mem_gotElts.mpr rfl⟩), bigSep_univ_eq_bigSepL [0, 1, 2] (by decide) (by decide)]
  rfl

end Cert.ChipsProof

end
-- ==== Proof.ChipsSum.lean ====
/-
# The sum of a chip's place with the three places the other chips sent: the second region of the call `grads_add_chips`

Region 1 of `ChipsIdeal` runs over 13 blocks of 256 rows: it adds, in this order, block `t` of `main_v16` (the place this
chip keeps) and of `main_v18`, `main_v20`, `main_v22` (what the other chips sent) and writes block `t` of `main_v23`.
`sum_arr` says what the region leaves: the elementwise sum of the four arrays as it found them. `sumSeg` is the region as a
segment of the run, entered from all buffers at any contents.
-/
module

public import proofs.«01_k».proof.Proof.Chips
public import proofs.«01_k».proof.Proof.Gen.ChipsIdeal.Points
public import proofs.«01_k».proof.Proof.Gen.ChipsIdeal.Regions
public import Idealize.ShloMosaic.Lib.Pipeline.RegionArraysS
public import Idealize.ShloMosaic.Lib.Pipeline.Value
public import Idealize.ShloMosaic.Lib.Pipeline.ValueKit.Geometry
public import Idealize.ShloMosaic.Lib.Tactic

@[expose] public section

set_option maxRecDepth 16384
set_option Elab.async false

noncomputable section

namespace Cert.ChipsProof

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Idealize.ShloMosaic.Pipeline (Dat)
open Cert.ChipsIdeal Cert.ChipsIdeal.Gen Cert.OneShot Cert.TalkSeg Cert.TalkLaunch

variable {F : FTy → Type} [FloatOps F]

local notation "𝕄" => MT nD τ sig Unit (Elt F) ℕ (UU nD τ sig) ℕ

/-! ## The body -/

/-- A memref's buffer on device `c`, held whole. -/
abbrev bufPt (c : Dev nD) {sp : Space} {S : Shape} {e : EltTy} (M : Memref sig .tc sp S e) (f : Buf (Elt F) (M.view.loc (c : Thread nD τ))) : sProp 𝕄 :=
  M.view.loc (c : Thread nD τ) ↦{fullShare} f

theorem corner : (![0, 0] : Fin 2 → ℕ) = fun _ => 0 := funext fun a => by revert a; decide

/-- The sum of four arrays, element by element, in the order the body adds them. -/
abbrev add4 {S : Shape} (a b c d : FVec F S .f32) : FVec F S .f32 := addf (addf (addf a b) c) d

/-- The body leaves its inputs as they were and the sum of what they read in its output. -/
theorem sum_run (c : Dev nD) (i : grid1.Coords) (M0 M1 M2 M3 M4 : Memref sig .tc .vmem S256x1024 .f32)
    (h0 : M0.IsWhole) (h1 : M1.IsWhole) (h2 : M2.IsWhole) (h3 : M3.IsWhole) (h4 : M4.IsWhole)
    (f0 : Buf (Elt F) (M0.view.loc (c : Thread nD τ)))
    (f1 : Buf (Elt F) (M1.view.loc (c : Thread nD τ)))
    (f2 : Buf (Elt F) (M2.view.loc (c : Thread nD τ)))
    (f3 : Buf (Elt F) (M3.view.loc (c : Thread nD τ)))
    (f4 : Buf (Elt F) (M4.view.loc (c : Thread nD τ)))
    (Q : PUnit → sProp 𝕄) :
    iprop(bufPt c M0 f0 ∗ bufPt c M1 f1 ∗ bufPt c M2 f2 ∗ bufPt c M3 f3 ∗ bufPt c M4 f4
        ∗ (iprop(bufPt c M0 f0 ∗ bufPt c M1 f1 ∗ bufPt c M2 f2 ∗ bufPt c M3 f3
          ∗ ∃ g, ⌜M4.view.read (Elt F) g = add4 (M0.view.read (Elt F) f0) (M1.view.read (Elt F) f1) (M2.view.read (Elt F) f2) (M3.view.read (Elt F) f3)⌝ ∗ bufPt c M4 g) -∗ Q ⟨⟩))
      ⊢ wp frame (wpE (defs₀ (F := F)) 𝒱₀ c none) Set.univ (cc1_grads_add_chips i M0 h0 M1 h1 M2 h2 M3 h3 M4 h4) Q := by
  iintro ⟨H0, H1, H2, H3, H4, Hk⟩
  sl_exec!
  sl_step
  iapply Hk
  isplitl [H0]; · iexact H0
  isplitl [H1]; · iexact H1
  isplitl [H2]; · iexact H2
  isplitl [H3]; · iexact H3
  iexists _
  isplitr
  swap
  · iexact H4
  ipureintro
  unfold sum_run.sl.H4_1
  refine (View.read_writes_junk_eq_canon _ _).trans ((View.canon_unit_zero corner _ _).trans ?_)
  unfold k1_pay1
  rw [shapeCast_self, shapeCast_self, shapeCast_self, shapeCast_self]
  exact congrArg₂ addf (congrArg₂ addf (congrArg₂ addf (View.ld_unit_zero (S := S256x1024) corner _ _) (View.ld_unit_zero (S := S256x1024) corner _ _))
    (View.ld_unit_zero (S := S256x1024) corner _ _)) (View.ld_unit_zero (S := S256x1024) corner _ _)

/-! ## The proof data -/

variable (V : Dev nD → Valuation τ sig (Elt F))

/-- The sum of the four arrays the region reads, on device `c`. -/
def total (c : Dev nD) : S3328x1024.Idx → Elt F .f32 :=
  add4 (fun x => (V c main_v16 : S3328x1024.Idx → Elt F .f32) x) (fun x => (V c main_v18 : S3328x1024.Idx → Elt F .f32) x)
    (fun x => (V c main_v20 : S3328x1024.Idx → Elt F .f32) x) (fun x => (V c main_v22 : S3328x1024.Idx → Elt F .f32) x)

/-- Entered with the arrays at `V`; the body leaves each input block as fetched and the block of the sum in the output. -/
def sumDat (c : Dev nD) : Dat τ (Elt F) Unit ℕ (UU nD τ sig) ℕ cfg1 c where
  A w := V c (Proc.devRef .tc (Pipeline.arrRef spec1 w))
  after w t := match w with
    | ⟨0, _⟩ => ((cfg1.win 0).blk t).view.read (Elt F) (V c main_v16)
    | ⟨1, _⟩ => ((cfg1.win 1).blk t).view.read (Elt F) (V c main_v18)
    | ⟨2, _⟩ => ((cfg1.win 2).blk t).view.read (Elt F) (V c main_v20)
    | ⟨3, _⟩ => ((cfg1.win 3).blk t).view.read (Elt F) (V c main_v22)
    | ⟨4, _⟩ => add4 (((cfg1.win 0).blk t).view.read (Elt F) (V c main_v16) : FVec F S256x1024 .f32) (((cfg1.win 1).blk t).view.read (Elt F) (V c main_v18) : FVec F S256x1024 .f32)
        (((cfg1.win 2).blk t).view.read (Elt F) (V c main_v20) : FVec F S256x1024 .f32) (((cfg1.win 3).blk t).view.read (Elt F) (V c main_v22) : FVec F S256x1024 .f32)
  Φ _ := Pipeline.scopedRest spec1 c
  q _ := fullShare
  owed _ := 0

theorem before_0 (c : Dev nD) (t : Fin cfg1.N) (d : (cfg1.win 0).block.Idx → Elt F (cfg1.win 0).elt) :
    (sumDat V c).before 0 t d = ((cfg1.win 0).blk t).view.read (Elt F) (V c main_v16) :=
  ((sumDat V c).before_fetched 0 t (fetch1_0 t) d).trans rfl

theorem before_1 (c : Dev nD) (t : Fin cfg1.N) (d : (cfg1.win 1).block.Idx → Elt F (cfg1.win 1).elt) :
    (sumDat V c).before 1 t d = ((cfg1.win 1).blk t).view.read (Elt F) (V c main_v18) :=
  ((sumDat V c).before_fetched 1 t (fetch1_1 t) d).trans rfl

theorem before_2 (c : Dev nD) (t : Fin cfg1.N) (d : (cfg1.win 2).block.Idx → Elt F (cfg1.win 2).elt) :
    (sumDat V c).before 2 t d = ((cfg1.win 2).blk t).view.read (Elt F) (V c main_v20) :=
  ((sumDat V c).before_fetched 2 t (fetch1_2 t) d).trans rfl

theorem before_3 (c : Dev nD) (t : Fin cfg1.N) (d : (cfg1.win 3).block.Idx → Elt F (cfg1.win 3).elt) :
    (sumDat V c).before 3 t d = ((cfg1.win 3).blk t).view.read (Elt F) (V c main_v22) :=
  ((sumDat V c).before_fetched 3 t (fetch1_3 t) d).trans rfl

theorem owned {c : Dev nD} {M : Memref sig .tc .vmem S256x1024 .f32} (h : M.IsWhole) (X : S256x1024.Idx → Elt F .f32) :
    (owns (c : Thread nD τ) M fullShare X : sProp 𝕄) = iprop(∃ f : Buf (Elt F) (M.view.loc (c : Thread nD τ)), ⌜M.view.read (Elt F) f = X⌝ ∗ bufPt c M f) := by
  unfold owns
  rw [h.set_eq_univ]

theorem sum_obligation (c : Dev nD) : Pipeline.BodyObligation (sumDat V c) (defs₀ (F := F)) 𝒱₀ () Set.univ := fun t => by
  rw [bigSep_W1, bigSep_W1]
  rw [show (sumDat V c).Φ t.succ = (sumDat V c).Φ t.castSucc from rfl,
    show (sumDat V c).owesAt () t.succ = (sumDat V c).owesAt () t.castSucc from rfl]
  simp only [before_0, before_1, before_2, before_3]
  iintro ⟨HΦ, HO, ⟨%d0, H0⟩, ⟨%d1, H1⟩, ⟨%d2, H2⟩, ⟨%d3, H3⟩, ⟨%d4, H4⟩⟩
  ihave H0' := (Entails.of_eq (owned (hstage1_0 _) _)) $$ H0
  ihave H1' := (Entails.of_eq (owned (hstage1_1 _) _)) $$ H1
  ihave H2' := (Entails.of_eq (owned (hstage1_2 _) _)) $$ H2
  ihave H3' := (Entails.of_eq (owned (hstage1_3 _) _)) $$ H3
  ihave H4' := (Entails.of_eq (owned (hstage1_4 _) _)) $$ H4
  icases H0' with ⟨%f0, %e0, H0⟩
  icases H1' with ⟨%f1, %e1, H1⟩
  icases H2' with ⟨%f2, %e2, H2⟩
  icases H3' with ⟨%f3, %e3, H3⟩
  icases H4' with ⟨%f4, -, H4⟩
  iapply (sum_run c (grid1.coords t) (win1_0.stage (cfg1.slots t 0)) (win1_1.stage (cfg1.slots t 1)) (win1_2.stage (cfg1.slots t 2)) (win1_3.stage (cfg1.slots t 3)) (win1_4.stage (cfg1.slots t 4))
    (hstage1_0 _) (hstage1_1 _) (hstage1_2 _) (hstage1_3 _) (hstage1_4 _) f0 f1 f2 f3 f4 _)
  isplitl [H0]; · iexact H0
  isplitl [H1]; · iexact H1
  isplitl [H2]; · iexact H2
  isplitl [H3]; · iexact H3
  isplitl [H4]; · iexact H4
  iintro ⟨H0, H1, H2, H3, %g, %eg, H4⟩
  isplitl [HΦ]; · iexact HΦ
  isplitl [HO]; · iexact HO
  isplitl [H0]
  · iapply (Entails.of_eq (owned (hstage1_0 _) _).symm)
    iexists f0
    isplitr
    · ipureintro; exact e0
    · iexact H0
  isplitl [H1]
  · iapply (Entails.of_eq (owned (hstage1_1 _) _).symm)
    iexists f1
    isplitr
    · ipureintro; exact e1
    · iexact H1
  isplitl [H2]
  · iapply (Entails.of_eq (owned (hstage1_2 _) _).symm)
    iexists f2
    isplitr
    · ipureintro; exact e2
    · iexact H2
  isplitl [H3]
  · iapply (Entails.of_eq (owned (hstage1_3 _) _).symm)
    iexists f3
    isplitr
    · ipureintro; exact e3
    · iexact H3
  iapply (Entails.of_eq (owned (hstage1_4 _) _).symm)
  iexists g
  isplitr
  · ipureintro
    rw [eg, e0, e1, e2, e3]
    rfl
  · iexact H4

/-! ## What the region leaves -/

/-- The output array ends as the sum of the four arrays. -/
theorem sum_arr (c : Dev nD) : (sumDat V c).arrAt 4 cfg1.N = total V c := by
  refine (sumDat V c).arrAt_eq_of_covers 4 _ (by decide +kernel) fun t hf y => ?_
  blk_simp
  rfl

/-! ## The segment -/

variable (pdats : (q : Fin 2) → (c : Dev nD) → Dat τ (Elt F) Unit ℕ (UU nD τ sig) ℕ (Pipeline.pin (pcfgs (F := F)) adm q) c)
  (hd : ∀ c, pdats 1 c = sumDat V c) (lv : GSem nD τ sig → Unit → ℕ) (b : Dev nD → ℕ)
  (hb : ∀ (c : Dev nD) (w : Fin cfg1.W) (s : Fin (cfg1.win w).nbuf), lv ((c : Thread nD τ), .dma ((cfg1.win w).sem s)) () ≤ b c)

/-- The region, entered with all buffers at `V`. -/
def sumSeg : Pipeline.RegionSeg (pcfgs (F := F)) adm pdats () defs₀ 𝒱₀ (Plan.L nD τ sig) lv 1 :=
  Pipeline.RegionSeg.ofHeldIn pcfgs adm pdats () defs₀ 𝒱₀ (Plan.L nD τ sig) lv 1 (fun _ => 0) (Pipeline.ucRefs τ sig)
    (fun _ => iprop(emp)) (fun _ => iprop(emp)) launch1.toP rfl
    (fun c => by rw [hd c]; exact (sum_obligation V c).loose) (fun c t => by rw [hd c]; rfl) (fun c => by rw [hd c]; rfl)
    (fun c w => by rw [hd c]; exact (sumDat V c).share_full (fun _ => rfl) w)
    (fun c => by
      rw [hd c]
      show iprop(Pipeline.scopedRest spec1 c ∗ emp) ⊢ Pipeline.scopedRest spec1 c
      iintro ⟨H, -⟩
      iexact H)
    (fun c => by
      rw [hd c]
      show Pipeline.scopedRest spec1 c ⊢ iprop(Pipeline.scopedRest spec1 c ∗ emp)
      iintro H
      isplitl [H]; · iexact H
      iempintro)
    b ⟨fun _ _ _ => Finset.mem_singleton_self (), hb, fun c g i h => absurd h (Nat.lt_irrefl 0)⟩ (fun _ => iprop(emp)) V
    (fun c w => by rw [hd c]; rfl)

theorem arrs_sub : Pipeline.arrRefs (pcfgs (F := F) 1).spec ⊆ Pipeline.ucRefs τ sig :=
  Pipeline.arrRefs_sub_ucRefs _ fun w => by fin_cases w <;> rfl

/-- The sum is entered from every buffer held at `V`, nothing owed; and left likewise, its arrays at their end. -/
theorem sum_pre (c : Dev nD) :
    iprop(StableHlo.held (c : Thread nD τ) (Pipeline.ucRefs τ sig) (V c) ∗ ∃ W, owes (c : Thread nD τ) (0 : CellTallies nD τ sig Unit) W)
      ⊢ (sumSeg V pdats hd lv b hb).pre c := by
  unfold sumSeg
  refine BIBase.Entails.trans (show _ ⊢ iprop(StableHlo.held (c : Thread nD τ) (Pipeline.ucRefs τ sig) (V c)
    ∗ ((∃ W, owes (c : Thread nD τ) (0 : CellTallies nD τ sig Unit) W) ∗ emp ∗ emp)) from ?_)
    (Pipeline.RegionSeg.ofHeldIn_pre (pcs := pcfgs) (a := adm) (pdats := pdats) (p := 1) (D := fun _ => 0) arrs_sub
      (X := fun _ => iprop(emp)) (Y := fun _ => iprop(emp)) (R := fun _ => iprop(emp)) (W := V) (b := b) (kit := launch1.toP) (hshare := fun c w => by rw [hd c]; exact (sumDat V c).share_full (fun _ => rfl) w)
      (hW := fun c w => by rw [hd c]; rfl) c)
  iintro ⟨Hh, HO⟩
  isplitl [Hh]; · iexact Hh
  isplitl [HO]; · iexact HO
  isplitl <;> iempintro

theorem sum_post (c : Dev nD) : (sumSeg V pdats hd lv b hb).post c
    ⊢ iprop(StableHlo.held (c : Thread nD τ) (Pipeline.ucRefs τ sig) (Pipeline.afterRegion (pdats 1 c) (V c))
      ∗ ∃ W, owes (c : Thread nD τ) (0 : CellTallies nD τ sig Unit) W) := by
  unfold sumSeg
  refine (Pipeline.RegionSeg.ofHeldIn_post (pcs := pcfgs) (a := adm) (pdats := pdats) (p := 1) (D := fun _ => 0) arrs_sub
      (X := fun _ => iprop(emp)) (Y := fun _ => iprop(emp)) (R := fun _ => iprop(emp)) (W := V) (b := b) (kit := launch1.toP) (hshare := fun c w => by rw [hd c]; exact (sumDat V c).share_full (fun _ => rfl) w)
      (hW := fun c w => by rw [hd c]; rfl) c).trans
    (show iprop(StableHlo.held (c : Thread nD τ) (Pipeline.ucRefs τ sig) (Pipeline.afterRegion (pdats 1 c) (V c))
      ∗ ((∃ W, owes (c : Thread nD τ) (0 : CellTallies nD τ sig Unit) W) ∗ emp ∗ emp)) ⊢ _ from ?_)
  iintro ⟨Hh, HO, -⟩
  isplitl [Hh]; · iexact Hh
  iexact HO

end Cert.ChipsProof

end
-- ==== Proof.ChipsLaunch.lean ====
/-
# Each chip sums its place with the three places the other chips sent: the run

The whole program `ChipsIdeal`: the transfers (`Chips`), the host's choice of the place this chip keeps and its slices of
the receiving buffer, and the sum (`ChipsSum`). `run_main`: on every device the argument is unchanged, the result is the
sum of the four places, and every semaphore ends at zero.
-/
module

public import proofs.«01_k».proof.Proof.ChipsSum

@[expose] public section

set_option maxRecDepth 16384
set_option Elab.async false

noncomputable section

namespace Cert.ChipsProof

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem
open Idealize.ShloMosaic.Pipeline (Seg)
open Cert.ChipsIdeal Cert.ChipsIdeal.Gen Cert.OneShot Cert.TalkSeg Cert.TalkLaunch

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The buffers between the parts -/

/-- The two buffers the transfer touches, among all that outlive a region. -/
def ends : Finset (DevRef τ sig) := {Proc.devRef .tc main_arg0, Proc.devRef .tc main_v1}

theorem mem_uc (r : Ref sig .tc) (h : ¬ (Proc.devRef (τ := τ) .tc r).isScoped) : Proc.devRef .tc r ∈ Pipeline.ucRefs τ sig :=
  Finset.mem_filter.mpr ⟨StableHlo.devRef_mem_tcRefs r, h⟩

theorem ends_sub : ends ⊆ Pipeline.ucRefs τ sig := by
  intro b hb
  rcases Finset.mem_insert.mp hb with e | e
  · rw [e]
    exact mem_uc main_arg0 (by decide)
  · rw [Finset.mem_singleton.mp e]
    exact mem_uc main_v1 (by decide)

theorem held_ends (c : Dev nD) (V : Valuation τ sig (Elt F)) :
    (StableHlo.held (c : Thread nD τ) ends V : sProp 𝕄)
      = iprop((inL c ↦{fullShare} V (Proc.devRef .tc main_arg0)) ∗ (gotL c ↦{fullShare} V (Proc.devRef .tc main_v1))) := by
  unfold StableHlo.held
  exact bigSep_eq_bigSepL_of_eq [Proc.devRef .tc main_arg0, Proc.devRef .tc main_v1] (by decide) (by decide) _

/-- What the transfers leave: the received places in `main_v1`. -/
def left : Outs (F := F) := fun _ r c => Function.update (fun r : Ref sig .tc => m ((c : Thread nD τ).loc r)) main_v1 (got m c) r

theorem left_got (c : Dev nD) : V1 m (left m) c (Proc.devRef .tc main_v1) = got m c := by
  unfold V1 left
  rw [Function.update_self, Function.update_self]

/-- Around the transfers: the place this chip keeps, and every other buffer. -/
def rest (c : Dev nD) : sProp 𝕄 := iprop(argPts m c (chip c) ∗ StableHlo.held (c : Thread nD τ) (Pipeline.ucRefs τ sig \ ends) (V0 m c))

/-- A device's buffers at the launch. -/
theorem bufs_split (c : Dev nD) : (unscopedBufs c (fun b => m ((c.tc : Thread nD τ).loc b)) : sProp 𝕄)
    ⊢ iprop(((argPts m c (chipOf 0 c) ∗ argPts m c (chipOf 1 c) ∗ argPts m c (chipOf 2 c))
      ∗ gotPts c 0 (m (gotL c)) ∗ gotPts c 1 (m (gotL c)) ∗ gotPts c 2 (m (gotL c))) ∗ rest m c) := by
  rw [show (unscopedBufs c (fun b => m ((c.tc : Thread nD τ).loc b)) : sProp 𝕄) = StableHlo.held (c : Thread nD τ) (Pipeline.ucRefs τ sig) (V0 m c) from
    Pipeline.unscopedBufs_held c (V0 m c), StableHlo.held_sub_split (c : Thread nD τ) ends_sub (V0 m c), held_ends]
  have e := Entails.of_eq (arg_split m c)
  have e' := Entails.of_eq (got_split c (m (gotL c)))
  unfold rest
  iintro ⟨⟨Ha, Hg⟩, Hr⟩
  ihave Ha' := e $$ Ha
  ihave Hg' := e' $$ Hg
  icases Ha' with ⟨H0, H1, H2, Hk⟩
  isplitl [H0 H1 H2 Hg']
  · isplitl [H0 H1 H2]
    · isplitl [H0]; · iexact H0
      isplitl [H1]; · iexact H1
      iexact H2
    · iexact Hg'
  · isplitl [Hk]; · iexact Hk
    iexact Hr

/-- Every device's buffers, each place of a receiving buffer with the device that sends to it. -/
theorem bufs_dealt : (bigSep Finset.univ fun c : Dev nD => (unscopedBufs c (fun b => m ((c.tc : Thread nD τ).loc b)) : sProp 𝕄))
    ⊢ bigSep Finset.univ fun c => iprop(mine m c ∗ rest m c) := by
  refine (bigSep_mono fun c _ => bufs_split m c).trans ?_
  unfold mine
  have e (j : Fin 3) : (bigSep Finset.univ fun c : Dev nD => (gotPts c j (m (gotL c)) : sProp 𝕄))
      = bigSep Finset.univ fun c : Dev nD => gotPts (far j c) j (m (gotL (far j c))) :=
    (bigSep_univ_equiv (fars j) fun c : Dev nD => (gotPts c j (m (gotL c)) : sProp 𝕄)).trans (bigSep_congr fun c _ => rfl)
  simp only [bigSep_sep']
  rw [e 0, e 1, e 2]
  exact BI.Entails.refl _

/-- After the transfers every buffer is held again, the received places in `main_v1`. -/
theorem rejoin (c : Dev nD) : iprop(done m c ∗ rest m c) ⊢ (StableHlo.held (c : Thread nD τ) (Pipeline.ucRefs τ sig) (V1 m (left m) c) : sProp 𝕄) := by
  rw [StableHlo.held_sub_split (c : Thread nD τ) ends_sub (V1 m (left m) c), held_ends, left_got,
    V1_of m (left m) c main_arg0 (by decide),
    StableHlo.held_congr (c : Thread nD τ) (V := V1 m (left m) c) (V' := V0 m c) fun b hb => by
      have hne : b ≠ Proc.devRef .tc main_v1 := fun e => (Finset.mem_sdiff.mp hb).2 (e ▸ by decide)
      exact Function.update_of_ne hne _ _]
  have e := Entails.of_eq (arg_split m c).symm
  have e' := Entails.of_eq (got_split c (got m c)).symm
  unfold done rest
  iintro ⟨⟨⟨H0, H1, H2⟩, Hg⟩, Hk, Hr⟩
  isplitr [Hr]
  · isplitr [Hg]
    · iapply e
      isplitl [H0]; · iexact H0
      isplitl [H1]; · iexact H1
      isplitl [H2]; · iexact H2
      iexact Hk
    · iapply e'
      iexact Hg
  · iexact Hr

/-! ## The run -/

def dats : (q : Fin 2) → (c : Dev nD) → Pipeline.Dat τ (Elt F) Unit ℕ (UU nD τ sig) ℕ (Pipeline.pin (pcfgs (F := F)) adm q) c
  | 0, c => talkDat plan (pay m) (Pipeline.pin (pcfgs (F := F)) adm 0) rfl (mine m) (done m) c
  | 1, c => sumDat (V4 m (left m)) c

theorem sems : Pipeline.OwnSemFacts (cfg0.spec) plan.sem := by decide

/-- No wait of the sum's staging is above level 0. -/
theorem levels (c : Dev nD) (w : Fin cfg1.W) (s : Fin (cfg1.win w).nbuf) : plan.lv τ ((c : Thread nD τ), .dma ((cfg1.win w).sem s)) () ≤ 0 := by
  unfold Plan.lv
  split
  · exact le_rfl
  · exact le_rfl

/-- The sum as a segment of the run. -/
def sumAt : Pipeline.RegionSeg (pcfgs (F := F)) adm (dats m) () defs₀ 𝒱₀ (Plan.L nD τ sig) (plan.lv τ) 1 :=
  sumSeg (V4 m (left m)) (dats m) (fun c => rfl) (plan.lv τ) (fun _ => 0) levels

/-- Nothing is owed after the transfers. -/
def quiet : Fin 3 → Dev nD → sProp 𝕄 := fun _ c => iprop(∃ W, owes (c : Thread nD τ) (0 : CellTallies nD τ sig Unit) W)

/-- What follows the transfers. -/
def later (c : Dev nD) : List (Seg (pcfgs (F := F)) adm (dats m) () defs₀ 𝒱₀ (Plan.L nD τ sig) (plan.lv τ)) :=
  [.host (seg1 m (left m) 𝒱₀ (Plan.L nD τ sig) (plan.lv τ) quiet c), .host (seg2 m (left m) 𝒱₀ (Plan.L nD τ sig) (plan.lv τ) quiet),
    .host (seg3 m (left m) 𝒱₀ (Plan.L nD τ sig) (plan.lv τ) quiet), .region (sumAt m)]

/-- The buffers at the end. -/
abbrev last (c : Dev nD) : Valuation τ sig (Elt F) := Pipeline.afterRegion (dats m 1 c) (V4 m (left m) c)

/-- The host's three stretches follow one another. -/
theorem stretches (outs : Outs (F := F)) (c : Dev nD) :
    (seg1 m outs 𝒱₀ (Plan.L nD τ sig) (plan.lv τ) quiet c).post c ⊢ (seg2 m outs 𝒱₀ (Plan.L nD τ sig) (plan.lv τ) quiet).pre c := .rfl

theorem stretches' (outs : Outs (F := F)) (c : Dev nD) :
    (seg2 m outs 𝒱₀ (Plan.L nD τ sig) (plan.lv τ) quiet).post c ⊢ (seg3 m outs 𝒱₀ (Plan.L nD τ sig) (plan.lv τ) quiet).pre c := .rfl

theorem to_sum (c : Dev nD) : (seg3 m (left m) 𝒱₀ (Plan.L nD τ sig) (plan.lv τ) quiet).post c ⊢ (sumAt m).pre c :=
  sum_pre (V4 m (left m)) (dats m) (fun c => rfl) (plan.lv τ) (fun _ => 0) levels c

theorem from_sum (c : Dev nD) : (sumAt m).post c
    ⊢ iprop(StableHlo.held (c : Thread nD τ) (Pipeline.ucRefs τ sig) (last m c) ∗ ∃ W, owes (c.tc : Thread nD τ) (0 : CellTallies nD τ sig Unit) W) :=
  sum_post (V4 m (left m)) (dats m) (fun c => rfl) (plan.lv τ) (fun _ => 0) levels c

theorem to_host (c : Dev nD) : iprop((done m c ∗ rest m c) ∗ ∃ W, owes (c.tc : Thread nD τ) (0 : CellTallies nD τ sig Unit) W)
    ⊢ (seg1 m (left m) 𝒱₀ (Plan.L nD τ sig) (plan.lv τ) quiet c).pre c :=
  sep_mono (rejoin m c) .rfl

theorem chain_later (c : Dev nD) : Seg.ChainsAt c (fun c => iprop((done m c ∗ rest m c) ∗ ∃ W, owes (c.tc : Thread nD τ) (0 : CellTallies nD τ sig Unit) W)) (later m c)
    fun c => iprop(StableHlo.held (c : Thread nD τ) (Pipeline.ucRefs τ sig) (last m c) ∗ ∃ W, owes (c.tc : Thread nD τ) (0 : CellTallies nD τ sig Unit) W) :=
  ⟨to_host m c, stretches m (left m) c, stretches' m (left m) c, to_sum m c, from_sum m c⟩

/-- What is read off device `c` at the end: the argument unchanged, the result the sum. -/
def QY (c : Dev nD) (s : MemSt nD τ sig (Elt F)) : Prop :=
  s.mem (inL c) = arg m c ∧ s.mem ((c.tc : Thread nD τ).loc main_v23) = total (V4 m (left m)) c

theorem not_arg : ∀ w, Pipeline.arrRef spec1 w ≠ main_arg0 := by decide

theorem last_arg (c : Dev nD) : last m c (Proc.devRef .tc main_arg0) = arg m c :=
  (Pipeline.afterRegion_keeps (dats m 1 c) _ launch1.win.arr_inj (fun w => rfl) main_arg0 fun w h => absurd h (not_arg w)).trans <|
    (V4_of m (left m) c main_arg0 (by decide)).trans <| (V3_of m (left m) c main_arg0 (by decide)).trans <| (V2_of m (left m) c main_arg0 (by decide)).trans (V1_of m (left m) c main_arg0 (by decide))

theorem last_sum (c : Dev nD) : last m c (Proc.devRef .tc main_v23) = total (V4 m (left m)) c :=
  (Pipeline.afterRegion_arr (dats m 1 c) _ launch1.win.arr_inj 4).trans (sum_arr (V4 m (left m)) c)

theorem read_last (c : Dev nD) (s' : Phys nD τ sig (Elt F)) :
    iprop(StableHlo.held (c : Thread nD τ) (Pipeline.ucRefs τ sig) (last m c) ∗ SI s') ⊢ (|={Set.univ}=> iprop(⌜QY m c s'.mem⌝ ∗ SI s') : sProp 𝕄) := by
  unfold StableHlo.held
  iintro ⟨Hh, HSI⟩
  ihave Hr := (pointsTo_read_all (Pipeline.ucRefs τ sig) (fun b => ((c : Thread nD τ).1, b)) (last m c) s') $$ [Hh HSI]
  · isplitl [Hh] <;> iassumption
  icases Hr with ⟨%h, HSI⟩
  imodintro
  isplitr
  · ipureintro
    exact ⟨(h _ (mem_uc main_arg0 (by decide))).trans (last_arg m c), (h _ (mem_uc main_v23 (by decide))).trans (last_sum m c)⟩
  · iexact HSI

/-- THE RUN: from any memory with every semaphore at zero, every execution ends, with the argument unchanged, the result
    the sum of the place this chip keeps and the three it received, and every semaphore at zero. -/
theorem run_main : θ_run (defs (F := F)) (onTc (τ := τ) (main (F := F))) ⟨m, fun _ => 0, ρ⟩ (fun r => (∀ c, QY m c r.2) ∧ r.2.sem = fun _ => 0) :=
  θ_run_talk plan (pay m) pcfgs adm (dats m) defs₀ 𝒱₀ cellOf_inj (q := (0 : Fin 2)) rfl N_0 rfl winFacts0.to₀ sems
    (mine m) (done m) (rest m) (fun c => rfl)
    (fun c => body_of N_0 _ defs₀ 𝒱₀ body (fun t => rfl) (body_run m c))
    m ρ main (later m)
    (fun c => by
      rewrite [main_chain c, Seg.run_eq_chain]
      rfl)
    (fun c => by simp only [later, Seg.pipes_host, Seg.pipes_region, Seg.pipes_nil]; decide)
    (bufs_dealt m) (fun c => StableHlo.held (c : Thread nD τ) (Pipeline.ucRefs τ sig) (last m c)) (chain_later m) (QY m) (read_last m)
    (fun s h hs => ⟨h, funext fun g => hs g (.inr (regions_no_unscoped g.2))⟩)

end Cert.ChipsProof

end
-- ==== Proof.ChipsValue.lean ====
/-
# Each chip sums its place with the three places the other chips sent: the values

Device `c` holds rows `4 c` to `4 c + 3` of the whole argument, one per chip. By `run_main` its result is the sum of the
place the host's slice keeps (`place_kept`) and the three places received (`place_got`), so at every element the sum of the
arguments of this core of every chip in the place of this chip, its own first (`total_elt`). The reference sums the whole
argument over the chips; its block for device `c` is the same sum (`ref_elt`), in the order of the chips (`value`).
-/
module

public import proofs.«01_k».proof.Proof.ChipsLaunch
public import proofs.«01_k».proof.Proof.Gen.ChipsRefIdeal.Run
public import proofs.«01_k».proof.Proof.Gen.Chips
public import Idealize.ShloMosaic.Lib.StableHlo.RunClose
public import Idealize.ShloMosaic.Lib.WordCmp
public import Idealize.ShloMosaic.Lib.Pointwise
public import Idealize.ShloMosaic.Lib.Pipeline.Value
public import proofs.«01_k».proof.Defs

@[expose] public section

set_option maxRecDepth 16384
set_option Elab.async false

noncomputable section

namespace Cert.ChipsProof

open Idealize.ShloMosaic Idealize.ShloMosaic.TcCoe
open Idealize.SL.Sem
open Cert.ChipsIdeal Cert.ChipsIdeal.Gen

variable {F : FTy → Type} [FloatOps F]
variable (m : (ℓ : Loc nD τ sig) → Buf (Elt F) ℓ)

/-- The host's word for the chip. -/
theorem word_chip (V : Valuation τ sig (Elt F)) (c : Dev nD) :
    (StableHlo.after (hostOps1 c) V (Proc.devRef .tc main_v15) : S_.Idx → BitVec 32) = fun _ => BitVec.ofNat 32 (chip c).val := by
  after_results
  funext i
  show IntOp.addi (IntOp.muli 2#32 (IntOp.remui .host (IntOp.divui .host c.word 4#32) 2#32)) (IntOp.remui .host (IntOp.divui .host c.word 2#32) 2#32)
    = BitVec.ofNat 32 (chip c).val
  revert c
  decide

theorem slices (t : Fin 4) : S4x3328x1024.Slices ![t.val, 0, 0] S1x3328x1024 := by revert t; decide
theorem slicesGot (j : Fin 3) : S3x3328x1024.Slices ![j.val, 0, 0] S1x3328x1024 := by revert j; decide

/-- What the host's first slice leaves: place `t` of the argument, where its word says `t`. -/
theorem place_kept (V : Valuation τ sig (Elt F)) (t : Fin 4) (hV : (V (Proc.devRef .tc main_v15) : S_.Idx → BitVec 32) = fun _ => BitVec.ofNat 32 t.val)
    (y : S3328x1024.Idx) :
    (StableHlo.after hostOps1_1 V (Proc.devRef .tc main_v16) : S3328x1024.Idx → Elt F .f32) y
      = (V (Proc.devRef .tc main_arg0) : S4x3328x1024.Idx → Elt F .f32) (up t y) := by
  refine (congrFun (?_ : _ = shapeCast S3328x1024 (extractStridedSlice S1x3328x1024 ![t.val, 0, 0] (V (Proc.devRef .tc main_arg0) : S4x3328x1024.Idx → Elt F .f32) (slices t))
    shapeCasts_S1x3328x1024_S3328x1024) y).trans ?_
  · after_results_simp_entrywise
    refine congrArg (fun x => shapeCast S3328x1024 x shapeCasts_S1x3328x1024_S3328x1024) (WordCmp.dynamicSlice_eq_extract S1x3328x1024
      (V (Proc.devRef .tc main_arg0) : S4x3328x1024.Idx → Elt F .f32) _ sliceFits_S4x3328x1024_S1x3328x1024 ![t.val, 0, 0] (slices t) fun a => ?_)
    match a with
    | 0 =>
      show (select (cmpi .slt (V (Proc.devRef .tc main_v15) : S_.Idx → BitVec 32) (constantI S_ 32 0#32))
        (addi (V (Proc.devRef .tc main_v15) : S_.Idx → BitVec 32) (constantI S_ 32 4#32)) (V (Proc.devRef .tc main_v15) : S_.Idx → BitVec 32) (Shape.Idx.first h_S_)).toInt = (t.val : ℤ)
      rw [hV]
      clear hV
      revert t
      decide
    | 1 => rfl
    | 2 => rfl
  · show (V (Proc.devRef .tc main_arg0) : S4x3328x1024.Idx → Elt F .f32) (fun a => ⟨(![t.val, 0, 0] : Fin 3 → ℕ) a + (Shape.reshapeEquiv (s := S1x3328x1024) (s' := S3328x1024) _ y a).val, _⟩) = _
    refine congrArg (V (Proc.devRef .tc main_arg0) : S4x3328x1024.Idx → Elt F .f32) (funext fun a => Fin.ext ?_)
    show (![t.val, 0, 0] : Fin 3 → ℕ) a + (Shape.reshapeEquiv (s := S1x3328x1024) (s' := S3328x1024) _ y a).val = (up t y a).val
    rw [show Shape.reshapeEquiv (s := S1x3328x1024) (s' := S3328x1024) _ y = Fin.cons ⟨0, Nat.one_pos⟩ y from Shape.reshapeEquiv_cons_one _ _]
    match a with
    | 0 => show t.val + 0 = t.val; omega
    | 1 => show 0 + (y 0).val = (y 0).val; omega
    | 2 => show 0 + (y 1).val = (y 1).val; omega

/-- Place `j` of an array, cut out and reshaped. -/
theorem cut_elt (x : S3x3328x1024.Idx → Elt F .f32) (j : Fin 3) (y : S3328x1024.Idx) :
    shapeCast S3328x1024 (extractStridedSlice S1x3328x1024 ![j.val, 0, 0] x (slicesGot j)) shapeCasts_S1x3328x1024_S3328x1024 y = x (upGot j y) := by
  show x (fun a => ⟨(![j.val, 0, 0] : Fin 3 → ℕ) a + (Shape.reshapeEquiv (s := S1x3328x1024) (s' := S3328x1024) _ y a).val, _⟩) = _
  refine congrArg x (funext fun a => Fin.ext ?_)
  show (![j.val, 0, 0] : Fin 3 → ℕ) a + (Shape.reshapeEquiv (s := S1x3328x1024) (s' := S3328x1024) _ y a).val = (upGot j y a).val
  rw [show Shape.reshapeEquiv (s := S1x3328x1024) (s' := S3328x1024) _ y = Fin.cons ⟨0, Nat.one_pos⟩ y from Shape.reshapeEquiv_cons_one _ _]
  match a with
  | 0 => show j.val + 0 = j.val; omega
  | 1 => show 0 + (y 0).val = (y 0).val; omega
  | 2 => show 0 + (y 1).val = (y 1).val; omega

/-- What the host's other slices leave: the places of the receiving buffer. -/
theorem place_got (V : Valuation τ sig (Elt F)) (y : S3328x1024.Idx) :
    ((StableHlo.after hostOps1_2 V (Proc.devRef .tc main_v18) : S3328x1024.Idx → Elt F .f32) y = (V (Proc.devRef .tc main_v1) : S3x3328x1024.Idx → Elt F .f32) (upGot 0 y))
    ∧ ((StableHlo.after hostOps1_2 V (Proc.devRef .tc main_v20) : S3328x1024.Idx → Elt F .f32) y = (V (Proc.devRef .tc main_v1) : S3x3328x1024.Idx → Elt F .f32) (upGot 1 y))
    ∧ ((StableHlo.after hostOps1_2 V (Proc.devRef .tc main_v22) : S3328x1024.Idx → Elt F .f32) y = (V (Proc.devRef .tc main_v1) : S3x3328x1024.Idx → Elt F .f32) (upGot 2 y)) := by
  refine ⟨(congrFun ?_ y).trans (cut_elt (V (Proc.devRef .tc main_v1)) 0 y), (congrFun ?_ y).trans (cut_elt (V (Proc.devRef .tc main_v1)) 1 y),
    (congrFun ?_ y).trans (cut_elt (V (Proc.devRef .tc main_v1)) 2 y)⟩
  · after_results <;> rfl
  · after_results <;> rfl
  · after_results <;> rfl

theorem got_elt (c : Dev nD) (j : Fin 3) (y : S3328x1024.Idx) :
    (got m c : S3x3328x1024.Idx → Elt F .f32) (upGot j y) = (arg m (far j c) : S4x3328x1024.Idx → Elt F .f32) (up (chip c) y) := by
  show (arg m (far j c) : S4x3328x1024.Idx → Elt F .f32) (up (chip c) _) = _
  refine congrArg (fun y => (arg m (far j c) : S4x3328x1024.Idx → Elt F .f32) (up (chip c) y)) (funext fun a => ?_)
  match a with
  | 0 => rfl
  | 1 => rfl

/-- Each element of the result: the sum of the arguments of this core of every chip, in the place of this chip. -/
theorem total_elt (c : Dev nD) (y : S3328x1024.Idx) : total (V4 m (left m)) c y
    = FloatOps.addf (FloatOps.addf (FloatOps.addf ((arg m c : S4x3328x1024.Idx → Elt F .f32) (up (chip c) y))
      ((arg m (far 0 c) : S4x3328x1024.Idx → Elt F .f32) (up (chip c) y))) ((arg m (far 1 c) : S4x3328x1024.Idx → Elt F .f32) (up (chip c) y)))
      ((arg m (far 2 c) : S4x3328x1024.Idx → Elt F .f32) (up (chip c) y)) := by
  have g : V3 m (left m) c (Proc.devRef .tc main_v1) = got m c :=
    (V3_of m (left m) c main_v1 (by decide)).trans ((V2_of m (left m) c main_v1 (by decide)).trans (left_got m c))
  obtain ⟨h0, h1, h2⟩ := place_got (V3 m (left m) c) y
  rw [g, got_elt] at h0 h1 h2
  have hk : (V4 m (left m) c (Proc.devRef .tc main_v16) : S3328x1024.Idx → Elt F .f32) y = (arg m c : S4x3328x1024.Idx → Elt F .f32) (up (chip c) y) := by
    rw [V4_of m (left m) c main_v16 (by decide)]
    refine (place_kept (V2 m (left m) c) (chip c) (word_chip _ c) y).trans ?_
    rw [V2_of m (left m) c main_arg0 (by decide), V1_of m (left m) c main_arg0 (by decide)]
  exact congrArg₂ FloatOps.addf (congrArg₂ FloatOps.addf (congrArg₂ FloatOps.addf hk h0) h1) h2

/-- The reference's result: element by element the sum over the chips. -/
def refOut (w : Cert.ChipsRefIdeal.S32x3328x1024.Idx → Elt Ideal .f32) : Cert.ChipsRefIdeal.S26624x1024.Idx → Elt Ideal .f32 :=
  shapeCast _ (Host.reduceAdd (F := Ideal) (shapeCast _ w Cert.ChipsRefIdeal.Gen.shapeCasts_S32x3328x1024_S4x2x4x3328x1024)
    (constant Cert.ChipsRefIdeal.S_ .f32 0x00000000#32) Cert.ChipsRefIdeal.Gen.reducesTo_S4x2x4x3328x1024_S2x4x3328x1024_d0 Cert.ChipsRefIdeal.Gen.h_S_)
    Cert.ChipsRefIdeal.Gen.shapeCasts_S2x4x3328x1024_S26624x1024

/-- The element of the whole argument in row `r`. -/
def inW (r : Fin 32) (y : S3328x1024.Idx) : Cert.ChipsRefIdeal.S32x3328x1024.Idx := fun a => match a with
  | 0 => r
  | 1 => y 0
  | 2 => y 1

/-- The core of a device. -/
def core (c : Dev nD) : Fin 2 := ⟨c.val % 2, Nat.mod_lt _ (by decide)⟩

/-- The row of the whole argument that this core of chip `k` holds in the place of device `c`'s chip. -/
def rowOf (c : Dev nD) (k : Fin 4) : Fin 32 := ⟨8 * k.val + 4 * (core c).val + (chip c).val, by
  have := (chip c).isLt; have := (core c).isLt; have := k.isLt; omega⟩

/-- The block of the reference's result that device `c` holds. -/
theorem rows (c : Dev nD) : Layout.meshLin [2, 2, 2] c.val [2, 0, 1] = 4 * (core c).val + (chip c).val := by revert c; decide

theorem ref_elt (w : Cert.ChipsRefIdeal.S32x3328x1024.Idx → Elt Ideal .f32) (c : Dev nD) (y : S3328x1024.Idx) :
    (Layout.blockN ⟨2, ![3328, 1024]⟩ ⟨2, ![26624, 1024]⟩ (Layout.meshBlock [2, 2, 2] ![[2, 0, 1], []] c) (refOut w) : S3328x1024.Idx → Elt Ideal .f32) y
      = ∑ k : Fin 4, w (inW (rowOf c k) y) := by
  let j : Cert.ChipsRefIdeal.S2x4x3328x1024.Idx := fun a => match a with
    | 0 => core c
    | 1 => chip c
    | 2 => y 0
    | 3 => y 1
  refine Eq.trans (b := Host.reduceAdd (F := Ideal) (shapeCast _ w Cert.ChipsRefIdeal.Gen.shapeCasts_S32x3328x1024_S4x2x4x3328x1024)
    (constant Cert.ChipsRefIdeal.S_ .f32 0x00000000#32) Cert.ChipsRefIdeal.Gen.reducesTo_S4x2x4x3328x1024_S2x4x3328x1024_d0 Cert.ChipsRefIdeal.Gen.h_S_ j) ?_ ?_
  · refine congrArg (Host.reduceAdd (F := Ideal) _ _ _ _) (Shape.reshapeEquiv_eq_of_rowMajor _ ?_)
    rw [Shape.rowMajor_val_two, Shape.rowMajor_val_four]
    show (((core c).val * 4 + (chip c).val) * 3328 + (y 0).val) * 1024 + (y 1).val
      = (Layout.meshLin [2, 2, 2] c.val [2, 0, 1] * 3328 + (y 0).val) * 1024 + (Layout.meshLin [2, 2, 2] c.val [] * 1024 + (y 1).val)
    rw [rows]
    simp only [Layout.meshLin]
    omega
  · rw [Host.reduceAdd_apply, Ideal.hostReduceAdd_def, Ideal.hostReduceAdd_r5_a0]
    simp only [pointwise]
    refine (zero_add _).trans (Finset.sum_congr rfl fun k _ => congrArg w (funext fun a => Fin.ext ?_))
    match a with
    | 0 => show k.val * 8 + (core c).val * 4 + (chip c).val = 8 * k.val + 4 * (core c).val + (chip c).val; omega
    | 1 => rfl
    | 2 => rfl

/-- An element of a device's argument, in the whole argument. -/
theorem arg_elt (m : (ℓ : Loc nD τ sig) → Buf (Elt Ideal) ℓ) (w : Cert.ChipsRefIdeal.S32x3328x1024.Idx → Elt Ideal .f32)
    (hw : ∀ c : Dev nD, arg m c = Layout.block ⟨3, ![4, 3328, 1024]⟩ ⟨3, ![32, 3328, 1024]⟩ 0 8 c w) (d : Dev nD) (t : Fin 4) (y : S3328x1024.Idx)
    (r : Fin 32) (hr : r.val = 4 * d.val + t.val) :
    (arg m d : S4x3328x1024.Idx → Elt Ideal .f32) (up t y) = w (inW r y) := by
  rw [hw]
  refine congrArg w (funext fun a => Fin.ext ?_)
  match a with
  | 0 => show d.val * 4 + t.val = r.val; omega
  | 1 => rfl
  | 2 => rfl

theorem row_own (c : Dev nD) : (rowOf c (chip c)).val = 4 * c.val + (chip c).val := by revert c; decide
theorem row_far (j : Fin 3) (c : Dev nD) : (rowOf c (chipOf j c)).val = 4 * (far j c).val + (chip c).val := by revert j c; decide

/-- A sum over the chips, this one's term first. -/
theorem sum_chips (c : Dev nD) (g : Fin 4 → EReal) : ∑ k, g k = g (chip c) + g (chipOf 0 c) + g (chipOf 1 c) + g (chipOf 2 c) := by
  rw [(chips_list c).1, List.sum_toFinset g (chips_list c).2]
  simp only [List.map_cons, List.map_nil, List.sum_cons, List.sum_nil, add_zero]
  abel

/-- Where every device's argument is its block of `w`, every device's result at the end is its block of the reference's. -/
theorem value (m : (ℓ : Loc nD τ sig) → Buf (Elt Ideal) ℓ) (w : Cert.ChipsRefIdeal.S32x3328x1024.Idx → Elt Ideal .f32)
    (hw : ∀ c : Dev nD, arg m c = Layout.block ⟨3, ![4, 3328, 1024]⟩ ⟨3, ![32, 3328, 1024]⟩ 0 8 c w) (c : Dev nD) :
    total (V4 m (left m)) c = Layout.blockN ⟨2, ![3328, 1024]⟩ ⟨2, ![26624, 1024]⟩ (Layout.meshBlock [2, 2, 2] ![[2, 0, 1], []] c) (refOut w) := by
  funext y
  refine (total_elt m c y).trans (.trans ?_ (ref_elt w c y).symm)
  rw [sum_chips c fun k => w (inW (rowOf c k) y), arg_elt m w hw c (chip c) y _ (row_own c), arg_elt m w hw (far 0 c) (chip c) y _ (row_far 0 c),
    arg_elt m w hw (far 1 c) (chip c) y _ (row_far 1 c), arg_elt m w hw (far 2 c) (chip c) y _ (row_far 2 c)]
  rfl

/-! ## The claims -/

theorem frame_ideal : Cert.quiescent_ChipsIdeal := fun m g _ =>
  (θ_run Cert.ChipsIdeal.defs _ _).mono (fun r h => ⟨fun c => (h.1 c).1, h.2⟩) (run_main (F := Ideal) m g)

/-- The two programs' kernel bodies are the same, label by label. -/
theorem defs_eq : Cert.Chips.defs (F := Bits) = Cert.ChipsIdeal.defs (F := Bits) := by
  refine congrArg (Pipeline.defs (Cert.ChipsIdeal.pcfgs (F := Bits))) (show Cert.Chips.defs₀ (F := Bits) = Cert.ChipsIdeal.defs₀ (F := Bits) from ?_)
  unfold Cert.Chips.defs₀ Cert.ChipsIdeal.defs₀
  refine congrArg Defs.onTc (funext fun f => ?_)
  match f with
  | 0 => rfl
  | 1 => rfl

theorem frame : Cert.quiescent_Chips := fun m g _ => by
  rw [defs_eq]
  exact (θ_run Cert.ChipsIdeal.defs _ _).mono (fun r h => ⟨fun c => (h.1 c).1, h.2⟩) (run_main (F := Bits) m g)

theorem frame_ref_ideal : Cert.quiescent_ChipsRefIdeal := fun m g _ =>
  (θ_run Cert.ChipsRefIdeal.defs _ _).mono (fun r h => ⟨fun c => (h c).2, Idealize.ShloMosaic.sem_eq_zero_of_no_sems (by decide) r.2⟩)
    (Cert.ChipsRefIdeal.Value.run (F := Ideal) m g)

theorem algebraic : Cert.algebraic_ChipsIdeal_ChipsRefIdeal := fun m g m' g' _ hw =>
  ⟨_, (θ_run Cert.ChipsIdeal.defs _ _).mono (fun r h c => ⟨(h.1 c).2.trans (value m _ hw c), (h.1 c).1⟩) (run_main (F := Ideal) m g),
    (θ_run Cert.ChipsRefIdeal.defs _ _).mono (fun r h => h 0) (Cert.ChipsRefIdeal.Value.run (F := Ideal) m' g')⟩

end Cert.ChipsProof

end
-- ==== Proof.Share.lean ====
/-
# The two cores of a chip exchange their halves: the run

`ShareIdeal` is the call `grads_share`. Device `c` (its core is `c % 2`, its sibling is the device of the other core of
the chip) copies its argument into place `c % 2` of its own result and into the same place of its sibling's result.

The protocol, per device: semaphore 0 is credited by the source side of its transfer and gives half of the share of its
argument back; semaphore 1 is credited by the landing of its SIBLING's transfer and gives the other place of its own
result, holding the sibling's argument; semaphore 2 is credited by its local copy and gives its own place, holding its
own argument, and the other half of the share.

`run_main`: on every device the argument is unchanged, place `h` of the result holds the argument of core `h` of the
device's chip, and every semaphore ends at zero.
-/
module

public import proofs.«01_k».proof.Proof.TalkSeg
public import proofs.«01_k».proof.Proof.Gen.ShareIdeal
public import proofs.«01_k».proof.Proof.Gen.ShareIdeal.Skeleton
public import proofs.«01_k».proof.Proof.Gen.ShareIdeal.Launch

@[expose] public section

set_option maxRecDepth 16384
set_option Elab.async false

noncomputable section

namespace Cert.ShareProof

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem
open Cert.ShareIdeal Cert.ShareIdeal.Gen Cert.OneShot Cert.TalkSeg Cert.TalkLaunch

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## Devices -/

/-- A device's core on its chip, the other core, the device of the other core, and the device of core `h` of the chip. -/
def core (c : Dev nD) : Fin 2 := ⟨c.val % 2, Nat.mod_lt _ (by decide)⟩
def oth (c : Dev nD) : Fin 2 := ⟨1 - c.val % 2, by omega⟩
def sib (c : Dev nD) : Dev nD := ⟨(4 * (c.val / 4) + 2 * ((c.val / 2) % 2) + 1) - (c.val % 2), by revert c; decide⟩
def atCore (c : Dev nD) (h : Fin 2) : Dev nD := ⟨2 * (c.val / 2) + h.val, by revert c h; decide⟩

theorem sib_sib (c : Dev nD) : sib (sib c) = c := by revert c; decide
theorem oth_sib (c : Dev nD) : oth (sib c) = core c := by revert c; decide
theorem core_sib (c : Dev nD) : core (sib c) = oth c := by revert c; decide
theorem cores (c : Dev nD) (h : Fin 2) : h = core c ∨ h = oth c := by revert c h; decide
theorem cores_list (c : Dev nD) : Finset.univ = [core c, oth c].toFinset ∧ [core c, oth c].Nodup := by revert c; decide
theorem atCore_core (c : Dev nD) : atCore c (core c) = c := by revert c; decide
theorem atCore_oth (c : Dev nD) : atCore c (oth c) = sib c := by revert c; decide

def sibs : Equiv.Perm (Dev nD) := ⟨sib, sib, sib_sib, sib_sib⟩

/-! ## Places of the result -/

/-- Device `c`'s argument buffer and result buffer. -/
abbrev inL (c : Dev nD) : Loc nD τ sig := (c.tc : Thread nD τ).loc main_arg0
abbrev outL (c : Dev nD) : Loc nD τ sig := (c.tc : Thread nD τ).loc main_v1

abbrev aM : Memref sig .tc .hbm S3328x1024 .f32 := Memref.whole main_arg0

/-- The part of the result at an offset. -/
abbrev part (off : Fin 3 → ℕ) (inb : ∀ a, off a + S1x3328x1024.size a ≤ S2x3328x1024.size a) : Memref sig .tc .hbm S3328x1024 .f32 :=
  ((Memref.whole main_v1 : Memref sig .tc .hbm S2x3328x1024 .f32).slice (Rect.unit (s := S2x3328x1024) off S1x3328x1024.size inb) (fun _ => rfl)).squeeze
    S3328x1024 squeezes_S1x3328x1024_S3328x1024

theorem place_inb (h : Fin 2) : ∀ a, (![h.val, 0, 0] : Fin 3 → ℕ) a + S1x3328x1024.size a ≤ S2x3328x1024.size a := by revert h; decide

/-- Place `h` of the result. -/
def place (h : Fin 2) : View sig .tc .hbm S3328x1024 .f32 := (part ![h.val, 0, 0] (place_inb h)).view

/-- Its elements, in device `c`'s result. -/
def elts (c : Dev nD) (h : Fin 2) : Finset (Idx (outL c)) := (place h).set

/-- Device `c`'s argument; the result with the argument of `d` written at place `h`. -/
abbrev arg (c : Dev nD) : Buf (Elt F) (inL c) := m (inL c)
def filled (c : Dev nD) (h : Fin 2) (d : Dev nD) : Buf (Elt F) (outL c) :=
  (place h).write (Elt F) (m (outL c)) (aM.view.read (Elt F) (arg m d)) Finset.univ

/-- Place `h` of device `c`'s result, at contents `f`; a share of its argument. -/
def outPts (c : Dev nD) (h : Fin 2) (f : Buf (Elt F) (outL c)) : sProp 𝕄 := outL c ↦[elts c h]{fullShare} f
def argPts (c : Dev nD) (q : PosShare TreeShare) : sProp 𝕄 := inL c ↦{q} arg m c

theorem arg_pts (c : Dev nD) (q : PosShare TreeShare) :
    (aM.view.loc (c : Thread nD τ) ↦[aM.view.set]{q} arg m c : sProp 𝕄) = argPts m c q := by
  unfold argPts
  rw [show aM.view.set = Finset.univ from View.set_whole _]

theorem part_pts {off : Fin 3 → ℕ} {inb} {h : Fin 2} (e : off = ![h.val, 0, 0]) (c : Dev nD) (f : Buf (Elt F) (outL c)) :
    ((part off inb).view.loc (c : Thread nD τ) ↦[(part off inb).view.set]{fullShare} f : sProp 𝕄) = outPts c h f := by
  subst e
  rfl

theorem part_written {off : Fin 3 → ℕ} {inb} {h : Fin 2} (e : off = ![h.val, 0, 0]) (c d : Dev nD) :
    ((part off inb).view.loc (c : Thread nD τ) ↦[(part off inb).view.set]{fullShare}
      (part off inb).view.write (Elt F) (m (outL c)) (aM.view.read (Elt F) (arg m d)) Finset.univ : sProp 𝕄)
      = outPts c h (filled m c h d) := by
  subst e
  rfl

/-! ## The plan -/

def plan : Plan nD sig 3 where
  sem := fun | 0 => .dma cc0_scratch0.sem | 1 => .dma cc0_scratch1.sem | 2 => .dma cc0_scratch2.sem
  inj := by decide
  amt _ := aM.view.dmaCredit
  pos _ := View.dmaCredit_pos _ (by decide)
  peer := fun | 0 => Equiv.refl _ | 1 => sibs | 2 => Equiv.refl _
  owed := {1}
  lvl _ := 0

def pay (c : Dev nD) : Fin 3 → sProp 𝕄
  | 0 => argPts m c fullShare.right
  | 1 => outPts c (oth c) (filled m c (oth c) (sib c))
  | 2 => iprop(outPts c (core c) (filled m c (core c) c) ∗ argPts m c fullShare.left)

instance (c : Dev nD) (h : Fin 2) (f : Buf (Elt F) (outL c)) : BI.Storable (upEmb : UEmb _ 𝕄) (outPts c h f) := by
  unfold outPts
  infer_instance
instance (c : Dev nD) (q : PosShare TreeShare) : BI.Storable (upEmb : UEmb _ 𝕄) (argPts m c q) := by unfold argPts; infer_instance

instance : Plan.Storables (pay m) where
  storable c i := by
    match i with
    | 0 => exact (inferInstance : BI.Storable (upEmb : UEmb _ 𝕄) (argPts m c fullShare.right))
    | 1 => exact (inferInstance : BI.Storable (upEmb : UEmb _ 𝕄) (outPts c (oth c) (filled m c (oth c) (sib c))))
    | 2 => exact (inferInstance : BI.Storable (upEmb : UEmb _ 𝕄) iprop(outPts c (core c) (filled m c (core c) c) ∗ argPts m c fullShare.left))

/-! ## The body -/

/-- What device `c` works on: its argument, its own place of its result, and the place of its sibling's result it sends to. -/
def mine (c : Dev nD) : sProp 𝕄 :=
  iprop(argPts m c fullShare.left ∗ argPts m c fullShare.right ∗ outPts c (core c) (m (outL c))
    ∗ outPts (sib c) (core c) (m (outL (sib c))))

def done (c : Dev nD) : sProp 𝕄 :=
  iprop(argPts m c fullShare.left ∗ argPts m c fullShare.right ∗ outPts c (core c) (filled m c (core c) c)
    ∗ outPts c (oth c) (filled m c (oth c) (sib c)))

abbrev 𝒱₀ : Variants := Variants.none

abbrev body : Prog (TpuEff nD τ sig (Elt F) Λ₀ .tc) PUnit :=
  cc0_grads_share (Memref.whole main_arg0) (Memref.isWhole_whole _) (Memref.whole main_v1) (Memref.isWhole_whole _) cc0_scratch0 cc0_scratch1 cc0_scratch2

theorem owed_rest {i : Fin 3} : ∀ j ∈ plan.owed.erase 1, plan.lvl i < plan.lvl j := fun j hj => absurd hj (by revert j; decide)

theorem hand_eq (c : Dev nD) : plan.hand (τ := τ) (Val := Elt F) c
    = iprop((atPos ER (plan.cell τ c 0) 0 ∅ 0 ∗ atPos ER (plan.cell τ c 1) 0 ∅ 0 ∗ atPos ER (plan.cell τ c 2) 0 ∅ 0)
      ∗ dutyTok ER (plan.cell τ (plan.peer 0 c) 0) 0 () ∗ dutyTok ER (plan.cell τ (plan.peer 1 c) 1) 0 () ∗ dutyTok ER (plan.cell τ (plan.peer 2 c) 2) 0 ()) := by
  unfold Plan.hand
  rw [bigSep_univ_eq_bigSepL [0, 1, 2] (by decide) (by decide), bigSep_univ_eq_bigSepL [0, 1, 2] (by decide) (by decide)]
  rfl

theorem zeros_eq (c : Dev nD) : zeros (τ := τ) (Val := Elt F) plan c
    = iprop(semVal (plan.cell τ c 0) 0 ∗ semVal (plan.cell τ c 1) 0 ∗ semVal (plan.cell τ c 2) 0) := by
  unfold zeros
  rw [bigSep_univ_eq_bigSepL [0, 1, 2] (by decide) (by decide)]
  rfl

theorem body_run (c : Dev nD) : iprop((ready plan (pay m) c ∗ mine m c) ∗ ∃ W, owes (c : Thread nD τ) (plan.owing τ plan.owed c) W)
    ⊢ wp frame (wpE (defs₀ (F := F)) 𝒱₀ c none) Set.univ (body (F := F)) fun _ => iprop((zeros plan c ∗ done m c) ∗ ∃ W, owes (c : Thread nD τ) 0 W) := by
  unfold body
  simp only [cc0_grads_share_eq_skeleton]; unfold cc0_grads_share_skel
  simp only [k0_part1_eq_skeleton]; unfold k0_part1_skel
  simp only [Prog.lift, Prog.bind_op, Prog.bind_ret, Prog.pure_eq_ret, wp_deviceId]
  unfold ready mine
  rw [hand_eq, show (bigSep plan.owed fun i => (cred (tallyAt (plan.cell τ c i) () (plan.amt i)) : sProp 𝕄)) = cred (tallyAt (plan.cell τ c 1) () (plan.amt 1)) from bigSep_singleton]
  iintro ⟨⟨⟨⟨%K, #HR, ⟨Hat0, Hat1, Hat2⟩, Ht0, Ht1, Ht2⟩, Hc1, #HL⟩, Ha, Ha', Ho, Hs⟩, HO⟩
  -- the local copy
  iapply (plan.wp_copy (pay m) 𝒱₀ c none K (q := fullShare.left) (fs := arg m c) (fd := m (outL c)) 2 rfl rfl rfl (by
    rw [arg_pts, part_written m (h := core c) (k0_off1_eq c)]
    exact Entails.rfl)) $$ [Ha Ho Ht2]
  · isplitr; · iexact HR
    isplitl [Ha]; · rw [arg_pts]; iexact Ha
    isplitl [Ho]; · rw [part_pts (h := core c) (k0_off1_eq c)]; iexact Ho
    iexact Ht2
  iintro Hc2
  -- the transfer to the sibling
  iapply (plan.wp_send (pay m) 𝒱₀ c none K (q := fullShare.right) (fs := arg m c) (fd := m (outL (sib c))) 0 1 rfl rfl
    (Fin.ext (k0_dev1_eq c)) rfl (J := plan.owed) (by decide) rfl rfl (by
    rw [arg_pts]
    exact Entails.rfl) (by
    refine (Entails.of_eq (part_written m (h := core c) (k0_off1_eq c) (sib c) c)).trans ?_
    show _ ⊢ outPts (sib c) (oth (sib c)) (filled m (sib c) (oth (sib c)) (sib (sib c)))
    rw [sib_sib, oth_sib])) $$ [Ha' Hs HO Ht0 Ht1]
  · isplitr; · iexact HR
    isplitl [Ha']; · rw [arg_pts]; iexact Ha'
    isplitl [Hs]; · rw [part_pts (h := core c) (k0_off1_eq c)]; iexact Hs
    isplitl [HO]; · iexact HO
    isplitl [Ht0] <;> iassumption
  iintro ⟨Hc0, HO⟩
  -- the three waits
  iapply (plan.wp_wait (pay m) 𝒱₀ c none K 1 rfl rfl (J := plan.owed.erase 1) owed_rest) $$ [Hc1 HO Hat1]
  · isplitr; · iexact HR
    isplitr; · iexact HL
    isplitl [Hc1]; · iexact Hc1
    isplitl [HO]; · iexact HO
    iexact Hat1
  iintro ⟨Hp1, Hz1, HO⟩
  iapply (plan.wp_wait (pay m) 𝒱₀ c none K 0 rfl rfl (J := plan.owed.erase 1) owed_rest) $$ [Hc0 HO Hat0]
  · isplitr; · iexact HR
    isplitr; · iexact HL
    isplitl [Hc0]; · iexact Hc0
    isplitl [HO]; · iexact HO
    iexact Hat0
  iintro ⟨Hp0, Hz0, HO⟩
  iapply (plan.wp_wait (pay m) 𝒱₀ c none K 2 rfl rfl (J := plan.owed.erase 1) owed_rest) $$ [Hc2 HO Hat2]
  · isplitr; · iexact HR
    isplitr; · iexact HL
    isplitl [Hc2]; · iexact Hc2
    isplitl [HO]; · iexact HO
    iexact Hat2
  iintro ⟨Hp2, Hz2, HO⟩
  ihave Hp2' := (show pay m c 2 ⊢ iprop(outPts c (core c) (filled m c (core c) c) ∗ argPts m c fullShare.left) from Entails.rfl) $$ Hp2
  icases Hp2' with ⟨Ho, Ha⟩
  ihave Ha' := (show pay m c 0 ⊢ argPts m c fullShare.right from Entails.rfl) $$ Hp0
  ihave Hs := (show pay m c 1 ⊢ outPts c (oth c) (filled m c (oth c) (sib c)) from Entails.rfl) $$ Hp1
  rw [wp_ret]
  imodintro
  isplitr [HO]
  · rw [zeros_eq]
    isplitl [Hz0 Hz1 Hz2]
    · isplitl [Hz0]; · iexact Hz0
      isplitl [Hz1] <;> iassumption
    · unfold done
      isplitl [Ha]; · iexact Ha
      isplitl [Ha']; · iexact Ha'
      isplitl [Ho]; · iexact Ho
      iexact Hs
  · iexact HO

/-! ## The launch -/

abbrev adm : (p : Fin 1) → (pcfgs (F := F) p).Adm := fun p => (cfgs p).toPCfg_adm

def dats : (p : Fin 1) → (c : Dev nD) → Pipeline.Dat τ (Elt F) Unit ℕ (UU nD τ sig) ℕ (Pipeline.pin (pcfgs (F := F)) adm p) c
  | 0, c => talkDat plan (pay m) (Pipeline.pin (pcfgs (F := F)) adm 0) rfl (mine m) (done m) c

theorem sems : Pipeline.OwnSemFacts (cfg0.spec) plan.sem := by decide

/-- An element lies in the place of its first coordinate. -/
theorem mem_elts {c : Dev nD} {h : Fin 2} {x : Idx (outL c)} : x ∈ elts c h ↔ (x : S2x3328x1024.Idx) 0 = h := by
  unfold elts place
  rw [show ((part ![h.val, 0, 0] (place_inb h)).view).set = (Rect.unit (s := S2x3328x1024) ![h.val, 0, 0] S1x3328x1024.size (place_inb h)).set from
    (View.set_reshape _ _).trans (View.set_slice_whole _ _)]
  refine Rect.mem_set_unit.trans ⟨fun hx => ?_, fun e a => ?_⟩
  · have h0 := hx 0
    exact Fin.ext (by simp [S1x3328x1024] at h0; omega)
  · subst e
    have := (x : S2x3328x1024.Idx) a |>.isLt
    match a with
    | 0 => exact ⟨le_rfl, Nat.lt_succ_self _⟩
    | 1 => exact ⟨Nat.zero_le _, (Nat.zero_add _).symm ▸ this⟩
    | 2 => exact ⟨Nat.zero_le _, (Nat.zero_add _).symm ▸ this⟩

/-- The result is its two places. -/
theorem out_split (c : Dev nD) (f : Buf (Elt F) (outL c)) : (outL c ↦{fullShare} f : sProp 𝕄) = iprop(outPts c (core c) f ∗ outPts c (oth c) f) := by
  rw [pts_places (outL c) (elts c) (fun t t' h => Finset.disjoint_left.mpr fun x hx hx' => h ((mem_elts.mp hx).symm.trans (mem_elts.mp hx')))
    (fun x => ⟨_, mem_elts.mpr rfl⟩), bigSep_univ_eq_bigSepL [core c, oth c] (cores_list c).1 (cores_list c).2]
  rfl

/-- A device's buffers at the launch. -/
theorem bufs_split (c : Dev nD) : (unscopedBufs c (fun b => m ((c.tc : Thread nD τ).loc b)) : sProp 𝕄)
    ⊢ iprop((argPts m c fullShare.left ∗ argPts m c fullShare.right) ∗ outPts c (core c) (m (outL c)) ∗ outPts c (oth c) (m (outL c))) := by
  unfold unscopedBufs
  rw [bigSep_eq_bigSepL_of_eq [main_arg0, main_v1] (by decide) (by decide), ← out_split]
  unfold argPts
  show iprop((inL c ↦{fullShare} m (inL c)) ∗ (outL c ↦{fullShare} m (outL c))) ⊢ _
  iintro ⟨Ha, Ho⟩
  isplitl [Ha]
  · iapply (pointsTo_share (PosShare.mem_left_op_right fullShare)).1
    iexact Ha
  · iexact Ho

/-- Every device's buffers, each second place with the device that sends to it. -/
theorem bufs_dealt : (bigSep Finset.univ fun c : Dev nD => (unscopedBufs c (fun b => m ((c.tc : Thread nD τ).loc b)) : sProp 𝕄))
    ⊢ bigSep Finset.univ fun c => iprop(mine m c ∗ emp) := by
  refine (bigSep_mono fun c _ => bufs_split m c).trans ((?_ : _ ⊢ bigSep Finset.univ (mine m)).trans (bigSep_mono fun c _ => ?_))
  swap
  · show mine m c ⊢ iprop(mine m c ∗ emp)
    iintro H
    isplitl [H]; · iexact H
    iempintro
  unfold mine
  simp only [bigSep_sep']
  rw [show (bigSep Finset.univ fun c : Dev nD => (outPts c (oth c) (m (outL c)) : sProp 𝕄))
      = bigSep Finset.univ fun c : Dev nD => outPts (sib c) (core c) (m (outL (sib c))) from
    (bigSep_univ_equiv sibs fun c : Dev nD => (outPts c (oth c) (m (outL c)) : sProp 𝕄)).trans
      (bigSep_congr fun c _ => by show outPts (sib c) (oth (sib c)) (m (outL (sib c))) = _; rw [oth_sib])]
  iintro ⟨⟨Ha, Ha'⟩, Ho, Hs⟩
  isplitl [Ha]; · iexact Ha
  isplitl [Ha']; · iexact Ha'
  isplitl [Ho] <;> iassumption

/-- What a place of the result, filled, reads. -/
theorem read_filled (c : Dev nD) (h : Fin 2) (d : Dev nD) (g : Buf (Elt F) (outL c)) (e : ∀ x ∈ elts c h, g x = filled m c h d x) :
    (place h).read (Elt F) g = aM.view.read (Elt F) (arg m d) :=
  (View.read_congr (v := place h) e).trans (View.read_write_univ _ _)

/-- Every semaphore is a kernel's. -/
theorem is_scoped (g : GSem nD τ sig) : g.1.2 ≠ .tc ∨ g.2.isScoped .tc = true :=
  Or.inr ((by decide : ∀ s : SemLoc sig, s.isScoped .tc = true) g.2)

/-- What is read off device `c` at the end. -/
def QY (c : Dev nD) (s : MemSt nD τ sig (Elt F)) : Prop :=
  s.mem (inL c) = arg m c ∧ ∀ h, (place h).read (Elt F) (s.mem (outL c)) = aM.view.read (Elt F) (arg m (atCore c h))

theorem read_done (c : Dev nD) (s' : Phys nD τ sig (Elt F)) : iprop((done m c ∗ emp) ∗ SI s') ⊢ |={Set.univ}=> iprop(⌜QY m c s'.mem⌝ ∗ SI s') := by
  unfold done argPts outPts
  iintro ⟨⟨⟨Ha, -, Ho, Hs⟩, -⟩, HSI⟩
  icombine HSI Ha gives %ha
  icombine HSI Ho gives %ho
  icombine HSI Hs gives %hs
  imodintro
  isplitr
  · ipureintro
    refine ⟨Buf.eq_of_forall_mem_univ ha, fun h => ?_⟩
    rcases cores c h with e | e
    · rw [e, atCore_core]
      exact read_filled m c _ _ _ ho
    · rw [e, atCore_oth]
      exact read_filled m c _ _ _ hs
  · iexact HSI

/-- THE RUN: from any memory with every semaphore at zero, every execution ends, with the argument unchanged, place `h`
    of the result the argument of core `h` of the chip, and every semaphore at zero. -/
theorem run_main : θ_run (defs (F := F)) (onTc (τ := τ) (main (F := F))) ⟨m, fun _ => 0, ρ⟩ (fun r => (∀ c, QY m c r.2) ∧ r.2.sem = fun _ => 0) :=
  θ_run_talk plan (pay m) pcfgs adm (dats m) defs₀ 𝒱₀ cellOf_inj (q := (0 : Fin 1)) rfl N_0 rfl winFacts0.to₀ sems
    (mine m) (done m) (fun _ => iprop(emp)) (fun c => rfl)
    (fun c => body_of N_0 _ defs₀ 𝒱₀ body (fun t => rfl) (body_run m c))
    m ρ main (fun _ => []) (fun c => main_segs adm (dats m) () 𝒱₀ (Plan.L nD τ sig) (plan.lv τ) _ c) (fun _ => List.nodup_singleton _)
    (bufs_dealt m) (fun c => iprop(done m c ∗ emp)) (fun c => Entails.rfl) (QY m) (read_done m)
    (fun s h hs => ⟨h, funext fun g => hs g (is_scoped g)⟩)

end Cert.ShareProof

end
-- ==== Proof.ShareValue.lean ====
/-
# The two cores of a chip exchange their halves: the values

Device `c` holds block `4 * core + c / 2` of the rows of the whole argument: a core's four chips hold one half of it.
Place `h` of its result is the argument of core `h` of its own chip (`run_main`), which is the part of half `h` that
belongs to its chip. The reference reshapes the whole argument to the two halves, so device `c`'s result is the block of
the reference's result that its chip names (`value`).
-/
module

public import proofs.«01_k».proof.Proof.Share
public import proofs.«01_k».proof.Proof.Gen.ShareRefIdeal.Run
public import proofs.«01_k».proof.Proof.Gen.ShareRef.Run
public import proofs.«01_k».proof.Proof.Gen.Share
public import proofs.«01_k».proof.Defs

@[expose] public section

set_option maxRecDepth 16384
set_option Elab.async false

noncomputable section

namespace Cert.ShareProof

open Idealize.ShloMosaic Idealize.ShloMosaic.TcCoe
open Idealize.SL.Sem
open Cert.ShareIdeal Cert.ShareIdeal.Gen

variable {F : FTy → Type} [FloatOps F]
variable (m : (ℓ : Loc nD τ sig) → Buf (Elt F) ℓ)

/-- The last two coordinates of an element of the result. -/
def inner (x : S2x3328x1024.Idx) : S3328x1024.Idx := fun a => match a with
  | 0 => x 1
  | 1 => x 2

/-- An element of the result, under the place it is in. -/
theorem place_emb (x : S2x3328x1024.Idx) : (place (x 0)).emb (inner x) = x := by
  show (Rect.unit (s := S2x3328x1024) ![(x 0).val, 0, 0] S1x3328x1024.size (place_inb (x 0))).emb (Shape.reshapeEquiv _ (inner x)) = x
  rw [show Shape.reshapeEquiv (s := S1x3328x1024) (s' := S3328x1024) _ (inner x) = Fin.cons ⟨0, Nat.one_pos⟩ (inner x) from
    Shape.reshapeEquiv_cons_one _ _]
  funext a
  apply Fin.ext
  match a with
  | 0 => show (x 0).val + 1 * 0 = (x 0).val; omega
  | 1 => show 0 + 1 * (x 1).val = (x 1).val; omega
  | 2 => show 0 + 1 * (x 2).val = (x 2).val; omega

/-- Each element of a result at the end. -/
theorem out_elt {c : Dev nD} {s : MemSt nD τ sig (Elt F)} (h : QY m c s) (x : S2x3328x1024.Idx) :
    (s.mem (outL c) : S2x3328x1024.Idx → Elt F .f32) x = (arg m (atCore c (x 0)) : S3328x1024.Idx → Elt F .f32) (inner x) := by
  have e := congrFun (h.2 (x 0)) (inner x)
  have e' : (place (x 0)).read (Elt F) (s.mem (outL c)) (inner x) = (s.mem (outL c) : S2x3328x1024.Idx → Elt F .f32) ((place (x 0)).emb (inner x)) := rfl
  rw [e', place_emb] at e
  exact e

/-- The block of the whole argument the device of core `h` holds, and the block of the reference's result. -/
theorem rows (c : Dev nD) (h : Fin 2) : Layout.meshLin [2, 2, 2] (atCore c h).val [2, 0, 1] = 4 * h.val + c.val / 2 := by
  revert c h; decide
theorem parts (c : Dev nD) : Layout.meshLin [2, 2, 2] c.val [0, 1] = c.val / 2 := by
  revert c; decide

/-- Where every device's argument is its block of `w`, every device's result at the end is its block of the reference's
    result, `w` reshaped. -/
theorem value (w : Cert.ShareRefIdeal.S26624x1024.Idx → Elt F .f32)
    (hw : ∀ c : Dev nD, arg m c = Layout.blockN ⟨2, ![3328, 1024]⟩ ⟨2, ![26624, 1024]⟩ (Layout.meshBlock [2, 2, 2] ![[2, 0, 1], []] c) w)
    (s : MemSt nD τ sig (Elt F)) (h : ∀ c, QY m c s) (c : Dev nD) :
    s.mem (outL c) = Layout.blockN ⟨3, ![2, 3328, 1024]⟩ ⟨3, ![2, 13312, 1024]⟩ (Layout.meshBlock [2, 2, 2] ![[], [0, 1], []] c)
      (shapeCast Cert.ShareRefIdeal.S2x13312x1024 w Cert.ShareRefIdeal.Gen.shapeCasts_S26624x1024_S2x13312x1024) := by
  refine funext fun (x : S2x3328x1024.Idx) => (out_elt m (h c) x).trans ?_
  rw [hw]
  refine congrArg w (Shape.reshapeEquiv_eq_of_rowMajor _ ?_).symm
  rw [Shape.rowMajor_val_two, Shape.rowMajor_val_three]
  show (Layout.meshLin [2, 2, 2] (atCore c (x 0)).val [2, 0, 1] * 3328 + (x 1).val) * 1024 + (Layout.meshLin [2, 2, 2] (atCore c (x 0)).val [] * 1024 + (x 2).val)
    = ((Layout.meshLin [2, 2, 2] c.val [] * 2 + (x 0).val) * 13312 + (Layout.meshLin [2, 2, 2] c.val [0, 1] * 3328 + (x 1).val)) * 1024
      + (Layout.meshLin [2, 2, 2] c.val [] * 1024 + (x 2).val)
  rw [rows c (x 0), parts]
  simp only [Layout.meshLin]
  omega

/-! ## The claims -/

theorem frame_ideal : Cert.quiescent_ShareIdeal := fun m g _ =>
  (θ_run Cert.ShareIdeal.defs _ _).mono (fun r h => ⟨fun c => (h.1 c).1, h.2⟩) (run_main (F := Ideal) m g)

theorem frame : Cert.quiescent_Share := fun m g _ =>
  (θ_run Cert.ShareIdeal.defs _ _).mono (fun r h => ⟨fun c => (h.1 c).1, h.2⟩) (run_main (F := Bits) m g)

theorem frame_ref_ideal : Cert.quiescent_ShareRefIdeal := fun m g _ =>
  (θ_run Cert.ShareRefIdeal.defs _ _).mono (fun r h => ⟨fun c => (h c).2, Idealize.ShloMosaic.sem_eq_zero_of_no_sems (by decide) r.2⟩)
    (Cert.ShareRefIdeal.Value.run (F := Ideal) m g)

theorem frame_ref : Cert.quiescent_ShareRef := fun m g _ =>
  (θ_run Cert.ShareRef.defs _ _).mono (fun r h => ⟨fun c => (h c).2, Idealize.ShloMosaic.sem_eq_zero_of_no_sems (by decide) r.2⟩)
    (Cert.ShareRef.Value.run (F := Bits) m g)

theorem algebraic : Cert.algebraic_ShareIdeal_ShareRefIdeal := fun m g m' g' _ hw =>
  ⟨_, (θ_run Cert.ShareIdeal.defs _ _).mono (fun r h c => ⟨value m _ hw r.2 h.1 c, (h.1 c).1⟩) (run_main (F := Ideal) m g),
    (θ_run Cert.ShareRefIdeal.defs _ _).mono (fun r h => h 0) (Cert.ShareRefIdeal.Value.run (F := Ideal) m' g')⟩

theorem bitexact : Cert.bitexact_Share_ShareRef := fun m g m' g' _ hw =>
  ⟨_, (θ_run Cert.ShareIdeal.defs _ _).mono (fun r h c => ⟨value (F := Bits) m _ hw r.2 h.1 c, (h.1 c).1⟩) (run_main (F := Bits) m g),
    (θ_run Cert.ShareRef.defs _ _).mono (fun r h => h 0) (Cert.ShareRef.Value.run (F := Bits) m' g')⟩

end Cert.ShareProof

end
-- ==== Proof.UpdateValue.lean ====
/-
# The optimiser's step

The call `adamw_…` of a weight walks the device's arrays in blocks of rows and writes three arrays: the step, the running
mean and the running mean square. Each is a function of the weight, its gradient and the two running arrays, element by
element, so every block holds its part of one function of whole arrays. The reference computes the same sums, products,
quotients and roots of whole arrays on the host, where a quotient and a root are other operations than the TensorCore's,
and the same real functions.

The equation of the two is stated once, for arrays of any shape, and each claim applies it at its weight's shape.
-/
module

public import proofs.«01_k».proof.Defs
public import proofs.«01_k».proof.Proof.Gen.UpdateMlp.Frame
public import proofs.«01_k».proof.Proof.Gen.UpdateMlpIdeal.Frame
public import proofs.«01_k».proof.Proof.Gen.UpdateMlpIdeal.Value
public import proofs.«01_k».proof.Proof.Gen.UpdateMlpRefIdeal.Run
public import proofs.«01_k».proof.Proof.Gen.UpdateIn.Frame
public import proofs.«01_k».proof.Proof.Gen.UpdateInIdeal.Frame
public import proofs.«01_k».proof.Proof.Gen.UpdateInIdeal.Value
public import proofs.«01_k».proof.Proof.Gen.UpdateInRefIdeal.Run
public import proofs.«01_k».proof.Proof.Gen.UpdateOut.Frame
public import proofs.«01_k».proof.Proof.Gen.UpdateOutIdeal.Frame
public import proofs.«01_k».proof.Proof.Gen.UpdateOutIdeal.Value
public import proofs.«01_k».proof.Proof.Gen.UpdateOutRefIdeal.Run
public import proofs.«01_k».proof.Proof.Gen.UpdateKv.Frame
public import proofs.«01_k».proof.Proof.Gen.UpdateKvIdeal.Frame
public import proofs.«01_k».proof.Proof.Gen.UpdateKvIdeal.Value
public import proofs.«01_k».proof.Proof.Gen.UpdateKvRefIdeal.Run
public import proofs.«01_k».proof.Proof.Gen.UpdateGains.Frame
public import proofs.«01_k».proof.Proof.Gen.UpdateGainsIdeal.Frame
public import proofs.«01_k».proof.Proof.Gen.UpdateGainsIdeal.Value
public import proofs.«01_k».proof.Proof.Gen.UpdateGainsRefIdeal.Run
public import proofs.«01_k».proof.Proof.Gen.UpdateKvGain.Frame
public import proofs.«01_k».proof.Proof.Gen.UpdateKvGainIdeal.Frame
public import proofs.«01_k».proof.Proof.Gen.UpdateKvGainIdeal.Value
public import proofs.«01_k».proof.Proof.Gen.UpdateKvGainRefIdeal.Run
public import proofs.«01_k».proof.Proof.Gen.UpdateOutGain.Frame
public import proofs.«01_k».proof.Proof.Gen.UpdateOutGainIdeal.Frame
public import proofs.«01_k».proof.Proof.Gen.UpdateOutGainIdeal.Value
public import proofs.«01_k».proof.Proof.Gen.UpdateOutGainRefIdeal.Run
public import proofs.«01_k».proof.Proof.Gen.UpdateDecay.Frame
public import proofs.«01_k».proof.Proof.Gen.UpdateDecayIdeal.Frame
public import proofs.«01_k».proof.Proof.Gen.UpdateDecayIdeal.Value
public import proofs.«01_k».proof.Proof.Gen.UpdateDecayRefIdeal.Run
public import proofs.«01_k».proof.Proof.Gen.UpdateConv.Frame
public import proofs.«01_k».proof.Proof.Gen.UpdateConvIdeal.Frame
public import proofs.«01_k».proof.Proof.Gen.UpdateConvIdeal.Value
public import proofs.«01_k».proof.Proof.Gen.UpdateConvRefIdeal.Run
public import Idealize.ShloMosaic.Lib.Quiescent

@[expose] public section

noncomputable section

open Idealize.ShloMosaic Idealize.ShloMosaic.TcCoe Idealize.SL.Sem

/-! ## The rule, at one shape -/

namespace Cert.UpdateRule

/-- The real number that a word of f32 stands for. -/
abbrev num (w : BitVec 32) : Ideal .f32 := Scalar.ofBits .f32 w

/-- The running mean: nine tenths of the old one and a tenth of the gradient. -/
abbrev mean (g m : Ideal .f32) : Ideal .f32 :=
  FloatOps.addf (FloatOps.mulf (num 0x3F666666#32) m) (FloatOps.mulf (num 0x3DCCCCCD#32) g)

/-- The running mean square, with 0.999 and 0.001. -/
abbrev square (g v : Ideal .f32) : Ideal .f32 :=
  FloatOps.addf (FloatOps.mulf (num 0x3F7FBE77#32) v) (FloatOps.mulf (num 0x3A83126F#32) (FloatOps.mulf g g))

/-- The step: minus the rate, times the corrected mean over the root of the corrected mean square, and the decay of the
    weight. -/
abbrev step (w g m v : Ideal .f32) : Ideal .f32 :=
  FloatOps.mulf (num 0xBA83126F#32)
    (FloatOps.addf
      (FloatOps.divf (FloatOps.divf (mean g m) (num 0x3F26BD02#32))
        (FloatOps.addf (FloatOps.sqrt (FloatOps.divf (square g v) (num 0x3C231ACC#32))) (num 0x322BCC77#32)))
      (FloatOps.mulf (num 0x3C23D70A#32) w))

variable {s : Shape} (b : Shape.BroadcastsInDim ⟨0, ![]⟩ s ![]) (w g m v : FVec Ideal s .f32)

/-- A number at every index, as the host spreads it. -/
abbrev spread (x : BitVec 32) : FVec Ideal s .f32 := broadcastInDim s ![] b (constant ⟨0, ![]⟩ .f32 x)

/-- The host's running mean is the rule at each index. -/
theorem mean_eq : addf (mulf (spread b 0x3F666666#32) m) (mulf (spread b 0x3DCCCCCD#32) g) = fun i => mean (g i) (m i) :=
  rfl

/-- The host's running mean square is the rule at each index. -/
theorem square_eq : addf (mulf (spread b 0x3F7FBE77#32) v) (mulf (spread b 0x3A83126F#32) (mulf g g))
    = fun i => square (g i) (v i) := rfl

/-- The host's step is the rule at each index: a quotient and a root are the same reals on either side. -/
theorem step_eq : mulf (spread b 0xBA83126F#32)
      (addf
        (Host.divf
          (Host.divf (addf (mulf (spread b 0x3F666666#32) m) (mulf (spread b 0x3DCCCCCD#32) g)) (spread b 0x3F26BD02#32))
          (addf
            (Host.sqrt (Host.divf (addf (mulf (spread b 0x3F7FBE77#32) v) (mulf (spread b 0x3A83126F#32) (mulf g g)))
              (spread b 0x3C231ACC#32)))
            (spread b 0x322BCC77#32)))
        (mulf (spread b 0x3C23D70A#32) w))
    = fun i => step (w i) (g i) (m i) (v i) := by
  funext i
  simp only [Host.divf, Host.sqrt, mulf, addf, Ideal.hostDivf_def, Ideal.hostUnary_sqrt_def, step, Ideal.divf_def,
    Ideal.sqrt_def]
  rfl

end Cert.UpdateRule

/-! ## f32[2048, 1024]: an MLP weight's shard, which `mlp_w_up` and `mlp_w_down` have -/

namespace Cert.UpdateMlpProof

open Cert.UpdateMlpIdeal

theorem frame : Cert.quiescent_UpdateMlp := fun m ρ _ => Cert.UpdateMlp.Gen.frame m ρ
theorem frame_ideal : Cert.quiescent_UpdateMlpIdeal := fun m ρ _ => Gen.frame m ρ
theorem frame_ref_ideal : Cert.quiescent_UpdateMlpRefIdeal := fun m ρ _ =>
  (θ_run Cert.UpdateMlpRefIdeal.defs _ _).mono
    (fun r h => ⟨fun c => (h c).2.2.2, sem_eq_zero_of_no_sems (by decide) r.2⟩)
    (Cert.UpdateMlpRefIdeal.Value.run (F := Ideal) m ρ)

theorem algebraic : Cert.algebraic_UpdateMlpIdeal_UpdateMlpRefIdeal := by
  intro m ρ m' ρ' _ hagree
  refine ⟨_, _, _, Cert.UpdateMlpIdeal.Value.run (F := Ideal) m ρ, ?_⟩
  refine (θ_run Cert.UpdateMlpRefIdeal.defs _ _).mono
    (fun _ h c => ⟨(h c).1.trans ?_, (h c).2.1.trans ?_, (h c).2.2.1.trans ?_, (h c).2.2.2⟩)
    (Cert.UpdateMlpRefIdeal.Value.run (F := Ideal) m' ρ') <;>
    obtain ⟨e0, e1, e2, e3⟩ := hagree c
  · rw [e0, e1, e2, e3]; exact Cert.UpdateRule.step_eq _ _ _ _ _
  · rw [e1, e2]; exact Cert.UpdateRule.mean_eq _ _ _
  · rw [e1, e3]; exact Cert.UpdateRule.square_eq _ _ _

end Cert.UpdateMlpProof

/-! ## f32[1024, 1028]: the shard of `gdn_w_in` -/

namespace Cert.UpdateInProof

open Cert.UpdateInIdeal

theorem frame : Cert.quiescent_UpdateIn := fun m ρ _ => Cert.UpdateIn.Gen.frame m ρ
theorem frame_ideal : Cert.quiescent_UpdateInIdeal := fun m ρ _ => Gen.frame m ρ
theorem frame_ref_ideal : Cert.quiescent_UpdateInRefIdeal := fun m ρ _ =>
  (θ_run Cert.UpdateInRefIdeal.defs _ _).mono
    (fun r h => ⟨fun c => (h c).2.2.2, sem_eq_zero_of_no_sems (by decide) r.2⟩)
    (Cert.UpdateInRefIdeal.Value.run (F := Ideal) m ρ)

theorem algebraic : Cert.algebraic_UpdateInIdeal_UpdateInRefIdeal := by
  intro m ρ m' ρ' _ hagree
  refine ⟨_, _, _, Cert.UpdateInIdeal.Value.run (F := Ideal) m ρ, ?_⟩
  refine (θ_run Cert.UpdateInRefIdeal.defs _ _).mono
    (fun _ h c => ⟨(h c).1.trans ?_, (h c).2.1.trans ?_, (h c).2.2.1.trans ?_, (h c).2.2.2⟩)
    (Cert.UpdateInRefIdeal.Value.run (F := Ideal) m' ρ') <;>
    obtain ⟨e0, e1, e2, e3⟩ := hagree c
  · rw [e0, e1, e2, e3]; exact Cert.UpdateRule.step_eq _ _ _ _ _
  · rw [e1, e2]; exact Cert.UpdateRule.mean_eq _ _ _
  · rw [e1, e3]; exact Cert.UpdateRule.square_eq _ _ _

end Cert.UpdateInProof

/-! ## f32[256, 1024]: the shard that `gdn_w_out`, `sb_w_q` and `sb_w_o` have -/

namespace Cert.UpdateOutProof

open Cert.UpdateOutIdeal

theorem frame : Cert.quiescent_UpdateOut := fun m ρ _ => Cert.UpdateOut.Gen.frame m ρ
theorem frame_ideal : Cert.quiescent_UpdateOutIdeal := fun m ρ _ => Gen.frame m ρ
theorem frame_ref_ideal : Cert.quiescent_UpdateOutRefIdeal := fun m ρ _ =>
  (θ_run Cert.UpdateOutRefIdeal.defs _ _).mono
    (fun r h => ⟨fun c => (h c).2.2.2, sem_eq_zero_of_no_sems (by decide) r.2⟩)
    (Cert.UpdateOutRefIdeal.Value.run (F := Ideal) m ρ)

theorem algebraic : Cert.algebraic_UpdateOutIdeal_UpdateOutRefIdeal := by
  intro m ρ m' ρ' _ hagree
  refine ⟨_, _, _, Cert.UpdateOutIdeal.Value.run (F := Ideal) m ρ, ?_⟩
  refine (θ_run Cert.UpdateOutRefIdeal.defs _ _).mono
    (fun _ h c => ⟨(h c).1.trans ?_, (h c).2.1.trans ?_, (h c).2.2.1.trans ?_, (h c).2.2.2⟩)
    (Cert.UpdateOutRefIdeal.Value.run (F := Ideal) m' ρ') <;>
    obtain ⟨e0, e1, e2, e3⟩ := hagree c
  · rw [e0, e1, e2, e3]; exact Cert.UpdateRule.step_eq _ _ _ _ _
  · rw [e1, e2]; exact Cert.UpdateRule.mean_eq _ _ _
  · rw [e1, e3]; exact Cert.UpdateRule.square_eq _ _ _

end Cert.UpdateOutProof

/-! ## f32[1024, 512]: the shard of `w_kv` -/

namespace Cert.UpdateKvProof

open Cert.UpdateKvIdeal

theorem frame : Cert.quiescent_UpdateKv := fun m ρ _ => Cert.UpdateKv.Gen.frame m ρ
theorem frame_ideal : Cert.quiescent_UpdateKvIdeal := fun m ρ _ => Gen.frame m ρ
theorem frame_ref_ideal : Cert.quiescent_UpdateKvRefIdeal := fun m ρ _ =>
  (θ_run Cert.UpdateKvRefIdeal.defs _ _).mono
    (fun r h => ⟨fun c => (h c).2.2.2, sem_eq_zero_of_no_sems (by decide) r.2⟩)
    (Cert.UpdateKvRefIdeal.Value.run (F := Ideal) m ρ)

theorem algebraic : Cert.algebraic_UpdateKvIdeal_UpdateKvRefIdeal := by
  intro m ρ m' ρ' _ hagree
  refine ⟨_, _, _, Cert.UpdateKvIdeal.Value.run (F := Ideal) m ρ, ?_⟩
  refine (θ_run Cert.UpdateKvRefIdeal.defs _ _).mono
    (fun _ h c => ⟨(h c).1.trans ?_, (h c).2.1.trans ?_, (h c).2.2.1.trans ?_, (h c).2.2.2⟩)
    (Cert.UpdateKvRefIdeal.Value.run (F := Ideal) m' ρ') <;>
    obtain ⟨e0, e1, e2, e3⟩ := hagree c
  · rw [e0, e1, e2, e3]; exact Cert.UpdateRule.step_eq _ _ _ _ _
  · rw [e1, e2]; exact Cert.UpdateRule.mean_eq _ _ _
  · rw [e1, e3]; exact Cert.UpdateRule.square_eq _ _ _

end Cert.UpdateKvProof

/-! ## f32[2, 1024]: the gains of the two layers: the mixers' two and the MLPs' two -/

namespace Cert.UpdateGainsProof

open Cert.UpdateGainsIdeal

theorem frame : Cert.quiescent_UpdateGains := fun m ρ _ => Cert.UpdateGains.Gen.frame m ρ
theorem frame_ideal : Cert.quiescent_UpdateGainsIdeal := fun m ρ _ => Gen.frame m ρ
theorem frame_ref_ideal : Cert.quiescent_UpdateGainsRefIdeal := fun m ρ _ =>
  (θ_run Cert.UpdateGainsRefIdeal.defs _ _).mono
    (fun r h => ⟨fun c => (h c).2.2.2, sem_eq_zero_of_no_sems (by decide) r.2⟩)
    (Cert.UpdateGainsRefIdeal.Value.run (F := Ideal) m ρ)

theorem algebraic : Cert.algebraic_UpdateGainsIdeal_UpdateGainsRefIdeal := by
  intro m ρ m' ρ' _ hagree
  refine ⟨_, _, _, Cert.UpdateGainsIdeal.Value.run (F := Ideal) m ρ, ?_⟩
  refine (θ_run Cert.UpdateGainsRefIdeal.defs _ _).mono
    (fun _ h c => ⟨(h c).1.trans ?_, (h c).2.1.trans ?_, (h c).2.2.1.trans ?_, (h c).2.2.2⟩)
    (Cert.UpdateGainsRefIdeal.Value.run (F := Ideal) m' ρ') <;>
    obtain ⟨e0, e1, e2, e3⟩ := hagree c
  · rw [e0, e1, e2, e3]; exact Cert.UpdateRule.step_eq _ _ _ _ _
  · rw [e1, e2]; exact Cert.UpdateRule.mean_eq _ _ _
  · rw [e1, e3]; exact Cert.UpdateRule.square_eq _ _ _

end Cert.UpdateGainsProof

/-! ## f32[1, 1024]: `kv_gain` -/

namespace Cert.UpdateKvGainProof

open Cert.UpdateKvGainIdeal

theorem frame : Cert.quiescent_UpdateKvGain := fun m ρ _ => Cert.UpdateKvGain.Gen.frame m ρ
theorem frame_ideal : Cert.quiescent_UpdateKvGainIdeal := fun m ρ _ => Gen.frame m ρ
theorem frame_ref_ideal : Cert.quiescent_UpdateKvGainRefIdeal := fun m ρ _ =>
  (θ_run Cert.UpdateKvGainRefIdeal.defs _ _).mono
    (fun r h => ⟨fun c => (h c).2.2.2, sem_eq_zero_of_no_sems (by decide) r.2⟩)
    (Cert.UpdateKvGainRefIdeal.Value.run (F := Ideal) m ρ)

theorem algebraic : Cert.algebraic_UpdateKvGainIdeal_UpdateKvGainRefIdeal := by
  intro m ρ m' ρ' _ hagree
  refine ⟨_, _, _, Cert.UpdateKvGainIdeal.Value.run (F := Ideal) m ρ, ?_⟩
  refine (θ_run Cert.UpdateKvGainRefIdeal.defs _ _).mono
    (fun _ h c => ⟨(h c).1.trans ?_, (h c).2.1.trans ?_, (h c).2.2.1.trans ?_, (h c).2.2.2⟩)
    (Cert.UpdateKvGainRefIdeal.Value.run (F := Ideal) m' ρ') <;>
    obtain ⟨e0, e1, e2, e3⟩ := hagree c
  · rw [e0, e1, e2, e3]; exact Cert.UpdateRule.step_eq _ _ _ _ _
  · rw [e1, e2]; exact Cert.UpdateRule.mean_eq _ _ _
  · rw [e1, e3]; exact Cert.UpdateRule.square_eq _ _ _

end Cert.UpdateKvGainProof

/-! ## f32[1, 128]: `gdn_out_gain` -/

namespace Cert.UpdateOutGainProof

open Cert.UpdateOutGainIdeal

theorem frame : Cert.quiescent_UpdateOutGain := fun m ρ _ => Cert.UpdateOutGain.Gen.frame m ρ
theorem frame_ideal : Cert.quiescent_UpdateOutGainIdeal := fun m ρ _ => Gen.frame m ρ
theorem frame_ref_ideal : Cert.quiescent_UpdateOutGainRefIdeal := fun m ρ _ =>
  (θ_run Cert.UpdateOutGainRefIdeal.defs _ _).mono
    (fun r h => ⟨fun c => (h c).2.2.2, sem_eq_zero_of_no_sems (by decide) r.2⟩)
    (Cert.UpdateOutGainRefIdeal.Value.run (F := Ideal) m ρ)

theorem algebraic : Cert.algebraic_UpdateOutGainIdeal_UpdateOutGainRefIdeal := by
  intro m ρ m' ρ' _ hagree
  refine ⟨_, _, _, Cert.UpdateOutGainIdeal.Value.run (F := Ideal) m ρ, ?_⟩
  refine (θ_run Cert.UpdateOutGainRefIdeal.defs _ _).mono
    (fun _ h c => ⟨(h c).1.trans ?_, (h c).2.1.trans ?_, (h c).2.2.1.trans ?_, (h c).2.2.2⟩)
    (Cert.UpdateOutGainRefIdeal.Value.run (F := Ideal) m' ρ') <;>
    obtain ⟨e0, e1, e2, e3⟩ := hagree c
  · rw [e0, e1, e2, e3]; exact Cert.UpdateRule.step_eq _ _ _ _ _
  · rw [e1, e2]; exact Cert.UpdateRule.mean_eq _ _ _
  · rw [e1, e3]; exact Cert.UpdateRule.square_eq _ _ _

end Cert.UpdateOutGainProof

/-! ## f32[1, 8]: `gdn_a_log` and `gdn_dt_bias` -/

namespace Cert.UpdateDecayProof

open Cert.UpdateDecayIdeal

theorem frame : Cert.quiescent_UpdateDecay := fun m ρ _ => Cert.UpdateDecay.Gen.frame m ρ
theorem frame_ideal : Cert.quiescent_UpdateDecayIdeal := fun m ρ _ => Gen.frame m ρ
theorem frame_ref_ideal : Cert.quiescent_UpdateDecayRefIdeal := fun m ρ _ =>
  (θ_run Cert.UpdateDecayRefIdeal.defs _ _).mono
    (fun r h => ⟨fun c => (h c).2.2.2, sem_eq_zero_of_no_sems (by decide) r.2⟩)
    (Cert.UpdateDecayRefIdeal.Value.run (F := Ideal) m ρ)

theorem algebraic : Cert.algebraic_UpdateDecayIdeal_UpdateDecayRefIdeal := by
  intro m ρ m' ρ' _ hagree
  refine ⟨_, _, _, Cert.UpdateDecayIdeal.Value.run (F := Ideal) m ρ, ?_⟩
  refine (θ_run Cert.UpdateDecayRefIdeal.defs _ _).mono
    (fun _ h c => ⟨(h c).1.trans ?_, (h c).2.1.trans ?_, (h c).2.2.1.trans ?_, (h c).2.2.2⟩)
    (Cert.UpdateDecayRefIdeal.Value.run (F := Ideal) m' ρ') <;>
    obtain ⟨e0, e1, e2, e3⟩ := hagree c
  · rw [e0, e1, e2, e3]; exact Cert.UpdateRule.step_eq _ _ _ _ _
  · rw [e1, e2]; exact Cert.UpdateRule.mean_eq _ _ _
  · rw [e1, e3]; exact Cert.UpdateRule.square_eq _ _ _

end Cert.UpdateDecayProof

/-! ## f32[4, 768]: the shard of `gdn_conv_w` -/

namespace Cert.UpdateConvProof

open Cert.UpdateConvIdeal

theorem frame : Cert.quiescent_UpdateConv := fun m ρ _ => Cert.UpdateConv.Gen.frame m ρ
theorem frame_ideal : Cert.quiescent_UpdateConvIdeal := fun m ρ _ => Gen.frame m ρ
theorem frame_ref_ideal : Cert.quiescent_UpdateConvRefIdeal := fun m ρ _ =>
  (θ_run Cert.UpdateConvRefIdeal.defs _ _).mono
    (fun r h => ⟨fun c => (h c).2.2.2, sem_eq_zero_of_no_sems (by decide) r.2⟩)
    (Cert.UpdateConvRefIdeal.Value.run (F := Ideal) m ρ)

theorem algebraic : Cert.algebraic_UpdateConvIdeal_UpdateConvRefIdeal := by
  intro m ρ m' ρ' _ hagree
  refine ⟨_, _, _, Cert.UpdateConvIdeal.Value.run (F := Ideal) m ρ, ?_⟩
  refine (θ_run Cert.UpdateConvRefIdeal.defs _ _).mono
    (fun _ h c => ⟨(h c).1.trans ?_, (h c).2.1.trans ?_, (h c).2.2.1.trans ?_, (h c).2.2.2⟩)
    (Cert.UpdateConvRefIdeal.Value.run (F := Ideal) m' ρ') <;>
    obtain ⟨e0, e1, e2, e3⟩ := hagree c
  · rw [e0, e1, e2, e3]; exact Cert.UpdateRule.step_eq _ _ _ _ _
  · rw [e1, e2]; exact Cert.UpdateRule.mean_eq _ _ _
  · rw [e1, e3]; exact Cert.UpdateRule.square_eq _ _ _

end Cert.UpdateConvProof

end
-- ==== Proof.Product.lean ====
/-
# Blocked products

A product of two matrices runs over a grid of blocks of the result, and for each block over the blocks of the contracted axis: the first
grid point of a block clears a scratch, each point adds the product of its two blocks to it, the last one writes it out. This module has
what every such product uses: the sum that such a sweep leaves, and what the product of two blocks is over the reals in its three forms.
-/
module

public import proofs.«01_k».proof.Defs
public import Idealize.ShloMosaic.Lib.Pointwise.Contract
public import Idealize.ShloMosaic.Lib.ValueIdx
public import Idealize.ShloMosaic.Lib.Pipeline.ValueKit
public import Idealize.ShloMosaic.Lib.Pipeline.ReadBack
public import Idealize.ShloMosaic.PureOps.Ideal.Laws
public import Idealize.ShloMosaic.Lib.Quiescent

@[expose] public section

noncomputable section

open Idealize.ShloMosaic Idealize.ShloMosaic.TcCoe Idealize.SL.Sem

namespace Cert.Product

open scoped BigOperators

/-- Two places of an array of two axes are one when their coordinates are. -/
theorem place_ext {n0 n1 : ℕ} {p q : (⟨2, ![n0, n1]⟩ : Shape).Idx} (h0 : (p 0).val = (q 0).val) (h1 : (p 1).val = (q 1).val) :
    p = q := by
  funext a; apply Fin.ext
  match a with | ⟨0, _⟩ => exact h0 | ⟨1, _⟩ => exact h1

/-- A running sum over the points of a grid: it starts over at every `nk`-th point and adds `tk` terms at each, so that after `nk` points
    it holds the sum of `nk * tk` terms, read off as `f` in their order. -/
theorem run_sum {N nk tk K : ℕ} (hk : 0 < nk) (hK : nk * tk = K) {ι : Type} {β : Type} [AddCommMonoid β]
    (acc : (n : ℕ) → n < N → ι → β) (term : (n : ℕ) → n < N → ι → Fin tk → β)
    (h0 : ∀ n (h : n < N) y, n % nk = 0 → acc n h y = ∑ k, term n h y k)
    (hs : ∀ n (h : n + 1 < N) y, (n + 1) % nk ≠ 0 → acc (n + 1) h y = acc n (Nat.lt_of_succ_lt h) y + ∑ k, term (n + 1) h y k)
    (f : Fin K → β) (r : ℕ) (y : ι) (hr : nk * r + (nk - 1) < N)
    (hf : ∀ (s : Fin nk) (k : Fin tk), term (nk * r + s.val) (by omega) y k
      = f ⟨tk * s.val + k.val, by
          have h1 := Nat.mul_le_mul_left tk (show s.val + 1 ≤ nk from s.isLt)
          rw [Nat.mul_succ, Nat.mul_comm tk nk, hK] at h1
          have := k.isLt; omega⟩) :
    acc (nk * r + (nk - 1)) hr y = ∑ q, f q := by
  have key : ∀ j (hj : j < nk), acc (nk * r + j) (by omega) y
      = ∑ s ∈ Finset.range (j + 1), if h : s < nk then ∑ k, term (nk * r + s) (by omega) y k else 0 := by
    intro j
    induction j with
    | zero =>
      intro hj
      rw [Finset.sum_range_one, dif_pos hj]
      exact h0 _ _ _ (by rw [Nat.add_zero, Nat.mul_mod_right])
    | succ j ih =>
      intro hj
      rw [Finset.sum_range_succ, dif_pos hj, ← ih (by omega)]
      exact hs (nk * r + j) (by omega) y (by
        rw [Nat.add_assoc, Nat.mul_add_mod, Nat.mod_eq_of_lt hj]; omega)
  rw [key (nk - 1) (by omega), show nk - 1 + 1 = nk from by omega, Finset.sum_range]
  subst hK
  rw [← Equiv.sum_comp finProdFinEquiv f, Fintype.sum_prod_type]
  refine Finset.sum_congr rfl fun s _ => ?_
  rw [dif_pos s.isLt]
  refine Finset.sum_congr rfl fun k _ => ?_
  rw [hf s k]
  exact congrArg f (Fin.ext (Nat.add_comm _ _))

/-- A scratch that starts at zero holds what is added first. -/
theorem zero_start (x : EReal) : Ideal.ofBits .f32 0x00000000#32 + x = x :=
  (congrArg (· + x) Ideal.ofBits_zero_f32).trans (zero_add _)

/-- The block product of the forward pass, `a b`. -/
theorem product_nn {M K N : ℕ} {φ₁ φ₂ : FTy} (wf) (a : FVec Ideal ⟨2, ![M, K]⟩ φ₁) (b : FVec Ideal ⟨2, ![K, N]⟩ φ₂)
    (y : (⟨2, ![M, N]⟩ : Shape).Idx) :
    FloatOps.matmul (⟨[1], [0], [0], [1], [], [], wf⟩ : DotDims ⟨2, ![M, K]⟩ ⟨2, ![K, N]⟩ ⟨2, ![M, N]⟩) none a b
      (constant _ .f32 0x00000000#32) y = ∑ k : Fin K, a (ValueIdx.ix2 (y 0) k) * b (ValueIdx.ix2 k (y 1)) := by
  refine (Ideal.matmul_constant_zero_apply _ none _ _ y).trans ((DotDims.sum_contr₁ _ (a := 1) rfl (K := K) rfl _).trans ?_)
  exact Finset.sum_congr rfl fun k _ => congrArg₂ (· * ·) (congrArg a (place_ext rfl rfl)) (congrArg b (place_ext rfl rfl))

/-- The block product that hands a gradient back to the left operand, `a bᵀ`. -/
theorem product_nt {M K N : ℕ} {φ₁ φ₂ : FTy} (wf) (a : FVec Ideal ⟨2, ![M, K]⟩ φ₁) (b : FVec Ideal ⟨2, ![N, K]⟩ φ₂)
    (y : (⟨2, ![M, N]⟩ : Shape).Idx) :
    FloatOps.matmul (⟨[1], [1], [0], [0], [], [], wf⟩ : DotDims ⟨2, ![M, K]⟩ ⟨2, ![N, K]⟩ ⟨2, ![M, N]⟩) none a b
      (constant _ .f32 0x00000000#32) y = ∑ k : Fin K, a (ValueIdx.ix2 (y 0) k) * b (ValueIdx.ix2 (y 1) k) := by
  refine (Ideal.matmul_constant_zero_apply _ none _ _ y).trans ((DotDims.sum_contr₁ _ (a := 1) rfl (K := K) rfl _).trans ?_)
  exact Finset.sum_congr rfl fun k _ => congrArg₂ (· * ·) (congrArg a (place_ext rfl rfl)) (congrArg b (place_ext rfl rfl))

/-- The block product of a weight's gradient, `aᵀ b`. -/
theorem product_tn {M K N : ℕ} {φ₁ φ₂ : FTy} (wf) (a : FVec Ideal ⟨2, ![K, M]⟩ φ₁) (b : FVec Ideal ⟨2, ![K, N]⟩ φ₂)
    (y : (⟨2, ![M, N]⟩ : Shape).Idx) :
    FloatOps.matmul (⟨[0], [0], [1], [1], [], [], wf⟩ : DotDims ⟨2, ![K, M]⟩ ⟨2, ![K, N]⟩ ⟨2, ![M, N]⟩) none a b
      (constant _ .f32 0x00000000#32) y = ∑ k : Fin K, a (ValueIdx.ix2 k (y 0)) * b (ValueIdx.ix2 k (y 1)) := by
  refine (Ideal.matmul_constant_zero_apply _ none _ _ y).trans ((DotDims.sum_contr₁ _ (a := 0) rfl (K := K) rfl _).trans ?_)
  exact Finset.sum_congr rfl fun k _ => congrArg₂ (· * ·) (congrArg a (place_ext rfl rfl)) (congrArg b (place_ext rfl rfl))

end Cert.Product
-- ==== Proof.WeightGrads.lean ====
/-
# The gradients of the weights

The gradient of a weight is the product of the transposed activations with the gradients of the layer's output, summed over
the device's tokens, in blocks of 512 of them. Each call here is such a product over a grid of blocks (`Product`): it equals the product of the whole
arrays. The calls differ in the number of blocks along each axis and in the types of their arguments.
-/
module

public import proofs.«01_k».proof.Defs
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.Gen.InDwRefIdeal.Read
public import proofs.«01_k».proof.Proof.Gen.GateDw.Frame
public import proofs.«01_k».proof.Proof.Gen.GateDwIdeal.Frame
public import proofs.«01_k».proof.Proof.Gen.GateDwIdeal.Value
public import proofs.«01_k».proof.Proof.Gen.GateDwRefIdeal.Run
public import proofs.«01_k».proof.Proof.Gen.GateDwRefIdeal.Read
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.SbOutDw.Frame
public import proofs.«01_k».proof.Proof.Gen.SbOutDwIdeal.Frame
public import proofs.«01_k».proof.Proof.Gen.SbOutDwIdeal.Value
public import proofs.«01_k».proof.Proof.Gen.SbOutDwRefIdeal.Run
public import proofs.«01_k».proof.Proof.Gen.SbOutDwRefIdeal.Read
public import proofs.«01_k».proof.Proof.Gen.KvDw.Frame
public import proofs.«01_k».proof.Proof.Gen.KvDwIdeal.Frame
public import proofs.«01_k».proof.Proof.Gen.KvDwIdeal.Value
public import proofs.«01_k».proof.Proof.Gen.KvDwRefIdeal.Run
public import proofs.«01_k».proof.Proof.Gen.KvDwRefIdeal.Read
public import proofs.«01_k».proof.Proof.Product

@[expose] public section

set_option maxRecDepth 16384

noncomputable section

open Idealize.ShloMosaic Idealize.ShloMosaic.TcCoe Idealize.SL.Sem

/-! ## The second weight of the multilayer perceptron -/

namespace Cert.DownDwProof

open Cert.DownDwIdeal Cert.DownDwIdeal.Gen Cert.Product

variable (m : (ℓ : Loc nD τ sig) → Buf (Elt Ideal) ℓ)

/-- What a grid point adds to the scratch, at a place of the block. -/
abbrev term (c : Dev nD) (n : ℕ) (h : n < cfg0.N) (y : S1024x1024.Idx) (k : Fin 512) : EReal :=
  (show Vec Ideal S512x1024 .bf16 from iblk m c 0 ⟨n, h⟩) (ValueIdx.ix2 k (y 0))
    * (show Vec Ideal S512x1024 .f32 from iblk m c 1 ⟨n, h⟩) (ValueIdx.ix2 k (y 1))

/-- The store of a grid point: what the scratch held, and the product of the two blocks. -/
theorem step (v : Vec Ideal S1024x1024 .f32) (c : Dev nD) (n : ℕ) (h : n < cfg0.N) (y : S1024x1024.Idx) :
    k0_pay2 v (iblk m c 0 ⟨n, h⟩) (iblk m c 1 ⟨n, h⟩) y = v y + ∑ k, term m c n h y k := by
  unfold k0_pay2
  simp only [shapeCast_self]
  exact congrArg (v y + ·) (product_tn _ (iblk m c 0 ⟨n, h⟩) (truncf .bf16 (iblk m c 1 ⟨n, h⟩) bitsLt_bf16_f32) y)

theorem first (c : Dev nD) (n : ℕ) (h : n < cfg0.N) (y : S1024x1024.Idx) (h0 : n % 16 = 0) :
    (outsAt0 m c n h).2 y = ∑ k, term m c n h y k := by
  rw [outsAt0_A m c ⟨n, h⟩ h0 (by dsimp only; omega)]
  frame_out
  exact (step m (k0_pay1 (F := Ideal)) c n h y).trans (zero_start _)

theorem later (c : Dev nD) (n : ℕ) (h : n + 1 < cfg0.N) (y : S1024x1024.Idx) (h0 : (n + 1) % 16 ≠ 0) :
    (outsAt0 m c (n + 1) h).2 y = (outsAt0 m c n (Nat.lt_of_succ_lt h)).2 y + ∑ k, term m c (n + 1) h y k := by
  by_cases h1 : (n + 1) % 16 = 15
  · rw [outsAt0_C m c ⟨n + 1, h⟩ h0 h1]
    frame_out [read_unread_whole]
    exact step m _ c (n + 1) h y
  · rw [outsAt0_B m c ⟨n + 1, h⟩ h0 h1]
    frame_out [read_unread_whole]
    exact step m _ c (n + 1) h y

theorem last (c : Dev nD) (n : ℕ) (h : n < cfg0.N) (h1 : n % 16 = 15) : (outsAt0 m c n h).1 = (outsAt0 m c n h).2 := by
  rw [outsAt0_C m c ⟨n, h⟩ (by dsimp only; omega) h1]
  frame_out

theorem places : ∀ t : Fin cfg0.N, win0_0.index t (0 : Fin 2) = t.val % 16 ∧ win0_0.index t (1 : Fin 2) = t.val / 16
    ∧ win0_1.index t (0 : Fin 2) = t.val % 16 ∧ win0_1.index t (1 : Fin 2) = 0 :=
  (by decide +kernel : ∀ t : Fin grid0.N, _)

theorem value (c : Dev nD) : Value.G2 m c = DownDwRefIdeal.Read.val_main_v2 (F := Ideal)
    (m ((c.tc : Thread nD τ).loc main_arg0)) (m ((c.tc : Thread nD τ).loc main_arg1)) := by
  funext i
  have hN : cfg0.N = 64 := N_0
  have i0 : (i 0).val < 4096 := (i 0).isLt
  have i1 : (i 1).val < 1024 := (i 1).isLt
  have hr : Value.run2Of i = 1 * ((i 0).val / 1024) + (i 1).val / 1024 := by
    show 1 * ((i 0).val / 1024 - 0) + 1 * ((i 1).val / 1024 - 0) = _
    omega
  have hp : Value.pt2Of i < cfg0.N := by
    show 16 * Value.run2Of i + 15 < _
    omega
  rw [DownDwRefIdeal.Read.val_main_v2_apply]
  unfold Value.G2
  rw [dif_pos hp, ← Value.outsAt0_sweep m c _ hp, last m c _ hp (by show (16 * Value.run2Of i + 15) % 16 = 15; omega)]
  refine run_sum (nk := 16) (tk := 512) (by decide) rfl (fun n h => (outsAt0 m c n h).2) (term m c) (first m c) (later m c)
    _ (Value.run2Of i) (Value.loc2Of i) hp fun s k => ?_
  obtain ⟨p0, p1, p2, p3⟩ := places ⟨16 * Value.run2Of i + s.val, by omega⟩
  dsimp only at p0 p1 p2 p3
  refine congrArg₂ (· * ·) ?_ ?_
  · rw [DownDwRefIdeal.Read.val_main_v1_apply, DownDwRefIdeal.Read.val_main_v0_apply]
    refine congrArg (m ((c.tc : Thread nD τ).loc main_arg0)) (place_ext ?_ ?_)
    · show win0_0.index _ 0 * 512 + 1 * k.val = 512 * s.val + k.val; omega
    · show win0_0.index _ 1 * 1024 + 1 * ((i 0).val % 1024) = (i 0).val; omega
  · refine congrArg (m ((c.tc : Thread nD τ).loc main_arg1)) (place_ext ?_ ?_)
    · show win0_1.index _ 0 * 512 + 1 * k.val = 512 * s.val + k.val; omega
    · show win0_1.index _ 1 * 1024 + 1 * ((i 1).val % 1024) = (i 1).val; omega

theorem frame : Cert.quiescent_DownDw := fun m ρ _ => Cert.DownDw.Gen.frame m ρ
theorem frame_ideal : Cert.quiescent_DownDwIdeal := fun m ρ _ => Gen.frame m ρ
theorem frame_ref_ideal : Cert.quiescent_DownDwRefIdeal := fun m ρ _ =>
  (θ_run Cert.DownDwRefIdeal.defs _ _).mono
    (fun r h => ⟨fun c => (h c).2, sem_eq_zero_of_no_sems (by decide) r.2⟩)
    (Cert.DownDwRefIdeal.Value.run (F := Ideal) m ρ)

theorem algebraic : Cert.algebraic_DownDwIdeal_DownDwRefIdeal := by
  intro m ρ m' ρ' _ hagree
  refine ⟨_, Value.run (F := Ideal) m ρ, ?_⟩
  refine (θ_run Cert.DownDwRefIdeal.defs _ _).mono (fun _ h c => ⟨(h c).1.trans ?_, (h c).2⟩)
    (Cert.DownDwRefIdeal.Value.run (F := Ideal) m' ρ')
  rw [(hagree c).1, (hagree c).2]
  exact (value m c).symm

end Cert.DownDwProof

/-! ## Its first weight -/

namespace Cert.UpDwProof

open Cert.UpDwIdeal Cert.UpDwIdeal.Gen Cert.Product

variable (m : (ℓ : Loc nD τ sig) → Buf (Elt Ideal) ℓ)

/-- What a grid point adds to the scratch, at a place of the block. -/
abbrev term (c : Dev nD) (n : ℕ) (h : n < cfg0.N) (y : S1024x1024.Idx) (k : Fin 512) : EReal :=
  (show Vec Ideal S512x1024 .bf16 from iblk m c 0 ⟨n, h⟩) (ValueIdx.ix2 k (y 0))
    * (show Vec Ideal S512x1024 .bf16 from iblk m c 1 ⟨n, h⟩) (ValueIdx.ix2 k (y 1))

/-- The store of a grid point: what the scratch held, and the product of the two blocks. -/
theorem step (v : Vec Ideal S1024x1024 .f32) (c : Dev nD) (n : ℕ) (h : n < cfg0.N) (y : S1024x1024.Idx) :
    k0_pay2 v (iblk m c 0 ⟨n, h⟩) (iblk m c 1 ⟨n, h⟩) y = v y + ∑ k, term m c n h y k := by
  unfold k0_pay2
  simp only [shapeCast_self]
  exact congrArg (v y + ·) (product_tn _ (iblk m c 0 ⟨n, h⟩) (iblk m c 1 ⟨n, h⟩) y)

theorem first (c : Dev nD) (n : ℕ) (h : n < cfg0.N) (y : S1024x1024.Idx) (h0 : n % 16 = 0) :
    (outsAt0 m c n h).2 y = ∑ k, term m c n h y k := by
  rw [outsAt0_A m c ⟨n, h⟩ h0 (by dsimp only; omega)]
  frame_out
  exact (step m (k0_pay1 (F := Ideal)) c n h y).trans (zero_start _)

theorem later (c : Dev nD) (n : ℕ) (h : n + 1 < cfg0.N) (y : S1024x1024.Idx) (h0 : (n + 1) % 16 ≠ 0) :
    (outsAt0 m c (n + 1) h).2 y = (outsAt0 m c n (Nat.lt_of_succ_lt h)).2 y + ∑ k, term m c (n + 1) h y k := by
  by_cases h1 : (n + 1) % 16 = 15
  · rw [outsAt0_C m c ⟨n + 1, h⟩ h0 h1]
    frame_out [read_unread_whole]
    exact step m _ c (n + 1) h y
  · rw [outsAt0_B m c ⟨n + 1, h⟩ h0 h1]
    frame_out [read_unread_whole]
    exact step m _ c (n + 1) h y

theorem last (c : Dev nD) (n : ℕ) (h : n < cfg0.N) (h1 : n % 16 = 15) : (outsAt0 m c n h).1 = (outsAt0 m c n h).2 := by
  rw [outsAt0_C m c ⟨n, h⟩ (by dsimp only; omega) h1]
  frame_out

theorem places : ∀ t : Fin cfg0.N, win0_0.index t (0 : Fin 2) = t.val % 16 ∧ win0_0.index t (1 : Fin 2) = 0
    ∧ win0_1.index t (0 : Fin 2) = t.val % 16 ∧ win0_1.index t (1 : Fin 2) = t.val / 16 :=
  (by decide +kernel : ∀ t : Fin grid0.N, _)

theorem value (c : Dev nD) : Value.G2 m c = UpDwRefIdeal.Read.val_main_v3 (F := Ideal)
    (m ((c.tc : Thread nD τ).loc main_arg0)) (m ((c.tc : Thread nD τ).loc main_arg1)) := by
  funext i
  have hN : cfg0.N = 64 := N_0
  have i0 : (i 0).val < 1024 := (i 0).isLt
  have i1 : (i 1).val < 4096 := (i 1).isLt
  have hr : Value.run2Of i = 4 * ((i 0).val / 1024) + (i 1).val / 1024 := by
    show 4 * ((i 0).val / 1024 - 0) + 1 * ((i 1).val / 1024 - 0) = _
    omega
  have hp : Value.pt2Of i < cfg0.N := by
    show 16 * Value.run2Of i + 15 < _
    omega
  rw [UpDwRefIdeal.Read.val_main_v3_apply]
  unfold Value.G2
  rw [dif_pos hp, ← Value.outsAt0_sweep m c _ hp, last m c _ hp (by show (16 * Value.run2Of i + 15) % 16 = 15; omega)]
  refine run_sum (nk := 16) (tk := 512) (by decide) rfl (fun n h => (outsAt0 m c n h).2) (term m c) (first m c) (later m c)
    _ (Value.run2Of i) (Value.loc2Of i) hp fun s k => ?_
  obtain ⟨p0, p1, p2, p3⟩ := places ⟨16 * Value.run2Of i + s.val, by omega⟩
  dsimp only at p0 p1 p2 p3
  refine congrArg₂ (· * ·) ?_ ?_
  · rw [UpDwRefIdeal.Read.val_main_v1_apply, UpDwRefIdeal.Read.val_main_v0_apply]
    refine congrArg (m ((c.tc : Thread nD τ).loc main_arg0)) (place_ext ?_ ?_)
    · show win0_0.index _ 0 * 512 + 1 * k.val = 512 * s.val + k.val; omega
    · show win0_0.index _ 1 * 1024 + 1 * ((i 0).val % 1024) = (i 0).val; omega
  · refine congrArg (m ((c.tc : Thread nD τ).loc main_arg1)) (place_ext ?_ ?_)
    · show win0_1.index _ 0 * 512 + 1 * k.val = 512 * s.val + k.val; omega
    · show win0_1.index _ 1 * 1024 + 1 * ((i 1).val % 1024) = (i 1).val; omega

theorem frame : Cert.quiescent_UpDw := fun m ρ _ => Cert.UpDw.Gen.frame m ρ
theorem frame_ideal : Cert.quiescent_UpDwIdeal := fun m ρ _ => Gen.frame m ρ
theorem frame_ref_ideal : Cert.quiescent_UpDwRefIdeal := fun m ρ _ =>
  (θ_run Cert.UpDwRefIdeal.defs _ _).mono
    (fun r h => ⟨fun c => (h c).2, sem_eq_zero_of_no_sems (by decide) r.2⟩)
    (Cert.UpDwRefIdeal.Value.run (F := Ideal) m ρ)

theorem algebraic : Cert.algebraic_UpDwIdeal_UpDwRefIdeal := by
  intro m ρ m' ρ' _ hagree
  refine ⟨_, Value.run (F := Ideal) m ρ, ?_⟩
  refine (θ_run Cert.UpDwRefIdeal.defs _ _).mono (fun _ h c => ⟨(h c).1.trans ?_, (h c).2⟩)
    (Cert.UpDwRefIdeal.Value.run (F := Ideal) m' ρ')
  rw [(hagree c).1, (hagree c).2]
  exact (value m c).symm

end Cert.UpDwProof

/-! ## The weight into the gated delta layer, its query, key, value and gate columns -/

namespace Cert.InDwProof

open Cert.InDwIdeal Cert.InDwIdeal.Gen Cert.Product

variable (m : (ℓ : Loc nD τ sig) → Buf (Elt Ideal) ℓ)

/-- What a grid point adds to the scratch, at a place of the block. -/
abbrev term (c : Dev nD) (n : ℕ) (h : n < cfg0.N) (y : S1024x1024.Idx) (k : Fin 512) : EReal :=
  (show Vec Ideal S512x1024 .bf16 from iblk m c 0 ⟨n, h⟩) (ValueIdx.ix2 k (y 0))
    * (show Vec Ideal S512x1024 .f32 from iblk m c 1 ⟨n, h⟩) (ValueIdx.ix2 k (y 1))

/-- The store of a grid point: what the scratch held, and the product of the two blocks. -/
theorem step (v : Vec Ideal S1024x1024 .f32) (c : Dev nD) (n : ℕ) (h : n < cfg0.N) (y : S1024x1024.Idx) :
    k0_pay2 v (iblk m c 0 ⟨n, h⟩) (iblk m c 1 ⟨n, h⟩) y = v y + ∑ k, term m c n h y k := by
  unfold k0_pay2
  simp only [shapeCast_self]
  exact congrArg (v y + ·) (product_tn _ (iblk m c 0 ⟨n, h⟩) (truncf .bf16 (iblk m c 1 ⟨n, h⟩) bitsLt_bf16_f32) y)

theorem first (c : Dev nD) (n : ℕ) (h : n < cfg0.N) (y : S1024x1024.Idx) (h0 : n % 16 = 0) :
    (outsAt0 m c n h).2 y = ∑ k, term m c n h y k := by
  rw [outsAt0_A m c ⟨n, h⟩ h0 (by dsimp only; omega)]
  frame_out
  exact (step m (k0_pay1 (F := Ideal)) c n h y).trans (zero_start _)

theorem later (c : Dev nD) (n : ℕ) (h : n + 1 < cfg0.N) (y : S1024x1024.Idx) (h0 : (n + 1) % 16 ≠ 0) :
    (outsAt0 m c (n + 1) h).2 y = (outsAt0 m c n (Nat.lt_of_succ_lt h)).2 y + ∑ k, term m c (n + 1) h y k := by
  by_cases h1 : (n + 1) % 16 = 15
  · rw [outsAt0_C m c ⟨n + 1, h⟩ h0 h1]
    frame_out [read_unread_whole]
    exact step m _ c (n + 1) h y
  · rw [outsAt0_B m c ⟨n + 1, h⟩ h0 h1]
    frame_out [read_unread_whole]
    exact step m _ c (n + 1) h y

theorem last (c : Dev nD) (n : ℕ) (h : n < cfg0.N) (h1 : n % 16 = 15) : (outsAt0 m c n h).1 = (outsAt0 m c n h).2 := by
  rw [outsAt0_C m c ⟨n, h⟩ (by dsimp only; omega) h1]
  frame_out

theorem places : ∀ t : Fin cfg0.N, win0_0.index t (0 : Fin 2) = t.val % 16 ∧ win0_0.index t (1 : Fin 2) = 0
    ∧ win0_1.index t (0 : Fin 2) = t.val % 16 ∧ win0_1.index t (1 : Fin 2) = t.val / 16 :=
  (by decide +kernel : ∀ t : Fin grid0.N, _)

theorem value (c : Dev nD) : Value.G2 m c = InDwRefIdeal.Read.val_main_v2 (F := Ideal)
    (m ((c.tc : Thread nD τ).loc main_arg0)) (m ((c.tc : Thread nD τ).loc main_arg1)) := by
  funext i
  have hN : cfg0.N = 64 := N_0
  have i0 : (i 0).val < 1024 := (i 0).isLt
  have i1 : (i 1).val < 4096 := (i 1).isLt
  have hr : Value.run2Of i = 4 * ((i 0).val / 1024) + (i 1).val / 1024 := by
    show 4 * ((i 0).val / 1024 - 0) + 1 * ((i 1).val / 1024 - 0) = _
    omega
  have hp : Value.pt2Of i < cfg0.N := by
    show 16 * Value.run2Of i + 15 < _
    omega
  rw [InDwRefIdeal.Read.val_main_v2_apply]
  unfold Value.G2
  rw [dif_pos hp, ← Value.outsAt0_sweep m c _ hp, last m c _ hp (by show (16 * Value.run2Of i + 15) % 16 = 15; omega)]
  refine run_sum (nk := 16) (tk := 512) (by decide) rfl (fun n h => (outsAt0 m c n h).2) (term m c) (first m c) (later m c)
    _ (Value.run2Of i) (Value.loc2Of i) hp fun s k => ?_
  obtain ⟨p0, p1, p2, p3⟩ := places ⟨16 * Value.run2Of i + s.val, by omega⟩
  dsimp only at p0 p1 p2 p3
  refine congrArg₂ (· * ·) ?_ ?_
  · rw [InDwRefIdeal.Read.val_main_v1_apply, InDwRefIdeal.Read.val_main_v0_apply]
    refine congrArg (m ((c.tc : Thread nD τ).loc main_arg0)) (place_ext ?_ ?_)
    · show win0_0.index _ 0 * 512 + 1 * k.val = 512 * s.val + k.val; omega
    · show win0_0.index _ 1 * 1024 + 1 * ((i 0).val % 1024) = (i 0).val; omega
  · refine congrArg (m ((c.tc : Thread nD τ).loc main_arg1)) (place_ext ?_ ?_)
    · show win0_1.index _ 0 * 512 + 1 * k.val = 512 * s.val + k.val; omega
    · show win0_1.index _ 1 * 1024 + 1 * ((i 1).val % 1024) = (i 1).val; omega

theorem frame : Cert.quiescent_InDw := fun m ρ _ => Cert.InDw.Gen.frame m ρ
theorem frame_ideal : Cert.quiescent_InDwIdeal := fun m ρ _ => Gen.frame m ρ
theorem frame_ref_ideal : Cert.quiescent_InDwRefIdeal := fun m ρ _ =>
  (θ_run Cert.InDwRefIdeal.defs _ _).mono
    (fun r h => ⟨fun c => (h c).2, sem_eq_zero_of_no_sems (by decide) r.2⟩)
    (Cert.InDwRefIdeal.Value.run (F := Ideal) m ρ)

theorem algebraic : Cert.algebraic_InDwIdeal_InDwRefIdeal := by
  intro m ρ m' ρ' _ hagree
  refine ⟨_, Value.run (F := Ideal) m ρ, ?_⟩
  refine (θ_run Cert.InDwRefIdeal.defs _ _).mono (fun _ h c => ⟨(h c).1.trans ?_, (h c).2⟩)
    (Cert.InDwRefIdeal.Value.run (F := Ideal) m' ρ')
  rw [(hagree c).1, (hagree c).2]
  exact (value m c).symm

end Cert.InDwProof

/-! ## That weight's columns of the decay and of the step size -/

namespace Cert.GateDwProof

open Cert.GateDwIdeal Cert.GateDwIdeal.Gen Cert.Product

variable (m : (ℓ : Loc nD τ sig) → Buf (Elt Ideal) ℓ)

/-- What a grid point adds to the scratch, at a place of the block. -/
abbrev term (c : Dev nD) (n : ℕ) (h : n < cfg0.N) (y : S1024x128.Idx) (k : Fin 512) : EReal :=
  (show Vec Ideal S512x1024 .bf16 from iblk m c 0 ⟨n, h⟩) (ValueIdx.ix2 k (y 0))
    * (show Vec Ideal S512x128 .f32 from iblk m c 1 ⟨n, h⟩) (ValueIdx.ix2 k (y 1))

/-- The store of a grid point: what the scratch held, and the product of the two blocks. -/
theorem step (v : Vec Ideal S1024x128 .f32) (c : Dev nD) (n : ℕ) (h : n < cfg0.N) (y : S1024x128.Idx) :
    k0_pay2 v (iblk m c 0 ⟨n, h⟩) (iblk m c 1 ⟨n, h⟩) y = v y + ∑ k, term m c n h y k := by
  unfold k0_pay2
  simp only [shapeCast_self]
  exact congrArg (v y + ·) (product_tn _ (iblk m c 0 ⟨n, h⟩) (truncf .bf16 (iblk m c 1 ⟨n, h⟩) bitsLt_bf16_f32) y)

theorem first (c : Dev nD) (n : ℕ) (h : n < cfg0.N) (y : S1024x128.Idx) (h0 : n % 16 = 0) :
    (outsAt0 m c n h).2 y = ∑ k, term m c n h y k := by
  rw [outsAt0_A m c ⟨n, h⟩ h0 (by dsimp only; omega)]
  frame_out
  exact (step m (k0_pay1 (F := Ideal)) c n h y).trans (zero_start _)

theorem later (c : Dev nD) (n : ℕ) (h : n + 1 < cfg0.N) (y : S1024x128.Idx) (h0 : (n + 1) % 16 ≠ 0) :
    (outsAt0 m c (n + 1) h).2 y = (outsAt0 m c n (Nat.lt_of_succ_lt h)).2 y + ∑ k, term m c (n + 1) h y k := by
  by_cases h1 : (n + 1) % 16 = 15
  · rw [outsAt0_C m c ⟨n + 1, h⟩ h0 h1]
    frame_out [read_unread_whole]
    exact step m _ c (n + 1) h y
  · rw [outsAt0_B m c ⟨n + 1, h⟩ h0 h1]
    frame_out [read_unread_whole]
    exact step m _ c (n + 1) h y

theorem last (c : Dev nD) (n : ℕ) (h : n < cfg0.N) (h1 : n % 16 = 15) : (outsAt0 m c n h).1 = (outsAt0 m c n h).2 := by
  rw [outsAt0_C m c ⟨n, h⟩ (by dsimp only; omega) h1]
  frame_out

theorem places : ∀ t : Fin cfg0.N, win0_0.index t (0 : Fin 2) = t.val % 16 ∧ win0_0.index t (1 : Fin 2) = 0
    ∧ win0_1.index t (0 : Fin 2) = t.val % 16 ∧ win0_1.index t (1 : Fin 2) = 0 :=
  (by decide +kernel : ∀ t : Fin grid0.N, _)

theorem value (c : Dev nD) : Value.G2 m c = GateDwRefIdeal.Read.val_main_v2 (F := Ideal)
    (m ((c.tc : Thread nD τ).loc main_arg0)) (m ((c.tc : Thread nD τ).loc main_arg1)) := by
  funext i
  have hN : cfg0.N = 16 := N_0
  have i0 : (i 0).val < 1024 := (i 0).isLt
  have i1 : (i 1).val < 128 := (i 1).isLt
  have hr : Value.run2Of i = 1 * ((i 0).val / 1024) + (i 1).val / 128 := by
    show 1 * ((i 0).val / 1024 - 0) + 1 * ((i 1).val / 128 - 0) = _
    omega
  have hp : Value.pt2Of i < cfg0.N := by
    show 16 * Value.run2Of i + 15 < _
    omega
  rw [GateDwRefIdeal.Read.val_main_v2_apply]
  unfold Value.G2
  rw [dif_pos hp, ← Value.outsAt0_sweep m c _ hp, last m c _ hp (by show (16 * Value.run2Of i + 15) % 16 = 15; omega)]
  refine run_sum (nk := 16) (tk := 512) (by decide) rfl (fun n h => (outsAt0 m c n h).2) (term m c) (first m c) (later m c)
    _ (Value.run2Of i) (Value.loc2Of i) hp fun s k => ?_
  obtain ⟨p0, p1, p2, p3⟩ := places ⟨16 * Value.run2Of i + s.val, by omega⟩
  dsimp only at p0 p1 p2 p3
  refine congrArg₂ (· * ·) ?_ ?_
  · rw [GateDwRefIdeal.Read.val_main_v1_apply, GateDwRefIdeal.Read.val_main_v0_apply]
    refine congrArg (m ((c.tc : Thread nD τ).loc main_arg0)) (place_ext ?_ ?_)
    · show win0_0.index _ 0 * 512 + 1 * k.val = 512 * s.val + k.val; omega
    · show win0_0.index _ 1 * 1024 + 1 * ((i 0).val % 1024) = (i 0).val; omega
  · refine congrArg (m ((c.tc : Thread nD τ).loc main_arg1)) (place_ext ?_ ?_)
    · show win0_1.index _ 0 * 512 + 1 * k.val = 512 * s.val + k.val; omega
    · show win0_1.index _ 1 * 128 + 1 * ((i 1).val % 128) = (i 1).val; omega

theorem frame : Cert.quiescent_GateDw := fun m ρ _ => Cert.GateDw.Gen.frame m ρ
theorem frame_ideal : Cert.quiescent_GateDwIdeal := fun m ρ _ => Gen.frame m ρ
theorem frame_ref_ideal : Cert.quiescent_GateDwRefIdeal := fun m ρ _ =>
  (θ_run Cert.GateDwRefIdeal.defs _ _).mono
    (fun r h => ⟨fun c => (h c).2, sem_eq_zero_of_no_sems (by decide) r.2⟩)
    (Cert.GateDwRefIdeal.Value.run (F := Ideal) m ρ)

theorem algebraic : Cert.algebraic_GateDwIdeal_GateDwRefIdeal := by
  intro m ρ m' ρ' _ hagree
  refine ⟨_, Value.run (F := Ideal) m ρ, ?_⟩
  refine (θ_run Cert.GateDwRefIdeal.defs _ _).mono (fun _ h c => ⟨(h c).1.trans ?_, (h c).2⟩)
    (Cert.GateDwRefIdeal.Value.run (F := Ideal) m' ρ')
  rw [(hagree c).1, (hagree c).2]
  exact (value m c).symm

end Cert.GateDwProof

/-! ## The weight out of that layer, and the queries' weight of the attention layer -/

namespace Cert.OutDwProof

open Cert.OutDwIdeal Cert.OutDwIdeal.Gen Cert.Product

variable (m : (ℓ : Loc nD τ sig) → Buf (Elt Ideal) ℓ)

/-- What a grid point adds to the scratch, at a place of the block. -/
abbrev term (c : Dev nD) (n : ℕ) (h : n < cfg0.N) (y : S1024x1024.Idx) (k : Fin 512) : EReal :=
  (show Vec Ideal S512x1024 .bf16 from iblk m c 0 ⟨n, h⟩) (ValueIdx.ix2 k (y 0))
    * (show Vec Ideal S512x1024 .f32 from iblk m c 1 ⟨n, h⟩) (ValueIdx.ix2 k (y 1))

/-- The store of a grid point: what the scratch held, and the product of the two blocks. -/
theorem step (v : Vec Ideal S1024x1024 .f32) (c : Dev nD) (n : ℕ) (h : n < cfg0.N) (y : S1024x1024.Idx) :
    k0_pay2 v (iblk m c 0 ⟨n, h⟩) (iblk m c 1 ⟨n, h⟩) y = v y + ∑ k, term m c n h y k := by
  unfold k0_pay2
  simp only [shapeCast_self]
  exact congrArg (v y + ·) (product_tn _ (iblk m c 0 ⟨n, h⟩) (truncf .bf16 (iblk m c 1 ⟨n, h⟩) bitsLt_bf16_f32) y)

theorem first (c : Dev nD) (n : ℕ) (h : n < cfg0.N) (y : S1024x1024.Idx) (h0 : n % 16 = 0) :
    (outsAt0 m c n h).2 y = ∑ k, term m c n h y k := by
  rw [outsAt0_A m c ⟨n, h⟩ h0 (by dsimp only; omega)]
  frame_out
  exact (step m (k0_pay1 (F := Ideal)) c n h y).trans (zero_start _)

theorem later (c : Dev nD) (n : ℕ) (h : n + 1 < cfg0.N) (y : S1024x1024.Idx) (h0 : (n + 1) % 16 ≠ 0) :
    (outsAt0 m c (n + 1) h).2 y = (outsAt0 m c n (Nat.lt_of_succ_lt h)).2 y + ∑ k, term m c (n + 1) h y k := by
  by_cases h1 : (n + 1) % 16 = 15
  · rw [outsAt0_C m c ⟨n + 1, h⟩ h0 h1]
    frame_out [read_unread_whole]
    exact step m _ c (n + 1) h y
  · rw [outsAt0_B m c ⟨n + 1, h⟩ h0 h1]
    frame_out [read_unread_whole]
    exact step m _ c (n + 1) h y

theorem last (c : Dev nD) (n : ℕ) (h : n < cfg0.N) (h1 : n % 16 = 15) : (outsAt0 m c n h).1 = (outsAt0 m c n h).2 := by
  rw [outsAt0_C m c ⟨n, h⟩ (by dsimp only; omega) h1]
  frame_out

theorem places : ∀ t : Fin cfg0.N, win0_0.index t (0 : Fin 2) = t.val % 16 ∧ win0_0.index t (1 : Fin 2) = 0
    ∧ win0_1.index t (0 : Fin 2) = t.val % 16 ∧ win0_1.index t (1 : Fin 2) = 0 :=
  (by decide +kernel : ∀ t : Fin grid0.N, _)

theorem value (c : Dev nD) : Value.G2 m c = OutDwRefIdeal.Read.val_main_v2 (F := Ideal)
    (m ((c.tc : Thread nD τ).loc main_arg0)) (m ((c.tc : Thread nD τ).loc main_arg1)) := by
  funext i
  have hN : cfg0.N = 16 := N_0
  have i0 : (i 0).val < 1024 := (i 0).isLt
  have i1 : (i 1).val < 1024 := (i 1).isLt
  have hr : Value.run2Of i = 1 * ((i 0).val / 1024) + (i 1).val / 1024 := by
    show 1 * ((i 0).val / 1024 - 0) + 1 * ((i 1).val / 1024 - 0) = _
    omega
  have hp : Value.pt2Of i < cfg0.N := by
    show 16 * Value.run2Of i + 15 < _
    omega
  rw [OutDwRefIdeal.Read.val_main_v2_apply]
  unfold Value.G2
  rw [dif_pos hp, ← Value.outsAt0_sweep m c _ hp, last m c _ hp (by show (16 * Value.run2Of i + 15) % 16 = 15; omega)]
  refine run_sum (nk := 16) (tk := 512) (by decide) rfl (fun n h => (outsAt0 m c n h).2) (term m c) (first m c) (later m c)
    _ (Value.run2Of i) (Value.loc2Of i) hp fun s k => ?_
  obtain ⟨p0, p1, p2, p3⟩ := places ⟨16 * Value.run2Of i + s.val, by omega⟩
  dsimp only at p0 p1 p2 p3
  refine congrArg₂ (· * ·) ?_ ?_
  · rw [OutDwRefIdeal.Read.val_main_v1_apply, OutDwRefIdeal.Read.val_main_v0_apply]
    refine congrArg (m ((c.tc : Thread nD τ).loc main_arg0)) (place_ext ?_ ?_)
    · show win0_0.index _ 0 * 512 + 1 * k.val = 512 * s.val + k.val; omega
    · show win0_0.index _ 1 * 1024 + 1 * ((i 0).val % 1024) = (i 0).val; omega
  · refine congrArg (m ((c.tc : Thread nD τ).loc main_arg1)) (place_ext ?_ ?_)
    · show win0_1.index _ 0 * 512 + 1 * k.val = 512 * s.val + k.val; omega
    · show win0_1.index _ 1 * 1024 + 1 * ((i 1).val % 1024) = (i 1).val; omega

theorem frame : Cert.quiescent_OutDw := fun m ρ _ => Cert.OutDw.Gen.frame m ρ
theorem frame_ideal : Cert.quiescent_OutDwIdeal := fun m ρ _ => Gen.frame m ρ
theorem frame_ref_ideal : Cert.quiescent_OutDwRefIdeal := fun m ρ _ =>
  (θ_run Cert.OutDwRefIdeal.defs _ _).mono
    (fun r h => ⟨fun c => (h c).2, sem_eq_zero_of_no_sems (by decide) r.2⟩)
    (Cert.OutDwRefIdeal.Value.run (F := Ideal) m ρ)

theorem algebraic : Cert.algebraic_OutDwIdeal_OutDwRefIdeal := by
  intro m ρ m' ρ' _ hagree
  refine ⟨_, Value.run (F := Ideal) m ρ, ?_⟩
  refine (θ_run Cert.OutDwRefIdeal.defs _ _).mono (fun _ h c => ⟨(h c).1.trans ?_, (h c).2⟩)
    (Cert.OutDwRefIdeal.Value.run (F := Ideal) m' ρ')
  rw [(hagree c).1, (hagree c).2]
  exact (value m c).symm

end Cert.OutDwProof

/-! ## The weight out of the attention layer -/

namespace Cert.SbOutDwProof

open Cert.SbOutDwIdeal Cert.SbOutDwIdeal.Gen Cert.Product

variable (m : (ℓ : Loc nD τ sig) → Buf (Elt Ideal) ℓ)

/-- What a grid point adds to the scratch, at a place of the block. -/
abbrev term (c : Dev nD) (n : ℕ) (h : n < cfg0.N) (y : S1024x1024.Idx) (k : Fin 512) : EReal :=
  (show Vec Ideal S512x1024 .f32 from iblk m c 0 ⟨n, h⟩) (ValueIdx.ix2 k (y 0))
    * (show Vec Ideal S512x1024 .f32 from iblk m c 1 ⟨n, h⟩) (ValueIdx.ix2 k (y 1))

/-- The store of a grid point: what the scratch held, and the product of the two blocks. -/
theorem step (v : Vec Ideal S1024x1024 .f32) (c : Dev nD) (n : ℕ) (h : n < cfg0.N) (y : S1024x1024.Idx) :
    k0_pay2 v (iblk m c 0 ⟨n, h⟩) (iblk m c 1 ⟨n, h⟩) y = v y + ∑ k, term m c n h y k := by
  unfold k0_pay2
  simp only [shapeCast_self]
  exact congrArg (v y + ·) (product_tn _ (truncf .bf16 (iblk m c 0 ⟨n, h⟩) bitsLt_bf16_f32) (truncf .bf16 (iblk m c 1 ⟨n, h⟩) bitsLt_bf16_f32) y)

theorem first (c : Dev nD) (n : ℕ) (h : n < cfg0.N) (y : S1024x1024.Idx) (h0 : n % 16 = 0) :
    (outsAt0 m c n h).2 y = ∑ k, term m c n h y k := by
  rw [outsAt0_A m c ⟨n, h⟩ h0 (by dsimp only; omega)]
  frame_out
  exact (step m (k0_pay1 (F := Ideal)) c n h y).trans (zero_start _)

theorem later (c : Dev nD) (n : ℕ) (h : n + 1 < cfg0.N) (y : S1024x1024.Idx) (h0 : (n + 1) % 16 ≠ 0) :
    (outsAt0 m c (n + 1) h).2 y = (outsAt0 m c n (Nat.lt_of_succ_lt h)).2 y + ∑ k, term m c (n + 1) h y k := by
  by_cases h1 : (n + 1) % 16 = 15
  · rw [outsAt0_C m c ⟨n + 1, h⟩ h0 h1]
    frame_out [read_unread_whole]
    exact step m _ c (n + 1) h y
  · rw [outsAt0_B m c ⟨n + 1, h⟩ h0 h1]
    frame_out [read_unread_whole]
    exact step m _ c (n + 1) h y

theorem last (c : Dev nD) (n : ℕ) (h : n < cfg0.N) (h1 : n % 16 = 15) : (outsAt0 m c n h).1 = (outsAt0 m c n h).2 := by
  rw [outsAt0_C m c ⟨n, h⟩ (by dsimp only; omega) h1]
  frame_out

theorem places : ∀ t : Fin cfg0.N, win0_0.index t (0 : Fin 2) = t.val % 16 ∧ win0_0.index t (1 : Fin 2) = 0
    ∧ win0_1.index t (0 : Fin 2) = t.val % 16 ∧ win0_1.index t (1 : Fin 2) = 0 :=
  (by decide +kernel : ∀ t : Fin grid0.N, _)

theorem value (c : Dev nD) : Value.G2 m c = SbOutDwRefIdeal.Read.val_main_v1 (F := Ideal)
    (m ((c.tc : Thread nD τ).loc main_arg0)) (m ((c.tc : Thread nD τ).loc main_arg1)) := by
  funext i
  have hN : cfg0.N = 16 := N_0
  have i0 : (i 0).val < 1024 := (i 0).isLt
  have i1 : (i 1).val < 1024 := (i 1).isLt
  have hr : Value.run2Of i = 1 * ((i 0).val / 1024) + (i 1).val / 1024 := by
    show 1 * ((i 0).val / 1024 - 0) + 1 * ((i 1).val / 1024 - 0) = _
    omega
  have hp : Value.pt2Of i < cfg0.N := by
    show 16 * Value.run2Of i + 15 < _
    omega
  rw [SbOutDwRefIdeal.Read.val_main_v1_apply]
  unfold Value.G2
  rw [dif_pos hp, ← Value.outsAt0_sweep m c _ hp, last m c _ hp (by show (16 * Value.run2Of i + 15) % 16 = 15; omega)]
  refine run_sum (nk := 16) (tk := 512) (by decide) rfl (fun n h => (outsAt0 m c n h).2) (term m c) (first m c) (later m c)
    _ (Value.run2Of i) (Value.loc2Of i) hp fun s k => ?_
  obtain ⟨p0, p1, p2, p3⟩ := places ⟨16 * Value.run2Of i + s.val, by omega⟩
  dsimp only at p0 p1 p2 p3
  refine congrArg₂ (· * ·) ?_ ?_
  · rw [SbOutDwRefIdeal.Read.val_main_v0_apply]
    refine congrArg (m ((c.tc : Thread nD τ).loc main_arg0)) (place_ext ?_ ?_)
    · show win0_0.index _ 0 * 512 + 1 * k.val = 512 * s.val + k.val; omega
    · show win0_0.index _ 1 * 1024 + 1 * ((i 0).val % 1024) = (i 0).val; omega
  · refine congrArg (m ((c.tc : Thread nD τ).loc main_arg1)) (place_ext ?_ ?_)
    · show win0_1.index _ 0 * 512 + 1 * k.val = 512 * s.val + k.val; omega
    · show win0_1.index _ 1 * 1024 + 1 * ((i 1).val % 1024) = (i 1).val; omega

theorem frame : Cert.quiescent_SbOutDw := fun m ρ _ => Cert.SbOutDw.Gen.frame m ρ
theorem frame_ideal : Cert.quiescent_SbOutDwIdeal := fun m ρ _ => Gen.frame m ρ
theorem frame_ref_ideal : Cert.quiescent_SbOutDwRefIdeal := fun m ρ _ =>
  (θ_run Cert.SbOutDwRefIdeal.defs _ _).mono
    (fun r h => ⟨fun c => (h c).2, sem_eq_zero_of_no_sems (by decide) r.2⟩)
    (Cert.SbOutDwRefIdeal.Value.run (F := Ideal) m ρ)

theorem algebraic : Cert.algebraic_SbOutDwIdeal_SbOutDwRefIdeal := by
  intro m ρ m' ρ' _ hagree
  refine ⟨_, Value.run (F := Ideal) m ρ, ?_⟩
  refine (θ_run Cert.SbOutDwRefIdeal.defs _ _).mono (fun _ h c => ⟨(h c).1.trans ?_, (h c).2⟩)
    (Cert.SbOutDwRefIdeal.Value.run (F := Ideal) m' ρ')
  rw [(hagree c).1, (hagree c).2]
  exact (value m c).symm

end Cert.SbOutDwProof

/-! ## The weight of the shared keys and values -/

namespace Cert.KvDwProof

open Cert.KvDwIdeal Cert.KvDwIdeal.Gen Cert.Product

variable (m : (ℓ : Loc nD τ sig) → Buf (Elt Ideal) ℓ)

/-- What a grid point adds to the scratch, at a place of the block. -/
abbrev term (c : Dev nD) (n : ℕ) (h : n < cfg0.N) (y : S1024x1024.Idx) (k : Fin 512) : EReal :=
  (show Vec Ideal S512x1024 .bf16 from iblk m c 0 ⟨n, h⟩) (ValueIdx.ix2 k (y 0))
    * (show Vec Ideal S512x1024 .f32 from iblk m c 1 ⟨n, h⟩) (ValueIdx.ix2 k (y 1))

/-- The store of a grid point: what the scratch held, and the product of the two blocks. -/
theorem step (v : Vec Ideal S1024x1024 .f32) (c : Dev nD) (n : ℕ) (h : n < cfg0.N) (y : S1024x1024.Idx) :
    k0_pay2 v (iblk m c 0 ⟨n, h⟩) (iblk m c 1 ⟨n, h⟩) y = v y + ∑ k, term m c n h y k := by
  unfold k0_pay2
  simp only [shapeCast_self]
  exact congrArg (v y + ·) (product_tn _ (iblk m c 0 ⟨n, h⟩) (truncf .bf16 (iblk m c 1 ⟨n, h⟩) bitsLt_bf16_f32) y)

theorem first (c : Dev nD) (n : ℕ) (h : n < cfg0.N) (y : S1024x1024.Idx) (h0 : n % 16 = 0) :
    (outsAt0 m c n h).2 y = ∑ k, term m c n h y k := by
  rw [outsAt0_A m c ⟨n, h⟩ h0 (by dsimp only; omega)]
  frame_out
  exact (step m (k0_pay1 (F := Ideal)) c n h y).trans (zero_start _)

theorem later (c : Dev nD) (n : ℕ) (h : n + 1 < cfg0.N) (y : S1024x1024.Idx) (h0 : (n + 1) % 16 ≠ 0) :
    (outsAt0 m c (n + 1) h).2 y = (outsAt0 m c n (Nat.lt_of_succ_lt h)).2 y + ∑ k, term m c (n + 1) h y k := by
  by_cases h1 : (n + 1) % 16 = 15
  · rw [outsAt0_C m c ⟨n + 1, h⟩ h0 h1]
    frame_out [read_unread_whole]
    exact step m _ c (n + 1) h y
  · rw [outsAt0_B m c ⟨n + 1, h⟩ h0 h1]
    frame_out [read_unread_whole]
    exact step m _ c (n + 1) h y

theorem last (c : Dev nD) (n : ℕ) (h : n < cfg0.N) (h1 : n % 16 = 15) : (outsAt0 m c n h).1 = (outsAt0 m c n h).2 := by
  rw [outsAt0_C m c ⟨n, h⟩ (by dsimp only; omega) h1]
  frame_out

theorem places : ∀ t : Fin cfg0.N, win0_0.index t (0 : Fin 2) = t.val % 16 ∧ win0_0.index t (1 : Fin 2) = 0
    ∧ win0_1.index t (0 : Fin 2) = t.val % 16 ∧ win0_1.index t (1 : Fin 2) = t.val / 16 :=
  (by decide +kernel : ∀ t : Fin grid0.N, _)

theorem value (c : Dev nD) : Value.G2 m c = KvDwRefIdeal.Read.val_main_v2 (F := Ideal)
    (m ((c.tc : Thread nD τ).loc main_arg0)) (m ((c.tc : Thread nD τ).loc main_arg1)) := by
  funext i
  have hN : cfg0.N = 32 := N_0
  have i0 : (i 0).val < 1024 := (i 0).isLt
  have i1 : (i 1).val < 2048 := (i 1).isLt
  have hr : Value.run2Of i = 2 * ((i 0).val / 1024) + (i 1).val / 1024 := by
    show 2 * ((i 0).val / 1024 - 0) + 1 * ((i 1).val / 1024 - 0) = _
    omega
  have hp : Value.pt2Of i < cfg0.N := by
    show 16 * Value.run2Of i + 15 < _
    omega
  rw [KvDwRefIdeal.Read.val_main_v2_apply]
  unfold Value.G2
  rw [dif_pos hp, ← Value.outsAt0_sweep m c _ hp, last m c _ hp (by show (16 * Value.run2Of i + 15) % 16 = 15; omega)]
  refine run_sum (nk := 16) (tk := 512) (by decide) rfl (fun n h => (outsAt0 m c n h).2) (term m c) (first m c) (later m c)
    _ (Value.run2Of i) (Value.loc2Of i) hp fun s k => ?_
  obtain ⟨p0, p1, p2, p3⟩ := places ⟨16 * Value.run2Of i + s.val, by omega⟩
  dsimp only at p0 p1 p2 p3
  refine congrArg₂ (· * ·) ?_ ?_
  · rw [KvDwRefIdeal.Read.val_main_v1_apply, KvDwRefIdeal.Read.val_main_v0_apply]
    refine congrArg (m ((c.tc : Thread nD τ).loc main_arg0)) (place_ext ?_ ?_)
    · show win0_0.index _ 0 * 512 + 1 * k.val = 512 * s.val + k.val; omega
    · show win0_0.index _ 1 * 1024 + 1 * ((i 0).val % 1024) = (i 0).val; omega
  · refine congrArg (m ((c.tc : Thread nD τ).loc main_arg1)) (place_ext ?_ ?_)
    · show win0_1.index _ 0 * 512 + 1 * k.val = 512 * s.val + k.val; omega
    · show win0_1.index _ 1 * 1024 + 1 * ((i 1).val % 1024) = (i 1).val; omega

theorem frame : Cert.quiescent_KvDw := fun m ρ _ => Cert.KvDw.Gen.frame m ρ
theorem frame_ideal : Cert.quiescent_KvDwIdeal := fun m ρ _ => Gen.frame m ρ
theorem frame_ref_ideal : Cert.quiescent_KvDwRefIdeal := fun m ρ _ =>
  (θ_run Cert.KvDwRefIdeal.defs _ _).mono
    (fun r h => ⟨fun c => (h c).2, sem_eq_zero_of_no_sems (by decide) r.2⟩)
    (Cert.KvDwRefIdeal.Value.run (F := Ideal) m ρ)

theorem algebraic : Cert.algebraic_KvDwIdeal_KvDwRefIdeal := by
  intro m ρ m' ρ' _ hagree
  refine ⟨_, Value.run (F := Ideal) m ρ, ?_⟩
  refine (θ_run Cert.KvDwRefIdeal.defs _ _).mono (fun _ h c => ⟨(h c).1.trans ?_, (h c).2⟩)
    (Cert.KvDwRefIdeal.Value.run (F := Ideal) m' ρ')
  rw [(hagree c).1, (hagree c).2]
  exact (value m c).symm

end Cert.KvDwProof
-- ==== Proof.Mlp.lean ====
/-
# The products of the MLP

The MLP's forward pass is two products, of the tokens with the first weight and of the squared ReLU with the second; its
backward pass carries the gradient back through each of them, a product with the weight's transpose. The first product
sums 1024 terms, which one grid point does in one go. The others walk the summed axis in blocks, as the weights' gradients
do, and the sum over the blocks is the sum over the axis.
-/
module

public import proofs.«01_k».proof.Defs
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Product

@[expose] public section

set_option maxRecDepth 16384

noncomputable section

open Idealize.ShloMosaic Idealize.ShloMosaic.TcCoe Idealize.SL.Sem

/-! ## The first product of the forward pass: `Up` -/

namespace Cert.UpProof

open Cert.UpIdeal Cert.UpIdeal.Gen Cert.Product

variable (m : (ℓ : Loc nD τ sig) → Buf (Elt Ideal) ℓ)

/-- What a grid point adds to the scratch, at a place of the block. -/
abbrev term (c : Dev nD) (t : Fin cfg0.N) (y : S1024x1024.Idx) (k : Fin 1024) : EReal :=
  (show Vec Ideal S1024x1024 .bf16 from iblk m c 0 t) (ValueIdx.ix2 (y 0) k)
    * (show Vec Ideal S1024x1024 .bf16 from iblk m c 1 t) (ValueIdx.ix2 k (y 1))

/-- The store of a grid point: what the scratch held, and the product of the two blocks. -/
theorem step (v : Vec Ideal S1024x1024 .f32) (c : Dev nD) (t : Fin cfg0.N) (y : S1024x1024.Idx) :
    k0_pay2 v (iblk m c 0 t) (iblk m c 1 t) y = v y + ∑ k, term m c t y k := by
  unfold k0_pay2
  simp only [shapeCast_self]
  exact congrArg (v y + ·) (product_nn _ (iblk m c 0 t) (iblk m c 1 t) y)

theorem block (c : Dev nD) (t : Fin cfg0.N) (y : S1024x1024.Idx) : outsAt0 m c t y = ∑ k, term m c t y k := by
  unfold outsAt0
  frame_out
  exact (step m (k0_pay1 (F := Ideal)) c t y).trans (zero_start _)

theorem places : ∀ t : Fin cfg0.N, win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = t.val % 4 :=
  (by decide +kernel : ∀ t : Fin grid0.N, _)

theorem value (c : Dev nD) : (dats m 0 c).arrAt 2 cfg0.N = UpRefIdeal.Read.val_main_v0 (F := Ideal)
    (m ((c.tc : Thread nD τ).loc main_arg0)) (m ((c.tc : Thread nD τ).loc main_arg1)) := by
  refine (dats m 0 c).arrAt_eq_of_covers 2 _ (by decide +kernel) fun t hf y => ?_
  obtain ⟨p0, p1, p2, p3, p4, p5⟩ := places t
  rw [UpRefIdeal.Read.val_main_v0_apply]
  blk_simp
  rw [after0_2]
  refine (block m c t _).trans (Finset.sum_congr rfl fun k _ => congrArg₂ (· * ·) ?_ ?_)
  · refine congrArg (m ((c.tc : Thread nD τ).loc main_arg0)) (place_ext ?_ ?_)
    · show win0_0.index t 0 * 1024 + 1 * (y 0).val = win0_2.index t 0 * 1024 + 1 * (y 0).val; omega
    · show win0_0.index t 1 * 1024 + 1 * k.val = k.val; omega
  · refine congrArg (m ((c.tc : Thread nD τ).loc main_arg1)) (place_ext ?_ ?_)
    · show win0_1.index t 0 * 1024 + 1 * k.val = k.val; omega
    · show win0_1.index t 1 * 1024 + 1 * (y 1).val = win0_2.index t 1 * 1024 + 1 * (y 1).val; omega

theorem frame : Cert.quiescent_Up := fun m ρ _ => Cert.Up.Gen.frame m ρ
theorem frame_ideal : Cert.quiescent_UpIdeal := fun m ρ _ => Gen.frame m ρ
theorem frame_ref_ideal : Cert.quiescent_UpRefIdeal := fun m ρ _ =>
  (θ_run Cert.UpRefIdeal.defs _ _).mono
    (fun r h => ⟨fun c => (h c).2, sem_eq_zero_of_no_sems (by decide) r.2⟩)
    (Cert.UpRefIdeal.Value.run (F := Ideal) m ρ)

theorem algebraic : Cert.algebraic_UpIdeal_UpRefIdeal := by
  intro m ρ m' ρ' _ hagree
  refine ⟨_, Value.run_blocks (F := Ideal) m ρ, ?_⟩
  refine (θ_run Cert.UpRefIdeal.defs _ _).mono (fun _ h c => ⟨(h c).1.trans ?_, (h c).2⟩)
    (Cert.UpRefIdeal.Value.run (F := Ideal) m' ρ')
  rw [(hagree c).1, (hagree c).2]
  exact (value m c).symm

end Cert.UpProof

/-! ## The second product of the forward pass: `Down` -/

namespace Cert.DownProof

open Cert.DownIdeal Cert.DownIdeal.Gen Cert.Product

variable (m : (ℓ : Loc nD τ sig) → Buf (Elt Ideal) ℓ)

/-- What a grid point adds to the scratch, at a place of the block. -/
abbrev term (c : Dev nD) (n : ℕ) (h : n < cfg0.N) (y : S1024x1024.Idx) (k : Fin 512) : EReal :=
  (show Vec Ideal S1024x512 .bf16 from iblk m c 0 ⟨n, h⟩) (ValueIdx.ix2 (y 0) k)
    * (show Vec Ideal S512x1024 .bf16 from iblk m c 1 ⟨n, h⟩) (ValueIdx.ix2 k (y 1))

/-- The store of a grid point: what the scratch held, and the product of the two blocks. -/
theorem step (v : Vec Ideal S1024x1024 .f32) (c : Dev nD) (n : ℕ) (h : n < cfg0.N) (y : S1024x1024.Idx) :
    k0_pay2 v (iblk m c 0 ⟨n, h⟩) (iblk m c 1 ⟨n, h⟩) y = v y + ∑ k, term m c n h y k := by
  unfold k0_pay2
  simp only [shapeCast_self]
  exact congrArg (v y + ·) (product_nn _ (iblk m c 0 ⟨n, h⟩) (iblk m c 1 ⟨n, h⟩) y)

theorem first (c : Dev nD) (n : ℕ) (h : n < cfg0.N) (y : S1024x1024.Idx) (h0 : n % 8 = 0) :
    (outsAt0 m c n h).2 y = ∑ k, term m c n h y k := by
  rw [outsAt0_A m c ⟨n, h⟩ h0 (by dsimp only; omega)]
  frame_out
  exact (step m (k0_pay1 (F := Ideal)) c n h y).trans (zero_start _)

theorem later (c : Dev nD) (n : ℕ) (h : n + 1 < cfg0.N) (y : S1024x1024.Idx) (h0 : (n + 1) % 8 ≠ 0) :
    (outsAt0 m c (n + 1) h).2 y = (outsAt0 m c n (Nat.lt_of_succ_lt h)).2 y + ∑ k, term m c (n + 1) h y k := by
  by_cases h1 : (n + 1) % 8 = 7
  · rw [outsAt0_C m c ⟨n + 1, h⟩ h0 h1]
    frame_out [read_unread_whole]
    exact step m _ c (n + 1) h y
  · rw [outsAt0_B m c ⟨n + 1, h⟩ h0 h1]
    frame_out [read_unread_whole]
    exact step m _ c (n + 1) h y

theorem last (c : Dev nD) (n : ℕ) (h : n < cfg0.N) (h1 : n % 8 = 7) : (outsAt0 m c n h).1 = (outsAt0 m c n h).2 := by
  rw [outsAt0_C m c ⟨n, h⟩ (by dsimp only; omega) h1]
  frame_out

theorem places : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0 :=
  (by decide +kernel : ∀ t : Fin grid0.N, _)

theorem value (c : Dev nD) : Value.G2 m c = DownRefIdeal.Read.val_main_v0 (F := Ideal)
    (m ((c.tc : Thread nD τ).loc main_arg0)) (m ((c.tc : Thread nD τ).loc main_arg1)) := by
  funext i
  have hN : cfg0.N = 64 := N_0
  have i0 : (i 0).val < 8192 := (i 0).isLt
  have i1 : (i 1).val < 1024 := (i 1).isLt
  have hr : Value.run2Of i = 1 * ((i 0).val / 1024) + (i 1).val / 1024 := by
    show 1 * ((i 0).val / 1024 - 0) + 1 * ((i 1).val / 1024 - 0) = _
    omega
  have hp : Value.pt2Of i < cfg0.N := by
    show 8 * Value.run2Of i + 7 < _
    omega
  rw [DownRefIdeal.Read.val_main_v0_apply]
  unfold Value.G2
  rw [dif_pos hp, ← Value.outsAt0_sweep m c _ hp, last m c _ hp (by show (8 * Value.run2Of i + 7) % 8 = 7; omega)]
  refine run_sum (nk := 8) (tk := 512) (by decide) rfl (fun n h => (outsAt0 m c n h).2) (term m c) (first m c) (later m c)
    _ (Value.run2Of i) (Value.loc2Of i) hp fun s k => ?_
  obtain ⟨p0, p1, p2, p3⟩ := places ⟨8 * Value.run2Of i + s.val, by omega⟩
  dsimp only at p0 p1 p2 p3
  refine congrArg₂ (· * ·) ?_ ?_
  · refine congrArg (m ((c.tc : Thread nD τ).loc main_arg0)) (place_ext ?_ ?_)
    · show win0_0.index _ 0 * 1024 + 1 * ((i 0).val % 1024) = (i 0).val; omega
    · show win0_0.index _ 1 * 512 + 1 * k.val = 512 * s.val + k.val; omega
  · refine congrArg (m ((c.tc : Thread nD τ).loc main_arg1)) (place_ext ?_ ?_)
    · show win0_1.index _ 0 * 512 + 1 * k.val = 512 * s.val + k.val; omega
    · show win0_1.index _ 1 * 1024 + 1 * ((i 1).val % 1024) = (i 1).val; omega

theorem frame : Cert.quiescent_Down := fun m ρ _ => Cert.Down.Gen.frame m ρ
theorem frame_ideal : Cert.quiescent_DownIdeal := fun m ρ _ => Gen.frame m ρ
theorem frame_ref_ideal : Cert.quiescent_DownRefIdeal := fun m ρ _ =>
  (θ_run Cert.DownRefIdeal.defs _ _).mono
    (fun r h => ⟨fun c => (h c).2, sem_eq_zero_of_no_sems (by decide) r.2⟩)
    (Cert.DownRefIdeal.Value.run (F := Ideal) m ρ)

theorem algebraic : Cert.algebraic_DownIdeal_DownRefIdeal := by
  intro m ρ m' ρ' _ hagree
  refine ⟨_, Value.run (F := Ideal) m ρ, ?_⟩
  refine (θ_run Cert.DownRefIdeal.defs _ _).mono (fun _ h c => ⟨(h c).1.trans ?_, (h c).2⟩)
    (Cert.DownRefIdeal.Value.run (F := Ideal) m' ρ')
  rw [(hagree c).1, (hagree c).2]
  exact (value m c).symm

end Cert.DownProof

/-! ## Back through the second product: `DownDx` -/

namespace Cert.DownDxProof

open Cert.DownDxIdeal Cert.DownDxIdeal.Gen Cert.Product

variable (m : (ℓ : Loc nD τ sig) → Buf (Elt Ideal) ℓ)

/-- What a grid point adds to the scratch, at a place of the block. -/
abbrev term (c : Dev nD) (n : ℕ) (h : n < cfg0.N) (y : S1024x1024.Idx) (k : Fin 512) : EReal :=
  (show Vec Ideal S1024x512 .f32 from iblk m c 0 ⟨n, h⟩) (ValueIdx.ix2 (y 0) k)
    * (show Vec Ideal S1024x512 .bf16 from iblk m c 1 ⟨n, h⟩) (ValueIdx.ix2 (y 1) k)

/-- The store of a grid point: what the scratch held, and the product of the two blocks. -/
theorem step (v : Vec Ideal S1024x1024 .f32) (c : Dev nD) (n : ℕ) (h : n < cfg0.N) (y : S1024x1024.Idx) :
    k0_pay2 v (iblk m c 0 ⟨n, h⟩) (iblk m c 1 ⟨n, h⟩) y = v y + ∑ k, term m c n h y k := by
  unfold k0_pay2
  simp only [shapeCast_self]
  exact congrArg (v y + ·) (product_nt _ (truncf .bf16 (iblk m c 0 ⟨n, h⟩) bitsLt_bf16_f32) (iblk m c 1 ⟨n, h⟩) y)

theorem first (c : Dev nD) (n : ℕ) (h : n < cfg0.N) (y : S1024x1024.Idx) (h0 : n % 2 = 0) :
    (outsAt0 m c n h).2 y = ∑ k, term m c n h y k := by
  rw [outsAt0_A m c ⟨n, h⟩ h0 (by dsimp only; omega)]
  frame_out
  exact (step m (k0_pay1 (F := Ideal)) c n h y).trans (zero_start _)

theorem later (c : Dev nD) (n : ℕ) (h : n + 1 < cfg0.N) (y : S1024x1024.Idx) (h0 : (n + 1) % 2 ≠ 0) :
    (outsAt0 m c (n + 1) h).2 y = (outsAt0 m c n (Nat.lt_of_succ_lt h)).2 y + ∑ k, term m c (n + 1) h y k := by
  rw [outsAt0_B m c ⟨n + 1, h⟩ h0 (by dsimp only; omega)]
  frame_out [read_unread_whole]
  exact step m _ c (n + 1) h y

theorem last (c : Dev nD) (n : ℕ) (h : n < cfg0.N) (h1 : n % 2 = 1) : (outsAt0 m c n h).1 = (outsAt0 m c n h).2 := by
  rw [outsAt0_B m c ⟨n, h⟩ (by dsimp only; omega) h1]
  frame_out

theorem places : ∀ t : Fin cfg0.N, win0_0.index t (0 : Fin 2) = t.val / 8 ∧ win0_0.index t (1 : Fin 2) = t.val % 2
    ∧ win0_1.index t (0 : Fin 2) = t.val / 2 % 4 ∧ win0_1.index t (1 : Fin 2) = t.val % 2 :=
  (by decide +kernel : ∀ t : Fin grid0.N, _)

theorem value (c : Dev nD) : Value.G2 m c = DownDxRefIdeal.Read.val_main_v2 (F := Ideal)
    (m ((c.tc : Thread nD τ).loc main_arg0)) (m ((c.tc : Thread nD τ).loc main_arg1)) := by
  funext i
  have hN : cfg0.N = 64 := N_0
  have i0 : (i 0).val < 8192 := (i 0).isLt
  have i1 : (i 1).val < 4096 := (i 1).isLt
  have hr : Value.run2Of i = 4 * ((i 0).val / 1024) + (i 1).val / 1024 := by
    show 4 * ((i 0).val / 1024 - 0) + 1 * ((i 1).val / 1024 - 0) = _
    omega
  have hp : Value.pt2Of i < cfg0.N := by
    show 2 * Value.run2Of i + 1 < _
    omega
  rw [DownDxRefIdeal.Read.val_main_v2_apply]
  unfold Value.G2
  rw [dif_pos hp, ← Value.outsAt0_sweep m c _ hp, last m c _ hp (by show (2 * Value.run2Of i + 1) % 2 = 1; omega)]
  refine run_sum (nk := 2) (tk := 512) (by decide) rfl (fun n h => (outsAt0 m c n h).2) (term m c) (first m c) (later m c)
    _ (Value.run2Of i) (Value.loc2Of i) hp fun s k => ?_
  obtain ⟨p0, p1, p2, p3⟩ := places ⟨2 * Value.run2Of i + s.val, by omega⟩
  dsimp only at p0 p1 p2 p3
  refine congrArg₂ (· * ·) ?_ ?_
  · refine congrArg (m ((c.tc : Thread nD τ).loc main_arg0)) (place_ext ?_ ?_)
    · show win0_0.index _ 0 * 1024 + 1 * ((i 0).val % 1024) = (i 0).val; omega
    · show win0_0.index _ 1 * 512 + 1 * k.val = 512 * s.val + k.val; omega
  · rw [DownDxRefIdeal.Read.val_main_v1_apply, DownDxRefIdeal.Read.val_main_v0_apply]
    refine congrArg (m ((c.tc : Thread nD τ).loc main_arg1)) (place_ext ?_ ?_)
    · show win0_1.index _ 0 * 1024 + 1 * ((i 1).val % 1024) = (i 1).val; omega
    · show win0_1.index _ 1 * 512 + 1 * k.val = 512 * s.val + k.val; omega

theorem frame : Cert.quiescent_DownDx := fun m ρ _ => Cert.DownDx.Gen.frame m ρ
theorem frame_ideal : Cert.quiescent_DownDxIdeal := fun m ρ _ => Gen.frame m ρ
theorem frame_ref_ideal : Cert.quiescent_DownDxRefIdeal := fun m ρ _ =>
  (θ_run Cert.DownDxRefIdeal.defs _ _).mono
    (fun r h => ⟨fun c => (h c).2, sem_eq_zero_of_no_sems (by decide) r.2⟩)
    (Cert.DownDxRefIdeal.Value.run (F := Ideal) m ρ)

theorem algebraic : Cert.algebraic_DownDxIdeal_DownDxRefIdeal := by
  intro m ρ m' ρ' _ hagree
  refine ⟨_, Value.run (F := Ideal) m ρ, ?_⟩
  refine (θ_run Cert.DownDxRefIdeal.defs _ _).mono (fun _ h c => ⟨(h c).1.trans ?_, (h c).2⟩)
    (Cert.DownDxRefIdeal.Value.run (F := Ideal) m' ρ')
  rw [(hagree c).1, (hagree c).2]
  exact (value m c).symm

end Cert.DownDxProof

/-! ## Back through the first product: `UpDx` -/

namespace Cert.UpDxProof

open Cert.UpDxIdeal Cert.UpDxIdeal.Gen Cert.Product

variable (m : (ℓ : Loc nD τ sig) → Buf (Elt Ideal) ℓ)

/-- What a grid point adds to the scratch, at a place of the block. -/
abbrev term (c : Dev nD) (n : ℕ) (h : n < cfg0.N) (y : S1024x1024.Idx) (k : Fin 512) : EReal :=
  (show Vec Ideal S1024x512 .bf16 from iblk m c 0 ⟨n, h⟩) (ValueIdx.ix2 (y 0) k)
    * (show Vec Ideal S1024x512 .bf16 from iblk m c 1 ⟨n, h⟩) (ValueIdx.ix2 (y 1) k)

/-- The store of a grid point: what the scratch held, and the product of the two blocks. -/
theorem step (v : Vec Ideal S1024x1024 .f32) (c : Dev nD) (n : ℕ) (h : n < cfg0.N) (y : S1024x1024.Idx) :
    k0_pay2 v (iblk m c 0 ⟨n, h⟩) (iblk m c 1 ⟨n, h⟩) y = v y + ∑ k, term m c n h y k := by
  unfold k0_pay2
  simp only [shapeCast_self]
  exact congrArg (v y + ·) (product_nt _ (iblk m c 0 ⟨n, h⟩) (iblk m c 1 ⟨n, h⟩) y)

theorem first (c : Dev nD) (n : ℕ) (h : n < cfg0.N) (y : S1024x1024.Idx) (h0 : n % 8 = 0) :
    (outsAt0 m c n h).2 y = ∑ k, term m c n h y k := by
  rw [outsAt0_A m c ⟨n, h⟩ h0 (by dsimp only; omega)]
  frame_out
  exact (step m (k0_pay1 (F := Ideal)) c n h y).trans (zero_start _)

theorem later (c : Dev nD) (n : ℕ) (h : n + 1 < cfg0.N) (y : S1024x1024.Idx) (h0 : (n + 1) % 8 ≠ 0) :
    (outsAt0 m c (n + 1) h).2 y = (outsAt0 m c n (Nat.lt_of_succ_lt h)).2 y + ∑ k, term m c (n + 1) h y k := by
  by_cases h1 : (n + 1) % 8 = 7
  · rw [outsAt0_C m c ⟨n + 1, h⟩ h0 h1]
    frame_out [read_unread_whole]
    exact step m _ c (n + 1) h y
  · rw [outsAt0_B m c ⟨n + 1, h⟩ h0 h1]
    frame_out [read_unread_whole]
    exact step m _ c (n + 1) h y

theorem last (c : Dev nD) (n : ℕ) (h : n < cfg0.N) (h1 : n % 8 = 7) : (outsAt0 m c n h).1 = (outsAt0 m c n h).2 := by
  rw [outsAt0_C m c ⟨n, h⟩ (by dsimp only; omega) h1]
  frame_out

theorem places : ∀ t : Fin cfg0.N, win0_0.index t (0 : Fin 2) = t.val / 8 ∧ win0_0.index t (1 : Fin 2) = t.val % 8
    ∧ win0_1.index t (0 : Fin 2) = 0 ∧ win0_1.index t (1 : Fin 2) = t.val % 8 :=
  (by decide +kernel : ∀ t : Fin grid0.N, _)

theorem value (c : Dev nD) : Value.G2 m c = UpDxRefIdeal.Read.val_main_v3 (F := Ideal)
    (m ((c.tc : Thread nD τ).loc main_arg0)) (m ((c.tc : Thread nD τ).loc main_arg1)) := by
  funext i
  have hN : cfg0.N = 64 := N_0
  have i0 : (i 0).val < 8192 := (i 0).isLt
  have i1 : (i 1).val < 1024 := (i 1).isLt
  have hr : Value.run2Of i = 1 * ((i 0).val / 1024) + (i 1).val / 1024 := by
    show 1 * ((i 0).val / 1024 - 0) + 1 * ((i 1).val / 1024 - 0) = _
    omega
  have hp : Value.pt2Of i < cfg0.N := by
    show 8 * Value.run2Of i + 7 < _
    omega
  rw [UpDxRefIdeal.Read.val_main_v3_apply]
  unfold Value.G2
  rw [dif_pos hp, ← Value.outsAt0_sweep m c _ hp, last m c _ hp (by show (8 * Value.run2Of i + 7) % 8 = 7; omega)]
  refine run_sum (nk := 8) (tk := 512) (by decide) rfl (fun n h => (outsAt0 m c n h).2) (term m c) (first m c) (later m c)
    _ (Value.run2Of i) (Value.loc2Of i) hp fun s k => ?_
  obtain ⟨p0, p1, p2, p3⟩ := places ⟨8 * Value.run2Of i + s.val, by omega⟩
  dsimp only at p0 p1 p2 p3
  refine congrArg₂ (· * ·) ?_ ?_
  · refine congrArg (m ((c.tc : Thread nD τ).loc main_arg0)) (place_ext ?_ ?_)
    · show win0_0.index _ 0 * 1024 + 1 * ((i 0).val % 1024) = (i 0).val; omega
    · show win0_0.index _ 1 * 512 + 1 * k.val = 512 * s.val + k.val; omega
  · rw [UpDxRefIdeal.Read.val_main_v2_apply, UpDxRefIdeal.Read.val_main_v1_apply]
    refine congrArg (m ((c.tc : Thread nD τ).loc main_arg1)) (place_ext ?_ ?_)
    · show win0_1.index _ 0 * 1024 + 1 * ((i 1).val % 1024) = (i 1).val; omega
    · show win0_1.index _ 1 * 512 + 1 * k.val = 512 * s.val + k.val; omega

theorem frame : Cert.quiescent_UpDx := fun m ρ _ => Cert.UpDx.Gen.frame m ρ
theorem frame_ideal : Cert.quiescent_UpDxIdeal := fun m ρ _ => Gen.frame m ρ
theorem frame_ref_ideal : Cert.quiescent_UpDxRefIdeal := fun m ρ _ =>
  (θ_run Cert.UpDxRefIdeal.defs _ _).mono
    (fun r h => ⟨fun c => (h c).2, sem_eq_zero_of_no_sems (by decide) r.2⟩)
    (Cert.UpDxRefIdeal.Value.run (F := Ideal) m ρ)

theorem algebraic : Cert.algebraic_UpDxIdeal_UpDxRefIdeal := by
  intro m ρ m' ρ' _ hagree
  refine ⟨_, Value.run (F := Ideal) m ρ, ?_⟩
  refine (θ_run Cert.UpDxRefIdeal.defs _ _).mono (fun _ h c => ⟨(h c).1.trans ?_, (h c).2⟩)
    (Cert.UpDxRefIdeal.Value.run (F := Ideal) m' ρ')
  rw [(hagree c).1, (hagree c).2]
  exact (value m c).symm

end Cert.UpDxProof

end
-- ==== Proof.RowBlocks.lean ====
/-
# Blocks of rows

A call that treats each row alone walks its arrays in blocks of rows. What a grid point computes of its block is what the
reference computes of the whole array, at the rows of the block. This module says so of one operation after another: if
the operands of an operation are rows `off`, `off + 1`, … of the reference's operands, then so is its result of the
reference's result. A call's body is a chain of such operations.

A gain's gradient is a sum over all rows. It is accumulated over the grid, block after block.
-/
module

public import proofs.«01_k».proof.Defs
public import proofs.«01_k».proof.Proof.Product
public import Idealize.ShloMosaic.Lib.Pointwise.Reduce

@[expose] public section

noncomputable section

open Idealize.ShloMosaic Idealize.ShloMosaic.TcCoe Idealize.SL.Sem

namespace Cert.RowBlocks

open scoped BigOperators
open Cert.Product

variable {b B w off : ℕ}

/-- `a` is the rows of `A` from `off` on. -/
def Rows (off : ℕ) (a : (⟨2, ![b, w]⟩ : Shape).Idx → EReal) (A : (⟨2, ![B, w]⟩ : Shape).Idx → EReal) : Prop :=
  ∀ y Y, (Y 0).val = off + (y 0).val → (Y 1).val = (y 1).val → a y = A Y

/-- `v` is the entries of `V` from `off` on. -/
def Entries (off : ℕ) (v : (⟨1, ![b]⟩ : Shape).Idx → EReal) (V : (⟨1, ![B]⟩ : Shape).Idx → EReal) : Prop :=
  ∀ y Y, (Y 0).val = off + (y 0).val → v y = V Y

/-- A block read from its array through a map of places that keeps the columns and shifts the rows. -/
theorem Rows.placed {off i j : ℕ} {a : (⟨2, ![b, w]⟩ : Shape).Idx → EReal} {A : (⟨2, ![B, w]⟩ : Shape).Idx → EReal}
    {e : (⟨2, ![b, w]⟩ : Shape).Idx → (⟨2, ![B, w]⟩ : Shape).Idx} (h : ∀ y, a y = A (e y))
    (h0 : ∀ y, (e y 0).val = i * b + 1 * (y 0).val) (h1 : ∀ y, (e y 1).val = j * w + 1 * (y 1).val)
    (hi : i * b = off) (hj : j = 0) : Rows off a A := by
  intro y Y e0 e1
  subst hj
  refine (h y).trans (congrArg A (place_ext ?_ ?_))
  · rw [h0, hi, Nat.one_mul, e0]
  · rw [h1, Nat.zero_mul, Nat.zero_add, Nat.one_mul, e1]

/-- An array that its window takes whole. -/
theorem whole {i j : ℕ} {a A : (⟨2, ![b, w]⟩ : Shape).Idx → EReal} {e : (⟨2, ![b, w]⟩ : Shape).Idx → (⟨2, ![b, w]⟩ : Shape).Idx}
    (h : ∀ y, a y = A (e y)) (h0 : ∀ y, (e y 0).val = i * b + 1 * (y 0).val)
    (h1 : ∀ y, (e y 1).val = j * w + 1 * (y 1).val) (hi : i = 0) (hj : j = 0) : a = A := by
  funext y
  subst hi hj
  refine (h y).trans (congrArg A (place_ext ?_ ?_))
  · rw [h0, Nat.zero_mul, Nat.zero_add, Nat.one_mul]
  · rw [h1, Nat.zero_mul, Nat.zero_add, Nat.one_mul]

/-! ## Operations that act place by place -/

section Pointwise

variable {a a' : FVec Ideal ⟨2, ![b, w]⟩ .f32} {A A' : FVec Ideal ⟨2, ![B, w]⟩ .f32}

theorem Rows.add (h : Rows off a A) (h' : Rows off a' A') : Rows off (addf a a') (addf A A') :=
  fun y Y h0 h1 => congrArg₂ (FloatOps.addf (F := Ideal)) (h y Y h0 h1) (h' y Y h0 h1)

theorem Rows.sub (h : Rows off a A) (h' : Rows off a' A') : Rows off (subf a a') (subf A A') :=
  fun y Y h0 h1 => congrArg₂ (FloatOps.subf (F := Ideal)) (h y Y h0 h1) (h' y Y h0 h1)

theorem Rows.mul (h : Rows off a A) (h' : Rows off a' A') : Rows off (mulf a a') (mulf A A') :=
  fun y Y h0 h1 => congrArg₂ (FloatOps.mulf (F := Ideal)) (h y Y h0 h1) (h' y Y h0 h1)

/-- The TensorCore's quotient and the host's are one real function. -/
theorem Rows.div (h : Rows off a A) (h' : Rows off a' A') : Rows off (divf a a') (Host.divf A A') :=
  fun y Y h0 h1 => congrArg₂ Ideal.div (h y Y h0 h1) (h' y Y h0 h1)

theorem Rows.rsqrt (h : Rows off a A) : Rows off (Idealize.ShloMosaic.rsqrt a) (Host.rsqrt A) :=
  fun y Y h0 h1 => congrArg Ideal.rsqrt (h y Y h0 h1)

theorem Rows.trunc (h : Rows off a A) (hb hB) : Rows off (truncf .bf16 a hb) (truncf .bf16 A hB) :=
  fun y Y h0 h1 => h y Y h0 h1

/-- One number everywhere. -/
theorem Rows.const (k : BitVec 32) (hB : (⟨0, ![]⟩ : Shape).BroadcastsInDim ⟨2, ![B, w]⟩ ![]) :
    Rows off (broadcast ⟨2, ![b, w]⟩ (Scalar.ofBits (F := Ideal) .f32 k))
      (broadcastInDim ⟨2, ![B, w]⟩ ![] hB (constant (F := Ideal) ⟨0, ![]⟩ .f32 k)) :=
  fun _ _ _ _ => rfl

/-- A change of shape to the same shape. -/
theorem Rows.cast (h : Rows off a A) (hb hB) : Rows off (shapeCast ⟨2, ![b, w]⟩ a hb) (shapeCast ⟨2, ![B, w]⟩ A hB) := by
  rw [shapeCast_self, shapeCast_self]; exact h

end Pointwise

/-! ## Sums over a row, and back to the row -/

/-- The sum over each row. -/
theorem Rows.sum {a : FVec Ideal ⟨2, ![b, w]⟩ .f32} {A : FVec Ideal ⟨2, ![B, w]⟩ .f32} (h : Rows off a A) (hb hφ hacc)
    (hB : (⟨2, ![B, w]⟩ : Shape).ReducesTo [1] ⟨1, ![B]⟩) (hu) :
    Entries off (multiReduction .add [1] ⟨1, ![b]⟩ a 0x00000000#32 hb hφ hacc)
      (Host.reduceAdd A (constant (F := Ideal) ⟨0, ![]⟩ .f32 0x00000000#32) hB hu) := by
  intro y Y h0
  rw [multiReduction_add_apply, Host.reduceAdd_apply, Ideal.reduceAdd_def, Ideal.hostReduceAdd_def,
    Ideal.reduceAdd_r2_a1, Ideal.hostReduceAdd_r2_a1]
  exact (Finset.sum_congr rfl fun k _ => h _ _ h0 rfl).trans (zero_start _).symm

section Layout

variable {v : FVec Ideal ⟨1, ![b]⟩ .f32} {V : FVec Ideal ⟨1, ![B]⟩ .f32}
  {a : FVec Ideal ⟨2, ![b, 1]⟩ .f32} {A : FVec Ideal ⟨2, ![B, 1]⟩ .f32}

theorem column (hb : (⟨1, ![b]⟩ : Shape).ShapeCasts ⟨2, ![b, 1]⟩) (y : (⟨2, ![b, 1]⟩ : Shape).Idx) :
    shapeCast ⟨2, ![b, 1]⟩ v hb y = v (ValueIdx.ix1 (y 0)) :=
  shapeCast_apply v hb y _ (by
    rw [Shape.rowMajor_val_one, Shape.rowMajor_val_two]
    show (y 0).val = (y 0).val * 1 + (y 1).val
    have : (y 1).val < 1 := (y 1).isLt
    omega)

/-- A column of row sums, where the reference reshapes too. -/
theorem Entries.column (h : Entries off v V) (hb : (⟨1, ![b]⟩ : Shape).ShapeCasts ⟨2, ![b, 1]⟩)
    (hB : (⟨1, ![B]⟩ : Shape).ShapeCasts ⟨2, ![B, 1]⟩) : Rows off (shapeCast ⟨2, ![b, 1]⟩ v hb) (shapeCast ⟨2, ![B, 1]⟩ V hB) :=
  fun y Y h0 _ => (RowBlocks.column hb y).trans ((h _ _ h0).trans (RowBlocks.column hB Y).symm)

theorem along (hB : (⟨1, ![B]⟩ : Shape).BroadcastsInDim ⟨2, ![B, w]⟩ ![0]) (Y : (⟨2, ![B, w]⟩ : Shape).Idx) :
    broadcastInDim ⟨2, ![B, w]⟩ ![0] hB V Y = V (ValueIdx.ix1 (Y 0)) :=
  broadcastInDim_apply _ hB V Y _ fun c => by
    match c with
    | ⟨0, _⟩ =>
      show (Y 0).val = if B = 1 then 0 else (Y 0).val
      have : (Y 0).val < B := (Y 0).isLt
      split <;> omega

/-- A column of row sums, where the reference broadcasts. -/
theorem Entries.column' (h : Entries off v V) (hb : (⟨1, ![b]⟩ : Shape).ShapeCasts ⟨2, ![b, 1]⟩)
    (hB : (⟨1, ![B]⟩ : Shape).BroadcastsInDim ⟨2, ![B, 1]⟩ ![0]) :
    Rows off (shapeCast ⟨2, ![b, 1]⟩ v hb) (broadcastInDim ⟨2, ![B, 1]⟩ ![0] hB V) :=
  fun y Y h0 _ => (RowBlocks.column hb y).trans ((h _ _ h0).trans (along hB Y).symm)

theorem across {b w : ℕ} {a : FVec Ideal ⟨2, ![b, 1]⟩ .f32} (hb : (⟨2, ![b, 1]⟩ : Shape).Broadcasts ⟨2, ![b, w]⟩)
    (y : (⟨2, ![b, w]⟩ : Shape).Idx) : broadcastTo ⟨2, ![b, w]⟩ a hb y = a (ValueIdx.ix2 (y 0) 0) :=
  broadcastTo_apply a hb y _ fun c => by
    match c with
    | ⟨0, _⟩ =>
      show (y 0).val = if b = 1 then 0 else (y 0).val
      have : (y 0).val < b := (y 0).isLt
      split <;> omega
    | ⟨1, _⟩ => rfl

/-- A column repeated across. -/
theorem Rows.across (h : Rows off a A) (hb : (⟨2, ![b, 1]⟩ : Shape).Broadcasts ⟨2, ![b, w]⟩)
    (hB : (⟨2, ![B, 1]⟩ : Shape).BroadcastsInDim ⟨2, ![B, w]⟩ ![0, 1]) :
    Rows off (broadcastTo ⟨2, ![b, w]⟩ a hb) (broadcastInDim ⟨2, ![B, w]⟩ ![0, 1] hB A) := by
  intro y Y h0 _
  refine (RowBlocks.across hb y).trans ((h (ValueIdx.ix2 (y 0) 0) (ValueIdx.ix2 (Y 0) 0) h0 rfl).trans ?_)
  refine (broadcastInDim_apply _ hB A Y _ fun c => ?_).symm
  match c with
  | ⟨0, _⟩ =>
    show (Y 0).val = if B = 1 then 0 else (Y 0).val
    have : (Y 0).val < B := (Y 0).isLt
    split <;> omega
  | ⟨1, _⟩ => rfl

/-- A column of row sums repeated across, where the reference repeats the sums themselves. -/
theorem Entries.across (h : Entries off v V) (hb : (⟨1, ![b]⟩ : Shape).ShapeCasts ⟨2, ![b, 1]⟩)
    (hb' : (⟨2, ![b, 1]⟩ : Shape).Broadcasts ⟨2, ![b, w]⟩) (hB : (⟨1, ![B]⟩ : Shape).BroadcastsInDim ⟨2, ![B, w]⟩ ![0]) :
    Rows off (broadcastTo ⟨2, ![b, w]⟩ (shapeCast ⟨2, ![b, 1]⟩ v hb) hb') (broadcastInDim ⟨2, ![B, w]⟩ ![0] hB V) :=
  fun y Y h0 _ => (RowBlocks.across hb' y).trans
    ((RowBlocks.column hb _).trans ((h (ValueIdx.ix1 (y 0)) (ValueIdx.ix1 (Y 0)) h0).trans (along hB Y).symm))

end Layout

/-- A gain repeated down the rows. -/
theorem gain {g G : FVec Ideal ⟨2, ![1, w]⟩ .f32} (h : g = G) (hb : (⟨2, ![1, w]⟩ : Shape).Broadcasts ⟨2, ![b, w]⟩)
    (hB : (⟨2, ![1, w]⟩ : Shape).BroadcastsInDim ⟨2, ![B, w]⟩ ![0, 1]) :
    Rows off (broadcastTo ⟨2, ![b, w]⟩ g hb) (broadcastInDim ⟨2, ![B, w]⟩ ![0, 1] hB G) := by
  subst h
  intro y Y _ h1
  have hy : (y 1).val < w := (y 1).isLt
  refine (broadcastTo_apply g hb y (ValueIdx.ix2 0 (y 1)) fun c => ?_).trans
    (broadcastInDim_apply _ hB g Y (ValueIdx.ix2 0 (y 1)) fun c => ?_).symm
  · match c with
    | ⟨0, _⟩ => rfl
    | ⟨1, _⟩ =>
      show (y 1).val = if w = 1 then 0 else (y 1).val
      split <;> omega
  · match c with
    | ⟨0, _⟩ => rfl
    | ⟨1, _⟩ =>
      show (y 1).val = if w = 1 then 0 else (Y 1).val
      split <;> omega

/-! ## Sums down the columns -/

theorem row_of (v : FVec Ideal ⟨1, ![w]⟩ .f32) (hb : (⟨1, ![w]⟩ : Shape).ShapeCasts ⟨2, ![1, w]⟩)
    (y : (⟨2, ![1, w]⟩ : Shape).Idx) : shapeCast ⟨2, ![1, w]⟩ v hb y = v (ValueIdx.ix1 (y 1)) :=
  shapeCast_apply v hb y _ (by
    rw [Shape.rowMajor_val_one, Shape.rowMajor_val_two]
    show (y 1).val = (y 0).val * w + (y 1).val
    have : (y 0).val < 1 := (y 0).isLt
    rw [show (y 0).val = 0 by omega]; omega)

/-- What a block adds to a gain's gradient. -/
theorem sum_block (a : FVec Ideal ⟨2, ![b, w]⟩ .f32) (hr hφ hacc) (hb : (⟨1, ![w]⟩ : Shape).ShapeCasts ⟨2, ![1, w]⟩)
    (y : (⟨2, ![1, w]⟩ : Shape).Idx) :
    shapeCast ⟨2, ![1, w]⟩ (multiReduction .add [0] ⟨1, ![w]⟩ a 0x00000000#32 hr hφ hacc) hb y
      = ∑ k : Fin b, a (ValueIdx.ix2 k (y 1)) := by
  rw [row_of, multiReduction_add_apply, Ideal.reduceAdd_def, Ideal.reduceAdd_r2_a0]
  exact Finset.sum_congr rfl fun _ _ => congrArg a (place_ext rfl rfl)

/-- A block's part added to what the accumulator held. -/
theorem add_block (v : FVec Ideal ⟨2, ![1, w]⟩ .f32) (hv : (⟨2, ![1, w]⟩ : Shape).ShapeCasts ⟨2, ![1, w]⟩)
    (a : FVec Ideal ⟨2, ![b, w]⟩ .f32) (hr hφ hacc) (hb : (⟨1, ![w]⟩ : Shape).ShapeCasts ⟨2, ![1, w]⟩)
    (y : (⟨2, ![1, w]⟩ : Shape).Idx) :
    addf (shapeCast ⟨2, ![1, w]⟩ v hv)
        (shapeCast ⟨2, ![1, w]⟩ (multiReduction .add [0] ⟨1, ![w]⟩ a 0x00000000#32 hr hφ hacc) hb) y
      = v y + ∑ k : Fin b, a (ValueIdx.ix2 k (y 1)) := by
  rw [shapeCast_self]
  exact congrArg (v y + ·) (sum_block a hr hφ hacc hb y)

/-- The first block's part, added to zeros. -/
theorem first_block (hv : (⟨2, ![1, w]⟩ : Shape).ShapeCasts ⟨2, ![1, w]⟩)
    (a : FVec Ideal ⟨2, ![b, w]⟩ .f32) (hr hφ hacc) (hb : (⟨1, ![w]⟩ : Shape).ShapeCasts ⟨2, ![1, w]⟩)
    (y : (⟨2, ![1, w]⟩ : Shape).Idx) :
    addf (shapeCast ⟨2, ![1, w]⟩ (broadcast ⟨2, ![1, w]⟩ (Scalar.ofBits (F := Ideal) .f32 0x00000000#32)) hv)
        (shapeCast ⟨2, ![1, w]⟩ (multiReduction .add [0] ⟨1, ![w]⟩ a 0x00000000#32 hr hφ hacc) hb) y
      = ∑ k : Fin b, a (ValueIdx.ix2 k (y 1)) := by
  rw [add_block]
  refine (congrArg (· + _) ?_).trans (zero_add _)
  exact Ideal.ofBits_zero_f32

/-- A gain's gradient on the host. -/
theorem sum_host (A : FVec Ideal ⟨2, ![B, w]⟩ .f32) (hr : (⟨2, ![B, w]⟩ : Shape).ReducesTo [0] ⟨1, ![w]⟩) (hu)
    (hb : (⟨1, ![w]⟩ : Shape).ShapeCasts ⟨2, ![1, w]⟩) (y : (⟨2, ![1, w]⟩ : Shape).Idx) :
    shapeCast ⟨2, ![1, w]⟩ (Host.reduceAdd A (constant (F := Ideal) ⟨0, ![]⟩ .f32 0x00000000#32) hr hu) hb y
      = ∑ k : Fin B, A (ValueIdx.ix2 k (y 1)) := by
  rw [row_of, Host.reduceAdd_apply, Ideal.hostReduceAdd_def, Ideal.hostReduceAdd_r2_a0]
  exact zero_start _

/-- A running sum that starts at the first block and adds each later one is, after the last block, the sum over all rows. -/
theorem sum_blocks {N : ℕ} (hN : 0 < N) (hB : N * b = B) (acc : (n : ℕ) → n < N → (⟨2, ![1, w]⟩ : Shape).Idx → EReal)
    (a : (n : ℕ) → n < N → FVec Ideal ⟨2, ![b, w]⟩ .f32) (A : FVec Ideal ⟨2, ![B, w]⟩ .f32)
    (hA : ∀ n h, Rows (b * n) (a n h) A) (h0 : ∀ y, acc 0 hN y = ∑ k, a 0 hN (ValueIdx.ix2 k (y 1)))
    (hs : ∀ n (h : n + 1 < N) y, acc (n + 1) h y = acc n (Nat.lt_of_succ_lt h) y + ∑ k, a (n + 1) h (ValueIdx.ix2 k (y 1)))
    (h : N - 1 < N) (y : (⟨2, ![1, w]⟩ : Shape).Idx) : acc (N - 1) h y = ∑ k : Fin B, A (ValueIdx.ix2 k (y 1)) := by
  have key := run_sum (nk := N) (tk := b) hN hB acc (fun n h y k => a n h (ValueIdx.ix2 k (y 1)))
    (fun n h y hn => by
      have : n = 0 := by rwa [Nat.mod_eq_of_lt h] at hn
      subst this; exact h0 y)
    (fun n h y _ => hs n h y) (fun k => A (ValueIdx.ix2 k (y 1))) 0 y (by omega)
    (fun s k => hA _ _ _ _ (by
      show b * s.val + k.val = b * (N * 0 + s.val) + k.val
      rw [Nat.mul_zero, Nat.zero_add]) rfl)
  have e : N * 0 + (N - 1) = N - 1 := by rw [Nat.mul_zero, Nat.zero_add]
  simp only [e] at key
  exact key

end Cert.RowBlocks
-- ==== Proof.Rows.lean ====
/-
# The calls that treat each row alone

The squared ReLU, its gradient, the sum of two gradients and the first normalisation write an array whose row is a
function of the same row of the arguments. A grid point treats a block of rows.
-/
module

public import proofs.«01_k».proof.Defs
public import proofs.«01_k».proof.Proof.Gen.Relu.Frame
public import proofs.«01_k».proof.Proof.Gen.ReluIdeal.Frame
public import proofs.«01_k».proof.Proof.Gen.ReluIdeal.Value
public import proofs.«01_k».proof.Proof.Gen.ReluRefIdeal.Run
public import proofs.«01_k».proof.Proof.Gen.ReluRefIdeal.Read
public import proofs.«01_k».proof.Proof.Gen.ReluBack.Frame
public import proofs.«01_k».proof.Proof.Gen.ReluBackIdeal.Frame
public import proofs.«01_k».proof.Proof.Gen.ReluBackIdeal.Value
public import proofs.«01_k».proof.Proof.Gen.ReluBackRefIdeal.Run
public import proofs.«01_k».proof.Proof.Gen.ReluBackRefIdeal.Read
public import proofs.«01_k».proof.Proof.Gen.GradX.Frame
public import proofs.«01_k».proof.Proof.Gen.GradXIdeal.Frame
public import proofs.«01_k».proof.Proof.Gen.GradXIdeal.Value
public import proofs.«01_k».proof.Proof.Gen.GradXRefIdeal.Run
public import proofs.«01_k».proof.Proof.Gen.GradXRefIdeal.Read
public import proofs.«01_k».proof.Proof.Gen.NormIn.Frame
public import proofs.«01_k».proof.Proof.Gen.NormInIdeal.Frame
public import proofs.«01_k».proof.Proof.Gen.NormInIdeal.Value
public import proofs.«01_k».proof.Proof.Gen.NormInRefIdeal.Run
public import proofs.«01_k».proof.Proof.Gen.NormInRefIdeal.Read
public import proofs.«01_k».proof.Proof.RowBlocks
public import Idealize.ShloMosaic.Lib.IdealHost

@[expose] public section

set_option maxRecDepth 16384

noncomputable section

open Idealize.ShloMosaic Idealize.ShloMosaic.TcCoe Idealize.SL.Sem

/-! ## The squared ReLU: `Relu` -/

namespace Cert.ReluProof

open Cert.ReluIdeal Cert.ReluIdeal.Gen

theorem value (u : S8192x4096.Idx → Elt Ideal .f32) : Value.G1 u = ReluRefIdeal.Read.val_main_v2 (F := Ideal) u := by
  funext i
  rw [ReluRefIdeal.Read.val_main_v2_apply, ReluRefIdeal.Read.val_main_v1_apply, ReluRefIdeal.Read.val_main_v0_apply,
    ReluRefIdeal.Read.val_main_call0_v0_apply]
  exact rfl

theorem frame : Cert.quiescent_Relu := fun m ρ _ => Cert.Relu.Gen.frame m ρ
theorem frame_ideal : Cert.quiescent_ReluIdeal := fun m ρ _ => Gen.frame m ρ
theorem frame_ref_ideal : Cert.quiescent_ReluRefIdeal := fun m ρ _ =>
  (θ_run Cert.ReluRefIdeal.defs _ _).mono
    (fun r h => ⟨fun c => (h c).2, sem_eq_zero_of_no_sems (by decide) r.2⟩)
    (Cert.ReluRefIdeal.Value.run (F := Ideal) m ρ)

theorem algebraic : Cert.algebraic_ReluIdeal_ReluRefIdeal := by
  intro m ρ m' ρ' _ hagree
  refine ⟨_, Value.run (F := Ideal) m ρ, ?_⟩
  refine (θ_run Cert.ReluRefIdeal.defs _ _).mono (fun _ h c => ⟨(h c).1.trans ?_, (h c).2⟩)
    (Cert.ReluRefIdeal.Value.run (F := Ideal) m' ρ')
  rw [hagree c]
  exact (value _).symm

end Cert.ReluProof

/-! ## The gradient of the squared ReLU: `ReluBack` -/

namespace Cert.ReluBackProof

open Cert.ReluBackIdeal Cert.ReluBackIdeal.Gen

theorem two : Ideal.ofBits .f32 0x40000000#32 = 2 := by
  rw [show (2 : EReal) = ((2 : ℝ) : EReal) by norm_cast]
  simp [Ideal.ofBits, Ideal.ieee, -EReal.coe_mul]; norm_num

/-- Where the ReLU's argument is positive, both are twice the product. Elsewhere both are zero: the kernel has the ReLU as
    a factor, which is zero there, whatever the slope that it takes at zero. -/
theorem slope {Z O T : EReal} (hZ : Z = 0) (hO : O = 1) (hT : T = 2) (u c k : EReal) :
    (max u Z * c + c * max u Z) * Scalar.select (Ideal.cmp .ogt u Z) O k
      = Scalar.select (Ideal.cmp .ogt u Z) (c * (T * max u Z)) Z := by
  subst hZ hO hT
  by_cases h : 0 < u
  · rw [show Ideal.cmp .ogt u 0 = 1#1 from congrArg BitVec.ofBool (decide_eq_true h), ValueIdx.select_one, ValueIdx.select_one, max_eq_left h.le,
      mul_one, mul_comm u c, ← one_add_one_eq_two, EReal.right_distrib_of_nonneg zero_le_one zero_le_one, one_mul,
      EReal.left_distrib_of_nonneg h.le h.le]
  · rw [show Ideal.cmp .ogt u 0 = 0#1 from congrArg BitVec.ofBool (decide_eq_false h), ValueIdx.select_zero, ValueIdx.select_zero,
      max_eq_right (not_lt.mp h), zero_mul, mul_zero, add_zero, zero_mul]

theorem value (u c : S8192x4096.Idx → Elt Ideal .f32) :
    Value.G2 u c = ReluBackRefIdeal.Read.val_main_v10 (F := Ideal) u c := by
  funext i
  rw [ReluBackRefIdeal.Read.val_main_v10_apply, ReluBackRefIdeal.Read.val_main_v9_apply,
    ReluBackRefIdeal.Read.val_main_v8_apply, ReluBackRefIdeal.Read.val_main_v7_apply,
    ReluBackRefIdeal.Read.val_main_v6_apply, ReluBackRefIdeal.Read.val_main_v5_apply,
    ReluBackRefIdeal.Read.val_main_v2_apply, ReluBackRefIdeal.Read.val_main_v1_apply,
    ReluBackRefIdeal.Read.val_main_v0_apply, ReluBackRefIdeal.Read.val_main_call0_v0_apply]
  exact slope Ideal.ofBits_zero_f32 Ideal.ofBits_one_f32 two (u i) (c i) _

theorem frame : Cert.quiescent_ReluBack := fun m ρ _ => Cert.ReluBack.Gen.frame m ρ
theorem frame_ideal : Cert.quiescent_ReluBackIdeal := fun m ρ _ => Gen.frame m ρ
theorem frame_ref_ideal : Cert.quiescent_ReluBackRefIdeal := fun m ρ _ =>
  (θ_run Cert.ReluBackRefIdeal.defs _ _).mono
    (fun r h => ⟨fun c => (h c).2, sem_eq_zero_of_no_sems (by decide) r.2⟩)
    (Cert.ReluBackRefIdeal.Value.run (F := Ideal) m ρ)

theorem algebraic : Cert.algebraic_ReluBackIdeal_ReluBackRefIdeal := by
  intro m ρ m' ρ' _ hagree
  refine ⟨_, Value.run (F := Ideal) m ρ, ?_⟩
  refine (θ_run Cert.ReluBackRefIdeal.defs _ _).mono (fun _ h c => ⟨(h c).1.trans ?_, (h c).2⟩)
    (Cert.ReluBackRefIdeal.Value.run (F := Ideal) m' ρ')
  rw [(hagree c).1, (hagree c).2]
  exact (value _ _).symm

end Cert.ReluBackProof

/-! ## The sum of the two gradients of the tokens: `GradX` -/

namespace Cert.GradXProof

open Cert.GradXIdeal Cert.GradXIdeal.Gen

theorem frame : Cert.quiescent_GradX := fun m ρ _ => Cert.GradX.Gen.frame m ρ
theorem frame_ideal : Cert.quiescent_GradXIdeal := fun m ρ _ => Gen.frame m ρ
theorem frame_ref_ideal : Cert.quiescent_GradXRefIdeal := fun m ρ _ =>
  (θ_run Cert.GradXRefIdeal.defs _ _).mono
    (fun r h => ⟨fun c => (h c).2, sem_eq_zero_of_no_sems (by decide) r.2⟩)
    (Cert.GradXRefIdeal.Value.run (F := Ideal) m ρ)

theorem algebraic : Cert.algebraic_GradXIdeal_GradXRefIdeal := by
  intro m ρ m' ρ' _ hagree
  refine ⟨_, Value.run (F := Ideal) m ρ, ?_⟩
  refine (θ_run Cert.GradXRefIdeal.defs _ _).mono (fun _ h c => ⟨(h c).1.trans ?_, (h c).2⟩)
    (Cert.GradXRefIdeal.Value.run (F := Ideal) m' ρ')
  rw [(hagree c).1, (hagree c).2]
  rfl

end Cert.GradXProof

/-! ## The first normalisation: `NormIn` -/

namespace Cert.NormInProof

open Cert.NormInIdeal Cert.NormInIdeal.Gen Cert.Product Cert.RowBlocks

variable (m : (ℓ : Loc nD τ sig) → Buf (Elt Ideal) ℓ)

theorem places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows of a grid point. -/
theorem block (c : Dev nD) (t : Fin cfg0.N) :
    Rows (256 * t.val) (iblk m c 0 t : Vec Ideal S256x1024 .f32) (m ((c.tc : Thread nD τ).loc main_arg0)) := by
  intro y Y h0 h1
  obtain ⟨p0, p1, _⟩ := places t
  refine congrArg (m ((c.tc : Thread nD τ).loc main_arg0)) (place_ext ?_ ?_)
  · show win0_0.index t 0 * 256 + 1 * (y 0).val = (Y 0).val; omega
  · show win0_0.index t 1 * 1024 + 1 * (y 1).val = (Y 1).val; omega

theorem gains (c : Dev nD) (t : Fin cfg0.N) :
    (iblk m c 1 t : Vec Ideal S1x1024 .f32) = m ((c.tc : Thread nD τ).loc main_arg1) := by
  funext y
  obtain ⟨_, _, p2, p3, _⟩ := places t
  refine congrArg (m ((c.tc : Thread nD τ).loc main_arg1)) (place_ext ?_ ?_)
  · show win0_1.index t 0 * 1 + 1 * (y 0).val = (y 0).val; omega
  · show win0_1.index t 1 * 1024 + 1 * (y 1).val = (y 1).val; omega

open NormInRefIdeal.Read in
theorem rows {off : ℕ} {x : Vec Ideal S256x1024 .f32} {X : Vec Ideal NormInRefIdeal.S8192x1024 .f32} (hx : Rows off x X)
    {g G : Vec Ideal S1x1024 .f32} (hg : g = G) : Rows off (k0_pay1 x g) (val_main_v12 (F := Ideal) X G) := by
  exact ((hx.mul ((((((hx.mul hx).sum _ _ _ _ _).column' _ _).div (Rows.const _ _)).add (Rows.const _ _)).rsqrt.across _ _)).mul
    (gain hg _ _)).trunc _ _

theorem value (c : Dev nD) : (dats m 0 c).arrAt 2 cfg0.N = NormInRefIdeal.Read.val_main_v12 (F := Ideal)
    (m ((c.tc : Thread nD τ).loc main_arg0)) (m ((c.tc : Thread nD τ).loc main_arg1)) := by
  refine (dats m 0 c).arrAt_eq_of_covers 2 _ (by decide +kernel) fun t hf y => ?_
  obtain ⟨p0, p1, p2, p3, p4, p5⟩ := places t
  blk_simp
  rw [after0_2]
  unfold out0_2
  frame_out
  refine rows (block m c t) (gains m c t) y _ ?_ ?_
  · show win0_2.index t 0 * 256 + 1 * (y 0).val = _; omega
  · show win0_2.index t 1 * 1024 + 1 * (y 1).val = _; omega

theorem frame : Cert.quiescent_NormIn := fun m ρ _ => Cert.NormIn.Gen.frame m ρ
theorem frame_ideal : Cert.quiescent_NormInIdeal := fun m ρ _ => Gen.frame m ρ
theorem frame_ref_ideal : Cert.quiescent_NormInRefIdeal := fun m ρ _ =>
  (θ_run Cert.NormInRefIdeal.defs _ _).mono
    (fun r h => ⟨fun c => (h c).2, sem_eq_zero_of_no_sems (by decide) r.2⟩)
    (Cert.NormInRefIdeal.Value.run (F := Ideal) m ρ)

theorem algebraic : Cert.algebraic_NormInIdeal_NormInRefIdeal := by
  intro m ρ m' ρ' _ hagree
  refine ⟨_, Value.run_blocks (F := Ideal) m ρ, ?_⟩
  refine (θ_run Cert.NormInRefIdeal.defs _ _).mono (fun _ h c => ⟨(h c).1.trans ?_, (h c).2⟩)
    (Cert.NormInRefIdeal.Value.run (F := Ideal) m' ρ')
  rw [(hagree c).1, (hagree c).2]
  exact (value m c).symm

end Cert.NormInProof

end
-- ==== Proof.NormBack.lean ====
/-
# Back through the normalisations

Back through a normalisation, the gradient of a row is a function of the row, its gradient from above and the gain, and the
gain's gradient is a sum over the rows. The call walks the rows in blocks of 256, writes a block of the row gradients at
each grid point, and adds the block's part of the gain's gradient to an array that it writes out at the end.
-/
module

public import proofs.«01_k».proof.Defs
public import proofs.«01_k».proof.Proof.Gen.NormInBack.Frame
public import proofs.«01_k».proof.Proof.Gen.NormInBackIdeal.Frame
public import proofs.«01_k».proof.Proof.Gen.NormInBackIdeal.Value
public import proofs.«01_k».proof.Proof.Gen.NormInBackRefIdeal.Run
public import proofs.«01_k».proof.Proof.Gen.NormInBackRefIdeal.Read
public import proofs.«01_k».proof.Proof.Gen.ResNormBack.Frame
public import proofs.«01_k».proof.Proof.Gen.ResNormBackIdeal.Frame
public import proofs.«01_k».proof.Proof.Gen.ResNormBackIdeal.Value
public import proofs.«01_k».proof.Proof.Gen.ResNormBackRefIdeal.Run
public import proofs.«01_k».proof.Proof.Gen.ResNormBackRefIdeal.Read
public import proofs.«01_k».proof.Proof.RowBlocks

@[expose] public section

set_option maxRecDepth 16384

noncomputable section

open Idealize.ShloMosaic Idealize.ShloMosaic.TcCoe Idealize.SL.Sem

/-! ## The first normalisation: `NormInBack` -/

namespace Cert.NormInBackProof

open Cert.NormInBackIdeal Cert.NormInBackIdeal.Gen Cert.Product Cert.RowBlocks

section Body

open NormInBackRefIdeal.Read

variable {off : ℕ} {x d : Vec Ideal S256x1024 .f32} {X D : Vec Ideal NormInBackRefIdeal.S8192x1024 .f32}
  {g G : Vec Ideal S1x1024 .f32}

theorem moment (hx : Rows off x X) : Rows off (k0_pay3 x) (val_main_v6 (F := Ideal) X) :=
  ((((hx.mul hx).sum _ _ _ _ _).column' _ _).div (Rows.const _ _)).add (Rows.const _ _)

theorem root (hx : Rows off x X) : Rows off (k0_pay4 x) (val_main_v7 (F := Ideal) X) := (moment hx).rsqrt

/-- What the rows add to the gain's gradient. -/
theorem gain_rows (hx : Rows off x X) (hd : Rows off d D) :
    Rows off (mulf (mulf x (broadcastTo S256x1024 (k0_pay4 x) broadcasts_S256x1_S256x1024)) d : Vec Ideal S256x1024 .f32)
      (val_main_v15 (F := Ideal) X D) :=
  (hx.mul ((root hx).across _ _)).mul hd

theorem pull (hx : Rows off x X) (hg : g = G) (hd : Rows off d D) :
    Rows off (mulf (F := Ideal) (φ := .f32) d (broadcastTo S256x1024 g broadcasts_S1x1024_S256x1024) : Vec Ideal S256x1024 .f32) (val_main_v19 (F := Ideal) G D) :=
  hd.mul (gain hg _ _)

/-- The gradient of the rows. -/
theorem rows (hx : Rows off x X) (hg : g = G) (hd : Rows off d D) :
    Rows off (k0_pay6 x g d) (val_main_v33 (F := Ideal) X G D) := by
  have hv := pull hx hg hd
  have hr := root hx
  have hs : Rows off _ (val_main_v29 (F := Ideal) X G D) :=
    ((((((hx.mul hv).sum reduces_S256x1024_S256 (.inl rfl) rfl _ _).column shapeCasts_S256_S256x1 _).mul
      ((Rows.const _ _).mul (hr.div (moment hx)))).div (Rows.const _ _)).sum reduces_S256x1_S256 (.inl rfl) rfl _ _).across
      shapeCasts_S256_S256x1 broadcasts_S256x1_S256x1024 _
  exact ((hv.mul (hr.across _ _)).add (hx.mul hs)).add (hs.mul hx)

end Body

variable (m : (ℓ : Loc nD τ sig) → Buf (Elt Ideal) ℓ)

theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

theorem block0 (c : Dev nD) (t : Fin cfg0.N) :
    Rows (256 * t.val) (iblk m c 0 t : Vec Ideal S256x1024 .f32) (m ((c.tc : Thread nD τ).loc main_arg0)) :=
  Rows.placed (i := win0_0.index t 0) (j := win0_0.index t 1) (fun _ => rfl) (fun _ => rfl) (fun _ => rfl)
    (by rw [(places t).1.1, Nat.mul_comm]) (places t).1.2

theorem block1 (c : Dev nD) (t : Fin cfg0.N) :
    (iblk m c 1 t : Vec Ideal S1x1024 .f32) = m ((c.tc : Thread nD τ).loc main_arg1) :=
  whole (i := win0_1.index t 0) (j := win0_1.index t 1) (fun _ => rfl) (fun _ => rfl) (fun _ => rfl)
    (places t).2.1.1 (places t).2.1.2

theorem block2 (c : Dev nD) (t : Fin cfg0.N) :
    Rows (256 * t.val) (iblk m c 2 t : Vec Ideal S256x1024 .f32) (m ((c.tc : Thread nD τ).loc main_arg2)) :=
  Rows.placed (i := win0_2.index t 0) (j := win0_2.index t 1) (fun _ => rfl) (fun _ => rfl) (fun _ => rfl)
    (by rw [(places t).2.2.1.1, Nat.mul_comm]) (places t).2.2.1.2

/-- The row gradients that a grid point writes. -/
theorem left (c : Dev nD) (n : ℕ) (h : n < cfg0.N) :
    (outsAt0 m c n h).1 = k0_pay6 (iblk m c 0 ⟨n, h⟩) (iblk m c 1 ⟨n, h⟩) (iblk m c 2 ⟨n, h⟩) := by
  by_cases h0 : n % 32 = 0
  · rw [outsAt0_A m c ⟨n, h⟩ h0]; frame_out
  · rw [outsAt0_B m c ⟨n, h⟩ h0]; frame_out

theorem value3 (c : Dev nD) : (dats m 0 c).arrAt 3 cfg0.N = NormInBackRefIdeal.Read.val_main_v33 (F := Ideal)
    (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨_, _, _, ⟨p0, p1⟩⟩ := places t
  blk_simp
  rw [after0_3, left]
  refine rows (block0 m c t) (block1 m c t) (block2 m c t) y _ ?_ ?_
  · show win0_3.index t 0 * 256 + 1 * (y 0).val = _; omega
  · show win0_3.index t 1 * 1024 + 1 * (y 1).val = _; omega

/-- The last grid point. -/
def last : Fin cfg0.N := ⟨31, by decide⟩

theorem value4 (c : Dev nD) : (dats m 0 c).arrAt 4 cfg0.N = NormInBackRefIdeal.Read.val_main_v17 (F := Ideal)
    (m ((c.tc : Thread nD τ).loc main_arg0)) (m ((c.tc : Thread nD τ).loc main_arg2)) := by
  refine (dats m 0 c).arrAt_eq_of_after_last 4 last (by decide +kernel) _ fun j => ?_
  blk_simp
  rw [after0_4]
  refine (sum_blocks (N := 32) (b := 256) (by decide) rfl (fun n h => (outsAt0 m c n h).2) _ _
    (fun n h => gain_rows (block0 m c ⟨n, h⟩) (block2 m c ⟨n, h⟩)) (fun y => ?_) (fun n h y => ?_) _ _).trans
    (sum_host _ _ _ _ _).symm
  · rw [outsAt0_A m c ⟨0, by decide⟩ rfl]
    frame_out
    exact first_block _ _ _ _ _ _ y
  · rw [outsAt0_B m c ⟨n + 1, h⟩ (by show ¬ (n + 1) % 32 = 0; have : n + 1 < 32 := h; omega)]
    frame_out [read_unread_whole]
    exact add_block _ _ _ _ _ _ _ y

theorem frame : Cert.quiescent_NormInBack := fun m ρ _ => Cert.NormInBack.Gen.frame m ρ
theorem frame_ideal : Cert.quiescent_NormInBackIdeal := fun m ρ _ => Gen.frame m ρ
theorem frame_ref_ideal : Cert.quiescent_NormInBackRefIdeal := fun m ρ _ =>
  (θ_run Cert.NormInBackRefIdeal.defs _ _).mono
    (fun r h => ⟨fun c => (h c).2.2, sem_eq_zero_of_no_sems (by decide) r.2⟩)
    (Cert.NormInBackRefIdeal.Value.run (F := Ideal) m ρ)

theorem algebraic : Cert.algebraic_NormInBackIdeal_NormInBackRefIdeal := by
  intro m ρ m' ρ' _ hagree
  refine ⟨_, _, Value.run_blocks (F := Ideal) m ρ, ?_⟩
  refine (θ_run Cert.NormInBackRefIdeal.defs _ _).mono (fun _ h c => ⟨(h c).1.trans ?_, (h c).2.1.trans ?_, (h c).2.2⟩)
    (Cert.NormInBackRefIdeal.Value.run (F := Ideal) m' ρ')
  · rw [(hagree c).1, (hagree c).2.1, (hagree c).2.2]
    exact (value3 m c).symm
  · rw [(hagree c).1, (hagree c).2.2]
    exact (value4 m c).symm

end Cert.NormInBackProof

/-! ## The normalisations around the residual sum: `ResNormBack` -/

namespace Cert.ResNormBackProof

open Cert.ResNormBackIdeal Cert.ResNormBackIdeal.Gen Cert.Product Cert.RowBlocks

section Body

open ResNormBackRefIdeal.Read

variable {off : ℕ} {x l d e : Vec Ideal S256x1024 .f32} {X L D E : Vec Ideal ResNormBackRefIdeal.S8192x1024 .f32}
  {g G k K : Vec Ideal S1x1024 .f32}

theorem moment (hl : Rows off l L) : Rows off (k0_pay3 l) (val_main_v6 (F := Ideal) L) :=
  ((((hl.mul hl).sum _ _ _ _ _).column' _ _).div (Rows.const _ _)).add (Rows.const _ _)

theorem root (hl : Rows off l L) : Rows off (k0_pay4 l) (val_main_v7 (F := Ideal) L) := (moment hl).rsqrt

theorem slope (hl : Rows off l L) : Rows off (k0_pay5 l) (val_main_v10 (F := Ideal) L) :=
  (Rows.const _ _).mul ((root hl).div (moment hl))

theorem normed (hl : Rows off l L) : Rows off (k0_pay6 l) (val_main_v12 (F := Ideal) L) := hl.mul ((root hl).across _ _)

/-- The residual sum. -/
theorem residual (hx : Rows off x X) (hl : Rows off l L) (hg : g = G) :
    Rows off (k0_pay7 x l g) (val_main_v15 (F := Ideal) X L G) :=
  hx.add ((normed hl).mul (gain hg _ _))

theorem moment' (hx : Rows off x X) (hl : Rows off l L) (hg : g = G) :
    Rows off (k0_pay8 x l g) (val_main_v22 (F := Ideal) X L G) :=
  (((((residual hx hl hg).mul (residual hx hl hg)).sum _ _ _ _ _).column' _ _).div (Rows.const _ _)).add (Rows.const _ _)

theorem root' (hx : Rows off x X) (hl : Rows off l L) (hg : g = G) :
    Rows off (k0_pay9 x l g) (val_main_v23 (F := Ideal) X L G) := (moment' hx hl hg).rsqrt

theorem slope' (hx : Rows off x X) (hl : Rows off l L) (hg : g = G) :
    Rows off (k0_pay10 x l g) (val_main_v26 (F := Ideal) X L G) :=
  (Rows.const _ _).mul ((root' hx hl hg).div (moment' hx hl hg))

/-- What the rows add to the second gain's gradient. -/
theorem gain_rows' (hx : Rows off x X) (hl : Rows off l L) (hg : g = G) (he : Rows off e E) :
    Rows off (mulf (mulf (k0_pay7 x l g) (broadcastTo S256x1024 (k0_pay9 x l g) broadcasts_S256x1_S256x1024)) e : Vec Ideal S256x1024 .f32)
      (val_main_v31 (F := Ideal) X L G E) :=
  ((residual hx hl hg).mul ((root' hx hl hg).across _ _)).mul he

/-- The gradient of the residual sum. -/
theorem rows' (hx : Rows off x X) (hl : Rows off l L) (hg : g = G) (hk : k = K) (hd : Rows off d D) (he : Rows off e E) :
    Rows off (k0_pay12 k d e (k0_pay7 x l g) (k0_pay9 x l g) (k0_pay10 x l g)) (val_main_v50 (F := Ideal) X L G K D E) := by
  have hu := residual hx hl hg
  have hv : Rows off (mulf (F := Ideal) (φ := .f32) e (broadcastTo S256x1024 k broadcasts_S1x1024_S256x1024) : Vec Ideal S256x1024 .f32)
      (val_main_v35 (F := Ideal) K E) := he.mul (gain hk _ _)
  have hs : Rows off _ (val_main_v46 (F := Ideal) X L G K E) :=
    ((((((hu.mul hv).sum reduces_S256x1024_S256 (.inl rfl) rfl _ _).column shapeCasts_S256_S256x1 _).mul
      (slope' hx hl hg)).div (Rows.const _ _)).sum reduces_S256x1_S256 (.inl rfl) rfl _ _).across
      shapeCasts_S256_S256x1 broadcasts_S256x1_S256x1024 _
  exact ((hd.add (hv.mul ((root' hx hl hg).across _ _))).add (hu.mul hs)).add (hs.mul hu)

theorem rows'' (hx : Rows off x X) (hl : Rows off l L) (hg : g = G) (hk : k = K) (hd : Rows off d D) (he : Rows off e E) :
    Rows off (k0_pay13 k d e (k0_pay7 x l g) (k0_pay9 x l g) (k0_pay10 x l g)) (val_main_v51 (F := Ideal) X L G K D E) :=
  (rows' hx hl hg hk hd he).cast _ _

/-- What the rows add to the first gain's gradient. -/
theorem gain_rows (hx : Rows off x X) (hl : Rows off l L) (hg : g = G) (hk : k = K) (hd : Rows off d D) (he : Rows off e E) :
    Rows off (mulf (k0_pay6 l) (k0_pay13 k d e (k0_pay7 x l g) (k0_pay9 x l g) (k0_pay10 x l g)))
      (val_main_v52 (F := Ideal) X L G K D E) :=
  (normed hl).mul (rows'' hx hl hg hk hd he)

/-- The gradient of the layer's output. -/
theorem rows (hx : Rows off x X) (hl : Rows off l L) (hg : g = G) (hk : k = K) (hd : Rows off d D) (he : Rows off e E) :
    Rows off (k0_pay15 l g k d e (k0_pay4 l) (k0_pay5 l) (k0_pay7 x l g) (k0_pay9 x l g) (k0_pay10 x l g))
      (val_main_v70 (F := Ideal) X L G K D E) := by
  have hv : Rows off (mulf (k0_pay13 k d e (k0_pay7 x l g) (k0_pay9 x l g) (k0_pay10 x l g))
      (broadcastTo S256x1024 g broadcasts_S1x1024_S256x1024)) (val_main_v56 (F := Ideal) X L G K D E) :=
    (rows'' hx hl hg hk hd he).mul (gain hg _ _)
  have hs : Rows off _ (val_main_v66 (F := Ideal) X L G K D E) :=
    ((((((hl.mul hv).sum reduces_S256x1024_S256 (.inl rfl) rfl _ _).column shapeCasts_S256_S256x1 _).mul
      (slope hl)).div (Rows.const _ _)).sum reduces_S256x1_S256 (.inl rfl) rfl _ _).across
      shapeCasts_S256_S256x1 broadcasts_S256x1_S256x1024 _
  exact ((hv.mul ((root hl).across _ _)).add (hl.mul hs)).add (hs.mul hl)

end Body

variable (m : (ℓ : Loc nD τ sig) → Buf (Elt Ideal) ℓ)

theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem block0 (c : Dev nD) (t : Fin cfg0.N) :
    Rows (256 * t.val) (iblk m c 0 t : Vec Ideal S256x1024 .f32) (m ((c.tc : Thread nD τ).loc main_arg0)) :=
  Rows.placed (i := win0_0.index t 0) (j := win0_0.index t 1) (fun _ => rfl) (fun _ => rfl) (fun _ => rfl)
    (by rw [(places t).1.1, Nat.mul_comm]) (places t).1.2

theorem block1 (c : Dev nD) (t : Fin cfg0.N) :
    Rows (256 * t.val) (iblk m c 1 t : Vec Ideal S256x1024 .f32) (m ((c.tc : Thread nD τ).loc main_arg1)) :=
  Rows.placed (i := win0_1.index t 0) (j := win0_1.index t 1) (fun _ => rfl) (fun _ => rfl) (fun _ => rfl)
    (by rw [(places t).2.1.1, Nat.mul_comm]) (places t).2.1.2

theorem block2 (c : Dev nD) (t : Fin cfg0.N) :
    (iblk m c 2 t : Vec Ideal S1x1024 .f32) = m ((c.tc : Thread nD τ).loc main_arg2) :=
  whole (i := win0_2.index t 0) (j := win0_2.index t 1) (fun _ => rfl) (fun _ => rfl) (fun _ => rfl)
    (places t).2.2.1.1 (places t).2.2.1.2

theorem block3 (c : Dev nD) (t : Fin cfg0.N) :
    (iblk m c 3 t : Vec Ideal S1x1024 .f32) = m ((c.tc : Thread nD τ).loc main_arg3) :=
  whole (i := win0_3.index t 0) (j := win0_3.index t 1) (fun _ => rfl) (fun _ => rfl) (fun _ => rfl)
    (places t).2.2.2.1.1 (places t).2.2.2.1.2

theorem block4 (c : Dev nD) (t : Fin cfg0.N) :
    Rows (256 * t.val) (iblk m c 4 t : Vec Ideal S256x1024 .f32) (m ((c.tc : Thread nD τ).loc main_arg4)) :=
  Rows.placed (i := win0_4.index t 0) (j := win0_4.index t 1) (fun _ => rfl) (fun _ => rfl) (fun _ => rfl)
    (by rw [(places t).2.2.2.2.1.1, Nat.mul_comm]) (places t).2.2.2.2.1.2

theorem block5 (c : Dev nD) (t : Fin cfg0.N) :
    Rows (256 * t.val) (iblk m c 5 t : Vec Ideal S256x1024 .f32) (m ((c.tc : Thread nD τ).loc main_arg5)) :=
  Rows.placed (i := win0_5.index t 0) (j := win0_5.index t 1) (fun _ => rfl) (fun _ => rfl) (fun _ => rfl)
    (by rw [(places t).2.2.2.2.2.1.1, Nat.mul_comm]) (places t).2.2.2.2.2.1.2

/-- The row gradients that a grid point writes. -/
theorem left (c : Dev nD) (t : Fin cfg0.N) : Rows (256 * t.val) (outsAt0 m c t.val t.isLt).1
    (ResNormBackRefIdeal.Read.val_main_v50 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)))
    ∧ Rows (256 * t.val) (outsAt0 m c t.val t.isLt).2.1
      (ResNormBackRefIdeal.Read.val_main_v70 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))) := by
  have h := rows' (block0 m c t) (block1 m c t) (block2 m c t) (block3 m c t) (block4 m c t) (block5 m c t)
  have h' := rows (block0 m c t) (block1 m c t) (block2 m c t) (block3 m c t) (block4 m c t) (block5 m c t)
  by_cases h0 : t.val % 32 = 0
  · rw [outsAt0_A m c t h0]
    constructor
    · frame_out; exact h
    · frame_out; exact h'
  · rw [outsAt0_B m c t h0]
    constructor
    · frame_out; exact h
    · frame_out; exact h'

theorem value6 (c : Dev nD) : (dats m 0 c).arrAt 6 cfg0.N = ResNormBackRefIdeal.Read.val_main_v50 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  obtain ⟨p0, p1⟩ := (places t).2.2.2.2.2.2.1
  blk_simp
  rw [after0_6]
  refine (left m c t).1 y _ ?_ ?_
  · show win0_6.index t 0 * 256 + 1 * (y 0).val = _; omega
  · show win0_6.index t 1 * 1024 + 1 * (y 1).val = _; omega

theorem value7 (c : Dev nD) : (dats m 0 c).arrAt 7 cfg0.N = ResNormBackRefIdeal.Read.val_main_v70 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  obtain ⟨p0, p1⟩ := (places t).2.2.2.2.2.2.2
  blk_simp
  rw [after0_7]
  refine (left m c t).2 y _ ?_ ?_
  · show win0_7.index t 0 * 256 + 1 * (y 0).val = _; omega
  · show win0_7.index t 1 * 1024 + 1 * (y 1).val = _; omega

/-- The last grid point. -/
def last : Fin cfg0.N := ⟨31, by decide⟩

theorem value8 (c : Dev nD) : (dats m 0 c).arrAt 8 cfg0.N = ResNormBackRefIdeal.Read.val_main_v54 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  refine (dats m 0 c).arrAt_eq_of_after_last 8 last (by decide +kernel) _ fun j => ?_
  blk_simp
  rw [after0_8]
  refine (sum_blocks (N := 32) (b := 256) (by decide) rfl (fun n h => (outsAt0 m c n h).2.2.1) _ _
    (fun n h => gain_rows (block0 m c ⟨n, h⟩) (block1 m c ⟨n, h⟩) (block2 m c ⟨n, h⟩) (block3 m c ⟨n, h⟩) (block4 m c ⟨n, h⟩)
      (block5 m c ⟨n, h⟩)) (fun y => ?_) (fun n h y => ?_) _ _).trans (sum_host _ _ _ _ _).symm
  · rw [outsAt0_A m c ⟨0, by decide⟩ rfl]
    frame_out
    exact first_block _ _ _ _ _ _ y
  · rw [outsAt0_B m c ⟨n + 1, h⟩ (by show ¬ (n + 1) % 32 = 0; have : n + 1 < 32 := h; omega)]
    frame_out [read_unread_whole]
    exact add_block _ _ _ _ _ _ _ y

theorem value9 (c : Dev nD) : (dats m 0 c).arrAt 9 cfg0.N = ResNormBackRefIdeal.Read.val_main_v33 (F := Ideal)
    (m ((c.tc : Thread nD τ).loc main_arg0)) (m ((c.tc : Thread nD τ).loc main_arg1)) (m ((c.tc : Thread nD τ).loc main_arg2))
    (m ((c.tc : Thread nD τ).loc main_arg5)) := by
  refine (dats m 0 c).arrAt_eq_of_after_last 9 last (by decide +kernel) _ fun j => ?_
  blk_simp
  rw [after0_9]
  refine (sum_blocks (N := 32) (b := 256) (by decide) rfl (fun n h => (outsAt0 m c n h).2.2.2) _ _
    (fun n h => gain_rows' (block0 m c ⟨n, h⟩) (block1 m c ⟨n, h⟩) (block2 m c ⟨n, h⟩) (block5 m c ⟨n, h⟩))
    (fun y => ?_) (fun n h y => ?_) _ _).trans (sum_host _ _ _ _ _).symm
  · rw [outsAt0_A m c ⟨0, by decide⟩ rfl]
    frame_out
    exact first_block _ _ _ _ _ _ y
  · rw [outsAt0_B m c ⟨n + 1, h⟩ (by show ¬ (n + 1) % 32 = 0; have : n + 1 < 32 := h; omega)]
    frame_out [read_unread_whole]
    exact add_block _ _ _ _ _ _ _ y

theorem frame : Cert.quiescent_ResNormBack := fun m ρ _ => Cert.ResNormBack.Gen.frame m ρ
theorem frame_ideal : Cert.quiescent_ResNormBackIdeal := fun m ρ _ => Gen.frame m ρ
theorem frame_ref_ideal : Cert.quiescent_ResNormBackRefIdeal := fun m ρ _ =>
  (θ_run Cert.ResNormBackRefIdeal.defs _ _).mono
    (fun r h => ⟨fun c => (h c).2.2.2.2, sem_eq_zero_of_no_sems (by decide) r.2⟩)
    (Cert.ResNormBackRefIdeal.Value.run (F := Ideal) m ρ)

theorem algebraic : Cert.algebraic_ResNormBackIdeal_ResNormBackRefIdeal := by
  intro m ρ m' ρ' _ hagree
  refine ⟨_, _, _, _, Value.run_blocks (F := Ideal) m ρ, ?_⟩
  refine (θ_run Cert.ResNormBackRefIdeal.defs _ _).mono (fun _ h c => ⟨(h c).1.trans ?_, (h c).2.1.trans ?_,
    (h c).2.2.1.trans ?_, (h c).2.2.2.1.trans ?_, (h c).2.2.2.2⟩)
    (Cert.ResNormBackRefIdeal.Value.run (F := Ideal) m' ρ')
  · rw [ResNormBackRefIdeal.Read.val_main_v50_eq]
    rw [(hagree c).1, (hagree c).2.1, (hagree c).2.2.1, (hagree c).2.2.2.1, (hagree c).2.2.2.2.1, (hagree c).2.2.2.2.2]
    exact (value6 m c).symm
  · rw [ResNormBackRefIdeal.Read.val_main_v70_eq]
    rw [(hagree c).1, (hagree c).2.1, (hagree c).2.2.1, (hagree c).2.2.2.1, (hagree c).2.2.2.2.1, (hagree c).2.2.2.2.2]
    exact (value7 m c).symm
  · rw [ResNormBackRefIdeal.Read.val_main_v54_eq]
    rw [(hagree c).1, (hagree c).2.1, (hagree c).2.2.1, (hagree c).2.2.2.1, (hagree c).2.2.2.2.1, (hagree c).2.2.2.2.2]
    exact (value8 m c).symm
  · rw [ResNormBackRefIdeal.Read.val_main_v33_eq]
    rw [(hagree c).1, (hagree c).2.1, (hagree c).2.2.1, (hagree c).2.2.2.2.2]
    exact (value9 m c).symm

end Cert.ResNormBackProof

end
-- ==== Proof.ResNorms.lean ====
/-
# The normalisations around the residual sums

After a layer's mixer its normalised output is added to the tokens, and the sum is normalised for the next product: once
after the mixers, and with two gains after the first MLP, whose output goes on to the keys and values and to the queries.
Backward, the second of these gives the gradients of its tokens and of its three gains; a gain's gradient is summed over
the blocks of rows in a window that stays in place.
-/
module

public import proofs.«01_k».proof.Defs
public import proofs.«01_k».proof.Proof.Gen.ResNorm.Frame
public import proofs.«01_k».proof.Proof.Gen.ResNormIdeal.Frame
public import proofs.«01_k».proof.Proof.Gen.ResNormIdeal.Value
public import proofs.«01_k».proof.Proof.Gen.ResNormRefIdeal.Run
public import proofs.«01_k».proof.Proof.Gen.ResNormRefIdeal.Read
public import proofs.«01_k».proof.Proof.Gen.ResNorms.Frame
public import proofs.«01_k».proof.Proof.Gen.ResNormsIdeal.Frame
public import proofs.«01_k».proof.Proof.Gen.ResNormsIdeal.Value
public import proofs.«01_k».proof.Proof.Gen.ResNormsRefIdeal.Run
public import proofs.«01_k».proof.Proof.Gen.ResNormsRefIdeal.Read
public import proofs.«01_k».proof.Proof.Gen.ResNormsBack.Frame
public import proofs.«01_k».proof.Proof.Gen.ResNormsBackIdeal.Frame
public import proofs.«01_k».proof.Proof.Gen.ResNormsBackIdeal.Value
public import proofs.«01_k».proof.Proof.Gen.ResNormsBackRefIdeal.Run
public import proofs.«01_k».proof.Proof.Gen.ResNormsBackRefIdeal.Read
public import proofs.«01_k».proof.Proof.RowBlocks

@[expose] public section

set_option maxRecDepth 16384

noncomputable section

open Idealize.ShloMosaic Idealize.ShloMosaic.TcCoe Idealize.SL.Sem

/-! ## The residual sum and one normalisation: `ResNorm` -/

namespace Cert.ResNormProof

open Cert.ResNormIdeal Cert.ResNormIdeal.Gen Cert.Product Cert.RowBlocks

section Body

open ResNormRefIdeal.Read

variable {off : ℕ} {x l : Vec Ideal S256x1024 .f32} {X L : Vec Ideal ResNormRefIdeal.S8192x1024 .f32}
  {g G k K : Vec Ideal S1x1024 .f32}

/-- The residual sum. -/
theorem residual (hx : Rows off x X) (hl : Rows off l L) (hg : g = G) :
    Rows off (k0_pay1 x l g) (val_main_v12 (F := Ideal) X L G) :=
  hx.add ((hl.mul ((((((hl.mul hl).sum _ _ _ _ _).column' _ _).div (Rows.const _ _)).add (Rows.const _ _)).rsqrt.across _ _)).mul
    (gain hg _ _))

/-- Its normalisation. -/
theorem normed (hx : Rows off x X) (hl : Rows off l L) (hg : g = G) (hk : k = K) :
    Rows off (k0_pay2 x l g k) (val_main_v25 (F := Ideal) X L G K) := by
  have hu := residual hx hl hg
  exact ((hu.mul ((((((hu.mul hu).sum _ _ _ _ _).column' _ _).div (Rows.const _ _)).add (Rows.const _ _)).rsqrt.across _ _)).mul
    (gain hk _ _)).trunc _ _

end Body

variable (m : (ℓ : Loc nD τ sig) → Buf (Elt Ideal) ℓ)

theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem block0 (c : Dev nD) (t : Fin cfg0.N) :
    Rows (256 * t.val) (iblk m c 0 t : Vec Ideal S256x1024 .f32) (m ((c.tc : Thread nD τ).loc main_arg0)) :=
  Rows.placed (i := win0_0.index t 0) (j := win0_0.index t 1) (fun _ => rfl) (fun _ => rfl) (fun _ => rfl)
    (by rw [(places t).1.1, Nat.mul_comm]) (places t).1.2

theorem block1 (c : Dev nD) (t : Fin cfg0.N) :
    Rows (256 * t.val) (iblk m c 1 t : Vec Ideal S256x1024 .f32) (m ((c.tc : Thread nD τ).loc main_arg1)) :=
  Rows.placed (i := win0_1.index t 0) (j := win0_1.index t 1) (fun _ => rfl) (fun _ => rfl) (fun _ => rfl)
    (by rw [(places t).2.1.1, Nat.mul_comm]) (places t).2.1.2

theorem block2 (c : Dev nD) (t : Fin cfg0.N) :
    (iblk m c 2 t : Vec Ideal S1x1024 .f32) = m ((c.tc : Thread nD τ).loc main_arg2) :=
  whole (i := win0_2.index t 0) (j := win0_2.index t 1) (fun _ => rfl) (fun _ => rfl) (fun _ => rfl)
    (places t).2.2.1.1 (places t).2.2.1.2

theorem block3 (c : Dev nD) (t : Fin cfg0.N) :
    (iblk m c 3 t : Vec Ideal S1x1024 .f32) = m ((c.tc : Thread nD τ).loc main_arg3) :=
  whole (i := win0_3.index t 0) (j := win0_3.index t 1) (fun _ => rfl) (fun _ => rfl) (fun _ => rfl)
    (places t).2.2.2.1.1 (places t).2.2.2.1.2

theorem value4 (c : Dev nD) : (dats m 0 c).arrAt 4 cfg0.N = ResNormRefIdeal.Read.val_main_v12 (F := Ideal)
    (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  obtain ⟨p0, p1⟩ := (places t).2.2.2.2.1
  blk_simp
  rw [after0_4]
  unfold out0_4
  frame_out
  refine residual (block0 m c t) (block1 m c t) (block2 m c t) y _ ?_ ?_
  · show win0_4.index t 0 * 256 + 1 * (y 0).val = _; omega
  · show win0_4.index t 1 * 1024 + 1 * (y 1).val = _; omega

theorem value5 (c : Dev nD) : (dats m 0 c).arrAt 5 cfg0.N = ResNormRefIdeal.Read.val_main_v25 (F := Ideal)
    (m ((c.tc : Thread nD τ).loc main_arg0)) (m ((c.tc : Thread nD τ).loc main_arg1)) (m ((c.tc : Thread nD τ).loc main_arg2))
    (m ((c.tc : Thread nD τ).loc main_arg3)) := by
  refine (dats m 0 c).arrAt_eq_of_covers 5 _ (by decide +kernel) fun t hf y => ?_
  obtain ⟨p0, p1⟩ := (places t).2.2.2.2.2
  blk_simp
  rw [after0_5]
  unfold out0_5
  frame_out
  refine normed (block0 m c t) (block1 m c t) (block2 m c t) (block3 m c t) y _ ?_ ?_
  · show win0_5.index t 0 * 256 + 1 * (y 0).val = _; omega
  · show win0_5.index t 1 * 1024 + 1 * (y 1).val = _; omega

theorem frame : Cert.quiescent_ResNorm := fun m ρ _ => Cert.ResNorm.Gen.frame m ρ
theorem frame_ideal : Cert.quiescent_ResNormIdeal := fun m ρ _ => Gen.frame m ρ
theorem frame_ref_ideal : Cert.quiescent_ResNormRefIdeal := fun m ρ _ =>
  (θ_run Cert.ResNormRefIdeal.defs _ _).mono
    (fun r h => ⟨fun c => (h c).2.2, sem_eq_zero_of_no_sems (by decide) r.2⟩)
    (Cert.ResNormRefIdeal.Value.run (F := Ideal) m ρ)

theorem algebraic : Cert.algebraic_ResNormIdeal_ResNormRefIdeal := by
  intro m ρ m' ρ' _ hagree
  refine ⟨_, _, Value.run_blocks (F := Ideal) m ρ, ?_⟩
  refine (θ_run Cert.ResNormRefIdeal.defs _ _).mono (fun _ h c => ⟨(h c).1.trans ?_, (h c).2.1.trans ?_, (h c).2.2⟩)
    (Cert.ResNormRefIdeal.Value.run (F := Ideal) m' ρ')
  · rw [(hagree c).1, (hagree c).2.1, (hagree c).2.2.1]
    exact (value4 m c).symm
  · rw [(hagree c).1, (hagree c).2.1, (hagree c).2.2.1, (hagree c).2.2.2]
    exact (value5 m c).symm

end Cert.ResNormProof

/-! ## The residual sum and two normalisations: `ResNorms` -/

namespace Cert.ResNormsProof

open Cert.ResNormsIdeal Cert.ResNormsIdeal.Gen Cert.Product Cert.RowBlocks

section Body

open ResNormsRefIdeal.Read

variable {off : ℕ} {x l : Vec Ideal S256x1024 .f32} {X L : Vec Ideal ResNormsRefIdeal.S8192x1024 .f32}
  {g G k K : Vec Ideal S1x1024 .f32}

/-- The residual sum. -/
theorem residual (hx : Rows off x X) (hl : Rows off l L) (hg : g = G) :
    Rows off (k0_pay3 x l g) (val_main_v12 (F := Ideal) X L G) :=
  hx.add ((hl.mul ((((((hl.mul hl).sum _ _ _ _ _).column' _ _).div (Rows.const _ _)).add (Rows.const _ _)).rsqrt.across _ _)).mul
    (gain hg _ _))

/-- Its normalisation with the first gain. -/
theorem first (hx : Rows off x X) (hl : Rows off l L) (hg : g = G) (hk : k = K) :
    Rows off (k0_pay1 (k0_pay4 x l g k)) (val_main_v25 (F := Ideal) X L G K) := by
  have hu := residual hx hl hg
  exact ((hu.mul ((((((hu.mul hu).sum _ _ _ _ _).column' _ _).div (Rows.const _ _)).add (Rows.const _ _)).rsqrt.across _ _)).mul
    (gain hk _ _)).trunc _ _

/-- And with the second. -/
theorem second (hx : Rows off x X) (hl : Rows off l L) (hg : g = G) (hk : k = K) :
    Rows off (k0_pay2 k (k0_pay5 x l g)) (val_main_v38 (F := Ideal) X L G K) := by
  have hu := residual hx hl hg
  exact ((hu.mul ((((((hu.mul hu).sum _ _ _ _ _).column' _ _).div (Rows.const _ _)).add (Rows.const _ _)).rsqrt.across _ _)).mul
    (gain hk _ _)).trunc _ _

end Body

variable (m : (ℓ : Loc nD τ sig) → Buf (Elt Ideal) ℓ)

theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem block0 (c : Dev nD) (t : Fin cfg0.N) :
    Rows (256 * t.val) (iblk m c 0 t : Vec Ideal S256x1024 .f32) (m ((c.tc : Thread nD τ).loc main_arg0)) :=
  Rows.placed (i := win0_0.index t 0) (j := win0_0.index t 1) (fun _ => rfl) (fun _ => rfl) (fun _ => rfl)
    (by rw [(places t).1.1, Nat.mul_comm]) (places t).1.2

theorem block1 (c : Dev nD) (t : Fin cfg0.N) :
    Rows (256 * t.val) (iblk m c 1 t : Vec Ideal S256x1024 .f32) (m ((c.tc : Thread nD τ).loc main_arg1)) :=
  Rows.placed (i := win0_1.index t 0) (j := win0_1.index t 1) (fun _ => rfl) (fun _ => rfl) (fun _ => rfl)
    (by rw [(places t).2.1.1, Nat.mul_comm]) (places t).2.1.2

theorem block2 (c : Dev nD) (t : Fin cfg0.N) :
    (iblk m c 2 t : Vec Ideal S1x1024 .f32) = m ((c.tc : Thread nD τ).loc main_arg2) :=
  whole (i := win0_2.index t 0) (j := win0_2.index t 1) (fun _ => rfl) (fun _ => rfl) (fun _ => rfl)
    (places t).2.2.1.1 (places t).2.2.1.2

theorem block3 (c : Dev nD) (t : Fin cfg0.N) :
    (iblk m c 3 t : Vec Ideal S1x1024 .f32) = m ((c.tc : Thread nD τ).loc main_arg3) :=
  whole (i := win0_3.index t 0) (j := win0_3.index t 1) (fun _ => rfl) (fun _ => rfl) (fun _ => rfl)
    (places t).2.2.2.1.1 (places t).2.2.2.1.2

theorem block4 (c : Dev nD) (t : Fin cfg0.N) :
    (iblk m c 4 t : Vec Ideal S1x1024 .f32) = m ((c.tc : Thread nD τ).loc main_arg4) :=
  whole (i := win0_4.index t 0) (j := win0_4.index t 1) (fun _ => rfl) (fun _ => rfl) (fun _ => rfl)
    (places t).2.2.2.2.1.1 (places t).2.2.2.2.1.2

theorem value5 (c : Dev nD) : (dats m 0 c).arrAt 5 cfg0.N = ResNormsRefIdeal.Read.val_main_v12 (F := Ideal)
    (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  obtain ⟨p0, p1⟩ := (places t).2.2.2.2.2.1
  blk_simp
  rw [after0_5]
  unfold out0_5
  frame_out
  refine residual (block0 m c t) (block1 m c t) (block2 m c t) y _ ?_ ?_
  · show win0_5.index t 0 * 256 + 1 * (y 0).val = _; omega
  · show win0_5.index t 1 * 1024 + 1 * (y 1).val = _; omega

theorem value6 (c : Dev nD) : (dats m 0 c).arrAt 6 cfg0.N = ResNormsRefIdeal.Read.val_main_v25 (F := Ideal)
    (m ((c.tc : Thread nD τ).loc main_arg0)) (m ((c.tc : Thread nD τ).loc main_arg1)) (m ((c.tc : Thread nD τ).loc main_arg2))
    (m ((c.tc : Thread nD τ).loc main_arg3)) := by
  refine (dats m 0 c).arrAt_eq_of_covers 6 _ (by decide +kernel) fun t hf y => ?_
  obtain ⟨p0, p1⟩ := (places t).2.2.2.2.2.2.1
  blk_simp
  rw [after0_6]
  unfold out0_6
  frame_out
  refine first (block0 m c t) (block1 m c t) (block2 m c t) (block3 m c t) y _ ?_ ?_
  · show win0_6.index t 0 * 256 + 1 * (y 0).val = _; omega
  · show win0_6.index t 1 * 1024 + 1 * (y 1).val = _; omega

theorem value7 (c : Dev nD) : (dats m 0 c).arrAt 7 cfg0.N = ResNormsRefIdeal.Read.val_main_v38 (F := Ideal)
    (m ((c.tc : Thread nD τ).loc main_arg0)) (m ((c.tc : Thread nD τ).loc main_arg1)) (m ((c.tc : Thread nD τ).loc main_arg2))
    (m ((c.tc : Thread nD τ).loc main_arg4)) := by
  refine (dats m 0 c).arrAt_eq_of_covers 7 _ (by decide +kernel) fun t hf y => ?_
  obtain ⟨p0, p1⟩ := (places t).2.2.2.2.2.2.2
  blk_simp
  rw [after0_7]
  unfold out0_7
  frame_out
  refine second (block0 m c t) (block1 m c t) (block2 m c t) (block4 m c t) y _ ?_ ?_
  · show win0_7.index t 0 * 256 + 1 * (y 0).val = _; omega
  · show win0_7.index t 1 * 1024 + 1 * (y 1).val = _; omega

theorem frame : Cert.quiescent_ResNorms := fun m ρ _ => Cert.ResNorms.Gen.frame m ρ
theorem frame_ideal : Cert.quiescent_ResNormsIdeal := fun m ρ _ => Gen.frame m ρ
theorem frame_ref_ideal : Cert.quiescent_ResNormsRefIdeal := fun m ρ _ =>
  (θ_run Cert.ResNormsRefIdeal.defs _ _).mono
    (fun r h => ⟨fun c => (h c).2.2.2, sem_eq_zero_of_no_sems (by decide) r.2⟩)
    (Cert.ResNormsRefIdeal.Value.run (F := Ideal) m ρ)

theorem algebraic : Cert.algebraic_ResNormsIdeal_ResNormsRefIdeal := by
  intro m ρ m' ρ' _ hagree
  refine ⟨_, _, _, Value.run_blocks (F := Ideal) m ρ, ?_⟩
  refine (θ_run Cert.ResNormsRefIdeal.defs _ _).mono (fun _ h c => ⟨(h c).1.trans ?_, (h c).2.1.trans ?_,
    (h c).2.2.1.trans ?_, (h c).2.2.2⟩) (Cert.ResNormsRefIdeal.Value.run (F := Ideal) m' ρ')
  · rw [(hagree c).1, (hagree c).2.1, (hagree c).2.2.1]
    exact (value5 m c).symm
  · rw [(hagree c).1, (hagree c).2.1, (hagree c).2.2.1, (hagree c).2.2.2.1]
    exact (value6 m c).symm
  · rw [(hagree c).1, (hagree c).2.1, (hagree c).2.2.1, (hagree c).2.2.2.2]
    exact (value7 m c).symm

end Cert.ResNormsProof

/-! ## The gradient of the residual sum and its two normalisations: `ResNormsBack` -/

namespace Cert.ResNormsBackProof

open Cert.ResNormsBackIdeal Cert.ResNormsBackIdeal.Gen Cert.Product Cert.RowBlocks

section Body

open ResNormsBackRefIdeal.Read

variable {off : ℕ} {x l d e f : Vec Ideal S256x1024 .f32} {X L D E H : Vec Ideal ResNormsBackRefIdeal.S8192x1024 .f32}
  {g G a A b B : Vec Ideal S1x1024 .f32}

theorem moment (hl : Rows off l L) : Rows off (k0_pay3 l) (val_main_v6 (F := Ideal) L) :=
  ((((hl.mul hl).sum _ _ _ _ _).column' _ _).div (Rows.const _ _)).add (Rows.const _ _)

theorem root (hl : Rows off l L) : Rows off (k0_pay4 l) (val_main_v7 (F := Ideal) L) := (moment hl).rsqrt

theorem slope (hl : Rows off l L) : Rows off (k0_pay5 l) (val_main_v10 (F := Ideal) L) :=
  (Rows.const _ _).mul ((root hl).div (moment hl))

theorem normed (hl : Rows off l L) : Rows off (k0_pay6 l) (val_main_v12 (F := Ideal) L) := hl.mul ((root hl).across _ _)

/-- The residual sum. -/
theorem residual (hx : Rows off x X) (hl : Rows off l L) (hg : g = G) :
    Rows off (k0_pay7 x l g) (val_main_v15 (F := Ideal) X L G) :=
  hx.add ((normed hl).mul (gain hg _ _))

/-! The residual sum is normalised twice. Both times its moment is the same; the kernel and the reference compute it anew. -/

theorem moment₁ (hx : Rows off x X) (hl : Rows off l L) (hg : g = G) :
    Rows off (k0_pay8 x l g) (val_main_v22 (F := Ideal) X L G) :=
  (((((residual hx hl hg).mul (residual hx hl hg)).sum _ _ _ _ _).column' _ _).div (Rows.const _ _)).add (Rows.const _ _)

theorem root₁ (hx : Rows off x X) (hl : Rows off l L) (hg : g = G) :
    Rows off (k0_pay9 x l g) (val_main_v23 (F := Ideal) X L G) := (moment₁ hx hl hg).rsqrt

theorem slope₁ (hx : Rows off x X) (hl : Rows off l L) (hg : g = G) :
    Rows off (k0_pay10 x l g) (val_main_v26 (F := Ideal) X L G) :=
  (Rows.const _ _).mul ((root₁ hx hl hg).div (moment₁ hx hl hg))

theorem moment₂ (hx : Rows off x X) (hl : Rows off l L) (hg : g = G) :
    Rows off (k0_pay11 (k0_pay7 x l g)) (val_main_v37 (F := Ideal) X L G) :=
  (((((residual hx hl hg).mul (residual hx hl hg)).sum _ _ _ _ _).column' _ _).div (Rows.const _ _)).add (Rows.const _ _)

theorem root₂ (hx : Rows off x X) (hl : Rows off l L) (hg : g = G) :
    Rows off (k0_pay12 (k0_pay7 x l g)) (val_main_v38 (F := Ideal) X L G) := (moment₂ hx hl hg).rsqrt

/-- What the rows add to the gradient of the gain of the first normalisation. -/
theorem gain_rows₁ (hx : Rows off x X) (hl : Rows off l L) (hg : g = G) (he : Rows off e E) :
    Rows off (mulf (mulf (k0_pay7 x l g) (broadcastTo S256x1024 (k0_pay9 x l g) broadcasts_S256x1_S256x1024)) e : Vec Ideal S256x1024 .f32)
      (val_main_v66 (F := Ideal) X L G E) :=
  ((residual hx hl hg).mul ((root₁ hx hl hg).across _ _)).mul he

/-- And of the second. -/
theorem gain_rows₂ (hx : Rows off x X) (hl : Rows off l L) (hg : g = G) (hf : Rows off f H) :
    Rows off (mulf (mulf (k0_pay7 x l g) (broadcastTo S256x1024 (k0_pay12 (k0_pay7 x l g)) broadcasts_S256x1_S256x1024)) f : Vec Ideal S256x1024 .f32)
      (val_main_v46 (F := Ideal) X L G H) :=
  ((residual hx hl hg).mul ((root₂ hx hl hg).across _ _)).mul hf

/-- What reaches the residual sum before the mean of the first normalisation. -/
theorem part (hx : Rows off x X) (hl : Rows off l L) (hg : g = G) (ha : a = A) (hb : b = B) (hd : Rows off d D)
    (he : Rows off e E) (hf : Rows off f H) :
    Rows off (k0_pay16 a b d e f (k0_pay7 x l g) (k0_pay9 x l g)) (val_main_v76 (F := Ideal) X L G A B D E H) := by
  have hu := residual hx hl hg
  have hv : Rows off (mulf (F := Ideal) (φ := .f32) f (broadcastTo S256x1024 b broadcasts_S1x1024_S256x1024) : Vec Ideal S256x1024 .f32)
      (val_main_v50 (F := Ideal) B H) := hf.mul (gain hb _ _)
  have hs : Rows off _ (val_main_v61 (F := Ideal) X L G B H) :=
    ((((((hu.mul hv).sum reduces_S256x1024_S256 (.inl rfl) rfl _ _).column shapeCasts_S256_S256x1 _).mul
      ((Rows.const _ _).mul ((root₂ hx hl hg).div (moment₂ hx hl hg)))).div (Rows.const _ _)).sum
      reduces_S256x1_S256 (.inl rfl) rfl _ _).across shapeCasts_S256_S256x1 broadcasts_S256x1_S256x1024 _
  have hw : Rows off (k0_pay15 a e) (val_main_v70 (F := Ideal) A E) := he.mul (gain ha _ _)
  exact (((hd.add (hv.mul ((root₂ hx hl hg).across _ _))).add (hu.mul hs)).add (hs.mul hu)).add
    (hw.mul ((root₁ hx hl hg).across _ _))

/-- The gradient of the residual sum. -/
theorem rows' (hx : Rows off x X) (hl : Rows off l L) (hg : g = G) (ha : a = A) (hb : b = B) (hd : Rows off d D)
    (he : Rows off e E) (hf : Rows off f H) :
    Rows off (k0_pay19 (k0_pay7 x l g) (k0_pay16 a b d e f (k0_pay7 x l g) (k0_pay9 x l g))
      (k0_pay17 a e (k0_pay7 x l g) (k0_pay10 x l g)) k0_pay18) (val_main_v85 (F := Ideal) X L G A B D E H) := by
  have hu := residual hx hl hg
  have hw : Rows off (k0_pay15 a e) (val_main_v70 (F := Ideal) A E) := he.mul (gain ha _ _)
  have hs : Rows off _ (val_main_v81 (F := Ideal) X L G A E) :=
    ((((((hu.mul hw).sum reduces_S256x1024_S256 (.inl rfl) rfl _ _).column shapeCasts_S256_S256x1 _).mul
      (slope₁ hx hl hg)).div (Rows.const _ _)).sum reduces_S256x1_S256 (.inl rfl) rfl _ _).across
      shapeCasts_S256_S256x1 broadcasts_S256x1_S256x1024 _
  exact ((part hx hl hg ha hb hd he hf).add (hu.mul hs)).add (hs.mul hu)

theorem rows'' (hx : Rows off x X) (hl : Rows off l L) (hg : g = G) (ha : a = A) (hb : b = B) (hd : Rows off d D)
    (he : Rows off e E) (hf : Rows off f H) :
    Rows off (k0_pay20 (k0_pay7 x l g) (k0_pay16 a b d e f (k0_pay7 x l g) (k0_pay9 x l g))
      (k0_pay17 a e (k0_pay7 x l g) (k0_pay10 x l g)) k0_pay18) (val_main_v86 (F := Ideal) X L G A B D E H) :=
  (rows' hx hl hg ha hb hd he hf).cast _ _

/-- What the rows add to the gradient of the gain of the layer's output. -/
theorem gain_rows (hx : Rows off x X) (hl : Rows off l L) (hg : g = G) (ha : a = A) (hb : b = B) (hd : Rows off d D)
    (he : Rows off e E) (hf : Rows off f H) :
    Rows off (mulf (k0_pay6 l) (k0_pay20 (k0_pay7 x l g) (k0_pay16 a b d e f (k0_pay7 x l g) (k0_pay9 x l g))
      (k0_pay17 a e (k0_pay7 x l g) (k0_pay10 x l g)) k0_pay18)) (val_main_v87 (F := Ideal) X L G A B D E H) :=
  (normed hl).mul (rows'' hx hl hg ha hb hd he hf)

/-- The gradient of the layer's output. -/
theorem rows (hx : Rows off x X) (hl : Rows off l L) (hg : g = G) (ha : a = A) (hb : b = B) (hd : Rows off d D)
    (he : Rows off e E) (hf : Rows off f H) :
    Rows off (k0_pay21 l g (k0_pay4 l) (k0_pay5 l) (k0_pay7 x l g) (k0_pay16 a b d e f (k0_pay7 x l g) (k0_pay9 x l g))
      (k0_pay17 a e (k0_pay7 x l g) (k0_pay10 x l g)) k0_pay18) (val_main_v105 (F := Ideal) X L G A B D E H) := by
  have hv : Rows off (mulf (k0_pay20 (k0_pay7 x l g) (k0_pay16 a b d e f (k0_pay7 x l g) (k0_pay9 x l g))
      (k0_pay17 a e (k0_pay7 x l g) (k0_pay10 x l g)) k0_pay18) (broadcastTo S256x1024 g broadcasts_S1x1024_S256x1024))
      (val_main_v91 (F := Ideal) X L G A B D E H) :=
    (rows'' hx hl hg ha hb hd he hf).mul (gain hg _ _)
  have hs : Rows off _ (val_main_v101 (F := Ideal) X L G A B D E H) :=
    ((((((hl.mul hv).sum reduces_S256x1024_S256 (.inl rfl) rfl _ _).column shapeCasts_S256_S256x1 _).mul
      (slope hl)).div (Rows.const _ _)).sum reduces_S256x1_S256 (.inl rfl) rfl _ _).across
      shapeCasts_S256_S256x1 broadcasts_S256x1_S256x1024 _
  exact ((hv.mul ((root hl).across _ _)).add (hl.mul hs)).add (hs.mul hl)

end Body

variable (m : (ℓ : Loc nD τ sig) → Buf (Elt Ideal) ℓ)

theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem block0 (c : Dev nD) (t : Fin cfg0.N) :
    Rows (256 * t.val) (iblk m c 0 t : Vec Ideal S256x1024 .f32) (m ((c.tc : Thread nD τ).loc main_arg0)) :=
  Rows.placed (i := win0_0.index t 0) (j := win0_0.index t 1) (fun _ => rfl) (fun _ => rfl) (fun _ => rfl)
    (by rw [(places t).1.1, Nat.mul_comm]) (places t).1.2

theorem block1 (c : Dev nD) (t : Fin cfg0.N) :
    Rows (256 * t.val) (iblk m c 1 t : Vec Ideal S256x1024 .f32) (m ((c.tc : Thread nD τ).loc main_arg1)) :=
  Rows.placed (i := win0_1.index t 0) (j := win0_1.index t 1) (fun _ => rfl) (fun _ => rfl) (fun _ => rfl)
    (by rw [(places t).2.1.1, Nat.mul_comm]) (places t).2.1.2

theorem block2 (c : Dev nD) (t : Fin cfg0.N) :
    (iblk m c 2 t : Vec Ideal S1x1024 .f32) = m ((c.tc : Thread nD τ).loc main_arg2) :=
  whole (i := win0_2.index t 0) (j := win0_2.index t 1) (fun _ => rfl) (fun _ => rfl) (fun _ => rfl)
    (places t).2.2.1.1 (places t).2.2.1.2

theorem block3 (c : Dev nD) (t : Fin cfg0.N) :
    (iblk m c 3 t : Vec Ideal S1x1024 .f32) = m ((c.tc : Thread nD τ).loc main_arg3) :=
  whole (i := win0_3.index t 0) (j := win0_3.index t 1) (fun _ => rfl) (fun _ => rfl) (fun _ => rfl)
    (places t).2.2.2.1.1 (places t).2.2.2.1.2

theorem block4 (c : Dev nD) (t : Fin cfg0.N) :
    (iblk m c 4 t : Vec Ideal S1x1024 .f32) = m ((c.tc : Thread nD τ).loc main_arg4) :=
  whole (i := win0_4.index t 0) (j := win0_4.index t 1) (fun _ => rfl) (fun _ => rfl) (fun _ => rfl)
    (places t).2.2.2.2.1.1 (places t).2.2.2.2.1.2

theorem block5 (c : Dev nD) (t : Fin cfg0.N) :
    Rows (256 * t.val) (iblk m c 5 t : Vec Ideal S256x1024 .f32) (m ((c.tc : Thread nD τ).loc main_arg5)) :=
  Rows.placed (i := win0_5.index t 0) (j := win0_5.index t 1) (fun _ => rfl) (fun _ => rfl) (fun _ => rfl)
    (by rw [(places t).2.2.2.2.2.1.1, Nat.mul_comm]) (places t).2.2.2.2.2.1.2

theorem block6 (c : Dev nD) (t : Fin cfg0.N) :
    Rows (256 * t.val) (iblk m c 6 t : Vec Ideal S256x1024 .f32) (m ((c.tc : Thread nD τ).loc main_arg6)) :=
  Rows.placed (i := win0_6.index t 0) (j := win0_6.index t 1) (fun _ => rfl) (fun _ => rfl) (fun _ => rfl)
    (by rw [(places t).2.2.2.2.2.2.1.1, Nat.mul_comm]) (places t).2.2.2.2.2.2.1.2

theorem block7 (c : Dev nD) (t : Fin cfg0.N) :
    Rows (256 * t.val) (iblk m c 7 t : Vec Ideal S256x1024 .f32) (m ((c.tc : Thread nD τ).loc main_arg7)) :=
  Rows.placed (i := win0_7.index t 0) (j := win0_7.index t 1) (fun _ => rfl) (fun _ => rfl) (fun _ => rfl)
    (by rw [(places t).2.2.2.2.2.2.2.1.1, Nat.mul_comm]) (places t).2.2.2.2.2.2.2.1.2

/-- The row gradients that a grid point writes. -/
theorem left (c : Dev nD) (t : Fin cfg0.N) : Rows (256 * t.val) (outsAt0 m c t.val t.isLt).1
    (ResNormsBackRefIdeal.Read.val_main_v85 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)))
    ∧ Rows (256 * t.val) (outsAt0 m c t.val t.isLt).2.1
    (ResNormsBackRefIdeal.Read.val_main_v105 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7))) := by
  have h := rows' (block0 m c t) (block1 m c t) (block2 m c t) (block3 m c t) (block4 m c t) (block5 m c t) (block6 m c t)
    (block7 m c t)
  have h' := rows (block0 m c t) (block1 m c t) (block2 m c t) (block3 m c t) (block4 m c t) (block5 m c t) (block6 m c t)
    (block7 m c t)
  by_cases h0 : t.val % 32 = 0
  · rw [outsAt0_A m c t h0]
    constructor
    · frame_out; exact h
    · frame_out; exact h'
  · rw [outsAt0_B m c t h0]
    constructor
    · frame_out; exact h
    · frame_out; exact h'

theorem value8 (c : Dev nD) : (dats m 0 c).arrAt 8 cfg0.N = ResNormsBackRefIdeal.Read.val_main_v85 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) := by
  refine (dats m 0 c).arrAt_eq_of_covers 8 _ (by decide +kernel) fun t hf y => ?_
  obtain ⟨p0, p1⟩ := (places t).2.2.2.2.2.2.2.2.1
  blk_simp
  rw [after0_8]
  refine (left m c t).1 y _ ?_ ?_
  · show win0_8.index t 0 * 256 + 1 * (y 0).val = _; omega
  · show win0_8.index t 1 * 1024 + 1 * (y 1).val = _; omega

theorem value9 (c : Dev nD) : (dats m 0 c).arrAt 9 cfg0.N = ResNormsBackRefIdeal.Read.val_main_v105 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) := by
  refine (dats m 0 c).arrAt_eq_of_covers 9 _ (by decide +kernel) fun t hf y => ?_
  obtain ⟨p0, p1⟩ := (places t).2.2.2.2.2.2.2.2.2
  blk_simp
  rw [after0_9]
  refine (left m c t).2 y _ ?_ ?_
  · show win0_9.index t 0 * 256 + 1 * (y 0).val = _; omega
  · show win0_9.index t 1 * 1024 + 1 * (y 1).val = _; omega

/-- The last grid point. -/
def last : Fin cfg0.N := ⟨31, by decide⟩

theorem value10 (c : Dev nD) : (dats m 0 c).arrAt 10 cfg0.N = ResNormsBackRefIdeal.Read.val_main_v89 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) := by
  refine (dats m 0 c).arrAt_eq_of_after_last 10 last (by decide +kernel) _ fun j => ?_
  blk_simp
  rw [after0_10]
  refine (sum_blocks (N := 32) (b := 256) (by decide) rfl (fun n h => (outsAt0 m c n h).2.2.1) _ _
    (fun n h => gain_rows (block0 m c ⟨n, h⟩) (block1 m c ⟨n, h⟩) (block2 m c ⟨n, h⟩) (block3 m c ⟨n, h⟩) (block4 m c ⟨n, h⟩)
      (block5 m c ⟨n, h⟩) (block6 m c ⟨n, h⟩) (block7 m c ⟨n, h⟩)) (fun y => ?_) (fun n h y => ?_) _ _).trans
    (sum_host _ _ _ _ _).symm
  · rw [outsAt0_A m c ⟨0, by decide⟩ rfl]
    frame_out
    exact first_block _ _ _ _ _ _ y
  · rw [outsAt0_B m c ⟨n + 1, h⟩ (by show ¬ (n + 1) % 32 = 0; have : n + 1 < 32 := h; omega)]
    frame_out [read_unread_whole]
    exact add_block _ _ _ _ _ _ _ y

theorem value11 (c : Dev nD) : (dats m 0 c).arrAt 11 cfg0.N = ResNormsBackRefIdeal.Read.val_main_v68 (F := Ideal)
    (m ((c.tc : Thread nD τ).loc main_arg0)) (m ((c.tc : Thread nD τ).loc main_arg1)) (m ((c.tc : Thread nD τ).loc main_arg2))
    (m ((c.tc : Thread nD τ).loc main_arg6)) := by
  refine (dats m 0 c).arrAt_eq_of_after_last 11 last (by decide +kernel) _ fun j => ?_
  blk_simp
  rw [after0_11]
  refine (sum_blocks (N := 32) (b := 256) (by decide) rfl (fun n h => (outsAt0 m c n h).2.2.2.1) _ _
    (fun n h => gain_rows₁ (block0 m c ⟨n, h⟩) (block1 m c ⟨n, h⟩) (block2 m c ⟨n, h⟩) (block6 m c ⟨n, h⟩))
    (fun y => ?_) (fun n h y => ?_) _ _).trans (sum_host _ _ _ _ _).symm
  · rw [outsAt0_A m c ⟨0, by decide⟩ rfl]
    frame_out
    exact first_block _ _ _ _ _ _ y
  · rw [outsAt0_B m c ⟨n + 1, h⟩ (by show ¬ (n + 1) % 32 = 0; have : n + 1 < 32 := h; omega)]
    frame_out [read_unread_whole]
    exact add_block _ _ _ _ _ _ _ y

theorem value12 (c : Dev nD) : (dats m 0 c).arrAt 12 cfg0.N = ResNormsBackRefIdeal.Read.val_main_v48 (F := Ideal)
    (m ((c.tc : Thread nD τ).loc main_arg0)) (m ((c.tc : Thread nD τ).loc main_arg1)) (m ((c.tc : Thread nD τ).loc main_arg2))
    (m ((c.tc : Thread nD τ).loc main_arg7)) := by
  refine (dats m 0 c).arrAt_eq_of_after_last 12 last (by decide +kernel) _ fun j => ?_
  blk_simp
  rw [after0_12]
  refine (sum_blocks (N := 32) (b := 256) (by decide) rfl (fun n h => (outsAt0 m c n h).2.2.2.2) _ _
    (fun n h => gain_rows₂ (block0 m c ⟨n, h⟩) (block1 m c ⟨n, h⟩) (block2 m c ⟨n, h⟩) (block7 m c ⟨n, h⟩))
    (fun y => ?_) (fun n h y => ?_) _ _).trans (sum_host _ _ _ _ _).symm
  · rw [outsAt0_A m c ⟨0, by decide⟩ rfl]
    frame_out
    exact first_block _ _ _ _ _ _ y
  · rw [outsAt0_B m c ⟨n + 1, h⟩ (by show ¬ (n + 1) % 32 = 0; have : n + 1 < 32 := h; omega)]
    frame_out [read_unread_whole]
    exact add_block _ _ _ _ _ _ _ y

theorem frame : Cert.quiescent_ResNormsBack := fun m ρ _ => Cert.ResNormsBack.Gen.frame m ρ
theorem frame_ideal : Cert.quiescent_ResNormsBackIdeal := fun m ρ _ => Gen.frame m ρ
theorem frame_ref_ideal : Cert.quiescent_ResNormsBackRefIdeal := fun m ρ _ =>
  (θ_run Cert.ResNormsBackRefIdeal.defs _ _).mono
    (fun r h => ⟨fun c => (h c).2.2.2.2.2, sem_eq_zero_of_no_sems (by decide) r.2⟩)
    (Cert.ResNormsBackRefIdeal.Value.run (F := Ideal) m ρ)

theorem algebraic : Cert.algebraic_ResNormsBackIdeal_ResNormsBackRefIdeal := by
  intro m ρ m' ρ' _ hagree
  refine ⟨_, _, _, _, _, Value.run_blocks (F := Ideal) m ρ, ?_⟩
  refine (θ_run Cert.ResNormsBackRefIdeal.defs _ _).mono (fun _ h c => ?_)
    (Cert.ResNormsBackRefIdeal.Value.run (F := Ideal) m' ρ')
  obtain ⟨e0, e1, e2, e3, e4, e5, e6, e7⟩ := hagree c
  obtain ⟨h0, h1, h2, h3, h4, h5⟩ := h c
  refine ⟨h0.trans ?_, h1.trans ?_, h2.trans ?_, h3.trans ?_, h4.trans ?_, h5⟩
  · rw [ResNormsBackRefIdeal.Read.val_main_v85_eq, e0, e1, e2, e3, e4, e5, e6, e7]
    exact (value8 m c).symm
  · rw [ResNormsBackRefIdeal.Read.val_main_v105_eq, e0, e1, e2, e3, e4, e5, e6, e7]
    exact (value9 m c).symm
  · rw [ResNormsBackRefIdeal.Read.val_main_v89_eq, e0, e1, e2, e3, e4, e5, e6, e7]
    exact (value10 m c).symm
  · rw [ResNormsBackRefIdeal.Read.val_main_v68_eq, e0, e1, e2, e6]
    exact (value11 m c).symm
  · rw [ResNormsBackRefIdeal.Read.val_main_v48_eq, e0, e1, e2, e7]
    exact (value12 m c).symm

end Cert.ResNormsBackProof

end
-- ==== Proof.Mixers.lean ====
/-
# The products of the mixers

The products into and out of the gated delta layer and the stick-breaking attention, and the gradients back through them:
for each call, what a grid point adds to the scratch, the sweep over the contracted axis, and the equation with the plain
product. They differ in the number of blocks along each axis and in the types of their arguments.
-/
module

public import proofs.«01_k».proof.Defs
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.SbOut.Frame
public import proofs.«01_k».proof.Proof.Gen.SbOutIdeal.Frame
public import proofs.«01_k».proof.Proof.Gen.SbOutIdeal.Value
public import proofs.«01_k».proof.Proof.Gen.SbOutRefIdeal.Run
public import proofs.«01_k».proof.Proof.Gen.SbOutRefIdeal.Read
public import proofs.«01_k».proof.Proof.Gen.Query.Frame
public import proofs.«01_k».proof.Proof.Gen.QueryIdeal.Frame
public import proofs.«01_k».proof.Proof.Gen.QueryIdeal.Value
public import proofs.«01_k».proof.Proof.Gen.QueryRefIdeal.Run
public import proofs.«01_k».proof.Proof.Gen.QueryRefIdeal.Read
public import proofs.«01_k».proof.Proof.Gen.Kv.Frame
public import proofs.«01_k».proof.Proof.Gen.KvIdeal.Frame
public import proofs.«01_k».proof.Proof.Gen.KvIdeal.Value
public import proofs.«01_k».proof.Proof.Gen.KvRefIdeal.Run
public import proofs.«01_k».proof.Proof.Gen.KvRefIdeal.Read
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Gen.KvDx.Frame
public import proofs.«01_k».proof.Proof.Gen.KvDxIdeal.Frame
public import proofs.«01_k».proof.Proof.Gen.KvDxIdeal.Value
public import proofs.«01_k».proof.Proof.Gen.KvDxRefIdeal.Run
public import proofs.«01_k».proof.Proof.Gen.KvDxRefIdeal.Read
public import proofs.«01_k».proof.Proof.Gen.InDx.Frame
public import proofs.«01_k».proof.Proof.Gen.InDxIdeal.Frame
public import proofs.«01_k».proof.Proof.Gen.InDxIdeal.Value
public import proofs.«01_k».proof.Proof.Gen.InDxRefIdeal.Run
public import proofs.«01_k».proof.Proof.Gen.InDxRefIdeal.Read
public import proofs.«01_k».proof.Proof.Gen.GateDx.Frame
public import proofs.«01_k».proof.Proof.Gen.GateDxIdeal.Frame
public import proofs.«01_k».proof.Proof.Gen.GateDxIdeal.Value
public import proofs.«01_k».proof.Proof.Gen.GateDxRefIdeal.Run
public import proofs.«01_k».proof.Proof.Gen.GateDxRefIdeal.Read
public import proofs.«01_k».proof.Proof.Product

@[expose] public section

set_option maxRecDepth 16384

noncomputable section

open Idealize.ShloMosaic Idealize.ShloMosaic.TcCoe Idealize.SL.Sem

namespace Cert.Product

open scoped BigOperators

/-- The one grid point of a sweep over an axis of one block: the scratch is cleared, and takes the product of the two blocks. -/
theorem once_nn {M K N : ℕ} {φ₁ φ₂ : FTy} (wf) (a : FVec Ideal ⟨2, ![M, K]⟩ φ₁) (b : FVec Ideal ⟨2, ![K, N]⟩ φ₂)
    (y : (⟨2, ![M, N]⟩ : Shape).Idx) :
    Ideal.ofBits .f32 0x00000000#32
        + FloatOps.matmul (⟨[1], [0], [0], [1], [], [], wf⟩ : DotDims ⟨2, ![M, K]⟩ ⟨2, ![K, N]⟩ ⟨2, ![M, N]⟩) none a b
          (constant _ .f32 0x00000000#32) y = ∑ k : Fin K, a (ValueIdx.ix2 (y 0) k) * b (ValueIdx.ix2 k (y 1)) :=
  (zero_start _).trans (product_nn wf a b y)

/-- The same with the second block transposed. -/
theorem once_nt {M K N : ℕ} {φ₁ φ₂ : FTy} (wf) (a : FVec Ideal ⟨2, ![M, K]⟩ φ₁) (b : FVec Ideal ⟨2, ![N, K]⟩ φ₂)
    (y : (⟨2, ![M, N]⟩ : Shape).Idx) :
    Ideal.ofBits .f32 0x00000000#32
        + FloatOps.matmul (⟨[1], [1], [0], [0], [], [], wf⟩ : DotDims ⟨2, ![M, K]⟩ ⟨2, ![N, K]⟩ ⟨2, ![M, N]⟩) none a b
          (constant _ .f32 0x00000000#32) y = ∑ k : Fin K, a (ValueIdx.ix2 (y 0) k) * b (ValueIdx.ix2 (y 1) k) :=
  (zero_start _).trans (product_nt wf a b y)

/-- The terms of a product of two blocks are those of the product of the arrays: the blocks' terms at a place are the arrays' at the
    place where the blocks lie. -/
theorem terms {K : ℕ} {ι₁ ι₂ κ₁ κ₂ : Type} {a : ι₁ → EReal} {b : ι₂ → EReal} {A : κ₁ → EReal} {B : κ₂ → EReal} {l : Fin K → ι₁}
    {r : Fin K → ι₂} {l' : Fin K → κ₁} {r' : Fin K → κ₂} {f : ι₁ → κ₁} {g : ι₂ → κ₂} (ha : ∀ p, a p = A (f p)) (hb : ∀ p, b p = B (g p))
    (hl : ∀ k, f (l k) = l' k) (hr : ∀ k, g (r k) = r' k) : ∑ k, a (l k) * b (r k) = ∑ k, A (l' k) * B (r' k) :=
  Finset.sum_congr rfl fun k _ => by rw [ha, hb, hl, hr]

end Cert.Product

/-! ## The gates' columns: `Gate` -/

namespace Cert.GateProof

open Cert.GateIdeal Cert.GateIdeal.Gen Cert.Product

variable (m : (ℓ : Loc nD τ sig) → Buf (Elt Ideal) ℓ)

theorem places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem value (c : Dev nD) : (dats m 0 c).arrAt 2 cfg0.N = GateRefIdeal.Read.val_main_v0 (F := Ideal)
    (m ((c.tc : Thread nD τ).loc main_arg0)) (m ((c.tc : Thread nD τ).loc main_arg1)) := by
  refine (dats m 0 c).arrAt_eq_of_covers 2 _ (by decide +kernel) fun t hf y => ?_
  obtain ⟨p0, p1, p2, p3, p4, p5⟩ := places t
  rw [GateRefIdeal.Read.val_main_v0_apply]
  blk_simp
  rw [after0_2]
  unfold outsAt0
  frame_out
  unfold k0_pay2
  simp only [shapeCast_self]
  refine (once_nn (φ₁ := .bf16) (φ₂ := .bf16) _ (iblk m c 0 t) (iblk m c 1 t) _).trans
    (terms (fun _ => rfl) (fun _ => rfl) (fun k => place_ext ?_ ?_) (fun k => place_ext ?_ ?_))
  · show win0_0.index t 0 * 1024 + 1 * (y 0).val = win0_2.index t 0 * 1024 + 1 * (y 0).val; omega
  · show win0_0.index t 1 * 1024 + 1 * k.val = k.val; omega
  · show win0_1.index t 0 * 1024 + 1 * k.val = k.val; omega
  · show win0_1.index t 1 * 128 + 1 * (y 1).val = win0_2.index t 1 * 128 + 1 * (y 1).val; omega

theorem frame : Cert.quiescent_Gate := fun m ρ _ => Cert.Gate.Gen.frame m ρ
theorem frame_ideal : Cert.quiescent_GateIdeal := fun m ρ _ => Gen.frame m ρ
theorem frame_ref_ideal : Cert.quiescent_GateRefIdeal := fun m ρ _ =>
  (θ_run Cert.GateRefIdeal.defs _ _).mono
    (fun r h => ⟨fun c => (h c).2, sem_eq_zero_of_no_sems (by decide) r.2⟩)
    (Cert.GateRefIdeal.Value.run (F := Ideal) m ρ)

theorem algebraic : Cert.algebraic_GateIdeal_GateRefIdeal := by
  intro m ρ m' ρ' _ hagree
  refine ⟨_, Value.run_blocks (F := Ideal) m ρ, ?_⟩
  refine (θ_run Cert.GateRefIdeal.defs _ _).mono (fun _ h c => ⟨(h c).1.trans ?_, (h c).2⟩)
    (Cert.GateRefIdeal.Value.run (F := Ideal) m' ρ')
  rw [(hagree c).1, (hagree c).2]
  exact (value m c).symm

end Cert.GateProof

/-! ## The gated delta layer's output: `Out` -/

namespace Cert.OutProof

open Cert.OutIdeal Cert.OutIdeal.Gen Cert.Product

variable (m : (ℓ : Loc nD τ sig) → Buf (Elt Ideal) ℓ)

theorem places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem value (c : Dev nD) : (dats m 0 c).arrAt 2 cfg0.N = OutRefIdeal.Read.val_main_v0 (F := Ideal)
    (m ((c.tc : Thread nD τ).loc main_arg0)) (m ((c.tc : Thread nD τ).loc main_arg1)) := by
  refine (dats m 0 c).arrAt_eq_of_covers 2 _ (by decide +kernel) fun t hf y => ?_
  obtain ⟨p0, p1, p2, p3, p4, p5⟩ := places t
  rw [OutRefIdeal.Read.val_main_v0_apply]
  blk_simp
  rw [after0_2]
  unfold outsAt0
  frame_out
  unfold k0_pay2
  simp only [shapeCast_self]
  refine (once_nn (φ₁ := .bf16) (φ₂ := .bf16) _ (iblk m c 0 t) (iblk m c 1 t) _).trans
    (terms (fun _ => rfl) (fun _ => rfl) (fun k => place_ext ?_ ?_) (fun k => place_ext ?_ ?_))
  · show win0_0.index t 0 * 1024 + 1 * (y 0).val = win0_2.index t 0 * 1024 + 1 * (y 0).val; omega
  · show win0_0.index t 1 * 1024 + 1 * k.val = k.val; omega
  · show win0_1.index t 0 * 1024 + 1 * k.val = k.val; omega
  · show win0_1.index t 1 * 1024 + 1 * (y 1).val = win0_2.index t 1 * 1024 + 1 * (y 1).val; omega

theorem frame : Cert.quiescent_Out := fun m ρ _ => Cert.Out.Gen.frame m ρ
theorem frame_ideal : Cert.quiescent_OutIdeal := fun m ρ _ => Gen.frame m ρ
theorem frame_ref_ideal : Cert.quiescent_OutRefIdeal := fun m ρ _ =>
  (θ_run Cert.OutRefIdeal.defs _ _).mono
    (fun r h => ⟨fun c => (h c).2, sem_eq_zero_of_no_sems (by decide) r.2⟩)
    (Cert.OutRefIdeal.Value.run (F := Ideal) m ρ)

theorem algebraic : Cert.algebraic_OutIdeal_OutRefIdeal := by
  intro m ρ m' ρ' _ hagree
  refine ⟨_, Value.run_blocks (F := Ideal) m ρ, ?_⟩
  refine (θ_run Cert.OutRefIdeal.defs _ _).mono (fun _ h c => ⟨(h c).1.trans ?_, (h c).2⟩)
    (Cert.OutRefIdeal.Value.run (F := Ideal) m' ρ')
  rw [(hagree c).1, (hagree c).2]
  exact (value m c).symm

end Cert.OutProof

/-! ## The queries: `Query` -/

namespace Cert.QueryProof

open Cert.QueryIdeal Cert.QueryIdeal.Gen Cert.Product

variable (m : (ℓ : Loc nD τ sig) → Buf (Elt Ideal) ℓ)

theorem places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem value (c : Dev nD) : (dats m 0 c).arrAt 2 cfg0.N = QueryRefIdeal.Read.val_main_v1 (F := Ideal)
    (m ((c.tc : Thread nD τ).loc main_arg0)) (m ((c.tc : Thread nD τ).loc main_arg1)) := by
  refine (dats m 0 c).arrAt_eq_of_covers 2 _ (by decide +kernel) fun t hf y => ?_
  obtain ⟨p0, p1, p2, p3, p4, p5⟩ := places t
  refine Eq.trans ?_ (QueryRefIdeal.Read.val_main_v0_apply _ _ _).symm
  blk_simp
  rw [after0_2]
  unfold outsAt0
  frame_out
  unfold k0_pay3 k0_pay2
  simp only [shapeCast_self]
  refine (once_nn (φ₁ := .bf16) (φ₂ := .bf16) _ (iblk m c 0 t) (iblk m c 1 t) _).trans
    (terms (fun _ => rfl) (fun _ => rfl) (fun k => place_ext ?_ ?_) (fun k => place_ext ?_ ?_))
  · show win0_0.index t 0 * 1024 + 1 * (y 0).val = win0_2.index t 0 * 1024 + 1 * (y 0).val; omega
  · show win0_0.index t 1 * 1024 + 1 * k.val = k.val; omega
  · show win0_1.index t 0 * 1024 + 1 * k.val = k.val; omega
  · show win0_1.index t 1 * 1024 + 1 * (y 1).val = win0_2.index t 1 * 1024 + 1 * (y 1).val; omega

theorem frame : Cert.quiescent_Query := fun m ρ _ => Cert.Query.Gen.frame m ρ
theorem frame_ideal : Cert.quiescent_QueryIdeal := fun m ρ _ => Gen.frame m ρ
theorem frame_ref_ideal : Cert.quiescent_QueryRefIdeal := fun m ρ _ =>
  (θ_run Cert.QueryRefIdeal.defs _ _).mono
    (fun r h => ⟨fun c => (h c).2, sem_eq_zero_of_no_sems (by decide) r.2⟩)
    (Cert.QueryRefIdeal.Value.run (F := Ideal) m ρ)

theorem algebraic : Cert.algebraic_QueryIdeal_QueryRefIdeal := by
  intro m ρ m' ρ' _ hagree
  refine ⟨_, Value.run_blocks (F := Ideal) m ρ, ?_⟩
  refine (θ_run Cert.QueryRefIdeal.defs _ _).mono (fun _ h c => ⟨(h c).1.trans ?_, (h c).2⟩)
    (Cert.QueryRefIdeal.Value.run (F := Ideal) m' ρ')
  rw [(hagree c).1, (hagree c).2]
  exact (value m c).symm

end Cert.QueryProof

/-! ## The attention's output: `SbOut` -/

namespace Cert.SbOutProof

open Cert.SbOutIdeal Cert.SbOutIdeal.Gen Cert.Product

variable (m : (ℓ : Loc nD τ sig) → Buf (Elt Ideal) ℓ)

theorem places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem value (c : Dev nD) : (dats m 0 c).arrAt 2 cfg0.N = SbOutRefIdeal.Read.val_main_v0 (F := Ideal)
    (m ((c.tc : Thread nD τ).loc main_arg0)) (m ((c.tc : Thread nD τ).loc main_arg1)) := by
  refine (dats m 0 c).arrAt_eq_of_covers 2 _ (by decide +kernel) fun t hf y => ?_
  obtain ⟨p0, p1, p2, p3, p4, p5⟩ := places t
  rw [SbOutRefIdeal.Read.val_main_v0_apply]
  blk_simp
  rw [after0_2]
  unfold outsAt0
  frame_out
  unfold k0_pay2
  simp only [shapeCast_self]
  refine (once_nn (φ₁ := .bf16) (φ₂ := .bf16) _ (truncf .bf16 (iblk m c 0 t) bitsLt_bf16_f32) (iblk m c 1 t) _).trans
    (terms (fun _ => rfl) (fun _ => rfl) (fun k => place_ext ?_ ?_) (fun k => place_ext ?_ ?_))
  · show win0_0.index t 0 * 1024 + 1 * (y 0).val = win0_2.index t 0 * 1024 + 1 * (y 0).val; omega
  · show win0_0.index t 1 * 1024 + 1 * k.val = k.val; omega
  · show win0_1.index t 0 * 1024 + 1 * k.val = k.val; omega
  · show win0_1.index t 1 * 1024 + 1 * (y 1).val = win0_2.index t 1 * 1024 + 1 * (y 1).val; omega

theorem frame : Cert.quiescent_SbOut := fun m ρ _ => Cert.SbOut.Gen.frame m ρ
theorem frame_ideal : Cert.quiescent_SbOutIdeal := fun m ρ _ => Gen.frame m ρ
theorem frame_ref_ideal : Cert.quiescent_SbOutRefIdeal := fun m ρ _ =>
  (θ_run Cert.SbOutRefIdeal.defs _ _).mono
    (fun r h => ⟨fun c => (h c).2, sem_eq_zero_of_no_sems (by decide) r.2⟩)
    (Cert.SbOutRefIdeal.Value.run (F := Ideal) m ρ)

theorem algebraic : Cert.algebraic_SbOutIdeal_SbOutRefIdeal := by
  intro m ρ m' ρ' _ hagree
  refine ⟨_, Value.run_blocks (F := Ideal) m ρ, ?_⟩
  refine (θ_run Cert.SbOutRefIdeal.defs _ _).mono (fun _ h c => ⟨(h c).1.trans ?_, (h c).2⟩)
    (Cert.SbOutRefIdeal.Value.run (F := Ideal) m' ρ')
  rw [(hagree c).1, (hagree c).2]
  exact (value m c).symm

end Cert.SbOutProof

/-! ## The keys and values: `Kv` -/

namespace Cert.KvProof

open Cert.KvIdeal Cert.KvIdeal.Gen Cert.Product

variable (m : (ℓ : Loc nD τ sig) → Buf (Elt Ideal) ℓ)

theorem places : ∀ t : Fin cfg0.N, win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = t.val / 2 ∧ win0_2.index t (1 : Fin 2) = t.val % 2 :=
  (by decide +kernel : ∀ t : Fin grid0.N, _)

theorem value (c : Dev nD) : (dats m 0 c).arrAt 2 cfg0.N = KvRefIdeal.Read.val_main_v1 (F := Ideal)
    (m ((c.tc : Thread nD τ).loc main_arg0)) (m ((c.tc : Thread nD τ).loc main_arg1)) := by
  refine (dats m 0 c).arrAt_eq_of_covers 2 _ (by decide +kernel) fun t hf y => ?_
  obtain ⟨p0, p1, p2, p3, p4, p5⟩ := places t
  refine Eq.trans ?_ (KvRefIdeal.Read.val_main_v0_apply _ _ _).symm
  blk_simp
  rw [after0_2]
  unfold outsAt0
  frame_out
  unfold k0_pay3 k0_pay2
  simp only [shapeCast_self]
  refine (once_nn (φ₁ := .bf16) (φ₂ := .bf16) _ (iblk m c 0 t) (iblk m c 1 t) _).trans
    (terms (fun _ => rfl) (fun _ => rfl) (fun k => place_ext ?_ ?_) (fun k => place_ext ?_ ?_))
  · show win0_0.index t 0 * 1024 + 1 * (y 0).val = win0_2.index t 0 * 1024 + 1 * (y 0).val; omega
  · show win0_0.index t 1 * 1024 + 1 * k.val = k.val; omega
  · show win0_1.index t 0 * 1024 + 1 * k.val = k.val; omega
  · show win0_1.index t 1 * 1024 + 1 * (y 1).val = win0_2.index t 1 * 1024 + 1 * (y 1).val; omega

theorem frame : Cert.quiescent_Kv := fun m ρ _ => Cert.Kv.Gen.frame m ρ
theorem frame_ideal : Cert.quiescent_KvIdeal := fun m ρ _ => Gen.frame m ρ
theorem frame_ref_ideal : Cert.quiescent_KvRefIdeal := fun m ρ _ =>
  (θ_run Cert.KvRefIdeal.defs _ _).mono
    (fun r h => ⟨fun c => (h c).2, sem_eq_zero_of_no_sems (by decide) r.2⟩)
    (Cert.KvRefIdeal.Value.run (F := Ideal) m ρ)

theorem algebraic : Cert.algebraic_KvIdeal_KvRefIdeal := by
  intro m ρ m' ρ' _ hagree
  refine ⟨_, Value.run_blocks (F := Ideal) m ρ, ?_⟩
  refine (θ_run Cert.KvRefIdeal.defs _ _).mono (fun _ h c => ⟨(h c).1.trans ?_, (h c).2⟩)
    (Cert.KvRefIdeal.Value.run (F := Ideal) m' ρ')
  rw [(hagree c).1, (hagree c).2]
  exact (value m c).symm

end Cert.KvProof

/-! ## Back through the gates' columns: `GateDx` -/

namespace Cert.GateDxProof

open Cert.GateDxIdeal Cert.GateDxIdeal.Gen Cert.Product

variable (m : (ℓ : Loc nD τ sig) → Buf (Elt Ideal) ℓ)

theorem places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem value (c : Dev nD) : (dats m 0 c).arrAt 2 cfg0.N = GateDxRefIdeal.Read.val_main_v2 (F := Ideal)
    (m ((c.tc : Thread nD τ).loc main_arg0)) (m ((c.tc : Thread nD τ).loc main_arg1)) := by
  refine (dats m 0 c).arrAt_eq_of_covers 2 _ (by decide +kernel) fun t hf y => ?_
  obtain ⟨p0, p1, p2, p3, p4, p5⟩ := places t
  rw [GateDxRefIdeal.Read.val_main_v2_apply]
  simp only [GateDxRefIdeal.Read.val_main_v1_apply, GateDxRefIdeal.Read.val_main_v0_apply]
  blk_simp
  rw [after0_2]
  unfold outsAt0
  frame_out
  unfold k0_pay2
  simp only [shapeCast_self]
  refine (once_nt (φ₁ := .bf16) (φ₂ := .bf16) _ (truncf .bf16 (iblk m c 0 t) bitsLt_bf16_f32) (iblk m c 1 t) _).trans
    (terms (fun _ => rfl) (fun _ => rfl) (fun k => place_ext ?_ ?_)
      (fun k => congrArg (m ((c.tc : Thread nD τ).loc main_arg1)) (place_ext ?_ ?_)))
  · show win0_0.index t 0 * 1024 + 1 * (y 0).val = win0_2.index t 0 * 1024 + 1 * (y 0).val; omega
  · show win0_0.index t 1 * 128 + 1 * k.val = k.val; omega
  · show win0_1.index t 0 * 1024 + 1 * (y 1).val = win0_2.index t 1 * 1024 + 1 * (y 1).val; omega
  · show win0_1.index t 1 * 128 + 1 * k.val = k.val; omega

theorem frame : Cert.quiescent_GateDx := fun m ρ _ => Cert.GateDx.Gen.frame m ρ
theorem frame_ideal : Cert.quiescent_GateDxIdeal := fun m ρ _ => Gen.frame m ρ
theorem frame_ref_ideal : Cert.quiescent_GateDxRefIdeal := fun m ρ _ =>
  (θ_run Cert.GateDxRefIdeal.defs _ _).mono
    (fun r h => ⟨fun c => (h c).2, sem_eq_zero_of_no_sems (by decide) r.2⟩)
    (Cert.GateDxRefIdeal.Value.run (F := Ideal) m ρ)

theorem algebraic : Cert.algebraic_GateDxIdeal_GateDxRefIdeal := by
  intro m ρ m' ρ' _ hagree
  refine ⟨_, Value.run_blocks (F := Ideal) m ρ, ?_⟩
  refine (θ_run Cert.GateDxRefIdeal.defs _ _).mono (fun _ h c => ⟨(h c).1.trans ?_, (h c).2⟩)
    (Cert.GateDxRefIdeal.Value.run (F := Ideal) m' ρ')
  rw [(hagree c).1, (hagree c).2]
  exact (value m c).symm

end Cert.GateDxProof

/-! ## The products back through a weight

Each sums blocks of 512 columns into the scratch, one block a grid point, and stores the same step. -/

namespace Cert.BackProof

open Cert.OutDxIdeal Cert.OutDxIdeal.Gen Cert.Product

/-- What a grid point adds to the scratch, at a place of the block. -/
abbrev addend (a : Vec Ideal S1024x512 .f32) (b : Vec Ideal S1024x512 .bf16) (y : S1024x1024.Idx) (k : Fin 512) : EReal :=
  a (ValueIdx.ix2 (y 0) k) * b (ValueIdx.ix2 (y 1) k)

/-- The store of a grid point: what the scratch held, and the product of the two blocks. -/
theorem step (v : Vec Ideal S1024x1024 .f32) (a : Vec Ideal S1024x512 .f32) (b : Vec Ideal S1024x512 .bf16) (y : S1024x1024.Idx) :
    k0_pay2 v a b y = v y + ∑ k, addend a b y k := by
  unfold k0_pay2
  simp only [shapeCast_self]
  exact congrArg (v y + ·) (product_nt _ (truncf .bf16 a bitsLt_bf16_f32) b y)

end Cert.BackProof

/-! ## Back through the square weights: `OutDx` -/

namespace Cert.OutDxProof

open Cert.OutDxIdeal Cert.OutDxIdeal.Gen Cert.Product Cert.BackProof

variable (m : (ℓ : Loc nD τ sig) → Buf (Elt Ideal) ℓ)

theorem first (c : Dev nD) (n : ℕ) (h : n < cfg0.N) (y : S1024x1024.Idx) (h0 : n % 2 = 0) :
    (outsAt0 m c n h).2 y = ∑ k, addend (iblk m c 0 ⟨n, h⟩) (iblk m c 1 ⟨n, h⟩) y k := by
  rw [outsAt0_A m c ⟨n, h⟩ h0 (by dsimp only; omega)]
  frame_out
  exact (step (k0_pay1 (F := Ideal)) (iblk m c 0 ⟨n, h⟩) (iblk m c 1 ⟨n, h⟩) y).trans (zero_start _)

theorem later (c : Dev nD) (n : ℕ) (h : n + 1 < cfg0.N) (y : S1024x1024.Idx) (h0 : (n + 1) % 2 ≠ 0) :
    (outsAt0 m c (n + 1) h).2 y = (outsAt0 m c n (Nat.lt_of_succ_lt h)).2 y
      + ∑ k, addend (iblk m c 0 ⟨n + 1, h⟩) (iblk m c 1 ⟨n + 1, h⟩) y k := by
  rw [outsAt0_B m c ⟨n + 1, h⟩ h0 (by dsimp only; omega)]
  frame_out [read_unread_whole]
  exact step _ (iblk m c 0 ⟨n + 1, h⟩) (iblk m c 1 ⟨n + 1, h⟩) y

theorem last (c : Dev nD) (n : ℕ) (h : n < cfg0.N) (h1 : n % 2 = 1) : (outsAt0 m c n h).1 = (outsAt0 m c n h).2 := by
  rw [outsAt0_B m c ⟨n, h⟩ (by dsimp only; omega) h1]
  frame_out

theorem places : ∀ t : Fin cfg0.N, win0_0.index t (0 : Fin 2) = t.val / 2 ∧ win0_0.index t (1 : Fin 2) = t.val % 2
    ∧ win0_1.index t (0 : Fin 2) = 0 ∧ win0_1.index t (1 : Fin 2) = t.val % 2 :=
  (by decide +kernel : ∀ t : Fin grid0.N, _)

theorem value (c : Dev nD) : Value.G2 m c = OutDxRefIdeal.Read.val_main_v2 (F := Ideal)
    (m ((c.tc : Thread nD τ).loc main_arg0)) (m ((c.tc : Thread nD τ).loc main_arg1)) := by
  funext i
  have hN : cfg0.N = 16 := N_0
  have i0 : (i 0).val < 8192 := (i 0).isLt
  have i1 : (i 1).val < 1024 := (i 1).isLt
  have hr : Value.run2Of i = 1 * ((i 0).val / 1024) + (i 1).val / 1024 := by
    show 1 * ((i 0).val / 1024 - 0) + 1 * ((i 1).val / 1024 - 0) = _
    omega
  have hp : Value.pt2Of i < cfg0.N := by
    show 2 * Value.run2Of i + 1 < _
    omega
  rw [OutDxRefIdeal.Read.val_main_v2_apply]
  simp only [OutDxRefIdeal.Read.val_main_v1_apply, OutDxRefIdeal.Read.val_main_v0_apply]
  unfold Value.G2
  rw [dif_pos hp, ← Value.outsAt0_sweep m c _ hp, last m c _ hp (by show (2 * Value.run2Of i + 1) % 2 = 1; omega)]
  refine run_sum (nk := 2) (tk := 512) (by decide) rfl (fun n h => (outsAt0 m c n h).2)
    (fun n h => addend (iblk m c 0 ⟨n, h⟩) (iblk m c 1 ⟨n, h⟩)) (first m c) (later m c) _ (Value.run2Of i) (Value.loc2Of i) hp fun s k => ?_
  obtain ⟨p0, p1, p2, p3⟩ := places ⟨2 * Value.run2Of i + s.val, by omega⟩
  dsimp only at p0 p1 p2 p3
  refine congrArg₂ (· * ·) (congrArg (m ((c.tc : Thread nD τ).loc main_arg0)) (place_ext ?_ ?_))
    (congrArg (m ((c.tc : Thread nD τ).loc main_arg1)) (place_ext ?_ ?_))
  · show win0_0.index _ 0 * 1024 + 1 * ((i 0).val % 1024) = (i 0).val; omega
  · show win0_0.index _ 1 * 512 + 1 * k.val = 512 * s.val + k.val; omega
  · show win0_1.index _ 0 * 1024 + 1 * ((i 1).val % 1024) = (i 1).val; omega
  · show win0_1.index _ 1 * 512 + 1 * k.val = 512 * s.val + k.val; omega

theorem frame : Cert.quiescent_OutDx := fun m ρ _ => Cert.OutDx.Gen.frame m ρ
theorem frame_ideal : Cert.quiescent_OutDxIdeal := fun m ρ _ => Gen.frame m ρ
theorem frame_ref_ideal : Cert.quiescent_OutDxRefIdeal := fun m ρ _ =>
  (θ_run Cert.OutDxRefIdeal.defs _ _).mono
    (fun r h => ⟨fun c => (h c).2, sem_eq_zero_of_no_sems (by decide) r.2⟩)
    (Cert.OutDxRefIdeal.Value.run (F := Ideal) m ρ)

theorem algebraic : Cert.algebraic_OutDxIdeal_OutDxRefIdeal := by
  intro m ρ m' ρ' _ hagree
  refine ⟨_, Value.run (F := Ideal) m ρ, ?_⟩
  refine (θ_run Cert.OutDxRefIdeal.defs _ _).mono (fun _ h c => ⟨(h c).1.trans ?_, (h c).2⟩)
    (Cert.OutDxRefIdeal.Value.run (F := Ideal) m' ρ')
  rw [(hagree c).1, (hagree c).2]
  exact (value m c).symm

end Cert.OutDxProof

/-! ## Back through the keys and values: `KvDx` -/

namespace Cert.KvDxProof

open Cert.KvDxIdeal Cert.KvDxIdeal.Gen Cert.Product Cert.BackProof

variable (m : (ℓ : Loc nD τ sig) → Buf (Elt Ideal) ℓ)

theorem first (c : Dev nD) (n : ℕ) (h : n < cfg0.N) (y : S1024x1024.Idx) (h0 : n % 4 = 0) :
    (outsAt0 m c n h).2 y = ∑ k, addend (iblk m c 0 ⟨n, h⟩) (iblk m c 1 ⟨n, h⟩) y k := by
  rw [outsAt0_A m c ⟨n, h⟩ h0 (by dsimp only; omega)]
  frame_out
  exact (step (k0_pay1 (F := Ideal)) (iblk m c 0 ⟨n, h⟩) (iblk m c 1 ⟨n, h⟩) y).trans (zero_start _)

theorem later (c : Dev nD) (n : ℕ) (h : n + 1 < cfg0.N) (y : S1024x1024.Idx) (h0 : (n + 1) % 4 ≠ 0) :
    (outsAt0 m c (n + 1) h).2 y = (outsAt0 m c n (Nat.lt_of_succ_lt h)).2 y
      + ∑ k, addend (iblk m c 0 ⟨n + 1, h⟩) (iblk m c 1 ⟨n + 1, h⟩) y k := by
  by_cases h1 : (n + 1) % 4 = 3
  · rw [outsAt0_C m c ⟨n + 1, h⟩ h0 h1]
    frame_out [read_unread_whole]
    exact step _ (iblk m c 0 ⟨n + 1, h⟩) (iblk m c 1 ⟨n + 1, h⟩) y
  · rw [outsAt0_B m c ⟨n + 1, h⟩ h0 h1]
    frame_out [read_unread_whole]
    exact step _ (iblk m c 0 ⟨n + 1, h⟩) (iblk m c 1 ⟨n + 1, h⟩) y

theorem last (c : Dev nD) (n : ℕ) (h : n < cfg0.N) (h1 : n % 4 = 3) : (outsAt0 m c n h).1 = (outsAt0 m c n h).2 := by
  rw [outsAt0_C m c ⟨n, h⟩ (by dsimp only; omega) h1]
  frame_out

theorem places : ∀ t : Fin cfg0.N, win0_0.index t (0 : Fin 2) = t.val / 4 ∧ win0_0.index t (1 : Fin 2) = t.val % 4
    ∧ win0_1.index t (0 : Fin 2) = 0 ∧ win0_1.index t (1 : Fin 2) = t.val % 4 :=
  (by decide +kernel : ∀ t : Fin grid0.N, _)

theorem value (c : Dev nD) : Value.G2 m c = KvDxRefIdeal.Read.val_main_v2 (F := Ideal)
    (m ((c.tc : Thread nD τ).loc main_arg0)) (m ((c.tc : Thread nD τ).loc main_arg1)) := by
  funext i
  have hN : cfg0.N = 32 := N_0
  have i0 : (i 0).val < 8192 := (i 0).isLt
  have i1 : (i 1).val < 1024 := (i 1).isLt
  have hr : Value.run2Of i = 1 * ((i 0).val / 1024) + (i 1).val / 1024 := by
    show 1 * ((i 0).val / 1024 - 0) + 1 * ((i 1).val / 1024 - 0) = _
    omega
  have hp : Value.pt2Of i < cfg0.N := by
    show 4 * Value.run2Of i + 3 < _
    omega
  rw [KvDxRefIdeal.Read.val_main_v2_apply]
  simp only [KvDxRefIdeal.Read.val_main_v1_apply, KvDxRefIdeal.Read.val_main_v0_apply]
  unfold Value.G2
  rw [dif_pos hp, ← Value.outsAt0_sweep m c _ hp, last m c _ hp (by show (4 * Value.run2Of i + 3) % 4 = 3; omega)]
  refine run_sum (nk := 4) (tk := 512) (by decide) rfl (fun n h => (outsAt0 m c n h).2)
    (fun n h => addend (iblk m c 0 ⟨n, h⟩) (iblk m c 1 ⟨n, h⟩)) (first m c) (later m c) _ (Value.run2Of i) (Value.loc2Of i) hp fun s k => ?_
  obtain ⟨p0, p1, p2, p3⟩ := places ⟨4 * Value.run2Of i + s.val, by omega⟩
  dsimp only at p0 p1 p2 p3
  refine congrArg₂ (· * ·) (congrArg (m ((c.tc : Thread nD τ).loc main_arg0)) (place_ext ?_ ?_))
    (congrArg (m ((c.tc : Thread nD τ).loc main_arg1)) (place_ext ?_ ?_))
  · show win0_0.index _ 0 * 1024 + 1 * ((i 0).val % 1024) = (i 0).val; omega
  · show win0_0.index _ 1 * 512 + 1 * k.val = 512 * s.val + k.val; omega
  · show win0_1.index _ 0 * 1024 + 1 * ((i 1).val % 1024) = (i 1).val; omega
  · show win0_1.index _ 1 * 512 + 1 * k.val = 512 * s.val + k.val; omega

theorem frame : Cert.quiescent_KvDx := fun m ρ _ => Cert.KvDx.Gen.frame m ρ
theorem frame_ideal : Cert.quiescent_KvDxIdeal := fun m ρ _ => Gen.frame m ρ
theorem frame_ref_ideal : Cert.quiescent_KvDxRefIdeal := fun m ρ _ =>
  (θ_run Cert.KvDxRefIdeal.defs _ _).mono
    (fun r h => ⟨fun c => (h c).2, sem_eq_zero_of_no_sems (by decide) r.2⟩)
    (Cert.KvDxRefIdeal.Value.run (F := Ideal) m ρ)

theorem algebraic : Cert.algebraic_KvDxIdeal_KvDxRefIdeal := by
  intro m ρ m' ρ' _ hagree
  refine ⟨_, Value.run (F := Ideal) m ρ, ?_⟩
  refine (θ_run Cert.KvDxRefIdeal.defs _ _).mono (fun _ h c => ⟨(h c).1.trans ?_, (h c).2⟩)
    (Cert.KvDxRefIdeal.Value.run (F := Ideal) m' ρ')
  rw [(hagree c).1, (hagree c).2]
  exact (value m c).symm

end Cert.KvDxProof

/-! ## Back through the gated delta layer's first weight: `InDx` -/

namespace Cert.InDxProof

open Cert.InDxIdeal Cert.InDxIdeal.Gen Cert.Product Cert.BackProof

variable (m : (ℓ : Loc nD τ sig) → Buf (Elt Ideal) ℓ)

theorem first (c : Dev nD) (n : ℕ) (h : n < cfg0.N) (y : S1024x1024.Idx) (h0 : n % 8 = 0) :
    (outsAt0 m c n h).2 y = ∑ k, addend (iblk m c 0 ⟨n, h⟩) (iblk m c 1 ⟨n, h⟩) y k := by
  rw [outsAt0_A m c ⟨n, h⟩ h0 (by dsimp only; omega)]
  frame_out
  exact (step (k0_pay1 (F := Ideal)) (iblk m c 0 ⟨n, h⟩) (iblk m c 1 ⟨n, h⟩) y).trans (zero_start _)

theorem later (c : Dev nD) (n : ℕ) (h : n + 1 < cfg0.N) (y : S1024x1024.Idx) (h0 : (n + 1) % 8 ≠ 0) :
    (outsAt0 m c (n + 1) h).2 y = (outsAt0 m c n (Nat.lt_of_succ_lt h)).2 y
      + ∑ k, addend (iblk m c 0 ⟨n + 1, h⟩) (iblk m c 1 ⟨n + 1, h⟩) y k := by
  by_cases h1 : (n + 1) % 8 = 7
  · rw [outsAt0_C m c ⟨n + 1, h⟩ h0 h1]
    frame_out [read_unread_whole]
    exact step _ (iblk m c 0 ⟨n + 1, h⟩) (iblk m c 1 ⟨n + 1, h⟩) y
  · rw [outsAt0_B m c ⟨n + 1, h⟩ h0 h1]
    frame_out [read_unread_whole]
    exact step _ (iblk m c 0 ⟨n + 1, h⟩) (iblk m c 1 ⟨n + 1, h⟩) y

theorem last (c : Dev nD) (n : ℕ) (h : n < cfg0.N) (h1 : n % 8 = 7) : (outsAt0 m c n h).1 = (outsAt0 m c n h).2 := by
  rw [outsAt0_C m c ⟨n, h⟩ (by dsimp only; omega) h1]
  frame_out

theorem places : ∀ t : Fin cfg0.N, win0_0.index t (0 : Fin 2) = t.val / 8 ∧ win0_0.index t (1 : Fin 2) = t.val % 8
    ∧ win0_1.index t (0 : Fin 2) = 0 ∧ win0_1.index t (1 : Fin 2) = t.val % 8 :=
  (by decide +kernel : ∀ t : Fin grid0.N, _)

theorem value (c : Dev nD) : Value.G2 m c = InDxRefIdeal.Read.val_main_v2 (F := Ideal)
    (m ((c.tc : Thread nD τ).loc main_arg0)) (m ((c.tc : Thread nD τ).loc main_arg1)) := by
  funext i
  have hN : cfg0.N = 64 := N_0
  have i0 : (i 0).val < 8192 := (i 0).isLt
  have i1 : (i 1).val < 1024 := (i 1).isLt
  have hr : Value.run2Of i = 1 * ((i 0).val / 1024) + (i 1).val / 1024 := by
    show 1 * ((i 0).val / 1024 - 0) + 1 * ((i 1).val / 1024 - 0) = _
    omega
  have hp : Value.pt2Of i < cfg0.N := by
    show 8 * Value.run2Of i + 7 < _
    omega
  rw [InDxRefIdeal.Read.val_main_v2_apply]
  simp only [InDxRefIdeal.Read.val_main_v1_apply, InDxRefIdeal.Read.val_main_v0_apply]
  unfold Value.G2
  rw [dif_pos hp, ← Value.outsAt0_sweep m c _ hp, last m c _ hp (by show (8 * Value.run2Of i + 7) % 8 = 7; omega)]
  refine run_sum (nk := 8) (tk := 512) (by decide) rfl (fun n h => (outsAt0 m c n h).2)
    (fun n h => addend (iblk m c 0 ⟨n, h⟩) (iblk m c 1 ⟨n, h⟩)) (first m c) (later m c) _ (Value.run2Of i) (Value.loc2Of i) hp fun s k => ?_
  obtain ⟨p0, p1, p2, p3⟩ := places ⟨8 * Value.run2Of i + s.val, by omega⟩
  dsimp only at p0 p1 p2 p3
  refine congrArg₂ (· * ·) (congrArg (m ((c.tc : Thread nD τ).loc main_arg0)) (place_ext ?_ ?_))
    (congrArg (m ((c.tc : Thread nD τ).loc main_arg1)) (place_ext ?_ ?_))
  · show win0_0.index _ 0 * 1024 + 1 * ((i 0).val % 1024) = (i 0).val; omega
  · show win0_0.index _ 1 * 512 + 1 * k.val = 512 * s.val + k.val; omega
  · show win0_1.index _ 0 * 1024 + 1 * ((i 1).val % 1024) = (i 1).val; omega
  · show win0_1.index _ 1 * 512 + 1 * k.val = 512 * s.val + k.val; omega

theorem frame : Cert.quiescent_InDx := fun m ρ _ => Cert.InDx.Gen.frame m ρ
theorem frame_ideal : Cert.quiescent_InDxIdeal := fun m ρ _ => Gen.frame m ρ
theorem frame_ref_ideal : Cert.quiescent_InDxRefIdeal := fun m ρ _ =>
  (θ_run Cert.InDxRefIdeal.defs _ _).mono
    (fun r h => ⟨fun c => (h c).2, sem_eq_zero_of_no_sems (by decide) r.2⟩)
    (Cert.InDxRefIdeal.Value.run (F := Ideal) m ρ)

theorem algebraic : Cert.algebraic_InDxIdeal_InDxRefIdeal := by
  intro m ρ m' ρ' _ hagree
  refine ⟨_, Value.run (F := Ideal) m ρ, ?_⟩
  refine (θ_run Cert.InDxRefIdeal.defs _ _).mono (fun _ h c => ⟨(h c).1.trans ?_, (h c).2⟩)
    (Cert.InDxRefIdeal.Value.run (F := Ideal) m' ρ')
  rw [(hagree c).1, (hagree c).2]
  exact (value m c).symm

end Cert.InDxProof

end
-- ==== Proof.Heads.lean ====
/-
# The calls of the gated delta layer around its rule

The convolution's output is passed through SiLU, and its queries and keys are normalised head by head; the gates are computed from
their inputs; the rule's output is normalised head by head and gated. The kernel keeps the eight heads of 128 lanes side by side in the
1024 columns of a block. It adds up a head's lanes, and spreads a number over them, by products with matrices of ones and zeros. The
reference has the heads on an axis of their own.
-/
module

public import proofs.«01_k».proof.Defs
public import proofs.«01_k».proof.Proof.Gen.PostQ.Frame
public import proofs.«01_k».proof.Proof.Gen.PostQIdeal.Frame
public import proofs.«01_k».proof.Proof.Gen.PostQIdeal.Value
public import proofs.«01_k».proof.Proof.Gen.PostQRefIdeal.Run
public import proofs.«01_k».proof.Proof.Gen.PostQRefIdeal.Read
public import proofs.«01_k».proof.Proof.Gen.PostK.Frame
public import proofs.«01_k».proof.Proof.Gen.PostKIdeal.Frame
public import proofs.«01_k».proof.Proof.Gen.PostKIdeal.Value
public import proofs.«01_k».proof.Proof.Gen.PostKRefIdeal.Run
public import proofs.«01_k».proof.Proof.Gen.PostKRefIdeal.Read
public import proofs.«01_k».proof.Proof.Gen.PostV.Frame
public import proofs.«01_k».proof.Proof.Gen.PostVIdeal.Frame
public import proofs.«01_k».proof.Proof.Gen.PostVIdeal.Value
public import proofs.«01_k».proof.Proof.Gen.PostVRefIdeal.Run
public import proofs.«01_k».proof.Proof.Gen.PostVRefIdeal.Read
public import proofs.«01_k».proof.Proof.Gen.PostVBack.Frame
public import proofs.«01_k».proof.Proof.Gen.PostVBackIdeal.Frame
public import proofs.«01_k».proof.Proof.Gen.PostVBackIdeal.Value
public import proofs.«01_k».proof.Proof.Gen.PostVBackRefIdeal.Run
public import proofs.«01_k».proof.Proof.Gen.PostVBackRefIdeal.Read
public import proofs.«01_k».proof.Proof.Gen.Gates.Frame
public import proofs.«01_k».proof.Proof.Gen.GatesIdeal.Frame
public import proofs.«01_k».proof.Proof.Gen.GatesIdeal.Value
public import proofs.«01_k».proof.Proof.Gen.GatesRefIdeal.Run
public import proofs.«01_k».proof.Proof.Gen.GatesRefIdeal.Read
public import proofs.«01_k».proof.Proof.Gen.OutNorm.Frame
public import proofs.«01_k».proof.Proof.Gen.OutNormIdeal.Frame
public import proofs.«01_k».proof.Proof.Gen.OutNormIdeal.Value
public import proofs.«01_k».proof.Proof.Gen.OutNormRefIdeal.Run
public import proofs.«01_k».proof.Proof.Gen.OutNormRefIdeal.Read
public import proofs.«01_k».proof.Proof.RowBlocks
public import Idealize.ShloMosaic.Lib.IdealHost

@[expose] public section

set_option maxRecDepth 16384

noncomputable section

open Idealize.ShloMosaic Idealize.ShloMosaic.TcCoe Idealize.SL.Sem

namespace Cert.Heads

open scoped BigOperators
open Cert.Product Cert.RowBlocks

/-! ## One place at a time

`Along R a A` says that the block `a` holds at each of its places what the array `A` holds at the place that `R` relates to it. The
relation says where the block lies in the array, and how the array is laid out. -/

/-- The block `a` agrees with the array `A` at related places. -/
def Along {s S : Shape} (R : s.Idx → S.Idx → Prop) (a : s.Idx → EReal) (A : S.Idx → EReal) : Prop := ∀ y Y, R y Y → a y = A Y

section Pointwise

variable {s S : Shape} {R : s.Idx → S.Idx → Prop} {a a' : FVec Ideal s .f32} {A A' : FVec Ideal S .f32}

theorem Along.add (h : Along R a A) (h' : Along R a' A') : Along R (addf a a') (addf A A') :=
  fun y Y r => congrArg₂ (FloatOps.addf (F := Ideal)) (h y Y r) (h' y Y r)

theorem Along.mul (h : Along R a A) (h' : Along R a' A') : Along R (mulf a a') (mulf A A') :=
  fun y Y r => congrArg₂ (FloatOps.mulf (F := Ideal)) (h y Y r) (h' y Y r)

theorem Along.rsqrt (h : Along R a A) : Along R (Idealize.ShloMosaic.rsqrt a) (Host.rsqrt A) :=
  fun y Y r => congrArg Ideal.rsqrt (h y Y r)

theorem Along.trunc (h : Along R a A) (hs hS) : Along R (truncf .bf16 a hs) (truncf .bf16 A hS) := fun y Y r => h y Y r

/-- One number everywhere. -/
theorem Along.const (k : BitVec 32) (hS : (⟨0, ![]⟩ : Shape).BroadcastsInDim S ![]) :
    Along R (broadcast s (Scalar.ofBits (F := Ideal) .f32 k)) (broadcastInDim S ![] hS (constant (F := Ideal) ⟨0, ![]⟩ .f32 k)) :=
  fun _ _ _ => rfl

/-- What is subtracted from zero is negated. -/
theorem negated (x : EReal) : Ideal.ofBits .f32 0x00000000#32 - x = -x := by
  rw [show Ideal.ofBits .f32 0x00000000#32 = 0 from by simp [Ideal.ofBits, Ideal.ieee], zero_sub]

/-- The logistic function. -/
theorem Along.logistic (h : Along R a A) (hS : (⟨0, ![]⟩ : Shape).BroadcastsInDim S ![]) :
    Along R (divf (broadcast s (Scalar.ofBits (F := Ideal) .f32 0x3F800000#32))
        (addf (broadcast s (Scalar.ofBits (F := Ideal) .f32 0x3F800000#32))
          (exp (subf (broadcast s (Scalar.ofBits (F := Ideal) .f32 0x00000000#32)) a))))
      (Host.divf (broadcastInDim S ![] hS (constant (F := Ideal) ⟨0, ![]⟩ .f32 0x3F800000#32))
        (addf (broadcastInDim S ![] hS (constant (F := Ideal) ⟨0, ![]⟩ .f32 0x3F800000#32)) (Host.exp (Host.negf A)))) :=
  fun y Y r => congrArg (fun x => Ideal.div (Ideal.ofBits .f32 0x3F800000#32) (Ideal.ofBits .f32 0x3F800000#32 + Ideal.exp x))
    ((negated (a y)).trans (congrArg _ (h y Y r)))

/-- A hundred and twenty-eighth part is a quotient by 128. -/
theorem Along.part (h : Along R a A) (hS : (⟨0, ![]⟩ : Shape).BroadcastsInDim S ![]) :
    Along R (mulf a (broadcast s (Scalar.ofBits (F := Ideal) .f32 0x3C000000#32)))
      (Host.divf A (broadcastInDim S ![] hS (constant (F := Ideal) ⟨0, ![]⟩ .f32 0x43000000#32))) := by
  intro y Y r
  have h1 : Ideal.ofBits .f32 0x3C000000#32 = ((1 / 128 : ℝ) : EReal) := by
    simp [Ideal.ofBits, Ideal.ieee, -EReal.coe_mul]; norm_num
  have h2 : Ideal.ofBits .f32 0x43000000#32 = ((128 : ℝ) : EReal) := by
    simp [Ideal.ofBits, Ideal.ieee, -EReal.coe_mul]; norm_num
  show a y * Ideal.ofBits .f32 0x3C000000#32 = Ideal.div (A Y) (Ideal.ofBits .f32 0x43000000#32)
  rw [h y Y r, h1, h2, Ideal.div, if_neg (by norm_cast), ← EReal.coe_inv, one_div]

end Pointwise

/-! ## The layouts of a block -/

section Layout

variable {b B W off o : ℕ}

/-- The block's rows are the array's from `off` on, its columns those from `o` on. -/
def Flat (off o : ℕ) (y : (⟨2, ![b, 1024]⟩ : Shape).Idx) (Y : (⟨2, ![B, W]⟩ : Shape).Idx) : Prop :=
  (Y 0).val = off + (y 0).val ∧ (Y 1).val = o + (y 1).val

/-- The array has the columns of the block as eight heads of 128 lanes. -/
def Head (off : ℕ) (y : (⟨2, ![b, 1024]⟩ : Shape).Idx) (Y : (⟨3, ![B, 8, 128]⟩ : Shape).Idx) : Prop :=
  (Y 0).val = off + (y 0).val ∧ 128 * (Y 1).val + (Y 2).val = (y 1).val

/-- The array has one number for each head. -/
def Each (off : ℕ) (y : (⟨2, ![b, 1024]⟩ : Shape).Idx) (Y : (⟨3, ![B, 8, 1]⟩ : Shape).Idx) : Prop :=
  (Y 0).val = off + (y 0).val ∧ (Y 1).val = (y 1).val / 128

/-- A block read from its array through a map of places that shifts rows and columns. -/
theorem Along.placed {i j : ℕ} {a : (⟨2, ![b, 1024]⟩ : Shape).Idx → EReal} {A : (⟨2, ![B, W]⟩ : Shape).Idx → EReal}
    {e : (⟨2, ![b, 1024]⟩ : Shape).Idx → (⟨2, ![B, W]⟩ : Shape).Idx} (h : ∀ y, a y = A (e y))
    (h0 : ∀ y, (e y 0).val = i * b + 1 * (y 0).val) (h1 : ∀ y, (e y 1).val = j * 1024 + 1 * (y 1).val)
    (hi : i * b = off) (hj : j * 1024 = o) : Along (Flat off o) a A := by
  intro y Y ⟨e0, e1⟩
  refine (h y).trans (congrArg A (place_ext ?_ ?_))
  · rw [h0, hi, Nat.one_mul, e0]
  · rw [h1, hj, Nat.one_mul, e1]

/-- A column slice of the array. -/
theorem Along.slice {a : (⟨2, ![b, 1024]⟩ : Shape).Idx → EReal} {A : (⟨2, ![B, W]⟩ : Shape).Idx → EReal} (h : Along (Flat off o) a A)
    (hs : (⟨2, ![B, W]⟩ : Shape).Slices ![0, o] ⟨2, ![B, 1024]⟩) :
    Along (Flat off 0) a (extractStridedSlice ⟨2, ![B, 1024]⟩ ![0, o] A hs) := by
  intro y Y ⟨h0, h1⟩
  have hW : o + 1024 ≤ W := hs.2 (1 : Fin 2)
  have hl : (y 1).val < 1024 := (y 1).isLt
  refine (h y (ValueIdx.ix2 (Y 0) ⟨o + (y 1).val, by omega⟩) ⟨h0, rfl⟩).trans (extractStridedSlice_apply _ A hs Y _ fun c => ?_).symm
  match c with
  | ⟨0, _⟩ => show (Y 0).val = 0 + (Y 0).val; omega
  | ⟨1, _⟩ => show o + (y 1).val = o + (Y 1).val; omega

/-- The columns taken apart into heads. -/
theorem Along.split {a : (⟨2, ![b, 1024]⟩ : Shape).Idx → EReal} {A : (⟨2, ![B, 1024]⟩ : Shape).Idx → EReal} (h : Along (Flat off 0) a A)
    (hs : (⟨2, ![B, 1024]⟩ : Shape).ShapeCasts ⟨3, ![B, 8, 128]⟩) : Along (Head off) a (shapeCast ⟨3, ![B, 8, 128]⟩ A hs) := by
  intro y Y ⟨h0, h1⟩
  refine (h y (ValueIdx.ix2 (Y 0) (y 1)) ⟨h0, (Nat.zero_add _).symm⟩).trans (shapeCast_apply A hs Y _ ?_).symm
  rw [Shape.rowMajor_val_two, Shape.rowMajor_val_three]
  show (Y 0).val * 1024 + (y 1).val = ((Y 0).val * 8 + (Y 1).val) * 128 + (Y 2).val
  omega

/-- The heads put together again. -/
theorem Along.join {a : (⟨2, ![b, 1024]⟩ : Shape).Idx → EReal} {A : (⟨3, ![B, 8, 128]⟩ : Shape).Idx → EReal} (h : Along (Head off) a A)
    (hs : (⟨3, ![B, 8, 128]⟩ : Shape).ShapeCasts ⟨2, ![B, 1024]⟩) : Along (Flat off 0) a (shapeCast ⟨2, ![B, 1024]⟩ A hs) := by
  intro y Y ⟨h0, h1⟩
  have hl : (y 1).val < 1024 := (y 1).isLt
  refine (h y (ValueIdx.ix3 (Y 0) ⟨(y 1).val / 128, by omega⟩ ⟨(y 1).val % 128, by omega⟩) ⟨h0, ?_⟩).trans
    (shapeCast_apply A hs Y _ ?_).symm
  · show 128 * ((y 1).val / 128) + (y 1).val % 128 = (y 1).val
    omega
  · rw [Shape.rowMajor_val_two, Shape.rowMajor_val_three]
    show ((Y 0).val * 8 + (y 1).val / 128) * 128 + (y 1).val % 128 = (Y 0).val * 1024 + (Y 1).val
    omega

/-- A number for each head, given to all lanes of the head. -/
theorem Along.across {a : (⟨2, ![b, 1024]⟩ : Shape).Idx → EReal} {A : (⟨3, ![B, 8, 1]⟩ : Shape).Idx → EReal} (h : Along (Each off) a A)
    (hs : (⟨3, ![B, 8, 1]⟩ : Shape).BroadcastsInDim ⟨3, ![B, 8, 128]⟩ ![0, 1, 2]) :
    Along (Head off) a (broadcastInDim ⟨3, ![B, 8, 128]⟩ ![0, 1, 2] hs A) := by
  intro y Y ⟨h0, h1⟩
  have hB : (Y 0).val < B := (Y 0).isLt
  have hl : (Y 2).val < 128 := (Y 2).isLt
  refine (h y (ValueIdx.ix3 (Y 0) (Y 1) 0) ⟨h0, ?_⟩).trans (broadcastInDim_apply _ hs A Y _ fun c => ?_).symm
  · show (Y 1).val = (y 1).val / 128
    omega
  · match c with
    | ⟨0, _⟩ => show (Y 0).val = if B = 1 then 0 else (Y 0).val; split <;> omega
    | ⟨1, _⟩ => rfl
    | ⟨2, _⟩ => rfl

end Layout

/-! ## The sum over a head

The kernel adds up the lanes of a head by a product with a matrix of ones and zeros, and spreads the sums by another. -/

/-- Which head a lane belongs to. -/
def fold (h0 : (⟨2, ![1024, 128]⟩ : Shape).Iotas .tc 32 [0]) (h1 : (⟨2, ![1024, 128]⟩ : Shape).Iotas .tc 32 [1]) : FVec Ideal ⟨2, ![1024, 128]⟩ .f32 :=
  select (cmpi .eq (shrsi (iota .tc ⟨2, ![1024, 128]⟩ 32 [0] h0) (broadcast ⟨2, ![1024, 128]⟩ 7#32)) (iota .tc ⟨2, ![1024, 128]⟩ 32 [1] h1))
    (broadcast ⟨2, ![1024, 128]⟩ (Scalar.ofBits (F := Ideal) .f32 0x3F800000#32))
    (broadcast ⟨2, ![1024, 128]⟩ (Scalar.ofBits (F := Ideal) .f32 0x00000000#32))

/-- The same, turned round. -/
def spread (h0 : (⟨2, ![128, 1024]⟩ : Shape).Iotas .tc 32 [0]) (h1 : (⟨2, ![128, 1024]⟩ : Shape).Iotas .tc 32 [1]) : FVec Ideal ⟨2, ![128, 1024]⟩ .f32 :=
  select (cmpi .eq (iota .tc ⟨2, ![128, 1024]⟩ 32 [0] h0) (shrsi (iota .tc ⟨2, ![128, 1024]⟩ 32 [1] h1) (broadcast ⟨2, ![128, 1024]⟩ 7#32)))
    (broadcast ⟨2, ![128, 1024]⟩ (Scalar.ofBits (F := Ideal) .f32 0x3F800000#32))
    (broadcast ⟨2, ![128, 1024]⟩ (Scalar.ofBits (F := Ideal) .f32 0x00000000#32))

/-- The head of a lane, by a shift. -/
theorem shifted (p : Fin 1024) : IntOp.shrsi .vector (BitVec.ofNat 32 p.val) 7#32 = BitVec.ofNat 32 (p.val / 128) := by
  revert p; decide +kernel

/-- Small numbers are told apart by their words. -/
theorem words {p q : ℕ} (hp : p < 1024) (hq : q < 1024) :
    Scalar.select (IntOp.cmpi .eq (BitVec.ofNat 32 p) (BitVec.ofNat 32 q)) (Ideal.ofBits .f32 0x3F800000#32)
      (Ideal.ofBits .f32 0x00000000#32) = if p = q then 1 else 0 := by
  have one : Ideal.ofBits .f32 0x3F800000#32 = 1 := by
    simp [Ideal.ofBits, Ideal.ieee, -EReal.coe_mul]; norm_num
  have zero : Ideal.ofBits .f32 0x00000000#32 = 0 := by simp [Ideal.ofBits, Ideal.ieee]
  by_cases e : p = q
  · subst e
    rw [if_pos rfl, ← one]
    simp [IntOp.cmpi, Scalar.select]
  · have n : BitVec.ofNat 32 p ≠ BitVec.ofNat 32 q := fun h => e (by
      have := congrArg BitVec.toNat h
      simp only [BitVec.toNat_ofNat] at this
      omega)
    rw [if_neg e, ← zero]
    simp [IntOp.cmpi, Scalar.select, beq_eq_false_iff_ne.mpr n]

theorem fold_apply (h0 h1) (p : Fin 1024) (q : Fin 128) :
    fold h0 h1 (ValueIdx.ix2 p q) = if p.val / 128 = q.val then 1 else 0 := by
  have hp : p.val / 128 < 1024 := by omega
  have hq : q.val < 1024 := by omega
  refine Eq.trans ?_ (words hp hq)
  show Scalar.select (IntOp.cmpi .eq (IntOp.shrsi .vector (BitVec.ofNat 32 (0 * 1024 + p.val)) 7#32) (BitVec.ofNat 32 (0 * 128 + q.val))) _ _ = _
  simp only [Nat.zero_mul, Nat.zero_add, shifted]
  rfl

theorem spread_apply (h0 h1) (q : Fin 128) (p : Fin 1024) :
    spread h0 h1 (ValueIdx.ix2 q p) = if q.val = p.val / 128 then 1 else 0 := by
  have hp : p.val / 128 < 1024 := by omega
  have hq : q.val < 1024 := by omega
  refine Eq.trans ?_ (words hq hp)
  show Scalar.select (IntOp.cmpi .eq (BitVec.ofNat 32 (0 * 128 + q.val)) (IntOp.shrsi .vector (BitVec.ofNat 32 (0 * 1024 + p.val)) 7#32)) _ _ = _
  simp only [Nat.zero_mul, Nat.zero_add, shifted]
  rfl

/-- Of 1024 lanes, those of one head. -/
theorem lanes (f : Fin 1024 → EReal) (q : ℕ) (hq : q < 8) :
    ∑ p : Fin 1024, f p * (if p.val / 128 = q then 1 else 0) = ∑ k : Fin 128, f ⟨128 * q + k.val, by omega⟩ := by
  rw [← (finProdFinEquiv (m := 8) (n := 128)).sum_comp, Fintype.sum_prod_type, Finset.sum_eq_single ⟨q, hq⟩]
  · refine Finset.sum_congr rfl fun k _ => ?_
    have e : (finProdFinEquiv (m := 8) (n := 128) (⟨q, hq⟩, k)).val = k.val + 128 * q := rfl
    rw [if_pos (by rw [e]; omega), mul_one]
    exact congrArg f (Fin.ext (by rw [e]; exact Nat.add_comm _ _))
  · intro s _ hs
    refine Finset.sum_eq_zero fun k _ => ?_
    have e : (finProdFinEquiv (m := 8) (n := 128) (s, k)).val = k.val + 128 * s.val := rfl
    have n : s.val ≠ q := fun h => hs (Fin.ext h)
    rw [if_neg (by rw [e]; omega), mul_zero]
  · exact fun h => absurd (Finset.mem_univ _) h

/-- The sum over the head of a column, as the kernel finds it. -/
theorem head_sum {b : ℕ} (w1 w2) (h0 h1 h2 h3) (a : FVec Ideal ⟨2, ![b, 1024]⟩ .f32) (y : (⟨2, ![b, 1024]⟩ : Shape).Idx)
    (q : Fin 8) (hq : q.val = (y 1).val / 128) :
    matmul (⟨[1], [0], [0], [1], [], [], w2⟩ : DotDims ⟨2, ![b, 128]⟩ ⟨2, ![128, 1024]⟩ ⟨2, ![b, 1024]⟩) (some .fp32)
      (matmul (⟨[1], [0], [0], [1], [], [], w1⟩ : DotDims ⟨2, ![b, 1024]⟩ ⟨2, ![1024, 128]⟩ ⟨2, ![b, 128]⟩) (some .fp32) a (fold h0 h1)
        (constant (F := Ideal) _ .f32 0x00000000#32)) (spread h2 h3) (constant (F := Ideal) _ .f32 0x00000000#32) y
      = ∑ k : Fin 128, a (ValueIdx.ix2 (y 0) ⟨128 * q.val + k.val, by omega⟩) := by
  refine (product_nn w2 _ (spread h2 h3) y).trans ?_
  have hy : (y 1).val < 1024 := (y 1).isLt
  rw [Finset.sum_eq_single (⟨q.val, by omega⟩ : Fin 128)]
  · rw [spread_apply h2 h3 _ (y 1), if_pos hq, mul_one]
    refine (product_nn w1 a (fold h0 h1) _).trans ?_
    refine (Finset.sum_congr rfl fun p _ => congrArg _ (fold_apply h0 h1 p _)).trans ?_
    exact lanes (fun p => a (ValueIdx.ix2 (y 0) p)) q.val q.isLt
  · intro k _ hk
    rw [spread_apply h2 h3 _ (y 1), if_neg (fun h => hk (Fin.ext (h.trans hq.symm))), mul_zero]
  · exact fun h => absurd (Finset.mem_univ _) h

/-- The sums over the heads. -/
theorem Along.sum {b B off : ℕ} {a : FVec Ideal ⟨2, ![b, 1024]⟩ .f32} {A : FVec Ideal ⟨3, ![B, 8, 128]⟩ .f32} (h : Along (Head off) a A)
    (w1 w2) (h0 h1 h2 h3) (hB : (⟨3, ![B, 8, 128]⟩ : Shape).ReducesTo [2] ⟨2, ![B, 8]⟩) (hu)
    (hs : (⟨2, ![B, 8]⟩ : Shape).BroadcastsInDim ⟨3, ![B, 8, 1]⟩ ![0, 1]) :
    Along (Each off)
      (matmul (⟨[1], [0], [0], [1], [], [], w2⟩ : DotDims ⟨2, ![b, 128]⟩ ⟨2, ![128, 1024]⟩ ⟨2, ![b, 1024]⟩) (some .fp32)
        (matmul (⟨[1], [0], [0], [1], [], [], w1⟩ : DotDims ⟨2, ![b, 1024]⟩ ⟨2, ![1024, 128]⟩ ⟨2, ![b, 128]⟩) (some .fp32) a (fold h0 h1)
          (constant (F := Ideal) _ .f32 0x00000000#32)) (spread h2 h3) (constant (F := Ideal) _ .f32 0x00000000#32))
      (broadcastInDim ⟨3, ![B, 8, 1]⟩ ![0, 1] hs
        (Host.reduceAdd A (constant (F := Ideal) ⟨0, ![]⟩ .f32 0x00000000#32) hB hu)) := by
  intro y Y ⟨e0, e1⟩
  have hY : (Y 0).val < B := (Y 0).isLt
  have hy : (y 1).val < 1024 := (y 1).isLt
  refine (head_sum w1 w2 h0 h1 h2 h3 a y (Y 1) e1).trans ?_
  refine Eq.trans ?_ (broadcastInDim_apply _ hs _ Y (ValueIdx.ix2 (Y 0) (Y 1)) fun c => ?_).symm
  · rw [Host.reduceAdd_apply, Ideal.hostReduceAdd_def, Ideal.hostReduceAdd_r3_a2]
    refine Eq.trans (Finset.sum_congr rfl fun k _ => ?_) (zero_start _).symm
    exact h _ _ ⟨e0, rfl⟩
  · match c with
    | ⟨0, _⟩ => show (Y 0).val = if B = 1 then 0 else (Y 0).val; split <;> omega
    | ⟨1, _⟩ => rfl

end Cert.Heads

/-! ## The values -/

namespace Cert.PostVProof

open Cert.PostVIdeal Cert.PostVIdeal.Gen Cert.Product Cert.RowBlocks Cert.Heads

variable (m : (ℓ : Loc nD τ sig) → Buf (Elt Ideal) ℓ)

theorem places : ∀ t : Fin cfg0.N, win0_0.index t (0 : Fin 2) = t.val ∧ win0_0.index t (1 : Fin 2) = 2
    ∧ win0_1.index t (0 : Fin 2) = t.val ∧ win0_1.index t (1 : Fin 2) = 0 :=
  (by decide +kernel : ∀ t : Fin grid0.N, _)

theorem block (c : Dev nD) (t : Fin cfg0.N) :
    Along (Flat (256 * t.val) 2048) (iblk m c 0 t : Vec Ideal S256x1024 .f32) (m ((c.tc : Thread nD τ).loc main_arg0)) := by
  obtain ⟨p0, p1, _⟩ := places t
  exact Along.placed (fun _ => rfl) (fun _ => rfl) (fun _ => rfl) (by rw [p0, Nat.mul_comm]) (by rw [p1])

open PostVRefIdeal.Read in
theorem body {off : ℕ} {x : Vec Ideal S256x1024 .f32} {X : Vec Ideal PostVRefIdeal.S8192x3072 .f32}
    (hx : Along (Flat off 2048) x X) : Along (Flat off 0) (k0_pay1 x) (val_main_v3 (F := Ideal) X) :=
  (hx.mul (hx.logistic _)).slice _

theorem value (c : Dev nD) : (dats m 0 c).arrAt 1 cfg0.N
    = PostVRefIdeal.Read.val_main_v3 (F := Ideal) (m ((c.tc : Thread nD τ).loc main_arg0)) := by
  refine (dats m 0 c).arrAt_eq_of_covers 1 _ (by decide +kernel) fun t hf y => ?_
  obtain ⟨_, _, p2, p3⟩ := places t
  blk_simp
  rw [after0_1]
  unfold out0_1
  frame_out
  refine body (block m c t) y _ ⟨?_, ?_⟩
  · show win0_1.index t 0 * 256 + 1 * (y 0).val = _; omega
  · show win0_1.index t 1 * 1024 + 1 * (y 1).val = _; omega

theorem frame : Cert.quiescent_PostV := fun m ρ _ => Cert.PostV.Gen.frame m ρ
theorem frame_ideal : Cert.quiescent_PostVIdeal := fun m ρ _ => Gen.frame m ρ
theorem frame_ref_ideal : Cert.quiescent_PostVRefIdeal := fun m ρ _ =>
  (θ_run Cert.PostVRefIdeal.defs _ _).mono
    (fun r h => ⟨fun c => (h c).2, sem_eq_zero_of_no_sems (by decide) r.2⟩)
    (Cert.PostVRefIdeal.Value.run (F := Ideal) m ρ)

theorem algebraic : Cert.algebraic_PostVIdeal_PostVRefIdeal := by
  intro m ρ m' ρ' _ hagree
  refine ⟨_, Value.run (F := Ideal) m ρ, ?_⟩
  refine (θ_run Cert.PostVRefIdeal.defs _ _).mono (fun _ h c => ⟨(h c).1.trans ?_, (h c).2⟩)
    (Cert.PostVRefIdeal.Value.run (F := Ideal) m' ρ')
  rw [hagree c]
  exact (value m c).symm.trans (Value.final1 m c)

end Cert.PostVProof

namespace Cert.PostQProof

open Cert.PostQIdeal Cert.PostQIdeal.Gen Cert.Product Cert.RowBlocks Cert.Heads

variable (m : (ℓ : Loc nD τ sig) → Buf (Elt Ideal) ℓ)

theorem places : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem block (c : Dev nD) (t : Fin cfg0.N) :
    Along (Flat (256 * t.val) 0) (iblk m c 0 t : Vec Ideal S256x1024 .f32) (m ((c.tc : Thread nD τ).loc main_arg0)) := by
  obtain ⟨p0, p1, _⟩ := places t
  exact Along.placed (fun _ => rfl) (fun _ => rfl) (fun _ => rfl) (by rw [p0, Nat.mul_comm]) (by rw [p1])

open PostQRefIdeal.Read in
theorem body {off : ℕ} {x : Vec Ideal S256x1024 .f32} {X : Vec Ideal PostQRefIdeal.S8192x3072 .f32}
    (hx : Along (Flat off 0) x X) : Along (Flat off 0) (k0_pay1 x) (val_main_v15 (F := Ideal) X) :=
  have hs : Along (Head off) _ (val_main_v4 (F := Ideal) X) := ((hx.mul (hx.logistic _)).slice _).split _
  ((hs.mul ((((hs.mul hs).sum _ _ _ _ _ _ _ _ _).add (Along.const _ _)).rsqrt.across _)).mul (Along.const _ _)).join _

theorem value (c : Dev nD) : (dats m 0 c).arrAt 1 cfg0.N
    = PostQRefIdeal.Read.val_main_v15 (F := Ideal) (m ((c.tc : Thread nD τ).loc main_arg0)) := by
  refine (dats m 0 c).arrAt_eq_of_covers 1 _ (by decide +kernel) fun t hf y => ?_
  obtain ⟨_, _, p2, p3⟩ := places t
  blk_simp
  rw [after0_1]
  unfold out0_1
  frame_out
  refine body (block m c t) y _ ⟨?_, ?_⟩
  · show win0_1.index t 0 * 256 + 1 * (y 0).val = _; omega
  · show win0_1.index t 1 * 1024 + 1 * (y 1).val = _; omega

theorem frame : Cert.quiescent_PostQ := fun m ρ _ => Cert.PostQ.Gen.frame m ρ
theorem frame_ideal : Cert.quiescent_PostQIdeal := fun m ρ _ => Gen.frame m ρ
theorem frame_ref_ideal : Cert.quiescent_PostQRefIdeal := fun m ρ _ =>
  (θ_run Cert.PostQRefIdeal.defs _ _).mono
    (fun r h => ⟨fun c => (h c).2, sem_eq_zero_of_no_sems (by decide) r.2⟩)
    (Cert.PostQRefIdeal.Value.run (F := Ideal) m ρ)

theorem algebraic : Cert.algebraic_PostQIdeal_PostQRefIdeal := by
  intro m ρ m' ρ' _ hagree
  refine ⟨_, Value.run_blocks (F := Ideal) m ρ, ?_⟩
  refine (θ_run Cert.PostQRefIdeal.defs _ _).mono (fun _ h c => ⟨(h c).1.trans ?_, (h c).2⟩)
    (Cert.PostQRefIdeal.Value.run (F := Ideal) m' ρ')
  rw [hagree c]
  exact (value m c).symm

end Cert.PostQProof

namespace Cert.PostKProof

open Cert.PostKIdeal Cert.PostKIdeal.Gen Cert.Product Cert.RowBlocks Cert.Heads

variable (m : (ℓ : Loc nD τ sig) → Buf (Elt Ideal) ℓ)

theorem places : ∀ t : Fin cfg0.N, win0_0.index t (0 : Fin 2) = t.val ∧ win0_0.index t (1 : Fin 2) = 1
    ∧ win0_1.index t (0 : Fin 2) = t.val ∧ win0_1.index t (1 : Fin 2) = 0 :=
  (by decide +kernel : ∀ t : Fin grid0.N, _)

theorem block (c : Dev nD) (t : Fin cfg0.N) :
    Along (Flat (256 * t.val) 1024) (iblk m c 0 t : Vec Ideal S256x1024 .f32) (m ((c.tc : Thread nD τ).loc main_arg0)) := by
  obtain ⟨p0, p1, _⟩ := places t
  exact Along.placed (fun _ => rfl) (fun _ => rfl) (fun _ => rfl) (by rw [p0, Nat.mul_comm]) (by rw [p1])

open PostKRefIdeal.Read in
theorem body {off : ℕ} {x : Vec Ideal S256x1024 .f32} {X : Vec Ideal PostKRefIdeal.S8192x3072 .f32}
    (hx : Along (Flat off 1024) x X) : Along (Flat off 0) (k0_pay1 x) (val_main_v13 (F := Ideal) X) :=
  have hs : Along (Head off) _ (val_main_v4 (F := Ideal) X) := ((hx.mul (hx.logistic _)).slice _).split _
  (hs.mul ((((hs.mul hs).sum _ _ _ _ _ _ _ _ _).add (Along.const _ _)).rsqrt.across _)).join _

theorem value (c : Dev nD) : (dats m 0 c).arrAt 1 cfg0.N
    = PostKRefIdeal.Read.val_main_v13 (F := Ideal) (m ((c.tc : Thread nD τ).loc main_arg0)) := by
  refine (dats m 0 c).arrAt_eq_of_covers 1 _ (by decide +kernel) fun t hf y => ?_
  obtain ⟨_, _, p2, p3⟩ := places t
  blk_simp
  rw [after0_1]
  unfold out0_1
  frame_out
  refine body (block m c t) y _ ⟨?_, ?_⟩
  · show win0_1.index t 0 * 256 + 1 * (y 0).val = _; omega
  · show win0_1.index t 1 * 1024 + 1 * (y 1).val = _; omega

theorem frame : Cert.quiescent_PostK := fun m ρ _ => Cert.PostK.Gen.frame m ρ
theorem frame_ideal : Cert.quiescent_PostKIdeal := fun m ρ _ => Gen.frame m ρ
theorem frame_ref_ideal : Cert.quiescent_PostKRefIdeal := fun m ρ _ =>
  (θ_run Cert.PostKRefIdeal.defs _ _).mono
    (fun r h => ⟨fun c => (h c).2, sem_eq_zero_of_no_sems (by decide) r.2⟩)
    (Cert.PostKRefIdeal.Value.run (F := Ideal) m ρ)

theorem algebraic : Cert.algebraic_PostKIdeal_PostKRefIdeal := by
  intro m ρ m' ρ' _ hagree
  refine ⟨_, Value.run_blocks (F := Ideal) m ρ, ?_⟩
  refine (θ_run Cert.PostKRefIdeal.defs _ _).mono (fun _ h c => ⟨(h c).1.trans ?_, (h c).2⟩)
    (Cert.PostKRefIdeal.Value.run (F := Ideal) m' ρ')
  rw [hagree c]
  exact (value m c).symm

end Cert.PostKProof

namespace Cert.Heads

open Cert.Product Cert.RowBlocks

section Gains

variable {b B off : ℕ}

/-- A gain for each lane of each head, repeated down the rows. -/
theorem head_gain {g G : FVec Ideal ⟨2, ![1, 1024]⟩ .f32} (h : g = G) (hb : (⟨2, ![1, 1024]⟩ : Shape).Broadcasts ⟨2, ![b, 1024]⟩)
    (hc : (⟨2, ![1, 1024]⟩ : Shape).ShapeCasts ⟨2, ![8, 128]⟩)
    (h1 : (⟨2, ![8, 128]⟩ : Shape).BroadcastsInDim ⟨3, ![1, 8, 128]⟩ ![1, 2])
    (h2 : (⟨3, ![1, 8, 128]⟩ : Shape).BroadcastsInDim ⟨3, ![B, 8, 128]⟩ ![0, 1, 2]) :
    Along (Head off) (broadcastTo ⟨2, ![b, 1024]⟩ g hb)
      (broadcastInDim ⟨3, ![B, 8, 128]⟩ ![0, 1, 2] h2 (broadcastInDim ⟨3, ![1, 8, 128]⟩ ![1, 2] h1 (shapeCast ⟨2, ![8, 128]⟩ G hc))) := by
  subst h
  intro y Y ⟨_, e1⟩
  refine (broadcastTo_apply g hb y (ValueIdx.ix2 0 (y 1)) fun c => ?_).trans (Eq.symm ?_)
  · match c with
    | ⟨0, _⟩ => rfl
    | ⟨1, _⟩ => rfl
  refine (broadcastInDim_apply _ h2 _ Y (ValueIdx.ix3 0 (Y 1) (Y 2)) fun c => ?_).trans
    ((broadcastInDim_apply _ h1 _ _ (ValueIdx.ix2 (Y 1) (Y 2)) fun c => ?_).trans (shapeCast_apply g hc _ _ ?_))
  · match c with
    | ⟨0, _⟩ => rfl
    | ⟨1, _⟩ => rfl
    | ⟨2, _⟩ => rfl
  · match c with
    | ⟨0, _⟩ => rfl
    | ⟨1, _⟩ => rfl
  · rw [Shape.rowMajor_val_two, Shape.rowMajor_val_two]
    show 0 * 1024 + (y 1).val = (Y 1).val * 128 + (Y 2).val
    omega

end Gains

end Cert.Heads

namespace Cert.OutNormProof

open Cert.OutNormIdeal Cert.OutNormIdeal.Gen Cert.Product Cert.RowBlocks Cert.Heads

variable (m : (ℓ : Loc nD τ sig) → Buf (Elt Ideal) ℓ)

theorem places : ∀ t : Fin cfg0.N, (win0_0.index t (0 : Fin 2) = t.val ∧ win0_0.index t (1 : Fin 2) = 0)
    ∧ (win0_1.index t (0 : Fin 2) = t.val ∧ win0_1.index t (1 : Fin 2) = 3)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem block0 (c : Dev nD) (t : Fin cfg0.N) :
    Along (Flat (256 * t.val) 0) (iblk m c 0 t : Vec Ideal S256x1024 .f32) (m ((c.tc : Thread nD τ).loc main_arg0)) := by
  obtain ⟨p0, p1⟩ := (places t).1
  exact Along.placed (fun _ => rfl) (fun _ => rfl) (fun _ => rfl) (by rw [p0, Nat.mul_comm]) (by rw [p1])

theorem block1 (c : Dev nD) (t : Fin cfg0.N) :
    Along (Flat (256 * t.val) 3072) (iblk m c 1 t : Vec Ideal S256x1024 .f32) (m ((c.tc : Thread nD τ).loc main_arg1)) := by
  obtain ⟨p0, p1⟩ := (places t).2.1
  exact Along.placed (fun _ => rfl) (fun _ => rfl) (fun _ => rfl) (by rw [p0, Nat.mul_comm]) (by rw [p1])

theorem gains (c : Dev nD) (t : Fin cfg0.N) :
    (iblk m c 2 t : Vec Ideal S1x1024 .f32) = m ((c.tc : Thread nD τ).loc main_arg2) :=
  whole (fun _ => rfl) (fun _ => rfl) (fun _ => rfl) (places t).2.2.1.1 (places t).2.2.1.2

open OutNormRefIdeal.Read in
theorem body {off : ℕ} {o z : Vec Ideal S256x1024 .f32} {O : Vec Ideal OutNormRefIdeal.S8192x1024 .f32}
    {Z : Vec Ideal OutNormRefIdeal.S8192x4096 .f32} (ho : Along (Flat off 0) o O) (hz : Along (Flat off 3072) z Z)
    {g G : Vec Ideal S1x1024 .f32} (hg : g = G) : Along (Flat off 0) (k0_pay1 o z g) (val_main_v20 (F := Ideal) O Z G) :=
  have h1 : Along (Head off) o (val_main_v0 (F := Ideal) O) := ho.split _
  have h2 : Along (Head off) z (val_main_v16 (F := Ideal) Z) := (hz.slice _).split _
  ((((h1.mul (((((h1.mul h1).sum _ _ _ _ _ _ _ _ _).part _).add (Along.const _ _)).rsqrt.across _)).mul
    (head_gain hg _ _ _ _)).mul (h2.mul (h2.logistic _))).join _).trunc _ _

theorem value (c : Dev nD) : (dats m 0 c).arrAt 3 cfg0.N = OutNormRefIdeal.Read.val_main_v20 (F := Ideal)
    (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨p0, p1⟩ := (places t).2.2.2
  blk_simp
  rw [after0_3]
  unfold out0_3
  frame_out
  refine body (block0 m c t) (block1 m c t) (gains m c t) y _ ⟨?_, ?_⟩
  · show win0_3.index t 0 * 256 + 1 * (y 0).val = _; omega
  · show win0_3.index t 1 * 1024 + 1 * (y 1).val = _; omega

theorem frame : Cert.quiescent_OutNorm := fun m ρ _ => Cert.OutNorm.Gen.frame m ρ
theorem frame_ideal : Cert.quiescent_OutNormIdeal := fun m ρ _ => Gen.frame m ρ
theorem frame_ref_ideal : Cert.quiescent_OutNormRefIdeal := fun m ρ _ =>
  (θ_run Cert.OutNormRefIdeal.defs _ _).mono
    (fun r h => ⟨fun c => (h c).2, sem_eq_zero_of_no_sems (by decide) r.2⟩)
    (Cert.OutNormRefIdeal.Value.run (F := Ideal) m ρ)

theorem algebraic : Cert.algebraic_OutNormIdeal_OutNormRefIdeal := by
  intro m ρ m' ρ' _ hagree
  refine ⟨_, Value.run_blocks (F := Ideal) m ρ, ?_⟩
  refine (θ_run Cert.OutNormRefIdeal.defs _ _).mono (fun _ h c => ⟨(h c).1.trans ?_, (h c).2⟩)
    (Cert.OutNormRefIdeal.Value.run (F := Ideal) m' ρ')
  rw [(hagree c).1, (hagree c).2.1, (hagree c).2.2]
  exact (value m c).symm

end Cert.OutNormProof

/-! ## The gates

The block has the eight inputs of beta in its first lanes and the eight inputs of g in the next. Each is a number for a head. -/

namespace Cert.Heads

open scoped BigOperators
open Cert.Product Cert.RowBlocks

section Lanes

variable {b B off s : ℕ}

/-- The array's columns are the eight lanes of the block from `s` on. -/
def Lane (off s : ℕ) (y : (⟨2, ![b, 128]⟩ : Shape).Idx) (Y : (⟨2, ![B, 8]⟩ : Shape).Idx) : Prop :=
  (Y 0).val = off + (y 0).val ∧ (y 1).val = s + (Y 1).val

theorem Along.pick {a : (⟨2, ![b, 128]⟩ : Shape).Idx → EReal} {A : (⟨2, ![B, 128]⟩ : Shape).Idx → EReal} (h : Rows off a A)
    (hs : (⟨2, ![B, 128]⟩ : Shape).Slices ![0, s] ⟨2, ![B, 8]⟩) :
    Along (Lane off s) a (extractStridedSlice ⟨2, ![B, 8]⟩ ![0, s] A hs) := by
  intro y Y ⟨h0, h1⟩
  refine (h y (ValueIdx.ix2 (Y 0) (y 1)) h0 rfl).trans (extractStridedSlice_apply _ A hs Y _ fun c => ?_).symm
  match c with
  | ⟨0, _⟩ => show (Y 0).val = 0 + (Y 0).val; omega
  | ⟨1, _⟩ => exact h1

/-- One row, repeated down the rows. -/
theorem Along.down {g : FVec Ideal ⟨2, ![1, 128]⟩ .f32} {G : FVec Ideal ⟨2, ![1, 8]⟩ .f32} (h : Along (Lane 0 s) g G)
    (hb : (⟨2, ![1, 128]⟩ : Shape).Broadcasts ⟨2, ![b, 128]⟩) (hB : (⟨2, ![1, 8]⟩ : Shape).BroadcastsInDim ⟨2, ![B, 8]⟩ ![0, 1]) :
    Along (Lane off s) (broadcastTo ⟨2, ![b, 128]⟩ g hb) (broadcastInDim ⟨2, ![B, 8]⟩ ![0, 1] hB G) := by
  intro y Y ⟨_, h1⟩
  refine (broadcastTo_apply g hb y (ValueIdx.ix2 0 (y 1)) fun c => ?_).trans
    ((h _ (ValueIdx.ix2 0 (Y 1)) ⟨rfl, h1⟩).trans (broadcastInDim_apply _ hB G Y _ fun c => ?_).symm)
  · match c with
    | ⟨0, _⟩ => rfl
    | ⟨1, _⟩ => rfl
  · match c with
    | ⟨0, _⟩ => rfl
    | ⟨1, _⟩ => rfl

/-- The choice between the first eight lanes and the others. -/
theorem chosen (hi hc) (hb : (⟨2, ![1, 128]⟩ : Shape).Broadcasts ⟨2, ![b, 128]⟩) (y : (⟨2, ![b, 128]⟩ : Shape).Idx) :
    broadcastTo ⟨2, ![b, 128]⟩ (shapeCast ⟨2, ![1, 128]⟩ (cmpi .slt (iota .tc ⟨2, ![1, 128]⟩ 32 [1] hi) (broadcast ⟨2, ![1, 128]⟩ 8#32)) hc)
      hb y = if (y 1).val < 8 then 1#1 else 0#1 := by
  rw [shapeCast_self]
  refine (broadcastTo_apply _ hb y (ValueIdx.ix2 0 (y 1)) fun c => ?_).trans ?_
  · match c with
    | ⟨0, _⟩ => rfl
    | ⟨1, _⟩ => rfl
  · have d : ∀ p : Fin 128, IntOp.cmpi .slt (BitVec.ofNat 32 p.val) 8#32 = if p.val < 8 then 1#1 else 0#1 := by decide +kernel
    show IntOp.cmpi .slt (BitVec.ofNat 32 (0 * 128 + (y 1).val)) 8#32 = _
    rw [Nat.zero_mul, Nat.zero_add]
    exact d (y 1)

variable {a a' : FVec Ideal ⟨2, ![b, 128]⟩ .f32} {A : FVec Ideal ⟨2, ![B, 8]⟩ .f32}

theorem Along.first (h : Along (Lane off 0) a A) (hi hc hb) :
    Along (Lane off 0) (select (broadcastTo ⟨2, ![b, 128]⟩ (shapeCast ⟨2, ![1, 128]⟩
      (cmpi .slt (iota .tc ⟨2, ![1, 128]⟩ 32 [1] hi) (broadcast ⟨2, ![1, 128]⟩ 8#32)) hc) hb) a a') A := by
  intro y Y r
  have hY : (Y 1).val < 8 := (Y 1).isLt
  have h1 := r.2
  refine Eq.trans ?_ (h y Y r)
  show Scalar.select (broadcastTo ⟨2, ![b, 128]⟩ _ hb y) (a y) (a' y) = a y
  rw [chosen hi hc hb y, if_pos (by omega)]
  rfl

theorem Along.second (h : Along (Lane off 8) a' A) (hi hc hb) :
    Along (Lane off 8) (select (broadcastTo ⟨2, ![b, 128]⟩ (shapeCast ⟨2, ![1, 128]⟩
      (cmpi .slt (iota .tc ⟨2, ![1, 128]⟩ 32 [1] hi) (broadcast ⟨2, ![1, 128]⟩ 8#32)) hc) hb) a a') A := by
  intro y Y r
  have h1 := r.2
  refine Eq.trans ?_ (h y Y r)
  show Scalar.select (broadcastTo ⟨2, ![b, 128]⟩ _ hb y) (a y) (a' y) = a' y
  rw [chosen hi hc hb y, if_neg (by omega)]
  rfl

/-- Eight lanes, each spread over the lanes of its head by a product with ones and zeros. -/
theorem Along.over (h : Along (Lane off s) a A) (hs : s + 8 ≤ 128) (w) {e : FVec Ideal ⟨2, ![128, 1024]⟩ .f32}
    (he : ∀ (q : Fin 128) (p : Fin 1024), e (ValueIdx.ix2 q p) = if q.val = p.val / 128 + s then 1 else 0)
    (hB : (⟨2, ![B, 8]⟩ : Shape).BroadcastsInDim ⟨3, ![B, 8, 1]⟩ ![0, 1]) :
    Along (Each off) (matmul (⟨[1], [0], [0], [1], [], [], w⟩ : DotDims ⟨2, ![b, 128]⟩ ⟨2, ![128, 1024]⟩ ⟨2, ![b, 1024]⟩) (some .fp32) a e
        (constant (F := Ideal) _ .f32 0x00000000#32)) (broadcastInDim ⟨3, ![B, 8, 1]⟩ ![0, 1] hB A) := by
  intro y Y ⟨e0, e1⟩
  have hY : (Y 0).val < B := (Y 0).isLt
  have hy : (y 1).val < 1024 := (y 1).isLt
  have hq : (y 1).val / 128 + s < 128 := by omega
  refine (product_nn w a e y).trans ?_
  rw [Finset.sum_eq_single (⟨(y 1).val / 128 + s, hq⟩ : Fin 128)]
  · rw [he _ (y 1), if_pos rfl, mul_one]
    refine (h (ValueIdx.ix2 (y 0) ⟨(y 1).val / 128 + s, hq⟩) (ValueIdx.ix2 (Y 0) (Y 1)) ⟨e0, ?_⟩).trans
      (broadcastInDim_apply _ hB A Y _ fun c => ?_).symm
    · show (y 1).val / 128 + s = s + (Y 1).val
      omega
    · match c with
      | ⟨0, _⟩ => show (Y 0).val = if B = 1 then 0 else (Y 0).val; split <;> omega
      | ⟨1, _⟩ => rfl
  · intro k _ hk
    rw [he _ (y 1), if_neg (fun g => hk (Fin.ext g)), mul_zero]
  · exact fun g => absurd (Finset.mem_univ _) g

/-- The matrix that spreads the second eight lanes. -/
theorem spread_second (h0 : (⟨2, ![128, 1024]⟩ : Shape).Iotas .tc 32 [0]) (h1 : (⟨2, ![128, 1024]⟩ : Shape).Iotas .tc 32 [1])
    (q : Fin 128) (p : Fin 1024) :
    select (cmpi .eq (iota .tc ⟨2, ![128, 1024]⟩ 32 [0] h0) (addi (shrsi (iota .tc ⟨2, ![128, 1024]⟩ 32 [1] h1)
        (broadcast ⟨2, ![128, 1024]⟩ 7#32)) (broadcast ⟨2, ![128, 1024]⟩ 8#32)))
      (broadcast ⟨2, ![128, 1024]⟩ (Scalar.ofBits (F := Ideal) .f32 0x3F800000#32))
      (broadcast ⟨2, ![128, 1024]⟩ (Scalar.ofBits (F := Ideal) .f32 0x00000000#32)) (ValueIdx.ix2 q p)
      = if q.val = p.val / 128 + 8 then 1 else 0 := by
  have hp : p.val / 128 + 8 < 1024 := by omega
  have hq : q.val < 1024 := by omega
  have d : ∀ p : Fin 1024, IntOp.addi (IntOp.shrsi .vector (BitVec.ofNat 32 p.val) 7#32) 8#32 = BitVec.ofNat 32 (p.val / 128 + 8) := by
    decide +kernel
  refine Eq.trans ?_ (words hq hp)
  show Scalar.select (IntOp.cmpi .eq (BitVec.ofNat 32 (0 * 128 + q.val))
    (IntOp.addi (IntOp.shrsi .vector (BitVec.ofNat 32 (0 * 1024 + p.val)) 7#32) 8#32)) _ _ = _
  simp only [Nat.zero_mul, Nat.zero_add, d]
  rfl

end Lanes

section Pointwise

variable {s S : Shape} {R : s.Idx → S.Idx → Prop} {a : FVec Ideal s .f32} {A : FVec Ideal S .f32}

theorem Along.exp (h : Along R a A) : Along R (Idealize.ShloMosaic.exp a) (Host.exp A) := fun y Y r => congrArg Ideal.exp (h y Y r)

theorem Along.neg (h : Along R a A) : Along R (subf (broadcast s (Scalar.ofBits (F := Ideal) .f32 0x00000000#32)) a) (Host.negf A) :=
  fun y Y r => (negated (a y)).trans (congrArg _ (h y Y r))

/-- The logarithm of one more than an exponential. -/
theorem Along.softplus (h : Along R a A) (hS : (⟨0, ![]⟩ : Shape).BroadcastsInDim S ![]) :
    Along R (addf (maximumf a (broadcast s (Scalar.ofBits (F := Ideal) .f32 0x00000000#32)))
        (log1p (Idealize.ShloMosaic.exp (subf (broadcast s (Scalar.ofBits (F := Ideal) .f32 0x00000000#32)) (absf a)))))
      (select (cmpf .une (subf A (broadcastInDim S ![] hS (constant (F := Ideal) ⟨0, ![]⟩ .f32 0x00000000#32)))
          (subf A (broadcastInDim S ![] hS (constant (F := Ideal) ⟨0, ![]⟩ .f32 0x00000000#32))))
        (addf A (broadcastInDim S ![] hS (constant (F := Ideal) ⟨0, ![]⟩ .f32 0x00000000#32)))
        (addf (maximumf A (broadcastInDim S ![] hS (constant (F := Ideal) ⟨0, ![]⟩ .f32 0x00000000#32)))
          (Host.log1p (Host.exp (Host.negf (Host.absf (subf A
            (broadcastInDim S ![] hS (constant (F := Ideal) ⟨0, ![]⟩ .f32 0x00000000#32)))))))))  := by
  intro y Y r
  have z : A Y - Ideal.ofBits .f32 0x00000000#32 = A Y := by
    rw [show Ideal.ofBits .f32 0x00000000#32 = 0 from by simp [Ideal.ofBits, Ideal.ieee], sub_zero]
  have n : Ideal.cmp .une (A Y - Ideal.ofBits .f32 0x00000000#32) (A Y - Ideal.ofBits .f32 0x00000000#32) = 0#1 := by
    simp [Ideal.cmp]
  show max (a y) (Ideal.ofBits .f32 0x00000000#32)
      + Ideal.log1p (Ideal.exp (Ideal.ofBits .f32 0x00000000#32 - max (a y) (-a y)))
    = Scalar.select (Ideal.cmp .une (A Y - Ideal.ofBits .f32 0x00000000#32) (A Y - Ideal.ofBits .f32 0x00000000#32))
      (A Y + Ideal.ofBits .f32 0x00000000#32)
      (max (A Y) (Ideal.ofBits .f32 0x00000000#32)
        + Ideal.log1p (Ideal.exp (-max (A Y - Ideal.ofBits .f32 0x00000000#32) (-(A Y - Ideal.ofBits .f32 0x00000000#32)))))
  rw [n, z, h y Y r, negated]
  rfl

end Pointwise

end Cert.Heads

namespace Cert.GatesProof

open Cert.GatesIdeal Cert.GatesIdeal.Gen Cert.Product Cert.RowBlocks Cert.Heads

variable (m : (ℓ : Loc nD τ sig) → Buf (Elt Ideal) ℓ)

theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem block (c : Dev nD) (t : Fin cfg0.N) :
    Rows (256 * t.val) (iblk m c 0 t : Vec Ideal S256x128 .f32) (m ((c.tc : Thread nD τ).loc main_arg0)) :=
  Rows.placed (i := win0_0.index t 0) (j := win0_0.index t 1) (fun _ => rfl) (fun _ => rfl) (fun _ => rfl)
    (by rw [(places t).1.1, Nat.mul_comm]) (places t).1.2

theorem row1 (c : Dev nD) (t : Fin cfg0.N) :
    Rows 0 (iblk m c 1 t : Vec Ideal S1x128 .f32) (m ((c.tc : Thread nD τ).loc main_arg1)) :=
  Rows.placed (i := win0_1.index t 0) (j := win0_1.index t 1) (fun _ => rfl) (fun _ => rfl) (fun _ => rfl)
    (by rw [(places t).2.1.1, Nat.zero_mul]) (places t).2.1.2

theorem row2 (c : Dev nD) (t : Fin cfg0.N) :
    Rows 0 (iblk m c 2 t : Vec Ideal S1x128 .f32) (m ((c.tc : Thread nD τ).loc main_arg2)) :=
  Rows.placed (i := win0_2.index t 0) (j := win0_2.index t 1) (fun _ => rfl) (fun _ => rfl) (fun _ => rfl)
    (by rw [(places t).2.2.1.1, Nat.zero_mul]) (places t).2.2.1.2

section Body

open GatesRefIdeal.Read

variable {off : ℕ} {x : Vec Ideal S256x128 .f32} {X : Vec Ideal GatesRefIdeal.S8192x128 .f32} {l L d D : Vec Ideal S1x128 .f32}

theorem beta (hx : Rows off x X) : Along (Flat off 0) (k0_pay1 (k0_pay3 x l d) (k0_pay5 (F := Ideal))) (val_main_v19 (F := Ideal) X) :=
  have h : Along (Lane off 0) (k0_pay3 x l d) (val_main_v6 (F := Ideal) X) := ((Along.pick hx _).logistic _).first _ _ _
  ((h.over (by decide) _ (spread_apply _ _) _).across _).join _

theorem decay (hx : Rows off x X) (hl : Rows 0 l L) (hd : Rows 0 d D) :
    Along (Flat off 0) (k0_pay2 (k0_pay3 x l d) k0_pay6) (val_main_v22 (F := Ideal) X L D) :=
  have h : Along (Lane off 8) (k0_pay3 x l d) (val_main_v16 (F := Ideal) X L D) :=
    (((Along.pick hl _).exp.neg.down _ _).mul (((Along.pick hx _).add ((Along.pick hd _).down _ _)).softplus _)).second _ _ _
  ((h.over (by decide) _ (spread_second _ _) _).across _).join _

end Body

theorem value3 (c : Dev nD) : (dats m 0 c).arrAt 3 cfg0.N
    = GatesRefIdeal.Read.val_main_v19 (F := Ideal) (m ((c.tc : Thread nD τ).loc main_arg0)) := by
  refine (dats m 0 c).arrAt_eq_of_covers 3 _ (by decide +kernel) fun t hf y => ?_
  obtain ⟨p0, p1⟩ := (places t).2.2.2.1
  blk_simp
  rw [after0_3]
  unfold_out out0_3
  frame_out
  refine beta (block m c t) y _ ⟨?_, ?_⟩
  · show win0_3.index t 0 * 256 + 1 * (y 0).val = _; omega
  · show win0_3.index t 1 * 1024 + 1 * (y 1).val = _; omega

theorem value4 (c : Dev nD) : (dats m 0 c).arrAt 4 cfg0.N = GatesRefIdeal.Read.val_main_v22 (F := Ideal)
    (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  obtain ⟨p0, p1⟩ := (places t).2.2.2.2
  blk_simp
  rw [after0_4]
  unfold_out out0_4
  frame_out
  refine decay (block m c t) (row1 m c t) (row2 m c t) y _ ⟨?_, ?_⟩
  · show win0_4.index t 0 * 256 + 1 * (y 0).val = _; omega
  · show win0_4.index t 1 * 1024 + 1 * (y 1).val = _; omega

theorem frame : Cert.quiescent_Gates := fun m ρ _ => Cert.Gates.Gen.frame m ρ
theorem frame_ideal : Cert.quiescent_GatesIdeal := fun m ρ _ => Gen.frame m ρ
theorem frame_ref_ideal : Cert.quiescent_GatesRefIdeal := fun m ρ _ =>
  (θ_run Cert.GatesRefIdeal.defs _ _).mono
    (fun r h => ⟨fun c => (h c).2.2, sem_eq_zero_of_no_sems (by decide) r.2⟩)
    (Cert.GatesRefIdeal.Value.run (F := Ideal) m ρ)

theorem algebraic : Cert.algebraic_GatesIdeal_GatesRefIdeal := by
  intro m ρ m' ρ' _ hagree
  refine ⟨_, _, Value.run_blocks (F := Ideal) m ρ, ?_⟩
  refine (θ_run Cert.GatesRefIdeal.defs _ _).mono (fun _ h c => ⟨(h c).1.trans ?_, (h c).2.1.trans ?_, (h c).2.2⟩)
    (Cert.GatesRefIdeal.Value.run (F := Ideal) m' ρ')
  · rw [(hagree c).1]
    exact (value3 m c).symm
  · rw [(hagree c).1, (hagree c).2.1, (hagree c).2.2]
    exact (value4 m c).symm

end Cert.GatesProof

namespace Cert.PostVBackProof

open Cert.PostVBackIdeal Cert.PostVBackIdeal.Gen Cert.Product Cert.RowBlocks Cert.Heads

/-- The slope of the logistic function in two forms: the derivative of the quotient, and the value times what it lacks to one. -/
theorem slope (x : EReal) : Ideal.div 1 ((1 + Ideal.exp x) * (1 + Ideal.exp x)) * Ideal.exp x
    = Ideal.div 1 (1 + Ideal.exp x) * (1 - Ideal.div 1 (1 + Ideal.exp x)) := by
  have quot : ∀ r : ℝ, r ≠ 0 → Ideal.div 1 (r : EReal) = ((r⁻¹ : ℝ) : EReal) := fun r h => by
    rw [Ideal.div, if_neg (by exact_mod_cast h), one_mul, EReal.coe_inv]
  have real : ∀ e : ℝ, 0 ≤ e → Ideal.div 1 ((1 + (e : EReal)) * (1 + e)) * e
      = Ideal.div 1 (1 + e) * (1 - Ideal.div 1 (1 + (e : EReal))) := fun e he => by
    have hu : 1 + e ≠ 0 := by positivity
    rw [show (1 + (e : EReal)) = ((1 + e : ℝ) : EReal) by norm_cast, ← EReal.coe_mul, quot _ hu, quot _ (mul_ne_zero hu hu),
      ← EReal.coe_one, ← EReal.coe_sub, ← EReal.coe_mul, ← EReal.coe_mul]
    congr 1
    field_simp
    ring
  induction x with
  | bot => rw [Ideal.exp_bot, ← EReal.coe_zero]; exact real 0 le_rfl
  | coe r => exact real _ (Real.exp_pos r).le
  | top =>
    have h : (1 : EReal) + ⊤ = ⊤ := EReal.coe_add_top 1
    rw [Ideal.exp_top, h, EReal.top_mul_top, Ideal.div, if_neg EReal.top_ne_zero, EReal.inv_top, mul_zero, zero_mul, zero_mul]

/-- The gradient of `x` times its logistic, as the kernel and as the reference have it. -/
theorem silu (x d : EReal) :
    d * Ideal.div 1 (1 + Ideal.exp (0 - x))
        + (0 - (0 - x * d * Ideal.div 1 ((1 + Ideal.exp (0 - x)) * (1 + Ideal.exp (0 - x))) * 1) * Ideal.exp (0 - x))
      = d * Ideal.div 1 (1 + Ideal.exp (-x)) + x * d * (Ideal.div 1 (1 + Ideal.exp (-x)) * (1 - Ideal.div 1 (1 + Ideal.exp (-x)))) := by
  rw [zero_sub, zero_sub, zero_sub, EReal.neg_mul, neg_neg, mul_one, mul_assoc (x * d), slope]

open PostVBackRefIdeal.Read in
theorem body {off : ℕ} {x d : Vec Ideal S256x1024 .f32} {X : Vec Ideal PostVBackRefIdeal.S8192x3072 .f32}
    {D : Vec Ideal PostVBackRefIdeal.S8192x1024 .f32} (hx : Along (Flat off 2048) x X) (hd : Along (Flat off 0) d D) :
    Along (Flat off 0) (k0_pay1 x d) (val_main_v2 (F := Ideal) X D) := by
  intro y Y r
  have h : x y = val_main_v0 (F := Ideal) X Y := hx.slice _ y Y r
  have one : Ideal.ofBits .f32 0x3F800000#32 = 1 := by
    simp [Ideal.ofBits, Ideal.ieee, -EReal.coe_mul]; norm_num
  have both := silu (x y) (d y)
  rw [← one, ← Ideal.ofBits_zero .f32] at both
  refine both.trans ?_
  rw [h, hd y Y r]
  rfl

variable (m : (ℓ : Loc nD τ sig) → Buf (Elt Ideal) ℓ)

theorem places : ∀ t : Fin cfg0.N, win0_0.index t (0 : Fin 2) = t.val ∧ win0_0.index t (1 : Fin 2) = 2
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem block (c : Dev nD) (t : Fin cfg0.N) :
    Along (Flat (256 * t.val) 2048) (iblk m c 0 t : Vec Ideal S256x1024 .f32) (m ((c.tc : Thread nD τ).loc main_arg0)) := by
  obtain ⟨p0, p1, _⟩ := places t
  exact Along.placed (fun _ => rfl) (fun _ => rfl) (fun _ => rfl) (by rw [p0, Nat.mul_comm]) (by rw [p1])

theorem gradient (c : Dev nD) (t : Fin cfg0.N) :
    Along (Flat (256 * t.val) 0) (iblk m c 1 t : Vec Ideal S256x1024 .f32) (m ((c.tc : Thread nD τ).loc main_arg1)) := by
  obtain ⟨_, _, p0, p1, _⟩ := places t
  exact Along.placed (fun _ => rfl) (fun _ => rfl) (fun _ => rfl) (by rw [p0, Nat.mul_comm]) (by rw [p1])

theorem value (c : Dev nD) : (dats m 0 c).arrAt 2 cfg0.N
    = PostVBackRefIdeal.Read.val_main_v2 (F := Ideal) (m ((c.tc : Thread nD τ).loc main_arg0)) (m ((c.tc : Thread nD τ).loc main_arg1)) := by
  refine (dats m 0 c).arrAt_eq_of_covers 2 _ (by decide +kernel) fun t hf y => ?_
  obtain ⟨_, _, _, _, p2, p3⟩ := places t
  blk_simp
  rw [after0_2]
  unfold out0_2
  frame_out
  refine body (block m c t) (gradient m c t) y _ ⟨?_, ?_⟩
  · show win0_2.index t 0 * 256 + 1 * (y 0).val = _; omega
  · show win0_2.index t 1 * 1024 + 1 * (y 1).val = _; omega

theorem frame : Cert.quiescent_PostVBack := fun m ρ _ => Cert.PostVBack.Gen.frame m ρ
theorem frame_ideal : Cert.quiescent_PostVBackIdeal := fun m ρ _ => Gen.frame m ρ
theorem frame_ref_ideal : Cert.quiescent_PostVBackRefIdeal := fun m ρ _ =>
  (θ_run Cert.PostVBackRefIdeal.defs _ _).mono
    (fun r h => ⟨fun c => (h c).2, sem_eq_zero_of_no_sems (by decide) r.2⟩)
    (Cert.PostVBackRefIdeal.Value.run (F := Ideal) m ρ)

theorem algebraic : Cert.algebraic_PostVBackIdeal_PostVBackRefIdeal := by
  intro m ρ m' ρ' _ hagree
  refine ⟨_, Value.run_blocks (F := Ideal) m ρ, ?_⟩
  refine (θ_run Cert.PostVBackRefIdeal.defs _ _).mono (fun _ h c => ⟨(h c).1.trans ?_, (h c).2⟩)
    (Cert.PostVBackRefIdeal.Value.run (F := Ideal) m' ρ')
  rw [(hagree c).1, (hagree c).2]
  exact (value m c).symm

end Cert.PostVBackProof

end
-- ==== Proof.Convolution.lean ====
/-
# The convolution

Each output row is the sum of four rows of the input, each times a row of weights: the row of the same number and the three before it,
zeros before the first. The kernel walks the rows in blocks. It keeps a block below the last eight rows of the block before in one
buffer, and reads the buffer four times, each time from one row further.
-/
module

public import proofs.«01_k».proof.Defs
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.RowBlocks
public import Idealize.ShloMosaic.Lib.IdealHost

@[expose] public section

set_option maxRecDepth 16384

noncomputable section

open Idealize.ShloMosaic Idealize.ShloMosaic.TcCoe Idealize.SL.Sem

namespace Cert.ConvProof

open Cert.ConvIdeal Cert.ConvIdeal.Gen Cert.Product Cert.RowBlocks

/-- A row of the weights, repeated down the rows. -/
theorem weights {iw : Vec Ideal S4x3072 .f32} {W : Vec Ideal ConvRefIdeal.S4x3072 .f32} (hw : iw = W) {k : ℕ} (hk : k < 4) (inw)
    (hb : S1x3072.Broadcasts S256x3072) (hv hc) (h1 : ConvRefIdeal.S3072.BroadcastsInDim ConvRefIdeal.S1x3072 ![1])
    (h2 : ConvRefIdeal.S1x3072.BroadcastsInDim ConvRefIdeal.S8192x3072 ![0, 1])
    (y : S256x3072.Idx) (Y : ConvRefIdeal.S8192x3072.Idx) (e1 : (Y 1).val = (y 1).val) :
    broadcastTo S256x3072 (View.ld iw (Rect.unit ![k, 0] ![1, 3072] inw)) hb y
    = broadcastInDim ConvRefIdeal.S8192x3072 ![0, 1] h2 (broadcastInDim ConvRefIdeal.S1x3072 ![1] h1
        (shapeCast ConvRefIdeal.S3072 (extractStridedSlice ConvRefIdeal.S1x3072 ![k, 0] W hv) hc)) Y := by
  subst hw
  have hl : (Y 1).val < 3072 := (Y 1).isLt
  refine (broadcastTo_apply _ hb y (ValueIdx.ix2 0 (y 1)) fun a => by
      match a with
      | ⟨0, _⟩ => rfl
      | ⟨1, _⟩ => rfl).trans ?_
  rw [broadcastInDim_apply _ h2 _ Y (ValueIdx.ix2 0 (Y 1)) fun a => by
      match a with
      | ⟨0, _⟩ => rfl
      | ⟨1, _⟩ => rfl,
    broadcastInDim_apply _ h1 _ _ (ValueIdx.ix1 (Y 1)) fun a => by
      match a with
      | ⟨0, _⟩ => rfl,
    shapeCast_apply _ hc _ (ValueIdx.ix2 0 (Y 1)) (by
      rw [Shape.rowMajor_val_two, Shape.rowMajor_val_one]
      show 0 * 3072 + (Y 1).val = (Y 1).val
      omega),
    extractStridedSlice_apply _ _ hv _ (ValueIdx.ix2 ⟨k, hk⟩ (Y 1)) fun a => by
      match a with
      | ⟨0, _⟩ => rfl
      | ⟨1, _⟩ => exact (Nat.zero_add _).symm]
  refine congrArg iw (place_ext ?_ ?_)
  · show k + 1 * 0 = k; omega
  · show 0 + 1 * (y 1).val = (Y 1).val; omega

variable (m : (ℓ : Loc nD τ sig) → Buf (Elt Ideal) ℓ)

theorem places : ∀ t : Fin cfg0.N, win0_0.index t (0 : Fin 2) = t.val ∧ win0_0.index t (1 : Fin 2) = 0
    ∧ win0_1.index t (0 : Fin 2) = 32 * t.val - 1 ∧ win0_1.index t (1 : Fin 2) = 0
    ∧ win0_3.index t (0 : Fin 2) = t.val ∧ win0_3.index t (1 : Fin 2) = 0 ∧ (grid0.coords t 0).val = t.val
    ∧ win0_2.index t (0 : Fin 2) = 0 ∧ win0_2.index t (1 : Fin 2) = 0 :=
  (by decide +kernel : ∀ t : Fin grid0.N, _)

theorem block (c : Dev nD) (t : Fin cfg0.N) (y : S256x3072.Idx) (Y : S8192x4096.Idx)
    (h0 : (Y 0).val = 256 * t.val + (y 0).val) (h1 : (Y 1).val = (y 1).val) :
    (X0_0 m c t : Vec Ideal S256x3072 .f32) y = m ((c.tc : Thread nD τ).loc main_arg0) Y := by
  obtain ⟨p0, p1, _⟩ := places t
  refine (dif_pos (moved0_0 t y)).trans (congrArg (m ((c.tc : Thread nD τ).loc main_arg0)) (place_ext ?_ ?_))
  · show win0_0.index t 0 * 256 + 1 * (y 0).val = (Y 0).val; omega
  · show win0_0.index t 1 * 3072 + 1 * (y 1).val = (Y 1).val; omega

theorem halo (c : Dev nD) (t : Fin cfg0.N) (ht : 0 < t.val) (y : S8x3072.Idx) (Y : S8192x4096.Idx)
    (h0 : (Y 0).val + 8 = 256 * t.val + (y 0).val) (h1 : (Y 1).val = (y 1).val) :
    (X0_1 m c t : Vec Ideal S8x3072 .f32) y = m ((c.tc : Thread nD τ).loc main_arg0) Y := by
  obtain ⟨_, _, p0, p1, _⟩ := places t
  refine (dif_pos (moved0_1 t y)).trans (congrArg (m ((c.tc : Thread nD τ).loc main_arg0)) (place_ext ?_ ?_))
  · show win0_1.index t 0 * 8 + 1 * (y 0).val = (Y 0).val; omega
  · show win0_1.index t 1 * 3072 + 1 * (y 1).val = (Y 1).val; omega

theorem weights_block (c : Dev nD) (t : Fin cfg0.N) :
    (iblk m c 2 t : Vec Ideal S4x3072 .f32) = m ((c.tc : Thread nD τ).loc main_arg1) :=
  whole (i := win0_2.index t 0) (j := win0_2.index t 1) (fun _ => rfl) (fun _ => rfl) (fun _ => rfl)
    (places t).2.2.2.2.2.2.2.1 (places t).2.2.2.2.2.2.2.2

/-- The last rows before the block, or zeros before the first block. -/
theorem above (i : grid0.Coords) (p : Vec Ideal S8x3072 .f32) (y : S8x3072.Idx) :
    k0_pay1 i p y = if (i 0).val = 0 then (0 : EReal) else p y := by
  have hi : (i 0).val < 32 := (i 0).isLt
  have h : Scalar.cmpi .sgt (BitVec.ofNat 32 (i 0).val) 0#32 = if (i 0).val = 0 then 0#1 else 1#1 :=
    (by decide +kernel : ∀ n : Fin 32, Scalar.cmpi .sgt (BitVec.ofNat 32 n.val) 0#32 = if n.val = 0 then 0#1 else 1#1) ⟨_, hi⟩
  unfold k0_pay1
  rw [shapeCast_self, h]
  split
  · exact Ideal.ofBits_zero .f32
  · rfl

/-- What the kernel's buffer holds: eight rows above, the block below. -/
abbrev held (c : Dev nD) (t : Fin cfg0.N) : Vec Ideal S264x3072 .f32 :=
  View.canon [⟨Rect.unit ![8, 0] ![256, 3072] inb_S264x3072_S256x3072_8_0, k0_pay2 (X0_0 m c t)⟩,
    ⟨Rect.unit ![0, 0] ![8, 3072] inb_S264x3072_S8x3072_0_0, k0_pay1 (grid0.coords t) (X0_1 m c t)⟩]

open ConvRefIdeal.Read in
/-- Row `5 + n` of the buffer is row `n`, counted from the block's first, of the reference's array with three rows of zeros above. -/
theorem padded (c : Dev nD) (t : Fin cfg0.N) (y : S264x3072.Idx) (Y : ConvRefIdeal.S8195x3072.Idx)
    (h0 : (Y 0).val + 5 = 256 * t.val + (y 0).val) (h5 : 5 ≤ (y 0).val) (h1 : (Y 1).val = (y 1).val) :
    held m c t y = val_main_v1 (F := Ideal) (m ((c.tc : Thread nD τ).loc main_arg0)) Y := by
  obtain ⟨_, _, _, _, _, _, ht, _⟩ := places t
  have hY : (Y 0).val < 8195 := (Y 0).isLt
  have hy : (y 0).val < 264 := (y 0).isLt
  have hl : (y 1).val < 3072 := (y 1).isLt
  have inner : ∀ Z : S8192x4096.Idx, (Z 0).val + 3 = (Y 0).val → (Z 1).val = (Y 1).val →
      m ((c.tc : Thread nD τ).loc main_arg0) Z = val_main_v1 (F := Ideal) (m ((c.tc : Thread nD τ).loc main_arg0)) Y := by
    intro Z z0 z1
    refine Eq.symm ((dif_pos fun a => ?_).trans ((val_main_v0_apply _ _).trans (congrArg (m ((c.tc : Thread nD τ).loc main_arg0)) (place_ext ?_ ?_))))
    · match a with
      | ⟨0, _⟩ =>
        show 3 ≤ (Y 0).val ∧ ((Y 0).val - 3) % 1 = 0 ∧ ((Y 0).val - 3) / 1 < 8192
        omega
      | ⟨1, _⟩ =>
        show 0 ≤ (Y 1).val ∧ ((Y 1).val - 0) % 1 = 0 ∧ ((Y 1).val - 0) / 1 < 3072
        omega
    · show ((Y 0).val - 3) / 1 = (Z 0).val; omega
    · show ((Y 1).val - 0) / 1 = (Z 1).val; omega
  rcases Nat.lt_or_ge (y 0).val 8 with h8 | h8
  · have e : y = (Rect.unit (s := S264x3072) ![0, 0] ![8, 3072] inb_S264x3072_S8x3072_0_0).emb (ValueIdx.ix2 ⟨(y 0).val, h8⟩ (y 1)) :=
      place_ext (by show (y 0).val = 0 + 1 * (y 0).val; omega) (by show (y 1).val = 0 + 1 * (y 1).val; omega)
    refine (View.canon_cons_of_not_mem _ _ (fun h => ?_)).trans ?_
    · have h' : 8 ≤ (y 0).val := ((Rect.mem_set_unit (inb := inb_S264x3072_S256x3072_8_0)).mp h 0).1
      omega
    · rw [e, View.canon_cons_emb, above, ht]
      split
      · rename_i t0
        refine Eq.symm ((dif_neg fun h => ?_).trans ?_)
        · have : 3 ≤ (Y 0).val := (h 0).1
          omega
        · show (((0#32 : BitVec 32).toInt : ℝ) : EReal) = 0
          simp
      · refine (halo m c t (by omega) _ (ValueIdx.ix2 ⟨(Y 0).val - 3, by omega⟩ ⟨(Y 1).val, by omega⟩) ?_ ?_).trans
          (inner _ ?_ rfl)
        · show (Y 0).val - 3 + 8 = 256 * t.val + (y 0).val; omega
        · exact h1
        · show (Y 0).val - 3 + 3 = (Y 0).val; omega
  · have e : y = (Rect.unit (s := S264x3072) ![8, 0] ![256, 3072] inb_S264x3072_S256x3072_8_0).emb
        (ValueIdx.ix2 ⟨(y 0).val - 8, by omega⟩ (y 1)) :=
      place_ext (by show (y 0).val = 8 + 1 * ((y 0).val - 8); omega) (by show (y 1).val = 0 + 1 * (y 1).val; omega)
    rw [e, held, View.canon_cons_emb, k0_pay2, shapeCast_self]
    refine (block m c t _ (ValueIdx.ix2 ⟨(Y 0).val - 3, by omega⟩ ⟨(Y 1).val, by omega⟩) ?_ ?_).trans (inner _ ?_ rfl)
    · show (Y 0).val - 3 = 256 * t.val + ((y 0).val - 8); omega
    · exact h1
    · show (Y 0).val - 3 + 3 = (Y 0).val; omega

/-- One of the four products: a row of the buffer times a row of the weights. -/
theorem product (c : Dev nD) (t : Fin cfg0.N) {k o : ℕ} (ho : o = 5 + k) (hk : k < 4) (inb inw) (hb : S1x3072.Broadcasts S256x3072)
    (hs hv hc) (h1 : ConvRefIdeal.S3072.BroadcastsInDim ConvRefIdeal.S1x3072 ![1])
    (h2 : ConvRefIdeal.S1x3072.BroadcastsInDim ConvRefIdeal.S8192x3072 ![0, 1])
    (y : S256x3072.Idx) (Y : S8192x3072.Idx) (e0 : (Y 0).val = 256 * t.val + (y 0).val) (e1 : (Y 1).val = (y 1).val) :
    mulf (F := Ideal) (φ := .f32) (fun y => held m c t ((Rect.unit (s := S264x3072) ![o, 0] ![256, 3072] inb).toLoadRect.idx y))
      (broadcastTo S256x3072 (View.ld (iblk m c 2 t) (Rect.unit ![k, 0] ![1, 3072] inw)) hb) y
    = mulf (F := Ideal) (φ := .f32)
      (extractStridedSlice ConvRefIdeal.S8192x3072 ![k, 0] (ConvRefIdeal.Read.val_main_v1 (F := Ideal) (m ((c.tc : Thread nD τ).loc main_arg0))) hs)
      (broadcastInDim ConvRefIdeal.S8192x3072 ![0, 1] h2 (broadcastInDim ConvRefIdeal.S1x3072 ![1] h1
        (shapeCast ConvRefIdeal.S3072 (extractStridedSlice ConvRefIdeal.S1x3072 ![k, 0] (m ((c.tc : Thread nD τ).loc main_arg1)) hv) hc))) Y := by
  have hY : (Y 0).val < 8192 := (Y 0).isLt
  have hl : (Y 1).val < 3072 := (Y 1).isLt
  refine congrArg₂ (FloatOps.mulf (F := Ideal)) ?_ ?_
  · rw [extractStridedSlice_apply _ _ hs Y (ValueIdx.ix2 ⟨k + (Y 0).val, by omega⟩ (Y 1)) fun a => by
      match a with
      | ⟨0, _⟩ => rfl
      | ⟨1, _⟩ => exact (Nat.zero_add _).symm]
    refine padded m c t _ _ ?_ ?_ ?_
    · show k + (Y 0).val + 5 = 256 * t.val + (o + 1 * (y 0).val); omega
    · show 5 ≤ o + 1 * (y 0).val; omega
    · show (Y 1).val = 0 + 1 * (y 1).val; omega
  · exact weights (weights_block m c t) hk inw hb hv hc h1 h2 y Y e1

open ConvRefIdeal.Read in
/-- Both sides add the four products up from the first; the reference starts at zero. -/
theorem sums {a0 a1 a2 a3 : Vec Ideal S256x3072 .f32} {w0 w1 w2 w3 : Vec Ideal S1x3072 .f32}
    {A : Vec Ideal ConvRefIdeal.S8192x4096 .f32} {B : Vec Ideal ConvRefIdeal.S4x3072 .f32} {y : S256x3072.Idx}
    {Y : ConvRefIdeal.S8192x3072.Idx}
    (h0 : mulf (F := Ideal) (φ := .f32) a0 (broadcastTo S256x3072 w0 broadcasts_S1x3072_S256x3072) y = val_main_v7 (F := Ideal) A B Y)
    (h1 : mulf (F := Ideal) (φ := .f32) a1 (broadcastTo S256x3072 w1 broadcasts_S1x3072_S256x3072) y = val_main_v15 (F := Ideal) A B Y)
    (h2 : mulf (F := Ideal) (φ := .f32) a2 (broadcastTo S256x3072 w2 broadcasts_S1x3072_S256x3072) y = val_main_v22 (F := Ideal) A B Y)
    (h3 : mulf (F := Ideal) (φ := .f32) a3 (broadcastTo S256x3072 w3 broadcasts_S1x3072_S256x3072) y = val_main_v29 (F := Ideal) A B Y) :
    k0_pay3 a0 w0 a1 w1 a2 w2 a3 w3 y = val_main_v30 (F := Ideal) A B Y := by
  have h0' : mulf (F := Ideal) (φ := .f32) a0 (broadcastTo S256x3072 w0 broadcasts_S1x3072_S256x3072) y
      = val_main_v9 (F := Ideal) A B Y := h0.trans (zero_start _).symm
  exact congrArg₂ (FloatOps.addf (F := Ideal)) (congrArg₂ (FloatOps.addf (F := Ideal)) (congrArg₂ (FloatOps.addf (F := Ideal)) h0' h1) h2) h3

theorem value (c : Dev nD) : (dats m 0 c).arrAt 3 cfg0.N
    = ConvRefIdeal.Read.val_main_v30 (F := Ideal) (m ((c.tc : Thread nD τ).loc main_arg0)) (m ((c.tc : Thread nD τ).loc main_arg1)) := by
  refine (dats m 0 c).arrAt_eq_of_covers 3 _ (by decide +kernel) fun t hf y => ?_
  obtain ⟨_, _, _, _, p2, p3, _⟩ := places t
  blk_simp
  rw [after0_3]
  unfold outsAt0
  frame_out
  simp only [View.readCov_eq_canon']
  generalize hY : ((View.whole main_v0).slice (win0_3.rect t)).emb y = Y
  have e0 : (Y 0).val = 256 * t.val + (y 0).val := by
    rw [← hY]; show win0_3.index t 0 * 256 + 1 * (y 0).val = _; omega
  have e1 : (Y 1).val = (y 1).val := by
    rw [← hY]; show win0_3.index t 1 * 3072 + 1 * (y 1).val = _; omega
  exact sums (product m c t (k := 0) (o := 5) rfl (by decide) inb_S264x3072_S256x3072_5_0 inb_S4x3072_S1x3072_0_0 _ _ _ _ _ _ y Y e0 e1)
    (product m c t (k := 1) (o := 6) rfl (by decide) inb_S264x3072_S256x3072_6_0 inb_S4x3072_S1x3072_1_0 _ _ _ _ _ _ y Y e0 e1)
    (product m c t (k := 2) (o := 7) rfl (by decide) inb_S264x3072_S256x3072_7_0 inb_S4x3072_S1x3072_2_0 _ _ _ _ _ _ y Y e0 e1)
    (product m c t (k := 3) (o := 8) rfl (by decide) inb_S264x3072_S256x3072_8_0 inb_S4x3072_S1x3072_3_0 _ _ _ _ _ _ y Y e0 e1)

theorem frame : Cert.quiescent_Conv := fun m ρ _ => Cert.Conv.Gen.frame m ρ
theorem frame_ideal : Cert.quiescent_ConvIdeal := fun m ρ _ => Gen.frame m ρ
theorem frame_ref_ideal : Cert.quiescent_ConvRefIdeal := fun m ρ _ =>
  (θ_run Cert.ConvRefIdeal.defs _ _).mono
    (fun r h => ⟨fun c => (h c).2, sem_eq_zero_of_no_sems (by decide) r.2⟩)
    (Cert.ConvRefIdeal.Value.run (F := Ideal) m ρ)

theorem algebraic : Cert.algebraic_ConvIdeal_ConvRefIdeal := by
  intro m ρ m' ρ' _ hagree
  refine ⟨_, Value.run_blocks (F := Ideal) m ρ, ?_⟩
  refine (θ_run Cert.ConvRefIdeal.defs _ _).mono (fun _ h c => ⟨(h c).1.trans ?_, (h c).2⟩)
    (Cert.ConvRefIdeal.Value.run (F := Ideal) m' ρ')
  rw [(hagree c).1, (hagree c).2]
  exact (value m c).symm

end Cert.ConvProof

end
-- ==== Proof.ConvolutionBack.lean ====
/-
# The gradient of the convolution

The convolution's output row is the sum of four rows of its input, each times a row of the weights. So the gradient of an input row is the
sum of the gradients of four output rows, the row itself and the three after it, each times a row of the weights, and the gradient of a row
of the weights is a sum over all rows of the output's gradient times the input.

The kernel walks the rows in blocks. It keeps the gradient's block above the first eight rows of the next block in one buffer, and the
input's block below the last eight rows of the block before in another. It reads each buffer four times. The gradient of the weights is
accumulated over the blocks, in the first four rows of an array of eight.
-/
module

public import proofs.«01_k».proof.Defs
public import proofs.«01_k».proof.Proof.Convolution
public import proofs.«01_k».proof.Proof.Gen.ConvBack.Frame
public import proofs.«01_k».proof.Proof.Gen.ConvBackIdeal.Frame
public import proofs.«01_k».proof.Proof.Gen.ConvBackIdeal.Value
public import proofs.«01_k».proof.Proof.Gen.ConvBackRefIdeal.Run
public import proofs.«01_k».proof.Proof.Gen.ConvBackRefIdeal.Read
public import proofs.«01_k».proof.Proof.RowBlocks
public import Idealize.ShloMosaic.Lib.IdealHost
public import Idealize.ShloMosaic.Lib.WritesUnit

@[expose] public section

set_option maxRecDepth 16384

noncomputable section

open Idealize.ShloMosaic Idealize.ShloMosaic.TcCoe Idealize.SL.Sem

namespace Cert.ConvBackProof

open Cert.ConvBackIdeal Cert.ConvBackIdeal.Gen Cert.Product Cert.RowBlocks
open scoped BigOperators

/-! ## Rows of zeros above and below an array -/

section Pad

variable {h w H k l : ℕ} (X : (⟨2, ![h, w]⟩ : Shape).Idx → EReal) {u : Shape} (v : u.Idx → EReal)
  (hp : (⟨2, ![h, w]⟩ : Shape).Pads ![k, 0] ![l, 0] ![0, 0] ⟨2, ![H, w]⟩) (hu : 0 < u.numel) (Z : (⟨2, ![H, w]⟩ : Shape).Idx)

theorem pad_in (Y : (⟨2, ![h, w]⟩ : Shape).Idx) (h0 : (Y 0).val + k = (Z 0).val) (h1 : (Y 1).val = (Z 1).val) :
    pad ⟨2, ![H, w]⟩ ![k, 0] ![l, 0] ![0, 0] X v hp hu Z = X Y := by
  have hY : (Y 0).val < h := (Y 0).isLt
  have hl : (Y 1).val < w := (Y 1).isLt
  refine (dif_pos fun a => ?_).trans (congrArg X (place_ext ?_ ?_))
  · match a with
    | ⟨0, _⟩ =>
      show k ≤ (Z 0).val ∧ ((Z 0).val - k) % 1 = 0 ∧ ((Z 0).val - k) / 1 < h
      omega
    | ⟨1, _⟩ =>
      show 0 ≤ (Z 1).val ∧ ((Z 1).val - 0) % 1 = 0 ∧ ((Z 1).val - 0) / 1 < w
      omega
  · show ((Z 0).val - k) / 1 = (Y 0).val; omega
  · show ((Z 1).val - 0) / 1 = (Y 1).val; omega

theorem pad_out (h0 : (Z 0).val < k ∨ k + h ≤ (Z 0).val) :
    pad ⟨2, ![H, w]⟩ ![k, 0] ![l, 0] ![0, 0] X v hp hu Z = v (Shape.Idx.first hu) :=
  dif_neg fun a => by
    have : k ≤ (Z 0).val ∧ ((Z 0).val - k) % 1 = 0 ∧ ((Z 0).val - k) / 1 < h := a 0
    omega

end Pad

variable (m : (ℓ : Loc nD τ sig) → Buf (Elt Ideal) ℓ)

theorem places : ∀ t : Fin cfg0.N, (win0_0.index t (0 : Fin 2) = t.val ∧ win0_0.index t (1 : Fin 2) = 0)
    ∧ (win0_1.index t (0 : Fin 2) = min (32 * (t.val + 1)) 1023 ∧ win0_1.index t (1 : Fin 2) = 0)
    ∧ (win0_2.index t (0 : Fin 2) = t.val ∧ win0_2.index t (1 : Fin 2) = 0)
    ∧ (win0_3.index t (0 : Fin 2) = 32 * t.val - 1 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) ∧ (grid0.coords t 0).val = t.val :=
  (by decide +kernel : ∀ t : Fin grid0.N, _)

theorem block0 (c : Dev nD) (t : Fin cfg0.N) :
    Rows (256 * t.val) (iblk m c 0 t : Vec Ideal S256x3072 .f32) (m ((c.tc : Thread nD τ).loc main_arg0)) :=
  Rows.placed (i := win0_0.index t 0) (j := win0_0.index t 1) (fun _ => rfl) (fun _ => rfl) (fun _ => rfl)
    (by rw [(places t).1.1, Nat.mul_comm]) (places t).1.2

theorem block1 (c : Dev nD) (t : Fin cfg0.N) (ht : t.val < 31) :
    Rows (256 * (t.val + 1)) (iblk m c 1 t : Vec Ideal S8x3072 .f32) (m ((c.tc : Thread nD τ).loc main_arg0)) :=
  Rows.placed (i := win0_1.index t 0) (j := win0_1.index t 1) (fun _ => rfl) (fun _ => rfl) (fun _ => rfl)
    (by rw [(places t).2.1.1]; omega) (places t).2.1.2

theorem block2 (c : Dev nD) (t : Fin cfg0.N) (y : S256x3072.Idx) (Y : S8192x4096.Idx)
    (h0 : (Y 0).val = 256 * t.val + (y 0).val) (h1 : (Y 1).val = (y 1).val) :
    (X0_2 m c t : Vec Ideal S256x3072 .f32) y = m ((c.tc : Thread nD τ).loc main_arg1) Y := by
  obtain ⟨p0, p1⟩ := (places t).2.2.1
  refine (dif_pos (moved0_2 t y)).trans (congrArg (m ((c.tc : Thread nD τ).loc main_arg1)) (place_ext ?_ ?_))
  · show win0_2.index t 0 * 256 + 1 * (y 0).val = (Y 0).val; omega
  · show win0_2.index t 1 * 3072 + 1 * (y 1).val = (Y 1).val; omega

theorem block3 (c : Dev nD) (t : Fin cfg0.N) (ht : 0 < t.val) (y : S8x3072.Idx) (Y : S8192x4096.Idx)
    (h0 : (Y 0).val + 8 = 256 * t.val + (y 0).val) (h1 : (Y 1).val = (y 1).val) :
    (X0_3 m c t : Vec Ideal S8x3072 .f32) y = m ((c.tc : Thread nD τ).loc main_arg1) Y := by
  obtain ⟨p0, p1⟩ := (places t).2.2.2.1
  refine (dif_pos (moved0_3 t y)).trans (congrArg (m ((c.tc : Thread nD τ).loc main_arg1)) (place_ext ?_ ?_))
  · show win0_3.index t 0 * 8 + 1 * (y 0).val = (Y 0).val; omega
  · show win0_3.index t 1 * 3072 + 1 * (y 1).val = (Y 1).val; omega

theorem block4 (c : Dev nD) (t : Fin cfg0.N) :
    (iblk m c 4 t : Vec Ideal S4x3072 .f32) = m ((c.tc : Thread nD τ).loc main_arg2) :=
  whole (i := win0_4.index t 0) (j := win0_4.index t 1) (fun _ => rfl) (fun _ => rfl) (fun _ => rfl)
    (places t).2.2.2.2.1.1 (places t).2.2.2.2.1.2

/-- The last rows before the block, or zeros before the first block. -/
theorem above (i : grid0.Coords) (p : Vec Ideal S8x3072 .f32) (y : S8x3072.Idx) :
    k0_pay6 i p y = if (i 0).val = 0 then (0 : EReal) else p y := ConvProof.above i p y

/-- The first rows after the block, or zeros after the last block. -/
theorem below (i : grid0.Coords) (p : Vec Ideal S8x3072 .f32) (y : S8x3072.Idx) :
    k0_pay5 i p y = if (i 0).val = 31 then (0 : EReal) else p y := by
  have hi : (i 0).val < 32 := (i 0).isLt
  have h : Scalar.cmpi .slt (BitVec.ofNat 32 (i 0).val) 31#32 = if (i 0).val = 31 then 0#1 else 1#1 :=
    (by decide +kernel : ∀ n : Fin 32, Scalar.cmpi .slt (BitVec.ofNat 32 n.val) 31#32 = if n.val = 31 then 0#1 else 1#1) ⟨_, hi⟩
  unfold k0_pay5
  rw [shapeCast_self, h]
  split
  · exact Ideal.ofBits_zero .f32
  · rfl

/-! ## The gradient of the input -/

/-- What the kernel's buffer of gradients holds: the block, eight rows below. -/
abbrev heldD (c : Dev nD) (t : Fin cfg0.N) : Vec Ideal S264x3072 .f32 :=
  View.canon [⟨Rect.unit ![256, 0] ![8, 3072] inb_S264x3072_S8x3072_256_0, k0_pay5 (grid0.coords t) (iblk m c 1 t)⟩,
    ⟨Rect.unit ![0, 0] ![256, 3072] inb_S264x3072_S256x3072_0_0, k0_pay4 (iblk m c 0 t)⟩]

/-- A row of the buffer is the gradient's row, counted from the block's first. -/
theorem heldD_row (c : Dev nD) (t : Fin cfg0.N) (y : S264x3072.Idx) (Y : ConvBackRefIdeal.S8192x3072.Idx)
    (h0 : (Y 0).val = 256 * t.val + (y 0).val) (h1 : (Y 1).val = (y 1).val) :
    heldD m c t y = m ((c.tc : Thread nD τ).loc main_arg0) Y := by
  have ht := (places t).2.2.2.2.2.2
  have hY : (Y 0).val < 8192 := (Y 0).isLt
  have hy : (y 0).val < 264 := (y 0).isLt
  rcases Nat.lt_or_ge (y 0).val 256 with h8 | h8
  · have e : y = (Rect.unit (s := S264x3072) ![0, 0] ![256, 3072] inb_S264x3072_S256x3072_0_0).emb (ValueIdx.ix2 ⟨(y 0).val, h8⟩ (y 1)) :=
      place_ext (by show (y 0).val = 0 + 1 * (y 0).val; omega) (by show (y 1).val = 0 + 1 * (y 1).val; omega)
    refine (View.canon_cons_of_not_mem _ _ (fun h => ?_)).trans ?_
    · have h' : 256 ≤ (y 0).val := ((Rect.mem_set_unit (inb := inb_S264x3072_S8x3072_256_0)).mp h 0).1
      omega
    · rw [e, View.canon_cons_emb, k0_pay4, shapeCast_self]
      exact block0 m c t _ _ h0 h1
  · have e : y = (Rect.unit (s := S264x3072) ![256, 0] ![8, 3072] inb_S264x3072_S8x3072_256_0).emb
        (ValueIdx.ix2 ⟨(y 0).val - 256, by omega⟩ (y 1)) :=
      place_ext (by show (y 0).val = 256 + 1 * ((y 0).val - 256); omega) (by show (y 1).val = 0 + 1 * (y 1).val; omega)
    rw [e, heldD, View.canon_cons_emb, below, ht, if_neg (by omega)]
    refine block1 m c t (by omega) _ _ ?_ h1
    show (Y 0).val = 256 * (t.val + 1) + ((y 0).val - 256); omega

/-- Below the gradient's last row the buffer holds zeros. -/
theorem heldD_zero (c : Dev nD) (t : Fin cfg0.N) (y : S264x3072.Idx) (h : 8192 ≤ 256 * t.val + (y 0).val) : heldD m c t y = 0 := by
  have ht := (places t).2.2.2.2.2.2
  have hy : (y 0).val < 264 := (y 0).isLt
  have hn : t.val < 32 := t.isLt
  have e : y = (Rect.unit (s := S264x3072) ![256, 0] ![8, 3072] inb_S264x3072_S8x3072_256_0).emb
      (ValueIdx.ix2 ⟨(y 0).val - 256, by omega⟩ (y 1)) :=
    place_ext (by show (y 0).val = 256 + 1 * ((y 0).val - 256); omega) (by show (y 1).val = 0 + 1 * (y 1).val; omega)
  rw [e, heldD, View.canon_cons_emb, below, ht, if_pos (by omega)]

/-- One of the four products: rows of the buffer times a row of the weights are the reference's product with zeros above and below. -/
theorem product (c : Dev nD) (t : Fin cfg0.N) {k o : ℕ} (ho : o + k = 3) (inb inw) (hb : S1x3072.Broadcasts S256x3072)
    (hx hv hc hp hu) (h1 : ConvBackRefIdeal.S3072.BroadcastsInDim ConvBackRefIdeal.S1x3072 ![1])
    (h2 : ConvBackRefIdeal.S1x3072.BroadcastsInDim ConvBackRefIdeal.S8192x3072 ![0, 1])
    (y : S256x3072.Idx) (Z : ConvBackRefIdeal.S8195x3072.Idx) (e0 : (Z 0).val = 256 * t.val + (y 0).val + 3) (e1 : (Z 1).val = (y 1).val) :
    mulf (F := Ideal) (φ := .f32) (fun y => heldD m c t ((Rect.unit (s := S264x3072) ![o, 0] ![256, 3072] inb).toLoadRect.idx y))
      (broadcastTo S256x3072 (View.ld (iblk m c 4 t) (Rect.unit ![k, 0] ![1, 3072] inw)) hb) y
    = pad ConvBackRefIdeal.S8195x3072 ![k, 0] ![o, 0] ![0, 0] (mulf (F := Ideal) (φ := .f32)
      (shapeCast ConvBackRefIdeal.S8192x3072 (m ((c.tc : Thread nD τ).loc main_arg0)) hx)
      (broadcastInDim ConvBackRefIdeal.S8192x3072 ![0, 1] h2 (broadcastInDim ConvBackRefIdeal.S1x3072 ![1] h1
        (shapeCast ConvBackRefIdeal.S3072 (extractStridedSlice ConvBackRefIdeal.S1x3072 ![k, 0] (m ((c.tc : Thread nD τ).loc main_arg2)) hv) hc))))
      (constant (F := Ideal) ConvBackRefIdeal.S_ .f32 0x00000000#32) hp hu Z := by
  have hl : (Z 1).val < 3072 := (Z 1).isLt
  rcases Nat.lt_or_ge (256 * t.val + (y 0).val + o) 8192 with h | h
  · rw [pad_in _ _ hp hu Z (ValueIdx.ix2 ⟨256 * t.val + (y 0).val + o, h⟩ (Z 1))
      (by show 256 * t.val + (y 0).val + o + k = (Z 0).val; omega) rfl]
    refine congrArg₂ (FloatOps.mulf (F := Ideal)) ?_ (ConvProof.weights (block4 m c t) (by omega) inw hb hv hc h1 h2 y _ e1)
    refine (heldD_row m c t _ (ValueIdx.ix2 ⟨256 * t.val + (y 0).val + o, h⟩ (Z 1)) ?_ ?_).trans (congrFun (shapeCast_self _ hx) _).symm
    · show 256 * t.val + (y 0).val + o = 256 * t.val + (o + 1 * (y 0).val); omega
    · show (Z 1).val = 0 + 1 * (y 1).val; omega
  · rw [pad_out _ _ hp hu Z (.inr (by omega))]
    have z : heldD m c t ((Rect.unit (s := S264x3072) ![o, 0] ![256, 3072] inb).toLoadRect.idx y) = 0 :=
      heldD_zero m c t _ (by show 8192 ≤ 256 * t.val + (o + 1 * (y 0).val); omega)
    refine (congrArg₂ (FloatOps.mulf (F := Ideal)) z rfl).trans ((zero_mul (M₀ := EReal) _).trans ?_)
    exact Ideal.ofBits_zero_f32.symm

open ConvBackRefIdeal.Read in
/-- Both sides add the four products, the kernel from the first and the reference from the last. -/
theorem sums {a0 a1 a2 a3 : Vec Ideal S256x3072 .f32} {w0 w1 w2 w3 : Vec Ideal S1x3072 .f32}
    {D : Vec Ideal ConvBackRefIdeal.S8192x3072 .f32} {W : Vec Ideal ConvBackRefIdeal.S4x3072 .f32} {y : S256x3072.Idx}
    {Z : ConvBackRefIdeal.S8195x3072.Idx}
    (h0 : mulf (F := Ideal) (φ := .f32) a0 (broadcastTo S256x3072 w0 broadcasts_S1x3072_S256x3072) y = val_main_v75 (F := Ideal) D W Z)
    (h1 : mulf (F := Ideal) (φ := .f32) a1 (broadcastTo S256x3072 w1 broadcasts_S1x3072_S256x3072) y = val_main_v64 (F := Ideal) D W Z)
    (h2 : mulf (F := Ideal) (φ := .f32) a2 (broadcastTo S256x3072 w2 broadcasts_S1x3072_S256x3072) y = val_main_v53 (F := Ideal) D W Z)
    (h3 : mulf (F := Ideal) (φ := .f32) a3 (broadcastTo S256x3072 w3 broadcasts_S1x3072_S256x3072) y = val_main_v43 (F := Ideal) D W Z) :
    k0_pay9 a0 w0 a1 w1 a2 w2 a3 w3 y = val_main_v76 (F := Ideal) D W Z := by
  have turn : ∀ p q r s : EReal, p + q + r + s = s + r + q + p := fun p q r s => by
    rw [add_comm _ s, add_comm (p + q) r, add_comm p q, ← add_assoc, ← add_assoc]
  refine Eq.trans ?_ (turn (val_main_v75 (F := Ideal) D W Z) (val_main_v64 (F := Ideal) D W Z) (val_main_v53 (F := Ideal) D W Z)
    (val_main_v43 (F := Ideal) D W Z))
  exact congrArg₂ (FloatOps.addf (F := Ideal)) (congrArg₂ (FloatOps.addf (F := Ideal)) (congrArg₂ (FloatOps.addf (F := Ideal)) h0 h1) h2) h3

open ConvBackRefIdeal.Read in
/-- The rows that a grid point writes. -/
theorem left (c : Dev nD) (t : Fin cfg0.N) (y : S256x3072.Idx) (Z : ConvBackRefIdeal.S8195x3072.Idx)
    (e0 : (Z 0).val = 256 * t.val + (y 0).val + 3) (e1 : (Z 1).val = (y 1).val) :
    (outsAt0 m c t.val t.isLt).1 y
      = val_main_v76 (F := Ideal) (m ((c.tc : Thread nD τ).loc main_arg0)) (m ((c.tc : Thread nD τ).loc main_arg2)) Z := by
  have key := sums (product m c t (k := 0) (o := 3) rfl inb_S264x3072_S256x3072_3_0 inb_S4x3072_S1x3072_0_0 _ _ _ _ _ _ _ _ y Z e0 e1)
    (product m c t (k := 1) (o := 2) rfl inb_S264x3072_S256x3072_2_0 inb_S4x3072_S1x3072_1_0 _ _ _ _ _ _ _ _ y Z e0 e1)
    (product m c t (k := 2) (o := 1) rfl inb_S264x3072_S256x3072_1_0 inb_S4x3072_S1x3072_2_0 _ _ _ _ _ _ _ _ y Z e0 e1)
    (product m c t (k := 3) (o := 0) rfl inb_S264x3072_S256x3072_0_0 inb_S4x3072_S1x3072_3_0 _ _ _ _ _ _ _ _ y Z e0 e1)
  by_cases h0 : t.val % 32 = 0
  · rw [outsAt0_A m c t h0]
    dsimp only
    unfold out0_A_5
    frame_out
    simp only [View.readCov_eq_canon']
    exact key
  · rw [outsAt0_B m c t h0]
    dsimp only
    unfold out0_B_5
    frame_out
    simp only [View.readCov_eq_canon']
    exact key

theorem value5 (c : Dev nD) : (dats m 0 c).arrAt 5 cfg0.N = ConvBackRefIdeal.Read.val_main_v78 (F := Ideal)
    (m ((c.tc : Thread nD τ).loc main_arg0)) (m ((c.tc : Thread nD τ).loc main_arg2)) := by
  refine (dats m 0 c).arrAt_eq_of_covers 5 _ (by decide +kernel) fun t hf y => ?_
  obtain ⟨p0, p1⟩ := (places t).2.2.2.2.2.1
  blk_simp
  rw [after0_5]
  refine (left m c t y _ ?_ ?_).trans (ConvBackRefIdeal.Read.val_main_v78_apply _ _ _).symm
  · show 3 + (win0_5.index t 0 * 256 + 1 * (y 0).val) = _; omega
  · show win0_5.index t 1 * 3072 + 1 * (y 1).val = _; omega

/-! ## The gradient of the weights -/

/-- What the kernel's buffer of inputs holds: eight rows above, the block below. -/
abbrev heldX (c : Dev nD) (t : Fin cfg0.N) : Vec Ideal S264x3072 .f32 :=
  View.canon [⟨Rect.unit ![8, 0] ![256, 3072] inb_S264x3072_S256x3072_8_0, k0_pay7 (X0_2 m c t)⟩,
    ⟨Rect.unit ![0, 0] ![8, 3072] inb_S264x3072_S8x3072_0_0, k0_pay6 (grid0.coords t) (X0_3 m c t)⟩]

open ConvBackRefIdeal.Read in
/-- Row `5 + n` of the buffer is row `n`, counted from the block's first, of the reference's array with three rows of zeros above. -/
theorem heldX_row (c : Dev nD) (t : Fin cfg0.N) (y : S264x3072.Idx) (Y : ConvBackRefIdeal.S8195x3072.Idx)
    (h0 : (Y 0).val + 5 = 256 * t.val + (y 0).val) (h5 : 5 ≤ (y 0).val) (h1 : (Y 1).val = (y 1).val) :
    heldX m c t y = val_main_v2 (F := Ideal) (m ((c.tc : Thread nD τ).loc main_arg1)) Y := by
  have ht := (places t).2.2.2.2.2.2
  have hY : (Y 0).val < 8195 := (Y 0).isLt
  have hy : (y 0).val < 264 := (y 0).isLt
  have hl : (y 1).val < 3072 := (y 1).isLt
  have inner : ∀ Z : S8192x4096.Idx, (Z 0).val + 3 = (Y 0).val → (Z 1).val = (Y 1).val →
      m ((c.tc : Thread nD τ).loc main_arg1) Z = val_main_v2 (F := Ideal) (m ((c.tc : Thread nD τ).loc main_arg1)) Y := by
    intro Z z0 z1
    have hz : (Z 0).val < 8192 := (Z 0).isLt
    refine Eq.symm ((concatenate_pair_apply_right (t := ConvBackRefIdeal.S8195x3072) (s₁ := ConvBackRefIdeal.S3x3072)
      (s₂ := ConvBackRefIdeal.S8192x3072) 0 (val_main_v1 (F := Ideal)) (val_main_v0 (F := Ideal) (m ((c.tc : Thread nD τ).loc main_arg1))) _ Y rfl rfl
      (ValueIdx.ix2 ⟨(Z 0).val, hz⟩ ⟨(Z 1).val, by omega⟩) (fun b hb => ?_) ?_).trans
      ((val_main_v0_apply _ _).trans (congrArg (m ((c.tc : Thread nD τ).loc main_arg1)) (place_ext ?_ ?_))))
    · match b with
      | ⟨0, _⟩ => exact absurd rfl hb
      | ⟨1, _⟩ => exact z1
    · exact z0
    · rfl
    · rfl
  rcases Nat.lt_or_ge (y 0).val 8 with h8 | h8
  · have e : y = (Rect.unit (s := S264x3072) ![0, 0] ![8, 3072] inb_S264x3072_S8x3072_0_0).emb (ValueIdx.ix2 ⟨(y 0).val, h8⟩ (y 1)) :=
      place_ext (by show (y 0).val = 0 + 1 * (y 0).val; omega) (by show (y 1).val = 0 + 1 * (y 1).val; omega)
    refine (View.canon_cons_of_not_mem _ _ (fun h => ?_)).trans ?_
    · have h' : 8 ≤ (y 0).val := ((Rect.mem_set_unit (inb := inb_S264x3072_S256x3072_8_0)).mp h 0).1
      omega
    · rw [e, View.canon_cons_emb, above, ht]
      split
      · rename_i t0
        refine Eq.symm ((concatenate_pair_apply_left (t := ConvBackRefIdeal.S8195x3072) (s₁ := ConvBackRefIdeal.S3x3072)
          (s₂ := ConvBackRefIdeal.S8192x3072) 0 (val_main_v1 (F := Ideal)) (val_main_v0 (F := Ideal) (m ((c.tc : Thread nD τ).loc main_arg1))) _ Y rfl
          (ValueIdx.ix2 ⟨(Y 0).val, by omega⟩ ⟨(Y 1).val, by omega⟩) fun b => ?_).trans
          ((val_main_v1_apply _).trans ?_))
        · match b with
          | ⟨0, _⟩ => rfl
          | ⟨1, _⟩ => rfl
        · exact Ideal.ofBits_zero_f32
      · refine (block3 m c t (by omega) _ (ValueIdx.ix2 ⟨(Y 0).val - 3, by omega⟩ ⟨(Y 1).val, by omega⟩) ?_ ?_).trans
          (inner _ ?_ rfl)
        · show (Y 0).val - 3 + 8 = 256 * t.val + (y 0).val; omega
        · exact h1
        · show (Y 0).val - 3 + 3 = (Y 0).val; omega
  · have e : y = (Rect.unit (s := S264x3072) ![8, 0] ![256, 3072] inb_S264x3072_S256x3072_8_0).emb
        (ValueIdx.ix2 ⟨(y 0).val - 8, by omega⟩ (y 1)) :=
      place_ext (by show (y 0).val = 8 + 1 * ((y 0).val - 8); omega) (by show (y 1).val = 0 + 1 * (y 1).val; omega)
    rw [e, heldX, View.canon_cons_emb, k0_pay7, shapeCast_self]
    refine (block2 m c t _ (ValueIdx.ix2 ⟨(Y 0).val - 3, by omega⟩ ⟨(Y 1).val, by omega⟩) ?_ ?_).trans (inner _ ?_ rfl)
    · show (Y 0).val - 3 = 256 * t.val + ((y 0).val - 8); omega
    · exact h1
    · show (Y 0).val - 3 + 3 = (Y 0).val; omega

/-- A block's products for row `j` of the weights. -/
def part (c : Dev nD) (t : Fin cfg0.N) (j : Fin 4) : FVec Ideal S256x3072 .f32 :=
  mulf (F := Ideal) (φ := .f32) (iblk m c 0 t : Vec Ideal S256x3072 .f32) (fun y => heldX m c t (ValueIdx.ix2 ⟨5 + j.val + (y 0).val, by
    have : (y 0).val < 256 := (y 0).isLt
    omega⟩ (y 1)))

open ConvBackRefIdeal.Read in
/-- The reference's products for row `j` of the weights. -/
def all (D : Vec Ideal ConvBackRefIdeal.S8192x3072 .f32) (A : Vec Ideal ConvBackRefIdeal.S8192x4096 .f32) (j : Fin 4) :
    FVec Ideal ConvBackRefIdeal.S8192x3072 .f32 :=
  mulf (F := Ideal) (φ := .f32) (fun Y => val_main_v2 (F := Ideal) A (ValueIdx.ix2 ⟨j.val + (Y 0).val, by
    have : (Y 0).val < 8192 := (Y 0).isLt
    omega⟩ (Y 1))) D

theorem part_rows (c : Dev nD) (t : Fin cfg0.N) (j : Fin 4) : Rows (256 * t.val) (part m c t j)
    (all (m ((c.tc : Thread nD τ).loc main_arg0)) (m ((c.tc : Thread nD τ).loc main_arg1)) j) := by
  intro y Y e0 e1
  refine (congrArg₂ (FloatOps.mulf (F := Ideal)) (block0 m c t y Y e0 e1) (heldX_row m c t _ _ ?_ ?_ ?_)).trans (mul_comm (G := EReal) _ _)
  · show j.val + (Y 0).val + 5 = 256 * t.val + (5 + j.val + (y 0).val); omega
  · show 5 ≤ 5 + j.val + (y 0).val; omega
  · exact e1

/-- A block's part for row `j`, added to what the row held. -/
theorem add_part (c : Dev nD) (t : Fin cfg0.N) (j : Fin 4) {o : ℕ} (ho : o = 5 + j.val) (inb hv hr hφ hacc) (hb : S3072.ShapeCasts S1x3072)
    (v : FVec Ideal S1x3072 .f32) (y : S1x3072.Idx) :
    addf (shapeCast S1x3072 v hv) (shapeCast S1x3072 (multiReduction .add [0] S3072
      (mulf (F := Ideal) (φ := .f32) (iblk m c 0 t : Vec Ideal S256x3072 .f32)
        (fun y => heldX m c t ((Rect.unit (s := S264x3072) ![o, 0] ![256, 3072] inb).toLoadRect.idx y))) 0x00000000#32 hr hφ hacc) hb) y
      = v y + ∑ k : Fin 256, part m c t j (ValueIdx.ix2 k (y 1)) := by
  subst ho
  refine (add_block v hv _ hr hφ hacc hb y).trans (congrArg (v y + ·) (Finset.sum_congr rfl fun k _ => ?_))
  refine congrArg (FloatOps.mulf (F := Ideal) (φ := .f32) _) (congrArg (heldX m c t) (place_ext ?_ ?_))
  · show 5 + j.val + 1 * k.val = 5 + j.val + k.val; omega
  · show 0 + 1 * (y 1).val = (y 1).val; omega

/-- What a block adds to its gradient: its part in the first four rows, nothing below. -/
def added (c : Dev nD) (t : Fin cfg0.N) (y : S8x3072.Idx) : EReal :=
  if h : (y 0).val < 4 then ∑ k : Fin 256, part m c t ⟨(y 0).val, h⟩ (ValueIdx.ix2 k (y 1)) else 0

theorem added_row (c : Dev nD) (t : Fin cfg0.N) (j : Fin 4) (y : S8x3072.Idx) (e : (y 0).val = j.val) :
    added m c t y = ∑ k : Fin 256, part m c t j (ValueIdx.ix2 k (y 1)) :=
  (dif_pos (show (y 0).val < 4 by omega)).trans (congrArg (fun j => ∑ k : Fin 256, part m c t j (ValueIdx.ix2 k (y 1))) (Fin.ext e))

theorem added_below (c : Dev nD) (t : Fin cfg0.N) (y : S8x3072.Idx) (e : 4 ≤ (y 0).val) : added m c t y = 0 :=
  dif_neg (by omega)

section Written

variable {o : ℕ} {inb : ∀ a, (![o, 0] : Fin 2 → ℕ) a + (![1, 3072] : Fin 2 → ℕ) a ≤ S8x3072.size a} {w : Vec Ideal S1x3072 .f32}
  {L : List (View.Piece (Elt Ideal) S8x3072 .f32)} {y : S8x3072.Idx}

/-- The row written last reads what was written. -/
theorem canon_hit (h : (y 0).val = o) :
    View.canon (⟨Rect.unit (s := S8x3072) ![o, 0] ![1, 3072] inb, w⟩ :: L) y = w (ValueIdx.ix2 0 (y 1)) := by
  have e : y = (Rect.unit (s := S8x3072) ![o, 0] ![1, 3072] inb).emb (ValueIdx.ix2 0 (y 1)) :=
    place_ext (by show (y 0).val = o + 1 * 0; omega) (by show (y 1).val = 0 + 1 * (y 1).val; omega)
  exact (congrArg _ e).trans (View.canon_cons_emb _ _ _ _)

/-- Any other row reads what was there before. -/
theorem canon_skip (h : (y 0).val ≠ o) :
    View.canon (⟨Rect.unit (s := S8x3072) ![o, 0] ![1, 3072] inb, w⟩ :: L) y = View.canon L y := by
  refine View.canon_cons_of_not_mem _ _ fun h' => ?_
  have h' : o ≤ (y 0).val ∧ (y 0).val < o + 1 := (Rect.mem_set_unit (inb := inb)).mp h' 0
  omega

theorem canon_zero {inb} : View.canon (Val := Elt Ideal) (e := .f32) [⟨Rect.unit (s := S8x3072) ![0, 0] ![8, 3072] inb, k0_pay8 (F := Ideal)⟩] y = (0 : EReal) := by
  have e : y = (Rect.unit (s := S8x3072) ![0, 0] ![8, 3072] inb).emb y :=
    place_ext (by show (y 0).val = 0 + 1 * (y 0).val; omega) (by show (y 1).val = 0 + 1 * (y 1).val; omega)
  exact (congrArg _ e).trans ((View.canon_cons_emb _ _ _ _).trans Ideal.ofBits_zero_f32)

variable {sp : Space} (v : View sig .tc sp S8x3072 .f32) (f : v.ty.Contents (Elt Ideal))

theorem read_hit (h : (y 0).val = o) :
    v.read (Elt Ideal) (v.writes (Elt Ideal) f (⟨Rect.unit (s := S8x3072) ![o, 0] ![1, 3072] inb, w⟩ :: L)) y = w (ValueIdx.ix2 0 (y 1)) :=
  View.read_writes_cons_rows_of_mem v f inb w L y (ValueIdx.ix2 0 (y 1)) rfl h rfl

theorem read_skip (h : (y 0).val ≠ o) :
    v.read (Elt Ideal) (v.writes (Elt Ideal) f (⟨Rect.unit (s := S8x3072) ![o, 0] ![1, 3072] inb, w⟩ :: L)) y
      = v.read (Elt Ideal) (v.writes (Elt Ideal) f L) y :=
  View.read_writes_cons_rows_of_not_mem v f inb w L y rfl rfl (by show (y 0).val < o ∨ o + 1 ≤ (y 0).val; omega)

variable {w0 w1 w2 w3 : Vec Ideal S1x3072 .f32} {r : EReal}

/-- Four rows written one after another, the last one first in the list. -/
theorem canon_rows {i0 i1 i2 i3} (h3 : (y 0).val = 3 → w3 (ValueIdx.ix2 0 (y 1)) = r) (h2 : (y 0).val = 2 → w2 (ValueIdx.ix2 0 (y 1)) = r)
    (h1 : (y 0).val = 1 → w1 (ValueIdx.ix2 0 (y 1)) = r) (h0 : (y 0).val = 0 → w0 (ValueIdx.ix2 0 (y 1)) = r)
    (h : 4 ≤ (y 0).val → View.canon L y = r) :
    View.canon (⟨Rect.unit (s := S8x3072) ![3, 0] ![1, 3072] i3, w3⟩ :: ⟨Rect.unit (s := S8x3072) ![2, 0] ![1, 3072] i2, w2⟩
      :: ⟨Rect.unit (s := S8x3072) ![1, 0] ![1, 3072] i1, w1⟩ :: ⟨Rect.unit (s := S8x3072) ![0, 0] ![1, 3072] i0, w0⟩ :: L) y = r := by
  by_cases e3 : (y 0).val = 3
  · exact (canon_hit e3).trans (h3 e3)
  refine (canon_skip e3).trans ?_
  by_cases e2 : (y 0).val = 2
  · exact (canon_hit e2).trans (h2 e2)
  refine (canon_skip e2).trans ?_
  by_cases e1 : (y 0).val = 1
  · exact (canon_hit e1).trans (h1 e1)
  refine (canon_skip e1).trans ?_
  by_cases e0 : (y 0).val = 0
  · exact (canon_hit e0).trans (h0 e0)
  exact (canon_skip e0).trans (h (by omega))

theorem read_rows {i0 i1 i2 i3} (h3 : (y 0).val = 3 → w3 (ValueIdx.ix2 0 (y 1)) = r) (h2 : (y 0).val = 2 → w2 (ValueIdx.ix2 0 (y 1)) = r)
    (h1 : (y 0).val = 1 → w1 (ValueIdx.ix2 0 (y 1)) = r) (h0 : (y 0).val = 0 → w0 (ValueIdx.ix2 0 (y 1)) = r)
    (h : 4 ≤ (y 0).val → v.read (Elt Ideal) f y = r) :
    v.read (Elt Ideal) (v.writes (Elt Ideal) f [⟨Rect.unit (s := S8x3072) ![3, 0] ![1, 3072] i3, w3⟩,
      ⟨Rect.unit (s := S8x3072) ![2, 0] ![1, 3072] i2, w2⟩, ⟨Rect.unit (s := S8x3072) ![1, 0] ![1, 3072] i1, w1⟩,
      ⟨Rect.unit (s := S8x3072) ![0, 0] ![1, 3072] i0, w0⟩]) y = r := by
  by_cases e3 : (y 0).val = 3
  · exact (read_hit v f e3).trans (h3 e3)
  refine (read_skip v f e3).trans ?_
  by_cases e2 : (y 0).val = 2
  · exact (read_hit v f e2).trans (h2 e2)
  refine (read_skip v f e2).trans ?_
  by_cases e1 : (y 0).val = 1
  · exact (read_hit v f e1).trans (h1 e1)
  refine (read_skip v f e1).trans ?_
  by_cases e0 : (y 0).val = 0
  · exact (read_hit v f e0).trans (h0 e0)
  exact (read_skip v f e0).trans (h (by omega))

end Written

/-- The four rows that the kernel writes. -/
theorem writes0 (c : Dev nD) (t : Fin cfg0.N) (v : Vec Ideal S1x3072 .f32) (y : S1x3072.Idx) :
    k0_pay10 (iblk m c 0 t) v (fun y => heldX m c t ((Rect.unit (s := S264x3072) ![5, 0] ![256, 3072] inb_S264x3072_S256x3072_5_0).toLoadRect.idx y)) y
      = v y + ∑ k : Fin 256, part m c t 0 (ValueIdx.ix2 k (y 1)) := add_part m c t 0 rfl _ _ _ _ _ _ v y

theorem writes1 (c : Dev nD) (t : Fin cfg0.N) (v : Vec Ideal S1x3072 .f32) (y : S1x3072.Idx) :
    k0_pay1 (k0_pay11 v) (k0_pay12 (iblk m c 0 t)
      (fun y => heldX m c t ((Rect.unit (s := S264x3072) ![6, 0] ![256, 3072] inb_S264x3072_S256x3072_6_0).toLoadRect.idx y))) y
      = v y + ∑ k : Fin 256, part m c t 1 (ValueIdx.ix2 k (y 1)) := add_part m c t 1 rfl _ _ _ _ _ _ v y

theorem writes2 (c : Dev nD) (t : Fin cfg0.N) (v : Vec Ideal S1x3072 .f32) (y : S1x3072.Idx) :
    k0_pay2 (iblk m c 0 t) v (fun y => heldX m c t ((Rect.unit (s := S264x3072) ![7, 0] ![256, 3072] inb_S264x3072_S256x3072_7_0).toLoadRect.idx y)) y
      = v y + ∑ k : Fin 256, part m c t 2 (ValueIdx.ix2 k (y 1)) := add_part m c t 2 rfl _ _ _ _ _ _ v y

theorem writes3 (c : Dev nD) (t : Fin cfg0.N) (v : Vec Ideal S1x3072 .f32) (y : S1x3072.Idx) :
    k0_pay3 (iblk m c 0 t) v (fun y => heldX m c t ((Rect.unit (s := S264x3072) ![8, 0] ![256, 3072] inb_S264x3072_S256x3072_8_0).toLoadRect.idx y)) y
      = v y + ∑ k : Fin 256, part m c t 3 (ValueIdx.ix2 k (y 1)) := add_part m c t 3 rfl _ _ _ _ _ _ v y

/-- The first block starts from zeros. -/
theorem start (c : Dev nD) (t : Fin cfg0.N) (h0 : t.val % 32 = 0) (y : S8x3072.Idx) :
    (outsAt0 m c t.val t.isLt).2 y = added m c t y := by
  rw [outsAt0_A m c t h0]
  dsimp only
  unfold out0_A_6
  frame_out
  simp only [View.readCov_eq_canon']
  have from_zero : ∀ (j : Fin 4) {x : EReal}, (y 0).val = j.val → x = 0 →
      x + ∑ k : Fin 256, part m c t j (ValueIdx.ix2 k (y 1)) = added m c t y := by
    intro j x e hx
    rw [hx, zero_add, added_row m c t j y e]
  refine canon_rows (fun e => (writes3 m c t _ _).trans (from_zero 3 e ?_)) (fun e => (writes2 m c t _ _).trans (from_zero 2 e ?_))
    (fun e => (writes1 m c t _ _).trans (from_zero 1 e ?_)) (fun e => (writes0 m c t _ _).trans (from_zero 0 e ?_)) (fun e => ?_)
  · beta_reduce
    refine (canon_skip ?_).trans ((canon_skip ?_).trans ((canon_skip ?_).trans canon_zero))
    · show 3 + 1 * 0 ≠ 2; omega
    · show 3 + 1 * 0 ≠ 1; omega
    · show 3 + 1 * 0 ≠ 0; omega
  · beta_reduce
    refine (canon_skip ?_).trans ((canon_skip ?_).trans canon_zero)
    · show 2 + 1 * 0 ≠ 1; omega
    · show 2 + 1 * 0 ≠ 0; omega
  · beta_reduce
    refine (canon_skip ?_).trans canon_zero
    show 1 + 1 * 0 ≠ 0; omega
  · exact canon_zero
  · exact canon_zero.trans (added_below m c t y e).symm

/-- A later block adds to what the block before left. -/
theorem next (c : Dev nD) (t : Fin cfg0.N) (h0 : ¬ t.val % 32 = 0) (y : S8x3072.Idx) :
    (outsAt0 m c t.val t.isLt).2 y = (outsAt0 m c (t.val - 1) (lt_of_le_of_lt (Nat.sub_le _ _) t.isLt)).2 y + added m c t y := by
  rw [outsAt0_B m c t h0]
  dsimp only
  unfold out0_B_6
  frame_out
  simp only [View.readCov_eq_canon']
  generalize (outsAt0 m c (t.val - 1) _).2 = p
  have onto : ∀ (j : Fin 4) {x : EReal}, (y 0).val = j.val → x = p y →
      x + ∑ k : Fin 256, part m c t j (ValueIdx.ix2 k (y 1)) = p y + added m c t y := by
    intro j x e hx
    rw [hx, added_row m c t j y e]
  have same : ∀ (o : ℕ) (inb), (y 0).val = o →
      View.ld p (Rect.unit (s := S8x3072) ![o, 0] ![1, 3072] inb) (ValueIdx.ix2 0 (y 1)) = p y := fun o inb e =>
    congrArg p (place_ext (by show o + 1 * 0 = (y 0).val; omega) (by show 0 + 1 * (y 1).val = (y 1).val; omega))
  refine read_rows _ _ (fun e => (writes3 m c t _ _).trans (onto 3 e (same 3 _ e))) (fun e => (writes2 m c t _ _).trans (onto 2 e (same 2 _ e)))
    (fun e => (writes1 m c t _ _).trans (onto 1 e (same 1 _ e))) (fun e => (writes0 m c t _ _).trans (onto 0 e (same 0 _ e))) (fun e => ?_)
  rw [added_below m c t y e, add_zero]
  exact congrFun (Memref.IsWhole.read_unread _ p) y

/-- After the last block the first four rows hold the sums over all rows. -/
theorem total (c : Dev nD) (j : Fin 4) (h : 32 - 1 < cfg0.N) (y : S8x3072.Idx) (e : (y 0).val = j.val) :
    (outsAt0 m c (32 - 1) h).2 y = ∑ k : Fin 8192, all (m ((c.tc : Thread nD τ).loc main_arg0)) (m ((c.tc : Thread nD τ).loc main_arg1)) j
      (ValueIdx.ix2 k (y 1)) := by
  have row : y = ValueIdx.ix2 (y 0) (y 1) := place_ext rfl rfl
  refine (congrArg _ row).trans ?_
  refine sum_blocks (N := 32) (b := 256) (w := 3072) (by decide) rfl (fun n h x => (outsAt0 m c n h).2 (ValueIdx.ix2 (y 0) (x 1))) (fun n h => part m c ⟨n, h⟩ j) _
    (fun n h => part_rows m c ⟨n, h⟩ j) (fun x => ?_) (fun n h x => ?_) h (ValueIdx.ix2 0 (y 1))
  · exact (start m c ⟨0, by decide⟩ rfl _).trans (added_row m c _ j _ e)
  · refine (next m c ⟨n + 1, h⟩ (by show ¬ (n + 1) % 32 = 0; have : n + 1 < 32 := h; omega) _).trans (congrArg (_ + ·) (added_row m c _ j _ e))

/-- The rows below stay zero. -/
theorem rest (c : Dev nD) (y : S8x3072.Idx) (e : 4 ≤ (y 0).val) : ∀ n (h : n < cfg0.N), (outsAt0 m c n h).2 y = (0 : EReal)
  | 0, h => (start m c ⟨0, h⟩ rfl y).trans (added_below m c _ y e)
  | n + 1, h => (next m c ⟨n + 1, h⟩ (by show ¬ (n + 1) % 32 = 0; have : n + 1 < 32 := h; omega) y).trans (by
      rw [added_below m c _ y e, add_zero]
      exact rest c y e n _)

open ConvBackRefIdeal.Read in
/-- The reference's sum for row `j`, among rows of zeros. -/
theorem host_row (D : Vec Ideal ConvBackRefIdeal.S8192x3072 .f32) (A : Vec Ideal ConvBackRefIdeal.S8192x4096 .f32) (j : Fin 4) {k l : ℕ}
    (hk : k = j.val) (hs hx) (hr : ConvBackRefIdeal.S8192x3072.ReducesTo [0] ConvBackRefIdeal.S3072)
    (hr' : ConvBackRefIdeal.S1x3072.ReducesTo [0] ConvBackRefIdeal.S3072) (hu hc) (hb : ConvBackRefIdeal.S3072.BroadcastsInDim ConvBackRefIdeal.S1x3072 ![1])
    (hp : ConvBackRefIdeal.S1x3072.Pads ![k, 0] ![l, 0] ![0, 0] ConvBackRefIdeal.S4x3072) (Y : ConvBackRefIdeal.S4x3072.Idx) :
    pad ConvBackRefIdeal.S4x3072 ![k, 0] ![l, 0] ![0, 0] (broadcastInDim ConvBackRefIdeal.S1x3072 ![1] hb
      (Host.reduceAdd (shapeCast ConvBackRefIdeal.S1x3072 (Host.reduceAdd (mulf (F := Ideal) (φ := .f32)
        (extractStridedSlice ConvBackRefIdeal.S8192x3072 ![k, 0] (val_main_v2 (F := Ideal) A) hs)
        (shapeCast ConvBackRefIdeal.S8192x3072 D hx)) (constant (F := Ideal) ConvBackRefIdeal.S_ .f32 0x00000000#32) hr hu :
          FVec Ideal ConvBackRefIdeal.S3072 .f32) hc)
        (constant (F := Ideal) ConvBackRefIdeal.S_ .f32 0x00000000#32) hr' hu : FVec Ideal ConvBackRefIdeal.S3072 .f32)) (constant (F := Ideal) ConvBackRefIdeal.S_ .f32 0x00000000#32) hp hu Y
      = if (Y 0).val = k then ∑ n : Fin 8192, all D A j (ValueIdx.ix2 n (Y 1)) else 0 := by
  subst hk
  split
  · rename_i e
    refine (pad_in _ _ hp hu Y (ValueIdx.ix2 0 (Y 1)) (by show 0 + j.val = (Y 0).val; omega) rfl).trans ?_
    refine (broadcastInDim_apply _ hb _ _ (ValueIdx.ix1 (Y 1)) fun a => by
      match a with
      | ⟨0, _⟩ => rfl).trans ?_
    rw [Host.reduceAdd_apply, Ideal.hostReduceAdd_def, Ideal.hostReduceAdd_r2_a0]
    refine (zero_start _).trans ((Fin.sum_univ_one _).trans ((sum_host _ hr hu hc _).trans (Finset.sum_congr rfl fun n _ => ?_)))
    refine congrArg₂ (FloatOps.mulf (F := Ideal)) ?_ (congrFun (shapeCast_self _ hx) _)
    exact extractStridedSlice_apply _ _ hs _ _ fun a => by
      match a with
      | ⟨0, _⟩ => rfl
      | ⟨1, _⟩ => exact (Nat.zero_add _).symm
  · rename_i e
    exact (pad_out _ _ hp hu Y (by omega)).trans Ideal.ofBits_zero_f32

open ConvBackRefIdeal.Read in
theorem host_total (D : Vec Ideal ConvBackRefIdeal.S8192x3072 .f32) (A : Vec Ideal ConvBackRefIdeal.S8192x4096 .f32) (j : Fin 4)
    (Y : ConvBackRefIdeal.S4x3072.Idx) (e : (Y 0).val = j.val) :
    val_main_v74 (F := Ideal) D A Y = ∑ n : Fin 8192, all D A j (ValueIdx.ix2 n (Y 1)) := by
  have h3 : val_main_v42 (F := Ideal) D A Y = _ := host_row D A 3 (k := 3) (l := 0) rfl _ _ _ _ _ _ _ _ Y
  have h2 : val_main_v51 (F := Ideal) D A Y = _ := host_row D A 2 (k := 2) (l := 1) rfl _ _ _ _ _ _ _ _ Y
  have h1 : val_main_v62 (F := Ideal) D A Y = _ := host_row D A 1 (k := 1) (l := 2) rfl _ _ _ _ _ _ _ _ Y
  have h0 : val_main_v73 (F := Ideal) D A Y = _ := host_row D A 0 (k := 0) (l := 3) rfl _ _ _ _ _ _ _ _ Y
  refine (congrArg₂ (α := EReal) (β := EReal) (· + ·) (congrArg₂ (α := EReal) (β := EReal) (· + ·)
    (congrArg₂ (α := EReal) (β := EReal) (· + ·) h3 h2) h1) h0).trans ?_
  rw [e]
  fin_cases j <;> simp

/-- The last grid point. -/
def last : Fin cfg0.N := ⟨31, by decide⟩

theorem value6 (c : Dev nD) : (dats m 0 c).arrAt 6 cfg0.N = ConvBackRefIdeal.Read.val_main_v79 (F := Ideal)
    (m ((c.tc : Thread nD τ).loc main_arg0)) (m ((c.tc : Thread nD τ).loc main_arg1)) := by
  refine (dats m 0 c).arrAt_eq_of_after_last 6 last (by decide +kernel) _ fun j => ?_
  blk_simp
  rw [after0_6]
  rcases Nat.lt_or_ge (j 0).val 4 with h | h
  · refine (total m c ⟨(j 0).val, h⟩ (by decide) j rfl).trans (Eq.symm ?_)
    exact (pad_in (k := 0) _ _ _ _ _ (ValueIdx.ix2 ⟨(j 0).val, h⟩ (j 1)) rfl rfl).trans (host_total _ _ ⟨(j 0).val, h⟩ _ rfl)
  · refine (rest m c j h 31 (by decide)).trans (Eq.symm ?_)
    refine (pad_out (k := 0) _ _ _ _ _ (.inr (by show 0 + 4 ≤ (j 0).val; omega))).trans ?_
    show (((0#32 : BitVec 32).toInt : ℝ) : EReal) = 0
    simp

theorem frame : Cert.quiescent_ConvBack := fun m ρ _ => Cert.ConvBack.Gen.frame m ρ
theorem frame_ideal : Cert.quiescent_ConvBackIdeal := fun m ρ _ => Gen.frame m ρ
theorem frame_ref_ideal : Cert.quiescent_ConvBackRefIdeal := fun m ρ _ =>
  (θ_run Cert.ConvBackRefIdeal.defs _ _).mono
    (fun r h => ⟨fun c => (h c).2.2, sem_eq_zero_of_no_sems (by decide) r.2⟩)
    (Cert.ConvBackRefIdeal.Value.run (F := Ideal) m ρ)

theorem algebraic : Cert.algebraic_ConvBackIdeal_ConvBackRefIdeal := by
  intro m ρ m' ρ' _ hagree
  refine ⟨_, _, Value.run_blocks (F := Ideal) m ρ, ?_⟩
  refine (θ_run Cert.ConvBackRefIdeal.defs _ _).mono (fun _ h c => ⟨(h c).1.trans ?_, (h c).2.1.trans ?_, (h c).2.2⟩)
    (Cert.ConvBackRefIdeal.Value.run (F := Ideal) m' ρ')
  · rw [(hagree c).1, (hagree c).2.2]
    exact (value5 m c).symm
  · rw [(hagree c).1, (hagree c).2.1]
    exact (value6 m c).symm

end Cert.ConvBackProof

end
-- ==== Proof.Loss.lean ====
/-
# The loss and its gradients

The loss is half the sum over the rows of the mean squared error of `x + norm(d) - target`. The call walks the rows in
blocks of 256. At each grid point it adds the block's part of the loss to an array that holds the one number in every
place, writes the gradients of the block's rows, and adds the block's part of the gain's gradient. The gradient of the
error is written as the error times 1/1024 by the kernel, and comes out of the derivative of the reference as
(1/2 · 1)/1024 times twice the error.
-/
module

public import proofs.«01_k».proof.Defs
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.RowBlocks

@[expose] public section

set_option maxRecDepth 16384

noncomputable section

open Idealize.ShloMosaic Idealize.ShloMosaic.TcCoe Idealize.SL.Sem

namespace Cert.LossProof

open scoped BigOperators
open Cert.LossIdeal Cert.LossIdeal.Gen Cert.Product Cert.RowBlocks

/-! ## The numbers -/

theorem half : Ideal.ofBits .f32 0x3F000000#32 = ((1 / 2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

theorem part : Ideal.ofBits .f32 0x3A800000#32 = ((1 / 1024 : ℝ) : EReal) := by
  simp [Ideal.ofBits, Ideal.ieee, -EReal.coe_mul]; norm_num

/-- The two ways of writing the gradient of the error. -/
theorem slopes (e : EReal) : e * Ideal.ofBits .f32 0x3A800000#32
    = Ideal.div (Ideal.ofBits .f32 0x3F000000#32 * Ideal.ofBits .f32 0x3F800000#32) (Ideal.ofBits .f32 0x44800000#32)
      * (Ideal.ofBits .f32 0x40000000#32 * e) := by
  rw [half, one, two, width, part, ← EReal.coe_mul, Ideal.div, if_neg (by norm_cast), ← EReal.coe_inv, ← EReal.coe_mul,
    ← mul_assoc, ← EReal.coe_mul, mul_comm]
  norm_num

/-- Half of a sum is the sum of the halves. -/
theorem half_sum {n : ℕ} (f : Fin n → EReal) :
    ∑ k, Ideal.ofBits .f32 0x3F000000#32 * f k = Ideal.ofBits .f32 0x3F000000#32 * ∑ k, f k := by
  have h0 : (0 : EReal) ≤ ((1 / 2 : ℝ) : EReal) := by exact_mod_cast (by norm_num : (0 : ℝ) ≤ 1 / 2)
  rw [half]
  refine Finset.induction_on (Finset.univ : Finset (Fin n)) (by simp) fun a s ha hs => ?_
  rw [Finset.sum_insert ha, Finset.sum_insert ha, hs, EReal.left_distrib_of_nonneg_of_ne_top h0 (EReal.coe_ne_top _)]

/-! ## The body's rows -/

section Body

open LossRefIdeal.Read

variable {off : ℕ} {x d e : Vec Ideal S256x1024 .f32} {X D E : Vec Ideal LossRefIdeal.S8192x1024 .f32}
  {g G : Vec Ideal S1x1024 .f32}

theorem moment (hd : Rows off d D) : Rows off (k0_pay6 d) (val_main_v6 (F := Ideal) D) :=
  ((((hd.mul hd).sum _ _ _ _ _).column' _ _).div (Rows.const _ _)).add (Rows.const _ _)

theorem root (hd : Rows off d D) : Rows off (k0_pay7 d) (val_main_v7 (F := Ideal) D) := (moment hd).rsqrt

theorem normed (hd : Rows off d D) : Rows off (k0_pay8 d) (val_main_v12 (F := Ideal) D) := hd.mul ((root hd).across _ _)

/-- The error. -/
theorem error (hx : Rows off x X) (hd : Rows off d D) (he : Rows off e E) (hg : g = G) :
    Rows off (k0_pay9 x d g e) (val_main_v16 (F := Ideal) X D E G) :=
  (hx.add ((normed hd).mul (gain hg _ _))).sub he

/-- Half the mean squared error of each row, as the reference's mean has it. -/
def halves (X D E : Vec Ideal LossRefIdeal.S8192x1024 .f32) (G : Vec Ideal S1x1024 .f32) : FVec Ideal ⟨2, ![8192, 1]⟩ .f32 :=
  fun Y => Ideal.ofBits .f32 0x3F000000#32 * val_main_v22 (F := Ideal) X D E G (ValueIdx.ix1 (Y 0))

theorem loss_rows (hx : Rows off x X) (hd : Rows off d D) (he : Rows off e E) (hg : g = G) :
    Rows off (k0_pay10 x d g e) (halves X D E G) := by
  intro y Y h0 _
  have hs : Entries off _ (val_main_v20 (F := Ideal) X D E G) :=
    ((error hx hd he hg).mul (error hx hd he hg)).sum reduces_S256x1024_S256 (.inl rfl) rfl _ _
  exact congrArg (fun v => Ideal.ofBits .f32 0x3F000000#32 * Ideal.div v (Ideal.ofBits .f32 0x44800000#32))
    ((RowBlocks.column shapeCasts_S256_S256x1 y).trans (hs _ (ValueIdx.ix1 (Y 0)) h0))

/-- The gradient of the error. -/
theorem pull (hx : Rows off x X) (hd : Rows off d D) (he : Rows off e E) (hg : g = G) :
    Rows off (k0_pay11 x d g e) (val_main_v30 (F := Ideal) X D E G) := by
  intro y Y h0 h1
  refine (congrArg (· * Ideal.ofBits .f32 0x3A800000#32) (error hx hd he hg y Y h0 h1)).trans ?_
  exact slopes _

/-- What the rows add to the gain's gradient. -/
theorem gain_rows (hx : Rows off x X) (hd : Rows off d D) (he : Rows off e E) (hg : g = G) :
    Rows off (mulf (k0_pay8 d) (k0_pay11 x d g e)) (val_main_v31 (F := Ideal) X D E G) :=
  (normed hd).mul (pull hx hd he hg)

/-- The gradient of the layer's output. -/
theorem rows (hx : Rows off x X) (hd : Rows off d D) (he : Rows off e E) (hg : g = G) :
    Rows off (k0_pay1 d (k0_pay14 x d g e) (k0_pay15 x d g e)) (val_main_v49 (F := Ideal) X D E G) := by
  have hv : Rows off (k0_pay13 x d g e) (val_main_v35 (F := Ideal) X D E G) := (pull hx hd he hg).mul (gain hg _ _)
  have hs : Rows off _ (val_main_v45 (F := Ideal) X D E G) :=
    ((((((hd.mul hv).sum reduces_S256x1024_S256 (.inl rfl) rfl _ _).column shapeCasts_S256_S256x1 _).mul
      ((Rows.const _ _).mul ((root hd).div (moment hd)))).div (Rows.const _ _)).sum reduces_S256x1_S256 (.inl rfl) rfl _ _).across
      shapeCasts_S256_S256x1 broadcasts_S256x1_S256x1024 _
  exact ((hv.mul ((root hd).across _ _)).add (hd.mul hs)).add (hs.mul hd)

/-- The block's part of the loss, at any place of the array that it is added to. -/
theorem spread (a : FVec Ideal S256x1 .f32) (hr hφ hacc) (hb hb' hB) (j : S8x128.Idx) :
    broadcastTo S8x128 (shapeCast S1x1 (shapeCast S1x1 (multiReduction .add [0] S1 a 0x00000000#32 hr hφ hacc) hb) hb') hB j
      = ∑ k : Fin 256, a (ValueIdx.ix2 k 0) := by
  rw [shapeCast_self]
  refine (broadcastTo_apply _ hB j (ValueIdx.ix2 0 0) fun c => ?_).trans
    (sum_block (b := 256) (w := 1) a hr hφ hacc hb (ValueIdx.ix2 0 0))
  match c with
  | ⟨0, _⟩ => rfl
  | ⟨1, _⟩ => rfl

end Body

/-! ## The call -/

variable (m : (ℓ : Loc nD τ sig) → Buf (Elt Ideal) ℓ)

theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem block0 (c : Dev nD) (t : Fin cfg0.N) :
    Rows (256 * t.val) (iblk m c 0 t : Vec Ideal S256x1024 .f32) (m ((c.tc : Thread nD τ).loc main_arg0)) :=
  Rows.placed (i := win0_0.index t 0) (j := win0_0.index t 1) (fun _ => rfl) (fun _ => rfl) (fun _ => rfl)
    (by rw [(places t).1.1, Nat.mul_comm]) (places t).1.2

theorem block1 (c : Dev nD) (t : Fin cfg0.N) :
    Rows (256 * t.val) (iblk m c 1 t : Vec Ideal S256x1024 .f32) (m ((c.tc : Thread nD τ).loc main_arg1)) :=
  Rows.placed (i := win0_1.index t 0) (j := win0_1.index t 1) (fun _ => rfl) (fun _ => rfl) (fun _ => rfl)
    (by rw [(places t).2.1.1, Nat.mul_comm]) (places t).2.1.2

theorem block2 (c : Dev nD) (t : Fin cfg0.N) :
    Rows (256 * t.val) (iblk m c 2 t : Vec Ideal S256x1024 .f32) (m ((c.tc : Thread nD τ).loc main_arg2)) :=
  Rows.placed (i := win0_2.index t 0) (j := win0_2.index t 1) (fun _ => rfl) (fun _ => rfl) (fun _ => rfl)
    (by rw [(places t).2.2.1.1, Nat.mul_comm]) (places t).2.2.1.2

theorem block3 (c : Dev nD) (t : Fin cfg0.N) :
    (iblk m c 3 t : Vec Ideal S1x1024 .f32) = m ((c.tc : Thread nD τ).loc main_arg3) :=
  whole (i := win0_3.index t 0) (j := win0_3.index t 1) (fun _ => rfl) (fun _ => rfl) (fun _ => rfl)
    (places t).2.2.2.1.1 (places t).2.2.2.1.2

/-- The row gradients that a grid point writes. -/
theorem left (c : Dev nD) (t : Fin cfg0.N) : Rows (256 * t.val) (outsAt0 m c t.val t.isLt).2.1
    (LossRefIdeal.Read.val_main_v30 (F := Ideal) (m ((c.tc : Thread nD τ).loc main_arg0))
      (m ((c.tc : Thread nD τ).loc main_arg1)) (m ((c.tc : Thread nD τ).loc main_arg2)) (m ((c.tc : Thread nD τ).loc main_arg3)))
    ∧ Rows (256 * t.val) (outsAt0 m c t.val t.isLt).2.2.1
      (LossRefIdeal.Read.val_main_v49 (F := Ideal) (m ((c.tc : Thread nD τ).loc main_arg0))
        (m ((c.tc : Thread nD τ).loc main_arg1)) (m ((c.tc : Thread nD τ).loc main_arg2)) (m ((c.tc : Thread nD τ).loc main_arg3))) := by
  have h := pull (block0 m c t) (block1 m c t) (block2 m c t) (block3 m c t)
  have h' := rows (block0 m c t) (block1 m c t) (block2 m c t) (block3 m c t)
  by_cases h0 : t.val % 32 = 0
  · rw [outsAt0_A m c t h0]
    constructor
    · frame_out; exact h
    · frame_out; exact h'
  · rw [outsAt0_B m c t h0]
    constructor
    · frame_out; exact h
    · frame_out; exact h'

theorem value5 (c : Dev nD) : (dats m 0 c).arrAt 5 cfg0.N = LossRefIdeal.Read.val_main_v30 (F := Ideal)
    (m ((c.tc : Thread nD τ).loc main_arg0)) (m ((c.tc : Thread nD τ).loc main_arg1)) (m ((c.tc : Thread nD τ).loc main_arg2))
    (m ((c.tc : Thread nD τ).loc main_arg3)) := by
  refine (dats m 0 c).arrAt_eq_of_covers 5 _ (by decide +kernel) fun t hf y => ?_
  obtain ⟨p0, p1⟩ := (places t).2.2.2.2.1
  blk_simp
  rw [after0_5]
  refine (left m c t).1 y _ ?_ ?_
  · show win0_5.index t 0 * 256 + 1 * (y 0).val = _; omega
  · show win0_5.index t 1 * 1024 + 1 * (y 1).val = _; omega

theorem value6 (c : Dev nD) : (dats m 0 c).arrAt 6 cfg0.N = LossRefIdeal.Read.val_main_v49 (F := Ideal)
    (m ((c.tc : Thread nD τ).loc main_arg0)) (m ((c.tc : Thread nD τ).loc main_arg1)) (m ((c.tc : Thread nD τ).loc main_arg2))
    (m ((c.tc : Thread nD τ).loc main_arg3)) := by
  refine (dats m 0 c).arrAt_eq_of_covers 6 _ (by decide +kernel) fun t hf y => ?_
  obtain ⟨p0, p1⟩ := (places t).2.2.2.2.2
  blk_simp
  rw [after0_6]
  refine (left m c t).2 y _ ?_ ?_
  · show win0_6.index t 0 * 256 + 1 * (y 0).val = _; omega
  · show win0_6.index t 1 * 1024 + 1 * (y 1).val = _; omega

/-- The last grid point. -/
def last : Fin cfg0.N := ⟨31, by decide⟩

theorem value7 (c : Dev nD) : (dats m 0 c).arrAt 7 cfg0.N = LossRefIdeal.Read.val_main_v33 (F := Ideal)
    (m ((c.tc : Thread nD τ).loc main_arg0)) (m ((c.tc : Thread nD τ).loc main_arg1)) (m ((c.tc : Thread nD τ).loc main_arg2))
    (m ((c.tc : Thread nD τ).loc main_arg3)) := by
  refine (dats m 0 c).arrAt_eq_of_after_last 7 last (by decide +kernel) _ fun j => ?_
  blk_simp
  rw [after0_7]
  refine (sum_blocks (N := 32) (b := 256) (by decide) rfl (fun n h => (outsAt0 m c n h).2.2.2) _ _
    (fun n h => gain_rows (block0 m c ⟨n, h⟩) (block1 m c ⟨n, h⟩) (block2 m c ⟨n, h⟩) (block3 m c ⟨n, h⟩))
    (fun y => ?_) (fun n h y => ?_) _ _).trans (sum_host _ _ _ _ _).symm
  · rw [outsAt0_A m c ⟨0, by decide⟩ rfl]
    frame_out
    exact first_block _ _ _ _ _ _ y
  · rw [outsAt0_B m c ⟨n + 1, h⟩ (by show ¬ (n + 1) % 32 = 0; have : n + 1 < 32 := h; omega)]
    frame_out [read_unread_whole]
    exact add_block _ _ _ _ _ _ _ y

/-- The reference's loss, as a sum of halves. -/
theorem total (X D E : Vec Ideal LossRefIdeal.S8192x1024 .f32) (G : Vec Ideal S1x1024 .f32) (j : S8x128.Idx) :
    ∑ k : Fin 8192, halves X D E G (ValueIdx.ix2 k 0) = LossRefIdeal.Read.val_main_v50 (F := Ideal) X D E G j := by
  rw [LossRefIdeal.Read.val_main_v50_apply]
  refine (half_sum _).trans (congrArg (Ideal.ofBits .f32 0x3F000000#32 * ·) ?_)
  unfold LossRefIdeal.Read.val_main_v23
  rw [Host.reduceAdd_apply, Ideal.hostReduceAdd_def, Ideal.hostReduceAdd_r1_a0]
  exact (zero_start _).symm

theorem value4 (c : Dev nD) : (dats m 0 c).arrAt 4 cfg0.N = LossRefIdeal.Read.val_main_v50 (F := Ideal)
    (m ((c.tc : Thread nD τ).loc main_arg0)) (m ((c.tc : Thread nD τ).loc main_arg1)) (m ((c.tc : Thread nD τ).loc main_arg2))
    (m ((c.tc : Thread nD τ).loc main_arg3)) := by
  refine (dats m 0 c).arrAt_eq_of_after_last 4 last (by decide +kernel) _ fun j => ?_
  blk_simp
  rw [after0_4]
  refine (sum_blocks (N := 32) (b := 256) (w := 1) (by decide) rfl (fun n h _ => (outsAt0 m c n h).1 j) _ _
    (fun n h => loss_rows (block0 m c ⟨n, h⟩) (block1 m c ⟨n, h⟩) (block2 m c ⟨n, h⟩) (block3 m c ⟨n, h⟩))
    (fun y => ?_) (fun n h y => ?_) (by decide) (ValueIdx.ix2 0 0)).trans (total _ _ _ _ _)
  · obtain rfl : y = ValueIdx.ix2 0 0 := place_ext (by have : (y 0).val < 1 := (y 0).isLt; show _ = 0; omega) (by have : (y 1).val < 1 := (y 1).isLt; show _ = 0; omega)
    rw [outsAt0_A m c ⟨0, by decide⟩ rfl]
    frame_out
    refine (congrArg₂ (· + ·) ?_ (spread _ _ _ _ _ _ _ j)).trans (zero_add _)
    rw [shapeCast_self]
    exact Ideal.ofBits_zero_f32
  · obtain rfl : y = ValueIdx.ix2 0 0 := place_ext (by have : (y 0).val < 1 := (y 0).isLt; show _ = 0; omega) (by have : (y 1).val < 1 := (y 1).isLt; show _ = 0; omega)
    rw [outsAt0_B m c ⟨n + 1, h⟩ (by show ¬ (n + 1) % 32 = 0; have : n + 1 < 32 := h; omega)]
    frame_out [read_unread_whole]
    refine congrArg₂ (· + ·) ?_ (spread _ _ _ _ _ _ _ j)
    rw [shapeCast_self]; rfl

theorem frame : Cert.quiescent_Loss := fun m ρ _ => Cert.Loss.Gen.frame m ρ
theorem frame_ideal : Cert.quiescent_LossIdeal := fun m ρ _ => Gen.frame m ρ
theorem frame_ref_ideal : Cert.quiescent_LossRefIdeal := fun m ρ _ =>
  (θ_run Cert.LossRefIdeal.defs _ _).mono
    (fun r h => ⟨fun c => (h c).2.2.2.2, sem_eq_zero_of_no_sems (by decide) r.2⟩)
    (Cert.LossRefIdeal.Value.run (F := Ideal) m ρ)

theorem algebraic : Cert.algebraic_LossIdeal_LossRefIdeal := by
  intro m ρ m' ρ' _ hagree
  refine ⟨_, _, _, _, Value.run_blocks (F := Ideal) m ρ, ?_⟩
  refine (θ_run Cert.LossRefIdeal.defs _ _).mono (fun _ h c => ⟨(h c).1.trans ?_, (h c).2.1.trans ?_,
    (h c).2.2.1.trans ?_, (h c).2.2.2.1.trans ?_, (h c).2.2.2.2⟩)
    (Cert.LossRefIdeal.Value.run (F := Ideal) m' ρ')
  · rw [LossRefIdeal.Read.val_main_v50_eq, (hagree c).1, (hagree c).2.1, (hagree c).2.2.1, (hagree c).2.2.2]
    exact (value4 m c).symm
  · rw [LossRefIdeal.Read.val_main_v30_eq, (hagree c).1, (hagree c).2.1, (hagree c).2.2.1, (hagree c).2.2.2]
    exact (value5 m c).symm
  · rw [LossRefIdeal.Read.val_main_v49_eq, (hagree c).1, (hagree c).2.1, (hagree c).2.2.1, (hagree c).2.2.2]
    exact (value6 m c).symm
  · rw [LossRefIdeal.Read.val_main_v33_eq, (hagree c).1, (hagree c).2.1, (hagree c).2.2.1, (hagree c).2.2.2]
    exact (value7 m c).symm

end Cert.LossProof

end
-- ==== Proof.lean ====
/-
# The claim

Each conjunct of `Cert.Claim` is proved in the module of its call, and cited here in the claim's order.
-/
module

public import proofs.«01_k».proof.Defs
public import proofs.«01_k».proof.Proof.WeightsValue
public import proofs.«01_k».proof.Proof.SiblingValue
public import proofs.«01_k».proof.Proof.ChipsValue
public import proofs.«01_k».proof.Proof.ShareValue
public import proofs.«01_k».proof.Proof.UpdateValue
public import proofs.«01_k».proof.Proof.WeightGrads
public import proofs.«01_k».proof.Proof.Mlp
public import proofs.«01_k».proof.Proof.Rows
public import proofs.«01_k».proof.Proof.NormBack
public import proofs.«01_k».proof.Proof.ResNorms
public import proofs.«01_k».proof.Proof.Mixers
public import proofs.«01_k».proof.Proof.Heads
public import proofs.«01_k».proof.Proof.Convolution
public import proofs.«01_k».proof.Proof.ConvolutionBack
public import proofs.«01_k».proof.Proof.Loss
public import proofs.«01_k».proof.Proof.Gen.Weights
public import proofs.«01_k».proof.Proof.Gen.Weights.Skeleton
public import proofs.«01_k».proof.Proof.Gen.Weights.Launch
public import proofs.«01_k».proof.Proof.Gen.WeightsIdeal
public import proofs.«01_k».proof.Proof.Gen.WeightsIdeal.Skeleton
public import proofs.«01_k».proof.Proof.Gen.WeightsIdeal.Launch
public import proofs.«01_k».proof.Proof.Gen.WeightsRefIdeal
public import proofs.«01_k».proof.Proof.Gen.WeightsRefIdeal.Run
public import proofs.«01_k».proof.Proof.Gen.WeightsRef
public import proofs.«01_k».proof.Proof.Gen.WeightsRef.Run
public import proofs.«01_k».proof.Proof.Gen.Sibling
public import proofs.«01_k».proof.Proof.Gen.Sibling.Skeleton
public import proofs.«01_k».proof.Proof.Gen.Sibling.Launch
public import proofs.«01_k».proof.Proof.Gen.Sibling.Regions
public import proofs.«01_k».proof.Proof.Gen.Sibling.Points
public import proofs.«01_k».proof.Proof.Gen.SiblingIdeal
public import proofs.«01_k».proof.Proof.Gen.SiblingIdeal.Skeleton
public import proofs.«01_k».proof.Proof.Gen.SiblingIdeal.Launch
public import proofs.«01_k».proof.Proof.Gen.SiblingIdeal.Regions
public import proofs.«01_k».proof.Proof.Gen.SiblingIdeal.Points
public import proofs.«01_k».proof.Proof.Gen.SiblingRefIdeal
public import proofs.«01_k».proof.Proof.Gen.SiblingRefIdeal.Run
public import proofs.«01_k».proof.Proof.Gen.Chips
public import proofs.«01_k».proof.Proof.Gen.Chips.Skeleton
public import proofs.«01_k».proof.Proof.Gen.Chips.Launch
public import proofs.«01_k».proof.Proof.Gen.Chips.Regions
public import proofs.«01_k».proof.Proof.Gen.Chips.Points
public import proofs.«01_k».proof.Proof.Gen.ChipsIdeal
public import proofs.«01_k».proof.Proof.Gen.ChipsIdeal.Skeleton
public import proofs.«01_k».proof.Proof.Gen.ChipsIdeal.Launch
public import proofs.«01_k».proof.Proof.Gen.ChipsIdeal.Regions
public import proofs.«01_k».proof.Proof.Gen.ChipsIdeal.Points
public import proofs.«01_k».proof.Proof.Gen.ChipsRefIdeal
public import proofs.«01_k».proof.Proof.Gen.ChipsRefIdeal.Run
public import proofs.«01_k».proof.Proof.Gen.Share
public import proofs.«01_k».proof.Proof.Gen.Share.Skeleton
public import proofs.«01_k».proof.Proof.Gen.Share.Launch
public import proofs.«01_k».proof.Proof.Gen.ShareIdeal
public import proofs.«01_k».proof.Proof.Gen.ShareIdeal.Skeleton
public import proofs.«01_k».proof.Proof.Gen.ShareIdeal.Launch
public import proofs.«01_k».proof.Proof.Gen.ShareRefIdeal
public import proofs.«01_k».proof.Proof.Gen.ShareRefIdeal.Run
public import proofs.«01_k».proof.Proof.Gen.ShareRef
public import proofs.«01_k».proof.Proof.Gen.ShareRef.Run
public import proofs.«01_k».proof.Proof.Gen.UpdateMlp
public import proofs.«01_k».proof.Proof.Gen.UpdateMlpIdeal
public import proofs.«01_k».proof.Proof.Gen.UpdateMlpRefIdeal
public import proofs.«01_k».proof.Proof.Gen.UpdateIn
public import proofs.«01_k».proof.Proof.Gen.UpdateInIdeal
public import proofs.«01_k».proof.Proof.Gen.UpdateInRefIdeal
public import proofs.«01_k».proof.Proof.Gen.UpdateOut
public import proofs.«01_k».proof.Proof.Gen.UpdateOutIdeal
public import proofs.«01_k».proof.Proof.Gen.UpdateOutRefIdeal
public import proofs.«01_k».proof.Proof.Gen.UpdateKv
public import proofs.«01_k».proof.Proof.Gen.UpdateKvIdeal
public import proofs.«01_k».proof.Proof.Gen.UpdateKvRefIdeal
public import proofs.«01_k».proof.Proof.Gen.UpdateGains
public import proofs.«01_k».proof.Proof.Gen.UpdateGainsIdeal
public import proofs.«01_k».proof.Proof.Gen.UpdateGainsRefIdeal
public import proofs.«01_k».proof.Proof.Gen.UpdateKvGain
public import proofs.«01_k».proof.Proof.Gen.UpdateKvGainIdeal
public import proofs.«01_k».proof.Proof.Gen.UpdateKvGainRefIdeal
public import proofs.«01_k».proof.Proof.Gen.UpdateOutGain
public import proofs.«01_k».proof.Proof.Gen.UpdateOutGainIdeal
public import proofs.«01_k».proof.Proof.Gen.UpdateOutGainRefIdeal
public import proofs.«01_k».proof.Proof.Gen.UpdateDecay
public import proofs.«01_k».proof.Proof.Gen.UpdateDecayIdeal
public import proofs.«01_k».proof.Proof.Gen.UpdateDecayRefIdeal
public import proofs.«01_k».proof.Proof.Gen.UpdateConv
public import proofs.«01_k».proof.Proof.Gen.UpdateConvIdeal
public import proofs.«01_k».proof.Proof.Gen.UpdateConvRefIdeal
public import proofs.«01_k».proof.Proof.Gen.DownDw
public import proofs.«01_k».proof.Proof.Gen.DownDwIdeal
public import proofs.«01_k».proof.Proof.Gen.DownDwRefIdeal
public import proofs.«01_k».proof.Proof.Gen.UpDw
public import proofs.«01_k».proof.Proof.Gen.UpDwIdeal
public import proofs.«01_k».proof.Proof.Gen.UpDwRefIdeal
public import proofs.«01_k».proof.Proof.Gen.InDw
public import proofs.«01_k».proof.Proof.Gen.InDwIdeal
public import proofs.«01_k».proof.Proof.Gen.InDwRefIdeal
public import proofs.«01_k».proof.Proof.Gen.GateDw
public import proofs.«01_k».proof.Proof.Gen.GateDwIdeal
public import proofs.«01_k».proof.Proof.Gen.GateDwRefIdeal
public import proofs.«01_k».proof.Proof.Gen.OutDw
public import proofs.«01_k».proof.Proof.Gen.OutDwIdeal
public import proofs.«01_k».proof.Proof.Gen.OutDwRefIdeal
public import proofs.«01_k».proof.Proof.Gen.SbOutDw
public import proofs.«01_k».proof.Proof.Gen.SbOutDwIdeal
public import proofs.«01_k».proof.Proof.Gen.SbOutDwRefIdeal
public import proofs.«01_k».proof.Proof.Gen.KvDw
public import proofs.«01_k».proof.Proof.Gen.KvDwIdeal
public import proofs.«01_k».proof.Proof.Gen.KvDwRefIdeal
public import proofs.«01_k».proof.Proof.Gen.DownDx
public import proofs.«01_k».proof.Proof.Gen.DownDxIdeal
public import proofs.«01_k».proof.Proof.Gen.DownDxRefIdeal
public import proofs.«01_k».proof.Proof.Gen.UpDx
public import proofs.«01_k».proof.Proof.Gen.UpDxIdeal
public import proofs.«01_k».proof.Proof.Gen.UpDxRefIdeal
public import proofs.«01_k».proof.Proof.Gen.Up
public import proofs.«01_k».proof.Proof.Gen.UpIdeal
public import proofs.«01_k».proof.Proof.Gen.UpRefIdeal
public import proofs.«01_k».proof.Proof.Gen.Down
public import proofs.«01_k».proof.Proof.Gen.DownIdeal
public import proofs.«01_k».proof.Proof.Gen.DownRefIdeal
public import proofs.«01_k».proof.Proof.Gen.Relu
public import proofs.«01_k».proof.Proof.Gen.ReluIdeal
public import proofs.«01_k».proof.Proof.Gen.ReluRefIdeal
public import proofs.«01_k».proof.Proof.Gen.ReluBack
public import proofs.«01_k».proof.Proof.Gen.ReluBackIdeal
public import proofs.«01_k».proof.Proof.Gen.ReluBackRefIdeal
public import proofs.«01_k».proof.Proof.Gen.GradX
public import proofs.«01_k».proof.Proof.Gen.GradXIdeal
public import proofs.«01_k».proof.Proof.Gen.GradXRefIdeal
public import proofs.«01_k».proof.Proof.Gen.Loss
public import proofs.«01_k».proof.Proof.Gen.LossIdeal
public import proofs.«01_k».proof.Proof.Gen.LossRefIdeal
public import proofs.«01_k».proof.Proof.Gen.NormIn
public import proofs.«01_k».proof.Proof.Gen.NormInIdeal
public import proofs.«01_k».proof.Proof.Gen.NormInRefIdeal
public import proofs.«01_k».proof.Proof.Gen.NormInBack
public import proofs.«01_k».proof.Proof.Gen.NormInBackIdeal
public import proofs.«01_k».proof.Proof.Gen.NormInBackRefIdeal
public import proofs.«01_k».proof.Proof.Gen.ResNormBack
public import proofs.«01_k».proof.Proof.Gen.ResNormBackIdeal
public import proofs.«01_k».proof.Proof.Gen.ResNormBackRefIdeal
public import proofs.«01_k».proof.Proof.Gen.ResNorm
public import proofs.«01_k».proof.Proof.Gen.ResNormIdeal
public import proofs.«01_k».proof.Proof.Gen.ResNormRefIdeal
public import proofs.«01_k».proof.Proof.Gen.ResNorms
public import proofs.«01_k».proof.Proof.Gen.ResNormsIdeal
public import proofs.«01_k».proof.Proof.Gen.ResNormsRefIdeal
public import proofs.«01_k».proof.Proof.Gen.ResNormsBack
public import proofs.«01_k».proof.Proof.Gen.ResNormsBackIdeal
public import proofs.«01_k».proof.Proof.Gen.ResNormsBackRefIdeal
public import proofs.«01_k».proof.Proof.Gen.Gate
public import proofs.«01_k».proof.Proof.Gen.GateIdeal
public import proofs.«01_k».proof.Proof.Gen.GateRefIdeal
public import proofs.«01_k».proof.Proof.Gen.Out
public import proofs.«01_k».proof.Proof.Gen.OutIdeal
public import proofs.«01_k».proof.Proof.Gen.OutRefIdeal
public import proofs.«01_k».proof.Proof.Gen.SbOut
public import proofs.«01_k».proof.Proof.Gen.SbOutIdeal
public import proofs.«01_k».proof.Proof.Gen.SbOutRefIdeal
public import proofs.«01_k».proof.Proof.Gen.Query
public import proofs.«01_k».proof.Proof.Gen.QueryIdeal
public import proofs.«01_k».proof.Proof.Gen.QueryRefIdeal
public import proofs.«01_k».proof.Proof.Gen.Kv
public import proofs.«01_k».proof.Proof.Gen.KvIdeal
public import proofs.«01_k».proof.Proof.Gen.KvRefIdeal
public import proofs.«01_k».proof.Proof.Gen.OutDx
public import proofs.«01_k».proof.Proof.Gen.OutDxIdeal
public import proofs.«01_k».proof.Proof.Gen.OutDxRefIdeal
public import proofs.«01_k».proof.Proof.Gen.KvDx
public import proofs.«01_k».proof.Proof.Gen.KvDxIdeal
public import proofs.«01_k».proof.Proof.Gen.KvDxRefIdeal
public import proofs.«01_k».proof.Proof.Gen.InDx
public import proofs.«01_k».proof.Proof.Gen.InDxIdeal
public import proofs.«01_k».proof.Proof.Gen.InDxRefIdeal
public import proofs.«01_k».proof.Proof.Gen.GateDx
public import proofs.«01_k».proof.Proof.Gen.GateDxIdeal
public import proofs.«01_k».proof.Proof.Gen.GateDxRefIdeal
public import proofs.«01_k».proof.Proof.Gen.PostQ
public import proofs.«01_k».proof.Proof.Gen.PostQIdeal
public import proofs.«01_k».proof.Proof.Gen.PostQRefIdeal
public import proofs.«01_k».proof.Proof.Gen.PostK
public import proofs.«01_k».proof.Proof.Gen.PostKIdeal
public import proofs.«01_k».proof.Proof.Gen.PostKRefIdeal
public import proofs.«01_k».proof.Proof.Gen.PostV
public import proofs.«01_k».proof.Proof.Gen.PostVIdeal
public import proofs.«01_k».proof.Proof.Gen.PostVRefIdeal
public import proofs.«01_k».proof.Proof.Gen.Gates
public import proofs.«01_k».proof.Proof.Gen.GatesIdeal
public import proofs.«01_k».proof.Proof.Gen.GatesRefIdeal
public import proofs.«01_k».proof.Proof.Gen.OutNorm
public import proofs.«01_k».proof.Proof.Gen.OutNormIdeal
public import proofs.«01_k».proof.Proof.Gen.OutNormRefIdeal
public import proofs.«01_k».proof.Proof.Gen.Conv
public import proofs.«01_k».proof.Proof.Gen.ConvIdeal
public import proofs.«01_k».proof.Proof.Gen.ConvRefIdeal
public import proofs.«01_k».proof.Proof.Gen.PostVBack
public import proofs.«01_k».proof.Proof.Gen.PostVBackIdeal
public import proofs.«01_k».proof.Proof.Gen.PostVBackRefIdeal
public import proofs.«01_k».proof.Proof.Gen.ConvBack
public import proofs.«01_k».proof.Proof.Gen.ConvBackIdeal
public import proofs.«01_k».proof.Proof.Gen.ConvBackRefIdeal

@[expose] public section

noncomputable section

namespace Cert.Proof

theorem claim : Cert.Claim :=
  ⟨Cert.Weights.Gen.facts, Cert.WeightsIdeal.Gen.facts, Cert.WeightsRefIdeal.Gen.facts, Cert.WeightsRef.Gen.facts,
    Cert.Sibling.Gen.facts, Cert.SiblingIdeal.Gen.facts, Cert.SiblingRefIdeal.Gen.facts, Cert.Chips.Gen.facts, Cert.ChipsIdeal.Gen.facts,
    Cert.ChipsRefIdeal.Gen.facts, Cert.Share.Gen.facts, Cert.ShareIdeal.Gen.facts, Cert.ShareRefIdeal.Gen.facts,
    Cert.ShareRef.Gen.facts,
    Cert.UpdateMlp.Gen.facts, Cert.UpdateMlpIdeal.Gen.facts, Cert.UpdateMlpRefIdeal.Gen.facts,
    Cert.UpdateIn.Gen.facts, Cert.UpdateInIdeal.Gen.facts, Cert.UpdateInRefIdeal.Gen.facts,
    Cert.UpdateOut.Gen.facts, Cert.UpdateOutIdeal.Gen.facts, Cert.UpdateOutRefIdeal.Gen.facts,
    Cert.UpdateKv.Gen.facts, Cert.UpdateKvIdeal.Gen.facts, Cert.UpdateKvRefIdeal.Gen.facts,
    Cert.UpdateGains.Gen.facts, Cert.UpdateGainsIdeal.Gen.facts, Cert.UpdateGainsRefIdeal.Gen.facts,
    Cert.UpdateKvGain.Gen.facts, Cert.UpdateKvGainIdeal.Gen.facts, Cert.UpdateKvGainRefIdeal.Gen.facts,
    Cert.UpdateOutGain.Gen.facts, Cert.UpdateOutGainIdeal.Gen.facts, Cert.UpdateOutGainRefIdeal.Gen.facts,
    Cert.UpdateDecay.Gen.facts, Cert.UpdateDecayIdeal.Gen.facts, Cert.UpdateDecayRefIdeal.Gen.facts,
    Cert.UpdateConv.Gen.facts, Cert.UpdateConvIdeal.Gen.facts, Cert.UpdateConvRefIdeal.Gen.facts,
    Cert.DownDw.Gen.facts, Cert.DownDwIdeal.Gen.facts, Cert.DownDwRefIdeal.Gen.facts,
    Cert.UpDw.Gen.facts, Cert.UpDwIdeal.Gen.facts, Cert.UpDwRefIdeal.Gen.facts,
    Cert.InDw.Gen.facts, Cert.InDwIdeal.Gen.facts, Cert.InDwRefIdeal.Gen.facts,
    Cert.GateDw.Gen.facts, Cert.GateDwIdeal.Gen.facts, Cert.GateDwRefIdeal.Gen.facts,
    Cert.OutDw.Gen.facts, Cert.OutDwIdeal.Gen.facts, Cert.OutDwRefIdeal.Gen.facts,
    Cert.SbOutDw.Gen.facts, Cert.SbOutDwIdeal.Gen.facts, Cert.SbOutDwRefIdeal.Gen.facts,
    Cert.KvDw.Gen.facts, Cert.KvDwIdeal.Gen.facts, Cert.KvDwRefIdeal.Gen.facts,
    Cert.DownDx.Gen.facts, Cert.DownDxIdeal.Gen.facts, Cert.DownDxRefIdeal.Gen.facts,
    Cert.UpDx.Gen.facts, Cert.UpDxIdeal.Gen.facts, Cert.UpDxRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Relu.Gen.facts, Cert.ReluIdeal.Gen.facts, Cert.ReluRefIdeal.Gen.facts,
    Cert.ReluBack.Gen.facts, Cert.ReluBackIdeal.Gen.facts, Cert.ReluBackRefIdeal.Gen.facts,
    Cert.GradX.Gen.facts, Cert.GradXIdeal.Gen.facts, Cert.GradXRefIdeal.Gen.facts,
    Cert.Loss.Gen.facts, Cert.LossIdeal.Gen.facts, Cert.LossRefIdeal.Gen.facts,
    Cert.NormIn.Gen.facts, Cert.NormInIdeal.Gen.facts, Cert.NormInRefIdeal.Gen.facts,
    Cert.NormInBack.Gen.facts, Cert.NormInBackIdeal.Gen.facts, Cert.NormInBackRefIdeal.Gen.facts,
    Cert.ResNormBack.Gen.facts, Cert.ResNormBackIdeal.Gen.facts, Cert.ResNormBackRefIdeal.Gen.facts,
    Cert.ResNorm.Gen.facts, Cert.ResNormIdeal.Gen.facts, Cert.ResNormRefIdeal.Gen.facts,
    Cert.ResNorms.Gen.facts, Cert.ResNormsIdeal.Gen.facts, Cert.ResNormsRefIdeal.Gen.facts,
    Cert.ResNormsBack.Gen.facts, Cert.ResNormsBackIdeal.Gen.facts, Cert.ResNormsBackRefIdeal.Gen.facts,
    Cert.Gate.Gen.facts, Cert.GateIdeal.Gen.facts, Cert.GateRefIdeal.Gen.facts,
    Cert.Out.Gen.facts, Cert.OutIdeal.Gen.facts, Cert.OutRefIdeal.Gen.facts,
    Cert.SbOut.Gen.facts, Cert.SbOutIdeal.Gen.facts, Cert.SbOutRefIdeal.Gen.facts,
    Cert.Query.Gen.facts, Cert.QueryIdeal.Gen.facts, Cert.QueryRefIdeal.Gen.facts,
    Cert.Kv.Gen.facts, Cert.KvIdeal.Gen.facts, Cert.KvRefIdeal.Gen.facts,
    Cert.OutDx.Gen.facts, Cert.OutDxIdeal.Gen.facts, Cert.OutDxRefIdeal.Gen.facts,
    Cert.KvDx.Gen.facts, Cert.KvDxIdeal.Gen.facts, Cert.KvDxRefIdeal.Gen.facts,
    Cert.InDx.Gen.facts, Cert.InDxIdeal.Gen.facts, Cert.InDxRefIdeal.Gen.facts,
    Cert.GateDx.Gen.facts, Cert.GateDxIdeal.Gen.facts, Cert.GateDxRefIdeal.Gen.facts,
    Cert.PostQ.Gen.facts, Cert.PostQIdeal.Gen.facts, Cert.PostQRefIdeal.Gen.facts,
    Cert.PostK.Gen.facts, Cert.PostKIdeal.Gen.facts, Cert.PostKRefIdeal.Gen.facts,
    Cert.PostV.Gen.facts, Cert.PostVIdeal.Gen.facts, Cert.PostVRefIdeal.Gen.facts,
    Cert.Gates.Gen.facts, Cert.GatesIdeal.Gen.facts, Cert.GatesRefIdeal.Gen.facts,
    Cert.OutNorm.Gen.facts, Cert.OutNormIdeal.Gen.facts, Cert.OutNormRefIdeal.Gen.facts,
    Cert.Conv.Gen.facts, Cert.ConvIdeal.Gen.facts, Cert.ConvRefIdeal.Gen.facts,
    Cert.PostVBack.Gen.facts, Cert.PostVBackIdeal.Gen.facts, Cert.PostVBackRefIdeal.Gen.facts,
    Cert.ConvBack.Gen.facts, Cert.ConvBackIdeal.Gen.facts, Cert.ConvBackRefIdeal.Gen.facts,
    Cert.WeightsProof.frame, Cert.WeightsProof.frame_ideal, Cert.WeightsProof.frame_ref_ideal, Cert.WeightsProof.frame_ref,
    Cert.SiblingProof.frame, Cert.SiblingProof.frame_ideal, Cert.SiblingProof.frame_ref_ideal, Cert.ChipsProof.frame,
    Cert.ChipsProof.frame_ideal, Cert.ChipsProof.frame_ref_ideal, Cert.ShareProof.frame, Cert.ShareProof.frame_ideal,
    Cert.ShareProof.frame_ref_ideal, Cert.ShareProof.frame_ref,
    Cert.UpdateMlpProof.frame, Cert.UpdateMlpProof.frame_ideal, Cert.UpdateMlpProof.frame_ref_ideal,
    Cert.UpdateInProof.frame, Cert.UpdateInProof.frame_ideal, Cert.UpdateInProof.frame_ref_ideal,
    Cert.UpdateOutProof.frame, Cert.UpdateOutProof.frame_ideal, Cert.UpdateOutProof.frame_ref_ideal,
    Cert.UpdateKvProof.frame, Cert.UpdateKvProof.frame_ideal, Cert.UpdateKvProof.frame_ref_ideal,
    Cert.UpdateGainsProof.frame, Cert.UpdateGainsProof.frame_ideal, Cert.UpdateGainsProof.frame_ref_ideal,
    Cert.UpdateKvGainProof.frame, Cert.UpdateKvGainProof.frame_ideal, Cert.UpdateKvGainProof.frame_ref_ideal,
    Cert.UpdateOutGainProof.frame, Cert.UpdateOutGainProof.frame_ideal, Cert.UpdateOutGainProof.frame_ref_ideal,
    Cert.UpdateDecayProof.frame, Cert.UpdateDecayProof.frame_ideal, Cert.UpdateDecayProof.frame_ref_ideal,
    Cert.UpdateConvProof.frame, Cert.UpdateConvProof.frame_ideal, Cert.UpdateConvProof.frame_ref_ideal,
    Cert.DownDwProof.frame, Cert.DownDwProof.frame_ideal, Cert.DownDwProof.frame_ref_ideal,
    Cert.UpDwProof.frame, Cert.UpDwProof.frame_ideal, Cert.UpDwProof.frame_ref_ideal,
    Cert.InDwProof.frame, Cert.InDwProof.frame_ideal, Cert.InDwProof.frame_ref_ideal,
    Cert.GateDwProof.frame, Cert.GateDwProof.frame_ideal, Cert.GateDwProof.frame_ref_ideal,
    Cert.OutDwProof.frame, Cert.OutDwProof.frame_ideal, Cert.OutDwProof.frame_ref_ideal,
    Cert.SbOutDwProof.frame, Cert.SbOutDwProof.frame_ideal, Cert.SbOutDwProof.frame_ref_ideal,
    Cert.KvDwProof.frame, Cert.KvDwProof.frame_ideal, Cert.KvDwProof.frame_ref_ideal,
    Cert.DownDxProof.frame, Cert.DownDxProof.frame_ideal, Cert.DownDxProof.frame_ref_ideal,
    Cert.UpDxProof.frame, Cert.UpDxProof.frame_ideal, Cert.UpDxProof.frame_ref_ideal,
    Cert.UpProof.frame, Cert.UpProof.frame_ideal, Cert.UpProof.frame_ref_ideal,
    Cert.DownProof.frame, Cert.DownProof.frame_ideal, Cert.DownProof.frame_ref_ideal,
    Cert.ReluProof.frame, Cert.ReluProof.frame_ideal, Cert.ReluProof.frame_ref_ideal,
    Cert.ReluBackProof.frame, Cert.ReluBackProof.frame_ideal, Cert.ReluBackProof.frame_ref_ideal,
    Cert.GradXProof.frame, Cert.GradXProof.frame_ideal, Cert.GradXProof.frame_ref_ideal,
    Cert.LossProof.frame, Cert.LossProof.frame_ideal, Cert.LossProof.frame_ref_ideal,
    Cert.NormInProof.frame, Cert.NormInProof.frame_ideal, Cert.NormInProof.frame_ref_ideal,
    Cert.NormInBackProof.frame, Cert.NormInBackProof.frame_ideal, Cert.NormInBackProof.frame_ref_ideal,
    Cert.ResNormBackProof.frame, Cert.ResNormBackProof.frame_ideal, Cert.ResNormBackProof.frame_ref_ideal,
    Cert.ResNormProof.frame, Cert.ResNormProof.frame_ideal, Cert.ResNormProof.frame_ref_ideal,
    Cert.ResNormsProof.frame, Cert.ResNormsProof.frame_ideal, Cert.ResNormsProof.frame_ref_ideal,
    Cert.ResNormsBackProof.frame, Cert.ResNormsBackProof.frame_ideal, Cert.ResNormsBackProof.frame_ref_ideal,
    Cert.GateProof.frame, Cert.GateProof.frame_ideal, Cert.GateProof.frame_ref_ideal,
    Cert.OutProof.frame, Cert.OutProof.frame_ideal, Cert.OutProof.frame_ref_ideal,
    Cert.SbOutProof.frame, Cert.SbOutProof.frame_ideal, Cert.SbOutProof.frame_ref_ideal,
    Cert.QueryProof.frame, Cert.QueryProof.frame_ideal, Cert.QueryProof.frame_ref_ideal,
    Cert.KvProof.frame, Cert.KvProof.frame_ideal, Cert.KvProof.frame_ref_ideal,
    Cert.OutDxProof.frame, Cert.OutDxProof.frame_ideal, Cert.OutDxProof.frame_ref_ideal,
    Cert.KvDxProof.frame, Cert.KvDxProof.frame_ideal, Cert.KvDxProof.frame_ref_ideal,
    Cert.InDxProof.frame, Cert.InDxProof.frame_ideal, Cert.InDxProof.frame_ref_ideal,
    Cert.GateDxProof.frame, Cert.GateDxProof.frame_ideal, Cert.GateDxProof.frame_ref_ideal,
    Cert.PostQProof.frame, Cert.PostQProof.frame_ideal, Cert.PostQProof.frame_ref_ideal,
    Cert.PostKProof.frame, Cert.PostKProof.frame_ideal, Cert.PostKProof.frame_ref_ideal,
    Cert.PostVProof.frame, Cert.PostVProof.frame_ideal, Cert.PostVProof.frame_ref_ideal,
    Cert.GatesProof.frame, Cert.GatesProof.frame_ideal, Cert.GatesProof.frame_ref_ideal,
    Cert.OutNormProof.frame, Cert.OutNormProof.frame_ideal, Cert.OutNormProof.frame_ref_ideal,
    Cert.ConvProof.frame, Cert.ConvProof.frame_ideal, Cert.ConvProof.frame_ref_ideal,
    Cert.PostVBackProof.frame, Cert.PostVBackProof.frame_ideal, Cert.PostVBackProof.frame_ref_ideal,
    Cert.ConvBackProof.frame, Cert.ConvBackProof.frame_ideal, Cert.ConvBackProof.frame_ref_ideal,
    trivial, Cert.WeightsProof.algebraic, Cert.WeightsProof.bitexact, trivial, Cert.SiblingProof.algebraic, trivial,
    Cert.ChipsProof.algebraic, trivial, Cert.ShareProof.algebraic, Cert.ShareProof.bitexact,
    trivial, Cert.UpdateMlpProof.algebraic,
    trivial, Cert.UpdateInProof.algebraic,
    trivial, Cert.UpdateOutProof.algebraic,
    trivial, Cert.UpdateKvProof.algebraic,
    trivial, Cert.UpdateGainsProof.algebraic,
    trivial, Cert.UpdateKvGainProof.algebraic,
    trivial, Cert.UpdateOutGainProof.algebraic,
    trivial, Cert.UpdateDecayProof.algebraic,
    trivial, Cert.UpdateConvProof.algebraic,
    trivial, Cert.DownDwProof.algebraic,
    trivial, Cert.UpDwProof.algebraic,
    trivial, Cert.InDwProof.algebraic,
    trivial, Cert.GateDwProof.algebraic,
    trivial, Cert.OutDwProof.algebraic,
    trivial, Cert.SbOutDwProof.algebraic,
    trivial, Cert.KvDwProof.algebraic,
    trivial, Cert.DownDxProof.algebraic,
    trivial, Cert.UpDxProof.algebraic,
    trivial, Cert.UpProof.algebraic,
    trivial, Cert.DownProof.algebraic,
    trivial, Cert.ReluProof.algebraic,
    trivial, Cert.ReluBackProof.algebraic,
    trivial, Cert.GradXProof.algebraic,
    trivial, Cert.LossProof.algebraic,
    trivial, Cert.NormInProof.algebraic,
    trivial, Cert.NormInBackProof.algebraic,
    trivial, Cert.ResNormBackProof.algebraic,
    trivial, Cert.ResNormProof.algebraic,
    trivial, Cert.ResNormsProof.algebraic,
    trivial, Cert.ResNormsBackProof.algebraic,
    trivial, Cert.GateProof.algebraic,
    trivial, Cert.OutProof.algebraic,
    trivial, Cert.SbOutProof.algebraic,
    trivial, Cert.QueryProof.algebraic,
    trivial, Cert.KvProof.algebraic,
    trivial, Cert.OutDxProof.algebraic,
    trivial, Cert.KvDxProof.algebraic,
    trivial, Cert.InDxProof.algebraic,
    trivial, Cert.GateDxProof.algebraic,
    trivial, Cert.PostQProof.algebraic,
    trivial, Cert.PostKProof.algebraic,
    trivial, Cert.PostVProof.algebraic,
    trivial, Cert.GatesProof.algebraic,
    trivial, Cert.OutNormProof.algebraic,
    trivial, Cert.ConvProof.algebraic,
    trivial, Cert.PostVBackProof.algebraic,
    trivial, Cert.ConvBackProof.algebraic⟩

end Cert.Proof

end
